-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "dead" .f32 0xC2DC0000#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v34_0)) (v1 : (c : Dev Cert.Kernel4Ideal.nD) → Buf (Elt Ideal) ((c.tc : Thread Cert.Kernel4Ideal.nD Cert.Kernel4Ideal.τ).loc Cert.Kernel4Ideal.main_v34_1)) (v2 : (c : Dev Cert.Kernel4Ideal.nD) → Buf (Elt Ideal) ((c.tc : Thread Cert.Kernel4Ideal.nD Cert.Kernel4Ideal.τ).loc Cert.Kernel4Ideal.main_v34_2)) (v3 : (c : Dev Cert.Kernel4Ideal.nD) → Buf (Elt Ideal) ((c.tc : Thread Cert.Kernel4Ideal.nD Cert.Kernel4Ideal.τ).loc Cert.Kernel4Ideal.main_v34_3)) (v4 : (c : Dev Cert.Kernel4Ideal.nD) → Buf (Elt Ideal) ((c.tc : Thread Cert.Kernel4Ideal.nD Cert.Kernel4Ideal.τ).loc Cert.Kernel4Ideal.main_v34_4)) (v5 : (c : Dev Cert.Kernel4Ideal.nD) → Buf (Elt Ideal) ((c.tc : Thread Cert.Kernel4Ideal.nD Cert.Kernel4Ideal.τ).loc Cert.Kernel4Ideal.main_v34_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_0) = v0 c
          ∧ r.2.mem ((c.tc : Thread Cert.Kernel4Ideal.nD Cert.Kernel4Ideal.τ).loc Cert.Kernel4Ideal.main_v34_1) = v1 c
          ∧ r.2.mem ((c.tc : Thread Cert.Kernel4Ideal.nD Cert.Kernel4Ideal.τ).loc Cert.Kernel4Ideal.main_v34_2) = v2 c
          ∧ r.2.mem ((c.tc : Thread Cert.Kernel4Ideal.nD Cert.Kernel4Ideal.τ).loc Cert.Kernel4Ideal.main_v34_3) = v3 c
          ∧ r.2.mem ((c.tc : Thread Cert.Kernel4Ideal.nD Cert.Kernel4Ideal.τ).loc Cert.Kernel4Ideal.main_v34_4) = v4 c
          ∧ r.2.mem ((c.tc : Thread Cert.Kernel4Ideal.nD Cert.Kernel4Ideal.τ).loc Cert.Kernel4Ideal.main_v34_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_v67) = v2 c
          ∧ r.2.mem ((c.tc : Thread Cert.Reference4Ideal.nD Cert.Reference4Ideal.τ).loc Cert.Reference4Ideal.main_v69) = v3 c
          ∧ r.2.mem ((c.tc : Thread Cert.Reference4Ideal.nD Cert.Reference4Ideal.τ).loc Cert.Reference4Ideal.main_v71) = v4 c
          ∧ r.2.mem ((c.tc : Thread Cert.Reference4Ideal.nD Cert.Reference4Ideal.τ).loc Cert.Reference4Ideal.main_v72) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v37_0)) (v1 : (c : Dev Cert.Kernel5Ideal.nD) → Buf (Elt Ideal) ((c.tc : Thread Cert.Kernel5Ideal.nD Cert.Kernel5Ideal.τ).loc Cert.Kernel5Ideal.main_v37_1)) (v2 : (c : Dev Cert.Kernel5Ideal.nD) → Buf (Elt Ideal) ((c.tc : Thread Cert.Kernel5Ideal.nD Cert.Kernel5Ideal.τ).loc Cert.Kernel5Ideal.main_v37_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37_0) = v0 c
          ∧ r.2.mem ((c.tc : Thread Cert.Kernel5Ideal.nD Cert.Kernel5Ideal.τ).loc Cert.Kernel5Ideal.main_v37_1) = v1 c
          ∧ r.2.mem ((c.tc : Thread Cert.Kernel5Ideal.nD Cert.Kernel5Ideal.τ).loc Cert.Kernel5Ideal.main_v37_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_v41) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v54) = v2 c
          ∧ r.2.mem ((c.tc : Thread Cert.Reference7Ideal.nD Cert.Reference7Ideal.τ).loc Cert.Reference7Ideal.main_v55) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)) (v4 : (c : Dev Cert.Kernel8Ideal.nD) → Buf (Elt Ideal) ((c.tc : Thread Cert.Kernel8Ideal.nD Cert.Kernel8Ideal.τ).loc Cert.Kernel8Ideal.main_v5_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_v5_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v140) = v0 c
          ∧ r.2.mem ((c.tc : Thread Cert.Reference8Ideal.nD Cert.Reference8Ideal.τ).loc Cert.Reference8Ideal.main_v132) = v1 c
          ∧ r.2.mem ((c.tc : Thread Cert.Reference8Ideal.nD Cert.Reference8Ideal.τ).loc Cert.Reference8Ideal.main_v143) = v2 c
          ∧ r.2.mem ((c.tc : Thread Cert.Reference8Ideal.nD Cert.Reference8Ideal.τ).loc Cert.Reference8Ideal.main_v144) = v3 c
          ∧ r.2.mem ((c.tc : Thread Cert.Reference8Ideal.nD Cert.Reference8Ideal.τ).loc Cert.Reference8Ideal.main_v145) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  IdealRules.named_const.Statement Cert.Kernel9Ideal.κ "dead" .f32 0xC2DC0000#32 ⊥

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v90) = v0 c
          ∧ r.2.mem ((c.tc : Thread Cert.Reference11Ideal.nD Cert.Reference11Ideal.τ).loc Cert.Reference11Ideal.main_v99) = v1 c
          ∧ r.2.mem ((c.tc : Thread Cert.Reference11Ideal.nD Cert.Reference11Ideal.τ).loc Cert.Reference11Ideal.main_v100) = v2 c
          ∧ r.2.mem ((c.tc : Thread Cert.Reference11Ideal.nD Cert.Reference11Ideal.τ).loc Cert.Reference11Ideal.main_v101) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v17_0)) (v1 : (c : Dev Cert.Kernel12Ideal.nD) → Buf (Elt Ideal) ((c.tc : Thread Cert.Kernel12Ideal.nD Cert.Kernel12Ideal.τ).loc Cert.Kernel12Ideal.main_v17_1)) (v2 : (c : Dev Cert.Kernel12Ideal.nD) → Buf (Elt Ideal) ((c.tc : Thread Cert.Kernel12Ideal.nD Cert.Kernel12Ideal.τ).loc Cert.Kernel12Ideal.main_v17_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v17_0) = v0 c
          ∧ r.2.mem ((c.tc : Thread Cert.Kernel12Ideal.nD Cert.Kernel12Ideal.τ).loc Cert.Kernel12Ideal.main_v17_1) = v1 c
          ∧ r.2.mem ((c.tc : Thread Cert.Kernel12Ideal.nD Cert.Kernel12Ideal.τ).loc Cert.Kernel12Ideal.main_v17_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v20) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v30) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def preserves_Kernel15_Kernel15Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hKernel15 : Cert.Kernel15.Facts) (hKernel15Ideal : Cert.Kernel15Ideal.Facts) (hPre_finite : Cert.Pre_finite.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel15 (hKernel15 := hKernel15)
    ∧ quiescent_Kernel15Ideal (hKernel15Ideal := hKernel15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ preserves_Kernel15_Kernel15Ideal
-- ==== Pre_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  (main_v3, main_v7, main_v11)
-- ==== Pre_finite3.lean ====
abbrev S4096x2048 : Shape := ⟨2, ![4096, 2048]⟩
abbrev S4096x512 : Shape := ⟨2, ![4096, 512]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x2048 .bf16) (main_arg1 : FVec F S4096x512 .f32) : IVec S_ 1 × IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x512 .f32 := Host.absf main_arg1
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  (main_v4, main_v8)
-- ==== Pre_finite4.lean ====
abbrev S4096x1024 : Shape := ⟨2, ![4096, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2752 : S_.BroadcastsInDim S1024x2752 (![] : Fin 0 → Fin S1024x2752.rank)
  reducesTo_S1024x2752_S_d0_1 : S1024x2752.ReducesTo [0, 1] S_
  bcast_S_S2752x1024 : S_.BroadcastsInDim S2752x1024 (![] : Fin 0 → Fin S2752x1024.rank)
  reducesTo_S2752x1024_S_d0_1 : S2752x1024.ReducesTo [0, 1] S_

variable [Facts]

def fn_part1 {F : FTy → Type} [FloatOps F] (main_arg4 : FVec F S2752x1024 .f32) (main_arg5 : FVec F S4096x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 :=
  let main_v16 : FVec F S2752x1024 .f32 := Host.absf main_arg4
  let main_cst_6 : FVec F S_ .f32 := constant S_ .f32 0x7F800000#32
  let main_v17 : FVec F S2752x1024 .f32 := broadcastInDim S2752x1024 ![] bcast_S_S2752x1024 main_cst_6
  let main_v18 : IVec S2752x1024 1 := cmpf .olt main_v16 main_v17
  let main_c_7 : IVec S_ 1 := constantI S_ 1 1#1
  let main_v19 : IVec S_ 1 := (fun x v => Host.reduce IntOp.andi x v reducesTo_S2752x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  (main_v3, main_v7, main_v11, main_v15, main_v19, main_v23)

def fn {F : FTy → Type} [FloatOps F] (main_arg0 : FVec F S4096x1024 .f32) (main_arg1 : FVec F S1024 .f32) (main_arg2 : FVec F S1024x2752 .f32) (main_arg3 : FVec F S1024x2752 .f32) (main_arg4 : FVec F S2752x1024 .f32) (main_arg5 : FVec F S4096x1024 .f32) : IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2752 .f32 := Host.absf main_arg2
  let main_cst_2 : FVec F S_ .f32 := constant S_ .f32 0x7F800000#32
  let main_v9 : FVec F S1024x2752 .f32 := broadcastInDim S1024x2752 ![] bcast_S_S1024x2752 main_cst_2
  let main_v10 : IVec S1024x2752 1 := cmpf .olt main_v8 main_v9
  let main_c_3 : IVec S_ 1 := constantI S_ 1 1#1
  let main_v11 : IVec S_ 1 := (fun x v => Host.reduce IntOp.andi x v reducesTo_S1024x2752_S_d0_1 h_S_) main_v10 main_c_3
  let main_v12 : FVec F S1024x2752 .f32 := Host.absf main_arg3
  let main_cst_4 : FVec F S_ .f32 := constant S_ .f32 0x7F800000#32
  let main_v13 : FVec F S1024x2752 .f32 := broadcastInDim S1024x2752 ![] bcast_S_S1024x2752 main_cst_4
  let main_v14 : IVec S1024x2752 1 := cmpf .olt main_v12 main_v13
  let main_c_5 : IVec S_ 1 := constantI S_ 1 1#1
  let main_v15 : IVec S_ 1 := (fun x v => Host.reduce IntOp.andi x v reducesTo_S1024x2752_S_d0_1 h_S_) main_v14 main_c_5
  fn_part1 (F := F) main_arg4 main_arg5 main_v3 main_v7 main_v11 main_v15
-- ==== Pre_finite5.lean ====
abbrev S4096x1024 : Shape := ⟨2, ![4096, 1024]⟩
abbrev S1024 : Shape := ⟨1, ![1024]⟩
abbrev S1024x2752 : Shape := ⟨2, ![1024, 2752]⟩
abbrev S4096x2752 : Shape := ⟨2, ![4096, 2752]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2752 : S_.BroadcastsInDim S1024x2752 (![] : Fin 0 → Fin S1024x2752.rank)
  reducesTo_S1024x2752_S_d0_1 : S1024x2752.ReducesTo [0, 1] S_
  bcast_S_S4096x2752 : S_.BroadcastsInDim S4096x2752 (![] : Fin 0 → Fin S4096x2752.rank)
  reducesTo_S4096x2752_S_d0_1 : S4096x2752.ReducesTo [0, 1] S_

variable [Facts]

def fn_part1 {F : FTy → Type} [FloatOps F] (main_arg4 : FVec F S4096x2752 .f32) (main_arg5 : FVec F S4096x2752 .f32) (main_arg6 : FVec F S4096x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 :=
  let main_v16 : FVec F S4096x2752 .f32 := Host.absf main_arg4
  let main_cst_6 : FVec F S_ .f32 := constant S_ .f32 0x7F800000#32
  let main_v17 : FVec F S4096x2752 .f32 := broadcastInDim S4096x2752 ![] bcast_S_S4096x2752 main_cst_6
  let main_v18 : IVec S4096x2752 1 := cmpf .olt main_v16 main_v17
  let main_c_7 : IVec S_ 1 := constantI S_ 1 1#1
  let main_v19 : IVec S_ 1 := (fun x v => Host.reduce IntOp.andi x v reducesTo_S4096x2752_S_d0_1 h_S_) main_v18 main_c_7
  let main_v20 : FVec F S4096x2752 .f32 := Host.absf main_arg5
  let main_cst_8 : FVec F S_ .f32 := constant S_ .f32 0x7F800000#32
  let main_v21 : FVec F S4096x2752 .f32 := broadcastInDim S4096x2752 ![] bcast_S_S4096x2752 main_cst_8
  let main_v22 : IVec S4096x2752 1 := cmpf .olt main_v20 main_v21
  let main_c_9 : IVec S_ 1 := constantI S_ 1 1#1
  let main_v23 : IVec S_ 1 := (fun x v => Host.reduce IntOp.andi x v reducesTo_S4096x2752_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  (main_v3, main_v7, main_v11, main_v15, main_v19, main_v23, main_v27)

def fn {F : FTy → Type} [FloatOps F] (main_arg0 : FVec F S4096x1024 .f32) (main_arg1 : FVec F S1024 .f32) (main_arg2 : FVec F S1024x2752 .f32) (main_arg3 : FVec F S1024x2752 .f32) (main_arg4 : FVec F S4096x2752 .f32) (main_arg5 : FVec F S4096x2752 .f32) (main_arg6 : FVec F S4096x1024 .f32) : IVec S_ 1 × IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2752 .f32 := Host.absf main_arg2
  let main_cst_2 : FVec F S_ .f32 := constant S_ .f32 0x7F800000#32
  let main_v9 : FVec F S1024x2752 .f32 := broadcastInDim S1024x2752 ![] bcast_S_S1024x2752 main_cst_2
  let main_v10 : IVec S1024x2752 1 := cmpf .olt main_v8 main_v9
  let main_c_3 : IVec S_ 1 := constantI S_ 1 1#1
  let main_v11 : IVec S_ 1 := (fun x v => Host.reduce IntOp.andi x v reducesTo_S1024x2752_S_d0_1 h_S_) main_v10 main_c_3
  let main_v12 : FVec F S1024x2752 .f32 := Host.absf main_arg3
  let main_cst_4 : FVec F S_ .f32 := constant S_ .f32 0x7F800000#32
  let main_v13 : FVec F S1024x2752 .f32 := broadcastInDim S1024x2752 ![] bcast_S_S1024x2752 main_cst_4
  let main_v14 : IVec S1024x2752 1 := cmpf .olt main_v12 main_v13
  let main_c_5 : IVec S_ 1 := constantI S_ 1 1#1
  let main_v15 : IVec S_ 1 := (fun x v => Host.reduce IntOp.andi x v reducesTo_S1024x2752_S_d0_1 h_S_) main_v14 main_c_5
  fn_part1 (F := F) main_arg4 main_arg5 main_arg6 main_v3 main_v7 main_v11 main_v15
-- ==== Pre_finite6.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  (main_v3, main_v7, main_v11, main_v15, main_v19)

def fn {F : FTy → Type} [FloatOps F] (main_arg0 : FVec F S4096x1024 .f32) (main_arg1 : FVec F S1024 .f32) (main_arg2 : FVec F S1024x3072 .f32) (main_arg3 : FVec F S4096x3072 .f32) (main_arg4 : FVec F S4096x1024 .f32) : IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x3072 .f32 := Host.absf main_arg2
  let main_cst_2 : FVec F S_ .f32 := constant S_ .f32 0x7F800000#32
  let main_v9 : FVec F S1024x3072 .f32 := broadcastInDim S1024x3072 ![] bcast_S_S1024x3072 main_cst_2
  let main_v10 : IVec S1024x3072 1 := cmpf .olt main_v8 main_v9
  let main_c_3 : IVec S_ 1 := constantI S_ 1 1#1
  let main_v11 : IVec S_ 1 := (fun x v => Host.reduce IntOp.andi x v reducesTo_S1024x3072_S_d0_1 h_S_) main_v10 main_c_3
  let main_v12 : FVec F S4096x3072 .f32 := Host.absf main_arg3
  let main_cst_4 : FVec F S_ .f32 := constant S_ .f32 0x7F800000#32
  let main_v13 : FVec F S4096x3072 .f32 := broadcastInDim S4096x3072 ![] bcast_S_S4096x3072 main_cst_4
  let main_v14 : IVec S4096x3072 1 := cmpf .olt main_v12 main_v13
  let main_c_5 : IVec S_ 1 := constantI S_ 1 1#1
  let main_v15 : IVec S_ 1 := (fun x v => Host.reduce IntOp.andi x v reducesTo_S4096x3072_S_d0_1 h_S_) main_v14 main_c_5
  fn_part1 (F := F) main_arg4 main_v3 main_v7 main_v11 main_v15
-- ==== Pre_finite7.lean ====
abbrev S4096x1024 : Shape := ⟨2, ![4096, 1024]⟩
abbrev S1024 : Shape := ⟨1, ![1024]⟩
abbrev S1024x2048 : Shape := ⟨2, ![1024, 2048]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S4096x512 .f32) (main_arg5 : FVec F S4096x512 .f32) (main_arg6 : FVec F S4096x512 .f32) (main_arg7 : FVec F S4096x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : FVec F S4096x512 .f32 := Host.absf main_arg5
  let main_cst_8 : FVec F S_ .f32 := constant S_ .f32 0x7F800000#32
  let main_v21 : FVec F S4096x512 .f32 := broadcastInDim S4096x512 ![] bcast_S_S4096x512 main_cst_8
  let main_v22 : IVec S4096x512 1 := cmpf .olt main_v20 main_v21
  let main_c_9 : IVec S_ 1 := constantI S_ 1 1#1
  let main_v23 : IVec S_ 1 := (fun x v => Host.reduce IntOp.andi x v reducesTo_S4096x512_S_d0_1 h_S_) main_v22 main_c_9
  let main_v24 : FVec F S4096x512 .f32 := Host.absf main_arg6
  let main_cst_10 : FVec F S_ .f32 := constant S_ .f32 0x7F800000#32
  let main_v25 : FVec F S4096x512 .f32 := broadcastInDim S4096x512 ![] bcast_S_S4096x512 main_cst_10
  let main_v26 : IVec S4096x512 1 := cmpf .olt main_v24 main_v25
  let main_c_11 : IVec S_ 1 := constantI S_ 1 1#1
  let main_v27 : IVec S_ 1 := (fun x v => Host.reduce IntOp.andi x v reducesTo_S4096x512_S_d0_1 h_S_) main_v26 main_c_11
  let main_v28 : FVec F S4096x1024 .f32 := Host.absf main_arg7
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  (main_v3, main_v7, main_v11, main_v15, main_v19, main_v23, main_v27, main_v31)

def fn {F : FTy → Type} [FloatOps F] (main_arg0 : FVec F S4096x1024 .f32) (main_arg1 : FVec F S1024 .f32) (main_arg2 : FVec F S1024x2048 .f32) (main_arg3 : FVec F S4096x512 .f32) (main_arg4 : FVec F S4096x512 .f32) (main_arg5 : FVec F S4096x512 .f32) (main_arg6 : FVec F S4096x512 .f32) (main_arg7 : FVec F S4096x1024 .f32) : IVec S_ 1 × IVec S_ 1 × IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S4096x512 .f32 := Host.absf main_arg3
  let main_cst_4 : FVec F S_ .f32 := constant S_ .f32 0x7F800000#32
  let main_v13 : FVec F S4096x512 .f32 := broadcastInDim S4096x512 ![] bcast_S_S4096x512 main_cst_4
  let main_v14 : IVec S4096x512 1 := cmpf .olt main_v12 main_v13
  let main_c_5 : IVec S_ 1 := constantI S_ 1 1#1
  let main_v15 : IVec S_ 1 := (fun x v => Host.reduce IntOp.andi x v reducesTo_S4096x512_S_d0_1 h_S_) main_v14 main_c_5
  fn_part1 (F := F) main_arg4 main_arg5 main_arg6 main_arg7 main_v3 main_v7 main_v11 main_v15
-- ==== Pre_finite9.lean ====
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  main_v4
-- ==== Kernel.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_17 : BitVec 32 := 0#32
  let v48 : BitVec 1 := Scalar.cmpi .ne v47 c0_i32_17
  v48

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v49 : BitVec 1 := Scalar.xori v0 v_true
  let v50 : BitVec 32 := Scalar.extui v49
  let c0_i32_18 : BitVec 32 := 0#32
  let v51 : BitVec 1 := Scalar.cmpi .ne v50 c0_i32_18
  v51

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v52 : BitVec 32 := Scalar.extui v0
  let c0_i32_19 : BitVec 32 := 0#32
  let v53 : BitVec 1 := Scalar.cmpi .ne v52 c0_i32_19
  v53

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_20 : BitVec 1 := 1#1
  let v54 : BitVec 1 := Scalar.xori v0 true_20
  let v55 : BitVec 32 := Scalar.extui v54
  let c0_i32_21 : BitVec 32 := 0#32
  let v56 : BitVec 1 := Scalar.cmpi .ne v55 c0_i32_21
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel2.lean ====
abbrev S4096x3072 : Shape := ⟨2, ![4096, 3072]⟩
abbrev S3x1024 : Shape := ⟨2, ![3, 1024]⟩
abbrev S1024x1024 : Shape := ⟨2, ![1024, 1024]⟩
abbrev S4096x1024 : Shape := ⟨2, ![4096, 1024]⟩
abbrev S1x1024x1024 : Shape := ⟨3, ![1, 1024, 1024]⟩
abbrev S2x1024x1024 : Shape := ⟨3, ![2, 1024, 1024]⟩
abbrev S_ : Shape := ⟨0, ![]⟩
abbrev S8x1024 : Shape := ⟨2, ![8, 1024]⟩
abbrev S1024x4096 : Shape := ⟨2, ![1024, 4096]⟩
abbrev S256x1024 : Shape := ⟨2, ![256, 1024]⟩
abbrev S256x3072 : Shape := ⟨2, ![256, 3072]⟩
abbrev S16x3072 : Shape := ⟨2, ![16, 3072]⟩
abbrev S1024x256 : Shape := ⟨2, ![1024, 256]⟩
abbrev S272x1024 : Shape := ⟨2, ![272, 1024]⟩
abbrev S264x1024 : Shape := ⟨2, ![264, 1024]⟩
abbrev S1x1024 : Shape := ⟨2, ![1, 1024]⟩
abbrev S16x1024 : Shape := ⟨2, ![16, 1024]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S2x1024x1024, .bf16⟩
  | .hbm, ⟨9, _⟩ => ⟨S4096x3072, .bf16⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S4096x3072, .bf16⟩
  | .hbm, ⟨14, _⟩ => ⟨S1024x4096, .bf16⟩
  | .hbm, ⟨15, _⟩ => ⟨S4096x1024, .bf16⟩
  | .hbm, ⟨16, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .bf16⟩
  | .local _ .vmem, ⟨3, _⟩ => ⟨S256x3072, .bf16⟩
  | .local _ .vmem, ⟨4, _⟩ => ⟨S16x3072, .bf16⟩
  | .local _ .vmem, ⟨5, _⟩ => ⟨S16x3072, .bf16⟩
  | .local _ .vmem, ⟨6, _⟩ => ⟨S8x1024, .f32⟩
  | .local _ .vmem, ⟨7, _⟩ => ⟨S1x1024x1024, .bf16⟩
  | .local _ .vmem, ⟨8, _⟩ => ⟨S256x3072, .bf16⟩
  | .local _ .vmem, ⟨9, _⟩ => ⟨S256x3072, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S272x1024, .f32⟩
  | .local _ .vmem, ⟨16, _⟩ => ⟨S264x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_46 : BitVec 32 := 0#32
  let v109 : BitVec 1 := Scalar.cmpi .eq arg0 c0_i32_46
  let v110 : BitVec 32 := Scalar.extui v109
  let c0_i32_47 : BitVec 32 := 0#32
  let v111 : BitVec 1 := Scalar.cmpi .ne v110 c0_i32_47
  v111

def k0_cond3 (i : grid0.Coords) : BitVec 1 :=
  let arg0 : BitVec 32 := BitVec.ofNat 32 (i 0).val
  let c0_i32_46 : BitVec 32 := 0#32
  let v109 : BitVec 1 := Scalar.cmpi .eq arg0 c0_i32_46
  let v_true : BitVec 1 := 1#1
  let v112 : BitVec 1 := Scalar.xori v109 v_true
  let v113 : BitVec 32 := Scalar.extui v112
  let c0_i32_48 : BitVec 32 := 0#32
  let v114 : BitVec 1 := Scalar.cmpi .ne v113 c0_i32_48
  v114

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x3072 : Shape := ⟨2, ![4096, 3072]⟩
abbrev S3x1024 : Shape := ⟨2, ![3, 1024]⟩
abbrev S1024x1024 : Shape := ⟨2, ![1024, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S4094x1024 : Shape := ⟨2, ![4094, 1024]⟩
abbrev S4095x1024 : Shape := ⟨2, ![4095, 1024]⟩
abbrev S1024x4096 : Shape := ⟨2, ![1024, 4096]⟩
abbrev S8x1024 : Shape := ⟨2, ![8, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S2x1024, .f32⟩
  | .hbm, ⟨14, _⟩ => ⟨S4094x1024, .f32⟩
  | .hbm, ⟨15, _⟩ => ⟨S4096x1024, .f32⟩
  | .hbm, ⟨16, _⟩ => ⟨S_, .f32⟩
  | .hbm, ⟨17, _⟩ => ⟨S2x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S4095x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S3x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S1x1024, .f32⟩
  | .hbm, ⟨62, _⟩ => ⟨S4095x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S3x1024, .f32⟩
  | .hbm, ⟨71, _⟩ => ⟨S3x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2x1024, .f32⟩
  | .hbm, ⟨79, _⟩ => ⟨S4094x1024, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S3x1024, .f32⟩
  | .hbm, ⟨88, _⟩ => ⟨S3x1024, .f32⟩
  | .hbm, ⟨89, _⟩ => ⟨S4096x1024, .f32⟩
  | .hbm, ⟨90, _⟩ => ⟨S4096x1024, .f32⟩
  | .hbm, ⟨91, _⟩ => ⟨S4096x3072, .f32⟩
  | .hbm, ⟨92, _⟩ => ⟨S4096x3072, .bf16⟩
  | .hbm, ⟨93, _⟩ => ⟨S1024x4096, .f32⟩
  | .hbm, ⟨94, _⟩ => ⟨S1024x4096, .bf16⟩
  | .hbm, ⟨95, _⟩ => ⟨S4096x1024, .bf16⟩
  | .hbm, ⟨96, _⟩ => ⟨S_, .i32⟩
  | .hbm, ⟨97, _⟩ => ⟨S_, .f32⟩
  | .hbm, ⟨98, _⟩ => ⟨S8x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c : Ref sig .tc := ⟨.hbm, 96, rfl⟩
abbrev main_call0_v0 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Kernel3.lean ====
abbrev S4096x2048 : Shape := ⟨2, ![4096, 2048]⟩
abbrev S4096x512 : Shape := ⟨2, ![4096, 512]⟩
abbrev S128x512 : Shape := ⟨2, ![128, 512]⟩
abbrev S4096x128 : Shape := ⟨2, ![4096, 128]⟩
abbrev S128x64 : Shape := ⟨2, ![128, 64]⟩
abbrev S128x128 : Shape := ⟨2, ![128, 128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S128 : Shape := ⟨1, ![128]⟩

abbrev nBuf : Space → Nat
  | .hbm => 5
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .local _ .vmem, ⟨0, _⟩ => ⟨S128x512, .bf16⟩
  | .local _ .vmem, ⟨1, _⟩ => ⟨S128x512, .bf16⟩
  | .local _ .vmem, ⟨2, _⟩ => ⟨S4096x512, .bf16⟩
  | .local _ .vmem, ⟨3, _⟩ => ⟨S4096x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S4096x512, .f32⟩
  | .local _ .vmem, ⟨9, _⟩ => ⟨S4096x512, .f32⟩
  | .local _ .vmem, ⟨10, _⟩ => ⟨S4096x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 32], ![false, false]⟩

def k0_mult1 (i : grid0.Coords) (arg10 : BitVec 32) : BitVec 32 :=
  let arg1 : BitVec 32 := BitVec.ofNat 32 (i 1).val
  let v82 : BitVec 32 := Scalar.subi arg1 arg10
  let c128_i32 : BitVec 32 := 128#32
  let v83 : BitVec 32 := Scalar.muli v82 c128_i32
  v83

def k0_off1 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v94 : Index := Scalar.indexCast v84
  let c0_71 : Index := 0#32
  ![v94.toNat, 0]
def k0_off2 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v116 : Index := Scalar.indexCast v84
  let c64_80 : Index := 64#32
  ![v116.toNat, 64]
def k0_off3 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v138 : Index := Scalar.indexCast v84
  let c128_89 : Index := 128#32
  ![v138.toNat, 128]
def k0_off4 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v160 : Index := Scalar.indexCast v84
  let c192_98 : Index := 192#32
  ![v160.toNat, 192]
def k0_off5 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v182 : Index := Scalar.indexCast v84
  let c256_107 : Index := 256#32
  ![v182.toNat, 256]
def k0_off6 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v204 : Index := Scalar.indexCast v84
  let c320_116 : Index := 320#32
  ![v204.toNat, 320]
def k0_off7 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v226 : Index := Scalar.indexCast v84
  let c384_125 : Index := 384#32
  ![v226.toNat, 384]
def k0_off8 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v248 : Index := Scalar.indexCast v84
  let c448_134 : Index := 448#32
  ![v248.toNat, 448]
def k0_off9 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v270 : Index := Scalar.indexCast v84
  let c0_143 : Index := 0#32
  ![v270.toNat, 0]
def k0_off10 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v274 : Index := Scalar.indexCast v84
  let c1 : Index := 1#32
  ![v274.toNat, 1]
def k0_off11 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v278 : Index := Scalar.indexCast v84
  let c2 : Index := 2#32
  ![v278.toNat, 2]
def k0_off12 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v282 : Index := Scalar.indexCast v84
  let c3 : Index := 3#32
  ![v282.toNat, 3]
def k0_off13 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v286 : Index := Scalar.indexCast v84
  let c4 : Index := 4#32
  ![v286.toNat, 4]
def k0_off14 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v290 : Index := Scalar.indexCast v84
  let c5 : Index := 5#32
  ![v290.toNat, 5]
def k0_off15 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v294 : Index := Scalar.indexCast v84
  let c6 : Index := 6#32
  ![v294.toNat, 6]
def k0_off16 (i : grid0.Coords) (arg10 : BitVec 32) : Fin 2 → Nat :=
  let arg1 : BitVec 32 := BitVec.ofNat 32 (i 1).val
  let v82 : BitVec 32 := Scalar.subi arg1 arg10
  let c128_i32 : BitVec 32 := 128#32
  let v83 : BitVec 32 := Scalar.muli v82 c128_i32
  let v84 : BitVec 32 := v83
  let v298 : Index := Scalar.indexCast v84
  let c7 : Index := 7#32
  ![v298.toNat, 7]

def k0_chk1 (i : grid0.Coords) (arg10 : BitVec 32) : Prop :=
  (128 ∣ (k0_mult1 i arg10).toNat) ∧
  (∀ a, (k0_off1 i arg10) a + S128x64.size a ≤ S4096x512.size a) ∧
  (∀ a, (k0_off2 i arg10) a + S128x64.size a ≤ S4096x512.size a) ∧
  (∀ a, (k0_off3 i arg10) a + S128x64.size a ≤ S4096x512.size a) ∧
  (∀ a, (k0_off4 i arg10) a + S128x64.size a ≤ S4096x512.size a) ∧
  (∀ a, (k0_off5 i arg10) a + S128x64.size a ≤ S4096x512.size a) ∧
  (∀ a, (k0_off6 i arg10) a + S128x64.size a ≤ S4096x512.size a) ∧
  (∀ a, (k0_off7 i arg10) a + S128x64.size a ≤ S4096x512.size a) ∧
  (∀ a, (k0_off8 i arg10) a + S128x64.size a ≤ S4096x512.size a) ∧
  (∀ a, (k0_off9 i arg10) a + S128x1.size a ≤ S4096x128.size a) ∧
  (∀ a, (k0_off10 i arg10) a + S128x1.size a ≤ S4096x128.size a) ∧
  (∀ a, (k0_off11 i arg10) a + S128x1.size a ≤ S4096x128.size a) ∧
  (∀ a, (k0_off12 i arg10) a + S128x1.size a ≤ S4096x128.size a) ∧
  (∀ a, (k0_off13 i arg10) a + S128x1.size a ≤ S4096x128.size a) ∧
  (∀ a, (k0_off14 i arg10) a + S128x1.size a ≤ S4096x128.size a) ∧
  (∀ a, (k0_off15 i arg10) a + S128x1.size a ≤ S4096x128.size a) ∧
  (∀ a, (k0_off16 i arg10) a + S128x1.size a ≤ S4096x128.size a)
theorem k0_mult1_dvd : ∀ (i : grid0.Coords) (arg10 : BitVec 32) (k0_hw1 : k0_chk1 i arg10), 128 ∣ (k0_mult1 i arg10).toNat := fun i arg10 k0_hw1 => k0_hw1.1
theorem k0_off1_inb : ∀ (i : grid0.Coords) (arg10 : BitVec 32) (k0_hw1 : k0_chk1 i arg10), ∀ a, (k0_off1 i arg10) a + S128x64.size a ≤ S4096x512.size a := fun i arg10 k0_hw1 => k0_hw1.2.1
theorem k0_off2_inb : ∀ (i : grid0.Coords) (arg10 : BitVec 32) (k0_hw1 : k0_chk1 i arg10), ∀ a, (k0_off2 i arg10) a + S128x64.size a ≤ S4096x512.size a := fun i arg10 k0_hw1 => k0_hw1.2.2.1
theorem k0_off3_inb : ∀ (i : grid0.Coords) (arg10 : BitVec 32) (k0_hw1 : k0_chk1 i arg10), ∀ a, (k0_off3 i arg10) a + S128x64.size a ≤ S4096x512.size a := fun i arg10 k0_hw1 => k0_hw1.2.2.2.1
theorem k0_off4_inb : ∀ (i : grid0.Coords) (arg10 : BitVec 32) (k0_hw1 : k0_chk1 i arg10), ∀ a, (k0_off4 i arg10) a + S128x64.size a ≤ S4096x512.size a := fun i arg10 k0_hw1 => k0_hw1.2.2.2.2.1
theorem k0_off5_inb : ∀ (i : grid0.Coords) (arg10 : BitVec 32) (k0_hw1 : k0_chk1 i arg10), ∀ a, (k0_off5 i arg10) a + S128x64.size a ≤ S4096x512.size a := fun i arg10 k0_hw1 => k0_hw1.2.2.2.2.2.1
theorem k0_off6_inb : ∀ (i : grid0.Coords) (arg10 : BitVec 32) (k0_hw1 : k0_chk1 i arg10), ∀ a, (k0_off6 i arg10) a + S128x64.size a ≤ S4096x512.size a := fun i arg10 k0_hw1 => k0_hw1.2.2.2.2.2.2.1
theorem k0_off7_inb : ∀ (i : grid0.Coords) (arg10 : BitVec 32) (k0_hw1 : k0_chk1 i arg10), ∀ a, (k0_off7 i arg10) a + S128x64.size a ≤ S4096x512.size a := fun i arg10 k0_hw1 => k0_hw1.2.2.2.2.2.2.2.1
theorem k0_off8_inb : ∀ (i : grid0.Coords) (arg10 : BitVec 32) (k0_hw1 : k0_chk1 i arg10), ∀ a, (k0_off8 i arg10) a + S128x64.size a ≤ S4096x512.size a := fun i arg10 k0_hw1 => k0_hw1.2.2.2.2.2.2.2.2.1
theorem k0_off9_inb : ∀ (i : grid0.Coords) (arg10 : BitVec 32) (k0_hw1 : k0_chk1 i arg10), ∀ a, (k0_off9 i arg10) a + S128x1.size a ≤ S4096x128.size a := fun i arg10 k0_hw1 => k0_hw1.2.2.2.2.2.2.2.2.2.1
theorem k0_off10_inb : ∀ (i : grid0.Coords) (arg10 : BitVec 32) (k0_hw1 : k0_chk1 i arg10), ∀ a, (k0_off10 i arg10) a + S128x1.size a ≤ S4096x128.size a := fun i arg10 k0_hw1 => k0_hw1.2.2.2.2.2.2.2.2.2.2.1
theorem k0_off11_inb : ∀ (i : grid0.Coords) (arg10 : BitVec 32) (k0_hw1 : k0_chk1 i arg10), ∀ a, (k0_off11 i arg10) a + S128x1.size a ≤ S4096x128.size a := fun i arg10 k0_hw1 => k0_hw1.2.2.2.2.2.2.2.2.2.2.2.1
theorem k0_off12_inb : ∀ (i : grid0.Coords) (arg10 : BitVec 32) (k0_hw1 : k0_chk1 i arg10), ∀ a, (k0_off12 i arg10) a + S128x1.size a ≤ S4096x128.size a := fun i arg10 k0_hw1 => k0_hw1.2.2.2.2.2.2.2.2.2.2.2.2.1
theorem k0_off13_inb : ∀ (i : grid0.Coords) (arg10 : BitVec 32) (k0_hw1 : k0_chk1 i arg10), ∀ a, (k0_off13 i arg10) a + S128x1.size a ≤ S4096x128.size a := fun i arg10 k0_hw1 => k0_hw1.2.2.2.2.2.2.2.2.2.2.2.2.2.1
theorem k0_off14_inb : ∀ (i : grid0.Coords) (arg10 : BitVec 32) (k0_hw1 : k0_chk1 i arg10), ∀ a, (k0_off14 i arg10) a + S128x1.size a ≤ S4096x128.size a := fun i arg10 k0_hw1 => k0_hw1.2.2.2.2.2.2.2.2.2.2.2.2.2.2.1
theorem k0_off15_inb : ∀ (i : grid0.Coords) (arg10 : BitVec 32) (k0_hw1 : k0_chk1 i arg10), ∀ a, (k0_off15 i arg10) a + S128x1.size a ≤ S4096x128.size a := fun i arg10 k0_hw1 => k0_hw1.2.2.2.2.2.2.2.2.2.2.2.2.2.2.2.1
theorem k0_off16_inb : ∀ (i : grid0.Coords) (arg10 : BitVec 32) (k0_hw1 : k0_chk1 i arg10), ∀ a, (k0_off16 i arg10) a + S128x1.size a ≤ S4096x128.size a := fun i arg10 k0_hw1 => k0_hw1.2.2.2.2.2.2.2.2.2.2.2.2.2.2.2.2

@[reducible] def k0_t1_loop (i : grid0.Coords) (v47_0 : BitVec 32) : Scf.Loop 32 :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_51 : BitVec 32 := 1#32
  ⟨v49, v71, c1_i32_51⟩

def k0_mult2 (i : grid0.Coords) (v47_0 : BitVec 32) (k0_t1 : Fin (k0_t1_loop i v47_0).trips) : BitVec 32 :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  v82
def k0_off17 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v93 : Index := Scalar.indexCast v83
  let c0_71 : Index := 0#32
  ![v93.toNat, 0]
def k0_off18 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v95 : Index := Scalar.indexCast v83
  let c64_72 : Index := 64#32
  ![v95.toNat, 64]
def k0_off19 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v97 : Index := Scalar.indexCast v83
  let c128_73 : Index := 128#32
  ![v97.toNat, 128]
def k0_off20 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v99 : Index := Scalar.indexCast v83
  let c192_74 : Index := 192#32
  ![v99.toNat, 192]
def k0_off21 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v101 : Index := Scalar.indexCast v83
  let c256_75 : Index := 256#32
  ![v101.toNat, 256]
def k0_off22 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v103 : Index := Scalar.indexCast v83
  let c320_76 : Index := 320#32
  ![v103.toNat, 320]
def k0_off23 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v105 : Index := Scalar.indexCast v83
  let c384_77 : Index := 384#32
  ![v105.toNat, 384]
def k0_off24 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v107 : Index := Scalar.indexCast v83
  let c448_78 : Index := 448#32
  ![v107.toNat, 448]
def k0_off25 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v276 : Index := Scalar.indexCast v83
  let c0_145 : Index := 0#32
  ![v276.toNat, 0]
def k0_off26 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v287 : Index := Scalar.indexCast v83
  let c1 : Index := 1#32
  ![v287.toNat, 1]
def k0_off27 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v298 : Index := Scalar.indexCast v83
  let c2 : Index := 2#32
  ![v298.toNat, 2]
def k0_off28 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v309 : Index := Scalar.indexCast v83
  let c3 : Index := 3#32
  ![v309.toNat, 3]
def k0_off29 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v320 : Index := Scalar.indexCast v83
  let c4 : Index := 4#32
  ![v320.toNat, 4]
def k0_off30 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v331 : Index := Scalar.indexCast v83
  let c5 : Index := 5#32
  ![v331.toNat, 5]
def k0_off31 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v342 : Index := Scalar.indexCast v83
  let c6 : Index := 6#32
  ![v342.toNat, 6]
def k0_off32 (i : grid0.Coords) (v47_0 : BitVec 32) (k0_t1 : Fin (k0_t1_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_51 : BitVec 32 := 1#32
  let arg10 : BitVec 32 := Scf.iv v49 c1_i32_51 k0_t1
  let c128_i32 : BitVec 32 := 128#32
  let v82 : BitVec 32 := Scalar.muli arg10 c128_i32
  let v83 : BitVec 32 := v82
  let v353 : Index := Scalar.indexCast v83
  let c7 : Index := 7#32
  ![v353.toNat, 7]
@[reducible] def k0_t2_loop (i : grid0.Coords) (v47_0 : BitVec 32) : Scf.Loop 32 :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let v68 : BitVec 32 := Scalar.addi v49 v67
  let c1_i32_52 : BitVec 32 := 1#32
  ⟨v71, v68, c1_i32_52⟩
def k0_mult3 (i : grid0.Coords) (v47_0 : BitVec 32) (k0_t2 : Fin (k0_t2_loop i v47_0).trips) : BitVec 32 :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  v82
def k0_off33 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v93 : Index := Scalar.indexCast v83
  let c0_71 : Index := 0#32
  ![v93.toNat, 0]
def k0_off34 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v95 : Index := Scalar.indexCast v83
  let c64_72 : Index := 64#32
  ![v95.toNat, 64]
def k0_off35 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v97 : Index := Scalar.indexCast v83
  let c128_73 : Index := 128#32
  ![v97.toNat, 128]
def k0_off36 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v99 : Index := Scalar.indexCast v83
  let c192_74 : Index := 192#32
  ![v99.toNat, 192]
def k0_off37 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v101 : Index := Scalar.indexCast v83
  let c256_75 : Index := 256#32
  ![v101.toNat, 256]
def k0_off38 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v103 : Index := Scalar.indexCast v83
  let c320_76 : Index := 320#32
  ![v103.toNat, 320]
def k0_off39 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v105 : Index := Scalar.indexCast v83
  let c384_77 : Index := 384#32
  ![v105.toNat, 384]
def k0_off40 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v107 : Index := Scalar.indexCast v83
  let c448_78 : Index := 448#32
  ![v107.toNat, 448]
def k0_off41 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v276 : Index := Scalar.indexCast v83
  let c0_145 : Index := 0#32
  ![v276.toNat, 0]
def k0_off42 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v287 : Index := Scalar.indexCast v83
  let c1 : Index := 1#32
  ![v287.toNat, 1]
def k0_off43 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v298 : Index := Scalar.indexCast v83
  let c2 : Index := 2#32
  ![v298.toNat, 2]
def k0_off44 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v309 : Index := Scalar.indexCast v83
  let c3 : Index := 3#32
  ![v309.toNat, 3]
def k0_off45 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v320 : Index := Scalar.indexCast v83
  let c4 : Index := 4#32
  ![v320.toNat, 4]
def k0_off46 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v331 : Index := Scalar.indexCast v83
  let c5 : Index := 5#32
  ![v331.toNat, 5]
def k0_off47 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v342 : Index := Scalar.indexCast v83
  let c6 : Index := 6#32
  ![v342.toNat, 6]
def k0_off48 (i : grid0.Coords) (v47_0 : BitVec 32) (k0_t2 : Fin (k0_t2_loop i v47_0).trips) : Fin 2 → Nat :=
  let arg1 : BitVec 32 := BitVec.ofNat 32 (i 1).val
  let c1_i32 : BitVec 32 := 1#32
  let v48 : BitVec 32 := Scalar.addi arg1 c1_i32
  let v49 : BitVec 32 := Scalar.subi v48 v47_0
  let c1_i32_33 : BitVec 32 := 1#32
  let v50 : BitVec 32 := Scalar.addi arg1 c1_i32_33
  let v67 : BitVec 32 := Scalar.subi v50 v49
  let c1_i32_50 : BitVec 32 := 1#32
  let v69 : BitVec 32 := Scalar.divsi v67 c1_i32_50
  let v70 : BitVec 32 := Scalar.muli v69 c1_i32_50
  let v71 : BitVec 32 := Scalar.addi v49 v70
  let c1_i32_52 : BitVec 32 := 1#32
  let arg10 : BitVec 32 := Scf.iv v71 c1_i32_52 k0_t2
  let c128_i32 : BitVec 32 := 128#32
  let v82 : BitVec 32 := Scalar.muli arg10 c128_i32
  let v83 : BitVec 32 := v82
  let v353 : Index := Scalar.indexCast v83
  let c7 : Index := 7#32
  ![v353.toNat, 7]

def k0_chk2_0 (i : grid0.Coords) (v47_0 : BitVec 32) : Prop :=
  ((k0_t1_loop i v47_0).OK) ∧
  (∀ k0_t1 : Fin (k0_t1_loop i v47_0).trips, 128 ∣ (k0_mult2 i v47_0 k0_t1).toNat) ∧
  (∀ k0_t1 : Fin (k0_t1_loop i v47_0).trips, ∀ a, (k0_off17 i v47_0 k0_t1) a + S128x64.size a ≤ S4096x512.size a) ∧
  (∀ k0_t1 : Fin (k0_t1_loop i v47_0).trips, ∀ a, (k0_off18 i v47_0 k0_t1) a + S128x64.size a ≤ S4096x512.size a) ∧
  (∀ k0_t1 : Fin (k0_t1_loop i v47_0).trips, ∀ a, (k0_off19 i v47_0 k0_t1) a + S128x64.size a ≤ S4096x512.size a) ∧
  (∀ k0_t1 : Fin (k0_t1_loop i v47_0).trips, ∀ a, (k0_off20 i v47_0 k0_t1) a + S128x64.size a ≤ S4096x512.size a) ∧
  (∀ k0_t1 : Fin (k0_t1_loop i v47_0).trips, ∀ a, (k0_off21 i v47_0 k0_t1) a + S128x64.size a ≤ S4096x512.size a) ∧
  (∀ k0_t1 : Fin (k0_t1_loop i v47_0).trips, ∀ a, (k0_off22 i v47_0 k0_t1) a + S128x64.size a ≤ S4096x512.size a) ∧
  (∀ k0_t1 : Fin (k0_t1_loop i v47_0).trips, ∀ a, (k0_off23 i v47_0 k0_t1) a + S128x64.size a ≤ S4096x512.size a) ∧
  (∀ k0_t1 : Fin (k0_t1_loop i v47_0).trips, ∀ a, (k0_off24 i v47_0 k0_t1) a + S128x64.size a ≤ S4096x512.size a) ∧
  (∀ k0_t1 : Fin (k0_t1_loop i v47_0).trips, ∀ a, (k0_off25 i v47_0 k0_t1) a + S128x1.size a ≤ S4096x128.size a) ∧
  (∀ k0_t1 : Fin (k0_t1_loop i v47_0).trips, ∀ a, (k0_off26 i v47_0 k0_t1) a + S128x1.size a ≤ S4096x128.size a) ∧
  (∀ k0_t1 : Fin (k0_t1_loop i v47_0).trips, ∀ a, (k0_off27 i v47_0 k0_t1) a + S128x1.size a ≤ S4096x128.size a) ∧
  (∀ k0_t1 : Fin (k0_t1_loop i v47_0).trips, ∀ a, (k0_off28 i v47_0 k0_t1) a + S128x1.size a ≤ S4096x128.size a) ∧
  (∀ k0_t1 : Fin (k0_t1_loop i v47_0).trips, ∀ a, (k0_off29 i v47_0 k0_t1) a + S128x1.size a ≤ S4096x128.size a) ∧
  (∀ k0_t1 : Fin (k0_t1_loop i v47_0).trips, ∀ a, (k0_off30 i v47_0 k0_t1) a + S128x1.size a ≤ S4096x128.size a) ∧
  (∀ k0_t1 : Fin (k0_t1_loop i v47_0).trips, ∀ a, (k0_off31 i v47_0 k0_t1) a + S128x1.size a ≤ S4096x128.size a) ∧
  (∀ k0_t1 : Fin (k0_t1_loop i v47_0).trips, ∀ a, (k0_off32 i v47_0 k0_t1) a + S128x1.size a ≤ S4096x128.size a) ∧
  ((k0_t2_loop i v47_0).OK) ∧
  (∀ k0_t2 : Fin (k0_t2_loop i v47_0).trips, 128 ∣ (k0_mult3 i v47_0 k0_t2).toNat) ∧
  (∀ k0_t2 : Fin (k0_t2_loop i v47_0).trips, ∀ a, (k0_off33 i v47_0 k0_t2) a + S128x64.size a ≤ S4096x512.size a) ∧
  (∀ k0_t2 : Fin (k0_t2_loop i v47_0).trips, ∀ a, (k0_off34 i v47_0 k0_t2) a + S128x64.size a ≤ S4096x512.size a) ∧
  (∀ k0_t2 : Fin (k0_t2_loop i v47_0).trips, ∀ a, (k0_off35 i v47_0 k0_t2) a + S128x64.size a ≤ S4096x512.size a) ∧
  (∀ k0_t2 : Fin (k0_t2_loop i v47_0).trips, ∀ a, (k0_off36 i v47_0 k0_t2) a + S128x64.size a ≤ S4096x512.size a) ∧
  (∀ k0_t2 : Fin (k0_t2_loop i v47_0).trips, ∀ a, (k0_off37 i v47_0 k0_t2) a + S128x64.size a ≤ S4096x512.size a) ∧
  (∀ k0_t2 : Fin (k0_t2_loop i v47_0).trips, ∀ a, (k0_off38 i v47_0 k0_t2) a + S128x64.size a ≤ S4096x512.size a) ∧
  (∀ k0_t2 : Fin (k0_t2_loop i v47_0).trips, ∀ a, (k0_off39 i v47_0 k0_t2) a + S128x64.size a ≤ S4096x512.size a) ∧
  (∀ k0_t2 : Fin (k0_t2_loop i v47_0).trips, ∀ a, (k0_off40 i v47_0 k0_t2) a + S128x64.size a ≤ S4096x512.size a) ∧
  (∀ k0_t2 : Fin (k0_t2_loop i v47_0).trips, ∀ a, (k0_off41 i v47_0 k0_t2) a + S128x1.size a ≤ S4096x128.size a) ∧
  (∀ k0_t2 : Fin (k0_t2_loop i v47_0).trips, ∀ a, (k0_off42 i v47_0 k0_t2) a + S128x1.size a ≤ S4096x128.size a) ∧
  (∀ k0_t2 : Fin (k0_t2_loop i v47_0).trips, ∀ a, (k0_off43 i v47_0 k0_t2) a + S128x1.size a ≤ S4096x128.size a) ∧
  (∀ k0_t2 : Fin (k0_t2_loop i v47_0).trips, ∀ a, (k0_off44 i v47_0 k0_t2) a + S128x1.size a ≤ S4096x128.size a)
def k0_chk2_1 (i : grid0.Coords) (v47_0 : BitVec 32) : Prop :=
  (∀ k0_t2 : Fin (k0_t2_loop i v47_0).trips, ∀ a, (k0_off45 i v47_0 k0_t2) a + S128x1.size a ≤ S4096x128.size a) ∧
  (∀ k0_t2 : Fin (k0_t2_loop i v47_0).trips, ∀ a, (k0_off46 i v47_0 k0_t2) a + S128x1.size a ≤ S4096x128.size a) ∧
  (∀ k0_t2 : Fin (k0_t2_loop i v47_0).trips, ∀ a, (k0_off47 i v47_0 k0_t2) a + S128x1.size a ≤ S4096x128.size a) ∧
  (∀ k0_t2 : Fin (k0_t2_loop i v47_0).trips, ∀ a, (k0_off48 i v47_0 k0_t2) a + S128x1.size a ≤ S4096x128.size a)
def k0_chk2 (i : grid0.Coords) (v47_0 : BitVec 32) : Prop :=
  k0_chk2_0 i v47_0 ∧
  k0_chk2_1 i v47_0
theorem k0_t1_ok : ∀ (i : grid0.Coords) (v47_0 : BitVec 32) (k0_hw2 : k0_chk2 i v47_0), (k0_t1_loop i v47_0).OK := fun i v47_0 k0_hw2 => k0_hw2.1.1
theorem k0_mult2_dvd : ∀ (i : grid0.Coords) (v47_0 : BitVec 32) (k0_hw2 : k0_chk2 i v47_0) (k0_t1 : Fin (k0_t1_loop i v47_0).trips), 128 ∣ (k0_mult2 i v47_0 k0_t1).toNat := fun i v47_0 k0_hw2 k0_t1 => k0_hw2.1.2.1 k0_t1
theorem k0_off17_inb : ∀ (i : grid0.Coords) (v47_0 : BitVec 32) (k0_hw2 : k0_chk2 i v47_0) (k0_t1 : Fin (k0_t1_loop i v47_0).trips), ∀ a, (k0_off17 i v47_0 k0_t1) a + S128x64.size a ≤ S4096x512.size a := fun i v47_0 k0_hw2 k0_t1 => k0_hw2.1.2.2.1 k0_t1
theorem k0_off18_inb : ∀ (i : grid0.Coords) (v47_0 : BitVec 32) (k0_hw2 : k0_chk2 i v47_0) (k0_t1 : Fin (k0_t1_loop i v47_0).trips), ∀ a, (k0_off18 i v47_0 k0_t1) a + S128x64.size a ≤ S4096x512.size a := fun i v47_0 k0_hw2 k0_t1 => k0_hw2.1.2.2.2.1 k0_t1
theorem k0_off19_inb : ∀ (i : grid0.Coords) (v47_0 : BitVec 32) (k0_hw2 : k0_chk2 i v47_0) (k0_t1 : Fin (k0_t1_loop i v47_0).trips), ∀ a, (k0_off19 i v47_0 k0_t1) a + S128x64.size a ≤ S4096x512.size a := fun i v47_0 k0_hw2 k0_t1 => k0_hw2.1.2.2.2.2.1 k0_t1
theorem k0_off20_inb : ∀ (i : grid0.Coords) (v47_0 : BitVec 32) (k0_hw2 : k0_chk2 i v47_0) (k0_t1 : Fin (k0_t1_loop i v47_0).trips), ∀ a, (k0_off20 i v47_0 k0_t1) a + S128x64.size a ≤ S4096x512.size a := fun i v47_0 k0_hw2 k0_t1 => k0_hw2.1.2.2.2.2.2.1 k0_t1
theorem k0_off21_inb : ∀ (i : grid0.Coords) (v47_0 : BitVec 32) (k0_hw2 : k0_chk2 i v47_0) (k0_t1 : Fin (k0_t1_loop i v47_0).trips), ∀ a, (k0_off21 i v47_0 k0_t1) a + S128x64.size a ≤ S4096x512.size a := fun i v47_0 k0_hw2 k0_t1 => k0_hw2.1.2.2.2.2.2.2.1 k0_t1
theorem k0_off22_inb : ∀ (i : grid0.Coords) (v47_0 : BitVec 32) (k0_hw2 : k0_chk2 i v47_0) (k0_t1 : Fin (k0_t1_loop i v47_0).trips), ∀ a, (k0_off22 i v47_0 k0_t1) a + S128x64.size a ≤ S4096x512.size a := fun i v47_0 k0_hw2 k0_t1 => k0_hw2.1.2.2.2.2.2.2.2.1 k0_t1
theorem k0_off23_inb : ∀ (i : grid0.Coords) (v47_0 : BitVec 32) (k0_hw2 : k0_chk2 i v47_0) (k0_t1 : Fin (k0_t1_loop i v47_0).trips), ∀ a, (k0_off23 i v47_0 k0_t1) a + S128x64.size a ≤ S4096x512.size a := fun i v47_0 k0_hw2 k0_t1 => k0_hw2.1.2.2.2.2.2.2.2.2.1 k0_t1
theorem k0_off24_inb : ∀ (i : grid0.Coords) (v47_0 : BitVec 32) (k0_hw2 : k0_chk2 i v47_0) (k0_t1 : Fin (k0_t1_loop i v47_0).trips), ∀ a, (k0_off24 i v47_0 k0_t1) a + S128x64.size a ≤ S4096x512.size a := fun i v47_0 k0_hw2 k0_t1 => k0_hw2.1.2.2.2.2.2.2.2.2.2.1 k0_t1
theorem k0_off25_inb : ∀ (i : grid0.Coords) (v47_0 : BitVec 32) (k0_hw2 : k0_chk2 i v47_0) (k0_t1 : Fin (k0_t1_loop i v47_0).trips), ∀ a, (k0_off25 i v47_0 k0_t1) a + S128x1.size a ≤ S4096x128.size a := fun i v47_0 k0_hw2 k0_t1 => k0_hw2.1.2.2.2.2.2.2.2.2.2.2.1 k0_t1
theorem k0_off26_inb : ∀ (i : grid0.Coords) (v47_0 : BitVec 32) (k0_hw2 : k0_chk2 i v47_0) (k0_t1 : Fin (k0_t1_loop i v47_0).trips), ∀ a, (k0_off26 i v47_0 k0_t1) a + S128x1.size a ≤ S4096x128.size a := fun i v47_0 k0_hw2 k0_t1 => k0_hw2.1.2.2.2.2.2.2.2.2.2.2.2.1 k0_t1
theorem k0_off27_inb : ∀ (i : grid0.Coords) (v47_0 : BitVec 32) (k0_hw2 : k0_chk2 i v47_0) (k0_t1 : Fin (k0_t1_loop i v47_0).trips), ∀ a, (k0_off27 i v47_0 k0_t1) a + S128x1.size a ≤ S4096x128.size a := fun i v47_0 k0_hw2 k0_t1 => k0_hw2.1.2.2.2.2.2.2.2.2.2.2.2.2.1 k0_t1
theorem k0_off28_inb : ∀ (i : grid0.Coords) (v47_0 : BitVec 32) (k0_hw2 : k0_chk2 i v47_0) (k0_t1 : Fin (k0_t1_loop i v47_0).trips), ∀ a, (k0_off28 i v47_0 k0_t1) a + S128x1.size a ≤ S4096x128.size a := fun i v47_0 k0_hw2 k0_t1 => k0_hw2.1.2.2.2.2.2.2.2.2.2.2.2.2.2.1 k0_t1
theorem k0_off29_inb : ∀ (i : grid0.Coords) (v47_0 : BitVec 32) (k0_hw2 : k0_chk2 i v47_0) (k0_t1 : Fin (k0_t1_loop i v47_0).trips), ∀ a, (k0_off29 i v47_0 k0_t1) a + S128x1.size a ≤ S4096x128.size a := fun i v47_0 k0_hw2 k0_t1 => k0_hw2.1.2.2.2.2.2.2.2.2.2.2.2.2.2.2.1 k0_t1
theorem k0_off30_inb : ∀ (i : grid0.Coords) (v47_0 : BitVec 32) (k0_hw2 : k0_chk2 i v47_0) (k0_t1 : Fin (k0_t1_loop i v47_0).trips), ∀ a, (k0_off30 i v47_0 k0_t1) a + S128x1.size a ≤ S4096x128.size a := fun i v47_0 k0_hw2 k0_t1 => k0_hw2.1.2.2.2.2.2.2.2.2.2.2.2.2.2.2.2.1 k0_t1
theorem k0_off31_inb : ∀ (i : grid0.Coords) (v47_0 : BitVec 32) (k0_hw2 : k0_chk2 i v47_0) (k0_t1 : Fin (k0_t1_loop i v47_0).trips), ∀ a, (k0_off31 i v47_0 k0_t1) a + S128x1.size a ≤ S4096x128.size a := fun i v47_0 k0_hw2 k0_t1 => k0_hw2.1.2.2.2.2.2.2.2.2.2.2.2.2.2.2.2.2.1 k0_t1
theorem k0_off32_inb : ∀ (i : grid0.Coords) (v47_0 : BitVec 32) (k0_hw2 : k0_chk2 i v47_0) (k0_t1 : Fin (k0_t1_loop i v47_0).trips), ∀ a, (k0_off32 i v47_0 k0_t1) a + S128x1.size a ≤ S4096x128.size a := fun i v47_0 k0_hw2 k0_t1 => k0_hw2.1.2.2.2.2.2.2.2.2.2.2.2.2.2.2.2.2.2.1 k0_t1
theorem k0_t2_ok : ∀ (i : grid0.Coords) (v47_0 : BitVec 32) (k0_hw2 : k0_chk2 i v47_0), (k0_t2_loop i v47_0).OK := fun i v47_0 k0_hw2 => k0_hw2.1.2.2.2.2.2.2.2.2.2.2.2.2.2.2.2.2.2.2.1
theorem k0_mult3_dvd : ∀ (i : grid0.Coords) (v47_0 : BitVec 32) (k0_hw2 : k0_chk2 i v47_0) (k0_t2 : Fin (k0_t2_loop i v47_0).trips), 128 ∣ (k0_mult3 i v47_0 k0_t2).toNat := fun i v47_0 k0_hw2 k0_t2 => k0_hw2.1.2.2.2.2.2.2.2.2.2.2.2.2.2.2.2.2.2.2.2.1 k0_t2
theorem k0_off33_inb : ∀ (i : grid0.Coords) (v47_0 : BitVec 32) (k0_hw2 : k0_chk2 i v47_0) (k0_t2 : Fin (k0_t2_loop i v47_0).trips), ∀ a, (k0_off33 i v47_0 k0_t2) a + S128x64.size a ≤ S4096x512.size a := fun i v47_0 k0_hw2 k0_t2 => k0_hw2.1.2.2.2.2.2.2.2.2.2.2.2.2.2.2.2.2.2.2.2.2.1 k0_t2
theorem k0_off34_inb : ∀ (i : grid0.Coords) (v47_0 : BitVec 32) (k0_hw2 : k0_chk2 i v47_0) (k0_t2 : Fin (k0_t2_loop i v47_0).trips), ∀ a, (k0_off34 i v47_0 k0_t2) a + S128x64.size a ≤ S4096x512.size a := fun i v47_0 k0_hw2 k0_t2 => k0_hw2.1.2.2.2.2.2.2.2.2.2.2.2.2.2.2.2.2.2.2.2.2.2.1 k0_t2
theorem k0_off35_inb : ∀ (i : grid0.Coords) (v47_0 : BitVec 32) (k0_hw2 : k0_chk2 i v47_0) (k0_t2 : Fin (k0_t2_loop i v47_0).trips), ∀ a, (k0_off35 i v47_0 k0_t2) a + S128x64.size a ≤ S4096x512.size a := fun i v47_0 k0_hw2 k0_t2 => k0_hw2.1.2.2.2.2.2.2.2.2.2.2.2.2.2.2.2.2.2.2.2.2.2.2.1 k0_t2
theorem k0_off36_inb : ∀ (i : grid0.Coords) (v47_0 : BitVec 32) (k0_hw2 : k0_chk2 i v47_0) (k0_t2 : Fin (k0_t2_loop i v47_0).trips), ∀ a, (k0_off36 i v47_0 k0_t2) a + S128x64.size a ≤ S4096x512.size a := fun i v47_0 k0_hw2 k0_t2 => k0_hw2.1.2.2.2.2.2.2.2.2.2.2.2.2.2.2.2.2.2.2.2.2.2.2.2.1 k0_t2
theorem k0_off37_inb : ∀ (i : grid0.Coords) (v47_0 : BitVec 32) (k0_hw2 : k0_chk2 i v47_0) (k0_t2 : Fin (k0_t2_loop i v47_0).trips), ∀ a, (k0_off37 i v47_0 k0_t2) a + S128x64.size a ≤ S4096x512.size a := fun i v47_0 k0_hw2 k0_t2 => k0_hw2.1.2.2.2.2.2.2.2.2.2.2.2.2.2.2.2.2.2.2.2.2.2.2.2.2.1 k0_t2
theorem k0_off38_inb : ∀ (i : grid0.Coords) (v47_0 : BitVec 32) (k0_hw2 : k0_chk2 i v47_0) (k0_t2 : Fin (k0_t2_loop i v47_0).trips), ∀ a, (k0_off38 i v47_0 k0_t2) a + S128x64.size a ≤ S4096x512.size a := fun i v47_0 k0_hw2 k0_t2 => k0_hw2.1.2.2.2.2.2.2.2.2.2.2.2.2.2.2.2.2.2.2.2.2.2.2.2.2.2.1 k0_t2
theorem k0_off39_inb : ∀ (i : grid0.Coords) (v47_0 : BitVec 32) (k0_hw2 : k0_chk2 i v47_0) (k0_t2 : Fin (k0_t2_loop i v47_0).trips), ∀ a, (k0_off39 i v47_0 k0_t2) a + S128x64.size a ≤ S4096x512.size a := fun i v47_0 k0_hw2 k0_t2 => k0_hw2.1.2.2.2.2.2.2.2.2.2.2.2.2.2.2.2.2.2.2.2.2.2.2.2.2.2.2.1 k0_t2
theorem k0_off40_inb : ∀ (i : grid0.Coords) (v47_0 : BitVec 32) (k0_hw2 : k0_chk2 i v47_0) (k0_t2 : Fin (k0_t2_loop i v47_0).trips), ∀ a, (k0_off40 i v47_0 k0_t2) a + S128x64.size a ≤ S4096x512.size a := fun i v47_0 k0_hw2 k0_t2 => k0_hw2.1.2.2.2.2.2.2.2.2.2.2.2.2.2.2.2.2.2.2.2.2.2.2.2.2.2.2.2.1 k0_t2
theorem k0_off41_inb : ∀ (i : grid0.Coords) (v47_0 : BitVec 32) (k0_hw2 : k0_chk2 i v47_0) (k0_t2 : Fin (k0_t2_loop i v47_0).trips), ∀ a, (k0_off41 i v47_0 k0_t2) a + S128x1.size a ≤ S4096x128.size a := fun i v47_0 k0_hw2 k0_t2 => k0_hw2.1.2.2.2.2.2.2.2.2.2.2.2.2.2.2.2.2.2.2.2.2.2.2.2.2.2.2.2.2.1 k0_t2
theorem k0_off42_inb : ∀ (i : grid0.Coords) (v47_0 : BitVec 32) (k0_hw2 : k0_chk2 i v47_0) (k0_t2 : Fin (k0_t2_loop i v47_0).trips), ∀ a, (k0_off42 i v47_0 k0_t2) a + S128x1.size a ≤ S4096x128.size a := fun i v47_0 k0_hw2 k0_t2 => k0_hw2.1.2.2.2.2.2.2.2.2.2.2.2.2.2.2.2.2.2.2.2.2.2.2.2.2.2.2.2.2.2.1 k0_t2
theorem k0_off43_inb : ∀ (i : grid0.Coords) (v47_0 : BitVec 32) (k0_hw2 : k0_chk2 i v47_0) (k0_t2 : Fin (k0_t2_loop i v47_0).trips), ∀ a, (k0_off43 i v47_0 k0_t2) a + S128x1.size a ≤ S4096x128.size a := fun i v47_0 k0_hw2 k0_t2 => k0_hw2.1.2.2.2.2.2.2.2.2.2.2.2.2.2.2.2.2.2.2.2.2.2.2.2.2.2.2.2.2.2.2.1 k0_t2
theorem k0_off44_inb : ∀ (i : grid0.Coords) (v47_0 : BitVec 32) (k0_hw2 : k0_chk2 i v47_0) (k0_t2 : Fin (k0_t2_loop i v47_0).trips), ∀ a, (k0_off44 i v47_0 k0_t2) a + S128x1.size a ≤ S4096x128.size a := fun i v47_0 k0_hw2 k0_t2 => k0_hw2.1.2.2.2.2.2.2.2.2.2.2.2.2.2.2.2.2.2.2.2.2.2.2.2.2.2.2.2.2.2.2.2 k0_t2
theorem k0_off45_inb : ∀ (i : grid0.Coords) (v47_0 : BitVec 32) (k0_hw2 : k0_chk2 i v47_0) (k0_t2 : Fin (k0_t2_loop i v47_0).trips), ∀ a, (k0_off45 i v47_0 k0_t2) a + S128x1.size a ≤ S4096x128.size a := fun i v47_0 k0_hw2 k0_t2 => k0_hw2.2.1 k0_t2
theorem k0_off46_inb : ∀ (i : grid0.Coords) (v47_0 : BitVec 32) (k0_hw2 : k0_chk2 i v47_0) (k0_t2 : Fin (k0_t2_loop i v47_0).trips), ∀ a, (k0_off46 i v47_0 k0_t2) a + S128x1.size a ≤ S4096x128.size a := fun i v47_0 k0_hw2 k0_t2 => k0_hw2.2.2.1 k0_t2
theorem k0_off47_inb : ∀ (i : grid0.Coords) (v47_0 : BitVec 32) (k0_hw2 : k0_chk2 i v47_0) (k0_t2 : Fin (k0_t2_loop i v47_0).trips), ∀ a, (k0_off47 i v47_0 k0_t2) a + S128x1.size a ≤ S4096x128.size a := fun i v47_0 k0_hw2 k0_t2 => k0_hw2.2.2.2.1 k0_t2
theorem k0_off48_inb : ∀ (i : grid0.Coords) (v47_0 : BitVec 32) (k0_hw2 : k0_chk2 i v47_0) (k0_t2 : Fin (k0_t2_loop i v47_0).trips), ∀ a, (k0_off48 i v47_0 k0_t2) a + S128x1.size a ≤ S4096x128.size a := fun i v47_0 k0_hw2 k0_t2 => k0_hw2.2.2.2.2 k0_t2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4096x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S4096x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Kernel3Ideal.lean ====
variable {F : FTy → Type} [FloatOps F] [Named F]
def κ : String → Option EReal := fun
  | "dead" => some ⊥
  | _ => none
-- ==== Reference3Ideal.lean ====
abbrev S4096x2048 : Shape := ⟨2, ![4096, 2048]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 180
  | .vmem => 0
  | .smem => 0
  | _ => 0

abbrev hbmTy0_0 (i : Nat) : BufTy := match i % 128 with
  | 0 => ⟨S4096x2048, .bf16⟩
  | 1 => ⟨S4096x512, .f32⟩
  | 2 => ⟨S4096x512, .bf16⟩
  | 3 => ⟨S4096x512, .bf16⟩
  | 4 => ⟨S4096x512, .bf16⟩
  | 5 => ⟨S4096x512, .f32⟩
  | 6 => ⟨S4096x512, .f32⟩
  | 7 => ⟨S4096x512, .f32⟩
  | 8 => ⟨S4096x8x64, .f32⟩
  | 9 => ⟨S4096x8x64, .f32⟩
  | 10 => ⟨S4096x8x64, .f32⟩
  | 11 => ⟨S8x4096x4096, .f32⟩
  | 12 => ⟨S_, .f32⟩
  | 13 => ⟨S8x4096x4096, .f32⟩
  | 14 => ⟨S8x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .i1⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x4096x4096, .f32⟩
  | 119 => ⟨S8x4096x4096, .i1⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S8x4096x4096, .f32⟩
  | _ => ⟨S4096x2048, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S_, .f32⟩
  | 6 => ⟨S8x4096x4096, .i1⟩
  | 7 => ⟨S8x4096x4096, .f32⟩
  | 8 => ⟨S8x4096x4096, .f32⟩
  | 9 => ⟨S_, .f32⟩
  | 10 => ⟨S8x4096x4096, .f32⟩
  | 11 => ⟨S8x4096x4096, .bf16⟩
  | 12 => ⟨S8x64x4096, .f32⟩
  | 13 => ⟨S4096x8x64, .f32⟩
  | 14 => ⟨S4096x512, .f32⟩
  | 15 => ⟨S4096x8x64, .f32⟩
  | 16 => ⟨S8x64x4096, .f32⟩
  | 17 => ⟨S8x4096x4096, .f32⟩
  | 18 => ⟨S8x4096x4096, .bf16⟩
  | 19 => ⟨S8x64x4096, .f32⟩
  | 20 => ⟨S4096x8x64, .f32⟩
  | 21 => ⟨S8x4096x4096, .f32⟩
  | 22 => ⟨S_, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S_, .f32⟩
  | 31 => ⟨S_, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S8x4096x4096, .f32⟩
  | 42 => ⟨S_, .f32⟩
  | 43 => ⟨S8x4096x4096, .f32⟩
  | 44 => ⟨S8x4096x4096, .f32⟩
  | 45 => ⟨S8x4096x64, .f32⟩
  | 46 => ⟨S4096x8x64, .f32⟩
  | 47 => ⟨S8x4096x64, .f32⟩
  | 48 => ⟨S4096x8x64, .f32⟩
  | 49 => ⟨S4096x512, .f32⟩
  | 50 => ⟨S4096x512, .f32⟩
  | 51 => ⟨S4096x512, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_call5_cst : Ref sig .tc := ⟨.hbm, 150, rfl⟩
abbrev main_call5_v0 : Ref sig .tc := ⟨.hbm, 151, rfl⟩
abbrev main_v39 : Ref sig .tc := ⟨.hbm, 152, rfl⟩
abbrev main_v40 : Ref sig .tc := ⟨.hbm, 153, rfl⟩
abbrev main_call6_v0 : Ref sig .tc := ⟨.hbm, 154, rfl⟩
abbrev main_call6_v1 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_v44 : Ref sig .tc := ⟨.hbm, 161, rfl⟩
abbrev main_call8_cst : Ref sig .tc := ⟨.hbm, 162, rfl⟩
abbrev main_call8_v0 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_cst_2 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2752 : Shape := ⟨2, ![1024, 2752]⟩
abbrev S2752x1024 : Shape := ⟨2, ![2752, 1024]⟩
abbrev S1024x8x344 : Shape := ⟨3, ![1024, 8, 344]⟩
abbrev S_ : Shape := ⟨0, ![]⟩
abbrev S1024x8x384 : Shape := ⟨3, ![1024, 8, 384]⟩
abbrev S1024x3072 : Shape := ⟨2, ![1024, 3072]⟩
abbrev S8x344x1024 : Shape := ⟨3, ![8, 344, 1024]⟩
abbrev S8x384x1024 : Shape := ⟨3, ![8, 384, 1024]⟩
abbrev S3072x1024 : Shape := ⟨2, ![3072, 1024]⟩
abbrev S1x3072x1024 : Shape := ⟨3, ![1, 3072, 1024]⟩
abbrev S1x1024 : Shape := ⟨2, ![1, 1024]⟩
abbrev S4096 : Shape := ⟨1, ![4096]⟩
abbrev S4096x1 : Shape := ⟨2, ![4096, 1]⟩
abbrev S4096x3072 : Shape := ⟨2, ![4096, 3072]⟩
abbrev S1x1024x3072 : Shape := ⟨3, ![1, 1024, 3072]⟩
abbrev S2x1024x3072 : Shape := ⟨3, ![2, 1024, 3072]⟩
abbrev S1024x4096 : Shape := ⟨2, ![1024, 4096]⟩
abbrev S256x1024 : Shape := ⟨2, ![256, 1024]⟩
abbrev S256x3072 : Shape := ⟨2, ![256, 3072]⟩
abbrev S1024x256 : Shape := ⟨2, ![1024, 256]⟩
abbrev S1x768x1024 : Shape := ⟨3, ![1, 768, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩

abbrev nBuf : Space → Nat
  | .hbm => 55
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S4096x1024, .f32⟩
  | .hbm, ⟨6, _⟩ => ⟨S1024x8x344, .f32⟩
  | .hbm, ⟨7, _⟩ => ⟨S_, .i32⟩
  | .hbm, ⟨8, _⟩ => ⟨S_, .f32⟩
  | .hbm, ⟨9, _⟩ => ⟨S1024x8x384, .f32⟩
  | .hbm, ⟨10, _⟩ => ⟨S1024x3072, .f32⟩
  | .hbm, ⟨11, _⟩ => ⟨S1024x3072, .bf16⟩
  | .hbm, ⟨12, _⟩ => ⟨S1024x8x344, .f32⟩
  | .hbm, ⟨13, _⟩ => ⟨S_, .i32⟩
  | .hbm, ⟨14, _⟩ => ⟨S_, .f32⟩
  | .hbm, ⟨15, _⟩ => ⟨S1024x8x384, .f32⟩
  | .hbm, ⟨16, _⟩ => ⟨S1024x3072, .f32⟩
  | .hbm, ⟨17, _⟩ => ⟨S1024x3072, .bf16⟩
  | .hbm, ⟨18, _⟩ => ⟨S8x344x1024, .f32⟩
  | .hbm, ⟨19, _⟩ => ⟨S_, .i32⟩
  | .hbm, ⟨20, _⟩ => ⟨S_, .f32⟩
  | .hbm, ⟨21, _⟩ => ⟨S8x384x1024, .f32⟩
  | .hbm, ⟨22, _⟩ => ⟨S3072x1024, .f32⟩
  | .hbm, ⟨23, _⟩ => ⟨S3072x1024, .bf16⟩
  | .hbm, ⟨24, _⟩ => ⟨S1x3072x1024, .bf16⟩
  | .hbm, ⟨25, _⟩ => ⟨S1x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x3072, .f32⟩
  | .hbm, ⟨43, _⟩ => ⟨S4096x3072, .bf16⟩
  | .hbm, ⟨44, _⟩ => ⟨S4096x3072, .f32⟩
  | .hbm, ⟨45, _⟩ => ⟨S4096x3072, .bf16⟩
  | .hbm, ⟨46, _⟩ => ⟨S1x1024x3072, .bf16⟩
  | .hbm, ⟨47, _⟩ => ⟨S1x1024x3072, .bf16⟩
  | .hbm, ⟨48, _⟩ => ⟨S2x1024x3072, .bf16⟩
  | .hbm, ⟨49, _⟩ => ⟨S4096x1024, .f32⟩
  | .hbm, ⟨50, _⟩ => ⟨S4096x3072, .bf16⟩
  | .hbm, ⟨51, _⟩ => ⟨S4096x3072, .bf16⟩
  | .hbm, ⟨52, _⟩ => ⟨S1024x4096, .bf16⟩
  | .hbm, ⟨53, _⟩ => ⟨S1024x4096, .bf16⟩
  | .hbm, ⟨54, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S1x1024x3072, .bf16⟩
  | .local _ .vmem, ⟨10, _⟩ => ⟨S1x1024x3072, .bf16⟩
  | .local _ .vmem, ⟨11, _⟩ => ⟨S1x3072x1024, .bf16⟩
  | .local _ .vmem, ⟨12, _⟩ => ⟨S256x1024, .f32⟩
  | .local _ .vmem, ⟨13, _⟩ => ⟨S256x1024, .f32⟩
  | .local _ .vmem, ⟨14, _⟩ => ⟨S256x3072, .bf16⟩
  | .local _ .vmem, ⟨15, _⟩ => ⟨S256x3072, .bf16⟩
  | .local _ .vmem, ⟨16, _⟩ => ⟨S256x3072, .bf16⟩
  | .local _ .vmem, ⟨17, _⟩ => ⟨S256x3072, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev main_v34_4 : Ref sig .tc := ⟨.hbm, 53, rfl⟩
abbrev main_v34_5 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v170 : BitVec 1 := Scalar.cmpi .eq arg0 c0_i32
  let v171 : BitVec 32 := Scalar.extui v170
  let c0_i32_103 : BitVec 32 := 0#32
  let v172 : BitVec 1 := Scalar.cmpi .ne v171 c0_i32_103
  v172

def k0_cond2 (i : grid0.Coords) : BitVec 1 :=
  let arg0 : BitVec 32 := BitVec.ofNat 32 (i 0).val
  let c0_i32 : BitVec 32 := 0#32
  let v170 : BitVec 1 := Scalar.cmpi .eq arg0 c0_i32
  let v_true : BitVec 1 := 1#1
  let v173 : BitVec 1 := Scalar.xori v170 v_true
  let v174 : BitVec 32 := Scalar.extui v173
  let c0_i32_104 : BitVec 32 := 0#32
  let v175 : BitVec 1 := Scalar.cmpi .ne v174 c0_i32_104
  v175

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S4096x1024 : Shape := ⟨2, ![4096, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S4096x2752 : Shape := ⟨2, ![4096, 2752]⟩
abbrev S4096 : Shape := ⟨1, ![4096]⟩
abbrev S4096x1 : Shape := ⟨2, ![4096, 1]⟩
abbrev S1x1024 : Shape := ⟨2, ![1, 1024]⟩
abbrev S4096x8x344 : Shape := ⟨3, ![4096, 8, 344]⟩
abbrev S4096x8x384 : Shape := ⟨3, ![4096, 8, 384]⟩
abbrev S4096x3072 : Shape := ⟨2, ![4096, 3072]⟩
abbrev S1024x4096 : Shape := ⟨2, ![1024, 4096]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S4096x1024, .f32⟩
  | .hbm, ⟨6, _⟩ => ⟨S_, .f32⟩
  | .hbm, ⟨7, _⟩ => ⟨S4096x2752, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x2752, .f32⟩
  | .hbm, ⟨31, _⟩ => ⟨S4096x2752, .f32⟩
  | .hbm, ⟨32, _⟩ => ⟨S4096x2752, .f32⟩
  | .hbm, ⟨33, _⟩ => ⟨S4096x2752, .f32⟩
  | .hbm, ⟨34, _⟩ => ⟨S4096x2752, .f32⟩
  | .hbm, ⟨35, _⟩ => ⟨S4096x2752, .f32⟩
  | .hbm, ⟨36, _⟩ => ⟨S_, .f32⟩
  | .hbm, ⟨37, _⟩ => ⟨S4096x2752, .f32⟩
  | .hbm, ⟨38, _⟩ => ⟨S4096x2752, .f32⟩
  | .hbm, ⟨39, _⟩ => ⟨S_, .f32⟩
  | .hbm, ⟨40, _⟩ => ⟨S4096x2752, .f32⟩
  | .hbm, ⟨41, _⟩ => ⟨S4096x2752, .f32⟩
  | .hbm, ⟨42, _⟩ => ⟨S_, .f32⟩
  | .hbm, ⟨43, _⟩ => ⟨S4096x2752, .f32⟩
  | .hbm, ⟨44, _⟩ => ⟨S4096x2752, .f32⟩
  | .hbm, ⟨45, _⟩ => ⟨S4096x2752, .f32⟩
  | .hbm, ⟨46, _⟩ => ⟨S4096x2752, .f32⟩
  | .hbm, ⟨47, _⟩ => ⟨S4096x2752, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x2752, .f32⟩
  | .hbm, ⟨59, _⟩ => ⟨S4096x2752, .f32⟩
  | .hbm, ⟨60, _⟩ => ⟨S4096x2752, .f32⟩
  | .hbm, ⟨61, _⟩ => ⟨S4096x2752, .f32⟩
  | .hbm, ⟨62, _⟩ => ⟨S4096x2752, .f32⟩
  | .hbm, ⟨63, _⟩ => ⟨S4096x2752, .f32⟩
  | .hbm, ⟨64, _⟩ => ⟨S4096x2752, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x8x344, .f32⟩
  | .hbm, ⟨95, _⟩ => ⟨S_, .i32⟩
  | .hbm, ⟨96, _⟩ => ⟨S_, .f32⟩
  | .hbm, ⟨97, _⟩ => ⟨S4096x8x384, .f32⟩
  | .hbm, ⟨98, _⟩ => ⟨S4096x3072, .f32⟩
  | .hbm, ⟨99, _⟩ => ⟨S4096x3072, .bf16⟩
  | .hbm, ⟨100, _⟩ => ⟨S4096x8x344, .f32⟩
  | .hbm, ⟨101, _⟩ => ⟨S_, .i32⟩
  | .hbm, ⟨102, _⟩ => ⟨S_, .f32⟩
  | .hbm, ⟨103, _⟩ => ⟨S4096x8x384, .f32⟩
  | .hbm, ⟨104, _⟩ => ⟨S4096x3072, .f32⟩
  | .hbm, ⟨105, _⟩ => ⟨S4096x3072, .bf16⟩
  | .hbm, ⟨106, _⟩ => ⟨S1024x4096, .f32⟩
  | .hbm, ⟨107, _⟩ => ⟨S1024x4096, .bf16⟩
  | .hbm, ⟨108, _⟩ => ⟨S1024x4096, .f32⟩
  | .hbm, ⟨109, _⟩ => ⟨S1024x4096, .bf16⟩
  | .hbm, ⟨110, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v22_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v22_1 : Ref sig .tc := ⟨.hbm, 45, rfl⟩
abbrev main_v22_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c : Ref sig .tc := ⟨.hbm, 95, rfl⟩
abbrev main_call2_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_12 : Ref sig .tc := ⟨.hbm, 101, rfl⟩
abbrev main_call3_v0 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x2752 : Shape := ⟨2, ![1024, 2752]⟩
abbrev S4096x2752 : Shape := ⟨2, ![4096, 2752]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x344 : Shape := ⟨3, ![1024, 8, 344]⟩
abbrev S1024x8x384 : Shape := ⟨3, ![1024, 8, 384]⟩
abbrev S1024x3072 : Shape := ⟨2, ![1024, 3072]⟩
abbrev S4096x3072 : Shape := ⟨2, ![4096, 3072]⟩
abbrev S4096x8x344 : Shape := ⟨3, ![4096, 8, 344]⟩
abbrev S4096x8x384 : Shape := ⟨3, ![4096, 8, 384]⟩
abbrev S1024x4096 : Shape := ⟨2, ![1024, 4096]⟩
abbrev S8x1024x384 : Shape := ⟨3, ![8, 1024, 384]⟩
abbrev S1024x1024 : Shape := ⟨2, ![1024, 1024]⟩
abbrev S1024x768 : Shape := ⟨2, ![1024, 768]⟩
abbrev S2x1024x384 : Shape := ⟨3, ![2, 1024, 384]⟩
abbrev S1024x384 : Shape := ⟨2, ![1024, 384]⟩
abbrev S1x1024x384 : Shape := ⟨3, ![1, 1024, 384]⟩

abbrev nBuf : Space → Nat
  | .hbm => 58
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S4096x2752, .f32⟩
  | .hbm, ⟨5, _⟩ => ⟨S4096x2752, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x8x344, .f32⟩
  | .hbm, ⟨25, _⟩ => ⟨S_, .i32⟩
  | .hbm, ⟨26, _⟩ => ⟨S_, .f32⟩
  | .hbm, ⟨27, _⟩ => ⟨S1024x8x384, .f32⟩
  | .hbm, ⟨28, _⟩ => ⟨S1024x3072, .f32⟩
  | .hbm, ⟨29, _⟩ => ⟨S1024x3072, .bf16⟩
  | .hbm, ⟨30, _⟩ => ⟨S4096x3072, .f32⟩
  | .hbm, ⟨31, _⟩ => ⟨S4096x3072, .bf16⟩
  | .hbm, ⟨32, _⟩ => ⟨S1024x8x344, .f32⟩
  | .hbm, ⟨33, _⟩ => ⟨S_, .i32⟩
  | .hbm, ⟨34, _⟩ => ⟨S_, .f32⟩
  | .hbm, ⟨35, _⟩ => ⟨S1024x8x384, .f32⟩
  | .hbm, ⟨36, _⟩ => ⟨S1024x3072, .f32⟩
  | .hbm, ⟨37, _⟩ => ⟨S1024x3072, .bf16⟩
  | .hbm, ⟨38, _⟩ => ⟨S4096x3072, .f32⟩
  | .hbm, ⟨39, _⟩ => ⟨S4096x3072, .bf16⟩
  | .hbm, ⟨40, _⟩ => ⟨S4096x8x344, .f32⟩
  | .hbm, ⟨41, _⟩ => ⟨S_, .i32⟩
  | .hbm, ⟨42, _⟩ => ⟨S_, .f32⟩
  | .hbm, ⟨43, _⟩ => ⟨S4096x8x384, .f32⟩
  | .hbm, ⟨44, _⟩ => ⟨S4096x3072, .f32⟩
  | .hbm, ⟨45, _⟩ => ⟨S4096x3072, .bf16⟩
  | .hbm, ⟨46, _⟩ => ⟨S4096x8x344, .f32⟩
  | .hbm, ⟨47, _⟩ => ⟨S_, .i32⟩
  | .hbm, ⟨48, _⟩ => ⟨S_, .f32⟩
  | .hbm, ⟨49, _⟩ => ⟨S4096x8x384, .f32⟩
  | .hbm, ⟨50, _⟩ => ⟨S4096x3072, .f32⟩
  | .hbm, ⟨51, _⟩ => ⟨S4096x3072, .bf16⟩
  | .hbm, ⟨52, _⟩ => ⟨S1024x4096, .bf16⟩
  | .hbm, ⟨53, _⟩ => ⟨S4096x1024, .bf16⟩
  | .hbm, ⟨54, _⟩ => ⟨S1024x4096, .bf16⟩
  | .hbm, ⟨55, _⟩ => ⟨S8x1024x384, .bf16⟩
  | .hbm, ⟨56, _⟩ => ⟨S8x1024x384, .bf16⟩
  | .hbm, ⟨57, _⟩ => ⟨S8x1024x384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S2x1024x384, .bf16⟩
  | .local _ .vmem, ⟨13, _⟩ => ⟨S2x1024x384, .bf16⟩
  | .local _ .vmem, ⟨14, _⟩ => ⟨S2x1024x384, .bf16⟩
  | .local _ .vmem, ⟨15, _⟩ => ⟨S2x1024x384, .bf16⟩
  | .local _ .vmem, ⟨16, _⟩ => ⟨S2x1024x384, .bf16⟩
  | .local _ .vmem, ⟨17, _⟩ => ⟨S2x1024x384, .bf16⟩
  | .local _ .vmem, ⟨18, _⟩ => ⟨S1024x768, .f32⟩
  | .local _ .vmem, ⟨19, _⟩ => ⟨S1024x768, .f32⟩
  | .local _ .vmem, ⟨20, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_call3_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_26 : BitVec 32 := 0#32
  let v41 : BitVec 1 := Scalar.cmpi .ne v40 c0_i32_26
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1024x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S4096x1024 : Shape := ⟨2, ![4096, 1024]⟩
abbrev S1024 : Shape := ⟨1, ![1024]⟩
abbrev S1024x2752 : Shape := ⟨2, ![1024, 2752]⟩
abbrev S4096x2752 : Shape := ⟨2, ![4096, 2752]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2752x1024 : Shape := ⟨2, ![2752, 1024]⟩
abbrev S1024x8x344 : Shape := ⟨3, ![1024, 8, 344]⟩
abbrev S1024x8x384 : Shape := ⟨3, ![1024, 8, 384]⟩
abbrev S8x1024x384 : Shape := ⟨3, ![8, 1024, 384]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S4096x2752, .f32⟩
  | .hbm, ⟨5, _⟩ => ⟨S4096x2752, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2752, .f32⟩
  | .hbm, ⟨24, _⟩ => ⟨S4096x2752, .f32⟩
  | .hbm, ⟨25, _⟩ => ⟨S_, .f32⟩
  | .hbm, ⟨26, _⟩ => ⟨S2752x1024, .f32⟩
  | .hbm, ⟨27, _⟩ => ⟨S4096x2752, .f32⟩
  | .hbm, ⟨28, _⟩ => ⟨S4096x2752, .f32⟩
  | .hbm, ⟨29, _⟩ => ⟨S_, .f32⟩
  | .hbm, ⟨30, _⟩ => ⟨S4096x2752, .f32⟩
  | .hbm, ⟨31, _⟩ => ⟨S4096x2752, .f32⟩
  | .hbm, ⟨32, _⟩ => ⟨S_, .f32⟩
  | .hbm, ⟨33, _⟩ => ⟨S4096x2752, .f32⟩
  | .hbm, ⟨34, _⟩ => ⟨S4096x2752, .f32⟩
  | .hbm, ⟨35, _⟩ => ⟨S4096x2752, .f32⟩
  | .hbm, ⟨36, _⟩ => ⟨S4096x2752, .f32⟩
  | .hbm, ⟨37, _⟩ => ⟨S4096x1024, .f32⟩
  | .hbm, ⟨38, _⟩ => ⟨S2752x1024, .f32⟩
  | .hbm, ⟨39, _⟩ => ⟨S1024x2752, .f32⟩
  | .hbm, ⟨40, _⟩ => ⟨S2752x1024, .f32⟩
  | .hbm, ⟨41, _⟩ => ⟨S1024x2752, .f32⟩
  | .hbm, ⟨42, _⟩ => ⟨S1024x2752, .f32⟩
  | .hbm, ⟨43, _⟩ => ⟨S2752x1024, .f32⟩
  | .hbm, ⟨44, _⟩ => ⟨S1024x8x344, .f32⟩
  | .hbm, ⟨45, _⟩ => ⟨S_, .i32⟩
  | .hbm, ⟨46, _⟩ => ⟨S_, .f32⟩
  | .hbm, ⟨47, _⟩ => ⟨S1024x8x384, .f32⟩
  | .hbm, ⟨48, _⟩ => ⟨S8x1024x384, .f32⟩
  | .hbm, ⟨49, _⟩ => ⟨S8x1024x384, .bf16⟩
  | .hbm, ⟨50, _⟩ => ⟨S1024x8x344, .f32⟩
  | .hbm, ⟨51, _⟩ => ⟨S_, .i32⟩
  | .hbm, ⟨52, _⟩ => ⟨S_, .f32⟩
  | .hbm, ⟨53, _⟩ => ⟨S1024x8x384, .f32⟩
  | .hbm, ⟨54, _⟩ => ⟨S8x1024x384, .f32⟩
  | .hbm, ⟨55, _⟩ => ⟨S8x1024x384, .bf16⟩
  | .hbm, ⟨56, _⟩ => ⟨S1024x2752, .f32⟩
  | .hbm, ⟨57, _⟩ => ⟨S1024x8x344, .f32⟩
  | .hbm, ⟨58, _⟩ => ⟨S_, .i32⟩
  | .hbm, ⟨59, _⟩ => ⟨S_, .f32⟩
  | .hbm, ⟨60, _⟩ => ⟨S1024x8x384, .f32⟩
  | .hbm, ⟨61, _⟩ => ⟨S8x1024x384, .f32⟩
  | .hbm, ⟨62, _⟩ => ⟨S8x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_call1_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_4 : Ref sig .tc := ⟨.hbm, 58, rfl⟩
abbrev main_call3_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1x1024 : Shape := ⟨2, ![1, 1024]⟩
abbrev S1024x4096 : Shape := ⟨2, ![1024, 4096]⟩
abbrev S512x1024 : Shape := ⟨2, ![512, 1024]⟩
abbrev S512x3072 : Shape := ⟨2, ![512, 3072]⟩
abbrev S1024x512 : Shape := ⟨2, ![1024, 512]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S4096x3072, .bf16⟩
  | .hbm, ⟨6, _⟩ => ⟨S1x1024, .f32⟩
  | .hbm, ⟨7, _⟩ => ⟨S1024x3072, .bf16⟩
  | .hbm, ⟨8, _⟩ => ⟨S4096x1024, .f32⟩
  | .hbm, ⟨9, _⟩ => ⟨S1024x4096, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x3072, .bf16⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_28 : BitVec 32 := 0#32
  let v57 : BitVec 1 := Scalar.cmpi .ne v56 c0_i32_28
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024x4096, .f32⟩
  | .hbm, ⟨54, _⟩ => ⟨S1024x4096, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x2048 : Shape := ⟨2, ![1024, 2048]⟩
abbrev S4096x512 : Shape := ⟨2, ![4096, 512]⟩
abbrev S1x1024 : Shape := ⟨2, ![1, 1024]⟩
abbrev S1024x4096 : Shape := ⟨2, ![1024, 4096]⟩
abbrev S4096x2048 : Shape := ⟨2, ![4096, 2048]⟩
abbrev S512x1024 : Shape := ⟨2, ![512, 1024]⟩
abbrev S512x512 : Shape := ⟨2, ![512, 512]⟩
abbrev S1024x512 : Shape := ⟨2, ![1024, 512]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S1x1024, .f32⟩
  | .hbm, ⟨9, _⟩ => ⟨S1024x2048, .bf16⟩
  | .hbm, ⟨10, _⟩ => ⟨S4096x1024, .f32⟩
  | .hbm, ⟨11, _⟩ => ⟨S1024x4096, .bf16⟩
  | .hbm, ⟨12, _⟩ => ⟨S1x1024, .f32⟩
  | .hbm, ⟨13, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x2048, .bf16⟩
  | .local _ .vmem, ⟨14, _⟩ => ⟨S512x1024, .f32⟩
  | .local _ .vmem, ⟨15, _⟩ => ⟨S512x1024, .f32⟩
  | .local _ .vmem, ⟨16, _⟩ => ⟨S1024x512, .bf16⟩
  | .local _ .vmem, ⟨17, _⟩ => ⟨S1024x512, .bf16⟩
  | .local _ .vmem, ⟨18, _⟩ => ⟨S1x1024, .f32⟩
  | .local _ .vmem, ⟨19, _⟩ => ⟨S512x2048, .bf16⟩
  | .local _ .vmem, ⟨20, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_40 : BitVec 32 := 0#32
  let v67 : BitVec 1 := Scalar.cmpi .ne v66 c0_i32_40
  v67

def k0_cond2 (i : grid0.Coords) : BitVec 1 :=
  let arg0 : BitVec 32 := BitVec.ofNat 32 (i 0).val
  let c0_i32 : BitVec 32 := 0#32
  let v65 : BitVec 1 := Scalar.cmpi .eq arg0 c0_i32
  let v_true : BitVec 1 := 1#1
  let v68 : BitVec 1 := Scalar.xori v65 v_true
  let v69 : BitVec 32 := Scalar.extui v68
  let c0_i32_41 : BitVec 32 := 0#32
  let v70 : BitVec 1 := Scalar.cmpi .ne v69 c0_i32_41
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S4096x1024 : Shape := ⟨2, ![4096, 1024]⟩
abbrev S1024 : Shape := ⟨1, ![1024]⟩
abbrev S1024x2048 : Shape := ⟨2, ![1024, 2048]⟩
abbrev S4096x512 : Shape := ⟨2, ![4096, 512]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S_, .f32⟩
  | .hbm, ⟨9, _⟩ => ⟨S4096x2048, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x2048, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1024x4096, .f32⟩
  | .hbm, ⟨75, _⟩ => ⟨S1024x4096, .bf16⟩
  | .hbm, ⟨76, _⟩ => ⟨S1x1024, .f32⟩
  | .hbm, ⟨77, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel8.lean ====
abbrev S32x64 : Shape := ⟨2, ![32, 64]⟩
abbrev S32 : Shape := ⟨1, ![32]⟩
abbrev S32x64x16 : Shape := ⟨3, ![32, 64, 16]⟩
abbrev S16x32x64 : Shape := ⟨3, ![16, 32, 64]⟩
abbrev S32x1 : Shape := ⟨2, ![32, 1]⟩
abbrev S1x32x64 : Shape := ⟨3, ![1, 32, 64]⟩

abbrev nBuf : Space → Nat
  | .hbm => 19
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S16x32x64, .f32⟩
  | .hbm, ⟨10, _⟩ => ⟨S16x32x64, .f32⟩
  | .hbm, ⟨11, _⟩ => ⟨S16x32x64, .f32⟩
  | .hbm, ⟨12, _⟩ => ⟨S16x32x64, .f32⟩
  | .hbm, ⟨13, _⟩ => ⟨S32x1, .f32⟩
  | .hbm, ⟨14, _⟩ => ⟨S32x64, .f32⟩
  | .hbm, ⟨15, _⟩ => ⟨S32x64, .f32⟩
  | .hbm, ⟨16, _⟩ => ⟨S32x1, .f32⟩
  | .hbm, ⟨17, _⟩ => ⟨S16x32x64, .f32⟩
  | .hbm, ⟨18, _⟩ => ⟨S16x32x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S16x32x64, .f32⟩
  | .local _ .vmem, ⟨4, _⟩ => ⟨S16x32x64, .f32⟩
  | .local _ .vmem, ⟨5, _⟩ => ⟨S32x64, .f32⟩
  | .local _ .vmem, ⟨6, _⟩ => ⟨S32x64, .f32⟩
  | .local _ .vmem, ⟨7, _⟩ => ⟨S16x32x64, .f32⟩
  | .local _ .vmem, ⟨8, _⟩ => ⟨S16x32x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S16x32x64, .f32⟩
  | .local _ .vmem, ⟨13, _⟩ => ⟨S16x32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference8Ideal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S16x32x64 : Shape := ⟨3, ![16, 32, 64]⟩

abbrev nBuf : Space → Nat
  | .hbm => 170
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64x1, .f32⟩
  | 47 => ⟨S32x64x16, .f32⟩
  | 48 => ⟨S32x64x16, .f32⟩
  | 49 => ⟨S32x64x1, .f32⟩
  | 50 => ⟨S32x64x16, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S_, .f32⟩
  | 66 => ⟨S32x64, .f32⟩
  | 67 => ⟨S32x64x1, .f32⟩
  | 68 => ⟨S_, .f32⟩
  | 69 => ⟨S32x64, .f32⟩
  | 70 => ⟨S32x64x16, .f32⟩
  | 71 => ⟨S32x64x16, .f32⟩
  | 72 => ⟨S32x64x16, .f32⟩
  | 73 => ⟨S_, .f32⟩
  | 74 => ⟨S32x64, .f32⟩
  | 75 => ⟨S32x64x1, .f32⟩
  | 76 => ⟨S_, .f32⟩
  | 77 => ⟨S32x64, .f32⟩
  | 78 => ⟨S32x64x16, .f32⟩
  | 79 => ⟨S32x64x16, .f32⟩
  | 80 => ⟨S32x64x16, .f32⟩
  | 81 => ⟨S32x64x16, .f32⟩
  | 82 => ⟨S32x64x16, .f32⟩
  | 83 => ⟨S32x64x16, .f32⟩
  | 84 => ⟨S_, .f32⟩
  | 85 => ⟨S32x64, .f32⟩
  | 86 => ⟨S32x64x1, .f32⟩
  | 87 => ⟨S_, .f32⟩
  | 88 => ⟨S32x64, .f32⟩
  | 89 => ⟨S32x64, .f32⟩
  | 90 => ⟨S32x64x16, .f32⟩
  | 91 => ⟨S32x64x16, .f32⟩
  | 92 => ⟨S32x64x16, .f32⟩
  | 93 => ⟨S32x64x16, .f32⟩
  | 94 => ⟨S_, .f32⟩
  | 95 => ⟨S32x64, .f32⟩
  | 96 => ⟨S32x64x1, .f32⟩
  | 97 => ⟨S_, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S_, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S_, .f32⟩
  | 21 => ⟨S32, .f32⟩
  | 22 => ⟨S32x1, .f32⟩
  | 23 => ⟨S32x1, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32, .f32⟩
  | 31 => ⟨S32x1, .f32⟩
  | 32 => ⟨S32x1, .f32⟩
  | 33 => ⟨S32x64, .f32⟩
  | 34 => ⟨S32x64, .f32⟩
  | 35 => ⟨S32x64, .f32⟩
  | 36 => ⟨S_, .f32⟩
  | 37 => ⟨S32, .f32⟩
  | 38 => ⟨S32, .f32⟩
  | 39 => ⟨S32x1, .f32⟩
  | 40 => ⟨S16x32x64, .f32⟩
  | 41 => ⟨S16x32x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_10 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_12 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_13 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩

abbrev nD : Nat := 1
abbrev τ : Topo := Topo.v7x

variable {F : FTy → Type} [FloatOps F]
-- ==== Kernel9.lean ====
abbrev S4096x2048 : Shape := ⟨2, ![4096, 2048]⟩
abbrev S4096x512 : Shape := ⟨2, ![4096, 512]⟩
abbrev S128x512 : Shape := ⟨2, ![128, 512]⟩
abbrev S128x64 : Shape := ⟨2, ![128, 64]⟩
abbrev S128x128 : Shape := ⟨2, ![128, 128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 2
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x512, .f32⟩
  | .local _ .vmem, ⟨0, _⟩ => ⟨S128x512, .bf16⟩
  | .local _ .vmem, ⟨1, _⟩ => ⟨S128x512, .bf16⟩
  | .local _ .vmem, ⟨2, _⟩ => ⟨S4096x512, .bf16⟩
  | .local _ .vmem, ⟨3, _⟩ => ⟨S4096x512, .bf16⟩
  | .local _ .vmem, ⟨4, _⟩ => ⟨S128x512, .f32⟩
  | .local _ .vmem, ⟨5, _⟩ => ⟨S128x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def k0_mult1 (i : grid0.Coords) (arg6 : BitVec 32) : BitVec 32 :=
  let arg1 : BitVec 32 := BitVec.ofNat 32 (i 1).val
  let v39 : BitVec 32 := Scalar.subi arg1 arg6
  let c128_i32 : BitVec 32 := 128#32
  let v40 : BitVec 32 := Scalar.muli v39 c128_i32
  v40

def k0_off1 (i : grid0.Coords) (arg6 : BitVec 32) : Fin 2 → Nat :=
  let arg1 : BitVec 32 := BitVec.ofNat 32 (i 1).val
  let v39 : BitVec 32 := Scalar.subi arg1 arg6
  let c128_i32 : BitVec 32 := 128#32
  let v40 : BitVec 32 := Scalar.muli v39 c128_i32
  let v41 : BitVec 32 := v40
  let v51 : Index := Scalar.indexCast v41
  let c0_41 : Index := 0#32
  ![v51.toNat, 0]
def k0_off2 (i : grid0.Coords) (arg6 : BitVec 32) : Fin 2 → Nat :=
  let arg1 : BitVec 32 := BitVec.ofNat 32 (i 1).val
  let v39 : BitVec 32 := Scalar.subi arg1 arg6
  let c128_i32 : BitVec 32 := 128#32
  let v40 : BitVec 32 := Scalar.muli v39 c128_i32
  let v41 : BitVec 32 := v40
  let v73 : Index := Scalar.indexCast v41
  let c64_50 : Index := 64#32
  ![v73.toNat, 64]
def k0_off3 (i : grid0.Coords) (arg6 : BitVec 32) : Fin 2 → Nat :=
  let arg1 : BitVec 32 := BitVec.ofNat 32 (i 1).val
  let v39 : BitVec 32 := Scalar.subi arg1 arg6
  let c128_i32 : BitVec 32 := 128#32
  let v40 : BitVec 32 := Scalar.muli v39 c128_i32
  let v41 : BitVec 32 := v40
  let v95 : Index := Scalar.indexCast v41
  let c128_59 : Index := 128#32
  ![v95.toNat, 128]
def k0_off4 (i : grid0.Coords) (arg6 : BitVec 32) : Fin 2 → Nat :=
  let arg1 : BitVec 32 := BitVec.ofNat 32 (i 1).val
  let v39 : BitVec 32 := Scalar.subi arg1 arg6
  let c128_i32 : BitVec 32 := 128#32
  let v40 : BitVec 32 := Scalar.muli v39 c128_i32
  let v41 : BitVec 32 := v40
  let v117 : Index := Scalar.indexCast v41
  let c192_68 : Index := 192#32
  ![v117.toNat, 192]
def k0_off5 (i : grid0.Coords) (arg6 : BitVec 32) : Fin 2 → Nat :=
  let arg1 : BitVec 32 := BitVec.ofNat 32 (i 1).val
  let v39 : BitVec 32 := Scalar.subi arg1 arg6
  let c128_i32 : BitVec 32 := 128#32
  let v40 : BitVec 32 := Scalar.muli v39 c128_i32
  let v41 : BitVec 32 := v40
  let v139 : Index := Scalar.indexCast v41
  let c256_77 : Index := 256#32
  ![v139.toNat, 256]
def k0_off6 (i : grid0.Coords) (arg6 : BitVec 32) : Fin 2 → Nat :=
  let arg1 : BitVec 32 := BitVec.ofNat 32 (i 1).val
  let v39 : BitVec 32 := Scalar.subi arg1 arg6
  let c128_i32 : BitVec 32 := 128#32
  let v40 : BitVec 32 := Scalar.muli v39 c128_i32
  let v41 : BitVec 32 := v40
  let v161 : Index := Scalar.indexCast v41
  let c320_86 : Index := 320#32
  ![v161.toNat, 320]
def k0_off7 (i : grid0.Coords) (arg6 : BitVec 32) : Fin 2 → Nat :=
  let arg1 : BitVec 32 := BitVec.ofNat 32 (i 1).val
  let v39 : BitVec 32 := Scalar.subi arg1 arg6
  let c128_i32 : BitVec 32 := 128#32
  let v40 : BitVec 32 := Scalar.muli v39 c128_i32
  let v41 : BitVec 32 := v40
  let v183 : Index := Scalar.indexCast v41
  let c384_95 : Index := 384#32
  ![v183.toNat, 384]
def k0_off8 (i : grid0.Coords) (arg6 : BitVec 32) : Fin 2 → Nat :=
  let arg1 : BitVec 32 := BitVec.ofNat 32 (i 1).val
  let v39 : BitVec 32 := Scalar.subi arg1 arg6
  let c128_i32 : BitVec 32 := 128#32
  let v40 : BitVec 32 := Scalar.muli v39 c128_i32
  let v41 : BitVec 32 := v40
  let v205 : Index := Scalar.indexCast v41
  let c448_104 : Index := 448#32
  ![v205.toNat, 448]

def k0_chk1 (i : grid0.Coords) (arg6 : BitVec 32) : Prop :=
  (128 ∣ (k0_mult1 i arg6).toNat) ∧
  (∀ a, (k0_off1 i arg6) a + S128x64.size a ≤ S4096x512.size a) ∧
  (∀ a, (k0_off2 i arg6) a + S128x64.size a ≤ S4096x512.size a) ∧
  (∀ a, (k0_off3 i arg6) a + S128x64.size a ≤ S4096x512.size a) ∧
  (∀ a, (k0_off4 i arg6) a + S128x64.size a ≤ S4096x512.size a) ∧
  (∀ a, (k0_off5 i arg6) a + S128x64.size a ≤ S4096x512.size a) ∧
  (∀ a, (k0_off6 i arg6) a + S128x64.size a ≤ S4096x512.size a) ∧
  (∀ a, (k0_off7 i arg6) a + S128x64.size a ≤ S4096x512.size a) ∧
  (∀ a, (k0_off8 i arg6) a + S128x64.size a ≤ S4096x512.size a)
theorem k0_mult1_dvd : ∀ (i : grid0.Coords) (arg6 : BitVec 32) (k0_hw1 : k0_chk1 i arg6), 128 ∣ (k0_mult1 i arg6).toNat := fun i arg6 k0_hw1 => k0_hw1.1
theorem k0_off1_inb : ∀ (i : grid0.Coords) (arg6 : BitVec 32) (k0_hw1 : k0_chk1 i arg6), ∀ a, (k0_off1 i arg6) a + S128x64.size a ≤ S4096x512.size a := fun i arg6 k0_hw1 => k0_hw1.2.1
theorem k0_off2_inb : ∀ (i : grid0.Coords) (arg6 : BitVec 32) (k0_hw1 : k0_chk1 i arg6), ∀ a, (k0_off2 i arg6) a + S128x64.size a ≤ S4096x512.size a := fun i arg6 k0_hw1 => k0_hw1.2.2.1
theorem k0_off3_inb : ∀ (i : grid0.Coords) (arg6 : BitVec 32) (k0_hw1 : k0_chk1 i arg6), ∀ a, (k0_off3 i arg6) a + S128x64.size a ≤ S4096x512.size a := fun i arg6 k0_hw1 => k0_hw1.2.2.2.1
theorem k0_off4_inb : ∀ (i : grid0.Coords) (arg6 : BitVec 32) (k0_hw1 : k0_chk1 i arg6), ∀ a, (k0_off4 i arg6) a + S128x64.size a ≤ S4096x512.size a := fun i arg6 k0_hw1 => k0_hw1.2.2.2.2.1
theorem k0_off5_inb : ∀ (i : grid0.Coords) (arg6 : BitVec 32) (k0_hw1 : k0_chk1 i arg6), ∀ a, (k0_off5 i arg6) a + S128x64.size a ≤ S4096x512.size a := fun i arg6 k0_hw1 => k0_hw1.2.2.2.2.2.1
theorem k0_off6_inb : ∀ (i : grid0.Coords) (arg6 : BitVec 32) (k0_hw1 : k0_chk1 i arg6), ∀ a, (k0_off6 i arg6) a + S128x64.size a ≤ S4096x512.size a := fun i arg6 k0_hw1 => k0_hw1.2.2.2.2.2.2.1
theorem k0_off7_inb : ∀ (i : grid0.Coords) (arg6 : BitVec 32) (k0_hw1 : k0_chk1 i arg6), ∀ a, (k0_off7 i arg6) a + S128x64.size a ≤ S4096x512.size a := fun i arg6 k0_hw1 => k0_hw1.2.2.2.2.2.2.2.1
theorem k0_off8_inb : ∀ (i : grid0.Coords) (arg6 : BitVec 32) (k0_hw1 : k0_chk1 i arg6), ∀ a, (k0_off8 i arg6) a + S128x64.size a ≤ S4096x512.size a := fun i arg6 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel9Ideal.lean ====
variable {F : FTy → Type} [FloatOps F] [Named F]
def κ : String → Option EReal := fun
  | "dead" => some ⊥
  | _ => none
-- ==== Reference9Ideal.lean ====
abbrev S4096x2048 : Shape := ⟨2, ![4096, 2048]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x8x64, .f32⟩
  | .hbm, ⟨8, _⟩ => ⟨S4096x8x64, .f32⟩
  | .hbm, ⟨9, _⟩ => ⟨S4096x8x64, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S_, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .i1⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S_, .f32⟩
  | .hbm, ⟨67, _⟩ => ⟨S8x4096x4096, .i1⟩
  | .hbm, ⟨68, _⟩ => ⟨S8x4096x4096, .f32⟩
  | .hbm, ⟨69, _⟩ => ⟨S8x4096x4096, .f32⟩
  | .hbm, ⟨70, _⟩ => ⟨S8x4096x4096, .bf16⟩
  | .hbm, ⟨71, _⟩ => ⟨S8x64x4096, .f32⟩
  | .hbm, ⟨72, _⟩ => ⟨S4096x8x64, .f32⟩
  | .hbm, ⟨73, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x3072 : Shape := ⟨2, ![1024, 3072]⟩
abbrev S1x1024 : Shape := ⟨2, ![1, 1024]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3072, .f32⟩
  | .hbm, ⟨20, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S32x64 : Shape := ⟨2, ![32, 64]⟩
abbrev S32 : Shape := ⟨1, ![32]⟩
abbrev S32x64x16 : Shape := ⟨3, ![32, 64, 16]⟩
abbrev S16x32x64 : Shape := ⟨3, ![16, 32, 64]⟩
abbrev S32x1 : Shape := ⟨2, ![32, 1]⟩
abbrev S8x32x64 : Shape := ⟨3, ![8, 32, 64]⟩
abbrev S1x32x64 : Shape := ⟨3, ![1, 32, 64]⟩

abbrev nBuf : Space → Nat
  | .hbm => 12
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S16x32x64, .f32⟩
  | .hbm, ⟨6, _⟩ => ⟨S16x32x64, .f32⟩
  | .hbm, ⟨7, _⟩ => ⟨S32x1, .f32⟩
  | .hbm, ⟨8, _⟩ => ⟨S8x32x64, .f32⟩
  | .hbm, ⟨9, _⟩ => ⟨S8x32x64, .f32⟩
  | .hbm, ⟨10, _⟩ => ⟨S16x32x64, .f32⟩
  | .hbm, ⟨11, _⟩ => ⟨S16x32x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S16x32x64, .f32⟩
  | .local _ .vmem, ⟨4, _⟩ => ⟨S16x32x64, .f32⟩
  | .local _ .vmem, ⟨5, _⟩ => ⟨S8x32x64, .f32⟩
  | .local _ .vmem, ⟨6, _⟩ => ⟨S8x32x64, .f32⟩
  | .local _ .vmem, ⟨7, _⟩ => ⟨S16x32x64, .f32⟩
  | .local _ .vmem, ⟨8, _⟩ => ⟨S16x32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference11Ideal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S1x32x64 : Shape := ⟨3, ![1, 32, 64]⟩
abbrev S8x32x64 : Shape := ⟨3, ![8, 32, 64]⟩
abbrev S16x32x64 : Shape := ⟨3, ![16, 32, 64]⟩

abbrev nBuf : Space → Nat
  | .hbm => 108
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64x1, .f32⟩
  | .hbm, ⟨33, _⟩ => ⟨S32x64x16, .f32⟩
  | .hbm, ⟨34, _⟩ => ⟨S32x64x16, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x1, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x64, .f32⟩
  | .hbm, ⟨47, _⟩ => ⟨S32x64, .f32⟩
  | .hbm, ⟨48, _⟩ => ⟨S32x64, .f32⟩
  | .hbm, ⟨49, _⟩ => ⟨S32x64, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x64, .f32⟩
  | .hbm, ⟨61, _⟩ => ⟨S32x64, .f32⟩
  | .hbm, ⟨62, _⟩ => ⟨S32x64, .f32⟩
  | .hbm, ⟨63, _⟩ => ⟨S32x64, .f32⟩
  | .hbm, ⟨64, _⟩ => ⟨S32x64, .f32⟩
  | .hbm, ⟨65, _⟩ => ⟨S32x64, .f32⟩
  | .hbm, ⟨66, _⟩ => ⟨S32x64, .f32⟩
  | .hbm, ⟨67, _⟩ => ⟨S32x64, .f32⟩
  | .hbm, ⟨68, _⟩ => ⟨S32x64, .f32⟩
  | .hbm, ⟨69, _⟩ => ⟨S32x64, .f32⟩
  | .hbm, ⟨70, _⟩ => ⟨S32x64, .f32⟩
  | .hbm, ⟨71, _⟩ => ⟨S32x64, .f32⟩
  | .hbm, ⟨72, _⟩ => ⟨S32x64, .f32⟩
  | .hbm, ⟨73, _⟩ => ⟨S32x64, .f32⟩
  | .hbm, ⟨74, _⟩ => ⟨S32x64, .f32⟩
  | .hbm, ⟨75, _⟩ => ⟨S32x64, .f32⟩
  | .hbm, ⟨76, _⟩ => ⟨S32x64, .f32⟩
  | .hbm, ⟨77, _⟩ => ⟨S32x64, .f32⟩
  | .hbm, ⟨78, _⟩ => ⟨S32x64, .f32⟩
  | .hbm, ⟨79, _⟩ => ⟨S32x64, .f32⟩
  | .hbm, ⟨80, _⟩ => ⟨S32x64, .f32⟩
  | .hbm, ⟨81, _⟩ => ⟨S32x64, .f32⟩
  | .hbm, ⟨82, _⟩ => ⟨S32x64, .f32⟩
  | .hbm, ⟨83, _⟩ => ⟨S32x64, .f32⟩
  | .hbm, ⟨84, _⟩ => ⟨S32x64, .f32⟩
  | .hbm, ⟨85, _⟩ => ⟨S32x64, .f32⟩
  | .hbm, ⟨86, _⟩ => ⟨S32x64, .f32⟩
  | .hbm, ⟨87, _⟩ => ⟨S32x64, .f32⟩
  | .hbm, ⟨88, _⟩ => ⟨S1x32x64, .f32⟩
  | .hbm, ⟨89, _⟩ => ⟨S1x32x64, .f32⟩
  | .hbm, ⟨90, _⟩ => ⟨S1x32x64, .f32⟩
  | .hbm, ⟨91, _⟩ => ⟨S1x32x64, .f32⟩
  | .hbm, ⟨92, _⟩ => ⟨S1x32x64, .f32⟩
  | .hbm, ⟨93, _⟩ => ⟨S1x32x64, .f32⟩
  | .hbm, ⟨94, _⟩ => ⟨S1x32x64, .f32⟩
  | .hbm, ⟨95, _⟩ => ⟨S1x32x64, .f32⟩
  | .hbm, ⟨96, _⟩ => ⟨S8x32x64, .f32⟩
  | .hbm, ⟨97, _⟩ => ⟨S1x32x64, .f32⟩
  | .hbm, ⟨98, _⟩ => ⟨S1x32x64, .f32⟩
  | .hbm, ⟨99, _⟩ => ⟨S1x32x64, .f32⟩
  | .hbm, ⟨100, _⟩ => ⟨S1x32x64, .f32⟩
  | .hbm, ⟨101, _⟩ => ⟨S1x32x64, .f32⟩
  | .hbm, ⟨102, _⟩ => ⟨S1x32x64, .f32⟩
  | .hbm, ⟨103, _⟩ => ⟨S1x32x64, .f32⟩
  | .hbm, ⟨104, _⟩ => ⟨S1x32x64, .f32⟩
  | .hbm, ⟨105, _⟩ => ⟨S8x32x64, .f32⟩
  | .hbm, ⟨106, _⟩ => ⟨S16x32x64, .f32⟩
  | .hbm, ⟨107, _⟩ => ⟨S16x32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x2752 : Shape := ⟨2, ![1024, 2752]⟩
abbrev S2752x1024 : Shape := ⟨2, ![2752, 1024]⟩
abbrev S1024x8x344 : Shape := ⟨3, ![1024, 8, 344]⟩
abbrev S_ : Shape := ⟨0, ![]⟩
abbrev S1024x8x384 : Shape := ⟨3, ![1024, 8, 384]⟩
abbrev S1024x3072 : Shape := ⟨2, ![1024, 3072]⟩
abbrev S8x344x1024 : Shape := ⟨3, ![8, 344, 1024]⟩
abbrev S8x384x1024 : Shape := ⟨3, ![8, 384, 1024]⟩
abbrev S3072x1024 : Shape := ⟨2, ![3072, 1024]⟩
abbrev S1x3072x1024 : Shape := ⟨3, ![1, 3072, 1024]⟩
abbrev S1x1024 : Shape := ⟨2, ![1, 1024]⟩
abbrev S1x1024x3072 : Shape := ⟨3, ![1, 1024, 3072]⟩
abbrev S2x1024x3072 : Shape := ⟨3, ![2, 1024, 3072]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 31
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S1024x8x344, .f32⟩
  | .hbm, ⟨6, _⟩ => ⟨S_, .i32⟩
  | .hbm, ⟨7, _⟩ => ⟨S_, .f32⟩
  | .hbm, ⟨8, _⟩ => ⟨S1024x8x384, .f32⟩
  | .hbm, ⟨9, _⟩ => ⟨S1024x3072, .f32⟩
  | .hbm, ⟨10, _⟩ => ⟨S1024x3072, .bf16⟩
  | .hbm, ⟨11, _⟩ => ⟨S1024x8x344, .f32⟩
  | .hbm, ⟨12, _⟩ => ⟨S_, .i32⟩
  | .hbm, ⟨13, _⟩ => ⟨S_, .f32⟩
  | .hbm, ⟨14, _⟩ => ⟨S1024x8x384, .f32⟩
  | .hbm, ⟨15, _⟩ => ⟨S1024x3072, .f32⟩
  | .hbm, ⟨16, _⟩ => ⟨S1024x3072, .bf16⟩
  | .hbm, ⟨17, _⟩ => ⟨S8x344x1024, .f32⟩
  | .hbm, ⟨18, _⟩ => ⟨S_, .i32⟩
  | .hbm, ⟨19, _⟩ => ⟨S_, .f32⟩
  | .hbm, ⟨20, _⟩ => ⟨S8x384x1024, .f32⟩
  | .hbm, ⟨21, _⟩ => ⟨S3072x1024, .f32⟩
  | .hbm, ⟨22, _⟩ => ⟨S3072x1024, .bf16⟩
  | .hbm, ⟨23, _⟩ => ⟨S1x3072x1024, .bf16⟩
  | .hbm, ⟨24, _⟩ => ⟨S1x1024, .f32⟩
  | .hbm, ⟨25, _⟩ => ⟨S1x1024x3072, .bf16⟩
  | .hbm, ⟨26, _⟩ => ⟨S1x1024x3072, .bf16⟩
  | .hbm, ⟨27, _⟩ => ⟨S2x1024x3072, .bf16⟩
  | .hbm, ⟨28, _⟩ => ⟨S4096x1024, .f32⟩
  | .hbm, ⟨29, _⟩ => ⟨S4096x3072, .bf16⟩
  | .hbm, ⟨30, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x1024x3072, .bf16⟩
  | .local _ .vmem, ⟨5, _⟩ => ⟨S1x3072x1024, .bf16⟩
  | .local _ .vmem, ⟨6, _⟩ => ⟨S512x1024, .f32⟩
  | .local _ .vmem, ⟨7, _⟩ => ⟨S512x1024, .f32⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4096x1024 : Shape := ⟨2, ![4096, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2752 : Shape := ⟨2, ![4096, 2752]⟩
abbrev S4096x8x344 : Shape := ⟨3, ![4096, 8, 344]⟩
abbrev S4096x8x384 : Shape := ⟨3, ![4096, 8, 384]⟩
abbrev S4096x3072 : Shape := ⟨2, ![4096, 3072]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2752, .f32⟩
  | .hbm, ⟨22, _⟩ => ⟨S4096x2752, .f32⟩
  | .hbm, ⟨23, _⟩ => ⟨S4096x2752, .f32⟩
  | .hbm, ⟨24, _⟩ => ⟨S4096x2752, .f32⟩
  | .hbm, ⟨25, _⟩ => ⟨S_, .f32⟩
  | .hbm, ⟨26, _⟩ => ⟨S4096x2752, .f32⟩
  | .hbm, ⟨27, _⟩ => ⟨S4096x2752, .f32⟩
  | .hbm, ⟨28, _⟩ => ⟨S_, .f32⟩
  | .hbm, ⟨29, _⟩ => ⟨S4096x2752, .f32⟩
  | .hbm, ⟨30, _⟩ => ⟨S4096x2752, .f32⟩
  | .hbm, ⟨31, _⟩ => ⟨S4096x2752, .f32⟩
  | .hbm, ⟨32, _⟩ => ⟨S4096x2752, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x8x344, .f32⟩
  | .hbm, ⟨39, _⟩ => ⟨S_, .i32⟩
  | .hbm, ⟨40, _⟩ => ⟨S_, .f32⟩
  | .hbm, ⟨41, _⟩ => ⟨S4096x8x384, .f32⟩
  | .hbm, ⟨42, _⟩ => ⟨S4096x3072, .f32⟩
  | .hbm, ⟨43, _⟩ => ⟨S4096x3072, .bf16⟩
  | .hbm, ⟨44, _⟩ => ⟨S4096x8x344, .f32⟩
  | .hbm, ⟨45, _⟩ => ⟨S_, .i32⟩
  | .hbm, ⟨46, _⟩ => ⟨S_, .f32⟩
  | .hbm, ⟨47, _⟩ => ⟨S4096x8x384, .f32⟩
  | .hbm, ⟨48, _⟩ => ⟨S4096x3072, .f32⟩
  | .hbm, ⟨49, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call1_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Kernel13.lean ====
abbrev S4096x1024 : Shape := ⟨2, ![4096, 1024]⟩
abbrev S4096x3072 : Shape := ⟨2, ![4096, 3072]⟩
abbrev S3x1024 : Shape := ⟨2, ![3, 1024]⟩
abbrev S1024x1024 : Shape := ⟨2, ![1024, 1024]⟩
abbrev S1x1024x1024 : Shape := ⟨3, ![1, 1024, 1024]⟩
abbrev S2x1024x1024 : Shape := ⟨3, ![2, 1024, 1024]⟩
abbrev S_ : Shape := ⟨0, ![]⟩
abbrev S8x1024 : Shape := ⟨2, ![8, 1024]⟩
abbrev S256x1024 : Shape := ⟨2, ![256, 1024]⟩
abbrev S256x3072 : Shape := ⟨2, ![256, 3072]⟩
abbrev S264x1024 : Shape := ⟨2, ![264, 1024]⟩
abbrev S1x1024 : Shape := ⟨2, ![1, 1024]⟩

abbrev nBuf : Space → Nat
  | .hbm => 14
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3x1024, .f32⟩
  | .hbm, ⟨3, _⟩ => ⟨S1024x1024, .f32⟩
  | .hbm, ⟨4, _⟩ => ⟨S1024x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S2x1024x1024, .bf16⟩
  | .hbm, ⟨9, _⟩ => ⟨S4096x3072, .bf16⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .bf16⟩
  | .local _ .vmem, ⟨3, _⟩ => ⟨S256x3072, .bf16⟩
  | .local _ .vmem, ⟨4, _⟩ => ⟨S8x1024, .f32⟩
  | .local _ .vmem, ⟨5, _⟩ => ⟨S1x1024x1024, .bf16⟩
  | .local _ .vmem, ⟨6, _⟩ => ⟨S256x1024, .f32⟩
  | .local _ .vmem, ⟨7, _⟩ => ⟨S256x1024, .f32⟩
  | .local _ .vmem, ⟨8, _⟩ => ⟨S264x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4096x1024 : Shape := ⟨2, ![4096, 1024]⟩
abbrev S4096x3072 : Shape := ⟨2, ![4096, 3072]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S4094x1024 : Shape := ⟨2, ![4094, 1024]⟩
abbrev S4095x1024 : Shape := ⟨2, ![4095, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S2x1024, .f32⟩
  | .hbm, ⟨14, _⟩ => ⟨S4094x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S4095x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel14.lean ====
abbrev S4096x512 : Shape := ⟨2, ![4096, 512]⟩
abbrev S4096x2048 : Shape := ⟨2, ![4096, 2048]⟩
abbrev S4x128x512 : Shape := ⟨3, ![4, 128, 512]⟩
abbrev S4x512x128 : Shape := ⟨3, ![4, 512, 128]⟩
abbrev S1x512 : Shape := ⟨2, ![1, 512]⟩
abbrev S512x512 : Shape := ⟨2, ![512, 512]⟩
abbrev S8x8x2048 : Shape := ⟨3, ![8, 8, 2048]⟩
abbrev S1x2048 : Shape := ⟨2, ![1, 2048]⟩
abbrev S256x512 : Shape := ⟨2, ![256, 512]⟩
abbrev S256x2048 : Shape := ⟨2, ![256, 2048]⟩
abbrev S8x2048 : Shape := ⟨2, ![8, 2048]⟩
abbrev S512 : Shape := ⟨1, ![512]⟩
abbrev S256x128 : Shape := ⟨2, ![256, 128]⟩
abbrev S1x512x128 : Shape := ⟨3, ![1, 512, 128]⟩
abbrev S512x128 : Shape := ⟨2, ![512, 128]⟩
abbrev S8x256 : Shape := ⟨2, ![8, 256]⟩
abbrev S1x8x256 : Shape := ⟨3, ![1, 8, 256]⟩
abbrev S1x256 : Shape := ⟨2, ![1, 256]⟩
abbrev S1x128x512 : Shape := ⟨3, ![1, 128, 512]⟩
abbrev S128x512 : Shape := ⟨2, ![128, 512]⟩
abbrev S2048 : Shape := ⟨1, ![2048]⟩

abbrev nBuf : Space → Nat
  | .hbm => 21
  | .vmem => 35
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4x128x512, .bf16⟩
  | .hbm, ⟨6, _⟩ => ⟨S4x128x512, .bf16⟩
  | .hbm, ⟨7, _⟩ => ⟨S4x512x128, .bf16⟩
  | .hbm, ⟨8, _⟩ => ⟨S4x512x128, .bf16⟩
  | .hbm, ⟨9, _⟩ => ⟨S1x512, .f32⟩
  | .hbm, ⟨10, _⟩ => ⟨S512x512, .bf16⟩
  | .hbm, ⟨11, _⟩ => ⟨S8x8x2048, .f32⟩
  | .hbm, ⟨12, _⟩ => ⟨S4096x512, .f32⟩
  | .hbm, ⟨13, _⟩ => ⟨S4x128x512, .f32⟩
  | .hbm, ⟨14, _⟩ => ⟨S4x128x512, .f32⟩
  | .hbm, ⟨15, _⟩ => ⟨S4x512x128, .f32⟩
  | .hbm, ⟨16, _⟩ => ⟨S4x512x128, .f32⟩
  | .hbm, ⟨17, _⟩ => ⟨S512x512, .f32⟩
  | .hbm, ⟨18, _⟩ => ⟨S1x512, .f32⟩
  | .hbm, ⟨19, _⟩ => ⟨S1x2048, .f32⟩
  | .hbm, ⟨20, _⟩ => ⟨S1x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S4x128x512, .bf16⟩
  | .local _ .vmem, ⟨11, _⟩ => ⟨S4x128x512, .bf16⟩
  | .local _ .vmem, ⟨12, _⟩ => ⟨S4x512x128, .bf16⟩
  | .local _ .vmem, ⟨13, _⟩ => ⟨S4x512x128, .bf16⟩
  | .local _ .vmem, ⟨14, _⟩ => ⟨S1x512, .f32⟩
  | .local _ .vmem, ⟨15, _⟩ => ⟨S512x512, .bf16⟩
  | .local _ .vmem, ⟨16, _⟩ => ⟨S8x8x2048, .f32⟩
  | .local _ .vmem, ⟨17, _⟩ => ⟨S256x512, .f32⟩
  | .local _ .vmem, ⟨18, _⟩ => ⟨S256x512, .f32⟩
  | .local _ .vmem, ⟨19, _⟩ => ⟨S4x128x512, .f32⟩
  | .local _ .vmem, ⟨20, _⟩ => ⟨S4x128x512, .f32⟩
  | .local _ .vmem, ⟨21, _⟩ => ⟨S4x512x128, .f32⟩
  | .local _ .vmem, ⟨22, _⟩ => ⟨S4x512x128, .f32⟩
  | .local _ .vmem, ⟨23, _⟩ => ⟨S512x512, .f32⟩
  | .local _ .vmem, ⟨24, _⟩ => ⟨S1x512, .f32⟩
  | .local _ .vmem, ⟨25, _⟩ => ⟨S1x2048, .f32⟩
  | .local _ .vmem, ⟨26, _⟩ => ⟨S1x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S8x2048, .f32⟩
  | .local _ .vmem, ⟨32, _⟩ => ⟨S8x2048, .f32⟩
  | .local _ .vmem, ⟨33, _⟩ => ⟨S8x2048, .f32⟩
  | .local _ .vmem, ⟨34, _⟩ => ⟨S8x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_200 : BitVec 32 := 0#32
  let c32_i32 : BitVec 32 := 32#32
  let v243 : BitVec 32 := Scalar.addi c0_i32_200 c32_i32
  let c1_i32 : BitVec 32 := 1#32
  ⟨c0_i32_200, v243, c1_i32⟩
def k0_mult1 (k0_t1 : Fin k0_t1_loop.trips) : BitVec 32 :=
  let c31_i32 : BitVec 32 := 31#32
  let c0_i32_200 : BitVec 32 := 0#32
  let c1_i32 : BitVec 32 := 1#32
  let arg30 : BitVec 32 := Scf.iv c0_i32_200 c1_i32 k0_t1
  let v593 : BitVec 32 := Scalar.subi c31_i32 arg30
  let c8_i32 : BitVec 32 := 8#32
  let v594 : BitVec 32 := Scalar.muli v593 c8_i32
  v594
def k0_off1 (k0_t1 : Fin k0_t1_loop.trips) : Fin 2 → Nat :=
  let c31_i32 : BitVec 32 := 31#32
  let c0_i32_200 : BitVec 32 := 0#32
  let c1_i32 : BitVec 32 := 1#32
  let arg30 : BitVec 32 := Scf.iv c0_i32_200 c1_i32 k0_t1
  let v593 : BitVec 32 := Scalar.subi c31_i32 arg30
  let c8_i32 : BitVec 32 := 8#32
  let v594 : BitVec 32 := Scalar.muli v593 c8_i32
  let v595 : BitVec 32 := v594
  let v596 : Index := Scalar.indexCast v595
  let c0_580 : Index := 0#32
  ![v596.toNat, 0]
def k0_off2 (k0_t1 : Fin k0_t1_loop.trips) : Fin 2 → Nat :=
  let c31_i32 : BitVec 32 := 31#32
  let c0_i32_200 : BitVec 32 := 0#32
  let c1_i32 : BitVec 32 := 1#32
  let arg30 : BitVec 32 := Scf.iv c0_i32_200 c1_i32 k0_t1
  let v593 : BitVec 32 := Scalar.subi c31_i32 arg30
  let c8_i32 : BitVec 32 := 8#32
  let v594 : BitVec 32 := Scalar.muli v593 c8_i32
  let v595 : BitVec 32 := v594
  let v598 : Index := Scalar.indexCast v595
  let c256_581 : Index := 256#32
  ![v598.toNat, 256]
@[reducible] def k0_t2_loop : Scf.Loop 32 :=
  let c0_i32_281 : BitVec 32 := 0#32
  let c32_i32_282 : BitVec 32 := 32#32
  let v309 : BitVec 32 := Scalar.addi c0_i32_281 c32_i32_282
  let c1_i32_283 : BitVec 32 := 1#32
  ⟨c0_i32_281, v309, c1_i32_283⟩
def k0_mult2 (k0_t2 : Fin k0_t2_loop.trips) : BitVec 32 :=
  let c31_i32 : BitVec 32 := 31#32
  let c0_i32_281 : BitVec 32 := 0#32
  let c1_i32_283 : BitVec 32 := 1#32
  let arg30 : BitVec 32 := Scf.iv c0_i32_281 c1_i32_283 k0_t2
  let v593 : BitVec 32 := Scalar.subi c31_i32 arg30
  let c8_i32 : BitVec 32 := 8#32
  let v594 : BitVec 32 := Scalar.muli v593 c8_i32
  v594
def k0_off3 (k0_t2 : Fin k0_t2_loop.trips) : Fin 2 → Nat :=
  let c31_i32 : BitVec 32 := 31#32
  let c0_i32_281 : BitVec 32 := 0#32
  let c1_i32_283 : BitVec 32 := 1#32
  let arg30 : BitVec 32 := Scf.iv c0_i32_281 c1_i32_283 k0_t2
  let v593 : BitVec 32 := Scalar.subi c31_i32 arg30
  let c8_i32 : BitVec 32 := 8#32
  let v594 : BitVec 32 := Scalar.muli v593 c8_i32
  let v595 : BitVec 32 := v594
  let v596 : Index := Scalar.indexCast v595
  let c512_580 : Index := 512#32
  ![v596.toNat, 512]
def k0_off4 (k0_t2 : Fin k0_t2_loop.trips) : Fin 2 → Nat :=
  let c31_i32 : BitVec 32 := 31#32
  let c0_i32_281 : BitVec 32 := 0#32
  let c1_i32_283 : BitVec 32 := 1#32
  let arg30 : BitVec 32 := Scf.iv c0_i32_281 c1_i32_283 k0_t2
  let v593 : BitVec 32 := Scalar.subi c31_i32 arg30
  let c8_i32 : BitVec 32 := 8#32
  let v594 : BitVec 32 := Scalar.muli v593 c8_i32
  let v595 : BitVec 32 := v594
  let v598 : Index := Scalar.indexCast v595
  let c768_581 : Index := 768#32
  ![v598.toNat, 768]
@[reducible] def k0_t3_loop : Scf.Loop 32 :=
  let c0_i32_364 : BitVec 32 := 0#32
  let c32_i32_365 : BitVec 32 := 32#32
  let v375 : BitVec 32 := Scalar.addi c0_i32_364 c32_i32_365
  let c1_i32_366 : BitVec 32 := 1#32
  ⟨c0_i32_364, v375, c1_i32_366⟩
def k0_mult3 (k0_t3 : Fin k0_t3_loop.trips) : BitVec 32 :=
  let c31_i32 : BitVec 32 := 31#32
  let c0_i32_364 : BitVec 32 := 0#32
  let c1_i32_366 : BitVec 32 := 1#32
  let arg30 : BitVec 32 := Scf.iv c0_i32_364 c1_i32_366 k0_t3
  let v593 : BitVec 32 := Scalar.subi c31_i32 arg30
  let c8_i32 : BitVec 32 := 8#32
  let v594 : BitVec 32 := Scalar.muli v593 c8_i32
  v594
def k0_off5 (k0_t3 : Fin k0_t3_loop.trips) : Fin 2 → Nat :=
  let c31_i32 : BitVec 32 := 31#32
  let c0_i32_364 : BitVec 32 := 0#32
  let c1_i32_366 : BitVec 32 := 1#32
  let arg30 : BitVec 32 := Scf.iv c0_i32_364 c1_i32_366 k0_t3
  let v593 : BitVec 32 := Scalar.subi c31_i32 arg30
  let c8_i32 : BitVec 32 := 8#32
  let v594 : BitVec 32 := Scalar.muli v593 c8_i32
  let v595 : BitVec 32 := v594
  let v596 : Index := Scalar.indexCast v595
  let c1024_580 : Index := 1024#32
  ![v596.toNat, 1024]
def k0_off6 (k0_t3 : Fin k0_t3_loop.trips) : Fin 2 → Nat :=
  let c31_i32 : BitVec 32 := 31#32
  let c0_i32_364 : BitVec 32 := 0#32
  let c1_i32_366 : BitVec 32 := 1#32
  let arg30 : BitVec 32 := Scf.iv c0_i32_364 c1_i32_366 k0_t3
  let v593 : BitVec 32 := Scalar.subi c31_i32 arg30
  let c8_i32 : BitVec 32 := 8#32
  let v594 : BitVec 32 := Scalar.muli v593 c8_i32
  let v595 : BitVec 32 := v594
  let v598 : Index := Scalar.indexCast v595
  let c1280_581 : Index := 1280#32
  ![v598.toNat, 1280]
@[reducible] def k0_t4_loop : Scf.Loop 32 :=
  let c0_i32_447 : BitVec 32 := 0#32
  let c32_i32_448 : BitVec 32 := 32#32
  let v441 : BitVec 32 := Scalar.addi c0_i32_447 c32_i32_448
  let c1_i32_449 : BitVec 32 := 1#32
  ⟨c0_i32_447, v441, c1_i32_449⟩
def k0_mult4 (k0_t4 : Fin k0_t4_loop.trips) : BitVec 32 :=
  let c31_i32 : BitVec 32 := 31#32
  let c0_i32_447 : BitVec 32 := 0#32
  let c1_i32_449 : BitVec 32 := 1#32
  let arg30 : BitVec 32 := Scf.iv c0_i32_447 c1_i32_449 k0_t4
  let v593 : BitVec 32 := Scalar.subi c31_i32 arg30
  let c8_i32 : BitVec 32 := 8#32
  let v594 : BitVec 32 := Scalar.muli v593 c8_i32
  v594
def k0_off7 (k0_t4 : Fin k0_t4_loop.trips) : Fin 2 → Nat :=
  let c31_i32 : BitVec 32 := 31#32
  let c0_i32_447 : BitVec 32 := 0#32
  let c1_i32_449 : BitVec 32 := 1#32
  let arg30 : BitVec 32 := Scf.iv c0_i32_447 c1_i32_449 k0_t4
  let v593 : BitVec 32 := Scalar.subi c31_i32 arg30
  let c8_i32 : BitVec 32 := 8#32
  let v594 : BitVec 32 := Scalar.muli v593 c8_i32
  let v595 : BitVec 32 := v594
  let v596 : Index := Scalar.indexCast v595
  let c1536_580 : Index := 1536#32
  ![v596.toNat, 1536]
def k0_off8 (k0_t4 : Fin k0_t4_loop.trips) : Fin 2 → Nat :=
  let c31_i32 : BitVec 32 := 31#32
  let c0_i32_447 : BitVec 32 := 0#32
  let c1_i32_449 : BitVec 32 := 1#32
  let arg30 : BitVec 32 := Scf.iv c0_i32_447 c1_i32_449 k0_t4
  let v593 : BitVec 32 := Scalar.subi c31_i32 arg30
  let c8_i32 : BitVec 32 := 8#32
  let v594 : BitVec 32 := Scalar.muli v593 c8_i32
  let v595 : BitVec 32 := v594
  let v598 : Index := Scalar.indexCast v595
  let c1792_581 : Index := 1792#32
  ![v598.toNat, 1792]
def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_29 : BitVec 32 := 0#32
  let v63 : BitVec 1 := Scalar.cmpi .ne v62 c0_i32_29
  v63

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v64 : BitVec 1 := Scalar.xori v0 v_true
  let v65 : BitVec 32 := Scalar.extui v64
  let c0_i32_30 : BitVec 32 := 0#32
  let v66 : BitVec 1 := Scalar.cmpi .ne v65 c0_i32_30
  v66

def k0_cond4 (i : grid0.Coords) : BitVec 1 :=
  let arg0 : BitVec 32 := BitVec.ofNat 32 (i 0).val
  let c15_i32 : BitVec 32 := 15#32
  let v590 : BitVec 1 := Scalar.cmpi .eq arg0 c15_i32
  let v591 : BitVec 32 := Scalar.extui v590
  let c0_i32_579 : BitVec 32 := 0#32
  let v592 : BitVec 1 := Scalar.cmpi .ne v591 c0_i32_579
  v592

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Kernel15.lean ====
abbrev S4096x2048 : Shape := ⟨2, ![4096, 2048]⟩
abbrev S4x128x512 : Shape := ⟨3, ![4, 128, 512]⟩
abbrev S4x512x128 : Shape := ⟨3, ![4, 512, 128]⟩
abbrev S1x512 : Shape := ⟨2, ![1, 512]⟩
abbrev S512x512 : Shape := ⟨2, ![512, 512]⟩
abbrev S8x8x2048 : Shape := ⟨3, ![8, 8, 2048]⟩
abbrev S4096x512 : Shape := ⟨2, ![4096, 512]⟩
abbrev S256x512 : Shape := ⟨2, ![256, 512]⟩
abbrev S256x2048 : Shape := ⟨2, ![256, 2048]⟩
abbrev S8x2048 : Shape := ⟨2, ![8, 2048]⟩
abbrev S256x128 : Shape := ⟨2, ![256, 128]⟩
abbrev S1x128x512 : Shape := ⟨3, ![1, 128, 512]⟩
abbrev S128x512 : Shape := ⟨2, ![128, 512]⟩
abbrev S1x8x256 : Shape := ⟨3, ![1, 8, 256]⟩
abbrev S8x256 : Shape := ⟨2, ![8, 256]⟩
abbrev S1x256 : Shape := ⟨2, ![1, 256]⟩
abbrev S1x512x128 : Shape := ⟨3, ![1, 512, 128]⟩
abbrev S512x128 : Shape := ⟨2, ![512, 128]⟩
abbrev S1x128 : Shape := ⟨2, ![1, 128]⟩

abbrev nBuf : Space → Nat
  | .hbm => 12
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S4x128x512, .bf16⟩
  | .hbm, ⟨2, _⟩ => ⟨S4x128x512, .bf16⟩
  | .hbm, ⟨3, _⟩ => ⟨S4x512x128, .bf16⟩
  | .hbm, ⟨4, _⟩ => ⟨S4x512x128, .bf16⟩
  | .hbm, ⟨5, _⟩ => ⟨S1x512, .f32⟩
  | .hbm, ⟨6, _⟩ => ⟨S512x512, .bf16⟩
  | .hbm, ⟨7, _⟩ => ⟨S8x8x2048, .f32⟩
  | .hbm, ⟨8, _⟩ => ⟨S4096x512, .f32⟩
  | .hbm, ⟨9, _⟩ => ⟨S4096x512, .f32⟩
  | .hbm, ⟨10, _⟩ => ⟨S4096x2048, .bf16⟩
  | .hbm, ⟨11, _⟩ => ⟨S4096x2048, .bf16⟩
  | .local _ .vmem, ⟨0, _⟩ => ⟨S256x512, .bf16⟩
  | .local _ .vmem, ⟨1, _⟩ => ⟨S256x512, .bf16⟩
  | .local _ .vmem, ⟨2, _⟩ => ⟨S4x128x512, .bf16⟩
  | .local _ .vmem, ⟨3, _⟩ => ⟨S4x128x512, .bf16⟩
  | .local _ .vmem, ⟨4, _⟩ => ⟨S4x512x128, .bf16⟩
  | .local _ .vmem, ⟨5, _⟩ => ⟨S4x512x128, .bf16⟩
  | .local _ .vmem, ⟨6, _⟩ => ⟨S1x512, .f32⟩
  | .local _ .vmem, ⟨7, _⟩ => ⟨S512x512, .bf16⟩
  | .local _ .vmem, ⟨8, _⟩ => ⟨S8x8x2048, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .f32⟩
  | .local _ .vmem, ⟨18, _⟩ => ⟨S256x2048, .f32⟩
  | .local _ .vmem, ⟨19, _⟩ => ⟨S8x2048, .f32⟩
  | .local _ .vmem, ⟨20, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_94 : BitVec 32 := 0#32
  let c32_i32 : BitVec 32 := 32#32
  let v92 : BitVec 32 := Scalar.addi c0_i32_94 c32_i32
  let c1_i32 : BitVec 32 := 1#32
  ⟨c0_i32_94, v92, c1_i32⟩
def k0_mult1 (k0_t1 : Fin k0_t1_loop.trips) : BitVec 32 :=
  let c0_i32_94 : BitVec 32 := 0#32
  let c1_i32 : BitVec 32 := 1#32
  let arg17 : BitVec 32 := Scf.iv c0_i32_94 c1_i32 k0_t1
  let c8_i32 : BitVec 32 := 8#32
  let v344 : BitVec 32 := Scalar.muli arg17 c8_i32
  v344
def k0_off1 (k0_t1 : Fin k0_t1_loop.trips) : Fin 2 → Nat :=
  let c0_i32_94 : BitVec 32 := 0#32
  let c1_i32 : BitVec 32 := 1#32
  let arg17 : BitVec 32 := Scf.iv c0_i32_94 c1_i32 k0_t1
  let c8_i32 : BitVec 32 := 8#32
  let v344 : BitVec 32 := Scalar.muli arg17 c8_i32
  let v345 : BitVec 32 := v344
  let v346 : Index := Scalar.indexCast v345
  let c0_370 : Index := 0#32
  ![v346.toNat, 0]
def k0_off2 (k0_t1 : Fin k0_t1_loop.trips) : Fin 2 → Nat :=
  let c0_i32_94 : BitVec 32 := 0#32
  let c1_i32 : BitVec 32 := 1#32
  let arg17 : BitVec 32 := Scf.iv c0_i32_94 c1_i32 k0_t1
  let c8_i32 : BitVec 32 := 8#32
  let v344 : BitVec 32 := Scalar.muli arg17 c8_i32
  let v345 : BitVec 32 := v344
  let v348 : Index := Scalar.indexCast v345
  let c256_371 : Index := 256#32
  ![v348.toNat, 256]
@[reducible] def k0_t2_loop : Scf.Loop 32 :=
  let c0_i32_159 : BitVec 32 := 0#32
  let c32_i32_160 : BitVec 32 := 32#32
  let v142 : BitVec 32 := Scalar.addi c0_i32_159 c32_i32_160
  let c1_i32_161 : BitVec 32 := 1#32
  ⟨c0_i32_159, v142, c1_i32_161⟩
def k0_mult2 (k0_t2 : Fin k0_t2_loop.trips) : BitVec 32 :=
  let c0_i32_159 : BitVec 32 := 0#32
  let c1_i32_161 : BitVec 32 := 1#32
  let arg17 : BitVec 32 := Scf.iv c0_i32_159 c1_i32_161 k0_t2
  let c8_i32 : BitVec 32 := 8#32
  let v344 : BitVec 32 := Scalar.muli arg17 c8_i32
  v344
def k0_off3 (k0_t2 : Fin k0_t2_loop.trips) : Fin 2 → Nat :=
  let c0_i32_159 : BitVec 32 := 0#32
  let c1_i32_161 : BitVec 32 := 1#32
  let arg17 : BitVec 32 := Scf.iv c0_i32_159 c1_i32_161 k0_t2
  let c8_i32 : BitVec 32 := 8#32
  let v344 : BitVec 32 := Scalar.muli arg17 c8_i32
  let v345 : BitVec 32 := v344
  let v346 : Index := Scalar.indexCast v345
  let c512_370 : Index := 512#32
  ![v346.toNat, 512]
def k0_off4 (k0_t2 : Fin k0_t2_loop.trips) : Fin 2 → Nat :=
  let c0_i32_159 : BitVec 32 := 0#32
  let c1_i32_161 : BitVec 32 := 1#32
  let arg17 : BitVec 32 := Scf.iv c0_i32_159 c1_i32_161 k0_t2
  let c8_i32 : BitVec 32 := 8#32
  let v344 : BitVec 32 := Scalar.muli arg17 c8_i32
  let v345 : BitVec 32 := v344
  let v348 : Index := Scalar.indexCast v345
  let c768_371 : Index := 768#32
  ![v348.toNat, 768]
@[reducible] def k0_t3_loop : Scf.Loop 32 :=
  let c0_i32_226 : BitVec 32 := 0#32
  let c32_i32_227 : BitVec 32 := 32#32
  let v192 : BitVec 32 := Scalar.addi c0_i32_226 c32_i32_227
  let c1_i32_228 : BitVec 32 := 1#32
  ⟨c0_i32_226, v192, c1_i32_228⟩
def k0_mult3 (k0_t3 : Fin k0_t3_loop.trips) : BitVec 32 :=
  let c0_i32_226 : BitVec 32 := 0#32
  let c1_i32_228 : BitVec 32 := 1#32
  let arg17 : BitVec 32 := Scf.iv c0_i32_226 c1_i32_228 k0_t3
  let c8_i32 : BitVec 32 := 8#32
  let v344 : BitVec 32 := Scalar.muli arg17 c8_i32
  v344
def k0_off5 (k0_t3 : Fin k0_t3_loop.trips) : Fin 2 → Nat :=
  let c0_i32_226 : BitVec 32 := 0#32
  let c1_i32_228 : BitVec 32 := 1#32
  let arg17 : BitVec 32 := Scf.iv c0_i32_226 c1_i32_228 k0_t3
  let c8_i32 : BitVec 32 := 8#32
  let v344 : BitVec 32 := Scalar.muli arg17 c8_i32
  let v345 : BitVec 32 := v344
  let v346 : Index := Scalar.indexCast v345
  let c1024_370 : Index := 1024#32
  ![v346.toNat, 1024]
def k0_off6 (k0_t3 : Fin k0_t3_loop.trips) : Fin 2 → Nat :=
  let c0_i32_226 : BitVec 32 := 0#32
  let c1_i32_228 : BitVec 32 := 1#32
  let arg17 : BitVec 32 := Scf.iv c0_i32_226 c1_i32_228 k0_t3
  let c8_i32 : BitVec 32 := 8#32
  let v344 : BitVec 32 := Scalar.muli arg17 c8_i32
  let v345 : BitVec 32 := v344
  let v348 : Index := Scalar.indexCast v345
  let c1280_371 : Index := 1280#32
  ![v348.toNat, 1280]
@[reducible] def k0_t4_loop : Scf.Loop 32 :=
  let c0_i32_293 : BitVec 32 := 0#32
  let c32_i32_294 : BitVec 32 := 32#32
  let v242 : BitVec 32 := Scalar.addi c0_i32_293 c32_i32_294
  let c1_i32_295 : BitVec 32 := 1#32
  ⟨c0_i32_293, v242, c1_i32_295⟩
def k0_mult4 (k0_t4 : Fin k0_t4_loop.trips) : BitVec 32 :=
  let c0_i32_293 : BitVec 32 := 0#32
  let c1_i32_295 : BitVec 32 := 1#32
  let arg17 : BitVec 32 := Scf.iv c0_i32_293 c1_i32_295 k0_t4
  let c8_i32 : BitVec 32 := 8#32
  let v344 : BitVec 32 := Scalar.muli arg17 c8_i32
  v344
def k0_off7 (k0_t4 : Fin k0_t4_loop.trips) : Fin 2 → Nat :=
  let c0_i32_293 : BitVec 32 := 0#32
  let c1_i32_295 : BitVec 32 := 1#32
  let arg17 : BitVec 32 := Scf.iv c0_i32_293 c1_i32_295 k0_t4
  let c8_i32 : BitVec 32 := 8#32
  let v344 : BitVec 32 := Scalar.muli arg17 c8_i32
  let v345 : BitVec 32 := v344
  let v346 : Index := Scalar.indexCast v345
  let c1536_370 : Index := 1536#32
  ![v346.toNat, 1536]
def k0_off8 (k0_t4 : Fin k0_t4_loop.trips) : Fin 2 → Nat :=
  let c0_i32_293 : BitVec 32 := 0#32
  let c1_i32_295 : BitVec 32 := 1#32
  let arg17 : BitVec 32 := Scf.iv c0_i32_293 c1_i32_295 k0_t4
  let c8_i32 : BitVec 32 := 8#32
  let v344 : BitVec 32 := Scalar.muli arg17 c8_i32
  let v345 : BitVec 32 := v344
  let v348 : Index := Scalar.indexCast v345
  let c1792_371 : Index := 1792#32
  ![v348.toNat, 1792]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Proof.Reals.lean ====
module

public import Idealize.ShloMosaic.Lib.Pointwise
public import Idealize.ShloMosaic.Lib.ReduceAll
public import Idealize.ShloMosaic.PureOps.Ideal

/-!
# Real numbers among the extended reals

Both programs of a value claim compute over the extended reals. Every argument is finite by the precondition, so every
number they meet is a real one, and the algebra is done over the reals. This module holds what that passage needs: the
constants of the programs as real numbers, the sum of real numbers, the quotient and the reciprocal square root at a
positive number, the reading of a finiteness precondition, and the statistics of one row of an RMS norm.
-/

@[expose] public section

noncomputable section

namespace Cert.Proof.Reals

open Idealize.ShloMosaic

/-- A real array, read over the extended reals. -/
def up {ι : Type*} (X : ι → ℝ) : ι → EReal := fun i => (X i : EReal)

theorem up_apply {ι : Type*} (X : ι → ℝ) (i : ι) : up X i = (X i : EReal) := rfl

/-- A sum of real numbers, taken over the extended reals, is the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The same at a sum over a finite type. -/
theorem sum_univ_coe {ι : Type*} [Fintype ι] (f : ι → ℝ) :
    ∑ i, (f i : EReal) = ((∑ i, f i : ℝ) : EReal) := sum_coe _ f

/-- The quotient of two real numbers. -/
theorem div_real (a b : ℝ) (h : b ≠ 0) : Ideal.div (a : EReal) (b : EReal) = ((a / b : ℝ) : EReal) := by
  rw [Ideal.div_coe h, ← EReal.coe_mul, one_div, div_eq_mul_inv]

theorem div_1024 (a : ℝ) : Ideal.div (a : EReal) ((1024 : ℝ) : EReal) = ((a / 1024 : ℝ) : EReal) :=
  div_real _ _ (by norm_num)

/-- The reciprocal square root of a positive real number. -/
theorem rsqrt_real {a : ℝ} (h : 0 < a) : Ideal.rsqrt (a : EReal) = (((√a)⁻¹ : ℝ) : EReal) := by
  rw [Ideal.rsqrt_coe, if_neg (not_lt.2 h.le), if_neg h.ne']

/-- The `eps` of the RMS norms: the float word nearest 1e-6. -/
def eps : ℝ := 8796093 / 2 ^ 43

theorem eps_pos : 0 < eps := by unfold eps; norm_num

theorem bits_eps : Ideal.ofBits .f32 0x358637BD#32 = (eps : EReal) := by
  simp [Ideal.ofBits, Ideal.ieee, -EReal.coe_mul]; unfold eps; norm_num
theorem bits_1024 : Ideal.ofBits .f32 0x44800000#32 = ((1024 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  rw [Ideal.ofBits_zero_f32]; rfl
theorem bits_inf : Ideal.ofBits .f32 0x7F800000#32 = (⊤ : EReal) := by
  simp [Ideal.ofBits, Ideal.ieee]

/-- An extended real whose absolute value is below the top is a real number. -/
theorem real_of_abs_lt_top {x : EReal} (h : max x (-x) < ⊤) : ∃ r : ℝ, x = r := by
  refine ⟨x.toReal, (EReal.coe_toReal (fun e => ?_) (fun e => ?_)).symm⟩
  · simp [e] at h
  · simp [e] at h

/-- The finiteness test of a precondition — every absolute value below infinity, and all of that — gives a real
    array. -/
theorem real_of_all {s t u b : Shape} {axes : List (Fin s.rank)} [Subsingleton t.Idx] (x : FVec Ideal s .f32)
    {dims : Fin b.rank → Fin s.rank} (hb : b.BroadcastsInDim s dims) (init : u.Idx → BitVec 1)
    (h : s.ReducesTo axes t) (hu : 0 < u.numel) (j : t.Idx)
    (e : Host.reduce IntOp.andi (cmpf .olt (Host.absf x)
      (broadcastInDim s dims hb (constant b .f32 0x7F800000#32))) init h hu j = 1#1) :
    ∃ X : s.Idx → ℝ, x = up X := by
  have key : ∀ i, ∃ r : ℝ, x i = r := fun i => by
    have h1 := Host.reduce_andi_all _ _ h hu j e i
    have h2 : BitVec.ofBool (decide (max (x i) (-(x i)) < Ideal.ofBits .f32 0x7F800000#32)) = 1#1 := h1
    rw [bits_inf] at h2
    refine real_of_abs_lt_top (by_contra fun hn => ?_)
    rw [decide_eq_false hn] at h2
    exact absurd h2 (by decide)
  choose X hX using key
  exact ⟨X, funext hX⟩

/-! ## One row of an RMS norm of width 1024 -/

/-- The mean square of a row, plus `eps`. -/
def msq (x : Fin 1024 → ℝ) : ℝ := (∑ k, x k * x k) / 1024 + eps

/-- The factor of a row: the reciprocal square root. -/
def rfac (x : Fin 1024 → ℝ) : ℝ := (√(msq x))⁻¹

theorem msq_pos (x : Fin 1024 → ℝ) : 0 < msq x :=
  add_pos_of_nonneg_of_pos (div_nonneg (Finset.sum_nonneg fun _ _ => mul_self_nonneg _) (by norm_num)) eps_pos

theorem rfac_eq (x : Fin 1024 → ℝ) : Ideal.rsqrt (msq x : EReal) = (rfac x : EReal) := rsqrt_real (msq_pos x)

/-- The square of the factor, times the mean square, is one. -/
theorem rfac_sq (x : Fin 1024 → ℝ) : rfac x * rfac x * msq x = 1 := by
  have h := msq_pos x
  unfold rfac
  rw [← mul_inv, Real.mul_self_sqrt h.le, inv_mul_cancel₀ h.ne']

/-- `r / (mean square)` is the cube of the factor. -/
theorem rfac_div (x : Fin 1024 → ℝ) : rfac x / msq x = rfac x * (rfac x * rfac x) := by
  rw [div_eq_iff (msq_pos x).ne']
  linear_combination (-(rfac x)) * rfac_sq x

/-- The gradient of a row of the norm: `d` is the cotangent of `x · r`. -/
def normGrad (x d : Fin 1024 → ℝ) (k : Fin 1024) : ℝ :=
  rfac x * (d k - x k * rfac x * ((∑ l, d l * (x l * rfac x)) / 1024))

/-- The same gradient, with the mean's derivative taken apart: the form that differentiating the norm's lines gives. -/
theorem normGrad_eq (x d : Fin 1024 → ℝ) (k : Fin 1024) :
    d k * rfac x + x k * ((∑ l, x l * d l) * (-(1 / 2) * (rfac x / msq x)) / 1024)
      + (∑ l, x l * d l) * (-(1 / 2) * (rfac x / msq x)) / 1024 * x k = normGrad x d k := by
  have h : ∑ l, d l * (x l * rfac x) = rfac x * ∑ l, x l * d l := by
    rw [Finset.mul_sum]; exact Finset.sum_congr rfl fun l _ => by ring
  rw [normGrad, h, rfac_div]
  ring

end Cert.Proof.Reals

end
-- ==== Proof.Loss.lean ====
module

public import proofs.«01_k».proof.Proof.Reals
public import proofs.«01_k».proof.Proof.Gen.KernelIdeal.Value
public import proofs.«01_k».proof.Proof.Gen.ReferenceIdeal.Read
public import proofs.«01_k».proof.Proof.Gen.ReferenceIdeal.Run
public import proofs.«01_k».proof.Defs
public import Idealize.ShloMosaic.Lib.Claim
public import Idealize.ShloMosaic.Lib.Pipeline.ValueKit

/-!
# The head of the loss

The kernel's three arrays and the derivative of `reference.py`'s loss are the same real numbers.
-/

@[expose] public section

set_option maxRecDepth 16384

noncomputable section

namespace Cert.Proof.Loss

open Idealize.ShloMosaic Idealize.ShloMosaic.TcCoe Idealize.SL.Sem Cert.Proof.Reals

/-! ## One row over the reals -/

/-- The error of a row: the normalised row less the target. -/
def err (x g t : Fin 1024 → ℝ) (k : Fin 1024) : ℝ := x k * rfac x * g k - t k

/-- The loss of a row. -/
def rowLoss (x g t : Fin 1024 → ℝ) : ℝ := (1 / 2) * ((∑ k, err x g t k * err x g t k) / 1024)

/-- A row's term of the gain's gradient. -/
def rowGain (x g t : Fin 1024 → ℝ) (k : Fin 1024) : ℝ := err x g t k * (1 / 1024) * (x k * rfac x)

/-- A row of the gradient of the input. -/
def rowDx (x g t : Fin 1024 → ℝ) : Fin 1024 → ℝ := normGrad x fun k => err x g t k * (1 / 1024) * g k

/-! ## The kernel's body on real blocks -/

section Kernel

open Cert.KernelIdeal Cert.KernelIdeal.Gen

variable (X : S512x1024.Idx → ℝ) (G : S1x1024.Idx → ℝ) (T : S512x1024.Idx → ℝ)

/-- Row `i` of a block of 512 rows. -/
def row (X : S512x1024.Idx → ℝ) (i : Fin 512) (k : Fin 1024) : ℝ := X (ix2 i k)
/-- The one row of the gain. -/
def grow (G : S1x1024.Idx → ℝ) (k : Fin 1024) : ℝ := G (ix2 0 k)

/-- The factor of each row. -/
theorem pay6 : k0_pay6 (F := Ideal) (up X) = up fun j => rfac (row X (j 0)) := by
  funext j
  unfold k0_pay6
  pointwise
  simp only [up_apply, ← EReal.coe_mul, ← EReal.coe_add, ← EReal.coe_sub, sum_univ_coe, bits_1024, bits_eps, bits_inv1024,
    bits_half, div_1024]
  exact rfac_eq _

/-- The error. -/
theorem pay8 : k0_pay8 (F := Ideal) (up G) (up X) (up T) =
    up fun j => err (row X (j 0)) (grow G) (row T (j 0)) (j 1) := by
  funext j
  idx_vars j
  unfold k0_pay8 k0_pay7 k0_pay5
  rw [pay6]
  pointwise
  simp only [up_apply, ← EReal.coe_mul, ← EReal.coe_add, ← EReal.coe_sub, sum_univ_coe, bits_1024, bits_eps, bits_inv1024,
    bits_half, div_1024]
  rfl

/-- The block's part of the loss. -/
theorem pay9 : k0_pay9 (F := Ideal) (up G) (up X) (up T) =
    up fun _ => ∑ i, rowLoss (row X i) (grow G) (row T i) := by
  funext j
  idx_vars j
  unfold k0_pay9
  rw [pay8]
  pointwise
  simp only [up_apply, ← EReal.coe_mul, ← EReal.coe_add, ← EReal.coe_sub, sum_univ_coe, bits_1024, bits_eps, bits_inv1024,
    bits_half, div_1024]
  refine congrArg _ ?_
  rw [Finset.mul_sum]
  rfl

theorem pay10 : k0_pay10 (F := Ideal) (up G) (up X) (up T) =
    up fun j => err (row X (j 0)) (grow G) (row T (j 0)) (j 1) * (1 / 1024) := by
  funext j
  idx_vars j
  unfold k0_pay10
  rw [pay8]
  pointwise
  simp only [up_apply, ← EReal.coe_mul, ← EReal.coe_add, ← EReal.coe_sub, sum_univ_coe, bits_1024, bits_eps, bits_inv1024,
    bits_half, div_1024]

theorem pay11 : k0_pay11 (F := Ideal) (up G) (up X) (up T) =
    up fun j => err (row X (j 0)) (grow G) (row T (j 0)) (j 1) * (1 / 1024) * grow G (j 1) := by
  funext j
  idx_vars j
  unfold k0_pay11 k0_pay5
  rw [pay10]
  pointwise
  simp only [up_apply, ← EReal.coe_mul, ← EReal.coe_add, ← EReal.coe_sub, sum_univ_coe, bits_1024, bits_eps, bits_inv1024,
    bits_half, div_1024]
  rfl

/-- The block's part of the gain's gradient. -/
theorem pay12 : k0_pay12 (F := Ideal) (up G) (up X) (up T) =
    up fun j => ∑ i, rowGain (row X i) (grow G) (row T i) (j 1) := by
  funext j
  idx_vars j
  unfold k0_pay12 k0_pay7
  rw [pay10, pay6]
  pointwise
  simp only [up_apply, ← EReal.coe_mul, ← EReal.coe_add, ← EReal.coe_sub, sum_univ_coe, bits_1024, bits_eps, bits_inv1024,
    bits_half, div_1024]
  rfl

/-- The block of the input's gradient. -/
theorem pay1 : k0_pay1 (F := Ideal) (k0_pay6 (up X)) (k0_pay11 (up G) (up X) (up T)) (k0_pay13 (up G) (up X) (up T)) =
    up fun j => rowDx (row X (j 0)) (grow G) (row T (j 0)) (j 1) := by
  funext j
  idx_vars j
  unfold k0_pay1 k0_pay13 k0_pay7
  rw [pay11, pay6]
  pointwise
  simp only [up_apply, ← EReal.coe_mul, ← EReal.coe_add, ← EReal.coe_sub, sum_univ_coe, bits_1024, bits_eps, bits_inv1024,
    bits_half, div_1024]
  rfl

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

/-- Block `t` of the rows of an array. -/
def blockOf (A : S4096x1024.Idx → ℝ) (t : Fin cfg0.N) (j : S512x1024.Idx) : ℝ :=
  A (ix2 ⟨t.val * 512 + (j 0).val, by
    have h : (j 0).val < 512 := (j 0).isLt
    have := t.isLt.trans_eq N_0; omega⟩ (j 1))

theorem iblk0 {A : S4096x1024.Idx → ℝ} (h : m ((c : Thread nD τ).loc main_arg0) = up A) (t : Fin cfg0.N) :
    iblk m c 0 t = up (blockOf A t) := by
  funext y
  blk_simp [iblk]
  rw [V_main_arg0, h]
  exact congrArg (fun i => (A i : EReal)) (by blk_ext [idx0 t])

theorem iblk1 {A : S1024.Idx → ℝ} (h : m ((c : Thread nD τ).loc main_arg1) = up A) (t : Fin cfg0.N) :
    iblk m c 1 t = up fun y : S1x1024.Idx => A (ix1 (y 1)) := by
  funext y
  blk_simp [iblk]
  entry_read
  rw [h]
  pointwise
  exact congrArg (fun i => (A i : EReal)) (by blk_ext [idx1 t])

theorem iblk2 {A : S4096x1024.Idx → ℝ} (h : m ((c : Thread nD τ).loc main_arg2) = up A) (t : Fin cfg0.N) :
    iblk m c 2 t = up (blockOf A t) := by
  funext y
  blk_simp [iblk]
  rw [V_main_arg2, h]
  exact congrArg (fun i => (A i : EReal)) (by blk_ext [idx2 t])

/-- A row of a whole array. -/
def arow (A : S4096x1024.Idx → ℝ) (i : Fin 4096) (k : Fin 1024) : ℝ := A (ix2 i k)
/-- The gain. -/
def gvec (A : S1024.Idx → ℝ) (k : Fin 1024) : ℝ := A (ix1 k)

variable {X₀ T₀ : S4096x1024.Idx → ℝ} {G₀ : S1024.Idx → ℝ}
  (h0 : m ((c : Thread nD τ).loc main_arg0) = up X₀) (h1 : m ((c : Thread nD τ).loc main_arg1) = up G₀)
  (h2 : m ((c : Thread nD τ).loc main_arg2) = up T₀)

/-- The index of the whole array under index `y` of block `t`. -/
theorem emb3 (t : Fin cfg0.N) (y : S512x1024.Idx) : ((cfg0.win 3).blk t).view.emb y =
    ix2 ⟨t.val * 512 + (y 0).val, by have h : (y 0).val < 512 := (y 0).isLt; have := t.isLt.trans_eq N_0; omega⟩ (y 1) := by
  blk_ext [idx3 t]

include h0 h1 h2 in
/-- The gradient of the input after the run. -/
theorem final3 : (dats m 0 c).arrAt 3 cfg0.N =
    up fun j : S4096x1024.Idx => rowDx (arow X₀ (j 0)) (gvec G₀) (arow T₀ (j 0)) (j 1) := by
  refine (dats m 0 c).arrAt_eq_of_covers 3 _ (by decide +kernel) fun t hf y => ?_
  rw [emb3 t y]
  blk_simp
  rw [after0_3]
  have key : k0_pay1 (k0_pay6 (iblk m c 0 t)) (k0_pay11 (iblk m c 1 t) (iblk m c 0 t) (iblk m c 2 t))
      (k0_pay13 (iblk m c 1 t) (iblk m c 0 t) (iblk m c 2 t)) y =
      (rowDx (row (blockOf X₀ t) (y 0)) (gvec G₀) (row (blockOf T₀ t) (y 0)) (y 1) : EReal) := by
    rw [iblk0 m c h0, iblk1 m c h1, iblk2 m c h2]
    exact congrFun (pay1 _ _ _) y
  have hN := t.isLt.trans_eq N_0
  by_cases h : t.val % 8 = 0
  · rw [outsAt0_A m c t h (by omega) h (by omega)]
    frame_out
    exact key
  · rw [outsAt0_B m c t h (by omega) h (by omega)]
    frame_out
    exact key

/-- The loss of block `t`. -/
def lossTerm (X₀ T₀ : S4096x1024.Idx → ℝ) (G₀ : S1024.Idx → ℝ) (t : Fin cfg0.N) : ℝ :=
  ∑ i, rowLoss (row (blockOf X₀ t) i) (gvec G₀) (row (blockOf T₀ t) i)

include h0 h1 h2 in
/-- The loss accumulated over the grid. -/
theorem final4 : (dats m 0 c).arrAt 4 cfg0.N =
    up fun _ : S8x128.Idx => ∑ t, lossTerm X₀ T₀ G₀ t := by
  have key : ∀ t, k0_pay9 (iblk m c 1 t) (iblk m c 0 t) (iblk m c 2 t) = up fun _ => lossTerm X₀ T₀ G₀ t := fun t => by
    rw [iblk0 m c h0, iblk1 m c h1, iblk2 m c h2]
    exact pay9 _ _ _
  refine (dats m 0 c).arrAt_eq_of_after_last 4 t0_7 (by decide +kernel) _ fun j => ?_
  blk_simp
  rw [after0_4]
  refine (Pipeline.eq_sum_fin_of_reset_step_apply_last (fun n h => (outsAt0 m c n h).2.1) 8 (fun _ => (0 : EReal))
    (fun t _ => (lossTerm X₀ T₀ G₀ t : EReal)) (fun t h j => ?_) (fun t h j => ?_) (le_of_eq N_0) t0_7 rfl j).trans ?_
  · have hN := t.isLt.trans_eq N_0
    rw [outsAt0_A m c t h (by omega) h (by omega)]
    frame_out
    rw [key]
    unfold k0_pay2
    pointwise
    rfl
  · have hN := t.isLt.trans_eq N_0
    rw [outsAt0_B m c t h (by omega) h (by omega)]
    frame_out
    rw [key]
    unfold k0_pay3 k0_pay2
    pointwise
    rfl
  · rw [zero_add, sum_univ_coe]
    rfl

include h0 h1 h2 in
/-- The gain's gradient accumulated over the grid. -/
theorem final5 : (dats m 0 c).arrAt 5 cfg0.N =
    up fun j : S1x1024.Idx => ∑ t, ∑ i, rowGain (row (blockOf X₀ t) i) (gvec G₀) (row (blockOf T₀ t) i) (j 1) := by
  have key : ∀ t, k0_pay12 (iblk m c 1 t) (iblk m c 0 t) (iblk m c 2 t) = up fun j =>
      ∑ i, rowGain (row (blockOf X₀ t) i) (gvec G₀) (row (blockOf T₀ t) i) (j 1) := fun t => by
    rw [iblk0 m c h0, iblk1 m c h1, iblk2 m c h2]
    exact pay12 _ _ _
  refine (dats m 0 c).arrAt_eq_of_after_last 5 t0_7 (by decide +kernel) _ fun j => ?_
  blk_simp
  rw [after0_5]
  refine (Pipeline.eq_sum_fin_of_reset_step_apply_last (fun n h => (outsAt0 m c n h).2.2) 8 (fun _ => (0 : EReal))
    (fun t j => ((∑ i, rowGain (row (blockOf X₀ t) i) (gvec G₀) (row (blockOf T₀ t) i) (j 1) : ℝ) : EReal))
    (fun t h j => ?_) (fun t h j => ?_) (le_of_eq N_0) t0_7 rfl j).trans ?_
  · have hN := t.isLt.trans_eq N_0
    rw [outsAt0_A m c t h (by omega) h (by omega)]
    frame_out
    rw [key]
    exact (zero_add _).symm
  · have hN := t.isLt.trans_eq N_0
    rw [outsAt0_B m c t h (by omega) h (by omega)]
    frame_out
    rw [key]
    unfold k0_pay4
    pointwise
    rfl
  · rw [zero_add, sum_univ_coe]
    rfl

/-- A sum over the blocks' rows is the sum over the array's rows. -/
theorem sum_rows (f : (Fin 1024 → ℝ) → (Fin 1024 → ℝ) → ℝ) (X T : S4096x1024.Idx → ℝ) :
    ∑ t : Fin cfg0.N, ∑ i : Fin 512, f (row (blockOf X t) i) (row (blockOf T t) i) =
      ∑ i : Fin 4096, f (arow X i) (arow T i) :=
  Fin.sum_mul_add_congr fun _ _ _ => rfl

end Kernel

/-! ## The reference over the reals -/

section Reference

open Cert.ReferenceIdeal Cert.ReferenceIdeal.Gen Cert.ReferenceIdeal.Read

variable (X T : S4096x1024.Idx → ℝ) (G : S1024.Idx → ℝ)

/-- The mean square plus eps. -/
theorem v6 : val_main_v6 (F := Ideal) (up X) = up fun j : S4096x1.Idx => msq (arow X (j 0)) := by
  funext j
  idx_vars j
  unfold val_main_v6 val_main_v5 val_main_v4 val_main_v3 val_main_v2 val_main_v1 val_main_v0 val_main_cst val_main_cst_0
    val_main_cst_1
  pointwise
  simp only [up_apply, ← EReal.coe_mul, ← EReal.coe_add, ← EReal.coe_sub, sum_univ_coe, bits_1024, bits_eps, bits_inv1024,
    bits_half, bits_neg_half, bits_two, bits_one, div_1024]
  rfl
/-- The factor. -/
theorem v7 : val_main_v7 (F := Ideal) (up X) = up fun j : S4096x1.Idx => rfac (arow X (j 0)) := by
  funext j
  idx_vars j
  unfold val_main_v7
  rw [v6]
  pointwise
  simp only [up_apply, ← EReal.coe_mul, ← EReal.coe_add, ← EReal.coe_sub, sum_univ_coe, bits_1024, bits_eps, bits_inv1024,
    bits_half, bits_neg_half, bits_two, bits_one, div_1024]
  exact rfac_eq _
/-- Half the quotient of the factor by the mean square, negated. -/
theorem v10 : val_main_v10 (F := Ideal) (up X) = up fun j : S4096x1.Idx =>
    -(1 / 2) * (rfac (arow X (j 0)) / msq (arow X (j 0))) := by
  funext j
  idx_vars j
  unfold val_main_v10 val_main_v9 val_main_v8 val_main_cst_2
  rw [v6, v7]
  pointwise
  simp only [up_apply, ← EReal.coe_mul, ← EReal.coe_add, ← EReal.coe_sub, sum_univ_coe, bits_1024, bits_eps, bits_inv1024,
    bits_half, bits_neg_half, bits_two, bits_one, div_1024]
  rw [div_real _ _ (msq_pos _).ne', ← EReal.coe_mul]

/-- The normalised rows. -/
theorem v12 : val_main_v12 (F := Ideal) (up X) = up fun j : S4096x1024.Idx => arow X (j 0) (j 1) * rfac (arow X (j 0)) := by
  funext j
  idx_vars j
  unfold val_main_v12 val_main_v11
  rw [v7]
  pointwise
  simp only [up_apply, ← EReal.coe_mul, ← EReal.coe_add, ← EReal.coe_sub, sum_univ_coe, bits_1024, bits_eps, bits_inv1024,
    bits_half, bits_neg_half, bits_two, bits_one, div_1024]
  rfl

/-- The error. -/
theorem v16 : val_main_v16 (F := Ideal) (up X) (up G) (up T) = up fun j : S4096x1024.Idx =>
    err (arow X (j 0)) (gvec G) (arow T (j 0)) (j 1) := by
  funext j
  idx_vars j
  unfold val_main_v16 val_main_v15 val_main_v14 val_main_v13
  rw [v12]
  pointwise
  simp only [up_apply, ← EReal.coe_mul, ← EReal.coe_add, ← EReal.coe_sub, sum_univ_coe, bits_1024, bits_eps, bits_inv1024,
    bits_half, bits_neg_half, bits_two, bits_one, div_1024]
  rfl

/-- The loss. -/
theorem v24 : val_main_v24 (F := Ideal) (up X) (up G) (up T) = up fun j : S_.Idx =>
    ∑ i, rowLoss (arow X i) (gvec G) (arow T i) := by
  funext j
  unfold val_main_v24 val_main_v23 val_main_v22 val_main_v21 val_main_v20 val_main_v17 val_main_cst_7 val_main_cst_6
    val_main_cst_5 val_main_cst_4
  rw [v16]
  pointwise
  simp only [up_apply, ← EReal.coe_mul, ← EReal.coe_add, ← EReal.coe_sub, sum_univ_coe, bits_1024, bits_eps, bits_inv1024,
    bits_half, bits_neg_half, bits_two, bits_one, div_1024]
  refine congrArg _ ?_
  rw [Finset.mul_sum]
  rfl

/-- The cotangent of the error. -/
theorem v30 : val_main_v30 (F := Ideal) (up X) (up G) (up T) = up fun j : S4096x1024.Idx =>
    err (arow X (j 0)) (gvec G) (arow T (j 0)) (j 1) * (1 / 1024) := by
  funext j
  idx_vars j
  unfold val_main_v30 val_main_v29 val_main_v28 val_main_v27 val_main_v26 val_main_v25 val_main_v19 val_main_v18
    val_main_cst_10 val_main_cst_9 val_main_cst_8 val_main_cst_3
  rw [v16]
  pointwise
  simp only [up_apply, ← EReal.coe_mul, ← EReal.coe_add, ← EReal.coe_sub, sum_univ_coe, bits_1024, bits_eps, bits_inv1024,
    bits_half, bits_neg_half, bits_two, bits_one, div_1024]
  exact congrArg _ (by ring)

/-- The cotangent of the normalised rows. -/
theorem v35 : val_main_v35 (F := Ideal) (up X) (up G) (up T) = up fun j : S4096x1024.Idx =>
    err (arow X (j 0)) (gvec G) (arow T (j 0)) (j 1) * (1 / 1024) * gvec G (j 1) := by
  funext j
  idx_vars j
  unfold val_main_v35 val_main_v34 val_main_v13
  rw [v30]
  pointwise
  simp only [up_apply, ← EReal.coe_mul, ← EReal.coe_add, ← EReal.coe_sub, sum_univ_coe, bits_1024, bits_eps, bits_inv1024,
    bits_half, bits_neg_half, bits_two, bits_one, div_1024]
  rfl

/-- The gain's gradient. -/
theorem v52 : val_main_v52 (F := Ideal) (up X) (up G) (up T) = up fun j : S1x1024.Idx =>
    ∑ i, rowGain (arow X i) (gvec G) (arow T i) (j 1) := by
  funext j
  idx_vars j
  unfold val_main_v52 val_main_v36 val_main_v33 val_main_v32 val_main_v31 val_main_cst_12 val_main_cst_11
  rw [v30, v12]
  pointwise
  simp only [up_apply, ← EReal.coe_mul, ← EReal.coe_add, ← EReal.coe_sub, sum_univ_coe, bits_1024, bits_eps, bits_inv1024,
    bits_half, bits_neg_half, bits_two, bits_one, div_1024]
  rw [Fin.sum_univ_one]
  exact congrArg _ (Finset.sum_congr rfl fun i _ => mul_comm _ _)

/-- The cotangent of each row's mean square, halved. -/
theorem v45 : val_main_v45 (F := Ideal) (up X) (up G) (up T) = up fun j : S4096.Idx =>
    (∑ l, arow X (j 0) l * (err (arow X (j 0)) (gvec G) (arow T (j 0)) l * (1 / 1024) * gvec G l))
      * (-(1 / 2) * (rfac (arow X (j 0)) / msq (arow X (j 0)))) / 1024 := by
  funext j
  idx_vars j
  unfold val_main_v45 val_main_v44 val_main_v43 val_main_v42 val_main_v39 val_main_v38 val_main_v37 val_main_cst_15
    val_main_cst_14 val_main_cst_13
  rw [v35, v10]
  pointwise
  simp only [up_apply, ← EReal.coe_mul, ← EReal.coe_add, ← EReal.coe_sub, sum_univ_coe, bits_1024, bits_eps, bits_inv1024,
    bits_half, bits_neg_half, bits_two, bits_one, div_1024]
  rw [Fin.sum_univ_one]
  rfl

/-- The input's gradient. -/
theorem v50 : val_main_v50 (F := Ideal) (up X) (up G) (up T) = up fun j : S4096x1024.Idx =>
    rowDx (arow X (j 0)) (gvec G) (arow T (j 0)) (j 1) := by
  funext j
  idx_vars j
  unfold val_main_v50 val_main_v49 val_main_v48 val_main_v47 val_main_v46 val_main_v41 val_main_v40
  rw [v45, v35, v7]
  pointwise
  simp only [up_apply, ← EReal.coe_mul, ← EReal.coe_add, ← EReal.coe_sub, sum_univ_coe, bits_1024, bits_eps, bits_inv1024,
    bits_half, bits_neg_half, bits_two, bits_one, div_1024]
  exact congrArg _ (normGrad_eq (arow X j0)
    (fun l => err (arow X j0) (gvec G) (arow T j0) l * (1 / 1024) * gvec G l) j1)

/-- The loss, repeated over a tile. -/
theorem v51 : val_main_v51 (F := Ideal) (up X) (up G) (up T) = up fun j : S8x128.Idx =>
    ∑ i, rowLoss (arow X i) (gvec G) (arow T i) := by
  funext j
  idx_vars j
  unfold val_main_v51
  rw [v24]
  pointwise
  simp only [up_apply, ← EReal.coe_mul, ← EReal.coe_add, ← EReal.coe_sub, sum_univ_coe, bits_1024, bits_eps, bits_inv1024,
    bits_half, bits_neg_half, bits_two, bits_one, div_1024]

end Reference

/-! ## The claim -/

section Claim

/-- The argument arrays of the precondition are real. -/
theorem real_args [hP : Cert.Pre_finite.Facts]
    {m : (ℓ : Loc Cert.KernelIdeal.nD Cert.KernelIdeal.τ Cert.KernelIdeal.sig) → Buf (Elt Ideal) ℓ}
    (h : Cert.Pre_KernelIdeal_finite m) (c : Dev Cert.KernelIdeal.nD) :
    ∃ (X : Cert.KernelIdeal.S4096x1024.Idx → ℝ) (G : Cert.KernelIdeal.S1024.Idx → ℝ)
      (T : Cert.KernelIdeal.S4096x1024.Idx → ℝ),
      m ((c : Thread Cert.KernelIdeal.nD Cert.KernelIdeal.τ).loc Cert.KernelIdeal.main_arg0) = up X ∧
      m ((c : Thread Cert.KernelIdeal.nD Cert.KernelIdeal.τ).loc Cert.KernelIdeal.main_arg1) = up G ∧
      m ((c : Thread Cert.KernelIdeal.nD Cert.KernelIdeal.τ).loc Cert.KernelIdeal.main_arg2) = up T := by
  obtain ⟨e0, e1, e2⟩ := h c
  unfold Cert.Pre_finite.fn at e0 e1 e2
  dsimp only at e0 e1 e2
  haveI : Subsingleton Cert.Pre_finite.S_.Idx := ⟨fun a b => funext fun i => i.elim0⟩
  obtain ⟨X, hX⟩ := real_of_all _ _ _ _ _ _ (congrFun e0 fun i => i.elim0)
  obtain ⟨G, hG⟩ := real_of_all _ _ _ _ _ _ (congrFun e1 fun i => i.elim0)
  obtain ⟨T, hT⟩ := real_of_all _ _ _ _ _ _ (congrFun e2 fun i => i.elim0)
  exact ⟨X, G, T, hX, hG, hT⟩

/-- The kernel and the derivative of the loss end with equal arrays. -/
theorem algebraic [Cert.Pre_finite.Facts] : Cert.algebraic_KernelIdeal_ReferenceIdeal_pre_finite := by
  intro m g m' g' hpre hagree
  refine ⟨fun c => (Cert.KernelIdeal.Gen.dats m 0 c).arrAt 3 Cert.KernelIdeal.cfg0.N,
    fun c => (Cert.KernelIdeal.Gen.dats m 0 c).arrAt 4 Cert.KernelIdeal.cfg0.N,
    fun c => (Cert.KernelIdeal.Gen.dats m 0 c).arrAt 5 Cert.KernelIdeal.cfg0.N,
    Cert.KernelIdeal.Value.run_blocks m g, ?_⟩
  refine (θ_run _ _ _).mono (fun r h c => ?_) (Cert.ReferenceIdeal.Value.run m' g')
  obtain ⟨X, G, T, h0, h1, h2⟩ := real_args hpre c
  obtain ⟨a0, a1, a2⟩ := hagree c
  obtain ⟨r0, r1, r2, k⟩ := h c
  refine ⟨?_, ?_, ?_, k⟩
  · refine (r0.trans (Cert.ReferenceIdeal.Read.val_main_v50_eq m' c)).trans ?_
    rw [a0, a1, a2, h0, h1, h2, v50]
    exact (final3 m c h0 h1 h2).symm
  · refine (r1.trans (Cert.ReferenceIdeal.Read.val_main_v51_eq _ _ _)).trans ?_
    rw [a0, a1, a2, h0, h1, h2, v51]
    refine Eq.trans ?_ (final4 m c h0 h1 h2).symm
    funext j
    exact congrArg Real.toEReal (sum_rows (fun x t => rowLoss x (gvec G) t) X T).symm
  · refine (r2.trans (Cert.ReferenceIdeal.Read.val_main_v52_eq _ _ _)).trans ?_
    rw [a0, a1, a2, h0, h1, h2, v52]
    refine Eq.trans ?_ (final5 m c h0 h1 h2).symm
    funext j
    exact congrArg Real.toEReal (sum_rows (fun x t => rowGain x (gvec G) t (j 1)) X T).symm

end Claim

end Cert.Proof.Loss

end
-- ==== Proof.Conv.lean ====
module

public import proofs.«01_k».proof.Proof.Reals
public import proofs.«01_k».proof.Proof.Gen.Kernel2Ideal.Value
public import proofs.«01_k».proof.Proof.Gen.Reference2Ideal.Read
public import proofs.«01_k».proof.Proof.Gen.Reference2Ideal.Run
public import proofs.«01_k».proof.Defs
public import Idealize.ShloMosaic.Lib.Claim
public import Idealize.ShloMosaic.Lib.Pipeline.ValueKit
public import Idealize.ShloMosaic.Lib.Pipeline.ReadBack
public import Idealize.ShloMosaic.Lib.WritesUnit

/-!
# The gated short convolution's gradient

The kernel walks the blocks of 256 rows from the last to the first. Both programs compute over the extended reals, and
no finiteness is needed: they form the same products and the same sums, in another order.
-/

@[expose] public section

set_option maxRecDepth 16384

noncomputable section

namespace Cert.Proof.Conv

open Idealize.ShloMosaic Idealize.ShloMosaic.TcCoe Idealize.SL.Sem Cert.Proof.Reals

/-! ## Arrays read at natural numbers -/

/-- A two-dimensional array from a function of natural numbers. -/
def arr {a b : ℕ} (f : ℕ → ℕ → EReal) : (⟨2, ![a, b]⟩ : Shape).Idx → EReal := fun j => f (j 0).val (j 1).val

theorem arr_ix2 {a b : ℕ} (f : ℕ → ℕ → EReal) (i : Fin a) (k : Fin b) : arr f (ix2 i k) = f i.val k.val := rfl

/-- A two-dimensional array read at natural numbers, zero outside. -/
def tot {a b : ℕ} (A : (⟨2, ![a, b]⟩ : Shape).Idx → EReal) (i k : ℕ) : EReal :=
  if h : i < a ∧ k < b then A (ix2 ⟨i, h.1⟩ ⟨k, h.2⟩) else 0

theorem tot_eq {a b : ℕ} (A : (⟨2, ![a, b]⟩ : Shape).Idx → EReal) (j : (⟨2, ![a, b]⟩ : Shape).Idx) {i k : ℕ}
    (hi : (j 0).val = i) (hk : (j 1).val = k) : A j = tot A i k := by
  subst hi hk
  unfold tot
  rw [dif_pos ⟨(j 0).isLt, (j 1).isLt⟩]
  refine congrArg A (funext fun x => ?_)
  match x with
  | ⟨0, _⟩ => rfl
  | ⟨1, _⟩ => rfl

theorem tot_out {a b : ℕ} (A : (⟨2, ![a, b]⟩ : Shape).Idx → EReal) {i : ℕ} (k : ℕ) (h : a ≤ i) : tot A i k = 0 :=
  dif_neg fun e => absurd e.1 (not_lt.2 h)

/-! ## The mathematics -/

section Maths

variable (P C W D : ℕ → ℕ → EReal)

/-- The gated input of the convolution: the second third of the projection times the last. -/
def cv (i k : ℕ) : EReal := P i (1024 + k) * P i (2048 + k)
/-- The same, `n` rows later, zero before the first row. -/
def late (n i k : ℕ) : EReal := if n ≤ i then cv P (i - n) k else 0
/-- The convolution. -/
def conv (i k : ℕ) : EReal := C 2 k * cv P i k + C 1 k * late P 1 i k + C 0 k * late P 2 i k
/-- The cotangent through the product with the output weights. -/
def dby (i k : ℕ) : EReal := ∑ l : Fin 1024, D i l * W k l
/-- The cotangent of the convolution: through the gate, the first third of the projection. -/
def dy (i k : ℕ) : EReal := dby W D i k * P i k
/-- The cotangent of the convolution's input: the convolution backwards. -/
def dcv (i k : ℕ) : EReal := C 2 k * dy P W D i k + C 1 k * dy P W D (i + 1) k + C 0 k * dy P W D (i + 2) k
/-- One row's term of tap `n`'s gradient. -/
def tap (n i k : ℕ) : EReal := dy P W D i k * late P (2 - n) i k

theorem late_zero (i k : ℕ) : late P 0 i k = cv P i k := by simp [late]

/-- The gradient of the projection. -/
def dproj (i k : ℕ) : EReal :=
  if k < 1024 then dby W D i k * conv P C i k
  else if k < 2048 then dcv P C W D i (k - 1024) * P i (k + 1024)
  else dcv P C W D i (k - 2048) * P i (k - 1024)

end Maths

/-! ## The kernel's body -/

section Kernel

open Cert.Kernel2Ideal Cert.Kernel2Ideal.Gen

section Stages

variable (f g h f' g' w0 w1 w2 : ℕ → ℕ → EReal)

theorem pay4 (W : S1x1024x1024.Idx → EReal) (w : ℕ → ℕ → EReal) (hW : ∀ i k, W (ix3 0 i k) = w i.val k.val) :
    k0_pay4 (F := Ideal) (arr f) W = arr fun i k => ∑ l : Fin 1024, f i l * w k l := by
  funext j
  idx_vars j
  unfold k0_pay4 k0_pay3
  pointwise
  simp only [hW]
  rfl
theorem pay11 : k0_pay11 (F := Ideal) (arr f) (arr g) = arr fun i k => f i k * g i k := by
  funext j; idx_vars j; unfold k0_pay11 k0_pay9 k0_pay10; pointwise; rfl
theorem pay12 : k0_pay12 (F := Ideal) (arr f) (arr g) = arr fun i k => f i k * g i k := by
  funext j; idx_vars j; unfold k0_pay12; pointwise; rfl
theorem pay15 : k0_pay15 (F := Ideal) (k0_pay5 (arr w0)) (k0_pay6 (arr w1)) (k0_pay7 (arr w2)) (arr f) (arr g) (arr h) =
    arr fun i k => w2 0 k * f i k + w1 0 k * g i k + w0 0 k * h i k := by
  funext j; idx_vars j; unfold k0_pay15 k0_pay5 k0_pay6 k0_pay7; pointwise; rfl
theorem pay16 : k0_pay16 (F := Ideal) (arr f) (k0_pay8 (arr g)) = arr fun i k => f i k * g i k := by
  funext j; idx_vars j; unfold k0_pay16 k0_pay8; pointwise; rfl
theorem pay17 : k0_pay17 (F := Ideal) (arr f) (k0_pay8 (arr g)) = arr fun i k => f i k * g i k := by
  funext j; idx_vars j; unfold k0_pay17; rw [pay16]; pointwise
theorem pay19 : k0_pay19 (F := Ideal) (arr f) (k0_pay8 (arr g)) = arr fun i k => f i k * g i k := by
  funext j; idx_vars j; unfold k0_pay19; rw [pay16]; pointwise; exact (by simp [arr])
theorem pay18 : k0_pay18 (F := Ideal) (arr f) (k0_pay5 (arr w0)) (k0_pay6 (arr w1)) (k0_pay7 (arr w2)) (k0_pay8 (arr g)) (arr h) (arr f') =
    arr fun i k => w2 0 k * (f i k * g i k) + w1 0 k * h i k + w0 0 k * f' i k := by
  funext j; idx_vars j; unfold k0_pay18 k0_pay5 k0_pay6 k0_pay7; rw [pay16]; pointwise; rfl
theorem pay20 : k0_pay20 (F := Ideal) (arr f') (k0_pay5 (arr w0)) (k0_pay6 (arr w1)) (k0_pay7 (arr w2)) (arr f) (arr g) (arr h) =
    arr fun i k => f' i k * (w2 0 k * f i k + w1 0 k * g i k + w0 0 k * h i k) := by
  funext j; idx_vars j; unfold k0_pay20; rw [pay15]; pointwise; rfl
theorem pay21 : k0_pay21 (F := Ideal) (k0_pay10 (arr f)) (arr g) = arr fun i k => g i k * f i k := by
  funext j; idx_vars j; unfold k0_pay21 k0_pay10; pointwise; rfl
theorem pay22 : k0_pay22 (F := Ideal) (k0_pay9 (arr f)) (arr g) = arr fun i k => g i k * f i k := by
  funext j; idx_vars j; unfold k0_pay22 k0_pay9; pointwise; rfl
theorem pay23 : k0_pay23 (F := Ideal) (k0_pay8 (arr f)) (arr g) = arr fun i k => f k i * g k i := by
  funext j; idx_vars j; unfold k0_pay23 k0_pay8; pointwise; rfl
theorem pay24 : k0_pay24 (F := Ideal) (arr f) (arr g) (arr h) (arr f') = arr fun i k =>
    if i = 0 then ∑ r : Fin 256, f' r k * h r k else if i = 1 then ∑ r : Fin 256, f' r k * g r k
    else if i = 2 then ∑ r : Fin 256, f' r k * f r k else 0 := by
  funext j; idx_vars j; unfold k0_pay24; pointwise
  fin_cases j0 <;> rfl
theorem pay13 (a : BitVec 32) : k0_pay13 (F := Ideal) a (arr f) 0#32 = arr fun i k => if a = 0#32 then 0 else f i k := by
  funext j; idx_vars j; unfold k0_pay13; pointwise
  by_cases ha : a = 0#32
  · subst ha; rfl
  · simp only [if_neg ha, arr]
    have : Scalar.cmpi CmpIPredicate.eq a 0#32 = 0#1 := by
      have : (a == 0#32) = false := by simpa using ha
      simp [Scalar.cmpi, IntOp.cmpi, this]
    rw [this]; rfl
theorem pay14 : k0_pay14 (F := Ideal) (arr f) = arr f := by
  funext j; idx_vars j; unfold k0_pay14; pointwise
theorem pay2 : k0_pay2 (F := Ideal) = arr fun _ _ => 0 := by
  funext j; idx_vars j; unfold k0_pay2; pointwise; rfl

end Stages

/-! ## Loads and stores of parts -/

section Parts

theorem ld_arr {a b p q : ℕ} (f : ℕ → ℕ → EReal) (o : Fin 2 → ℕ)
    (h : ∀ x, o x + (![p, q] : Fin 2 → ℕ) x ≤ (⟨2, ![a, b]⟩ : Shape).size x) :
    View.ld (Val := Elt Ideal) (S := ⟨2, ![a, b]⟩) (e' := .f32) (arr f) (Rect.unit (s := ⟨2, ![a, b]⟩) o ![p, q] h) =
      (arr fun i k => f (o 0 + i) (o 1 + k) : (⟨2, ![p, q]⟩ : Shape).Idx → EReal) :=
  funext fun j => congrArg₂ f (Rect.idx_unit_val (s := ⟨2, ![a, b]⟩) o _ h j 0) (Rect.idx_unit_val (s := ⟨2, ![a, b]⟩) o _ h j 1)
theorem ld_arr' {a b p q : ℕ} (f : ℕ → ℕ → EReal) (o : Fin 2 → ℕ)
    (h : ∀ x, o x + (![p, q] : Fin 2 → ℕ) x ≤ (⟨2, ![a, b]⟩ : Shape).size x) :
    View.ld (Val := Elt Ideal) (S := ⟨2, ![a, b]⟩) (e' := .bf16) (arr f) (Rect.unit (s := ⟨2, ![a, b]⟩) o ![p, q] h) =
      (arr fun i k => f (o 0 + i) (o 1 + k) : (⟨2, ![p, q]⟩ : Shape).Idx → EReal) :=
  funext fun j => congrArg₂ f (Rect.idx_unit_val (s := ⟨2, ![a, b]⟩) o _ h j 0) (Rect.idx_unit_val (s := ⟨2, ![a, b]⟩) o _ h j 1)

/-- A store of part of an array, at the array's index. -/
theorem piece_arr {a b p q : ℕ} {f G : ℕ → ℕ → EReal} {o : Fin 2 → ℕ}
    {h : ∀ x, o x + (![p, q] : Fin 2 → ℕ) x ≤ (⟨2, ![a, b]⟩ : Shape).size x}
    (hf : ∀ i k, i < p → k < q → f i k = G (o 0 + i) (o 1 + k)) (x : (⟨2, ![p, q]⟩ : Shape).Idx) :
    arr f x = (arr G : (⟨2, ![a, b]⟩ : Shape).Idx → EReal) ((Rect.unit (s := ⟨2, ![a, b]⟩) o ![p, q] h).emb x) :=
  (hf _ _ (x 0).isLt (x 1).isLt).trans (congrArg₂ G (Rect.idx_unit_val (s := ⟨2, ![a, b]⟩) o _ h x 0).symm
    (Rect.idx_unit_val (s := ⟨2, ![a, b]⟩) o _ h x 1).symm)

/-- An index lies in a part when its coordinates do. -/
theorem mem_part {a b : ℕ} {o s : Fin 2 → ℕ} {h : ∀ x, o x + s x ≤ (⟨2, ![a, b]⟩ : Shape).size x}
    (y : (⟨2, ![a, b]⟩ : Shape).Idx) (h0 : o 0 ≤ (y 0).val ∧ (y 0).val < o 0 + s 0)
    (h1 : o 1 ≤ (y 1).val ∧ (y 1).val < o 1 + s 1) : y ∈ (Rect.unit (s := ⟨2, ![a, b]⟩) o s h).set := by
  rw [Rect.mem_set_unit]
  intro x
  match x with
  | ⟨0, _⟩ => exact h0
  | ⟨1, _⟩ => exact h1

end Parts

section Blocks

variable (m : (ℓ : Loc nD τ sig) → Buf (Elt Ideal) ℓ) (c : Dev nD)

/-- The kernel's arguments, read at natural numbers. -/
def aP : ℕ → ℕ → EReal := tot (m ((c : Thread nD τ).loc main_arg0) : S4096x3072.Idx → EReal)
def aC : ℕ → ℕ → EReal := tot (m ((c : Thread nD τ).loc main_arg1) : S3x1024.Idx → EReal)
def aW : ℕ → ℕ → EReal := tot (m ((c : Thread nD τ).loc main_arg3) : S1024x1024.Idx → EReal)
def aD : ℕ → ℕ → EReal := tot (m ((c : Thread nD τ).loc main_arg4) : S4096x1024.Idx → EReal)

/-- The first row of the block at step `t`. -/
def r0 (t : Fin cfg0.N) : ℕ := (15 - t.val) * 256

theorem idx0 : ∀ t : Fin cfg0.N, win0_0.index t = ![15 - t.val, 0] := (by decide +kernel : ∀ t : Fin grid0.N, _)
theorem idx1 : ∀ t : Fin cfg0.N, win0_1.index t = ![15 - t.val, 0] := (by decide +kernel : ∀ t : Fin grid0.N, _)
theorem idx2 : ∀ t : Fin cfg0.N, win0_2.index t = ![(15 - t.val) * 16 - 1, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![1, 0, 0] := (by decide +kernel : ∀ t : Fin grid0.N, _)
theorem idx5 : ∀ t : Fin cfg0.N, win0_5.index t = ![15 - t.val, 0] := (by decide +kernel : ∀ t : Fin grid0.N, _)
theorem idx6 : ∀ t : Fin cfg0.N, win0_6.index t = ![0, 15 - t.val] := (by decide +kernel : ∀ t : Fin grid0.N, _)
theorem idx7 : ∀ t : Fin cfg0.N, win0_7.index t = ![15 - t.val, 0] := (by decide +kernel : ∀ t : Fin grid0.N, _)
theorem coord : ∀ t : Fin cfg0.N, (Scalar.subi 15#32 (BitVec.ofNat 32 ↑(grid0.coords t 0)) = 0#32) = (t.val = 15) :=
  fun t => propext ((by decide +kernel : ∀ t : Fin grid0.N,
    (Scalar.subi 15#32 (BitVec.ofNat 32 ↑(grid0.coords t 0)) = 0#32) ↔ (t.val = 15)) t)

theorem iblk0 (t : Fin cfg0.N) : iblk m c 0 t = arr fun i k => aD m c (r0 t + i) k := by
  funext y
  blk_simp [iblk]
  rw [V_main_arg4]
  refine tot_eq (a := 4096) (b := 1024) _ _ ?_ ?_ <;> simp [idx0 t, r0]
/-- The operands the host computes. -/
theorem V4 : V m c main_v4 = (m ((c : Thread nD τ).loc main_arg0) : S4096x3072.Idx → EReal) := by
  change StableHlo.after [hostOps0, hostOps0_1].flatten _ _ = _
  simp only [hostOps0, hostOps0_1, List.flatten_cons, List.flatten_nil, List.append_nil, List.cons_append,
      List.nil_append]
  after_results
  rfl
theorem V5 (y : S8x1024.Idx) : V m c main_v5 y = aC m c (y 0).val (y 1).val := by
  change StableHlo.after [hostOps0, hostOps0_1].flatten _ _ _ = _
  simp only [hostOps0, hostOps0_1, List.flatten_cons, List.flatten_nil, List.append_nil, List.cons_append,
      List.nil_append]
  after_results
  change pad S8x1024 ![0, 0] ![5, 0] ![0, 0] (m ((c : Thread nD τ).loc main_arg1) : S3x1024.Idx → EReal)
    (sitofp (F := Ideal) FTy.f32 (constantI S_ 32 0#32)) pads_S3x1024_S8x1024_050_000 h_S_ y = _
  idx_vars y
  pointwise
  split_ifs with hh
  · exact tot_eq (a := 3) (b := 1024) _ _ rfl rfl
  · have h3 : 3 ≤ y0.val := by
      by_contra hlt
      refine hh fun a => ?_
      match a with
      | ⟨0, _⟩ => exact ⟨Nat.zero_le _, by simp; omega, by simp; exact not_le.1 hlt⟩
      | ⟨1, _⟩ => exact ⟨Nat.zero_le _, by simp; omega, by simp⟩
    exact Eq.trans (by simp [FloatOps.sitofp]) (tot_out _ _ h3).symm
theorem V3 (k l : Fin 1024) : V m c main_v3 (ix3 1 k l) = aW m c k.val l.val := by
  change StableHlo.after [hostOps0, hostOps0_1].flatten _ _ _ = _
  simp only [hostOps0, hostOps0_1, List.flatten_cons, List.flatten_nil, List.append_nil, List.cons_append,
      List.nil_append]
  after_results
  pointwise
  exact tot_eq (a := 1024) (b := 1024) _ _ rfl rfl
theorem iblk1 (t : Fin cfg0.N) : iblk m c 1 t = arr fun i k => aP m c (r0 t + i) k := by
  funext y
  blk_simp [iblk]
  rw [V4]
  refine tot_eq (a := 4096) (b := 3072) _ _ ?_ ?_ <;> simp [idx1 t, r0]
theorem iblk2 (t : Fin cfg0.N) : iblk m c 2 t = arr fun i k => aP m c (((15 - t.val) * 16 - 1) * 16 + i) k := by
  funext y
  blk_simp [iblk]
  rw [V4]
  refine tot_eq (a := 4096) (b := 3072) _ _ ?_ ?_ <;> simp [idx2 t]
theorem iblk3 (t : Fin cfg0.N) : iblk m c 3 t = arr fun i k => aC m c i k := by
  funext y
  blk_simp [iblk]
  rw [V5]
  refine congrArg₂ _ ?_ ?_ <;> simp [idx3 t]
theorem iblk4 (t : Fin cfg0.N) (i k : Fin 1024) : iblk m c 4 t (ix3 0 i k) = aW m c i.val k.val := by
  blk_simp [iblk]
  refine (congrArg _ ?_).trans (V3 m c i k)
  blk_ext [idx4 t]

/-- What the body's step `t` reads and forms. -/
theorem rows (t : Fin cfg0.N) : k0_pay4 (iblk m c 0 t) (iblk m c 4 t) = arr fun i k => dby (aW m c) (aD m c) (r0 t + i) k := by
  rw [iblk0, pay4 _ _ (aW m c) (iblk4 m c t)]
  rfl
theorem halo (t : Fin cfg0.N) :
    k0_pay13 (Scalar.subi (15#32) (BitVec.ofNat 32 ↑(grid0.coords t 0)))
      (k0_pay12 (View.ld (iblk m c 2 t) (Rect.unit ![0, 1024] ![16, 1024] inb_S16x3072_S16x1024_0_1024))
        (View.ld (iblk m c 2 t) (Rect.unit ![0, 2048] ![16, 1024] inb_S16x3072_S16x1024_0_2048))) 0#32 =
    arr fun i k => if t.val = 15 then 0 else cv (aP m c) (((15 - t.val) * 16 - 1) * 16 + i) k := by
  rw [iblk2]
  erw [ld_arr', ld_arr', pay12, pay13]
  simp only [coord t]
  funext j
  simp [arr, cv]
theorem tail (t : Fin cfg0.N) (o : Fin 2 → ℕ) (ho : o 0 < 16) (ho1 : o 1 = 0) (h) :
    ((View.whole cc0_scratch0).readCov (Val := Elt Ideal)
      [⟨Rect.unit ![16, 0] ![256, 1024] inb_S272x1024_S256x1024_16_0,
          k0_pay14 (k0_pay11
              (View.ld (iblk m c 1 t) (Rect.unit ![0, 1024] ![256, 1024] inb_S256x3072_S256x1024_0_1024))
              (View.ld (iblk m c 1 t) (Rect.unit ![0, 2048] ![256, 1024] inb_S256x3072_S256x1024_0_2048)))⟩,
        ⟨Rect.unit ![0, 0] ![16, 1024] inb_S272x1024_S16x1024_0_0,
          k0_pay13 (Scalar.subi (15#32) (BitVec.ofNat 32 ↑(grid0.coords t 0)))
            (k0_pay12 (View.ld (iblk m c 2 t) (Rect.unit ![0, 1024] ![16, 1024] inb_S16x3072_S16x1024_0_1024))
              (View.ld (iblk m c 2 t) (Rect.unit ![0, 2048] ![16, 1024] inb_S16x3072_S16x1024_0_2048)))
            0#32⟩]
      (Rect.unit o ![256, 1024] h).toLoadRect) = arr fun i k => late (aP m c) (16 - o 0) (r0 t + i) k := by
  have hN := t.isLt.trans_eq N_0
  rw [View.readCov_eq_canon', halo, iblk1]
  erw [ld_arr', ld_arr', pay11, pay14]
  funext j
  refine (View.canon_apply_of_pieces (arr fun i k => late (aP m c) 16 (r0 t + i) k) _ ?_ _ ?_).trans ?_
  · simp only [List.mem_cons, List.not_mem_nil, or_false, forall_eq_or_imp, forall_eq]
    refine ⟨piece_arr fun i k hi hk => ?_, piece_arr fun i k hi hk => ?_⟩
    · simp only [late, cv, r0, Matrix.cons_val_zero, Matrix.cons_val_one, Nat.zero_add]
      rw [if_pos (by omega), show (15 - t.val) * 256 + (16 + i) - 16 = (15 - t.val) * 256 + i by omega]
    · simp only [late, cv, r0, Matrix.cons_val_zero, Matrix.cons_val_one, Nat.zero_add]
      split_ifs with h1 h2 h2
      · omega
      · rfl
      · rw [show (15 - t.val) * 256 + i - 16 = ((15 - t.val) * 16 - 1) * 16 + i by omega]
      · omega
  · have hj0 : (j 0).val < 256 := (j 0).isLt
    have hj1 : (j 1).val < 1024 := (j 1).isLt
    have e0 := Rect.idx_unit_val (s := S272x1024) o ![256, 1024] h j 0
    have e1 := Rect.idx_unit_val (s := S272x1024) o ![256, 1024] h j 1
    by_cases hc : 16 ≤ o 0 + (j 0).val
    · exact ⟨_, List.mem_cons_self, mem_part (h := inb_S272x1024_S256x1024_16_0) _ ⟨le_of_le_of_eq hc e0.symm, by rw [e0]; show _ < 16 + 256; omega⟩
        ⟨Nat.zero_le _, by rw [e1]; show _ < 0 + 1024; omega⟩⟩
    · exact ⟨_, List.mem_cons_of_mem _ List.mem_cons_self, mem_part (h := inb_S272x1024_S16x1024_0_0) _ ⟨Nat.zero_le _, by rw [e0]; show _ < 0 + 16; omega⟩
        ⟨Nat.zero_le _, by rw [e1]; show _ < 0 + 1024; omega⟩⟩
  · have e0 := Rect.idx_unit_val (s := S272x1024) o ![256, 1024] h j 0
    have e1 := Rect.idx_unit_val (s := S272x1024) o ![256, 1024] h j 1
    simp only [arr]
    erw [e0, e1]
    simp only [late, ho1, Nat.zero_add]
    have : r0 t + (o 0 + (j 0).val) - 16 = r0 t + (j 0).val - (16 - o 0) := by omega
    by_cases hc : 16 ≤ r0 t + (o 0 + (j 0).val)
    · rw [if_pos hc, if_pos (by omega), this]
    · rw [if_neg hc, if_neg (by omega)]

/-- The gated cotangent of a step's rows, as stored. -/
theorem gated (t : Fin cfg0.N) :
    k0_pay17 (k0_pay4 (iblk m c 0 t) (iblk m c 4 t))
      (k0_pay8 (View.ld (iblk m c 1 t) (Rect.unit ![0, 0] ![256, 1024] inb_S256x3072_S256x1024_0_0))) =
    arr fun i k => dy (aP m c) (aW m c) (aD m c) (r0 t + i) k := by
  rw [rows, iblk1]
  erw [ld_arr', pay17]
  funext j
  simp [arr, dy]
theorem gated' (t : Fin cfg0.N) :
    k0_pay19 (k0_pay4 (iblk m c 0 t) (iblk m c 4 t))
      (k0_pay8 (View.ld (iblk m c 1 t) (Rect.unit ![0, 0] ![256, 1024] inb_S256x3072_S256x1024_0_0))) =
    arr fun i k => dy (aP m c) (aW m c) (aD m c) (r0 t + i) k := by
  rw [rows, iblk1]
  erw [ld_arr', pay19]
  funext j
  simp [arr, dy]

/-- The rows past the end have no cotangent. -/
theorem dy_out (i k : ℕ) (h : 4096 ≤ i) : dy (aP m c) (aW m c) (aD m c) i k = 0 := by
  unfold dy aP
  rw [tot_out _ _ h, mul_zero]

/-- What a step leaves for the next: its first eight rows' gated cotangent. -/
theorem carried (t : Fin cfg0.N) (i : Fin 8) (k : Fin 1024) :
    (outsAt0 m c t.val t.isLt).2.2.2.2 (ix2 ⟨256 + i.val, by omega⟩ k) =
      dy (aP m c) (aW m c) (aD m c) (r0 t + i.val) k.val := by
  have hN := t.isLt.trans_eq N_0
  have e : (ix2 ⟨256 + i.val, by omega⟩ k : S264x1024.Idx) =
      (Rect.unit (s := S264x1024) ![256, 0] ![8, 1024] inb_S264x1024_S8x1024_256_0).emb (ix2 i k) := by
    funext x
    refine Fin.ext (Eq.trans ?_ (Rect.idx_unit_val (s := S264x1024) ![256, 0] ![8, 1024] inb_S264x1024_S8x1024_256_0 (ix2 i k) x).symm)
    match x with
    | ⟨0, _⟩ => rfl
    | ⟨1, _⟩ => exact (Nat.zero_add _).symm
  rw [e]
  by_cases h : t.val % 16 = 0
  · rw [outsAt0_A m c t h h (by omega)]
    frame_out
    exact (View.canon_cons_emb ..).trans (congrFun (gated' m c t) (ix2 i k))
  · rw [outsAt0_B m c t h h (by omega)]
    frame_out
    exact (View.canon_cons_emb ..).trans (congrFun (gated' m c t) (ix2 i k))

/-- What the body reads back of the gated cotangent, one or two rows down, at the first step. -/
theorem down_A (t : Fin cfg0.N) (ht : t.val = 0) (o : Fin 2 → ℕ) (ho : o 0 ≤ 8) (ho1 : o 1 = 0) (h) :
    ((View.whole cc0_scratch1).readCov (Val := Elt Ideal)
      [⟨Rect.unit ![0, 0] ![256, 1024] inb_S264x1024_S256x1024_0_0,
          k0_pay17 (k0_pay4 (iblk m c 0 t) (iblk m c 4 t))
            (k0_pay8 (View.ld (iblk m c 1 t) (Rect.unit ![0, 0] ![256, 1024] inb_S256x3072_S256x1024_0_0)))⟩,
        ⟨Rect.unit ![256, 0] ![8, 1024] inb_S264x1024_S8x1024_256_0, k0_pay2 (F := Ideal)⟩]
      (Rect.unit o ![256, 1024] h).toLoadRect) = arr fun i k => dy (aP m c) (aW m c) (aD m c) (r0 t + (i + o 0)) k := by
  rw [View.readCov_eq_canon', gated, pay2]
  funext j
  have hj0 : (j 0).val < 256 := (j 0).isLt
  have hj1 : (j 1).val < 1024 := (j 1).isLt
  have e0 := Rect.idx_unit_val (s := S264x1024) o ![256, 1024] h j 0
  have e1 := Rect.idx_unit_val (s := S264x1024) o ![256, 1024] h j 1
  refine (View.canon_apply_of_pieces (arr fun i k => dy (aP m c) (aW m c) (aD m c) (r0 t + i) k) _ ?_ _ ?_).trans ?_
  · simp only [List.mem_cons, List.not_mem_nil, or_false, forall_eq_or_imp, forall_eq]
    refine ⟨piece_arr fun i k hi hk => ?_, piece_arr fun i k hi hk => ?_⟩
    · simp
    · exact (dy_out m c _ _ (by simp only [r0, ht, Matrix.cons_val_zero]; omega)).symm
  · by_cases hc : 256 ≤ o 0 + (j 0).val
    · exact ⟨_, List.mem_cons_of_mem _ List.mem_cons_self, mem_part (h := inb_S264x1024_S8x1024_256_0) _ ⟨le_of_le_of_eq hc e0.symm, by rw [e0]; show _ < 256 + 8; omega⟩
        ⟨Nat.zero_le _, by rw [e1]; show _ < 0 + 1024; omega⟩⟩
    · exact ⟨_, List.mem_cons_self, mem_part (h := inb_S264x1024_S256x1024_0_0) _ ⟨Nat.zero_le _, by rw [e0]; show _ < 0 + 256; omega⟩
        ⟨Nat.zero_le _, by rw [e1]; show _ < 0 + 1024; omega⟩⟩
  · simp only [arr]
    erw [e0, e1]
    rw [ho1, Nat.zero_add, Nat.add_comm (o 0)]

/-- The same at a later step, past the block what the step before left. -/
theorem down_B (t : Fin cfg0.N) (ht : 0 < t.val) (hp) (hw : (Memref.whole cc0_scratch1).IsWhole) (o : Fin 2 → ℕ) (ho : o 0 ≤ 8)
    (ho1 : o 1 = 0) (h) :
    View.ld (Val := Elt Ideal)
      (View.read (Elt Ideal) (View.whole cc0_scratch1)
        ((View.whole cc0_scratch1).writes (Elt Ideal) (hw.unread (outsAt0 m c (t.val - 1) hp).2.2.2.2)
          [⟨Rect.unit ![0, 0] ![256, 1024] inb_S264x1024_S256x1024_0_0,
            k0_pay17 (k0_pay4 (iblk m c 0 t) (iblk m c 4 t))
              (k0_pay8 (View.ld (iblk m c 1 t) (Rect.unit ![0, 0] ![256, 1024] inb_S256x3072_S256x1024_0_0)))⟩]))
      (Rect.unit o ![256, 1024] h) = arr fun i k => dy (aP m c) (aW m c) (aD m c) (r0 t + (i + o 0)) k := by
  have hN := t.isLt.trans_eq N_0
  rw [gated]
  funext j
  have hj0 : (j 0).val < 256 := (j 0).isLt
  have hj1 : (j 1).val < 1024 := (j 1).isLt
  have e0 := Rect.idx_unit_val (s := S264x1024) o ![256, 1024] h j 0
  have e1 := Rect.idx_unit_val (s := S264x1024) o ![256, 1024] h j 1
  rw [View.ld_apply, View.read_writes_cons_unit _ _ _ _ _ _ rfl]
  split_ifs with hh
  · have h0 := (hh 0).2
    simp only [arr]
    erw [Rect.unitLocal_val, Rect.unitLocal_val, e0, e1]
    simp only [Matrix.cons_val_zero, Matrix.cons_val_one, Nat.sub_zero, ho1, Nat.zero_add]
    rw [Nat.add_comm (o 0)]
  · have hc : 256 ≤ o 0 + (j 0).val := by
      by_contra hlt
      refine hh fun a => ?_
      match a with
      | ⟨0, _⟩ => exact ⟨Nat.zero_le _, by erw [e0]; show _ < 0 + 256; omega⟩
      | ⟨1, _⟩ => exact ⟨Nat.zero_le _, by erw [e1]; show _ < 0 + 1024; omega⟩
    rw [View.writes_nil, read_unread_whole]
    have e := carried m c ⟨t.val - 1, hp⟩ ⟨o 0 + (j 0).val - 256, by omega⟩ ⟨(j 1).val, hj1⟩
    refine (congrArg _ (funext fun a => Fin.ext ?_)).trans (e.trans ?_)
    · match a with
      | ⟨0, _⟩ => exact e0.trans (by show _ = 256 + (o 0 + (j 0).val - 256); omega)
      | ⟨1, _⟩ => exact e1.trans (by show _ = (j 1).val; omega)
    · simp only [arr, r0]
      rw [show (15 - (t.val - 1)) * 256 + (o 0 + (j 0).val - 256) = (15 - t.val) * 256 + ((j 0).val + o 0) by omega]

/-- The index of the whole array under index `y` of block `t`. -/
theorem emb5 (t : Fin cfg0.N) (y : S256x3072.Idx) : ((cfg0.win 5).blk t).view.emb y =
    ix2 ⟨r0 t + (y 0).val, by have h : (y 0).val < 256 := (y 0).isLt; unfold r0; omega⟩ (y 1) := by
  blk_ext [idx5 t, r0]
theorem emb6 (t : Fin cfg0.N) (y : S1024x256.Idx) : ((cfg0.win 6).blk t).view.emb y =
    ix2 (y 0) ⟨r0 t + (y 1).val, by have h : (y 1).val < 256 := (y 1).isLt; unfold r0; omega⟩ := by
  blk_ext [idx6 t, r0]
theorem emb7 (t : Fin cfg0.N) (y : S256x1024.Idx) : ((cfg0.win 7).blk t).view.emb y =
    ix2 ⟨r0 t + (y 0).val, by have h : (y 0).val < 256 := (y 0).isLt; unfold r0; omega⟩ (y 1) := by
  blk_ext [idx7 t, r0]

/-- The weight rows. -/
theorem row_ld (t : Fin cfg0.N) (o : Fin 2 → ℕ) (h) : View.ld (iblk m c 3 t) (Rect.unit o ![1, 1024] h) =
    (arr fun i k => aC m c (o 0 + i) (o 1 + k) : S1x1024.Idx → EReal) := by
  rw [iblk3]; exact ld_arr _ _ _

/-- The parts of the projection a step reads. -/
theorem part_ld (t : Fin cfg0.N) (o : Fin 2 → ℕ) (h) : View.ld (iblk m c 1 t) (Rect.unit o ![256, 1024] h) =
    (arr fun i k => aP m c (r0 t + (o 0 + i)) (o 1 + k) : S256x1024.Idx → EReal) := by
  rw [iblk1]; exact ld_arr' _ _ _
theorem cur (t : Fin cfg0.N) : (k0_pay11 (View.ld (iblk m c 1 t) (Rect.unit ![0, 1024] ![256, 1024] inb_S256x3072_S256x1024_0_1024))
        (View.ld (iblk m c 1 t) (Rect.unit ![0, 2048] ![256, 1024] inb_S256x3072_S256x1024_0_2048))) =
    arr fun i k => cv (aP m c) (r0 t + i) k := by
  rw [part_ld, part_ld, pay11]
  funext j
  simp [arr, cv]

section Steps

variable (t : Fin cfg0.N) {X1 X2 Y1 Y2 : S256x1024.Idx → EReal}
  (hX1 : X1 = arr fun i k => late (aP m c) 1 (r0 t + i) k) (hX2 : X2 = arr fun i k => late (aP m c) 2 (r0 t + i) k)
  (hY1 : Y1 = arr fun i k => dy (aP m c) (aW m c) (aD m c) (r0 t + (i + 1)) k)
  (hY2 : Y2 = arr fun i k => dy (aP m c) (aW m c) (aD m c) (r0 t + (i + 2)) k)

include hX1 hX2 in
theorem step6 : k0_pay23 (F := Ideal) (k0_pay8 (View.ld (iblk m c 1 t) (Rect.unit ![0, 0] ![256, 1024] inb_S256x3072_S256x1024_0_0)))
      (k0_pay15 (k0_pay5 (View.ld (iblk m c 3 t) (Rect.unit ![0, 0] ![1, 1024] inb_S8x1024_S1x1024_0_0)))
        (k0_pay6 (View.ld (iblk m c 3 t) (Rect.unit ![1, 0] ![1, 1024] inb_S8x1024_S1x1024_1_0)))
        (k0_pay7 (View.ld (iblk m c 3 t) (Rect.unit ![2, 0] ![1, 1024] inb_S8x1024_S1x1024_2_0)))
        (k0_pay11 (View.ld (iblk m c 1 t) (Rect.unit ![0, 1024] ![256, 1024] inb_S256x3072_S256x1024_0_1024))
        (View.ld (iblk m c 1 t) (Rect.unit ![0, 2048] ![256, 1024] inb_S256x3072_S256x1024_0_2048))) X1 X2) =
    arr fun k i => aP m c (r0 t + i) k * conv (aP m c) (aC m c) (r0 t + i) k := by
  rw [hX1, hX2, cur, row_ld, row_ld, row_ld, part_ld, pay15, pay23]
  funext j
  simp [arr, conv]

include hX1 hX2 in
theorem step8 : k0_pay24 (F := Ideal) (k0_pay11 (View.ld (iblk m c 1 t) (Rect.unit ![0, 1024] ![256, 1024] inb_S256x3072_S256x1024_0_1024))
        (View.ld (iblk m c 1 t) (Rect.unit ![0, 2048] ![256, 1024] inb_S256x3072_S256x1024_0_2048))) X1 X2
      (k0_pay16 (k0_pay4 (iblk m c 0 t) (iblk m c 4 t)) (k0_pay8 (View.ld (iblk m c 1 t) (Rect.unit ![0, 0] ![256, 1024] inb_S256x3072_S256x1024_0_0)))) =
    arr fun n k => if n < 3 then ∑ r : Fin 256, tap (aP m c) (aW m c) (aD m c) n (r0 t + r) k else 0 := by
  rw [hX1, hX2, cur, rows, part_ld, pay16, pay24]
  funext j
  idx_vars j
  simp only [arr]
  fin_cases j0 <;> simp [tap, dy, late_zero]

include hY1 hY2 in
theorem back : (k0_pay18 (k0_pay4 (iblk m c 0 t) (iblk m c 4 t))
        (k0_pay5 (View.ld (iblk m c 3 t) (Rect.unit ![0, 0] ![1, 1024] inb_S8x1024_S1x1024_0_0)))
        (k0_pay6 (View.ld (iblk m c 3 t) (Rect.unit ![1, 0] ![1, 1024] inb_S8x1024_S1x1024_1_0)))
        (k0_pay7 (View.ld (iblk m c 3 t) (Rect.unit ![2, 0] ![1, 1024] inb_S8x1024_S1x1024_2_0)))
        (k0_pay8 (View.ld (iblk m c 1 t) (Rect.unit ![0, 0] ![256, 1024] inb_S256x3072_S256x1024_0_0))) Y1 Y2) =
    arr fun i k => dcv (aP m c) (aC m c) (aW m c) (aD m c) (r0 t + i) k := by
  rw [hY1, hY2, rows, row_ld, row_ld, row_ld, part_ld, pay18]
  funext j
  simp [arr, dcv, dy, Nat.add_assoc]

include hX1 hX2 hY1 hY2 in
theorem step5 (y : S256x3072.Idx) : View.canon (Val := Elt Ideal) (s := S256x3072) (e := .bf16)
      [⟨Rect.unit ![0, 2048] ![256, 1024] inb_S256x3072_S256x1024_0_2048, k0_pay22 (F := Ideal) (k0_pay9 (View.ld (iblk m c 1 t) (Rect.unit ![0, 1024] ![256, 1024] inb_S256x3072_S256x1024_0_1024)))
        (k0_pay18 (k0_pay4 (iblk m c 0 t) (iblk m c 4 t))
        (k0_pay5 (View.ld (iblk m c 3 t) (Rect.unit ![0, 0] ![1, 1024] inb_S8x1024_S1x1024_0_0)))
        (k0_pay6 (View.ld (iblk m c 3 t) (Rect.unit ![1, 0] ![1, 1024] inb_S8x1024_S1x1024_1_0)))
        (k0_pay7 (View.ld (iblk m c 3 t) (Rect.unit ![2, 0] ![1, 1024] inb_S8x1024_S1x1024_2_0)))
        (k0_pay8 (View.ld (iblk m c 1 t) (Rect.unit ![0, 0] ![256, 1024] inb_S256x3072_S256x1024_0_0))) Y1 Y2)⟩,
       ⟨Rect.unit ![0, 1024] ![256, 1024] inb_S256x3072_S256x1024_0_1024, k0_pay21 (F := Ideal) (k0_pay10 (View.ld (iblk m c 1 t) (Rect.unit ![0, 2048] ![256, 1024] inb_S256x3072_S256x1024_0_2048)))
        (k0_pay18 (k0_pay4 (iblk m c 0 t) (iblk m c 4 t))
        (k0_pay5 (View.ld (iblk m c 3 t) (Rect.unit ![0, 0] ![1, 1024] inb_S8x1024_S1x1024_0_0)))
        (k0_pay6 (View.ld (iblk m c 3 t) (Rect.unit ![1, 0] ![1, 1024] inb_S8x1024_S1x1024_1_0)))
        (k0_pay7 (View.ld (iblk m c 3 t) (Rect.unit ![2, 0] ![1, 1024] inb_S8x1024_S1x1024_2_0)))
        (k0_pay8 (View.ld (iblk m c 1 t) (Rect.unit ![0, 0] ![256, 1024] inb_S256x3072_S256x1024_0_0))) Y1 Y2)⟩,
       ⟨Rect.unit ![0, 0] ![256, 1024] inb_S256x3072_S256x1024_0_0,
        k0_pay20 (F := Ideal) (k0_pay4 (iblk m c 0 t) (iblk m c 4 t))
        (k0_pay5 (View.ld (iblk m c 3 t) (Rect.unit ![0, 0] ![1, 1024] inb_S8x1024_S1x1024_0_0)))
        (k0_pay6 (View.ld (iblk m c 3 t) (Rect.unit ![1, 0] ![1, 1024] inb_S8x1024_S1x1024_1_0)))
        (k0_pay7 (View.ld (iblk m c 3 t) (Rect.unit ![2, 0] ![1, 1024] inb_S8x1024_S1x1024_2_0)))
        (k0_pay11 (View.ld (iblk m c 1 t) (Rect.unit ![0, 1024] ![256, 1024] inb_S256x3072_S256x1024_0_1024))
        (View.ld (iblk m c 1 t) (Rect.unit ![0, 2048] ![256, 1024] inb_S256x3072_S256x1024_0_2048))) X1 X2⟩] y =
    dproj (aP m c) (aC m c) (aW m c) (aD m c) (r0 t + (y 0).val) (y 1).val := by
  rw [back m c t hY1 hY2, hX1, hX2, cur, rows, row_ld, row_ld, row_ld, part_ld, part_ld, pay22, pay21, pay20]
  refine (View.canon_apply_of_pieces (arr fun i k => dproj (aP m c) (aC m c) (aW m c) (aD m c) (r0 t + i) k) _ ?_ _ ?_).trans rfl
  · simp only [List.mem_cons, List.not_mem_nil, or_false, forall_eq_or_imp, forall_eq]
    refine ⟨piece_arr fun i k hi hk => ?_, piece_arr fun i k hi hk => ?_, piece_arr fun i k hi hk => ?_⟩
    · simp only [dproj, Matrix.cons_val_zero, Matrix.cons_val_one, Nat.zero_add]
      rw [if_neg (by omega), if_neg (by omega), show 2048 + k - 2048 = k by omega, show 2048 + k - 1024 = 1024 + k by omega]
    · simp only [dproj, Matrix.cons_val_zero, Matrix.cons_val_one, Nat.zero_add]
      rw [if_neg (by omega), if_pos (by omega), show 1024 + k - 1024 = k by omega, show 1024 + k + 1024 = 2048 + k by omega]
    · simp only [dproj, Matrix.cons_val_zero, Matrix.cons_val_one, Nat.zero_add]
      rw [if_pos (by omega)]
      rfl
  · have h0 : (y 0).val < 256 := (y 0).isLt
    have h1 : (y 1).val < 3072 := (y 1).isLt
    by_cases ha : 2048 ≤ (y 1).val
    · exact ⟨_, List.mem_cons_self, mem_part (h := inb_S256x3072_S256x1024_0_2048) _ ⟨Nat.zero_le _, by show _ < 0 + 256; omega⟩
        ⟨ha, by show _ < 2048 + 1024; omega⟩⟩
    · by_cases hb : 1024 ≤ (y 1).val
      · exact ⟨_, List.mem_cons_of_mem _ List.mem_cons_self, mem_part (h := inb_S256x3072_S256x1024_0_1024) _
          ⟨Nat.zero_le _, by show _ < 0 + 256; omega⟩ ⟨hb, by show _ < 1024 + 1024; omega⟩⟩
      · exact ⟨_, List.mem_cons_of_mem _ (List.mem_cons_of_mem _ List.mem_cons_self),
          mem_part (h := inb_S256x3072_S256x1024_0_0) _
          ⟨Nat.zero_le _, by show _ < 0 + 256; omega⟩ ⟨Nat.zero_le _, by show _ < 0 + 1024; omega⟩⟩

end Steps

/-- The gradient of the projection after the run. -/
theorem final5 : (dats m 0 c).arrAt 5 cfg0.N =
    (arr fun i k => dproj (aP m c) (aC m c) (aW m c) (aD m c) i k : S4096x3072.Idx → EReal) := by
  refine (dats m 0 c).arrAt_eq_of_covers 5 _ (by decide +kernel) fun t hf y => ?_
  rw [emb5 t y]
  blk_simp
  rw [after0_5]
  have hN := t.isLt.trans_eq N_0
  by_cases h : t.val % 16 = 0
  · rw [outsAt0_A m c t h h (by omega)]
    frame_out
    exact step5 m c t (tail m c t ![15, 0] (by decide) rfl _) (tail m c t ![14, 0] (by decide) rfl _)
      (down_A m c t (by omega) ![1, 0] (by decide) rfl _) (down_A m c t (by omega) ![2, 0] (by decide) rfl _) y
  · rw [outsAt0_B m c t h h (by omega)]
    frame_out
    exact step5 m c t (tail m c t ![15, 0] (by decide) rfl _) (tail m c t ![14, 0] (by decide) rfl _)
      (down_B m c t (by omega) _ _ ![1, 0] (by decide) rfl _) (down_B m c t (by omega) _ _ ![2, 0] (by decide) rfl _) y
/-- The transposed gated convolution. -/
theorem final6 : (dats m 0 c).arrAt 6 cfg0.N =
    (arr fun k i => aP m c i k * conv (aP m c) (aC m c) i k : S1024x4096.Idx → EReal) := by
  refine (dats m 0 c).arrAt_eq_of_covers 6 _ (by decide +kernel) fun t hf y => ?_
  rw [emb6 t y]
  blk_simp
  rw [after0_6]
  have hN := t.isLt.trans_eq N_0
  have key := congrFun (step6 m c t (tail m c t ![15, 0] (by decide) rfl inb_S272x1024_S256x1024_15_0)
    (tail m c t ![14, 0] (by decide) rfl inb_S272x1024_S256x1024_14_0)) y
  by_cases h : t.val % 16 = 0
  · rw [outsAt0_A m c t h h (by omega)]
    frame_out
    exact key
  · rw [outsAt0_B m c t h h (by omega)]
    frame_out
    exact key
/-- The cotangent, passed on. -/
theorem final7 : (dats m 0 c).arrAt 7 cfg0.N =
    (arr fun i k => aD m c i k : S4096x1024.Idx → EReal) := by
  refine (dats m 0 c).arrAt_eq_of_covers 7 _ (by decide +kernel) fun t hf y => ?_
  rw [emb7 t y]
  blk_simp
  rw [after0_7]
  have hN := t.isLt.trans_eq N_0
  have key := congrFun (iblk0 m c t) y
  by_cases h : t.val % 16 = 0
  · rw [outsAt0_A m c t h h (by omega)]
    frame_out
    exact key
  · rw [outsAt0_B m c t h h (by omega)]
    frame_out
    exact key
/-- The taps' gradient, accumulated over the grid. -/
theorem final8 : (dats m 0 c).arrAt 8 cfg0.N =
    (arr fun n k => if n < 3 then ∑ i : Fin 4096, tap (aP m c) (aW m c) (aD m c) n i k else 0 : S8x1024.Idx → EReal) := by
  have key := fun t => step8 m c t (tail m c t ![15, 0] (by decide) rfl inb_S272x1024_S256x1024_15_0)
    (tail m c t ![14, 0] (by decide) rfl inb_S272x1024_S256x1024_14_0)
  refine (dats m 0 c).arrAt_eq_of_after_last 8 t0_15 (by decide +kernel) _ fun j => ?_
  blk_simp
  rw [after0_8]
  refine (Pipeline.eq_sum_fin_of_reset_step_apply_last (fun n h => (outsAt0 m c n h).2.2.2.1) 16 (fun _ => (0 : EReal))
    (fun t => arr fun n k => if n < 3 then ∑ r : Fin 256, tap (aP m c) (aW m c) (aD m c) n (r0 t + r) k else 0)
    (fun t h j => ?_) (fun t h j => ?_) (le_of_eq N_0) t0_15 rfl j).trans ?_
  · have hN := t.isLt.trans_eq N_0
    rw [outsAt0_A m c t h h (by omega)]
    frame_out
    exact (congrFun (key t) j).trans (zero_add _).symm
  · have hN := t.isLt.trans_eq N_0
    rw [outsAt0_B m c t h h (by omega)]
    frame_out
    refine Eq.trans ?_ (congrArg _ (congrFun (key t) j))
    unfold k0_pay1
    pointwise
    rfl
  · rw [zero_add]
    idx_vars j
    simp only [arr]
    split_ifs with h3
    · refine ((Equiv.sum_comp Fin.revPerm _).symm).trans ?_
      refine Fin.sum_mul_add_congr fun t r _ => ?_
      have hN := t.isLt.trans_eq N_0
      refine congrArg (fun i => tap _ _ _ _ i _) ?_
      simp only [r0, Fin.revPerm_apply, Fin.val_rev]
      have hN' : cfg0.N = 16 := N_0
      omega
    · exact Finset.sum_const_zero

end Blocks
end Kernel

/-! ## The reference -/

section Reference

open Cert.Reference2Ideal Cert.Reference2Ideal.Gen Cert.Reference2Ideal.Read

variable (A : S4096x3072.Idx → EReal) (B : S3x1024.Idx → EReal) (E : S1024x1024.Idx → EReal) (G : S4096x1024.Idx → EReal)

theorem v0 : val_main_v0 (F := Ideal) A = arr fun i k => tot A i k := by
  funext j; idx_vars j; unfold val_main_v0; pointwise; exact tot_eq _ _ rfl rfl
theorem v1 : val_main_v1 (F := Ideal) A = arr fun i k => tot A i (1024 + k) := by
  funext j; idx_vars j; unfold val_main_v1; pointwise; exact tot_eq _ _ rfl rfl
theorem v2 : val_main_v2 (F := Ideal) A = arr fun i k => tot A i (2048 + k) := by
  funext j; idx_vars j; unfold val_main_v2; pointwise; exact tot_eq _ _ rfl rfl
theorem v3 : val_main_v3 (F := Ideal) A = arr fun i k => cv (tot A) i k := by
  funext j; idx_vars j; unfold val_main_v3; rw [v1, v2]; pointwise; rfl
theorem v9 : val_main_v9 (F := Ideal) A = arr fun i k => late (tot A) 2 i k := by
  funext j; idx_vars j; unfold val_main_v9 val_main_v8 val_main_v7 val_main_cst; rw [v3]; pointwise
  simp only [arr_ix2, late]
  by_cases h : j0.val < 2
  · rw [dif_pos h, if_neg (by omega)]
  · rw [dif_neg h, if_pos (by omega)]
theorem v18 : val_main_v18 (F := Ideal) A = arr fun i k => late (tot A) 1 i k := by
  funext j; idx_vars j; unfold val_main_v18 val_main_v17 val_main_v16 val_main_cst_1; rw [v3]; pointwise
  simp only [arr_ix2, late]
  by_cases h : j0.val < 1
  · rw [dif_pos h, if_neg (by omega)]
  · rw [dif_neg h, if_pos (by omega)]
theorem v6 : val_main_v6 (F := Ideal) B = arr fun _ k => tot B 0 k := by
  funext j; idx_vars j; unfold val_main_v6 val_main_v5 val_main_v4; pointwise; exact tot_eq _ _ rfl rfl
theorem v15 : val_main_v15 (F := Ideal) B = arr fun _ k => tot B 1 k := by
  funext j; idx_vars j; unfold val_main_v15 val_main_v14 val_main_v13; pointwise; exact tot_eq _ _ rfl rfl
theorem v25 : val_main_v25 (F := Ideal) B = arr fun _ k => tot B 2 k := by
  funext j; idx_vars j; unfold val_main_v25 val_main_v24 val_main_v23; pointwise; exact tot_eq _ _ rfl rfl
theorem v28 : val_main_v28 (F := Ideal) A B = arr fun i k => conv (tot A) (tot B) i k := by
  funext j; idx_vars j
  unfold val_main_v28 val_main_v27 val_main_v26 val_main_v22 val_main_v21 val_main_v20 val_main_v12 val_main_v11
  rw [v3, v9, v18, v6, v15, v25]; pointwise
  exact (add_comm _ _).trans ((congrArg _ (add_comm _ _)).trans (add_assoc _ _ _).symm)
theorem v32 : val_main_v32 (F := Ideal) E G = arr fun i k => dby (tot E) (tot G) i k := by
  funext j; idx_vars j; unfold val_main_v32; pointwise
  exact Finset.sum_congr rfl fun l _ => congrArg₂ _ (tot_eq _ _ rfl rfl) (tot_eq _ _ rfl rfl)
theorem v33 : val_main_v33 (F := Ideal) A E G = arr fun i k => dy (tot A) (tot E) (tot G) i k := by
  funext j; idx_vars j; unfold val_main_v33; rw [v0, v32]; pointwise; exact mul_comm _ _
theorem v34 : val_main_v34 (F := Ideal) A B E G = arr fun i k => dby (tot E) (tot G) i k * conv (tot A) (tot B) i k := by
  funext j; idx_vars j; unfold val_main_v34; rw [v28, v32]; pointwise; rfl
theorem v50 : val_main_v50 (F := Ideal) A B E G = arr fun i k => tot B 1 k * dy (tot A) (tot E) (tot G) (i + 1) k := by
  funext j; idx_vars j; unfold val_main_v50 val_main_v49 val_main_v44 val_main_v43 val_main_cst_7; rw [v33, v15]; pointwise
  simp only [arr_ix2]
  by_cases h : j0.val < 4095
  · rw [dif_pos h, Nat.add_comm 1]
  · rw [dif_neg h]
    rw [show dy (tot A) (tot E) (tot G) (j0.val + 1) j1.val = 0 from
      (congrArg _ (tot_out A _ (by omega))).trans (mul_zero _), mul_zero]
theorem v63 : val_main_v63 (F := Ideal) A B E G = arr fun i k => tot B 0 k * dy (tot A) (tot E) (tot G) (i + 2) k := by
  funext j; idx_vars j; unfold val_main_v63 val_main_v62 val_main_v57 val_main_v56 val_main_cst_11; rw [v33, v6]; pointwise
  simp only [arr_ix2]
  by_cases h : j0.val < 4094
  · rw [dif_pos h, Nat.add_comm 2]
  · rw [dif_neg h]
    rw [show dy (tot A) (tot E) (tot G) (j0.val + 2) j1.val = 0 from
      (congrArg _ (tot_out A _ (by omega))).trans (mul_zero _), mul_zero]
theorem v64 : val_main_v64 (F := Ideal) A B E G = arr fun i k => dcv (tot A) (tot B) (tot E) (tot G) i k := by
  funext j; idx_vars j; unfold val_main_v64 val_main_v51 val_main_v36 val_main_v35; rw [v63, v50, v33, v25]; pointwise
  rfl
theorem v72 : val_main_v72 (F := Ideal) A B E G = arr fun i k => dproj (tot A) (tot B) (tot E) (tot G) i k := by
  funext j; idx_vars j; unfold val_main_v72 val_main_v71 val_main_v70 val_main_v69; rw [v34, v64, v1, v2]; pointwise
  simp only [arr_ix2, dproj]
  by_cases h : j1.val < 1024
  · rw [dif_pos h, if_pos h]
  · rw [dif_neg h, if_neg h]
    by_cases h' : j1.val < 2048
    · rw [dif_pos (by omega), if_pos h', show 2048 + (j1.val - 1024) = j1.val + 1024 by omega]
    · rw [dif_neg (by omega), if_neg h', show j1.val - 1024 - 1024 = j1.val - 2048 by omega,
        show 1024 + (j1.val - 2048) = j1.val - 1024 by omega, mul_comm]
theorem v74 : val_main_v74 (F := Ideal) A B = arr fun k i => tot A i k * conv (tot A) (tot B) i k := by
  funext j; idx_vars j; unfold val_main_v74 val_main_v73 val_main_v31; rw [v0, v28]; pointwise
  rfl
theorem v75 : val_main_v75 (F := Ideal) G = arr fun i k => tot G i k := by
  funext j; idx_vars j; unfold val_main_v75; pointwise; exact tot_eq _ _ rfl rfl
theorem v38 : val_main_v38 (F := Ideal) A E G = fun j => ∑ i : Fin 4096, tap (tot A) (tot E) (tot G) 2 i (j 0).val := by
  funext j; idx_vars j; unfold val_main_v38 val_main_v37 val_main_cst_3; rw [v33, v3]; pointwise
  simp only [arr_ix2, tap, Nat.sub_self, late_zero]
theorem v46 : val_main_v46 (F := Ideal) A E G = fun j => ∑ i : Fin 4096, tap (tot A) (tot E) (tot G) 1 i (j 0).val := by
  funext j; idx_vars j; unfold val_main_v46 val_main_v45 val_main_cst_6; rw [v33, v18]; pointwise
  rfl
theorem v59 : val_main_v59 (F := Ideal) A E G = fun j => ∑ i : Fin 4096, tap (tot A) (tot E) (tot G) 0 i (j 0).val := by
  funext j; idx_vars j; unfold val_main_v59 val_main_v58 val_main_cst_10; rw [v33, v9]; pointwise
  rfl
theorem v76 : val_main_v76 (F := Ideal) A E G = arr fun n k =>
    if n < 3 then ∑ i : Fin 4096, tap (tot A) (tot E) (tot G) n i k else 0 := by
  funext j; idx_vars j
  unfold val_main_v76 val_main_v68 val_main_v67 val_main_v66 val_main_v65 val_main_v60 val_main_v55 val_main_v54
    val_main_v53 val_main_v52 val_main_v47 val_main_v42 val_main_v41 val_main_v40 val_main_v39 val_main_cst_4
    val_main_cst_5 val_main_cst_8 val_main_cst_9 val_main_cst_12 val_main_cst_13 val_main_call0_v0
  rw [v38, v46, v59]; pointwise
  have hj := j0.isLt
  simp only [arr_ix2]
  by_cases h : j0.val < 3
  · rw [dif_pos h, if_pos h]
    obtain hn | hn | hn : j0.val = 0 ∨ j0.val = 1 ∨ j0.val = 2 := by omega
    all_goals rw [hn]; simp
  · rw [dif_neg h, if_neg h]
    simp [FloatOps.sitofp, val_main_c, constantI]

end Reference

/-! ## The claim -/

/-- The kernel and the derivative of the forward lines end with equal arrays. -/
theorem algebraic : Cert.algebraic_Kernel2Ideal_Reference2Ideal := by
  intro m g m' g' _ hagree
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    Cert.Kernel2Ideal.Value.run_blocks m g, ?_⟩
  refine (θ_run _ _ _).mono (fun r h c => ?_) (Cert.Reference2Ideal.Value.run m' g')
  obtain ⟨a0, a1, a2, a3, a4⟩ := hagree c
  obtain ⟨r0, r1, r2, r3, k⟩ := h c
  refine ⟨?_, ?_, ?_, ?_, k⟩
  · refine (r0.trans (Cert.Reference2Ideal.Read.val_main_v72_eq m' c)).trans ?_
    rw [a0, a1, a3, a4, v72]
    exact (final5 m c).symm
  · refine (r1.trans (Cert.Reference2Ideal.Read.val_main_v74_eq _ _)).trans ?_
    rw [a0, a1, v74]
    exact (final6 m c).symm
  · refine (r2.trans (Cert.Reference2Ideal.Read.val_main_v75_eq _)).trans ?_
    rw [a4, v75]
    exact (final7 m c).symm
  · refine (r3.trans (Cert.Reference2Ideal.Read.val_main_v76_eq _ _ _)).trans ?_
    rw [a0, a3, a4, v76]
    exact (final8 m c).symm

end Cert.Proof.Conv

end
-- ==== Proof.SbWalk.lean ====
module

public import proofs.«01_k».proof.Proof.Gen.Kernel3Ideal.Loops

@[expose] public section

set_option maxRecDepth 8192
set_option maxHeartbeats 4000000

noncomputable section

namespace Cert.Kernel3Ideal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F] [Named F]

/-- The resource algebra of the pipeline's runs. -/
local notation "𝕄G" => MT nD τ sig Unit (Elt F) ℕ (UR sig nD τ) ℕ

variable (c : Dev nD) (i : grid0.Coords)
  (arg3 : Memref sig .tc .vmem S4096x512 .bf16) (harg3 : arg3.IsWhole)
  (v : Fin 8 → Vec F S128x64 .bf16)
  (arg9 : Memref sig .tc .vmem S4096x128 .f32) (harg9 : arg9.IsWhole)

/-- Where the walk's key block of each head starts. -/
def kOff (j : BitVec 32) : Fin 8 → Fin 2 → ℕ := ![k0_off1 i j, k0_off2 i j, k0_off3 i j, k0_off4 i j, k0_off5 i j, k0_off6 i j, k0_off7 i j, k0_off8 i j]

theorem kOff_inb {i : grid0.Coords} {j : BitVec 32} (hk : k0_chk1 i j) (h : Fin 8) :
    ∀ a, kOff i j h a + S128x64.size a ≤ S4096x512.size a := by
  fin_cases h
  · exact k0_off1_inb i j hk
  · exact k0_off2_inb i j hk
  · exact k0_off3_inb i j hk
  · exact k0_off4_inb i j hk
  · exact k0_off5_inb i j hk
  · exact k0_off6_inb i j hk
  · exact k0_off7_inb i j hk
  · exact k0_off8_inb i j hk

/-- The walk's key block of head `h`. -/
def kblk (X3 : BufTy.Contents (Elt F) arg3.view.ty) (j : BitVec 32) (hk : k0_chk1 i j) (h : Fin 8) : Vec F S128x64 .bf16 :=
  View.readAt (Elt F) arg3.view (Rect.unit (s := S4096x512) (kOff i j h) S128x64.size (kOff_inb hk h)).toLoadRect X3

/-- The walk's logarithms of the complementary gate, head `h`. -/
def lkBlk (X3 : BufTy.Contents (Elt F) arg3.view.ty) (j : BitVec 32) (hk : k0_chk1 i j) (h : Fin 8) : FVec F S128x128 .f32 :=
  k0_pay321 (v h) j (BitVec.ofNat 32 (i 1).val) (kblk i arg3 X3 j hk h)

/-- The running sums after a trip of the walk. -/
def nextRun (X3 : BufTy.Contents (Elt F) arg3.view.ty) (j : BitVec 32) (hk : k0_chk1 i j)
    (r : Fin 8 → FVec F S128x1 .f32) (h : Fin 8) : FVec F S128x1 .f32 :=
  k0_pay16 (r h) (lkBlk i arg3 v X3 j hk h)

/-- What a trip of the walk stores: the running sum of every head at the rows of the block it is about to read. -/
def runPieces (j : BitVec 32) (hk : k0_chk1 i j) (r : Fin 8 → FVec F S128x1 .f32) : List (View.Piece (Elt F) S4096x128 .f32) :=
  [⟨Rect.unit (s := S4096x128) (k0_off16 i j) S128x1.size (k0_off16_inb i j hk), k0_pay14 (r 7)⟩,
   ⟨Rect.unit (s := S4096x128) (k0_off15 i j) S128x1.size (k0_off15_inb i j hk), k0_pay14 (r 6)⟩,
   ⟨Rect.unit (s := S4096x128) (k0_off14 i j) S128x1.size (k0_off14_inb i j hk), k0_pay14 (r 5)⟩,
   ⟨Rect.unit (s := S4096x128) (k0_off13 i j) S128x1.size (k0_off13_inb i j hk), k0_pay14 (r 4)⟩,
   ⟨Rect.unit (s := S4096x128) (k0_off12 i j) S128x1.size (k0_off12_inb i j hk), k0_pay14 (r 3)⟩,
   ⟨Rect.unit (s := S4096x128) (k0_off11 i j) S128x1.size (k0_off11_inb i j hk), k0_pay14 (r 2)⟩,
   ⟨Rect.unit (s := S4096x128) (k0_off10 i j) S128x1.size (k0_off10_inb i j hk), k0_pay14 (r 1)⟩,
   ⟨Rect.unit (s := S4096x128) (k0_off9 i j) S128x1.size (k0_off9_inb i j hk), k0_pay14 (r 0)⟩]

/-- Whether the walk goes on: blocks are left and some running sum is above the threshold. -/
def goesOn (j : BitVec 32) (r : Fin 8 → FVec F S128x1 .f32) : Prop :=
  Scalar.andi (Scalar.cmpi .sle j (BitVec.ofNat 32 (i 1).val))
    (Scalar.cmpf .ogt (k0_pay13 (r 0) (r 1) (r 2) (r 3) (r 4) (r 5) (r 6) (r 7)) (Named.named κ "dead" 0xC2DC0000#32)) = 1#1

/-- The walk's call at block `j` with the running sums `r`. -/
def walkArgs (j : BitVec 32) (r : Fin 8 → FVec F S128x1 .f32) : (Λ₀ F).Args (1 : (Λ₀ F).Label) :=
  ⟨i, arg3, harg3, v 0, v 1, v 2, v 3, v 4, v 5, v 6, v 7, arg9, harg9, j, r 0, r 1, r 2, r 3, r 4, r 5, r 6, r 7⟩

/-- A call's arguments may be replaced by equal ones. -/
theorem wp_args_congr (𝒱 : Variants) (bd : Option 𝒱.V) (E : Set ℕ) {a b : (Λ₀ F).Args (1 : (Λ₀ F).Label)} (Q)
    (h : a = b) :
    (wp frame (wpE (defs₀ (F := F)) 𝒱 (c : Thread nD τ) bd) E (.op (.call (1 : (Λ₀ F).Label) a) .ret) Q : sProp 𝕄G)
      ⊢ wp frame (wpE (defs₀ (F := F)) 𝒱 (c : Thread nD τ) bd) E (.op (.call (1 : (Λ₀ F).Label) b) .ret) Q := by
  rw [h]

/-- The pieces written may be replaced by equal ones. -/
theorem pt_congr (f9 : BufTy.Contents (Elt F) arg9.view.ty) {a b : List (View.Piece (Elt F) S4096x128 .f32)} (h : a = b) :
    ((arg9.view.loc (c : Thread nD τ) ↦[arg9.view.set]{fullShare} (arg9.view.writes (Elt F) f9 a)) : sProp 𝕄G)
      ⊢ (arg9.view.loc (c : Thread nD τ) ↦[arg9.view.set]{fullShare} (arg9.view.writes (Elt F) f9 b)) := by
  rw [h]

set_option synthInstance.maxHeartbeats 0 in
/-- One trip of the walk over the key blocks, up to the call of the next. -/
theorem walk_trip (𝒱 : Variants) (bd : Option 𝒱.V) (E : Set ℕ) (X3 : BufTy.Contents (Elt F) arg3.view.ty) (f9 : BufTy.Contents (Elt F) arg9.view.ty)
    (j : BitVec 32) (r : Fin 8 → FVec F S128x1 .f32)
    (hc : goesOn (F := F) i j r)
    (hk : k0_chk1 i j) (Q)
    (hnext : (iprop((arg3.view.loc (c : Thread nD τ) ↦[arg3.view.set]{fullShare} X3)
        ∗ (arg9.view.loc (c : Thread nD τ) ↦[arg9.view.set]{fullShare} (arg9.view.writes (Elt F) f9 (runPieces i j hk r)))) : sProp 𝕄G)
      ⊢ wp frame (wpE (defs₀ (F := F)) 𝒱 (c : Thread nD τ) bd) E
        (.op (.call (1 : (Λ₀ F).Label) (walkArgs i arg3 harg3 v arg9 harg9 (Scalar.addi j 1#32) (nextRun i arg3 v X3 j hk r))) .ret) Q) :
    (iprop((arg3.view.loc (c : Thread nD τ) ↦[arg3.view.set]{fullShare} X3)
      ∗ (arg9.view.loc (c : Thread nD τ) ↦[arg9.view.set]{fullShare} f9)) : sProp 𝕄G)
    ⊢ wp frame (wpE (defs₀ (F := F)) 𝒱 (c : Thread nD τ) bd) E
      (cc0_while1 (F := F) i arg3 harg3 (v 0) (v 1) (v 2) (v 3) (v 4) (v 5) (v 6) (v 7) arg9 harg9 j (r 0) (r 1) (r 2) (r 3) (r 4) (r 5) (r 6) (r 7)) Q := by
  rw [cc0_while1_eq_skeleton]
  unfold cc0_while1_skel
  iintro ⟨H3, H9⟩
  unfold goesOn at hc
  dsimp only
  rw [if_pos hc]
  sl_exec
  iapply (wp_args_congr c 𝒱 bd E
    (a := walkArgs i arg3 harg3 v arg9 harg9 (Scalar.addi j 1#32) (nextRun i arg3 v X3 j hk r)) Q ?_)
  · rfl
  · iapply hnext
    isplitl [H3]
    · iexact H3
    · iapply (pt_congr c arg9 f9 (b := runPieces i j hk r) ?_) $$ H9
      rfl

set_option synthInstance.maxHeartbeats 0 in
/-- The walk's exit. -/
theorem walk_exit (𝒱 : Variants) (bd : Option 𝒱.V) (E : Set ℕ)
    (j : BitVec 32) (r : Fin 8 → FVec F S128x1 .f32)
    (hc : ¬ goesOn (F := F) i j r)  (Q) :
    (Q (j, r 0, r 1, r 2, r 3, r 4, r 5, r 6, r 7) : sProp 𝕄G)
    ⊢ wp frame (wpE (defs₀ (F := F)) 𝒱 (c : Thread nD τ) bd) E
      (cc0_while1 (F := F) i arg3 harg3 (v 0) (v 1) (v 2) (v 3) (v 4) (v 5) (v 6) (v 7) arg9 harg9 j (r 0) (r 1) (r 2) (r 3) (r 4) (r 5) (r 6) (r 7)) Q := by
  rw [cc0_while1_eq_skeleton]
  unfold cc0_while1_skel
  unfold goesOn at hc
  dsimp only
  rw [if_neg hc]
  exact fupd_intro

/-- The walk's block arithmetic on words, for the blocks the walk reaches. -/
theorem block_word : ∀ (a b : Fin 32), b ≤ a →
    (Scalar.muli (Scalar.subi (BitVec.ofNat 32 a.val) (BitVec.ofNat 32 b.val)) 128#32).toNat = 128 * (a.val - b.val) := by
  decide +kernel

/-- Bounds on the two axes. -/
theorem two_axes {f g s : Fin 2 → ℕ} (h0 : f 0 + g 0 ≤ s 0) (h1 : f 1 + g 1 ≤ s 1) : ∀ a, f a + g a ≤ s a := by
  intro a; fin_cases a
  · exact h0
  · exact h1

theorem andi_left : ∀ a b : BitVec 1, Scalar.andi a b = 1#1 → a = 1#1 := by decide

/-- The walk's blocks lie in the arrays. -/
theorem chk1 {i : grid0.Coords} {n : ℕ} (hn : n ≤ (i 1).val) : k0_chk1 i (BitVec.ofNat 32 n) := by
  have hi : (i 1).val < 32 := (i 1).isLt
  have h := block_word ⟨(i 1).val, hi⟩ ⟨n, by omega⟩ (by simpa [Fin.le_def] using hn)
  dsimp only at h
  have h1 : 128 * ((i 1).val - n) + 128 ≤ 4096 := by omega
  have h1' : (Scalar.muli (Scalar.subi (BitVec.ofNat 32 (i 1).val) (BitVec.ofNat 32 n)) 128#32).toNat + 128 ≤ 4096 := by omega
  refine ⟨?_, ?_, ?_, ?_, ?_, ?_, ?_, ?_, ?_, ?_, ?_, ?_, ?_, ?_, ?_, ?_, ?_⟩
  · change 128 ∣ (Scalar.muli (Scalar.subi (BitVec.ofNat 32 (i 1).val) (BitVec.ofNat 32 n)) 128#32).toNat
    rw [h]; exact Dvd.intro _ rfl
  · exact two_axes h1' (by decide : 0 + 64 ≤ 512)
  · exact two_axes h1' (by decide : 64 + 64 ≤ 512)
  · exact two_axes h1' (by decide : 128 + 64 ≤ 512)
  · exact two_axes h1' (by decide : 192 + 64 ≤ 512)
  · exact two_axes h1' (by decide : 256 + 64 ≤ 512)
  · exact two_axes h1' (by decide : 320 + 64 ≤ 512)
  · exact two_axes h1' (by decide : 384 + 64 ≤ 512)
  · exact two_axes h1' (by decide : 448 + 64 ≤ 512)
  · exact two_axes h1' (by decide : 0 + 1 ≤ 128)
  · exact two_axes h1' (by decide : 1 + 1 ≤ 128)
  · exact two_axes h1' (by decide : 2 + 1 ≤ 128)
  · exact two_axes h1' (by decide : 3 + 1 ≤ 128)
  · exact two_axes h1' (by decide : 4 + 1 ≤ 128)
  · exact two_axes h1' (by decide : 5 + 1 ≤ 128)
  · exact two_axes h1' (by decide : 6 + 1 ≤ 128)
  · exact two_axes h1' (by decide : 7 + 1 ≤ 128)

/-- The tuple the walk gives back. -/
def walkOut (j : BitVec 32) (r : Fin 8 → FVec F S128x1 .f32) : (Λ₀ F).Result (1 : (Λ₀ F).Label) :=
  (j, r 0, r 1, r 2, r 3, r 4, r 5, r 6, r 7)

/-- The walk from block `n` on, under any relation its trips keep: it ends with the relation, at the exit. -/
theorem walk (E : Set ℕ) (X3 : BufTy.Contents (Elt F) arg3.view.ty)
    (I : ℕ → (Fin 8 → FVec F S128x1 .f32) → BufTy.Contents (Elt F) arg9.view.ty → Prop)
    (hI : ∀ n r f (hn : n ≤ (i 1).val), goesOn (F := F) i (BitVec.ofNat 32 n) r → I n r f →
      I (n + 1) (nextRun i arg3 v X3 (BitVec.ofNat 32 n) (chk1 hn) r)
        (arg9.view.writes (Elt F) f (runPieces i (BitVec.ofNat 32 n) (chk1 hn) r))) :
    ∀ (fuel n : ℕ) (r : Fin 8 → FVec F S128x1 .f32) (f9 : BufTy.Contents (Elt F) arg9.view.ty),
      n + fuel = (i 1).val + 1 → I n r f9 →
      (iprop((arg3.view.loc (c : Thread nD τ) ↦[arg3.view.set]{fullShare} X3)
        ∗ (arg9.view.loc (c : Thread nD τ) ↦[arg9.view.set]{fullShare} f9)) : sProp 𝕄G)
      ⊢ wp frame (wpE (defs₀ (F := F)) Variants.nat (c : Thread nD τ) (some fuel)) E
        (cc0_while1 (F := F) i arg3 harg3 (v 0) (v 1) (v 2) (v 3) (v 4) (v 5) (v 6) (v 7) arg9 harg9 (BitVec.ofNat 32 n) (r 0) (r 1) (r 2) (r 3) (r 4) (r 5) (r 6) (r 7))
        (fun x => iprop((arg3.view.loc (c : Thread nD τ) ↦[arg3.view.set]{fullShare} X3)
          ∗ ∃ n' r' f', ⌜n' ≤ (i 1).val + 1 ∧ x = walkOut (BitVec.ofNat 32 n') r' ∧ ¬ goesOn (F := F) i (BitVec.ofNat 32 n') r' ∧ I n' r' f'⌝
            ∗ (arg9.view.loc (c : Thread nD τ) ↦[arg9.view.set]{fullShare} f'))) := by
  intro fuel
  induction fuel with
  | zero =>
    intro n r f9 hn hi
    have hng : ¬ goesOn (F := F) i (BitVec.ofNat 32 n) r := by
      intro hg
      have hi' : (i 1).val < 32 := (i 1).isLt
      have h1 : Scalar.cmpi .sle (BitVec.ofNat 32 n) (BitVec.ofNat 32 (i 1).val) = 1#1 := by
        unfold goesOn at hg
        exact andi_left _ _ hg
      have : ∀ a : Fin 32, Scalar.cmpi .sle (BitVec.ofNat 32 (a.val + 1)) (BitVec.ofNat 32 a.val) ≠ 1#1 := by decide +kernel
      refine this ⟨(i 1).val, hi'⟩ ?_
      have : n = (i 1).val + 1 := by omega
      rw [this] at h1; exact h1
    refine BIBase.Entails.trans ?_ (walk_exit c i arg3 harg3 v arg9 harg9 Variants.nat _ E (BitVec.ofNat 32 n) r hng _)
    iintro ⟨H3, H9⟩
    isplitl [H3]
    · iexact H3
    · iexists n, r, f9
      isplitr
      · ipureintro; exact ⟨by omega, rfl, hng, hi⟩
      · iexact H9
  | succ fuel ih =>
    intro n r f9 hn hi
    by_cases hg : goesOn (F := F) i (BitVec.ofNat 32 n) r
    · have hle : n ≤ (i 1).val := by omega
      refine walk_trip c i arg3 harg3 v arg9 harg9 Variants.nat _ E X3 f9 (BitVec.ofNat 32 n) r hg (chk1 hle) _ ?_
      refine BIBase.Entails.trans ?_ (wp_call Variants.nat (c : Thread nD τ) (some (fuel + 1)) E fuel (by
        intro u hu; obtain rfl := Option.mem_some_iff.1 hu; exact Nat.lt_succ_self fuel))
      have e : Scalar.addi (BitVec.ofNat 32 n) 1#32 = BitVec.ofNat 32 (n + 1) := by
        simp [Scalar.addi, BitVec.ofNat_add]; rfl
      have hd := ih (n + 1) (nextRun i arg3 v X3 (BitVec.ofNat 32 n) (chk1 hle) r) _ (by omega) (hI n r f9 hle hg hi)
      rw [e]
      refine BIBase.Entails.trans hd ?_
      change _ ⊢ wp frame _ E (cc0_while1 (F := F) i arg3 harg3 (v 0) (v 1) (v 2) (v 3) (v 4) (v 5) (v 6) (v 7) arg9 harg9
        (BitVec.ofNat 32 (n + 1)) _ _ _ _ _ _ _ _) _
      refine wp_mono _ _ _ fun x => ?_
      rw [wp_ret]
      exact fupd_intro
    · refine BIBase.Entails.trans ?_ (walk_exit c i arg3 harg3 v arg9 harg9 Variants.nat _ E (BitVec.ofNat 32 n) r hg _)
      iintro ⟨H3, H9⟩
      isplitl [H3]
      · iexact H3
      · iexists n, r, f9
        isplitr
        · ipureintro; exact ⟨by omega, rfl, hg, hi⟩
        · iexact H9

/-- The bounds of the counted loop after a walk of `n` blocks at query block `a`. -/
theorem loop_words : ∀ (a : Fin 32) (n : Fin 33), n.val ≤ a.val + 1 →
    Scalar.subi (Scalar.addi (BitVec.ofNat 32 a.val) 1#32) (BitVec.ofNat 32 n.val) = BitVec.ofNat 32 (a.val + 1 - n.val) := by
  decide +kernel

theorem loop_ok : ∀ (a m : Fin 33), m.val ≤ a.val → (
    let v49 := BitVec.ofNat 32 m.val
    let v67 := Scalar.subi (BitVec.ofNat 32 a.val) v49
    let v71 := Scalar.addi v49 (Scalar.muli (Scalar.divsi v67 1#32) 1#32)
    Scf.Loop.OK ⟨v49, v71, 1#32⟩ ∧ Scf.Loop.trips ⟨v49, v71, 1#32⟩ = a.val - m.val
      ∧ Scf.Loop.OK ⟨v71, Scalar.addi v49 v67, 1#32⟩ ∧ Scf.Loop.trips ⟨v71, Scalar.addi v49 v67, 1#32⟩ = 0) := by
  decide +kernel

theorem succ_word : ∀ a : Fin 32, Scalar.addi (BitVec.ofNat 32 a.val) 1#32 = BitVec.ofNat 32 (a.val + 1) := by decide +kernel

/-- The two counted loops after a walk of `n` blocks: the first runs `n` trips, the second none. -/
theorem loops {i : grid0.Coords} {n : ℕ} (hn : n ≤ (i 1).val + 1) :
    (k0_t1_loop i (BitVec.ofNat 32 n)).OK ∧ (k0_t1_loop i (BitVec.ofNat 32 n)).trips = n
      ∧ (k0_t2_loop i (BitVec.ofNat 32 n)).OK ∧ (k0_t2_loop i (BitVec.ofNat 32 n)).trips = 0 := by
  have hi : (i 1).val < 32 := (i 1).isLt
  have h1 := loop_words ⟨(i 1).val, hi⟩ ⟨n, by omega⟩ hn
  have h2 := loop_ok ⟨(i 1).val + 1, by omega⟩ ⟨(i 1).val + 1 - n, by omega⟩ (by simp)
  have h3 := succ_word ⟨(i 1).val, hi⟩
  dsimp only at h1 h2 h3
  rw [← h1, ← h3] at h2
  have h4 : (i 1).val + 1 - ((i 1).val + 1 - n) = n := by omega
  rw [h4] at h2
  exact h2

/-- Where trip `k` of the first loop reads and adds. -/
theorem iv_word : ∀ p : Fin 32, (Scalar.muli (BitVec.ofNat 32 p.val) 128#32).toNat = 128 * p.val := by decide +kernel

theorem iv_eq {i : grid0.Coords} {n : ℕ} (hn : n ≤ (i 1).val + 1) (k : ℕ) (hk : k < n) :
    (Scalar.muli (Scf.iv (Scalar.subi (Scalar.addi (BitVec.ofNat 32 (i 1).val) 1#32) (BitVec.ofNat 32 n)) 1#32 k) 128#32).toNat
      = 128 * ((i 1).val + 1 - n + k) := by
  have hi : (i 1).val < 32 := (i 1).isLt
  have h1 := loop_words ⟨(i 1).val, hi⟩ ⟨n, by omega⟩ hn
  dsimp only at h1
  rw [h1]
  have h2 : Scf.iv (BitVec.ofNat 32 ((i 1).val + 1 - n)) 1#32 k = BitVec.ofNat 32 ((i 1).val + 1 - n + k) := by
    simp [Scf.iv, BitVec.ofNat_add]
  rw [h2]
  exact iv_word ⟨(i 1).val + 1 - n + k, by omega⟩

/-- Everything the counted loops address lies in the arrays. -/
theorem chk2 {i : grid0.Coords} {n : ℕ} (hn : n ≤ (i 1).val + 1) : k0_chk2 i (BitVec.ofNat 32 n) := by
  have hi : (i 1).val < 32 := (i 1).isLt
  obtain ⟨o1, t1, o2, t2⟩ := loops hn
  have hv := fun (k : Fin (k0_t1_loop i (BitVec.ofNat 32 n)).trips) => iv_eq hn k.val (by have := k.isLt; omega)
  have hk : ∀ k : Fin (k0_t1_loop i (BitVec.ofNat 32 n)).trips,
      (Scalar.muli (Scf.iv (Scalar.subi (Scalar.addi (BitVec.ofNat 32 (i 1).val) 1#32) (BitVec.ofNat 32 n)) 1#32 k) 128#32).toNat + 128
        ≤ 4096 := by
    intro k; have := k.isLt; rw [hv k]; omega
  have hz : ∀ k : Fin (k0_t2_loop i (BitVec.ofNat 32 n)).trips, ¬ k.val < (k0_t2_loop i (BitVec.ofNat 32 n)).trips := by
    intro k; omega
  refine ⟨?_, ?_⟩
  · refine ⟨o1, ?_, ?_, ?_, ?_, ?_, ?_, ?_, ?_, ?_, ?_, ?_, ?_, ?_, ?_, ?_, ?_, ?_, o2, ?_, ?_, ?_, ?_, ?_, ?_, ?_, ?_, ?_, ?_, ?_, ?_, ?_⟩
    · intro k
      change 128 ∣ (Scalar.muli (Scf.iv (Scalar.subi (Scalar.addi (BitVec.ofNat 32 (i 1).val) 1#32) (BitVec.ofNat 32 n)) 1#32 k) 128#32).toNat
      rw [hv k]; exact Dvd.intro _ rfl
    · intro k; exact two_axes (hk k) (by decide : 0 + 64 ≤ 512)
    · intro k; exact two_axes (hk k) (by decide : 64 + 64 ≤ 512)
    · intro k; exact two_axes (hk k) (by decide : 128 + 64 ≤ 512)
    · intro k; exact two_axes (hk k) (by decide : 192 + 64 ≤ 512)
    · intro k; exact two_axes (hk k) (by decide : 256 + 64 ≤ 512)
    · intro k; exact two_axes (hk k) (by decide : 320 + 64 ≤ 512)
    · intro k; exact two_axes (hk k) (by decide : 384 + 64 ≤ 512)
    · intro k; exact two_axes (hk k) (by decide : 448 + 64 ≤ 512)
    · intro k; exact two_axes (hk k) (by decide : 0 + 1 ≤ 128)
    · intro k; exact two_axes (hk k) (by decide : 1 + 1 ≤ 128)
    · intro k; exact two_axes (hk k) (by decide : 2 + 1 ≤ 128)
    · intro k; exact two_axes (hk k) (by decide : 3 + 1 ≤ 128)
    · intro k; exact two_axes (hk k) (by decide : 4 + 1 ≤ 128)
    · intro k; exact two_axes (hk k) (by decide : 5 + 1 ≤ 128)
    · intro k; exact two_axes (hk k) (by decide : 6 + 1 ≤ 128)
    · intro k; exact two_axes (hk k) (by decide : 7 + 1 ≤ 128)
    · intro k; exact absurd k.isLt (hz k)
    · intro k; exact absurd k.isLt (hz k)
    · intro k; exact absurd k.isLt (hz k)
    · intro k; exact absurd k.isLt (hz k)
    · intro k; exact absurd k.isLt (hz k)
    · intro k; exact absurd k.isLt (hz k)
    · intro k; exact absurd k.isLt (hz k)
    · intro k; exact absurd k.isLt (hz k)
    · intro k; exact absurd k.isLt (hz k)
    · intro k; exact absurd k.isLt (hz k)
    · intro k; exact absurd k.isLt (hz k)
    · intro k; exact absurd k.isLt (hz k)
    · intro k; exact absurd k.isLt (hz k)
  · refine ⟨?_, ?_, ?_, ?_⟩
    · intro k; exact absurd k.isLt (hz k)
    · intro k; exact absurd k.isLt (hz k)
    · intro k; exact absurd k.isLt (hz k)
    · intro k; exact absurd k.isLt (hz k)

end Cert.Kernel3Ideal.Sb
-- ==== Proof.SbTrip.lean ====
module

public import proofs.«01_k».proof.Proof.SbWalk

@[expose] public section

set_option maxRecDepth 8192
set_option maxHeartbeats 4000000

noncomputable section

namespace Cert.Kernel3Ideal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F] [Named F]

/-- The resource algebra of the pipeline's runs. -/
local notation "𝕄G" => MT nD τ sig Unit (Elt F) ℕ (UR sig nD τ) ℕ

variable (c : Dev nD) (i : grid0.Coords)
  (arg2 : Memref sig .tc .vmem S128x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S128x512 .f32) (harg5 : arg5.IsWhole)
  (arg6 : Memref sig .tc .vmem S128x512 .f32) (harg6 : arg6.IsWhole)
  (arg7 : Memref sig .tc .vmem S4096x512 .f32) (harg7 : arg7.IsWhole)
  (arg8 : Memref sig .tc .vmem S4096x512 .f32) (harg8 : arg8.IsWhole)
  (arg9 : Memref sig .tc .vmem S4096x128 .f32) (harg9 : arg9.IsWhole)

variable (v : Fin 8 → Vec F S128x64 .bf16) (d : Fin 8 → FVec F S128x64 .bf16)
  (X3 : BufTy.Contents (Elt F) arg3.view.ty) (X4 : BufTy.Contents (Elt F) arg4.view.ty) (f9 : BufTy.Contents (Elt F) arg9.view.ty)
  (j : BitVec 32) (hk : k0_chk2 i j) (k : Fin (k0_t1_loop i j).trips)

/-- Where head `h`'s columns of the block of trip `k` lie. -/
def pOff (h : Fin 8) : Fin 2 → ℕ := ![k0_off17 i j k, k0_off18 i j k, k0_off19 i j k, k0_off20 i j k, k0_off21 i j k, k0_off22 i j k, k0_off23 i j k, k0_off24 i j k] h

theorem pOff_inb {i : grid0.Coords} {j : BitVec 32} (hk : k0_chk2 i j) (k : Fin (k0_t1_loop i j).trips) (h : Fin 8) :
    ∀ a, pOff i j k h a + S128x64.size a ≤ S4096x512.size a := by
  fin_cases h
  · exact k0_off17_inb i j hk k
  · exact k0_off18_inb i j hk k
  · exact k0_off19_inb i j hk k
  · exact k0_off20_inb i j hk k
  · exact k0_off21_inb i j hk k
  · exact k0_off22_inb i j hk k
  · exact k0_off23_inb i j hk k
  · exact k0_off24_inb i j hk k

/-- Where head `h`'s column of the running sums lies. -/
def rOff (h : Fin 8) : Fin 2 → ℕ := ![k0_off25 i j k, k0_off26 i j k, k0_off27 i j k, k0_off28 i j k, k0_off29 i j k, k0_off30 i j k, k0_off31 i j k, k0_off32 i j k] h

theorem rOff_inb {i : grid0.Coords} {j : BitVec 32} (hk : k0_chk2 i j) (k : Fin (k0_t1_loop i j).trips) (h : Fin 8) :
    ∀ a, rOff i j k h a + S128x1.size a ≤ S4096x128.size a := by
  fin_cases h
  · exact k0_off25_inb i j hk k
  · exact k0_off26_inb i j hk k
  · exact k0_off27_inb i j hk k
  · exact k0_off28_inb i j hk k
  · exact k0_off29_inb i j hk k
  · exact k0_off30_inb i j hk k
  · exact k0_off31_inb i j hk k
  · exact k0_off32_inb i j hk k

/-- The keys of the block, head `h`. -/
def kk (h : Fin 8) : Vec F S128x64 .bf16 :=
  View.readAt (Elt F) arg3.view (Rect.unit (s := S4096x512) (pOff i j k h) S128x64.size (pOff_inb hk k h)).toLoadRect X3

/-- The values of the block, head `h`. -/
def vv (h : Fin 8) : Vec F S128x64 .bf16 :=
  View.readAt (Elt F) arg4.view (Rect.unit (s := S4096x512) (pOff i j k h) S128x64.size (pOff_inb hk k h)).toLoadRect X4

/-- The running sum stored for the block, head `h`. -/
def rr (h : Fin 8) : Vec F S128x1 .f32 :=
  View.readAt (Elt F) arg9.view (Rect.unit (s := S4096x128) (rOff i j k h) S128x1.size (rOff_inb hk k h)).toLoadRect f9

/-- Which keys of the block lie strictly before each query. -/
def maskB : IVec S128x128 1 :=
  k0_pay24 i (BitVec.ofNat 32 (i 1).val) j (Scalar.subi (Scalar.addi (BitVec.ofNat 32 (i 1).val) 1#32) j) 1#32 k

/-- The logarithm of the gate. -/
def lsB (h : Fin 8) : FVec F S128x128 .f32 := k0_pay27 (v h) (kk i arg3 X3 j hk k h)

/-- The logarithm of the complementary gate, 0 off the mask. -/
def lkB (h : Fin 8) : FVec F S128x128 .f32 :=
  k0_pay29 (maskB i j k) (k0_pay26 (v h) (kk i arg3 X3 j hk k h)) (k0_pay28 (v h) (kk i arg3 X3 j hk k h))

/-- What the later keys leave, as a logarithm. -/
def laterB (h : Fin 8) : FVec F S128x128 .f32 :=
  k0_pay59 k0_pay300 (lkB i arg3 v X3 j hk k h) (rr i arg9 f9 j hk k h)

/-- The weights of the block. -/
def wB (h : Fin 8) : FVec F S128x128 .f32 :=
  k0_pay68 (maskB i j k) (lsB i arg3 v X3 j hk k h) (laterB i arg3 arg9 v X3 f9 j hk k h)

/-- The cotangent against the values. -/
def dvB (h : Fin 8) : FVec F S128x128 .f32 := k0_pay76 (d h) (vv i arg4 X4 j hk k h)

/-- The cotangent of the weights times the weights. -/
def eB (h : Fin 8) : FVec F S128x128 .f32 :=
  k0_pay77 (wB i arg3 arg9 v X3 f9 j hk k h) (dvB i arg4 d X4 j hk k h)

/-- The sum of those products over the keys before. -/
def ebB (es : Fin 8 → FVec F S128x1 .f32) (h : Fin 8) : FVec F S128x128 .f32 :=
  k0_pay85 k0_pay301 (es h) (wB i arg3 arg9 v X3 f9 j hk k h) (dvB i arg4 d X4 j hk k h)

/-- The cotangent of the scores. -/
def dzB (es : Fin 8 → FVec F S128x1 .f32) (h : Fin 8) : FVec F S128x128 .bf16 :=
  k0_pay101 (maskB i j k) (lsB i arg3 v X3 j hk k h) (eB i arg3 arg4 arg9 v d X3 X4 f9 j hk k h)
    (ebB i arg3 arg4 arg9 v d X3 X4 f9 j hk k es h)

/-- The gradient of the queries after the trip. -/
def newDq (es : Fin 8 → FVec F S128x1 .f32) (dq : Fin 8 → FVec F S128x64 .f32) (h : Fin 8) : FVec F S128x64 .f32 :=
  k0_pay111 (dq h) (kk i arg3 X3 j hk k h) (dzB i arg3 arg4 arg9 v d X3 X4 f9 j hk k es h)

/-- The running sum of the products after the trip. -/
def newE (es : Fin 8 → FVec F S128x1 .f32) (h : Fin 8) : FVec F S128x1 .f32 :=
  k0_pay152 (eB i arg3 arg4 arg9 v d X3 X4 f9 j hk k h) (ebB i arg3 arg4 arg9 v d X3 X4 f9 j hk k es h)

/-- What the first `h` heads add to the gradient of the keys. -/
def up7 (es : Fin 8 → FVec F S128x1 .f32) (f7 : BufTy.Contents (Elt F) arg7.view.ty) : ℕ → List (View.Piece (Elt F) S4096x512 .f32)
  | 0 => []
  | h + 1 => ⟨Rect.unit (s := S4096x512) (pOff i j k (Fin.ofNat 8 h)) S128x64.size (pOff_inb hk k (Fin.ofNat 8 h)),
      k0_pay136 (k0_pay119 (v (Fin.ofNat 8 h)) (dzB i arg3 arg4 arg9 v d X3 X4 f9 j hk k es (Fin.ofNat 8 h)))
        (View.readAt (Elt F) arg7.view (Rect.unit (s := S4096x512) (pOff i j k (Fin.ofNat 8 h)) S128x64.size (pOff_inb hk k (Fin.ofNat 8 h))).toLoadRect
          (arg7.view.writes (Elt F) f7 (up7 es f7 h)))⟩ :: up7 es f7 h

/-- What the first `h` heads add to the gradient of the values. -/
def up8 (f8 : BufTy.Contents (Elt F) arg8.view.ty) : ℕ → List (View.Piece (Elt F) S4096x512 .f32)
  | 0 => []
  | h + 1 => ⟨Rect.unit (s := S4096x512) (pOff i j k (Fin.ofNat 8 h)) S128x64.size (pOff_inb hk k (Fin.ofNat 8 h)),
      k0_pay137 (k0_pay127 (d (Fin.ofNat 8 h)) (wB i arg3 arg9 v X3 f9 j hk k (Fin.ofNat 8 h)))
        (View.readAt (Elt F) arg8.view (Rect.unit (s := S4096x512) (pOff i j k (Fin.ofNat 8 h)) S128x64.size (pOff_inb hk k (Fin.ofNat 8 h))).toLoadRect
          (arg8.view.writes (Elt F) f8 (up8 f8 h)))⟩ :: up8 f8 h

/-- What the second pass carries, as the loop holds it. -/
def tup (es : Fin 8 → FVec F S128x1 .f32) (dq : Fin 8 → FVec F S128x64 .f32) :
    FVec F S128x1 .f32 × FVec F S128x1 .f32 × FVec F S128x1 .f32 × FVec F S128x1 .f32 × FVec F S128x1 .f32 × FVec F S128x1 .f32 × FVec F S128x1 .f32 × FVec F S128x1 .f32 × FVec F S128x64 .f32 × FVec F S128x64 .f32 × FVec F S128x64 .f32 × FVec F S128x64 .f32 × FVec F S128x64 .f32 × FVec F S128x64 .f32 × FVec F S128x64 .f32 × FVec F S128x64 .f32 :=
  (es 0, es 1, es 2, es 3, es 4, es 5, es 6, es 7, dq 0, dq 1, dq 2, dq 3, dq 4, dq 5, dq 6, dq 7)

theorem tripR_eq (es : Fin 8 → FVec F S128x1 .f32) (dq : Fin 8 → FVec F S128x64 .f32) (f7 : BufTy.Contents (Elt F) arg7.view.ty) (f8 : BufTy.Contents (Elt F) arg8.view.ty) :
    tripR_k0_t1 (F := F) Variants.nat c none i arg2 harg2 arg3 harg3 arg4 harg4 arg5 harg5 arg6 harg6 arg7 harg7 arg8 harg8 arg9 harg9 (BitVec.ofNat 32 (i 1).val) (v 0) (v 1) (v 2) (v 3) (v 4) (v 5) (v 6) (v 7) (d 0) (d 1) (d 2) (d 3) (d 4) (d 5) (d 6) (d 7) k0_pay300 k0_pay301 j hk (Scalar.subi (Scalar.addi (BitVec.ofNat 32 (i 1).val) 1#32) j) X3 X4 f9 k (tup es dq) f7 f8
      = tup (newE i arg3 arg4 arg9 v d X3 X4 f9 j hk k es) (newDq i arg3 arg4 arg9 v d X3 X4 f9 j hk k es dq) := by
  unfold tripR_k0_t1 trip_k0_t1
  rfl

theorem tripL_eq (es : Fin 8 → FVec F S128x1 .f32) (dq : Fin 8 → FVec F S128x64 .f32) (f7 : BufTy.Contents (Elt F) arg7.view.ty) (f8 : BufTy.Contents (Elt F) arg8.view.ty) :
    tripL_k0_t1 (F := F) Variants.nat c none i arg2 harg2 arg3 harg3 arg4 harg4 arg5 harg5 arg6 harg6 arg7 harg7 arg8 harg8 arg9 harg9 (BitVec.ofNat 32 (i 1).val) (v 0) (v 1) (v 2) (v 3) (v 4) (v 5) (v 6) (v 7) (d 0) (d 1) (d 2) (d 3) (d 4) (d 5) (d 6) (d 7) k0_pay300 k0_pay301 j hk (Scalar.subi (Scalar.addi (BitVec.ofNat 32 (i 1).val) 1#32) j) X3 X4 f9 k (tup es dq) f7 f8
      = (up7 i arg3 arg4 arg7 arg9 v d X3 X4 f9 j hk k es f7 8, up8 i arg3 arg8 arg9 v d X3 f9 j hk k f8 8) := by
  unfold tripL_k0_t1 trip_k0_t1
  rfl

/-- The second pass keeps every relation its trips keep. -/
theorem pass (G7 : BufTy.Contents (Elt F) arg7.view.ty) (G8 : BufTy.Contents (Elt F) arg8.view.ty)
    (es0 : Fin 8 → FVec F S128x1 .f32) (dq0 : Fin 8 → FVec F S128x64 .f32)
    (J : ℕ → (Fin 8 → FVec F S128x1 .f32) → (Fin 8 → FVec F S128x64 .f32) → BufTy.Contents (Elt F) arg7.view.ty → BufTy.Contents (Elt F) arg8.view.ty → Prop)
    (hJ0 : J 0 es0 dq0 G7 G8)
    (hJ : ∀ (k : Fin (k0_t1_loop i j).trips) es dq f7 f8, J k.val es dq f7 f8 →
      J (k.val + 1) (newE i arg3 arg4 arg9 v d X3 X4 f9 j hk k es) (newDq i arg3 arg4 arg9 v d X3 X4 f9 j hk k es dq)
        (arg7.view.writes (Elt F) f7 (up7 i arg3 arg4 arg7 arg9 v d X3 X4 f9 j hk k es f7 8))
        (arg8.view.writes (Elt F) f8 (up8 i arg3 arg8 arg9 v d X3 f9 j hk k f8 8))) :
    ∀ n, n ≤ (k0_t1_loop i j).trips → ∃ es dq,
      (st_k0_t1 (F := F) Variants.nat c none i arg2 harg2 arg3 harg3 arg4 harg4 arg5 harg5 arg6 harg6 arg7 harg7 arg8 harg8 arg9 harg9 (BitVec.ofNat 32 (i 1).val) (v 0) (v 1) (v 2) (v 3) (v 4) (v 5) (v 6) (v 7) (d 0) (d 1) (d 2) (d 3) (d 4) (d 5) (d 6) (d 7) k0_pay300 k0_pay301 j hk (Scalar.subi (Scalar.addi (BitVec.ofNat 32 (i 1).val) 1#32) j) X3 X4 f9 G7 G8 (tup es0 dq0) n).1 = tup es dq ∧
      J n es dq (arg7.view.writes (Elt F) G7 (st_k0_t1 (F := F) Variants.nat c none i arg2 harg2 arg3 harg3 arg4 harg4 arg5 harg5 arg6 harg6 arg7 harg7 arg8 harg8 arg9 harg9 (BitVec.ofNat 32 (i 1).val) (v 0) (v 1) (v 2) (v 3) (v 4) (v 5) (v 6) (v 7) (d 0) (d 1) (d 2) (d 3) (d 4) (d 5) (d 6) (d 7) k0_pay300 k0_pay301 j hk (Scalar.subi (Scalar.addi (BitVec.ofNat 32 (i 1).val) 1#32) j) X3 X4 f9 G7 G8 (tup es0 dq0) n).2.1)
        (arg8.view.writes (Elt F) G8 (st_k0_t1 (F := F) Variants.nat c none i arg2 harg2 arg3 harg3 arg4 harg4 arg5 harg5 arg6 harg6 arg7 harg7 arg8 harg8 arg9 harg9 (BitVec.ofNat 32 (i 1).val) (v 0) (v 1) (v 2) (v 3) (v 4) (v 5) (v 6) (v 7) (d 0) (d 1) (d 2) (d 3) (d 4) (d 5) (d 6) (d 7) k0_pay300 k0_pay301 j hk (Scalar.subi (Scalar.addi (BitVec.ofNat 32 (i 1).val) 1#32) j) X3 X4 f9 G7 G8 (tup es0 dq0) n).2.2) := by
  intro n
  induction n with
  | zero => intro _; exact ⟨es0, dq0, rfl, hJ0⟩
  | succ n ih =>
    intro hn
    obtain ⟨es, dq, h1, h2⟩ := ih (by omega)
    have hs := st_k0_t1_succ (F := F) Variants.nat c none i arg2 harg2 arg3 harg3 arg4 harg4 arg5 harg5 arg6 harg6 arg7 harg7 arg8 harg8 arg9 harg9 (BitVec.ofNat 32 (i 1).val) (v 0) (v 1) (v 2) (v 3) (v 4) (v 5) (v 6) (v 7) (d 0) (d 1) (d 2) (d 3) (d 4) (d 5) (d 6) (d 7) k0_pay300 k0_pay301 j hk (Scalar.subi (Scalar.addi (BitVec.ofNat 32 (i 1).val) 1#32) j) X3 X4 f9 G7 G8 (tup es0 dq0) ⟨n, hn⟩
    dsimp only at hs
    have e7 := fun f7 f8 => congrArg Prod.fst (tripL_eq c i arg2 harg2 arg3 harg3 arg4 harg4 arg5 harg5 arg6 harg6 arg7 harg7 arg8 harg8 arg9 harg9 v d X3 X4 f9 j hk ⟨n, hn⟩ es dq f7 f8)
    have e8 := fun f7 f8 => congrArg Prod.snd (tripL_eq c i arg2 harg2 arg3 harg3 arg4 harg4 arg5 harg5 arg6 harg6 arg7 harg7 arg8 harg8 arg9 harg9 v d X3 X4 f9 j hk ⟨n, hn⟩ es dq f7 f8)
    dsimp only at e7 e8
    rw [hs, h1, tripR_eq]
    refine ⟨_, _, rfl, ?_⟩
    dsimp only
    rw [View.writes_append, View.writes_append, e7, e8]
    exact hJ ⟨n, hn⟩ es dq _ _ h2

end Cert.Kernel3Ideal.Sb
-- ==== Proof.SbBody.lean ====
module

public import proofs.«01_k».proof.Proof.SbTrip

@[expose] public section

set_option maxRecDepth 8192
set_option maxHeartbeats 4000000

noncomputable section

namespace Cert.Kernel3Ideal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F] [Named F]

/-- The resource algebra of the pipeline's runs. -/
local notation "𝕄G" => MT nD τ sig Unit (Elt F) ℕ (UR sig nD τ) ℕ

variable (c : Dev nD) (i : grid0.Coords)
  (arg2 : Memref sig .tc .vmem S128x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S128x512 .f32) (harg5 : arg5.IsWhole)
  (arg6 : Memref sig .tc .vmem S128x512 .f32) (harg6 : arg6.IsWhole)
  (arg7 : Memref sig .tc .vmem S4096x512 .f32) (harg7 : arg7.IsWhole)
  (arg8 : Memref sig .tc .vmem S4096x512 .f32) (harg8 : arg8.IsWhole)
  (arg9 : Memref sig .tc .vmem S4096x128 .f32) (harg9 : arg9.IsWhole)

/-- The query block, head by head. -/
def qv (X2 : BufTy.Contents (Elt F) arg2.view.ty) : Fin 8 → Vec F S128x64 .bf16 :=
  ![View.readAt (Elt F) arg2.view (Rect.unit (s := S128x512) ![0, 0] S128x64.size inb_S128x512_S128x64_0_0).toLoadRect X2, View.readAt (Elt F) arg2.view (Rect.unit (s := S128x512) ![0, 64] S128x64.size inb_S128x512_S128x64_0_64).toLoadRect X2, View.readAt (Elt F) arg2.view (Rect.unit (s := S128x512) ![0, 128] S128x64.size inb_S128x512_S128x64_0_128).toLoadRect X2, View.readAt (Elt F) arg2.view (Rect.unit (s := S128x512) ![0, 192] S128x64.size inb_S128x512_S128x64_0_192).toLoadRect X2, View.readAt (Elt F) arg2.view (Rect.unit (s := S128x512) ![0, 256] S128x64.size inb_S128x512_S128x64_0_256).toLoadRect X2, View.readAt (Elt F) arg2.view (Rect.unit (s := S128x512) ![0, 320] S128x64.size inb_S128x512_S128x64_0_320).toLoadRect X2, View.readAt (Elt F) arg2.view (Rect.unit (s := S128x512) ![0, 384] S128x64.size inb_S128x512_S128x64_0_384).toLoadRect X2, View.readAt (Elt F) arg2.view (Rect.unit (s := S128x512) ![0, 448] S128x64.size inb_S128x512_S128x64_0_448).toLoadRect X2]

/-- The running sums before the walk. -/
def run0 : Fin 8 → FVec F S128x1 .f32 := ![k0_pay302 (F := F), k0_pay303 (F := F), k0_pay304 (F := F), k0_pay305 (F := F), k0_pay306 (F := F), k0_pay307 (F := F), k0_pay308 (F := F), k0_pay309 (F := F)]

set_option synthInstance.maxHeartbeats 0 in
/-- The call of the walk: it goes on with whatever the walk's relation says at its exit. -/
theorem call_walk {β : Type} (v : Fin 8 → Vec F S128x64 .bf16) (E : Set ℕ) (X3 : BufTy.Contents (Elt F) arg3.view.ty)
    (I : ℕ → (Fin 8 → FVec F S128x1 .f32) → BufTy.Contents (Elt F) arg9.view.ty → Prop)
    (hI : ∀ n r f (hn : n ≤ (i 1).val), goesOn (F := F) i (BitVec.ofNat 32 n) r → I n r f →
      I (n + 1) (nextRun i arg3 v X3 (BitVec.ofNat 32 n) (chk1 hn) r)
        (arg9.view.writes (Elt F) f (runPieces i (BitVec.ofNat 32 n) (chk1 hn) r)))
    (r : Fin 8 → FVec F S128x1 .f32) (f9 : BufTy.Contents (Elt F) arg9.view.ty) (h0 : I 0 r f9)
    {a : (Λ₀ F).Args (1 : (Λ₀ F).Label)} (k : (Λ₀ F).Result (1 : (Λ₀ F).Label) → Prog (TpuEff nD τ sig (Elt F) (Λ₀ F) .tc) β) (Q : β → sProp 𝕄G)
    (ha : walkArgs i arg3 harg3 v arg9 harg9 0#32 r = a) :
    (iprop((arg3.view.loc (c : Thread nD τ) ↦[arg3.view.set]{fullShare} X3)
      ∗ (arg9.view.loc (c : Thread nD τ) ↦[arg9.view.set]{fullShare} f9)
      ∗ (∀ n r' f', ⌜n ≤ (i 1).val + 1 ∧ ¬ goesOn (F := F) i (BitVec.ofNat 32 n) r' ∧ I n r' f'⌝ -∗
          (arg3.view.loc (c : Thread nD τ) ↦[arg3.view.set]{fullShare} X3) -∗
          (arg9.view.loc (c : Thread nD τ) ↦[arg9.view.set]{fullShare} f') -∗
          wp frame (wpE (defs₀ (F := F)) Variants.nat (c : Thread nD τ) none) E (k (walkOut (BitVec.ofNat 32 n) r')) Q)) : sProp 𝕄G)
    ⊢ wp frame (wpE (defs₀ (F := F)) Variants.nat (c : Thread nD τ) none) E
        (.op (.call (1 : (Λ₀ F).Label) a) k) Q := by
  subst ha
  refine BIBase.Entails.trans ?_ (wp_call Variants.nat (c : Thread nD τ) none E ((i 1).val + 1) (by
        intro u hu; cases hu))
  have hw := walk c i arg3 harg3 v arg9 harg9 E X3 I hI ((i 1).val + 1) 0 r f9 (by omega) h0
  change _ ⊢ wp frame _ E (cc0_while1 (F := F) i arg3 harg3 (v 0) (v 1) (v 2) (v 3) (v 4) (v 5) (v 6) (v 7) arg9 harg9
        (BitVec.ofNat 32 0) _ _ _ _ _ _ _ _) _
  iintro ⟨H3, H9, H⟩
  iapply (wp_wand_r Idealize.ShloMosaic.frame (wpE (defs₀ (F := F)) Variants.nat (c : Thread nD τ) (some ((i 1).val + 1))) E)
  isplitl [H3 H9]
  · iapply hw
    isplitl [H3]
    · iexact H3
    · iexact H9
  · iintro %x ⟨H3, ⟨%n, %r', %f', %hx, H9⟩⟩
    obtain ⟨h1, rfl, h3, h4⟩ := hx
    iapply H $$ %n %r' %f' %⟨h1, h3, h4⟩ H3 H9

/-- The cotangent block, head by head. -/
def dov (X5 : BufTy.Contents (Elt F) arg5.view.ty) : Fin 8 → FVec F S128x64 .bf16 :=
  ![k0_pay292 (View.readAt (Elt F) arg5.view (Rect.unit (s := S128x512) ![0, 0] S128x64.size inb_S128x512_S128x64_0_0).toLoadRect X5), k0_pay293 (View.readAt (Elt F) arg5.view (Rect.unit (s := S128x512) ![0, 64] S128x64.size inb_S128x512_S128x64_0_64).toLoadRect X5), k0_pay294 (View.readAt (Elt F) arg5.view (Rect.unit (s := S128x512) ![0, 128] S128x64.size inb_S128x512_S128x64_0_128).toLoadRect X5), k0_pay295 (View.readAt (Elt F) arg5.view (Rect.unit (s := S128x512) ![0, 192] S128x64.size inb_S128x512_S128x64_0_192).toLoadRect X5), k0_pay296 (View.readAt (Elt F) arg5.view (Rect.unit (s := S128x512) ![0, 256] S128x64.size inb_S128x512_S128x64_0_256).toLoadRect X5), k0_pay297 (View.readAt (Elt F) arg5.view (Rect.unit (s := S128x512) ![0, 320] S128x64.size inb_S128x512_S128x64_0_320).toLoadRect X5), k0_pay298 (View.readAt (Elt F) arg5.view (Rect.unit (s := S128x512) ![0, 384] S128x64.size inb_S128x512_S128x64_0_384).toLoadRect X5), k0_pay299 (View.readAt (Elt F) arg5.view (Rect.unit (s := S128x512) ![0, 448] S128x64.size inb_S128x512_S128x64_0_448).toLoadRect X5)]

/-- The gradient of the queries, stored head by head. -/
def dqPieces (dq : Fin 8 → FVec F S128x64 .f32) : List (View.Piece (Elt F) S128x512 .f32) :=
  [⟨Rect.unit (s := S128x512) ![0, 448] S128x64.size inb_S128x512_S128x64_0_448, dq 7⟩, ⟨Rect.unit (s := S128x512) ![0, 384] S128x64.size inb_S128x512_S128x64_0_384, dq 6⟩, ⟨Rect.unit (s := S128x512) ![0, 320] S128x64.size inb_S128x512_S128x64_0_320, dq 5⟩, ⟨Rect.unit (s := S128x512) ![0, 256] S128x64.size inb_S128x512_S128x64_0_256, dq 4⟩, ⟨Rect.unit (s := S128x512) ![0, 192] S128x64.size inb_S128x512_S128x64_0_192, dq 3⟩, ⟨Rect.unit (s := S128x512) ![0, 128] S128x64.size inb_S128x512_S128x64_0_128, dq 2⟩, ⟨Rect.unit (s := S128x512) ![0, 64] S128x64.size inb_S128x512_S128x64_0_64, dq 1⟩, ⟨Rect.unit (s := S128x512) ![0, 0] S128x64.size inb_S128x512_S128x64_0_0, dq 0⟩]

/-- What the body leaves: the arguments as they were and the outputs at contents the two relations speak of. -/
def left (X2 : BufTy.Contents (Elt F) arg2.view.ty) (X3 : BufTy.Contents (Elt F) arg3.view.ty)
    (X4 : BufTy.Contents (Elt F) arg4.view.ty) (X5 : BufTy.Contents (Elt F) arg5.view.ty)
    (f6 : BufTy.Contents (Elt F) arg6.view.ty)
    (I : ℕ → (Fin 8 → FVec F S128x1 .f32) → BufTy.Contents (Elt F) arg9.view.ty → Prop)
    (J : ℕ → BufTy.Contents (Elt F) arg9.view.ty → ℕ → (Fin 8 → FVec F S128x1 .f32) → (Fin 8 → FVec F S128x64 .f32) → BufTy.Contents (Elt F) arg7.view.ty → BufTy.Contents (Elt F) arg8.view.ty → Prop) : sProp 𝕄G :=
  iprop(∃ n r f9 es dq f7 f8, ⌜n ≤ (i 1).val + 1 ∧ ¬ goesOn (F := F) i (BitVec.ofNat 32 n) r ∧ I n r f9 ∧ J n f9 n es dq f7 f8⌝
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} arg6.view.writes (Elt F) f6 (dqPieces dq))
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9))

set_option synthInstance.maxHeartbeats 0 in
/-- The body at the first block of queries: the gradients of the keys and values start from 0. -/
theorem body_first (E : Set ℕ)
    (X2 : BufTy.Contents (Elt F) arg2.view.ty) (X3 : BufTy.Contents (Elt F) arg3.view.ty)
    (X4 : BufTy.Contents (Elt F) arg4.view.ty) (X5 : BufTy.Contents (Elt F) arg5.view.ty)
    (f6 : BufTy.Contents (Elt F) arg6.view.ty)
    (f7 : BufTy.Contents (Elt F) arg7.view.ty) (f8 : BufTy.Contents (Elt F) arg8.view.ty)
    (f9 : BufTy.Contents (Elt F) arg9.view.ty)
    (I : ℕ → (Fin 8 → FVec F S128x1 .f32) → BufTy.Contents (Elt F) arg9.view.ty → Prop)
    (J : ℕ → BufTy.Contents (Elt F) arg9.view.ty → ℕ → (Fin 8 → FVec F S128x1 .f32) → (Fin 8 → FVec F S128x64 .f32) → BufTy.Contents (Elt F) arg7.view.ty → BufTy.Contents (Elt F) arg8.view.ty → Prop)
    (hI : ∀ n r f (hn : n ≤ (i 1).val), goesOn (F := F) i (BitVec.ofNat 32 n) r → I n r f →
      I (n + 1) (nextRun i arg3 (qv arg2 X2) X3 (BitVec.ofNat 32 n) (chk1 hn) r)
        (arg9.view.writes (Elt F) f (runPieces i (BitVec.ofNat 32 n) (chk1 hn) r)))
    (hI0 : I 0 run0 f9)
    (hJ : ∀ n r f9 (hn : n ≤ (i 1).val + 1), ¬ goesOn (F := F) i (BitVec.ofNat 32 n) r → I n r f9 →
      ∀ (k : Fin (k0_t1_loop i (BitVec.ofNat 32 n)).trips) es dq f7 f8, J n f9 k.val es dq f7 f8 →
      J n f9 (k.val + 1) (newE i arg3 arg4 arg9 (qv arg2 X2) (dov arg5 X5) X3 X4 f9 (BitVec.ofNat 32 n) (chk2 hn) k es)
        (newDq i arg3 arg4 arg9 (qv arg2 X2) (dov arg5 X5) X3 X4 f9 (BitVec.ofNat 32 n) (chk2 hn) k es dq)
        (arg7.view.writes (Elt F) f7 (up7 i arg3 arg4 arg7 arg9 (qv arg2 X2) (dov arg5 X5) X3 X4 f9 (BitVec.ofNat 32 n) (chk2 hn) k es f7 8))
        (arg8.view.writes (Elt F) f8 (up8 i arg3 arg8 arg9 (qv arg2 X2) (dov arg5 X5) X3 f9 (BitVec.ofNat 32 n) (chk2 hn) k f8 8)))
    (h0 : (i 1).val = 0)
    (hJ0 : ∀ n r f9, n ≤ (i 1).val + 1 → ¬ goesOn (F := F) i (BitVec.ofNat 32 n) r → I n r f9 →
      J n f9 0 (fun _ => k0_pay310) (fun _ => k0_pay318) (arg7.view.writes (Elt F) arg7.view.junk [⟨Rect.unit (s := S4096x512) ![0, 0] S4096x512.size inb_S4096x512_S4096x512_0_0, k0_pay290⟩]) (arg8.view.writes (Elt F) arg8.view.junk [⟨Rect.unit (s := S4096x512) ![0, 0] S4096x512.size inb_S4096x512_S4096x512_0_0, k0_pay291⟩])) :
    (iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)) : sProp 𝕄G)
    ⊢ wp frame (wpE (defs₀ (F := F)) Variants.nat (c : Thread nD τ) none) E
      (cc0_sb_bwd (F := F) i arg2 harg2 arg3 harg3 arg4 harg4 arg5 harg5 arg6 harg6 arg7 harg7 arg8 harg8 arg9 harg9)
      (fun _ => left c i arg2 arg3 arg4 arg5 arg6 arg7 arg8 arg9 X2 X3 X4 X5 f6 I J) := by
  have hz : Scalar.cmpi .ne (Scalar.extui (Scalar.cmpi .eq (BitVec.ofNat 32 (i 1).val) 0#32) : BitVec 32) 0#32 = 1#1 := by
    rw [h0]; decide
  rw [cc0_sb_bwd_eq_skeleton]
  unfold cc0_sb_bwd_skel
  iintro ⟨H2, H3, H4, H5, H6, H7, H8, H9⟩
  sl_exec
  iapply (call_walk c i arg3 harg3 arg9 harg9 (qv arg2 X2) E X3 I hI run0 f9 hI0 _ _ ?_)
  · rfl
  isplitl [H3]
  · iexact H3
  isplitl [H9]
  · iexact H9
  iintro %n %r %f9' %hn H3 H9
  obtain ⟨hn, hg, hI'⟩ := hn
  have hk2 := chk2 hn
  unfold walkOut
  dsimp only
  sl_exec
  have ht2 : Scf.trips (k0_t2_loop i (BitVec.ofNat 32 n)).lb (k0_t2_loop i (BitVec.ofNat 32 n)).ub (k0_t2_loop i (BitVec.ofNat 32 n)).st = 0 := (loops hn).2.2.2
  have ht1 : Scf.trips (k0_t1_loop i (BitVec.ofNat 32 n)).lb (k0_t1_loop i (BitVec.ofNat 32 n)).ub (k0_t1_loop i (BitVec.ofNat 32 n)).st = n := (loops hn).2.1
  rw [ht1, ht2]
  generalize hS : st_k0_t1 (F := F) _ _ _ _ _ _ _ _ _ _ _ _ _ _ _ _ _ _ _ _ _ _ _ _ _ _ _ _ _ _ _ _ _ _ _ _ _ _ _ _ _ _ _ _ _ _ _ _  n = S
  have hS2 : st_k0_t1 (F := F) Variants.nat c none i arg2 harg2 arg3 harg3 arg4 harg4 arg5 harg5 arg6 harg6 arg7 harg7 arg8 harg8 arg9 harg9 (BitVec.ofNat 32 (i 1).val) (qv arg2 X2 0) (qv arg2 X2 1) (qv arg2 X2 2) (qv arg2 X2 3) (qv arg2 X2 4) (qv arg2 X2 5) (qv arg2 X2 6) (qv arg2 X2 7) (dov arg5 X5 0) (dov arg5 X5 1) (dov arg5 X5 2) (dov arg5 X5 3) (dov arg5 X5 4) (dov arg5 X5 5) (dov arg5 X5 6) (dov arg5 X5 7) k0_pay300 k0_pay301 (BitVec.ofNat 32 n) hk2 (Scalar.subi (Scalar.addi (BitVec.ofNat 32 (i 1).val) 1#32) (BitVec.ofNat 32 n)) X3 X4 f9' (arg7.view.writes (Elt F) arg7.view.junk [⟨Rect.unit (s := S4096x512) ![0, 0] S4096x512.size inb_S4096x512_S4096x512_0_0, k0_pay290⟩]) (arg8.view.writes (Elt F) arg8.view.junk [⟨Rect.unit (s := S4096x512) ![0, 0] S4096x512.size inb_S4096x512_S4096x512_0_0, k0_pay291⟩]) (tup (fun _ => k0_pay310) (fun _ => k0_pay318)) n = S := hS
  have hp := pass c i arg2 harg2 arg3 harg3 arg4 harg4 arg5 harg5 arg6 harg6 arg7 harg7 arg8 harg8 arg9 harg9
    (qv arg2 X2) (dov arg5 X5) X3 X4 f9' (BitVec.ofNat 32 n) hk2 _ _ (fun _ => k0_pay310) (fun _ => k0_pay318) (J n f9') (hJ0 n r f9' hn hg hI')
    (hJ n r f9' hn hg hI') n (le_of_eq (loops hn).2.1.symm)
  rw [hS2] at hp
  clear hS hS2
  obtain ⟨⟨S1, S2, S3, S4, S5, S6, S7, S8, D1, D2, D3, D4, D5, D6, D7, D8⟩, L7, L8⟩ := S
  obtain ⟨es, dq, h1, h2⟩ := hp
  dsimp only at h1 h2
  unfold tup at h1
  simp only [Prod.mk.injEq] at h1
  obtain ⟨rfl, rfl, rfl, rfl, rfl, rfl, rfl, rfl, rfl, rfl, rfl, rfl, rfl, rfl, rfl, rfl⟩ := h1
  simp only [st_k0_t2.eq_1, List.nil_append, View.writes_append]
  unfold left
  rw [wp_ret]
  iapply fupd_intro
  iexists n, r, f9', es, dq, _, _
  isplitr
  rotate_left
  · isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9
  · ipureintro
    exact ⟨hn, hg, hI', h2⟩

set_option synthInstance.maxHeartbeats 0 in
/-- The body at a later block of queries: the gradients of the keys and values go on from what they were. -/
theorem body_next (E : Set ℕ)
    (X2 : BufTy.Contents (Elt F) arg2.view.ty) (X3 : BufTy.Contents (Elt F) arg3.view.ty)
    (X4 : BufTy.Contents (Elt F) arg4.view.ty) (X5 : BufTy.Contents (Elt F) arg5.view.ty)
    (f6 : BufTy.Contents (Elt F) arg6.view.ty)
    (f7 : BufTy.Contents (Elt F) arg7.view.ty) (f8 : BufTy.Contents (Elt F) arg8.view.ty)
    (f9 : BufTy.Contents (Elt F) arg9.view.ty)
    (I : ℕ → (Fin 8 → FVec F S128x1 .f32) → BufTy.Contents (Elt F) arg9.view.ty → Prop)
    (J : ℕ → BufTy.Contents (Elt F) arg9.view.ty → ℕ → (Fin 8 → FVec F S128x1 .f32) → (Fin 8 → FVec F S128x64 .f32) → BufTy.Contents (Elt F) arg7.view.ty → BufTy.Contents (Elt F) arg8.view.ty → Prop)
    (hI : ∀ n r f (hn : n ≤ (i 1).val), goesOn (F := F) i (BitVec.ofNat 32 n) r → I n r f →
      I (n + 1) (nextRun i arg3 (qv arg2 X2) X3 (BitVec.ofNat 32 n) (chk1 hn) r)
        (arg9.view.writes (Elt F) f (runPieces i (BitVec.ofNat 32 n) (chk1 hn) r)))
    (hI0 : I 0 run0 f9)
    (hJ : ∀ n r f9 (hn : n ≤ (i 1).val + 1), ¬ goesOn (F := F) i (BitVec.ofNat 32 n) r → I n r f9 →
      ∀ (k : Fin (k0_t1_loop i (BitVec.ofNat 32 n)).trips) es dq f7 f8, J n f9 k.val es dq f7 f8 →
      J n f9 (k.val + 1) (newE i arg3 arg4 arg9 (qv arg2 X2) (dov arg5 X5) X3 X4 f9 (BitVec.ofNat 32 n) (chk2 hn) k es)
        (newDq i arg3 arg4 arg9 (qv arg2 X2) (dov arg5 X5) X3 X4 f9 (BitVec.ofNat 32 n) (chk2 hn) k es dq)
        (arg7.view.writes (Elt F) f7 (up7 i arg3 arg4 arg7 arg9 (qv arg2 X2) (dov arg5 X5) X3 X4 f9 (BitVec.ofNat 32 n) (chk2 hn) k es f7 8))
        (arg8.view.writes (Elt F) f8 (up8 i arg3 arg8 arg9 (qv arg2 X2) (dov arg5 X5) X3 f9 (BitVec.ofNat 32 n) (chk2 hn) k f8 8)))
    (h0 : (i 1).val ≠ 0)
    (hJ0 : ∀ n r f9, n ≤ (i 1).val + 1 → ¬ goesOn (F := F) i (BitVec.ofNat 32 n) r → I n r f9 →
      J n f9 0 (fun _ => k0_pay310) (fun _ => k0_pay318) f7 f8) :
    (iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)) : sProp 𝕄G)
    ⊢ wp frame (wpE (defs₀ (F := F)) Variants.nat (c : Thread nD τ) none) E
      (cc0_sb_bwd (F := F) i arg2 harg2 arg3 harg3 arg4 harg4 arg5 harg5 arg6 harg6 arg7 harg7 arg8 harg8 arg9 harg9)
      (fun _ => left c i arg2 arg3 arg4 arg5 arg6 arg7 arg8 arg9 X2 X3 X4 X5 f6 I J) := by
  have hz : Scalar.cmpi .ne (Scalar.extui (Scalar.cmpi .eq (BitVec.ofNat 32 (i 1).val) 0#32) : BitVec 32) 0#32 ≠ 1#1 := by
    exact (by decide : ∀ q : Fin 32, q.val ≠ 0 → Scalar.cmpi .ne (Scalar.extui (Scalar.cmpi .eq (BitVec.ofNat 32 q.val) 0#32) : BitVec 32) 0#32 ≠ 1#1) ⟨(i 1).val, (i 1).isLt⟩ h0
  rw [cc0_sb_bwd_eq_skeleton]
  unfold cc0_sb_bwd_skel
  iintro ⟨H2, H3, H4, H5, H6, H7, H8, H9⟩
  sl_exec
  iapply (call_walk c i arg3 harg3 arg9 harg9 (qv arg2 X2) E X3 I hI run0 f9 hI0 _ _ ?_)
  · rfl
  isplitl [H3]
  · iexact H3
  isplitl [H9]
  · iexact H9
  iintro %n %r %f9' %hn H3 H9
  obtain ⟨hn, hg, hI'⟩ := hn
  have hk2 := chk2 hn
  unfold walkOut
  dsimp only
  sl_exec
  have ht2 : Scf.trips (k0_t2_loop i (BitVec.ofNat 32 n)).lb (k0_t2_loop i (BitVec.ofNat 32 n)).ub (k0_t2_loop i (BitVec.ofNat 32 n)).st = 0 := (loops hn).2.2.2
  have ht1 : Scf.trips (k0_t1_loop i (BitVec.ofNat 32 n)).lb (k0_t1_loop i (BitVec.ofNat 32 n)).ub (k0_t1_loop i (BitVec.ofNat 32 n)).st = n := (loops hn).2.1
  rw [ht1, ht2]
  generalize hS : st_k0_t1 (F := F) _ _ _ _ _ _ _ _ _ _ _ _ _ _ _ _ _ _ _ _ _ _ _ _ _ _ _ _ _ _ _ _ _ _ _ _ _ _ _ _ _ _ _ _ _ _ _ _  n = S
  have hS2 : st_k0_t1 (F := F) Variants.nat c none i arg2 harg2 arg3 harg3 arg4 harg4 arg5 harg5 arg6 harg6 arg7 harg7 arg8 harg8 arg9 harg9 (BitVec.ofNat 32 (i 1).val) (qv arg2 X2 0) (qv arg2 X2 1) (qv arg2 X2 2) (qv arg2 X2 3) (qv arg2 X2 4) (qv arg2 X2 5) (qv arg2 X2 6) (qv arg2 X2 7) (dov arg5 X5 0) (dov arg5 X5 1) (dov arg5 X5 2) (dov arg5 X5 3) (dov arg5 X5 4) (dov arg5 X5 5) (dov arg5 X5 6) (dov arg5 X5 7) k0_pay300 k0_pay301 (BitVec.ofNat 32 n) hk2 (Scalar.subi (Scalar.addi (BitVec.ofNat 32 (i 1).val) 1#32) (BitVec.ofNat 32 n)) X3 X4 f9' f7 f8 (tup (fun _ => k0_pay310) (fun _ => k0_pay318)) n = S := hS
  have hp := pass c i arg2 harg2 arg3 harg3 arg4 harg4 arg5 harg5 arg6 harg6 arg7 harg7 arg8 harg8 arg9 harg9
    (qv arg2 X2) (dov arg5 X5) X3 X4 f9' (BitVec.ofNat 32 n) hk2 _ _ (fun _ => k0_pay310) (fun _ => k0_pay318) (J n f9') (hJ0 n r f9' hn hg hI')
    (hJ n r f9' hn hg hI') n (le_of_eq (loops hn).2.1.symm)
  rw [hS2] at hp
  clear hS hS2
  obtain ⟨⟨S1, S2, S3, S4, S5, S6, S7, S8, D1, D2, D3, D4, D5, D6, D7, D8⟩, L7, L8⟩ := S
  obtain ⟨es, dq, h1, h2⟩ := hp
  dsimp only at h1 h2
  unfold tup at h1
  simp only [Prod.mk.injEq] at h1
  obtain ⟨rfl, rfl, rfl, rfl, rfl, rfl, rfl, rfl, rfl, rfl, rfl, rfl, rfl, rfl, rfl, rfl⟩ := h1
  simp only [st_k0_t2.eq_1, List.nil_append, View.writes_append]
  unfold left
  rw [wp_ret]
  iapply fupd_intro
  iexists n, r, f9', es, dq, _, _
  isplitr
  rotate_left
  · isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9
  · ipureintro
    exact ⟨hn, hg, hI', h2⟩

end Cert.Kernel3Ideal.Sb
-- ==== Proof.SbOwns.lean ====
module

public import Idealize.ShloMosaic.Lib.Claim
public import Idealize.ShloMosaic.Lib.Pipeline.FrameBody
public import Idealize.ShloMosaic.Lib.Pipeline.TableIdle
public import Idealize.ShloMosaic.Lib.Ring
public import proofs.«01_k».proof.Proof.Gen.Kernel3Ideal.Launch
public import proofs.«01_k».proof.Proof.Gen.Kernel3Ideal.Points
public import proofs.«01_k».proof.Proof.SbBody

@[expose] public section

set_option maxRecDepth 8192
set_option maxHeartbeats 4000000

noncomputable section

namespace Cert.Kernel3Ideal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen
open Idealize.ShloMosaic.Rounds
open Idealize.ShloMosaic.Pipeline (Dat Cfg Window BodyObligation BodyObligationLoose)

variable {F : FTy → Type} [FloatOps F] [Named F]

/-- The resource algebra of the pipeline's runs. -/
local notation "𝕄G" => MT nD τ sig Unit (Elt F) ℕ (UR sig nD τ) ℕ

variable (c : Dev nD) (i : grid0.Coords)
  (arg2 : Memref sig .tc .vmem S128x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S128x512 .f32) (harg5 : arg5.IsWhole)
  (arg6 : Memref sig .tc .vmem S128x512 .f32) (harg6 : arg6.IsWhole)
  (arg7 : Memref sig .tc .vmem S4096x512 .f32) (harg7 : arg7.IsWhole)
  (arg8 : Memref sig .tc .vmem S4096x512 .f32) (harg8 : arg8.IsWhole)
  (arg9 : Memref sig .tc .vmem S4096x128 .f32) (harg9 : arg9.IsWhole)

/-- What one point of the grid leaves, said through the blocks read: the inputs as they were, and outputs of which `P` holds. -/
def leaves (x2 : Vec F S128x512 .bf16) (x3 x4 : Vec F S4096x512 .bf16) (x5 : Vec F S128x512 .f32)
    (P : Vec F S128x512 .f32 → Vec F S4096x512 .f32 → Vec F S4096x512 .f32 → Prop) : sProp 𝕄G :=
  iprop(owns (c : Thread nD τ) arg2 fullShare x2 ∗ owns (c : Thread nD τ) arg3 fullShare x3
    ∗ owns (c : Thread nD τ) arg4 fullShare x4 ∗ owns (c : Thread nD τ) arg5 fullShare x5
    ∗ (∃ y6 y7 y8, ⌜P y6 y7 y8⌝ ∗ owns (c : Thread nD τ) arg6 fullShare y6 ∗ owns (c : Thread nD τ) arg7 fullShare y7
      ∗ owns (c : Thread nD τ) arg8 fullShare y8)
    ∗ (∃ f9, arg9.view.loc (c : Thread nD τ) ↦[arg9.view.set]{fullShare} f9))

theorem left_leaves (X2 X3 X4 X5 f6 I J) (P : Vec F S128x512 .f32 → Vec F S4096x512 .f32 → Vec F S4096x512 .f32 → Prop)
    (hP : ∀ n r f9 es dq f7 f8, n ≤ (i 1).val + 1 → ¬ goesOn (F := F) i (BitVec.ofNat 32 n) r → I n r f9 → J n f9 n es dq f7 f8 →
      P (arg6.view.read (Elt F) (arg6.view.writes (Elt F) f6 (dqPieces dq))) (arg7.view.read (Elt F) f7) (arg8.view.read (Elt F) f8)) :
    left (F := F) c i arg2 arg3 arg4 arg5 arg6 arg7 arg8 arg9 X2 X3 X4 X5 f6 I J
    ⊢ leaves c arg2 arg3 arg4 arg5 arg6 arg7 arg8 arg9 (arg2.view.read (Elt F) X2) (arg3.view.read (Elt F) X3) (arg4.view.read (Elt F) X4) (arg5.view.read (Elt F) X5) P := by
  unfold left leaves owns
  iintro ⟨%n, %r, %f9, %es, %dq, %f7, %f8, %hf, H2, H3, H4, H5, H6, H7, H8, H9⟩
  obtain ⟨h1, h2, h3, h4⟩ := hf
  isplitl [H2]
  · iexists X2
    isplitr
    · ipureintro; rfl
    iexact H2
  isplitl [H3]
  · iexists X3
    isplitr
    · ipureintro; rfl
    iexact H3
  isplitl [H4]
  · iexists X4
    isplitr
    · ipureintro; rfl
    iexact H4
  isplitl [H5]
  · iexists X5
    isplitr
    · ipureintro; rfl
    iexact H5
  isplitr [H9]
  · iexists _, _, _
    isplitr
    · ipureintro; exact hP n r f9 es dq f7 f8 h1 h2 h3 h4
    isplitl [H6]
    · iexists (arg6.view.writes (Elt F) f6 (dqPieces dq))
      isplitr
      · ipureintro; rfl
      iexact H6
    isplitl [H7]
    · iexists f7
      isplitr
      · ipureintro; rfl
      iexact H7
    iexists f8
    isplitr
    · ipureintro; rfl
    iexact H8
  · iexists f9; iexact H9

set_option synthInstance.maxHeartbeats 0 in
/-- One point of the grid, whichever it is. `R` relates the blocks of the keys' and values' gradients before and after. -/
theorem body_leaves (E : Set ℕ) (X2 X3 X4 X5 f6 f7 f8 f9) (x2 x3 x4 x5)
    (h2 : arg2.view.read (Elt F) X2 = x2) (h3 : arg3.view.read (Elt F) X3 = x3) (h4 : arg4.view.read (Elt F) X4 = x4) (h5 : arg5.view.read (Elt F) X5 = x5)
    (I : ℕ → (Fin 8 → FVec F S128x1 .f32) → BufTy.Contents (Elt F) arg9.view.ty → Prop)
    (J : ℕ → BufTy.Contents (Elt F) arg9.view.ty → ℕ → (Fin 8 → FVec F S128x1 .f32) → (Fin 8 → FVec F S128x64 .f32) → BufTy.Contents (Elt F) arg7.view.ty → BufTy.Contents (Elt F) arg8.view.ty → Prop)
    (hI : ∀ n r f (hn : n ≤ (i 1).val), goesOn (F := F) i (BitVec.ofNat 32 n) r → I n r f →
      I (n + 1) (nextRun i arg3 (qv arg2 X2) X3 (BitVec.ofNat 32 n) (chk1 hn) r)
        (arg9.view.writes (Elt F) f (runPieces i (BitVec.ofNat 32 n) (chk1 hn) r)))
    (hI0 : ∀ f9, I 0 run0 f9)
    (hJ : ∀ n r f9 (hn : n ≤ (i 1).val + 1), ¬ goesOn (F := F) i (BitVec.ofNat 32 n) r → I n r f9 →
      ∀ (k : Fin (k0_t1_loop i (BitVec.ofNat 32 n)).trips) es dq f7 f8, J n f9 k.val es dq f7 f8 →
      J n f9 (k.val + 1) (newE i arg3 arg4 arg9 (qv arg2 X2) (dov arg5 X5) X3 X4 f9 (BitVec.ofNat 32 n) (chk2 hn) k es)
        (newDq i arg3 arg4 arg9 (qv arg2 X2) (dov arg5 X5) X3 X4 f9 (BitVec.ofNat 32 n) (chk2 hn) k es dq)
        (arg7.view.writes (Elt F) f7 (up7 i arg3 arg4 arg7 arg9 (qv arg2 X2) (dov arg5 X5) X3 X4 f9 (BitVec.ofNat 32 n) (chk2 hn) k es f7 8))
        (arg8.view.writes (Elt F) f8 (up8 i arg3 arg8 arg9 (qv arg2 X2) (dov arg5 X5) X3 f9 (BitVec.ofNat 32 n) (chk2 hn) k f8 8)))
    (hJA : (i 1).val = 0 → ∀ n r f9, n ≤ (i 1).val + 1 → ¬ goesOn (F := F) i (BitVec.ofNat 32 n) r → I n r f9 →
      J n f9 0 (fun _ => k0_pay310) (fun _ => k0_pay318) (arg7.view.writes (Elt F) arg7.view.junk [⟨Rect.unit (s := S4096x512) ![0, 0] S4096x512.size inb_S4096x512_S4096x512_0_0, k0_pay290⟩]) (arg8.view.writes (Elt F) arg8.view.junk [⟨Rect.unit (s := S4096x512) ![0, 0] S4096x512.size inb_S4096x512_S4096x512_0_0, k0_pay291⟩]))
    (hJB : (i 1).val ≠ 0 → ∀ n r f9, n ≤ (i 1).val + 1 → ¬ goesOn (F := F) i (BitVec.ofNat 32 n) r → I n r f9 →
      J n f9 0 (fun _ => k0_pay310) (fun _ => k0_pay318) f7 f8)
    (P : Vec F S128x512 .f32 → Vec F S4096x512 .f32 → Vec F S4096x512 .f32 → Prop)
    (hP : ∀ n r f9 es dq f7 f8, n ≤ (i 1).val + 1 → ¬ goesOn (F := F) i (BitVec.ofNat 32 n) r → I n r f9 → J n f9 n es dq f7 f8 →
      P (arg6.view.read (Elt F) (arg6.view.writes (Elt F) f6 (dqPieces dq))) (arg7.view.read (Elt F) f7) (arg8.view.read (Elt F) f8)) :
    (iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)) : sProp 𝕄G)
    ⊢ wp frame (wpE (defs₀ (F := F)) Variants.nat (c : Thread nD τ) none) E
      (cc0_sb_bwd (F := F) i arg2 harg2 arg3 harg3 arg4 harg4 arg5 harg5 arg6 harg6 arg7 harg7 arg8 harg8 arg9 harg9)
      (fun _ => leaves c arg2 arg3 arg4 arg5 arg6 arg7 arg8 arg9 x2 x3 x4 x5 P) := by
  subst h2 h3 h4 h5
  by_cases h0 : (i 1).val = 0
  · exact (body_first c i arg2 harg2 arg3 harg3 arg4 harg4 arg5 harg5 arg6 harg6 arg7 harg7 arg8 harg8 arg9 harg9 E X2 X3 X4 X5 f6 f7 f8 f9 I J hI (hI0 f9) hJ h0 (hJA h0)).trans
      (wp_mono _ _ _ fun _ => left_leaves c i arg2 arg3 arg4 arg5 arg6 arg7 arg8 arg9 X2 X3 X4 X5 f6 I J P hP)
  · exact (body_next c i arg2 harg2 arg3 harg3 arg4 harg4 arg5 harg5 arg6 harg6 arg7 harg7 arg8 harg8 arg9 harg9 E X2 X3 X4 X5 f6 f7 f8 f9 I J hI (hI0 f9) hJ h0 (hJB h0)).trans
      (wp_mono _ _ _ fun _ => left_leaves c i arg2 arg3 arg4 arg5 arg6 arg7 arg8 arg9 X2 X3 X4 X5 f6 I J P hP)

end Cert.Kernel3Ideal.Sb
-- ==== Proof.SbFrame.lean ====
module

public import Idealize.ShloMosaic.Lib.Claim
public import Idealize.ShloMosaic.Lib.Pipeline.FrameBody
public import Idealize.ShloMosaic.Lib.Pipeline.TableIdle
public import Idealize.ShloMosaic.Lib.Ring
public import proofs.«01_k».proof.Proof.Gen.Kernel3Ideal.Launch
public import proofs.«01_k».proof.Proof.Gen.Kernel3Ideal.Points
public import proofs.«01_k».proof.Proof.SbOwns

@[expose] public section

set_option maxRecDepth 8192
set_option maxHeartbeats 4000000

noncomputable section

namespace Cert.Kernel3Ideal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen
open Idealize.ShloMosaic.Rounds
open Idealize.ShloMosaic.Pipeline (Dat Cfg Window BodyObligation BodyObligationLoose)

variable {F : FTy → Type} [FloatOps F] [Named F]

/-- The resource algebra of the pipeline's runs. -/
local notation "𝕄G" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => main_chain c)

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data where nothing is said of the outputs: the inputs stay at their blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

/-- The outputs, of which nothing is said. -/
def fgt : Fin (cfg0 (F := F)).W → Bool := ![false, false, false, false, true, true, true]

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem before0_0 (c : Dev nD) (t : Fin (cfg0 (F := F)).N) (d) : (dats m 0 c).before 0 t d = iblk m c 0 t :=
  before0_0_of m (dats m 0 c) (A_eq m c 0) (fun _ => by dsimp only [dats]; rfl) t d
theorem before0_1 (c : Dev nD) (t : Fin (cfg0 (F := F)).N) (d) : (dats m 0 c).before 1 t d = iblk m c 1 t :=
  before0_1_of m (dats m 0 c) (A_eq m c 1) (fun _ => by dsimp only [dats]; rfl) t d
theorem before0_2 (c : Dev nD) (t : Fin (cfg0 (F := F)).N) (d) : (dats m 0 c).before 2 t d = iblk m c 2 t :=
  before0_2_of m (dats m 0 c) (A_eq m c 2) (fun _ => by dsimp only [dats]; rfl) t d
theorem before0_3 (c : Dev nD) (t : Fin (cfg0 (F := F)).N) (d) : (dats m 0 c).before 3 t d = iblk m c 3 t :=
  before0_3_of m (dats m 0 c) (A_eq m c 3) (fun _ => by dsimp only [dats]; rfl) t d

/-- What the body holds at point `t`: the inputs' buffers at their blocks, the outputs' and the scratch at anything. -/
def held (c : Dev nD) (t : Fin (cfg0 (F := F)).N) : sProp 𝕄G :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ X, owns (c : Thread nD τ) (st0_4 t) fullShare X)
    ∗ (∃ X, owns (c : Thread nD τ) (st0_5 t) fullShare X)
    ∗ (∃ X, owns (c : Thread nD τ) (st0_6 t) fullShare X))

theorem scratch_eq (c : Dev nD) (f : Buf (Elt F) ((c : Thread nD τ).loc cc0_scratch0)) :
    ((Memref.whole cc0_scratch0).view.loc (c : Thread nD τ) ↦[(Memref.whole cc0_scratch0).view.set]{fullShare} f : sProp 𝕄G)
      = ((c : Thread nD τ).loc cc0_scratch0 ↦{fullShare} f) := by
  have h : (Memref.whole cc0_scratch0).view.set = Finset.univ := View.set_whole cc0_scratch0
  rw [h]

theorem scratch_held (c : Dev nD) (f : Buf (Elt F) ((c : Thread nD τ).loc cc0_scratch0)) :
    ((c : Thread nD τ).loc cc0_scratch0 ↦{fullShare} f : sProp 𝕄G)
      ⊢ ((Memref.whole cc0_scratch0).view.loc (c : Thread nD τ) ↦[(Memref.whole cc0_scratch0).view.set]{fullShare} f) := by
  rw [scratch_eq]

theorem held_scratch (c : Dev nD) (f : Buf (Elt F) ((c : Thread nD τ).loc cc0_scratch0)) :
    ((Memref.whole cc0_scratch0).view.loc (c : Thread nD τ) ↦[(Memref.whole cc0_scratch0).view.set]{fullShare} f : sProp 𝕄G)
      ⊢ ((c : Thread nD τ).loc cc0_scratch0 ↦{fullShare} f) := by
  rw [scratch_eq]

theorem sound_body (c : Dev nD) (t : Fin (cfg0 (F := F)).N) :
    held m c t ⊢ wp frame (wpE (defs₀ (F := F)) Variants.nat c none) Set.univ (bodyAt0 t) (fun _ => held m c t) := by
  unfold held Pipeline.ΦA
  rw [scopedRest0_eq]
  unfold owns
  iintro ⟨⟨⟨%f9, H9⟩, Hg⟩, Ho, ⟨%X2, %h2, H2⟩, ⟨%X3, %h3, H3⟩, ⟨%X4, %h4, H4⟩, ⟨%X5, %h5, H5⟩, ⟨%Y6, %f6, %h6, H6⟩, ⟨%Y7, %f7, %h7, H7⟩, ⟨%Y8, %f8, %h8, H8⟩⟩
  have key := body_leaves (F := F) c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (Memref.whole cc0_scratch0) (Memref.isWhole_whole _) Set.univ X2 X3 X4 X5 f6 f7 f8 f9 _ _ _ _ h2 h3 h4 h5
    (fun _ _ _ => True) (fun _ _ _ _ _ _ _ => True) (fun _ _ _ _ _ _ => trivial) (fun _ => trivial) (fun _ _ _ _ _ _ _ _ _ _ _ _ => trivial)
    (fun _ _ _ _ _ _ _ => trivial) (fun _ _ _ _ _ _ _ => trivial) (fun _ _ _ => True) (fun _ _ _ _ _ _ _ _ _ _ _ => trivial)
  iapply (wp_wand_r Idealize.ShloMosaic.frame (wpE (defs₀ (F := F)) Variants.nat (c : Thread nD τ) none) Set.univ)
  isplitl [H2 H3 H4 H5 H6 H7 H8 H9]
  · iapply key
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (scratch_held c f9)
    iexact H9
  · iintro %x Hx
    unfold leaves owns
    icases Hx with ⟨H2, H3, H4, H5, ⟨%y6, %y7, %y8, -, H6, H7, H8⟩, ⟨%g9, H9⟩⟩
    isplitl [H9 Hg]
    · isplitl [H9]
      · iexists g9
        iapply (held_scratch c g9)
        iexact H9
      iexact Hg
    isplitl [Ho]; · iexact Ho
    isplitl [H2]; · iexact H2
    isplitl [H3]; · iexact H3
    isplitl [H4]; · iexact H4
    isplitl [H5]; · iexact H5
    isplitl [H6]; · iexists y6; iexact H6
    isplitl [H7]; · iexists y7; iexact H7
    iexists y8; iexact H8

theorem body_obligation (c : Dev nD) : BodyObligationLoose (dats (F := F) m 0 c) (defs₀ (F := F)) Variants.nat () Set.univ fgt := fun t => by
  rw [bigSep_W0, bigSep_W0, defs₀_row]
  change iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X)) ⊢ _
  refine BIBase.Entails.trans ?_ ((sound_body m c t).trans (wp_mono _ _ _ fun _ => ?_))
  · unfold held
    iintro ⟨HA, Ho, ⟨%d0, H0⟩, ⟨%d1, H1⟩, ⟨%d2, H2⟩, ⟨%d3, H3⟩, H4, H5, H6⟩
    rw [before0_0, before0_1, before0_2, before0_3]
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · exact .rfl

set_option backward.isDefEq.respectTransparency.types false in
/-- The run, with nothing said of the outputs. -/
theorem run_main : θ_run defs (onTc (τ := τ) (main (F := F))) (s₀ m ρ)
    (fun r => Pipeline.RDat.FramePost (cfgs (F := F) 0) (fun c => (dats m 0 c).toRForget fgt) (V m) r ∧ r.2.sem = fun _ => 0) :=
  Pipeline.θ_run_frame_track_forget_shared (Q' := _) cfgs (dats m) (0 : Fin 1) launch₀0 defs₀ Variants.nat fgt m ρ main
    (hbody := body_obligation m) (hq := fun _ _ _ => rfl) (howed := fun _ _ => rfl) (V := V m) (hmain := hmain m Variants.nat) (hA := A_eq m)
    (hin := fun _ => .rfl) (hout := fun _ => .rfl)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨h.1.arr_in c 0 rfl, h.1.arr_in c 3 rfl⟩, h.2⟩) (run_main m ρ)

end Cert.Kernel3Ideal.Sb
-- ==== Proof.SbReal.lean ====
module

public import proofs.«01_k».proof.Proof.Reals

/-!
# Stick-breaking attention and its gradient over the reals

Queries, keys and values are columns of one array `p`, the cotangent is `g`; rows and columns are natural numbers. Query
`i` attends to the keys `c < i`: with the score `z`, key `c` takes the part `σ(z)` of what the keys between `c` and `i`
leave, and these leave the product of their `1 - σ`. The gradient of the scores is
`e · (1 - σ) - σ · (the sum of e over the keys before)`, where `e` is the weight times its cotangent.
The second part holds what a block of 128 queries by 128 keys contributes to these sums.
-/

@[expose] public section

noncomputable section

namespace Cert.Proof.Sb

open Finset

/-- `log (1 + exp x)`, in the form that does not overflow. -/
def sp (x : ℝ) : ℝ := max x 0 + Real.log (1 + Real.exp (-|x|))

theorem exp_sp (x : ℝ) : Real.exp (sp x) = 1 + Real.exp x := by
  have hp : 0 < 1 + Real.exp (-|x|) := by positivity
  rw [sp, Real.exp_add, Real.exp_log hp]
  rcases le_total 0 x with h | h
  · rw [max_eq_left h, abs_of_nonneg h, mul_add, mul_one, ← Real.exp_add, add_neg_cancel, Real.exp_zero, add_comm]
  · rw [max_eq_right h, abs_of_nonpos h, neg_neg, Real.exp_zero, one_mul]

/-- The logarithm of the gate, and of its complement. -/
def ls (x : ℝ) : ℝ := min x 0 - Real.log (1 + Real.exp (-|x|))
def lk (x : ℝ) : ℝ := -max x 0 - Real.log (1 + Real.exp (-|x|))

theorem lk_eq (x : ℝ) : lk x = -sp x := by rw [lk, sp]; ring
theorem ls_eq (x : ℝ) : ls x = -sp (-x) := by
  rw [ls, sp, abs_neg]
  rcases le_total 0 x with h | h
  · rw [min_eq_right h, max_eq_right (by linarith)]; ring
  · rw [min_eq_left h, max_eq_left (by linarith)]; ring

theorem exp_ls (x : ℝ) : Real.exp (ls x) = (1 + Real.exp (-x))⁻¹ := by rw [ls_eq, Real.exp_neg, exp_sp]

/-- What differentiating `log_sigmoid` at `x` leaves, written as the exponential of a difference. -/
theorem exp_sub_sp_neg (x : ℝ) : Real.exp (-x - sp (-x)) = 1 - Real.exp (ls x) := by
  have hp : (1 + Real.exp (-x)) ≠ 0 := by positivity
  rw [exp_ls, sub_eq_add_neg, Real.exp_add, Real.exp_neg (sp (-x)), exp_sp]
  field_simp
  ring

/-- The same for `log_sigmoid` at `-x`. -/
theorem exp_sub_sp (x : ℝ) : Real.exp (x - sp x) = Real.exp (ls x) := by
  have hp : (1 + Real.exp x) ≠ 0 := by positivity
  have hq : (1 + Real.exp (-x)) ≠ 0 := by positivity
  rw [exp_ls, sub_eq_add_neg, Real.exp_add, Real.exp_neg (sp x), exp_sp]
  have h : Real.exp x * Real.exp (-x) = 1 := by rw [← Real.exp_add, add_neg_cancel, Real.exp_zero]
  field_simp
  linear_combination h

section Model

variable (p g : ℕ → ℕ → ℝ) (h : ℕ)

/-- The score of query `i` and key `c` in head `h`. -/
def zz (i c : ℕ) : ℝ := (∑ d ∈ range 64, p i (512 + 64 * h + d) * p c (1024 + 64 * h + d)) * (1 / 8)

/-- What key `c` leaves of query `i`'s stick, as a logarithm. -/
def keep (i c : ℕ) : ℝ := if c < i then lk (zz p h i c) else 0

/-- The weights. -/
def wt (i c : ℕ) : ℝ := if c < i then Real.exp (ls (zz p h i c) + ∑ c' ∈ Ico (c + 1) 4096, keep p h i c') else 0

/-- The weights times their cotangent. -/
def ee (i c : ℕ) : ℝ := wt p h i c * ∑ d ∈ range 64, g i (64 * h + d) * p c (1536 + 64 * h + d)

/-- The cotangent of the scores before the scaling. -/
def dz (i c : ℕ) : ℝ :=
  (if c < i then ee p g h i c * (1 - Real.exp (ls (zz p h i c))) - Real.exp (ls (zz p h i c)) * ∑ c' ∈ range c, ee p g h i c'
    else 0) * (1 / 8)

/-- The gradients of the queries, the keys and the values. -/
def gq (i d : ℕ) : ℝ := ∑ c ∈ range 4096, dz p g h i c * p c (1024 + 64 * h + d)
def gk (c d : ℕ) : ℝ := ∑ i ∈ range 4096, dz p g h i c * p i (512 + 64 * h + d)
def gv (c d : ℕ) : ℝ := ∑ i ∈ range 4096, wt p h i c * g i (64 * h + d)

theorem keep_zero {i c : ℕ} (hc : i ≤ c) : keep p h i c = 0 := if_neg (not_lt.2 hc)
theorem wt_zero {i c : ℕ} (hc : i ≤ c) : wt p h i c = 0 := if_neg (not_lt.2 hc)
theorem dz_zero {i c : ℕ} (hc : i ≤ c) : dz p g h i c = 0 := by rw [dz, if_neg (not_lt.2 hc), zero_mul]

/-! ## Blocks -/

/-- A sum over a block's places below `b` is a sum over a range. -/
theorem sum_below (f : ℕ → ℝ) (o : ℕ) (b : ℕ) (hb : b ≤ 128) :
    ∑ x : Fin 128, f (o + x.val) * (if x.val < b then 1 else 0) = ∑ c ∈ Ico o (o + b), f c := by
  rw [Fin.sum_univ_eq_sum_range (fun x => f (o + x) * (if x < b then 1 else 0)) 128, sum_Ico_eq_sum_range,
    Nat.add_sub_cancel_left]
  rw [← sum_subset (s₁ := range b) (fun x hx => by simp only [mem_range] at *; omega)
    (fun x _ hx => by rw [if_neg (by simpa using hx), mul_zero])]
  exact sum_congr rfl fun x hx => by rw [if_pos (by simpa using hx), mul_one]

theorem sum_above (f : ℕ → ℝ) (o : ℕ) (b : ℕ) (hb : b < 128) :
    ∑ x : Fin 128, f (o + x.val) * (if b < x.val then 1 else 0) = ∑ c ∈ Ico (o + b + 1) (o + 128), f c := by
  rw [Fin.sum_univ_eq_sum_range (fun x => f (o + x) * (if b < x then 1 else 0)) 128, sum_Ico_eq_sum_range,
    ← sum_subset (s₁ := Ico (b + 1) 128) (fun x hx => by simp only [mem_range, mem_Ico] at *; omega)
    (fun x hx hx' => by rw [if_neg (by simp only [mem_range, mem_Ico] at *; omega), mul_zero]), sum_Ico_eq_sum_range]
  have e : o + 128 - (o + b + 1) = 128 - (b + 1) := by omega
  rw [e]
  exact sum_congr rfl fun x hx => by rw [if_pos (by omega), mul_one]; congr 1; omega

theorem sum_block (f : ℕ → ℝ) (o : ℕ) : ∑ x : Fin 128, f (o + x.val) = ∑ c ∈ Ico o (o + 128), f c := by
  rw [Fin.sum_univ_eq_sum_range (fun x => f (o + x)) 128, sum_Ico_eq_sum_range, Nat.add_sub_cancel_left]

theorem range_add (f : ℕ → ℝ) (a b : ℕ) : ∑ c ∈ range a, f c + ∑ c ∈ Ico a (a + b), f c = ∑ c ∈ range (a + b), f c := by
  rw [range_eq_Ico, sum_Ico_consecutive f (Nat.zero_le _) (Nat.le_add_right a b), range_eq_Ico]

/-- The later keys: those of the block, and the later blocks up to the queries' own. -/
theorem later_eq {q k a b : ℕ} (hq : q < 32) (hk : k ≤ q) (ha : a < 128) (hb : b < 128) :
    ∑ x : Fin 128, keep p h (128 * q + a) (128 * k + x.val) * (if b < x.val then 1 else 0)
      + ∑ c ∈ Ico (128 * (k + 1)) (128 * (q + 1)), keep p h (128 * q + a) c
      = ∑ c ∈ Ico (128 * k + b + 1) 4096, keep p h (128 * q + a) c := by
  rw [sum_above _ _ _ hb, show 128 * k + 128 = 128 * (k + 1) by ring,
    sum_Ico_consecutive _ (by omega) (by omega),
    ← sum_Ico_consecutive (fun c => keep p h (128 * q + a) c) (show 128 * k + b + 1 ≤ 128 * (q + 1) by omega)
      (show 128 * (q + 1) ≤ 4096 by omega),
    sum_eq_zero (s := Ico (128 * (q + 1)) 4096) (fun c hc => keep_zero p h (by simp only [mem_Ico] at hc; omega)), add_zero]

/-- The walk's next running sum. -/
theorem run_eq {q k a : ℕ} (hk : k ≤ q) :
    ∑ c ∈ Ico (128 * (k + 1)) (128 * (q + 1)), keep p h (128 * q + a) c + ∑ x : Fin 128, keep p h (128 * q + a) (128 * k + x.val)
      = ∑ c ∈ Ico (128 * k) (128 * (q + 1)), keep p h (128 * q + a) c := by
  rw [sum_block, show 128 * k + 128 = 128 * (k + 1) by ring, add_comm, sum_Ico_consecutive _ (by omega) (by omega)]

/-- The sum of `f` over the keys before place `b` of block `k`. -/
theorem before_eq (f : ℕ → ℝ) (k : ℕ) {b : ℕ} (hb : b < 128) :
    ∑ x : Fin 128, f (128 * k + x.val) * (if x.val < b then 1 else 0) + ∑ c ∈ range (128 * k), f c = ∑ c ∈ range (128 * k + b), f c := by
  rw [sum_below _ _ _ hb.le, add_comm, range_add]

/-- The sum carried over block `k`. -/
theorem carry_eq (f : ℕ → ℝ) (k : ℕ) : ∑ c ∈ range (128 * k), f c + ∑ x : Fin 128, f (128 * k + x.val) = ∑ c ∈ range (128 * (k + 1)), f c := by
  rw [sum_block, range_add, Nat.mul_succ]

theorem carry_last (f : ℕ → ℝ) (k : ℕ) : ∑ c ∈ range (128 * k + 127), f c + f (128 * k + 127) = ∑ c ∈ range (128 * (k + 1)), f c := by
  rw [← sum_range_succ, Nat.mul_succ]

/-- The keys from the queries' own on count for nothing. -/
theorem gq_eq {q a : ℕ} (hq : q < 32) (ha : a < 128) (d : ℕ) :
    ∑ c ∈ range (128 * (q + 1)), dz p g h (128 * q + a) c * p c (1024 + 64 * h + d) = gq p g h (128 * q + a) d := by
  refine sum_subset (fun x hx => ?_) fun x hx hx' => ?_
  · simp only [mem_range] at *; omega
  · rw [dz_zero p g h (by simp only [mem_range] at *; omega), zero_mul]

end Model

end Cert.Proof.Sb

end
-- ==== Proof.SbPay.lean ====
module

public import proofs.«01_k».proof.Proof.SbReal
public import proofs.«01_k».proof.Proof.SbTrip
public import Idealize.ShloMosaic.Lib.Pointwise
public import Idealize.ShloMosaic.Lib.WordCmp

/-!
# The attention's gradient: the blocks' arithmetic over the reals

Every value the body computes on a block, at finite operands, as a matrix of real numbers.
-/

@[expose] public section

set_option maxRecDepth 8192
set_option maxHeartbeats 4000000

noncomputable section

namespace Cert.Kernel3Ideal.Sb

open Idealize.ShloMosaic Cert.Kernel3Ideal.Gen Cert.Proof.Reals Cert.Proof.Sb

/-- A matrix of real numbers. -/
def mat {n m : ℕ} (f : ℕ → ℕ → ℝ) : (⟨2, ![n, m]⟩ : Shape).Idx → EReal := fun j => ((f (j 0).val (j 1).val : ℝ) : EReal)

theorem mat_ix2 {n m : ℕ} (f : ℕ → ℕ → ℝ) (a : Fin n) (b : Fin m) : mat f (ix2 a b) = ((f a.val b.val : ℝ) : EReal) := rfl

/-- Which entries of a block are kept. -/
def Masks (M : IVec S128x128 1) (R : ℕ → ℕ → Prop) [∀ a b, Decidable (R a b)] : Prop :=
  ∀ a b : Fin 128, M (ix2 a b) = if R a.val b.val then 1#1 else 0#1

theorem bits_eighth : Ideal.ofBits .f32 0x3E000000#32 = ((1 / 8 : ℝ) : EReal) := by
  simp [Ideal.ofBits, Ideal.ieee, -EReal.coe_mul]; norm_num

theorem max_real (x y : ℝ) : max (x : EReal) (y : EReal) = ((max x y : ℝ) : EReal) :=
  ((EReal.coe_strictMono.monotone.map_max) : ((max x y : ℝ) : EReal) = max (x : EReal) (y : EReal)).symm

theorem min_real (x y : ℝ) : min (x : EReal) (y : EReal) = ((min x y : ℝ) : EReal) :=
  ((EReal.coe_strictMono.monotone.map_min) : ((min x y : ℝ) : EReal) = min (x : EReal) (y : EReal)).symm

theorem abs_real (x : ℝ) : FloatOps.absf (F := Ideal) (φ := .f32) (x : EReal) = ((|x| : ℝ) : EReal) := by
  change max (x : EReal) (-(x : EReal)) = _
  rw [← EReal.coe_neg, max_real]; rfl

theorem log_one_add (y : ℝ) (hy : 0 < y) : Ideal.log (((1 + y : ℝ)) : EReal) = ((Real.log (1 + y) : ℝ) : EReal) :=
  by rw [Ideal.log_coe, if_neg (by linarith)]

variable (A B : ℕ → ℕ → ℝ)

/-- The scores of a block. -/
def zB (a b : ℕ) : ℝ := (∑ d ∈ Finset.range 64, A a d * B b d) * (1 / 8)

/-- The logarithm both gates share. -/
def tB (a b : ℕ) : ℝ := Real.log (1 + Real.exp (-|zB A B a b|))

theorem pay25 : k0_pay25 (F := Ideal) (mat A) (mat B) = mat (zB A B) := by
  funext j
  idx_vars j
  unfold k0_pay25
  pointwise
  simp only [mat_ix2, bits_eighth, ← EReal.coe_mul, sum_univ_coe, bits_zero, ← EReal.coe_add, zero_add]
  unfold zB
  rw [Finset.sum_range]

theorem pay26 : k0_pay26 (F := Ideal) (mat A) (mat B) = mat (tB A B) := by
  funext j
  idx_vars j
  unfold k0_pay26
  rw [pay25]
  pointwise
  simp only [mat_ix2, bits_one, bits_zero, abs_real, ← EReal.coe_zero, ← EReal.coe_one, ← EReal.coe_sub, Ideal.exp_coe,
    ← EReal.coe_add, zero_sub, log_one_add _ (Real.exp_pos _)]
  rfl

theorem pay27 : k0_pay27 (F := Ideal) (mat A) (mat B) = mat fun a b => ls (zB A B a b) := by
  funext j
  idx_vars j
  unfold k0_pay27
  rw [pay25, pay26]
  pointwise
  simp only [mat_ix2, bits_zero, ← EReal.coe_zero, min_real, ← EReal.coe_sub]
  rfl

theorem pay28 : k0_pay28 (F := Ideal) (mat A) (mat B) = mat fun a b => max (zB A B a b) 0 := by
  funext j
  idx_vars j
  unfold k0_pay28
  rw [pay25]
  pointwise
  simp only [mat_ix2, bits_zero, ← EReal.coe_zero, max_real]

section Masked

variable (M : IVec S128x128 1) (R : ℕ → ℕ → Prop) [∀ a b, Decidable (R a b)] (hM : Masks M R)

include hM

theorem pay29 : k0_pay29 (F := Ideal) M (mat (tB A B)) (mat fun a b => max (zB A B a b) 0)
    = mat fun a b => if R a b then lk (zB A B a b) else 0 := by
  funext j
  idx_vars j
  unfold k0_pay29
  pointwise
  simp only [mat_ix2, bits_zero, hM j0 j1, ← EReal.coe_zero, ← EReal.coe_sub]
  by_cases h : R j0.val j1.val
  · simp only [h, if_true, Scalar.select, zero_sub]
    rfl
  · simp [h, Scalar.select]

theorem pay68 (L S : ℕ → ℕ → ℝ) : k0_pay68 (F := Ideal) M (mat L) (mat S) = mat fun a b => if R a b then Real.exp (L a b + S a b) else 0 := by
  funext j
  idx_vars j
  unfold k0_pay68
  pointwise
  simp only [mat_ix2, bits_zero, hM j0 j1, ← EReal.coe_zero, ← EReal.coe_add, Ideal.exp_coe]
  by_cases h : R j0.val j1.val <;> simp [h, Scalar.select]

theorem pay101 (L E S : ℕ → ℕ → ℝ) : k0_pay101 (F := Ideal) M (mat L) (mat E) (mat S)
    = mat fun a b => (if R a b then E a b * (1 - Real.exp (L a b)) - Real.exp (L a b) * S a b else 0) * (1 / 8) := by
  funext j
  idx_vars j
  unfold k0_pay101
  pointwise
  simp only [mat_ix2, bits_zero, bits_one, bits_eighth, hM j0 j1, ← EReal.coe_zero, ← EReal.coe_one, ← EReal.coe_sub, Ideal.exp_coe,
    ← EReal.coe_mul]
  by_cases h : R j0.val j1.val
  · simp only [h, if_true, Scalar.select]
    rfl
  · simp [h, Scalar.select]

end Masked

theorem pay300 (a b : Fin 128) : (k0_pay300 (F := Ideal)) (ix2 a b) = (((if b.val < a.val then 1 else 0 : ℝ)) : EReal) := by
  unfold k0_pay300
  pointwise
  rw [WordCmp.cmpi_sgt_ofNat (by omega) (by omega)]
  by_cases h : b.val < a.val
  · simp only [h, decide_true, if_true]
    exact congrArg (fun z : ℤ => ((z : ℝ) : EReal)) (show (BitVec.setWidth 32 (BitVec.ofBool true)).toInt = 1 by decide) |>.trans (by simp)
  · simp only [h, decide_false, if_false]
    exact congrArg (fun z : ℤ => ((z : ℝ) : EReal)) (show (BitVec.setWidth 32 (BitVec.ofBool false)).toInt = 0 by decide) |>.trans (by simp)

theorem pay301 (a b : Fin 128) : (k0_pay301 (F := Ideal)) (ix2 a b) = (((if a.val < b.val then 1 else 0 : ℝ)) : EReal) := by
  unfold k0_pay301
  pointwise
  rw [WordCmp.cmpi_slt_ofNat (by omega) (by omega)]
  by_cases h : a.val < b.val
  · simp only [h, decide_true, if_true]
    exact congrArg (fun z : ℤ => ((z : ℝ) : EReal)) (show (BitVec.setWidth 32 (BitVec.ofBool true)).toInt = 1 by decide) |>.trans (by simp)
  · simp only [h, decide_false, if_false]
    exact congrArg (fun z : ℤ => ((z : ℝ) : EReal)) (show (BitVec.setWidth 32 (BitVec.ofBool false)).toInt = 0 by decide) |>.trans (by simp)

theorem pay59 (L r : ℕ → ℕ → ℝ) : k0_pay59 (F := Ideal) k0_pay300 (mat L) (mat r)
    = mat fun a b => ∑ x : Fin 128, L a x.val * (if b < x.val then 1 else 0) + r a 0 := by
  funext j
  idx_vars j
  unfold k0_pay59
  pointwise
  simp only [mat_ix2, bits_zero, pay300, ← EReal.coe_mul, sum_univ_coe, ← EReal.coe_zero, ← EReal.coe_add, ← EReal.coe_sub, sub_self, zero_mul, Finset.sum_const_zero, zero_add, add_zero]
  rfl

theorem pay76 : k0_pay76 (F := Ideal) (mat A) (mat B) = mat fun a b => ∑ d ∈ Finset.range 64, A a d * B b d := by
  funext j
  idx_vars j
  unfold k0_pay76
  pointwise
  simp only [mat_ix2, ← EReal.coe_mul, sum_univ_coe, bits_zero, ← EReal.coe_add, zero_add]
  rw [Finset.sum_range]

theorem pay77 : k0_pay77 (F := Ideal) (mat A) (mat B) = mat fun a b => A a b * B a b := by
  funext j
  idx_vars j
  unfold k0_pay77
  pointwise
  simp only [mat_ix2, ← EReal.coe_mul]

theorem pay85 (r : ℕ → ℕ → ℝ) : k0_pay85 (F := Ideal) k0_pay301 (mat r) (mat A) (mat B)
    = mat fun a b => ∑ x : Fin 128, (A a x.val * B a x.val) * (if x.val < b then 1 else 0) + r a 0 := by
  funext j
  idx_vars j
  unfold k0_pay85
  rw [pay77]
  pointwise
  simp only [mat_ix2, bits_zero, pay301, ← EReal.coe_mul, sum_univ_coe, ← EReal.coe_zero, ← EReal.coe_add, ← EReal.coe_sub, sub_self, zero_mul, Finset.sum_const_zero, zero_add, add_zero]
  rfl

theorem pay111 (Q : ℕ → ℕ → ℝ) : k0_pay111 (F := Ideal) (mat Q) (mat B) (mat A) = mat fun a d => Q a d + ∑ x : Fin 128, A a x.val * B x.val d := by
  funext j
  idx_vars j
  unfold k0_pay111
  pointwise
  simp only [mat_ix2, ← EReal.coe_mul, sum_univ_coe, bits_zero, ← EReal.coe_zero, ← EReal.coe_add, zero_add]

theorem pay119 : k0_pay119 (F := Ideal) (mat B) (mat A) = mat fun b d => ∑ x : Fin 128, A x.val b * B x.val d := by
  funext j
  idx_vars j
  unfold k0_pay119
  pointwise
  simp only [mat_ix2, ← EReal.coe_mul, sum_univ_coe, bits_zero, ← EReal.coe_zero, ← EReal.coe_add, zero_add]

theorem pay127 : k0_pay127 (F := Ideal) (mat B) (mat A) = mat fun b d => ∑ x : Fin 128, A x.val b * B x.val d := by
  funext j
  idx_vars j
  unfold k0_pay127
  pointwise
  simp only [mat_ix2, ← EReal.coe_mul, sum_univ_coe, bits_zero, ← EReal.coe_zero, ← EReal.coe_add, zero_add]

theorem pay136 : k0_pay136 (F := Ideal) (mat A) (mat B) = mat fun a b => B a b + A a b := by
  funext j
  idx_vars j
  unfold k0_pay136
  pointwise
  simp only [mat_ix2, ← EReal.coe_add]

theorem pay137 : k0_pay137 (F := Ideal) (mat A) (mat B) = mat fun a b => B a b + A a b := by
  funext j
  idx_vars j
  unfold k0_pay137
  pointwise
  simp only [mat_ix2, ← EReal.coe_add]

theorem pay152 : k0_pay152 (F := Ideal) (mat A) (mat B) = mat fun a _ => B a 127 + A a 127 := by
  funext j
  idx_vars j
  unfold k0_pay152
  pointwise
  simp only [mat_ix2, ← EReal.coe_add]
  rfl

theorem pay16 : k0_pay16 (F := Ideal) (mat A) (mat B) = mat fun a b => A a b + ∑ x : Fin 128, B a x.val := by
  funext j
  idx_vars j
  unfold k0_pay16
  pointwise
  simp only [mat_ix2, ← EReal.coe_mul, sum_univ_coe, bits_zero, ← EReal.coe_zero, ← EReal.coe_add, zero_add]

theorem pay14 : k0_pay14 (F := Ideal) (mat A) = mat A := by
  funext j
  idx_vars j
  unfold k0_pay14
  pointwise

theorem word_block (x b : ℕ) : IntOp.addi (Scalar.muli (BitVec.ofNat 32 x) 128#32) (BitVec.ofNat 32 b) = BitVec.ofNat 32 (128 * x + b) := by
  change BitVec.ofNat 32 x * BitVec.ofNat 32 128 + BitVec.ofNat 32 b = _
  rw [← BitVec.ofNat_mul, ← BitVec.ofNat_add, mul_comm]

theorem word_sub (q k : ℕ) (hq : q < 32) (hk : k ≤ q) : Scalar.subi (BitVec.ofNat 32 q) (BitVec.ofNat 32 (q - k)) = BitVec.ofNat 32 k := by
  change BitVec.ofNat 32 q - BitVec.ofNat 32 (q - k) = _
  apply BitVec.eq_of_toNat_eq
  simp
  omega

theorem cmp_block (q k : ℕ) (hq : q < 32) (hk : k ≤ q) (a b : Fin 128) :
    IntOp.cmpi CmpIPredicate.slt (BitVec.ofNat 32 (128 * k + b.val)) (BitVec.ofNat 32 (128 * q + a.val))
      = if 128 * k + b.val < 128 * q + a.val then 1#1 else 0#1 := by
  rw [WordCmp.cmpi_slt_ofNat (by omega) (by omega)]
  by_cases h : 128 * k + b.val < 128 * q + a.val <;> simp [h]

theorem pay320 (q k : ℕ) (hq : q < 32) (hk : k ≤ q) :
    Masks (k0_pay320 (BitVec.ofNat 32 (q - k)) (BitVec.ofNat 32 q)) fun a b => 128 * k + b < 128 * q + a := by
  intro a b
  unfold k0_pay320
  pointwise
  rw [word_sub q k hq hk, word_block, word_block, cmp_block q k hq hk]

theorem pay321 (q k : ℕ) (hq : q < 32) (hk : k ≤ q) :
    k0_pay321 (F := Ideal) (mat A) (BitVec.ofNat 32 (q - k)) (BitVec.ofNat 32 q) (mat B)
      = mat fun a b => if 128 * k + b < 128 * q + a then lk (zB A B a b) else 0 := by
  rw [← pay29 A B _ _ (pay320 q k hq hk), ← pay28, ← pay26]
  unfold k0_pay26 k0_pay28 k0_pay29 k0_pay25 k0_pay321
  rfl

/-- The walk's test compares a finite number. -/
theorem pay13 (A : Fin 8 → ℕ → ℕ → ℝ) : ⊥ < k0_pay13 (F := Ideal) (mat (A 0)) (mat (A 1)) (mat (A 2)) (mat (A 3)) (mat (A 4)) (mat (A 5)) (mat (A 6))
    (mat (A 7)) := by
  unfold k0_pay13
  pointwise
  simp only [mat_ix2, max_real]
  exact (Finset.lt_fold_max _).2 (.inr ⟨(0, 0), Finset.mem_univ _, EReal.bot_lt_coe _⟩)

end Cert.Kernel3Ideal.Sb
end
-- ==== Proof.SbInv.lean ====
module

public import proofs.«01_k».proof.Proof.SbPay
public import proofs.«01_k».proof.Proof.SbOwns
public import Idealize.ShloMosaic.Lib.WritesUnit
public import Idealize.ShloMosaic.Lib.VecWindow
public import Idealize.ShloMosaic.Lib.Pipeline.ValueKit.Tiles

/-!
# The attention's gradient: what the body keeps

The relations the walk and the second pass keep, over the reals.
-/

@[expose] public section

set_option maxRecDepth 8192
set_option maxHeartbeats 4000000

noncomputable section

namespace Cert.Kernel3Ideal.Sb

open Idealize.ShloMosaic Cert.Kernel3Ideal.Gen Cert.Proof.Reals Cert.Proof.Sb

theorem mat_congr {n m : ℕ} {f g : ℕ → ℕ → ℝ} (h : ∀ a < n, ∀ b < m, f a b = g a b) : (mat f : (⟨2, ![n, m]⟩ : Shape).Idx → EReal) = mat g :=
  funext fun j => congrArg (fun x : ℝ => (x : EReal)) (h _ (j 0).isLt _ (j 1).isLt)

/-! ## Reading and writing rectangles -/

theorem readAt_mat_f32 {κ sp} {n m a b : ℕ} (v : View sig κ sp (⟨2, ![n, m]⟩ : Shape) .f32) (X : v.ty.Contents (Elt Ideal)) {f : ℕ → ℕ → ℝ}
    (hX : v.read (Elt Ideal) X = mat f) {off : Fin 2 → ℕ} {o0 o1 : ℕ} (ho : off = ![o0, o1])
    (inb : ∀ x, off x + (⟨2, ![a, b]⟩ : Shape).size x ≤ (⟨2, ![n, m]⟩ : Shape).size x) :
    (View.readAt (Elt Ideal) v (Rect.unit (s := ⟨2, ![n, m]⟩) off (⟨2, ![a, b]⟩ : Shape).size inb).toLoadRect X : (⟨2, ![a, b]⟩ : Shape).Idx → EReal)
      = mat fun x y => f (o0 + x) (o1 + y) := by
  subst ho
  funext j
  refine (congrFun hX ((Rect.unit (s := ⟨2, ![n, m]⟩) ![o0, o1] (⟨2, ![a, b]⟩ : Shape).size inb).emb j)).trans ?_
  exact congrArg (fun x : ℝ => (x : EReal)) (congrArg₂ f (Rect.idx_unit_val (s := ⟨2, ![n, m]⟩) _ _ inb j 0) (Rect.idx_unit_val (s := ⟨2, ![n, m]⟩) _ _ inb j 1))

theorem readAt_mat_bf16 {σ : RefSig} {κ sp} {n m a b : ℕ} (v : View σ κ sp (⟨2, ![n, m]⟩ : Shape) .bf16) (X : v.ty.Contents (Elt Ideal)) {f : ℕ → ℕ → ℝ}
    (hX : v.read (Elt Ideal) X = mat f) {off : Fin 2 → ℕ} {o0 o1 : ℕ} (ho : off = ![o0, o1])
    (inb : ∀ x, off x + (⟨2, ![a, b]⟩ : Shape).size x ≤ (⟨2, ![n, m]⟩ : Shape).size x) :
    (View.readAt (Elt Ideal) v (Rect.unit (s := ⟨2, ![n, m]⟩) off (⟨2, ![a, b]⟩ : Shape).size inb).toLoadRect X : (⟨2, ![a, b]⟩ : Shape).Idx → EReal)
      = mat fun x y => f (o0 + x) (o1 + y) := by
  subst ho
  funext j
  refine (congrFun hX ((Rect.unit (s := ⟨2, ![n, m]⟩) ![o0, o1] (⟨2, ![a, b]⟩ : Shape).size inb).emb j)).trans ?_
  exact congrArg (fun x : ℝ => (x : EReal)) (congrArg₂ f (Rect.idx_unit_val (s := ⟨2, ![n, m]⟩) _ _ inb j 0) (Rect.idx_unit_val (s := ⟨2, ![n, m]⟩) _ _ inb j 1))

/-- A rectangle written reads what was written, the rest what was there. -/
theorem read_cons_mat {σ : RefSig} {κ sp} {n m a b : ℕ} (v : View σ κ sp (⟨2, ![n, m]⟩ : Shape) .f32) (X : v.ty.Contents (Elt Ideal))
    (L : List (View.Piece (Elt Ideal) (⟨2, ![n, m]⟩ : Shape) .f32)) {off : Fin 2 → ℕ} {o0 o1 : ℕ} (ho : off = ![o0, o1])
    (inb : ∀ x, off x + (⟨2, ![a, b]⟩ : Shape).size x ≤ (⟨2, ![n, m]⟩ : Shape).size x) (w : ℕ → ℕ → ℝ)
    (y : (⟨2, ![n, m]⟩ : Shape).Idx) :
    v.read (Elt Ideal) (v.writes (Elt Ideal) X (⟨Rect.unit (s := ⟨2, ![n, m]⟩) off (⟨2, ![a, b]⟩ : Shape).size inb, mat w⟩ :: L)) y
      = if o0 ≤ (y 0).val ∧ (y 0).val < o0 + a ∧ o1 ≤ (y 1).val ∧ (y 1).val < o1 + b then ((w ((y 0).val - o0) ((y 1).val - o1) : ℝ) : EReal)
        else v.read (Elt Ideal) (v.writes (Elt Ideal) X L) y := by
  split_ifs with h
  · refine (View.read_writes_cons_unit_of_mem v X inb _ L y (ix2 ⟨(y 0).val - o0, by omega⟩ ⟨(y 1).val - o1, by omega⟩) ho fun x => ?_).trans rfl
    fin_cases x
    · change (y 0).val = o0 + ((y 0).val - o0); omega
    · change (y 1).val = o1 + ((y 1).val - o1); omega
  · by_cases h0 : o0 ≤ (y 0).val ∧ (y 0).val < o0 + a
    · exact View.read_writes_cons_unit_of_not_mem v X inb _ L y ho 1 (by change (y 1).val < o1 ∨ o1 + b ≤ (y 1).val; omega)
    · exact View.read_writes_cons_unit_of_not_mem v X inb _ L y ho 0 (by change (y 0).val < o0 ∨ o0 + a ≤ (y 0).val; omega)

/-! ## Accumulating a block row, head by head -/

/-- The sums over the queries so far: those of the earlier blocks, and those of block `q` where it has been added. -/
def acc (T : ℕ → ℕ → ℕ → ℝ) (q k h r c : ℕ) : ℝ :=
  ∑ i ∈ Finset.range (128 * q + if r < 128 * k ∨ (r < 128 * (k + 1) ∧ c < 64 * h) then 128 else 0), T c r i

theorem acc_step {κ sp} (T : ℕ → ℕ → ℕ → ℝ) (q k h : ℕ) (v : View sig κ sp S4096x512 .f32) (X : v.ty.Contents (Elt Ideal))
    (L : List (View.Piece (Elt Ideal) S4096x512 .f32)) (hL : v.read (Elt Ideal) (v.writes (Elt Ideal) X L) = mat (acc T q k h))
    {off : Fin 2 → ℕ} (ho : off = ![128 * k, 64 * h]) (inb : ∀ x, off x + S128x64.size x ≤ S4096x512.size x)
    (w : S128x64.Idx → EReal)
    (hw : w = mat fun b d => acc T q k h (128 * k + b) (64 * h + d) + ∑ x : Fin 128, T (64 * h + d) (128 * k + b) (128 * q + x.val)) :
    v.read (Elt Ideal) (v.writes (Elt Ideal) X (⟨Rect.unit (s := S4096x512) off S128x64.size inb, w⟩ :: L)) = mat (acc T q k (h + 1)) := by
  subst hw
  funext y
  refine (read_cons_mat v X L ho inb _ y).trans ?_
  have hy0 : (y 0).val < 4096 := (y 0).isLt
  split_ifs with hc
  · obtain ⟨h1, h2, h3, h4⟩ := hc
    refine congrArg (fun x : ℝ => (x : EReal)) ?_
    rw [show 128 * k + ((y 0).val - 128 * k) = (y 0).val by omega, show 64 * h + ((y 1).val - 64 * h) = (y 1).val by omega]
    unfold acc
    rw [if_neg (by omega), if_pos (by omega), sum_block (fun i => T (y 1).val (y 0).val i), Nat.add_zero, range_add]
  · rw [hL]
    refine congrArg (fun x : ℝ => (x : EReal)) ?_
    unfold acc
    congr 2
    split_ifs <;> omega

theorem acc_next (T : ℕ → ℕ → ℕ → ℝ) (q k : ℕ) : (mat (acc T q k 8) : S4096x512.Idx → EReal) = mat (acc T q (k + 1) 0) :=
  mat_congr fun r _ c hc => by unfold acc; congr 2; split_ifs <;> omega

/-- What the queries before point `q` leave, and what those up to it leave. -/
theorem acc_first (T : ℕ → ℕ → ℕ → ℝ) (q : ℕ) : (mat (fun r c => ∑ i ∈ Finset.range (128 * q), T c r i) : S4096x512.Idx → EReal) = mat (acc T q 0 0) :=
  mat_congr fun r _ c hc => by unfold acc; rw [if_neg (by omega)]; rfl

theorem acc_last (T : ℕ → ℕ → ℕ → ℝ) (hT : ∀ c r i, i ≤ r → T c r i = 0) (q : ℕ) :
    (mat (acc T q (q + 1) 0) : S4096x512.Idx → EReal) = mat fun r c => ∑ i ∈ Finset.range (128 * (q + 1)), T c r i :=
  mat_congr fun r _ c hc => by
    unfold acc
    by_cases h : r < 128 * (q + 1)
    · rw [if_pos (by omega), Nat.mul_succ]
    · rw [if_neg (by omega), Nat.mul_succ, Nat.add_zero, ← range_add (fun i => T c r i) (128 * q) 128, Finset.sum_eq_zero (s := Finset.Ico _ _), add_zero]
      intro i hi
      simp only [Finset.mem_Ico] at hi
      exact hT _ _ _ (by omega)

end Cert.Kernel3Ideal.Sb
end
-- ==== Proof.SbStep.lean ====
module

public import proofs.«01_k».proof.Proof.SbInv

/-!
# The attention's gradient: every trip keeps the relations

Trip by trip, the walk's and the second pass's relations over the reals.
-/

@[expose] public section

set_option maxRecDepth 8192
set_option maxHeartbeats 4000000

noncomputable section

namespace Cert.Kernel3Ideal.Sb

open Idealize.ShloMosaic Cert.Kernel3Ideal.Gen Cert.Proof.Reals Cert.Proof.Sb
open Finset (Ico range)

/-! ## Where the blocks lie -/

theorem walk_word {q n : ℕ} (hq : q < 32) (hn : n ≤ q) :
    (Scalar.muli (Scalar.subi (BitVec.ofNat 32 q) (BitVec.ofNat 32 n)) 128#32).toNat = 128 * (q - n) := by
  have h := word_sub q (q - n) hq (by omega)
  rw [show q - (q - n) = n by omega] at h
  rw [h]
  exact iv_word ⟨q - n, by omega⟩

theorem kOff_eq {i : grid0.Coords} {n : ℕ} (hn : n ≤ (i 1).val) (h : Fin 8) :
    kOff i (BitVec.ofNat 32 n) h = ![128 * ((i 1).val - n), 64 * h.val] := by
  rw [← walk_word (i 1).isLt hn]
  fin_cases h <;> rfl

theorem pOff_eq {i : grid0.Coords} {n : ℕ} (hn : n ≤ (i 1).val + 1) (k : Fin (k0_t1_loop i (BitVec.ofNat 32 n)).trips) (hk : k.val < n) (h : Fin 8) :
    pOff i (BitVec.ofNat 32 n) k h = ![128 * ((i 1).val + 1 - n + k.val), 64 * h.val] := by
  rw [← iv_eq hn k.val hk]
  fin_cases h <;> rfl

theorem rOff_eq {i : grid0.Coords} {n : ℕ} (hn : n ≤ (i 1).val + 1) (k : Fin (k0_t1_loop i (BitVec.ofNat 32 n)).trips) (hk : k.val < n) (h : Fin 8) :
    rOff i (BitVec.ofNat 32 n) k h = ![128 * ((i 1).val + 1 - n + k.val), h.val] := by
  rw [← iv_eq hn k.val hk]
  fin_cases h <;> rfl

section

variable (p g : ℕ → ℕ → ℝ) (i : grid0.Coords)
  (arg2 : Memref sig .tc .vmem S128x512 .bf16) (arg3 : Memref sig .tc .vmem S4096x512 .bf16)
  (arg4 : Memref sig .tc .vmem S4096x512 .bf16) (arg5 : Memref sig .tc .vmem S128x512 .f32)
  (arg6 : Memref sig .tc .vmem S128x512 .f32) (arg7 : Memref sig .tc .vmem S4096x512 .f32)
  (arg8 : Memref sig .tc .vmem S4096x512 .f32) (arg9 : Memref sig .tc .vmem S4096x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (h2 : arg2.view.read (Elt Ideal) X2 = mat fun a c => p (128 * (i 1).val + a) (512 + c))
  (h3 : arg3.view.read (Elt Ideal) X3 = mat fun a c => p a (1024 + c))
  (h4 : arg4.view.read (Elt Ideal) X4 = mat fun a c => p a (1536 + c))
  (h5 : arg5.view.read (Elt Ideal) X5 = mat fun a c => g (128 * (i 1).val + a) c)

include h2 in
theorem qv_eq (h : Fin 8) : qv arg2 X2 h = mat fun a d => p (128 * (i 1).val + a) (512 + 64 * h.val + d) := by
  have e : qv arg2 X2 h = mat fun a d => p (128 * (i 1).val + (0 + a)) (512 + (64 * h.val + d)) := by
    fin_cases h <;> exact readAt_mat_bf16 arg2.view X2 h2 rfl _
  rw [e]
  simp only [Nat.zero_add, Nat.add_assoc]

include h5 in
theorem dov_eq (h : Fin 8) : dov arg5 X5 h = mat fun a d => g (128 * (i 1).val + a) (64 * h.val + d) := by
  have e : dov arg5 X5 h = mat fun a d => g (128 * (i 1).val + (0 + a)) (64 * h.val + d) := by
    fin_cases h <;> exact readAt_mat_f32 arg5.view X5 h5 rfl _
  rw [e]
  simp only [Nat.zero_add]

/-! ## The walk -/

/-- What the keys from block `k` on leave of every query's stick, as a logarithm. -/
def after (h k a : ℕ) : ℝ := ∑ c ∈ Ico (128 * k) (128 * ((i 1).val + 1)), keep p h (128 * (i 1).val + a) c

/-- After `n` trips of the walk: the running sums, and those stored for the blocks passed. -/
def II (n : ℕ) (r : Fin 8 → FVec Ideal S128x1 .f32) (f9 : BufTy.Contents (Elt Ideal) arg9.view.ty) : Prop :=
  n ≤ (i 1).val + 1 ∧ (∀ h : Fin 8, r h = mat fun a _ => after p i h.val ((i 1).val + 1 - n) a)
  ∧ ∀ (y : S4096x128.Idx) (k a : ℕ), (y 0).val = 128 * k + a → a < 128 → (y 1).val < 8 → k ≤ (i 1).val → (i 1).val < k + n →
      arg9.view.read (Elt Ideal) f9 y = ((after p i (y 1).val (k + 1) a : ℝ) : EReal)

theorem run0_eq (h : Fin 8) : run0 (F := Ideal) h = mat fun _ _ => 0 := by
  have e : run0 (F := Ideal) h = k0_pay302 (F := Ideal) := by fin_cases h <;> rfl
  rw [e]
  funext j
  idx_vars j
  unfold k0_pay302
  pointwise
  exact EReal.coe_zero.symm

theorem II_zero (f9 : BufTy.Contents (Elt Ideal) arg9.view.ty) : II p i arg9 0 (run0 (F := Ideal)) f9 := by
  refine ⟨Nat.zero_le _, fun h => ?_, fun y k a _ _ _ h1 h2 => by omega⟩
  rw [run0_eq]
  unfold after
  simp

include h2 h3 in
theorem lkBlk_eq {n : ℕ} (hn : n ≤ (i 1).val) (h : Fin 8) :
    lkBlk i arg3 (qv arg2 X2) X3 (BitVec.ofNat 32 n) (chk1 hn) h
      = mat fun a b => keep p h.val (128 * (i 1).val + a) (128 * ((i 1).val - n) + b) := by
  have hq : (i 1).val < 32 := (i 1).isLt
  have ek : kblk i arg3 X3 (BitVec.ofNat 32 n) (chk1 hn) h = mat fun b d => p (128 * ((i 1).val - n) + b) (1024 + 64 * h.val + d) := by
    unfold kblk
    refine (readAt_mat_bf16 arg3.view X3 h3 (kOff_eq hn h) _).trans ?_
    simp only [Nat.add_assoc]
  unfold lkBlk
  rw [ek, qv_eq p i arg2 X2 h2, show BitVec.ofNat 32 n = BitVec.ofNat 32 ((i 1).val - ((i 1).val - n)) by rw [show (i 1).val - ((i 1).val - n) = n by omega],
    pay321 _ _ _ _ hq (by omega)]
  rfl

/-- One head's column of the sums stored by a trip. -/
theorem run_piece (f : BufTy.Contents (Elt Ideal) arg9.view.ty) {n : ℕ} (hq : (i 1).val < 32) (hn : n ≤ (i 1).val) {y : S4096x128.Idx} {k a : ℕ}
    (hy : (y 0).val = 128 * k + a) (ha : a < 128) (m : ℕ) (L : List (View.Piece (Elt Ideal) S4096x128 .f32)) {off : Fin 2 → ℕ}
    (ho : off = ![128 * ((i 1).val - n), m]) (inb : ∀ x, off x + S128x1.size x ≤ S4096x128.size x)
    (hrest : ¬ (k = (i 1).val - n ∧ (y 1).val = m) → arg9.view.read (Elt Ideal) (arg9.view.writes (Elt Ideal) f L) y = ((after p i (y 1).val (k + 1) a : ℝ) : EReal)) :
    arg9.view.read (Elt Ideal) (arg9.view.writes (Elt Ideal) f (⟨Rect.unit (s := S4096x128) off S128x1.size inb, mat fun a _ => after p i m ((i 1).val + 1 - n) a⟩ :: L)) y
      = ((after p i (y 1).val (k + 1) a : ℝ) : EReal) := by
  refine (read_cons_mat arg9.view f L ho inb _ y).trans ?_
  split_ifs with hc
  · have e1 : (y 1).val = m := by omega
    have e2 : k = (i 1).val - n := by omega
    rw [e1, show (i 1).val + 1 - n = k + 1 by omega, show (y 0).val - 128 * ((i 1).val - n) = a by omega]
  · exact hrest (by omega)

include h2 h3 in
theorem II_step (n : ℕ) (r : Fin 8 → FVec Ideal S128x1 .f32) (f : BufTy.Contents (Elt Ideal) arg9.view.ty) (hn : n ≤ (i 1).val)
    (hI : II p i arg9 n r f) :
    II p i arg9 (n + 1) (nextRun i arg3 (qv arg2 X2) X3 (BitVec.ofNat 32 n) (chk1 hn) r)
      (arg9.view.writes (Elt Ideal) f (runPieces i (BitVec.ofNat 32 n) (chk1 hn) r)) := by
  have hq : (i 1).val < 32 := (i 1).isLt
  obtain ⟨-, hr, hf⟩ := hI
  refine ⟨by omega, fun h => ?_, fun y k a hy ha hh hk hkn => ?_⟩
  · unfold nextRun
    rw [hr h, lkBlk_eq p i arg2 arg3 X2 X3 h2 h3 hn h, pay16]
    refine mat_congr fun a ha b hb => ?_
    unfold after
    rw [show (i 1).val + 1 - n = ((i 1).val - n) + 1 by omega, run_eq p h.val (by omega), show (i 1).val + 1 - (n + 1) = (i 1).val - n by omega]
  · have e : ∀ h : Fin 8, k0_pay14 (r h) = mat fun a _ => after p i h.val ((i 1).val + 1 - n) a := fun h => by rw [hr h, pay14]
    have o : ∀ m : ℕ, (![(Scalar.muli (Scalar.subi (BitVec.ofNat 32 (i 1).val) (BitVec.ofNat 32 n)) 128#32).toNat, m] : Fin 2 → ℕ)
        = ![128 * ((i 1).val - n), m] := fun m => by rw [walk_word (i 1).isLt hn]
    unfold runPieces
    rw [e 0, e 1, e 2, e 3, e 4, e 5, e 6, e 7]
    refine run_piece p i arg9 f hq hn hy ha 7 _ (o 7) _ fun c7 => run_piece p i arg9 f hq hn hy ha 6 _ (o 6) _ fun c6 =>
      run_piece p i arg9 f hq hn hy ha 5 _ (o 5) _ fun c5 => run_piece p i arg9 f hq hn hy ha 4 _ (o 4) _ fun c4 =>
      run_piece p i arg9 f hq hn hy ha 3 _ (o 3) _ fun c3 => run_piece p i arg9 f hq hn hy ha 2 _ (o 2) _ fun c2 =>
      run_piece p i arg9 f hq hn hy ha 1 _ (o 1) _ fun c1 => run_piece p i arg9 f hq hn hy ha 0 _ (o 0) _ fun c0 => ?_
    rw [View.writes_nil]
    exact hf y k a hy ha hh hk (by omega)

/-- Over the reals the walk ends only past the first block: no running sum is `-∞`. -/
theorem walk_ends {n : ℕ} {r : Fin 8 → FVec Ideal S128x1 .f32} {f9 : BufTy.Contents (Elt Ideal) arg9.view.ty}
    (hI : II p i arg9 n r f9) (hg : ¬ goesOn (F := Ideal) i (BitVec.ofNat 32 n) r) : n = (i 1).val + 1 := by
  have hq : (i 1).val < 32 := (i 1).isLt
  obtain ⟨hn, hr, -⟩ := hI
  by_contra hne
  refine hg ?_
  unfold goesOn
  have h1 : Scalar.cmpi .sle (BitVec.ofNat 32 n) (BitVec.ofNat 32 (i 1).val) = 1#1 :=
    (WordCmp.cmpi_sle_ofNat_eq_one_iff (by omega) (by omega)).2 (by omega)
  rw [h1, hr 0, hr 1, hr 2, hr 3, hr 4, hr 5, hr 6, hr 7]
  have h2 := pay13 fun (h : Fin 8) a _ => after p i h.val ((i 1).val + 1 - n) a
  have h3 : Scalar.cmpf .ogt (k0_pay13 (F := Ideal) (mat fun a _ => after p i (0 : Fin 8).val ((i 1).val + 1 - n) a) (mat fun a _ => after p i (1 : Fin 8).val ((i 1).val + 1 - n) a)
      (mat fun a _ => after p i (2 : Fin 8).val ((i 1).val + 1 - n) a) (mat fun a _ => after p i (3 : Fin 8).val ((i 1).val + 1 - n) a)
      (mat fun a _ => after p i (4 : Fin 8).val ((i 1).val + 1 - n) a) (mat fun a _ => after p i (5 : Fin 8).val ((i 1).val + 1 - n) a)
      (mat fun a _ => after p i (6 : Fin 8).val ((i 1).val + 1 - n) a) (mat fun a _ => after p i (7 : Fin 8).val ((i 1).val + 1 - n) a))
      (Named.named κ "dead" 0xC2DC0000#32) = 1#1 := by
    rw [show (Named.named κ "dead" 0xC2DC0000#32 : Ideal .f32) = ⊥ from rfl]
    generalize k0_pay13 (F := Ideal) _ _ _ _ _ _ _ _ = x at h2 ⊢
    change BitVec.ofBool (decide (⊥ < x)) = 1#1
    simp [h2]
  rw [h3]
  rfl

end

end Cert.Kernel3Ideal.Sb
end
-- ==== Proof.SbPass.lean ====
module

public import proofs.«01_k».proof.Proof.SbStep

/-!
# The attention's gradient: the second pass

Trip `k` of the second pass reads block `k` of the keys; what it carries and adds, over the reals.
-/

@[expose] public section

set_option maxRecDepth 8192
set_option maxHeartbeats 4000000

noncomputable section

namespace Cert.Kernel3Ideal.Sb

open Idealize.ShloMosaic Cert.Kernel3Ideal.Gen Cert.Proof.Reals Cert.Proof.Sb
open Finset (Ico range)

variable (p g : ℕ → ℕ → ℝ) (i : grid0.Coords)
  (arg2 : Memref sig .tc .vmem S128x512 .bf16) (arg3 : Memref sig .tc .vmem S4096x512 .bf16)
  (arg4 : Memref sig .tc .vmem S4096x512 .bf16) (arg5 : Memref sig .tc .vmem S128x512 .f32)
  (arg6 : Memref sig .tc .vmem S128x512 .f32) (arg7 : Memref sig .tc .vmem S4096x512 .f32)
  (arg8 : Memref sig .tc .vmem S4096x512 .f32) (arg9 : Memref sig .tc .vmem S4096x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (h2 : arg2.view.read (Elt Ideal) X2 = mat fun a c => p (128 * (i 1).val + a) (512 + c))
  (h3 : arg3.view.read (Elt Ideal) X3 = mat fun a c => p a (1024 + c))
  (h4 : arg4.view.read (Elt Ideal) X4 = mat fun a c => p a (1536 + c))
  (h5 : arg5.view.read (Elt Ideal) X5 = mat fun a c => g (128 * (i 1).val + a) c)
  (f9 : BufTy.Contents (Elt Ideal) arg9.view.ty) (r : Fin 8 → FVec Ideal S128x1 .f32)
  {n : ℕ} (hn : n ≤ (i 1).val + 1) (hn' : n = (i 1).val + 1)
  (h9 : II p i arg9 n r f9)
  (k : Fin (k0_t1_loop i (BitVec.ofNat 32 n)).trips) (hk : k.val < n)

/-- What query `r'` of head `c / 64` adds to row `r`, column `c` of the gradients of the keys and of the values. -/
def T7 (c r i : ℕ) : ℝ := dz p g (c / 64) i r * p i (512 + c)
def T8 (c r i : ℕ) : ℝ := wt p (c / 64) i r * g i c

/-- After `k` trips of the second pass. -/
def JJ (k : ℕ) (es : Fin 8 → FVec Ideal S128x1 .f32) (dq : Fin 8 → FVec Ideal S128x64 .f32)
    (f7 : BufTy.Contents (Elt Ideal) arg7.view.ty) (f8 : BufTy.Contents (Elt Ideal) arg8.view.ty) : Prop :=
  (∀ h : Fin 8, es h = mat fun a _ => ∑ c ∈ range (128 * k), ee p g h.val (128 * (i 1).val + a) c)
  ∧ (∀ h : Fin 8, dq h = mat fun a d => ∑ c ∈ range (128 * k), dz p g h.val (128 * (i 1).val + a) c * p c (1024 + 64 * h.val + d))
  ∧ arg7.view.read (Elt Ideal) f7 = mat (acc (T7 p g) (i 1).val k 0)
  ∧ arg8.view.read (Elt Ideal) f8 = mat (acc (T8 p g) (i 1).val k 0)

include hn hn' hk in
theorem maskB_eq : Masks (maskB i (BitVec.ofNat 32 n) k) fun a b => 128 * k.val + b < 128 * (i 1).val + a := by
  have hq : (i 1).val < 32 := (i 1).isLt
  intro a b
  unfold maskB k0_pay24
  pointwise
  have h1 := loop_words ⟨(i 1).val, hq⟩ ⟨n, by omega⟩ hn
  dsimp only at h1
  have e : Scf.iv (Scalar.subi (Scalar.addi (BitVec.ofNat 32 (i 1).val) 1#32) (BitVec.ofNat 32 n)) 1#32 k.val = BitVec.ofNat 32 k.val := by
    rw [h1]
    simp [Scf.iv, BitVec.ofNat_add, hn']
  rw [e, word_block, word_block, cmp_block _ _ hq (by omega)]

include h3 hn hn' hk in
theorem kk_eq (h : Fin 8) : kk i arg3 X3 (BitVec.ofNat 32 n) (chk2 hn) k h = mat fun b d => p (128 * k.val + b) (1024 + 64 * h.val + d) := by
  refine (readAt_mat_bf16 arg3.view X3 h3 (pOff_eq hn k hk h) _).trans ?_
  simp only [show (i 1).val + 1 - n + k.val = k.val by omega, Nat.add_assoc]

include h4 hn hn' hk in
theorem vv_eq (h : Fin 8) : vv i arg4 X4 (BitVec.ofNat 32 n) (chk2 hn) k h = mat fun b d => p (128 * k.val + b) (1536 + 64 * h.val + d) := by
  refine (readAt_mat_bf16 arg4.view X4 h4 (pOff_eq hn k hk h) _).trans ?_
  simp only [show (i 1).val + 1 - n + k.val = k.val by omega, Nat.add_assoc]

include h9 hn hn' hk in
theorem rr_eq (h : Fin 8) : rr i arg9 f9 (BitVec.ofNat 32 n) (chk2 hn) k h = mat fun a _ => after p i h.val (k.val + 1) a := by
  have hq : (i 1).val < 32 := (i 1).isLt
  unfold rr
  funext j
  have e0 := Rect.idx_unit_val (s := S4096x128) _ _ (rOff_inb (chk2 hn) k h) j 0
  have e1 := Rect.idx_unit_val (s := S4096x128) _ _ (rOff_inb (chk2 hn) k h) j 1
  have o0 := congrFun (rOff_eq hn k hk h) 0
  have o1 := congrFun (rOff_eq hn k hk h) 1
  change _ = 128 * ((i 1).val + 1 - n + k.val) at o0
  change _ = h.val at o1
  have j0 : (j 0).val < 128 := (j 0).isLt
  have j1 : (j 1).val < 1 := (j 1).isLt
  have hh := h.isLt
  have e0' : ((Rect.unit (s := S4096x128) (rOff i (BitVec.ofNat 32 n) k h) S128x1.size (rOff_inb (chk2 hn) k h)).idx j 0).val = 128 * k.val + (j 0).val :=
    e0.trans (by rw [o0]; omega)
  have e1' : ((Rect.unit (s := S4096x128) (rOff i (BitVec.ofNat 32 n) k h) S128x1.size (rOff_inb (chk2 hn) k h)).idx j 1).val = h.val :=
    e1.trans (by rw [o1]; omega)
  refine (h9.2.2 ((Rect.unit (s := S4096x128) (rOff i (BitVec.ofNat 32 n) k h) S128x1.size (rOff_inb (chk2 hn) k h)).idx j) k.val (j 0).val e0' j0 (by omega) (by omega) (by omega)).trans ?_
  rw [e1']
  rfl

include h2 h3 hn hn' hk in
theorem lsB_eq (h : Fin 8) : lsB i arg3 (qv arg2 X2) X3 (BitVec.ofNat 32 n) (chk2 hn) k h
    = mat fun a b => ls (zz p h.val (128 * (i 1).val + a) (128 * k.val + b)) := by
  unfold lsB
  rw [qv_eq p i arg2 X2 h2, kk_eq p i arg3 X3 h3 hn hn' k hk, pay27]
  rfl

include h2 h3 hn hn' hk in
theorem lkB_eq (h : Fin 8) : lkB i arg3 (qv arg2 X2) X3 (BitVec.ofNat 32 n) (chk2 hn) k h
    = mat fun a b => keep p h.val (128 * (i 1).val + a) (128 * k.val + b) := by
  unfold lkB
  rw [qv_eq p i arg2 X2 h2, kk_eq p i arg3 X3 h3 hn hn' k hk, pay26, pay28, pay29 _ _ _ _ (maskB_eq i hn hn' k hk)]
  rfl

include h2 h3 h9 hn hn' hk in
theorem wB_eq (h : Fin 8) : wB i arg3 arg9 (qv arg2 X2) X3 f9 (BitVec.ofNat 32 n) (chk2 hn) k h
    = mat fun a b => wt p h.val (128 * (i 1).val + a) (128 * k.val + b) := by
  unfold wB laterB
  rw [lsB_eq p i arg2 arg3 X2 X3 h2 h3 hn hn' k hk, lkB_eq p i arg2 arg3 X2 X3 h2 h3 hn hn' k hk,
    rr_eq p i arg9 f9 r hn hn' h9 k hk, pay59, pay68 _ _ (maskB_eq i hn hn' k hk)]
  refine mat_congr fun a ha b hb => ?_
  unfold wt after
  rw [later_eq p h.val (i 1).isLt (by omega) ha hb]

include h5 h4 hn hn' hk in
theorem dvB_eq (h : Fin 8) : dvB i arg4 (dov arg5 X5) X4 (BitVec.ofNat 32 n) (chk2 hn) k h
    = mat fun a b => ∑ d ∈ range 64, g (128 * (i 1).val + a) (64 * h.val + d) * p (128 * k.val + b) (1536 + 64 * h.val + d) := by
  unfold dvB
  rw [dov_eq g i arg5 X5 h5, vv_eq p i arg4 X4 h4 hn hn' k hk, pay76]

include h2 h3 h4 h5 h9 hn hn' hk in
theorem eB_eq (h : Fin 8) : eB i arg3 arg4 arg9 (qv arg2 X2) (dov arg5 X5) X3 X4 f9 (BitVec.ofNat 32 n) (chk2 hn) k h
    = mat fun a b => ee p g h.val (128 * (i 1).val + a) (128 * k.val + b) := by
  unfold eB
  rw [wB_eq p i arg2 arg3 arg9 X2 X3 h2 h3 f9 r hn hn' h9 k hk, dvB_eq p g i arg4 arg5 X4 X5 h4 h5 hn hn' k hk, pay77]
  rfl

section Trip

variable (es : Fin 8 → FVec Ideal S128x1 .f32) (dq : Fin 8 → FVec Ideal S128x64 .f32)
  (hes : ∀ h : Fin 8, es h = mat fun a _ => ∑ c ∈ range (128 * k.val), ee p g h.val (128 * (i 1).val + a) c)

include h2 h3 h4 h5 h9 hn hn' hk hes

theorem ebB_eq (h : Fin 8) : ebB i arg3 arg4 arg9 (qv arg2 X2) (dov arg5 X5) X3 X4 f9 (BitVec.ofNat 32 n) (chk2 hn) k es h
    = mat fun a b => ∑ c ∈ range (128 * k.val + b), ee p g h.val (128 * (i 1).val + a) c := by
  unfold ebB
  rw [wB_eq p i arg2 arg3 arg9 X2 X3 h2 h3 f9 r hn hn' h9 k hk, dvB_eq p g i arg4 arg5 X4 X5 h4 h5 hn hn' k hk, hes, pay85]
  refine mat_congr fun a ha b hb => ?_
  exact before_eq (fun c => ee p g h.val (128 * (i 1).val + a) c) k.val hb

theorem dzB_eq (h : Fin 8) : dzB i arg3 arg4 arg9 (qv arg2 X2) (dov arg5 X5) X3 X4 f9 (BitVec.ofNat 32 n) (chk2 hn) k es h
    = mat fun a b => dz p g h.val (128 * (i 1).val + a) (128 * k.val + b) := by
  unfold dzB
  rw [lsB_eq p i arg2 arg3 X2 X3 h2 h3 hn hn' k hk, eB_eq p g i arg2 arg3 arg4 arg5 arg9 X2 X3 X4 X5 h2 h3 h4 h5 f9 r hn hn' h9 k hk,
    ebB_eq p g i arg2 arg3 arg4 arg5 arg9 X2 X3 X4 X5 h2 h3 h4 h5 f9 r hn hn' h9 k hk es hes, pay101 _ _ (maskB_eq i hn hn' k hk)]
  rfl

theorem newE_eq (h : Fin 8) : newE i arg3 arg4 arg9 (qv arg2 X2) (dov arg5 X5) X3 X4 f9 (BitVec.ofNat 32 n) (chk2 hn) k es h
    = mat fun a _ => ∑ c ∈ range (128 * (k.val + 1)), ee p g h.val (128 * (i 1).val + a) c := by
  unfold newE
  rw [eB_eq p g i arg2 arg3 arg4 arg5 arg9 X2 X3 X4 X5 h2 h3 h4 h5 f9 r hn hn' h9 k hk,
    ebB_eq p g i arg2 arg3 arg4 arg5 arg9 X2 X3 X4 X5 h2 h3 h4 h5 f9 r hn hn' h9 k hk es hes, pay152]
  exact mat_congr fun a ha b hb => carry_last (fun c => ee p g h.val (128 * (i 1).val + a) c) k.val

theorem newDq_eq (hdq : ∀ h : Fin 8, dq h = mat fun a d => ∑ c ∈ range (128 * k.val), dz p g h.val (128 * (i 1).val + a) c * p c (1024 + 64 * h.val + d)) (h : Fin 8) :
    newDq i arg3 arg4 arg9 (qv arg2 X2) (dov arg5 X5) X3 X4 f9 (BitVec.ofNat 32 n) (chk2 hn) k es dq h
    = mat fun a d => ∑ c ∈ range (128 * (k.val + 1)), dz p g h.val (128 * (i 1).val + a) c * p c (1024 + 64 * h.val + d) := by
  unfold newDq
  rw [dzB_eq p g i arg2 arg3 arg4 arg5 arg9 X2 X3 X4 X5 h2 h3 h4 h5 f9 r hn hn' h9 k hk es hes, kk_eq p i arg3 X3 h3 hn hn' k hk, hdq, pay111]
  exact mat_congr fun a ha d hd => carry_eq (fun c => dz p g h.val (128 * (i 1).val + a) c * p c (1024 + 64 * h.val + d)) k.val

theorem up7_eq (f7 : BufTy.Contents (Elt Ideal) arg7.view.ty) (hf7 : arg7.view.read (Elt Ideal) f7 = mat (acc (T7 p g) (i 1).val k.val 0)) :
    ∀ m ≤ 8, arg7.view.read (Elt Ideal) (arg7.view.writes (Elt Ideal) f7
        (up7 i arg3 arg4 arg7 arg9 (qv arg2 X2) (dov arg5 X5) X3 X4 f9 (BitVec.ofNat 32 n) (chk2 hn) k es f7 m))
      = mat (acc (T7 p g) (i 1).val k.val m) := by
  intro m
  induction m with
  | zero => intro _; unfold up7; rw [View.writes_nil, hf7]
  | succ m ih =>
    intro hm
    have ih := ih (by omega)
    have hv : (Fin.ofNat 8 m).val = m := Nat.mod_eq_of_lt (by omega)
    have ho : pOff i (BitVec.ofNat 32 n) k (Fin.ofNat 8 m) = ![128 * k.val, 64 * m] := by
      rw [pOff_eq hn k hk, hv, show (i 1).val + 1 - n + k.val = k.val by omega]
    rw [up7]
    refine acc_step _ _ _ _ _ _ _ ih ho _ _ ?_
    rw [qv_eq p i arg2 X2 h2, dzB_eq p g i arg2 arg3 arg4 arg5 arg9 X2 X3 X4 X5 h2 h3 h4 h5 f9 r hn hn' h9 k hk es hes, pay119]
    refine (congrArg (k0_pay136 _) (readAt_mat_f32 arg7.view _ ih ho _)).trans ?_
    rw [pay136]
    refine mat_congr fun b hb d hd => ?_
    congr 1
    refine Finset.sum_congr rfl fun x _ => ?_
    unfold T7
    rw [hv, show (64 * m + d) / 64 = m by omega, Nat.add_assoc]

omit hes in
omit h4 h5 in
include h5 in
theorem up8_eq (f8 : BufTy.Contents (Elt Ideal) arg8.view.ty) (hf8 : arg8.view.read (Elt Ideal) f8 = mat (acc (T8 p g) (i 1).val k.val 0)) :
    ∀ m ≤ 8, arg8.view.read (Elt Ideal) (arg8.view.writes (Elt Ideal) f8
        (up8 i arg3 arg8 arg9 (qv arg2 X2) (dov arg5 X5) X3 f9 (BitVec.ofNat 32 n) (chk2 hn) k f8 m))
      = mat (acc (T8 p g) (i 1).val k.val m) := by
  intro m
  induction m with
  | zero => intro _; unfold up8; rw [View.writes_nil, hf8]
  | succ m ih =>
    intro hm
    have ih := ih (by omega)
    have hv : (Fin.ofNat 8 m).val = m := Nat.mod_eq_of_lt (by omega)
    have ho : pOff i (BitVec.ofNat 32 n) k (Fin.ofNat 8 m) = ![128 * k.val, 64 * m] := by
      rw [pOff_eq hn k hk, hv, show (i 1).val + 1 - n + k.val = k.val by omega]
    rw [up8]
    refine acc_step _ _ _ _ _ _ _ ih ho _ _ ?_
    rw [dov_eq g i arg5 X5 h5, wB_eq p i arg2 arg3 arg9 X2 X3 h2 h3 f9 r hn hn' h9 k hk, pay127]
    refine (congrArg (k0_pay137 _) (readAt_mat_f32 arg8.view _ ih ho _)).trans ?_
    rw [pay137]
    refine mat_congr fun b hb d hd => ?_
    congr 1
    refine Finset.sum_congr rfl fun x _ => ?_
    unfold T8
    rw [hv, show (64 * m + d) / 64 = m by omega]

end Trip

include h2 h3 h4 h5 h9 hn hn' hk in
/-- A trip of the second pass. -/
theorem JJ_step (es : Fin 8 → FVec Ideal S128x1 .f32) (dq : Fin 8 → FVec Ideal S128x64 .f32)
    (f7 : BufTy.Contents (Elt Ideal) arg7.view.ty) (f8 : BufTy.Contents (Elt Ideal) arg8.view.ty)
    (hJ : JJ p g i arg7 arg8 k.val es dq f7 f8) :
    JJ p g i arg7 arg8 (k.val + 1) (newE i arg3 arg4 arg9 (qv arg2 X2) (dov arg5 X5) X3 X4 f9 (BitVec.ofNat 32 n) (chk2 hn) k es)
      (newDq i arg3 arg4 arg9 (qv arg2 X2) (dov arg5 X5) X3 X4 f9 (BitVec.ofNat 32 n) (chk2 hn) k es dq)
      (arg7.view.writes (Elt Ideal) f7 (up7 i arg3 arg4 arg7 arg9 (qv arg2 X2) (dov arg5 X5) X3 X4 f9 (BitVec.ofNat 32 n) (chk2 hn) k es f7 8))
      (arg8.view.writes (Elt Ideal) f8 (up8 i arg3 arg8 arg9 (qv arg2 X2) (dov arg5 X5) X3 f9 (BitVec.ofNat 32 n) (chk2 hn) k f8 8)) := by
  obtain ⟨hes, hdq, hf7, hf8⟩ := hJ
  refine ⟨newE_eq p g i arg2 arg3 arg4 arg5 arg9 X2 X3 X4 X5 h2 h3 h4 h5 f9 r hn hn' h9 k hk es hes,
    newDq_eq p g i arg2 arg3 arg4 arg5 arg9 X2 X3 X4 X5 h2 h3 h4 h5 f9 r hn hn' h9 k hk es dq hes hdq, ?_, ?_⟩
  · rw [up7_eq p g i arg2 arg3 arg4 arg5 arg7 arg9 X2 X3 X4 X5 h2 h3 h4 h5 f9 r hn hn' h9 k hk es hes f7 hf7 8 le_rfl, acc_next]
  · rw [up8_eq p g i arg2 arg3 arg5 arg8 arg9 X2 X3 X5 h2 h3 h5 f9 r hn hn' h9 k hk f8 hf8 8 le_rfl, acc_next]

theorem pay310_eq : (k0_pay310 (F := Ideal)) = mat fun _ _ => 0 := by
  funext j
  idx_vars j
  unfold k0_pay310
  pointwise
  exact EReal.coe_zero.symm

theorem pay318_eq : (k0_pay318 (F := Ideal)) = mat fun _ _ => 0 := by
  funext j
  idx_vars j
  unfold k0_pay318
  pointwise
  exact EReal.coe_zero.symm

theorem pay290_eq : (k0_pay290 (F := Ideal)) = mat fun _ _ => 0 := by
  funext j
  idx_vars j
  unfold k0_pay290
  pointwise
  exact EReal.coe_zero.symm

theorem pay291_eq : (k0_pay291 (F := Ideal)) = mat fun _ _ => 0 := by
  funext j
  idx_vars j
  unfold k0_pay291
  pointwise
  exact EReal.coe_zero.symm

/-- The gradients of the keys and values as the queries before row `n` leave them. -/
def soFar (T : ℕ → ℕ → ℕ → ℝ) (n : ℕ) : ℕ → ℕ → ℝ := fun r c => ∑ i ∈ range n, T c r i

theorem JJ_zero (f7 : BufTy.Contents (Elt Ideal) arg7.view.ty) (f8 : BufTy.Contents (Elt Ideal) arg8.view.ty)
    (hf7 : arg7.view.read (Elt Ideal) f7 = mat (soFar (T7 p g) (128 * (i 1).val)))
    (hf8 : arg8.view.read (Elt Ideal) f8 = mat (soFar (T8 p g) (128 * (i 1).val))) :
    JJ p g i arg7 arg8 0 (fun _ => k0_pay310) (fun _ => k0_pay318) f7 f8 := by
  refine ⟨fun h => ?_, fun h => ?_, hf7.trans (acc_first _ _), hf8.trans (acc_first _ _)⟩
  · rw [pay310_eq]; rfl
  · rw [pay318_eq]; rfl

theorem read_whole {κ sp} (v : View sig κ sp S4096x512 .f32) (X : v.ty.Contents (Elt Ideal)) (w : S4096x512.Idx → EReal) :
    v.read (Elt Ideal) (v.writes (Elt Ideal) X [⟨Rect.unit (s := S4096x512) ![0, 0] S4096x512.size inb_S4096x512_S4096x512_0_0, w⟩]) = w :=
  funext fun y => View.read_writes_cons_unit_of_mem v X _ w [] y y rfl fun a => by fin_cases a <;> exact (Nat.zero_add _).symm

/-- At the first block both gradients start from 0. -/
theorem JJ_first (h0 : (i 1).val = 0) :
    JJ p g i arg7 arg8 0 (fun _ => k0_pay310) (fun _ => k0_pay318)
      (arg7.view.writes (Elt Ideal) arg7.view.junk [⟨Rect.unit (s := S4096x512) ![0, 0] S4096x512.size inb_S4096x512_S4096x512_0_0, k0_pay290 (F := Ideal)⟩])
      (arg8.view.writes (Elt Ideal) arg8.view.junk [⟨Rect.unit (s := S4096x512) ![0, 0] S4096x512.size inb_S4096x512_S4096x512_0_0, k0_pay291 (F := Ideal)⟩]) := by
  refine JJ_zero p g i arg7 arg8 _ _ ?_ ?_
  · rw [read_whole, pay290_eq, h0]; rfl
  · rw [read_whole, pay291_eq, h0]; rfl

/-- What a point of the grid leaves. -/
def Done (y6 : S128x512.Idx → EReal) (y7 y8 : S4096x512.Idx → EReal) : Prop :=
  y6 = mat (fun a c => gq p g (c / 64) (128 * (i 1).val + a) (c % 64))
  ∧ y7 = mat (soFar (T7 p g) (128 * ((i 1).val + 1))) ∧ y8 = mat (soFar (T8 p g) (128 * ((i 1).val + 1)))

/-- One head's columns of the gradient of the queries. -/
theorem dq_piece {κ sp} (v : View sig κ sp S128x512 .f32) (X : v.ty.Contents (Elt Ideal)) (G : ℕ → ℕ → ℝ) {y : S128x512.Idx} (m : ℕ)
    (L : List (View.Piece (Elt Ideal) S128x512 .f32)) {off : Fin 2 → ℕ} (ho : off = ![0, 64 * m]) (inb : ∀ x, off x + S128x64.size x ≤ S128x512.size x)
    (w : S128x64.Idx → EReal) (hw : w = mat fun a d => G a (64 * m + d))
    (hrest : ¬ (y 1).val / 64 = m → v.read (Elt Ideal) (v.writes (Elt Ideal) X L) y = ((G (y 0).val (y 1).val : ℝ) : EReal)) :
    v.read (Elt Ideal) (v.writes (Elt Ideal) X (⟨Rect.unit (s := S128x512) off S128x64.size inb, w⟩ :: L)) y = ((G (y 0).val (y 1).val : ℝ) : EReal) := by
  subst hw
  have hy : (y 0).val < 128 := (y 0).isLt
  refine (read_cons_mat v X L ho inb _ y).trans ?_
  split_ifs with hc
  · rw [show 64 * m + ((y 1).val - 64 * m) = (y 1).val by omega, Nat.sub_zero]
  · exact hrest (by omega)

theorem JJ_done (f6 : BufTy.Contents (Elt Ideal) arg6.view.ty) (es : Fin 8 → FVec Ideal S128x1 .f32) (dq : Fin 8 → FVec Ideal S128x64 .f32)
    (f7 : BufTy.Contents (Elt Ideal) arg7.view.ty) (f8 : BufTy.Contents (Elt Ideal) arg8.view.ty)
    (hJ : JJ p g i arg7 arg8 ((i 1).val + 1) es dq f7 f8) :
    Done p g i (arg6.view.read (Elt Ideal) (arg6.view.writes (Elt Ideal) f6 (dqPieces dq))) (arg7.view.read (Elt Ideal) f7) (arg8.view.read (Elt Ideal) f8) := by
  obtain ⟨-, hdq, hf7, hf8⟩ := hJ
  refine ⟨?_, hf7.trans (acc_last _ (fun c r x hx => ?_) _), hf8.trans (acc_last _ (fun c r x hx => ?_) _)⟩
  · have e : ∀ h : Fin 8, dq h = mat fun a d => (fun a c => gq p g (c / 64) (128 * (i 1).val + a) (c % 64)) a (64 * h.val + d) := fun h => by
      rw [hdq h]
      refine mat_congr fun a ha d hd => ?_
      rw [gq_eq p g h.val (i 1).isLt ha]
      dsimp only
      rw [show (64 * h.val + d) / 64 = h.val by omega, show (64 * h.val + d) % 64 = d by omega]
    generalize (fun a c => gq p g (c / 64) (128 * (i 1).val + a) (c % 64)) = G at e ⊢
    funext y
    have hy : (y 1).val < 512 := (y 1).isLt
    unfold dqPieces
    refine dq_piece (y := y) arg6.view f6 G 7 _ rfl _ _ (e 7) fun c7 => dq_piece (y := y) arg6.view f6 G 6 _ rfl _ _ (e 6) fun c6 =>
      dq_piece (y := y) arg6.view f6 G 5 _ rfl _ _ (e 5) fun c5 => dq_piece (y := y) arg6.view f6 G 4 _ rfl _ _ (e 4) fun c4 =>
      dq_piece (y := y) arg6.view f6 G 3 _ rfl _ _ (e 3) fun c3 => dq_piece (y := y) arg6.view f6 G 2 _ rfl _ _ (e 2) fun c2 =>
      dq_piece (y := y) arg6.view f6 G 1 _ rfl _ _ (e 1) fun c1 => dq_piece arg6.view f6 G 0 _ (off := ![0, 0]) rfl _ (dq 0) (e 0) fun c0 => ?_
    omega
  · unfold T7; rw [dz_zero p g _ hx, zero_mul]
  · unfold T8; rw [wt_zero p _ hx, zero_mul]

end Cert.Kernel3Ideal.Sb
end
-- ==== Proof.SbValue.lean ====
module

public import proofs.«01_k».proof.Proof.SbPass
public import proofs.«01_k».proof.Proof.SbFrame
public import Idealize.ShloMosaic.Lib.Claim
public import Idealize.ShloMosaic.Lib.Pipeline.ValueKit
public import Idealize.ShloMosaic.Lib.Pipeline.TableIdle

/-!
# The attention's gradient: what the kernel computes

The exact proof data over the reals, and the three gradients after the run.
-/

@[expose] public section

set_option maxRecDepth 8192
set_option maxHeartbeats 4000000

noncomputable section

namespace Cert.Kernel3Ideal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen Cert.Proof.Reals Cert.Proof.Sb
open Idealize.ShloMosaic.Rounds
open Idealize.ShloMosaic.Pipeline (Dat Cfg Window BodyObligation BodyObligationLoose)

/-- The resource algebra of the pipeline's runs. -/
local notation "𝕄R" => MT nD τ sig Unit (Elt Ideal) ℕ (UR sig nD τ) ℕ

theorem coord1 : ∀ t : Fin (cfg0 (F := Ideal)).N, ((grid0.coords t) 1).val = t.val := (by decide +kernel : ∀ t : Fin grid0.N, ((grid0.coords t) 1).val = t.val)
theorem idx0 : ∀ t : Fin (cfg0 (F := Ideal)).N, win0_0.index t = ![t.val, 1] := (by decide +kernel : ∀ t : Fin grid0.N, _)
theorem idx1 : ∀ t : Fin (cfg0 (F := Ideal)).N, win0_1.index t = ![0, 2] := (by decide +kernel : ∀ t : Fin grid0.N, _)
theorem idx2 : ∀ t : Fin (cfg0 (F := Ideal)).N, win0_2.index t = ![0, 3] := (by decide +kernel : ∀ t : Fin grid0.N, _)
theorem idx3 : ∀ t : Fin (cfg0 (F := Ideal)).N, win0_3.index t = ![t.val, 0] := (by decide +kernel : ∀ t : Fin grid0.N, _)
theorem idx4 : ∀ t : Fin (cfg0 (F := Ideal)).N, win0_4.index t = ![t.val, 0] := (by decide +kernel : ∀ t : Fin grid0.N, _)
theorem idx5 : ∀ t : Fin (cfg0 (F := Ideal)).N, win0_5.index t = ![0, 0] := (by decide +kernel : ∀ t : Fin grid0.N, _)
theorem idx6 : ∀ t : Fin (cfg0 (F := Ideal)).N, win0_6.index t = ![0, 0] := (by decide +kernel : ∀ t : Fin grid0.N, _)

variable (m : (ℓ : Loc nD τ sig) → Buf (Elt Ideal) ℓ) (ρ : Dev nD → PrngReg) (p g : Dev nD → ℕ → ℕ → ℝ)
  (hp : ∀ c : Dev nD, (m ((c : Thread nD τ).loc main_arg0) : S4096x2048.Idx → EReal) = mat (p c))
  (hg : ∀ c : Dev nD, (m ((c : Thread nD τ).loc main_arg1) : S4096x512.Idx → EReal) = mat (g c))

include hp in
theorem iblk0 (c : Dev nD) (t : Fin (cfg0 (F := Ideal)).N) : iblk m c 0 t = mat fun a k => p c (128 * ((grid0.coords t) 1).val + a) (512 + k) := by
  rw [coord1]
  funext y
  blk_simp [iblk]
  refine (congrFun (hp c) _).trans (congrArg (fun x : ℝ => (x : EReal)) (congrArg₂ (p c) ?_ ?_)) <;> simp [idx0 t] <;> omega
include hp in
theorem iblk1 (c : Dev nD) (t : Fin (cfg0 (F := Ideal)).N) : iblk m c 1 t = mat fun a k => p c a (1024 + k) := by
  funext y
  blk_simp [iblk]
  refine (congrFun (hp c) _).trans (congrArg (fun x : ℝ => (x : EReal)) (congrArg₂ (p c) ?_ ?_)) <;> simp [idx1 t]
include hp in
theorem iblk2 (c : Dev nD) (t : Fin (cfg0 (F := Ideal)).N) : iblk m c 2 t = mat fun a k => p c a (1536 + k) := by
  funext y
  blk_simp [iblk]
  refine (congrFun (hp c) _).trans (congrArg (fun x : ℝ => (x : EReal)) (congrArg₂ (p c) ?_ ?_)) <;> simp [idx2 t]
include hg in
theorem iblk3 (c : Dev nD) (t : Fin (cfg0 (F := Ideal)).N) : iblk m c 3 t = mat fun a k => g c (128 * ((grid0.coords t) 1).val + a) k := by
  rw [coord1]
  funext y
  blk_simp [iblk]
  refine (congrFun (hg c) _).trans (congrArg (fun x : ℝ => (x : EReal)) (congrArg₂ (g c) ?_ ?_)) <;> simp [idx3 t] <;> omega

/-- The proof data: the outputs at the gradients so far. -/
def datR (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (mat fun a k => gq (p c) (g c) (k / 64) (128 * t.val + a) (k % 64) : S128x512.Idx → EReal)
    | ⟨5, _⟩ => (mat (soFar (T7 (p c) (g c)) (128 * (t.val + 1))) : S4096x512.Idx → EReal)
    | ⟨6, _⟩ => (mat (soFar (T8 (p c) (g c)) (128 * (t.val + 1))) : S4096x512.Idx → EReal)
  Φ _ := Pipeline.ΦA spec0 c
  q w := Pipeline.shareOf spec0 w
  owed _ := 0

theorem AR_eq (c : Dev nD) (w : Fin (cfg0 (F := Ideal)).W) : (datR m p g 0 c).A w = V m c (Pipeline.arrRef spec0 w) := by dsimp only [datR]

theorem beforeR_0 (c : Dev nD) (t : Fin (cfg0 (F := Ideal)).N) (d) : (datR m p g 0 c).before 0 t d = iblk m c 0 t :=
  before0_0_of m (datR m p g 0 c) (AR_eq m p g c 0) (fun _ => rfl) t d
theorem beforeR_1 (c : Dev nD) (t : Fin (cfg0 (F := Ideal)).N) (d) : (datR m p g 0 c).before 1 t d = iblk m c 1 t :=
  before0_1_of m (datR m p g 0 c) (AR_eq m p g c 1) (fun _ => rfl) t d
theorem beforeR_2 (c : Dev nD) (t : Fin (cfg0 (F := Ideal)).N) (d) : (datR m p g 0 c).before 2 t d = iblk m c 2 t :=
  before0_2_of m (datR m p g 0 c) (AR_eq m p g c 2) (fun _ => rfl) t d
theorem beforeR_3 (c : Dev nD) (t : Fin (cfg0 (F := Ideal)).N) (d) : (datR m p g 0 c).before 3 t d = iblk m c 3 t :=
  before0_3_of m (datR m p g 0 c) (AR_eq m p g c 3) (fun _ => rfl) t d

theorem fresh5 (n : ℕ) (hn : n < 32) (h0 : n ≠ 0) : (cfg0 (F := Ideal)).fresh 5 n = false := by
  obtain ⟨k, rfl⟩ := Nat.exists_eq_succ_of_ne_zero h0
  have hk : k < (cfg0 (F := Ideal)).N := lt_of_lt_of_eq (by omega) (show 32 = (cfg0 (F := Ideal)).N from N_0.symm)
  rw [Nat.succ_eq_add_one, Cfg.fresh_succ (cfg0 (F := Ideal)) 5 k hk, Bool.or_eq_false_iff]
  refine ⟨Bool.eq_false_iff.2 fun h => ?_, rfl⟩
  have := (flush0_5 ⟨k, hk⟩).1 h
  dsimp only at this
  omega
theorem fresh6 (n : ℕ) (hn : n < 32) (h0 : n ≠ 0) : (cfg0 (F := Ideal)).fresh 6 n = false := by
  obtain ⟨k, rfl⟩ := Nat.exists_eq_succ_of_ne_zero h0
  have hk : k < (cfg0 (F := Ideal)).N := lt_of_lt_of_eq (by omega) (show 32 = (cfg0 (F := Ideal)).N from N_0.symm)
  rw [Nat.succ_eq_add_one, Cfg.fresh_succ (cfg0 (F := Ideal)) 6 k hk, Bool.or_eq_false_iff]
  refine ⟨Bool.eq_false_iff.2 fun h => ?_, rfl⟩
  have := (flush0_6 ⟨k, hk⟩).1 h
  dsimp only at this
  omega

theorem beforeR_5 (c : Dev nD) (t : Fin (cfg0 (F := Ideal)).N) (h0 : t.val ≠ 0) (d) :
    (datR m p g 0 c).before 5 t d = (mat (soFar (T7 (p c) (g c)) (128 * t.val)) : S4096x512.Idx → EReal) := by
  have hN : t.val < 32 := t.isLt.trans_eq N_0
  rw [Dat.before_out_traj _ 5 rfl (fun _ _ => rfl) (fun _ _ hi _ => absurd hi (by simp only [Cfg.idle]; decide)) t.val t rfl d, if_neg (by rw [fresh5 _ hN h0]; decide)]
  change (mat (soFar (T7 (p c) (g c)) (128 * (t.val - 1 + 1))) : S4096x512.Idx → EReal) = _
  rw [Nat.sub_add_cancel (by omega)]
theorem beforeR_6 (c : Dev nD) (t : Fin (cfg0 (F := Ideal)).N) (h0 : t.val ≠ 0) (d) :
    (datR m p g 0 c).before 6 t d = (mat (soFar (T8 (p c) (g c)) (128 * t.val)) : S4096x512.Idx → EReal) := by
  have hN : t.val < 32 := t.isLt.trans_eq N_0
  rw [Dat.before_out_traj _ 6 rfl (fun _ _ => rfl) (fun _ _ hi _ => absurd hi (by simp only [Cfg.idle]; decide)) t.val t rfl d, if_neg (by rw [fresh6 _ hN h0]; decide)]
  change (mat (soFar (T8 (p c) (g c)) (128 * (t.val - 1 + 1))) : S4096x512.Idx → EReal) = _
  rw [Nat.sub_add_cancel (by omega)]

/-- What the body is called with at point `t`. -/
def heldR (c : Dev nD) (t : Fin (cfg0 (F := Ideal)).N) : sProp 𝕄R :=
  iprop(Pipeline.ΦA spec0 c ∗ (datR m p g 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ X, owns (c : Thread nD τ) (st0_4 t) fullShare X)
    ∗ (∃ d, owns (c : Thread nD τ) (st0_5 t) fullShare ((datR m p g 0 c).before 5 t d))
    ∗ (∃ d, owns (c : Thread nD τ) (st0_6 t) fullShare ((datR m p g 0 c).before 6 t d)))

/-- What it returns. -/
def leftR (c : Dev nD) (t : Fin (cfg0 (F := Ideal)).N) : sProp 𝕄R :=
  iprop(Pipeline.ΦA spec0 c ∗ (datR m p g 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (mat fun a k => gq (p c) (g c) (k / 64) (128 * t.val + a) (k % 64) : S128x512.Idx → EReal)
    ∗ owns (c : Thread nD τ) (st0_5 t) fullShare (mat (soFar (T7 (p c) (g c)) (128 * (t.val + 1))) : S4096x512.Idx → EReal)
    ∗ owns (c : Thread nD τ) (st0_6 t) fullShare (mat (soFar (T8 (p c) (g c)) (128 * (t.val + 1))) : S4096x512.Idx → EReal))

include hp hg in
theorem soundR (c : Dev nD) (t : Fin (cfg0 (F := Ideal)).N) :
    heldR m p g c t ⊢ wp Idealize.ShloMosaic.frame (wpE (defs₀ (F := Ideal)) Variants.nat c none) Set.univ (bodyAt0 t) (fun _ => leftR m p g c t) := by
  unfold heldR leftR Pipeline.ΦA
  rw [scopedRest0_eq]
  unfold owns
  iintro ⟨⟨⟨%f9, H9⟩, Hg⟩, Ho, ⟨%X2, %h2, H2⟩, ⟨%X3, %h3, H3⟩, ⟨%X4, %h4, H4⟩, ⟨%X5, %h5, H5⟩, ⟨%Y6, %f6, %h6, H6⟩, ⟨%d7, %f7, %h7, H7⟩, ⟨%d8, %f8, %h8, H8⟩⟩
  have key := body_leaves (F := Ideal) c (grid0.coords t) (st0_0 t) (hstage0_0 (((cfg0 (F := Ideal)).slots t 0).cast nbuf0_0)) (st0_1 t) (hstage0_1 (((cfg0 (F := Ideal)).slots t 1).cast nbuf0_1)) (st0_2 t) (hstage0_2 (((cfg0 (F := Ideal)).slots t 2).cast nbuf0_2)) (st0_3 t) (hstage0_3 (((cfg0 (F := Ideal)).slots t 3).cast nbuf0_3)) (st0_4 t) (hstage0_4 (((cfg0 (F := Ideal)).slots t 4).cast nbuf0_4)) (st0_5 t) (hstage0_5 (((cfg0 (F := Ideal)).slots t 5).cast nbuf0_5)) (st0_6 t) (hstage0_6 (((cfg0 (F := Ideal)).slots t 6).cast nbuf0_6)) (Memref.whole cc0_scratch0) (Memref.isWhole_whole _)
    Set.univ X2 X3 X4 X5 f6 f7 f8 f9 _ _ _ _ h2 h3 h4 h5
    (II (p c) (grid0.coords t) (Memref.whole cc0_scratch0)) (fun _ _ => JJ (p c) (g c) (grid0.coords t) (st0_5 t) (st0_6 t))
    (fun n r f hn _ hI => II_step (p c) (grid0.coords t) (st0_0 t) (st0_1 t) (Memref.whole cc0_scratch0) X2 X3 (h2.trans (iblk0 m p hp c t)) (h3.trans (iblk1 m p hp c t)) n r f hn hI)
    (II_zero (p c) (grid0.coords t) (Memref.whole cc0_scratch0))
    (fun n r f hn hgo hI k es dq f7 f8 hJ => JJ_step (p c) (g c) (grid0.coords t) (st0_0 t) (st0_1 t) (st0_2 t) (st0_3 t) (st0_5 t) (st0_6 t) (Memref.whole cc0_scratch0) X2 X3 X4 X5
      (h2.trans (iblk0 m p hp c t)) (h3.trans (iblk1 m p hp c t)) (h4.trans (iblk2 m p hp c t)) (h5.trans (iblk3 m g hg c t)) f r hn
      (walk_ends (p c) (grid0.coords t) (Memref.whole cc0_scratch0) hI hgo) hI k (by have := k.isLt; have := (loops hn).2.1; omega) es dq f7 f8 hJ)
    (fun h0 n r f _ _ _ => JJ_first (p c) (g c) (grid0.coords t) (st0_5 t) (st0_6 t) h0)
    (fun h0 n r f _ _ _ => JJ_zero (p c) (g c) (grid0.coords t) (st0_5 t) (st0_6 t) f7 f8
      (by rw [coord1] at h0 ⊢; exact h7.trans (beforeR_5 m p g c t h0 d7)) (by rw [coord1] at h0 ⊢; exact h8.trans (beforeR_6 m p g c t h0 d8)))
    (Done (p c) (g c) (grid0.coords t))
    (fun n r f es dq f7 f8 hn hgo hI hJ => JJ_done (p c) (g c) (grid0.coords t) (st0_4 t) (st0_5 t) (st0_6 t) f6 es dq f7 f8
      (walk_ends (p c) (grid0.coords t) (Memref.whole cc0_scratch0) hI hgo ▸ hJ))
  iapply (wp_wand_r Idealize.ShloMosaic.frame (wpE (defs₀ (F := Ideal)) Variants.nat (c : Thread nD τ) none) Set.univ)
  isplitl [H2 H3 H4 H5 H6 H7 H8 H9]
  · iapply key
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (scratch_held c f9)
    iexact H9
  · iintro %x Hx
    unfold leaves owns
    icases Hx with ⟨H2, H3, H4, H5, ⟨%y6, %y7, %y8, %hd, H6, H7, H8⟩, ⟨%g9, H9⟩⟩
    unfold Done at hd
    rw [coord1] at hd
    obtain ⟨rfl, rfl, rfl⟩ := hd
    isplitl [H9 Hg]
    · isplitl [H9]
      · iexists g9
        iapply (held_scratch c g9)
        iexact H9
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    iexact H8

include hp hg in
theorem obligationR (c : Dev nD) : BodyObligationLoose (datR m p g 0 c) (defs₀ (F := Ideal)) Variants.nat () Set.univ := fun t => by
  rw [bigSep_W0, bigSep_W0, defs₀_row]
  change iprop(Pipeline.ΦA spec0 c ∗ (datR m p g 0 c).owesAt () t.castSucc
    ∗ (∃ d, owns (c : Thread nD τ) (st0_0 t) fullShare ((datR m p g 0 c).before 0 t d))
    ∗ (∃ d, owns (c : Thread nD τ) (st0_1 t) fullShare ((datR m p g 0 c).before 1 t d))
    ∗ (∃ d, owns (c : Thread nD τ) (st0_2 t) fullShare ((datR m p g 0 c).before 2 t d))
    ∗ (∃ d, owns (c : Thread nD τ) (st0_3 t) fullShare ((datR m p g 0 c).before 3 t d))
    ∗ (∃ d, owns (c : Thread nD τ) (st0_4 t) fullShare ((datR m p g 0 c).before 4 t d))
    ∗ (∃ d, owns (c : Thread nD τ) (st0_5 t) fullShare ((datR m p g 0 c).before 5 t d))
    ∗ (∃ d, owns (c : Thread nD τ) (st0_6 t) fullShare ((datR m p g 0 c).before 6 t d))) ⊢ _
  refine BIBase.Entails.trans ?_ ((soundR m p g hp hg c t).trans (wp_mono _ _ _ fun _ => ?_))
  · unfold heldR
    iintro ⟨HA, Ho, ⟨%d0, H0⟩, ⟨%d1, H1⟩, ⟨%d2, H2⟩, ⟨%d3, H3⟩, ⟨%d4, H4⟩, H5, H6⟩
    rw [beforeR_0, beforeR_1, beforeR_2, beforeR_3]
    isplitl [HA]; · iexact HA
    isplitl [Ho]; · iexact Ho
    isplitl [H0]; · iexact H0
    isplitl [H1]; · iexact H1
    isplitl [H2]; · iexact H2
    isplitl [H3]; · iexact H3
    isplitl [H4]; · iexists _; iexact H4
    isplitl [H5]; · iexact H5
    iexact H6
  · exact .rfl

set_option backward.isDefEq.respectTransparency.types false in
include hp hg in
/-- The run of the whole program. -/
theorem runR : θ_run defs (onTc (τ := τ) (main (F := Ideal))) (s₀ m ρ)
    (fun r => Pipeline.FramePost cfgs (datR m p g) (0 : Fin 1) (V m) r) :=
  Pipeline.θ_run_frame_track_shared cfgs (datR m p g) (0 : Fin 1) launch₀0 defs₀ Variants.nat m ρ main
    (hbody := obligationR m p g hp hg) (hq := fun _ _ _ => rfl) (howed := fun _ _ => rfl) (V := V m) (hmain := hmain m Variants.nat) (hA := AR_eq m p g)
    (hin := fun _ => .rfl) (hout := fun _ => .rfl)

theorem embR4 (t : Fin (cfg0 (F := Ideal)).N) (y : S128x512.Idx) : (((cfg0 (F := Ideal)).win 4).blk t).view.emb y =
    ix2 ⟨128 * t.val + (y 0).val, by have h : (y 0).val < 128 := (y 0).isLt; have := t.isLt.trans_eq N_0; omega⟩ (y 1) := by
  blk_ext [idx4 t]

/-- The gradient of the queries. -/
theorem finalR4 (c : Dev nD) : (datR m p g 0 c).arrAt 4 (cfg0 (F := Ideal)).N =
    (mat fun i a => gq (p c) (g c) (a / 64) i (a % 64) : S4096x512.Idx → EReal) := by
  refine (datR m p g 0 c).arrAt_eq_of_covers 4 _ (by decide +kernel) fun t hf y => ?_
  rw [embR4 t y]
  blk_simp
  rfl

/-- The gradient of the keys. -/
theorem finalR5 (c : Dev nD) : (datR m p g 0 c).arrAt 5 (cfg0 (F := Ideal)).N =
    (mat (soFar (T7 (p c) (g c)) 4096) : S4096x512.Idx → EReal) := by
  refine (datR m p g 0 c).arrAt_eq_of_after_last 5 ⟨31, by decide⟩ (by decide +kernel) _ fun j => ?_
  blk_simp
  rfl

/-- The gradient of the values. -/
theorem finalR6 (c : Dev nD) : (datR m p g 0 c).arrAt 6 (cfg0 (F := Ideal)).N =
    (mat (soFar (T8 (p c) (g c)) 4096) : S4096x512.Idx → EReal) := by
  refine (datR m p g 0 c).arrAt_eq_of_after_last 6 ⟨31, by decide⟩ (by decide +kernel) _ fun j => ?_
  blk_simp
  rfl

end Cert.Kernel3Ideal.Sb
-- ==== Proof.SbRef.lean ====
module

public import proofs.«01_k».proof.Proof.SbPass
public import proofs.«01_k».proof.Proof.Gen.Reference3Ideal.Read

/-!
# The attention's gradient: what the reference computes

Every value of the derivative of the attention, over the reals: a head's scores, gates, weights and their cotangents.
-/

@[expose] public section

set_option maxRecDepth 8192
set_option maxHeartbeats 4000000

noncomputable section

namespace Cert.Proof.SbRef

open Idealize.ShloMosaic Cert.Proof.Reals Cert.Proof.Sb Finset
open Cert.Reference3Ideal Cert.Reference3Ideal.Gen Cert.Reference3Ideal.Read
open Cert.Kernel3Ideal.Sb (mat mat_ix2 mat_congr bits_eighth max_real abs_real log_one_add soFar T7 T8)

/-- An array of real numbers with three axes. -/
def cube {n m k : ℕ} (f : ℕ → ℕ → ℕ → ℝ) : (⟨3, ![n, m, k]⟩ : Shape).Idx → EReal :=
  fun j => ((f (j 0).val (j 1).val (j 2).val : ℝ) : EReal)

theorem cube_congr {n m k : ℕ} {f f' : ℕ → ℕ → ℕ → ℝ} (h : ∀ a b c, a < n → b < m → c < k → f a b c = f' a b c) :
    (cube f : (⟨3, ![n, m, k]⟩ : Shape).Idx → EReal) = cube f' :=
  funext fun j => congrArg (fun x : ℝ => (x : EReal)) (h _ _ _ (j 0).isLt (j 1).isLt (j 2).isLt)

/-! ## Sums over a window -/

theorem fold_real {α : Type} (F : α → EReal) (G : α → ℝ) (l : List α) (hF : ∀ n, F n = ((G n : ℝ) : EReal)) (v : ℝ) :
    l.foldl (fun r n => r + F n) ((v : ℝ) : EReal) = ((v + (l.map G).sum : ℝ) : EReal) := by
  induction l generalizing v with
  | nil => simp
  | cons a l ih => rw [List.foldl_cons, hF, ← EReal.coe_add, ih, List.map_cons, List.sum_cons, add_assoc]

/-- The place along the last axis of position `n` of a window of one row. -/
theorem window_last (n : Fin (⟨3, ![1, 1, 4096]⟩ : Shape).numel) :
    (((⟨3, ![1, 1, 4096]⟩ : Shape).rowMajor.symm n) 2).val = n.val := by
  have h := Shape.rowMajor_val_three ((⟨3, ![1, 1, 4096]⟩ : Shape).rowMajor.symm n)
  rw [Equiv.apply_symm_apply] at h
  have h0 : (((⟨3, ![1, 1, 4096]⟩ : Shape).rowMajor.symm n) 0).val < 1 := (((⟨3, ![1, 1, 4096]⟩ : Shape).rowMajor.symm n) 0).isLt
  have h1 : (((⟨3, ![1, 1, 4096]⟩ : Shape).rowMajor.symm n) 1).val < 1 := (((⟨3, ![1, 1, 4096]⟩ : Shape).rowMajor.symm n) 1).isLt
  rw [h, Nat.lt_one_iff.1 h0, Nat.lt_one_iff.1 h1]
  simp

theorem window_sum (lo hi : ℕ) (f : ℕ → ℕ → ℕ → ℝ) (w : S8x4096x4096.ReduceWindows (![1, 1, 4096] : Fin 3 → Nat) ![1, 1, 1] ![0, 0, lo] ![0, 0, hi] S8x4096x4096) (hu : 0 < S_.numel) :
    Host.reduceWindowAdd (F := Ideal) (φ := .f32) ![1, 1, 4096] ![1, 1, 1] ![0, 0, lo] ![0, 0, hi] (cube f : S8x4096x4096.Idx → EReal) (fun _ : S_.Idx => (0 : EReal)) w hu
      = (cube fun h i c => ∑ n ∈ range 4096, if lo ≤ c + n ∧ c + n - lo < 4096 then f h i (c + n - lo) else 0 : S8x4096x4096.Idx → EReal) := by
  funext j
  have hj0 : (j 0).val < 8 := (j 0).isLt
  have hj1 : (j 1).val < 4096 := (j 1).isLt
  have hw0 := fun n : Fin (⟨3, ![1, 1, 4096]⟩ : Shape).numel => Nat.lt_one_iff.1 (show (((⟨3, ![1, 1, 4096]⟩ : Shape).rowMajor.symm n) 0).val < 1 from (((⟨3, ![1, 1, 4096]⟩ : Shape).rowMajor.symm n) 0).isLt)
  have hw1 := fun n : Fin (⟨3, ![1, 1, 4096]⟩ : Shape).numel => Nat.lt_one_iff.1 (show (((⟨3, ![1, 1, 4096]⟩ : Shape).rowMajor.symm n) 1).val < 1 from (((⟨3, ![1, 1, 4096]⟩ : Shape).rowMajor.symm n) 1).isLt)
  simp only [Host.reduceWindowAdd, Ideal.hostReduceWindowAdd_def, Ideal.hostReduceWindowAdd, Host.reduceWindow]
  refine (fold_real _ (fun n : Fin (⟨3, ![1, 1, 4096]⟩ : Shape).numel => if lo ≤ (j 2).val + n.val ∧ (j 2).val + n.val - lo < 4096 then f (j 0).val (j 1).val ((j 2).val + n.val - lo) else 0) _ (fun n => ?_) 0).trans ?_
  · dsimp only
    split
    · next hin =>
      have h2 := hin 2
      change lo ≤ (j 2).val * 1 + (((⟨3, ![1, 1, 4096]⟩ : Shape).rowMajor.symm n) 2).val ∧ (j 2).val * 1 + (((⟨3, ![1, 1, 4096]⟩ : Shape).rowMajor.symm n) 2).val - lo < 4096 at h2
      rw [window_last, Nat.mul_one] at h2
      rw [if_pos h2]
      change ((f ((j 0).val * 1 + (((⟨3, ![1, 1, 4096]⟩ : Shape).rowMajor.symm n) 0).val - 0) ((j 1).val * 1 + (((⟨3, ![1, 1, 4096]⟩ : Shape).rowMajor.symm n) 1).val - 0)
        ((j 2).val * 1 + (((⟨3, ![1, 1, 4096]⟩ : Shape).rowMajor.symm n) 2).val - lo) : ℝ) : EReal) = _
      rw [window_last, hw0, hw1]
      simp only [Nat.mul_one, Nat.add_zero, Nat.sub_zero]
    · next hin =>
      rw [if_neg fun hle => hin fun a => by
        match a with
        | ⟨0, _⟩ =>
          change 0 ≤ (j 0).val * 1 + (((⟨3, ![1, 1, 4096]⟩ : Shape).rowMajor.symm n) 0).val ∧ (j 0).val * 1 + (((⟨3, ![1, 1, 4096]⟩ : Shape).rowMajor.symm n) 0).val - 0 < 8
          rw [hw0]; omega
        | ⟨1, _⟩ =>
          change 0 ≤ (j 1).val * 1 + (((⟨3, ![1, 1, 4096]⟩ : Shape).rowMajor.symm n) 1).val ∧ (j 1).val * 1 + (((⟨3, ![1, 1, 4096]⟩ : Shape).rowMajor.symm n) 1).val - 0 < 4096
          rw [hw1]; omega
        | ⟨2, _⟩ =>
          change lo ≤ (j 2).val * 1 + (((⟨3, ![1, 1, 4096]⟩ : Shape).rowMajor.symm n) 2).val ∧ (j 2).val * 1 + (((⟨3, ![1, 1, 4096]⟩ : Shape).rowMajor.symm n) 2).val - lo < 4096
          rw [window_last]; omega]
      rfl
  · refine congrArg (fun x : ℝ => (x : EReal)) ?_
    rw [zero_add, ← Fin.sum_univ_def, Fin.sum_univ_eq_sum_range (fun n => if lo ≤ (j 2).val + n ∧ (j 2).val + n - lo < 4096 then f (j 0).val (j 1).val ((j 2).val + n - lo) else 0)]
    rw [show (⟨3, ![1, 1, 4096]⟩ : Shape).numel = 4096 by simp [Shape.numel, Fin.prod_univ_three]]

theorem from_eq (f : ℕ → ℝ) (c : ℕ) : (∑ n ∈ range 4096, if 0 ≤ c + n ∧ c + n - 0 < 4096 then f (c + n - 0) else 0) = ∑ c' ∈ Ico c 4096, f c' := by
  rw [sum_Ico_eq_sum_range, ← sum_subset (s₁ := range (4096 - c)) (fun x hx => by simp only [mem_range] at *; omega)
    (fun x hx hx' => if_neg (by simp only [mem_range] at *; omega))]
  exact sum_congr rfl fun x hx => by rw [if_pos (by simp only [mem_range] at *; omega), Nat.sub_zero]

theorem upto_eq (f : ℕ → ℝ) (c : ℕ) (hc : c < 4096) :
    (∑ n ∈ range 4096, if 4095 ≤ c + n ∧ c + n - 4095 < 4096 then f (c + n - 4095) else 0) = ∑ c' ∈ range (c + 1), f c' := by
  rw [← sum_subset (s₁ := Ico (4095 - c) 4096) (fun x hx => by simp only [mem_range, mem_Ico] at *; omega)
    (fun x hx hx' => if_neg (by simp only [mem_range, mem_Ico] at *; omega)), sum_Ico_eq_sum_range, show 4096 - (4095 - c) = c + 1 by omega]
  refine sum_congr rfl fun x hx => ?_
  rw [mem_range] at hx
  rw [if_pos (by omega), show c + (4095 - c + x) - 4095 = x by omega]

/-! ## The gates at one score -/

theorem soft_scalar (x : ℝ) :
    Scalar.select (FloatOps.cmpf (F := Ideal) (φ := .f32) .une (FloatOps.subf (F := Ideal) (φ := .f32) (x : EReal) (FloatOps.ofBits .f32 0x00000000#32)) (FloatOps.subf (F := Ideal) (φ := .f32) (x : EReal) (FloatOps.ofBits .f32 0x00000000#32)))
      (FloatOps.addf (F := Ideal) (φ := .f32) (x : EReal) (FloatOps.ofBits .f32 0x00000000#32))
      (FloatOps.addf (F := Ideal) (φ := .f32) (FloatOps.maximumf (F := Ideal) (φ := .f32) (x : EReal) (FloatOps.ofBits .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (x : EReal) (FloatOps.ofBits .f32 0x00000000#32)))))))
      = ((sp x : ℝ) : EReal) := by
  change Scalar.select (BitVec.ofBool (decide ((x : EReal) - Ideal.ofBits .f32 0x00000000#32 ≠ (x : EReal) - Ideal.ofBits .f32 0x00000000#32))) ((x : EReal) + Ideal.ofBits .f32 0x00000000#32)
    (max (x : EReal) (Ideal.ofBits .f32 0x00000000#32) + Ideal.log (1 + Ideal.exp (-(max ((x : EReal) - Ideal.ofBits .f32 0x00000000#32) (-((x : EReal) - Ideal.ofBits .f32 0x00000000#32)))))) = _
  rw [bits_zero]
  have e : (x : EReal) - ((0 : ℝ) : EReal) = (x : EReal) := by rw [← EReal.coe_sub, sub_zero]
  have e1 : (1 : EReal) = ((1 : ℝ) : EReal) := rfl
  have ea : max x (-x) = |x| := rfl
  rw [e, ← EReal.coe_neg, max_real x (-x), ea, ← EReal.coe_neg, Ideal.exp_coe, e1, ← EReal.coe_add 1, log_one_add _ (Real.exp_pos _), max_real, ← EReal.coe_add (max x 0)]
  simp only [ne_eq, not_true_eq_false, decide_false]
  rfl

/-- A finite number is not infinity. -/
theorem not_inf (x y : ℝ) :
    Scalar.select (FloatOps.cmpf (F := Ideal) (φ := .f32) .oeq (x : EReal) (FloatOps.ofBits .f32 0x7F800000#32)) (FloatOps.ofBits (F := Ideal) .f32 0x00000000#32) (y : EReal) = (y : EReal) := by
  change Scalar.select (BitVec.ofBool (decide ((x : EReal) = Ideal.ofBits .f32 0x7F800000#32))) _ _ = _
  rw [bits_inf, decide_eq_false (EReal.coe_ne_top x)]
  rfl

variable (P G : ℕ → ℕ → ℝ)

/-- The cotangent of the weights. -/
def dw (h i c : ℕ) : ℝ := ∑ d ∈ range 64, G i (64 * h + d) * P c (1536 + 64 * h + d)

theorem s_v6 : val_main_v6 (F := Ideal) (mat P) = cube (fun i h d => P i (512 + 64 * h + d)) := by
  funext i
  have h0 : (i 0).val < 4096 := (i 0).isLt
  have h1 : (i 1).val < 8 := (i 1).isLt
  have h2 : (i 2).val < 64 := (i 2).isLt
  rw [val_main_v6_apply, val_main_v3_apply, val_main_v0_apply]
  refine congrArg (fun x : ℝ => (x : EReal)) (congrArg₂ P ?_ ?_)
  · show (((i 0).val * 8 + (i 1).val) * 64 + (i 2).val) / 512 = (i 0).val
    omega
  · show 512 + (((i 0).val * 8 + (i 1).val) * 64 + (i 2).val) % 512 = 512 + 64 * (i 1).val + (i 2).val
    omega

theorem s_v7 : val_main_v7 (F := Ideal) (mat P) = cube (fun i h d => P i (1024 + 64 * h + d)) := by
  funext i
  have h0 : (i 0).val < 4096 := (i 0).isLt
  have h1 : (i 1).val < 8 := (i 1).isLt
  have h2 : (i 2).val < 64 := (i 2).isLt
  rw [val_main_v7_apply, val_main_v4_apply, val_main_v1_apply]
  refine congrArg (fun x : ℝ => (x : EReal)) (congrArg₂ P ?_ ?_)
  · show (((i 0).val * 8 + (i 1).val) * 64 + (i 2).val) / 512 = (i 0).val
    omega
  · show 1024 + (((i 0).val * 8 + (i 1).val) * 64 + (i 2).val) % 512 = 1024 + 64 * (i 1).val + (i 2).val
    omega

theorem s_v8 : val_main_v8 (F := Ideal) (mat P) = cube (fun i h d => P i (1536 + 64 * h + d)) := by
  funext i
  have h0 : (i 0).val < 4096 := (i 0).isLt
  have h1 : (i 1).val < 8 := (i 1).isLt
  have h2 : (i 2).val < 64 := (i 2).isLt
  rw [val_main_v8_apply, val_main_v5_apply, val_main_v2_apply]
  refine congrArg (fun x : ℝ => (x : EReal)) (congrArg₂ P ?_ ?_)
  · show (((i 0).val * 8 + (i 1).val) * 64 + (i 2).val) / 512 = (i 0).val
    omega
  · show 1536 + (((i 0).val * 8 + (i 1).val) * 64 + (i 2).val) % 512 = 1536 + 64 * (i 1).val + (i 2).val
    omega

theorem s_v32 : val_main_v32 (F := Ideal) (mat G) = cube (fun i h d => G i (64 * h + d)) := by
  funext i
  have h0 : (i 0).val < 4096 := (i 0).isLt
  have h1 : (i 1).val < 8 := (i 1).isLt
  have h2 : (i 2).val < 64 := (i 2).isLt
  rw [val_main_v32_apply]
  refine congrArg (fun x : ℝ => (x : EReal)) (congrArg₂ G ?_ ?_)
  · show (((i 0).val * 8 + (i 1).val) * 64 + (i 2).val) / 512 = (i 0).val
    omega
  · show (((i 0).val * 8 + (i 1).val) * 64 + (i 2).val) % 512 = 64 * (i 1).val + (i 2).val
    omega

theorem s_v33 : val_main_v33 (F := Ideal) (mat G) = cube (fun h d i => G i (64 * h + d)) := by
  funext i
  rw [val_main_v33_apply, s_v32]
  rfl

theorem s_v9 : val_main_v9 (F := Ideal) (mat P) = cube (fun h i c => ∑ d ∈ range 64, P i (512 + 64 * h + d) * P c (1024 + 64 * h + d)) := by
  funext i
  rw [val_main_v9_apply, s_v6, s_v7]
  simp only [cube, ← EReal.coe_mul, sum_univ_coe]
  refine congrArg (fun x : ℝ => (x : EReal)) ?_
  beta_reduce
  rw [Finset.sum_range]

theorem s_v11 : val_main_v11 (F := Ideal) (mat P) = cube (fun h i c => zz P h i c) := by
  funext i
  rw [val_main_v11_apply, s_v9, val_main_v10_apply, val_main_cst_apply]
  change ((_ : ℝ) : EReal) * Ideal.ofBits .f32 0x3E000000#32 = _
  rw [bits_eighth, ← EReal.coe_mul]
  rfl

theorem s_v19 : val_main_v19 (F := Ideal) (mat P) = cube (fun h i c => -zz P h i c) := by
  funext i
  rw [val_main_v19_apply, s_v11]
  exact (EReal.coe_neg _).symm

theorem s_call0_v0 : val_main_call0_v0 (F := Ideal) (mat P) = cube (fun h i c => zz P h i c) := by
  funext i
  rw [val_main_call0_v0_apply, s_v19]
  exact (EReal.coe_neg _).symm.trans (congrArg (fun x : ℝ => (x : EReal)) (neg_neg _))

theorem s_call3_v0 : val_main_call3_v0 (F := Ideal) (mat P) = cube (fun h i c => -zz P h i c) := by
  funext i
  rw [val_main_call3_v0_apply, s_v11]
  exact (EReal.coe_neg _).symm

theorem s_call0_v1_0 : val_main_call0_v1_0 (F := Ideal) (mat P) = cube (fun h i c => sp (zz P h i c)) := by
  funext i
  simp only [val_main_call0_v1_0_apply, val_main_call0_call0_v4_apply, val_main_call0_call0_v3_apply, val_main_call0_call0_v6_apply, val_main_call0_call0_v11_apply,
    val_main_call0_call0_v1_apply, val_main_call0_call0_v10_apply, val_main_call0_call0_v9_apply, val_main_call0_call0_v8_apply, val_main_call0_call0_v7_apply,
    val_main_call0_call0_v0_apply, val_main_call0_call0_v2_apply, val_main_call0_call0_v5_apply, val_main_call0_call0_cst_apply, s_call0_v0]
  exact soft_scalar _

theorem s_call0_call0_v21 : val_main_call0_call0_v21 (F := Ideal) (mat P) = cube (fun h i c => zz P h i c - sp (zz P h i c)) := by
  funext i
  simp only [val_main_call0_call0_v21_apply, val_main_call0_call0_v16_apply, val_main_call0_call0_v14_apply, val_main_call0_call0_v13_apply, val_main_call0_call0_cst_0_apply,
    val_main_call0_call0_v15_apply, val_main_call0_call0_cst_1_apply, val_main_call0_call0_v20_apply, val_main_call0_call0_v18_apply, val_main_call0_call0_v17_apply, val_main_call0_call0_cst_2_apply,
    val_main_call0_call0_v19_apply, val_main_call0_call0_cst_3_apply, s_call0_v0, s_call0_v1_0]
  exact (congrArg₂ (fun a b : EReal => a - b) (not_inf _ _) (not_inf _ _)).trans (EReal.coe_sub _ _).symm

theorem s_v20_1 : val_main_v20_1 (F := Ideal) (mat P) = cube (fun h i c => Real.exp (ls (zz P h i c))) := by
  funext i
  rw [val_main_v20_1_apply, s_call0_call0_v21]
  exact (Ideal.exp_coe _).trans (congrArg (fun x : ℝ => (x : EReal)) (exp_sub_sp _))

theorem s_v20_0 : val_main_v20_0 (F := Ideal) (mat P) = cube (fun h i c => lk (zz P h i c)) := by
  funext i
  rw [val_main_v20_0_apply, s_call0_v1_0]
  exact (EReal.coe_neg _).symm.trans (congrArg (fun x : ℝ => (x : EReal)) (lk_eq _).symm)

theorem s_call3_v1_0 : val_main_call3_v1_0 (F := Ideal) (mat P) = cube (fun h i c => sp (-zz P h i c)) := by
  funext i
  simp only [val_main_call3_v1_0_apply, val_main_call3_call0_v4_apply, val_main_call3_call0_v3_apply, val_main_call3_call0_v6_apply, val_main_call3_call0_v11_apply,
    val_main_call3_call0_v1_apply, val_main_call3_call0_v10_apply, val_main_call3_call0_v9_apply, val_main_call3_call0_v8_apply, val_main_call3_call0_v7_apply,
    val_main_call3_call0_v0_apply, val_main_call3_call0_v2_apply, val_main_call3_call0_v5_apply, val_main_call3_call0_cst_apply, s_call3_v0]
  exact soft_scalar _

theorem s_call3_call0_v21 : val_main_call3_call0_v21 (F := Ideal) (mat P) = cube (fun h i c => -zz P h i c - sp (-zz P h i c)) := by
  funext i
  simp only [val_main_call3_call0_v21_apply, val_main_call3_call0_v16_apply, val_main_call3_call0_v14_apply, val_main_call3_call0_v13_apply, val_main_call3_call0_cst_0_apply,
    val_main_call3_call0_v15_apply, val_main_call3_call0_cst_1_apply, val_main_call3_call0_v20_apply, val_main_call3_call0_v18_apply, val_main_call3_call0_v17_apply, val_main_call3_call0_cst_2_apply,
    val_main_call3_call0_v19_apply, val_main_call3_call0_cst_3_apply, s_call3_v0, s_call3_v1_0]
  exact (congrArg₂ (fun a b : EReal => a - b) (not_inf _ _) (not_inf _ _)).trans (EReal.coe_sub _ _).symm

theorem s_v24_1 : val_main_v24_1 (F := Ideal) (mat P) = cube (fun h i c => 1 - Real.exp (ls (zz P h i c))) := by
  funext i
  rw [val_main_v24_1_apply, s_call3_call0_v21]
  exact (Ideal.exp_coe _).trans (congrArg (fun x : ℝ => (x : EReal)) (exp_sub_sp_neg _))

theorem s_v24_0 : val_main_v24_0 (F := Ideal) (mat P) = cube (fun h i c => ls (zz P h i c)) := by
  funext i
  rw [val_main_v24_0_apply, s_call3_v1_0]
  exact (EReal.coe_neg _).symm.trans (congrArg (fun x : ℝ => (x : EReal)) (ls_eq _).symm)

/-- Which keys a query reads: those before it. -/
theorem mask_eq (i : S4096x4096.Idx) : val_main_v18 (F := Ideal) i = if (i 1).val < (i 0).val then 1#1 else 0#1 := by
  have h0 : (i 0).val < 4096 := (i 0).isLt
  have h1 : (i 1).val < 4096 := (i 1).isLt
  rw [val_main_v18_apply, val_main_v16_apply, val_main_v17_apply, val_main_v13_apply, val_main_v15_apply, val_main_v12_apply, val_main_v14_apply]
  refine (WordCmp.cmpi_slt_ofNat (show (i 1).val < 2 ^ 31 by omega) (show (i 0).val < 2 ^ 31 by omega)).trans ?_
  change BitVec.ofBool (decide ((i 1).val < (i 0).val)) = _
  by_cases h : (i 1).val < (i 0).val
  · rw [if_pos h, decide_eq_true h]; rfl
  · rw [if_neg h, decide_eq_false h]; rfl

theorem pick (a b c : ℕ) (x : ℝ) (z : EReal) (hz : z = ((0 : ℝ) : EReal)) :
    Scalar.select (if c < b then 1#1 else 0#1) ((x : ℝ) : EReal) z = (((if c < b then x else 0 : ℝ)) : EReal) := by
  rw [hz]
  split_ifs <;> rfl

theorem s_v21_0 : val_main_v21_0 (F := Ideal) (mat P) = cube (fun h i c => keep P h i c) := by
  funext i
  rw [val_main_v21_0_apply, val_main_v21_1_apply, mask_eq, s_v20_0]
  refine pick (i 0).val (i 1).val (i 2).val _ _ ?_
  rw [val_main_call1_v2_apply, val_main_call1_v0_apply, val_main_cst_0_apply]
  exact bits_zero

theorem s_v22 : val_main_v22 (F := Ideal) (mat P) = cube (fun h i c => ∑ c' ∈ Ico c 4096, keep P h i c') := by
  have e : val_main_call2_v0 (F := Ideal) = fun _ => (0 : EReal) := by
    funext i
    rw [val_main_call2_v0_apply, val_main_call2_cst_apply]
    exact bits_zero
  unfold val_main_v22
  rw [s_v21_0, e]
  refine (window_sum 0 4095 _ _ _).trans (cube_congr fun h i c _ _ _ => ?_)
  exact from_eq _ _

theorem s_v23 : val_main_v23 (F := Ideal) (mat P) = cube (fun h i c => ∑ c' ∈ Ico (c + 1) 4096, keep P h i c') := by
  funext i
  have h2 : (i 2).val < 4096 := (i 2).isLt
  rw [val_main_v23_apply, s_v22, s_v21_0]
  refine (EReal.coe_sub _ _).symm.trans (congrArg (fun x : ℝ => (x : EReal)) ?_)
  dsimp only
  rw [sum_eq_sum_Ico_succ_bot h2, add_sub_cancel_left]

theorem s_v25 : val_main_v25 (F := Ideal) (mat P) = cube (fun h i c => ls (zz P h i c) + ∑ c' ∈ Ico (c + 1) 4096, keep P h i c') := by
  funext i
  rw [val_main_v25_apply, s_v24_0, s_v23]
  exact (EReal.coe_add _ _).symm

theorem s_v26 : val_main_v26 (F := Ideal) (mat P) = cube (fun h i c => Real.exp (ls (zz P h i c) + ∑ c' ∈ Ico (c + 1) 4096, keep P h i c')) := by
  funext i
  rw [val_main_v26_apply, s_v25]
  exact Ideal.exp_coe _

theorem s_v27_0 : val_main_v27_0 (F := Ideal) (mat P) = cube (fun h i c => wt P h i c) := by
  funext i
  rw [val_main_v27_0_apply, val_main_v27_1_apply, mask_eq, s_v26]
  refine pick (i 0).val (i 1).val (i 2).val _ _ ?_
  rw [val_main_call4_v2_apply, val_main_call4_v0_apply, val_main_cst_1_apply]
  exact bits_zero

theorem s_v28 : val_main_v28 (F := Ideal) (mat P) = cube (fun h i c => wt P h i c) := by
  funext i
  rw [val_main_v28_apply, s_v27_0]
  rfl

theorem s_v34 : val_main_v34 (F := Ideal) (mat P) (mat G) = cube (fun h i c => dw P G h i c) := by
  funext i
  rw [val_main_v34_apply, s_v33, s_v8]
  simp only [cube, ← EReal.coe_mul, sum_univ_coe]
  refine congrArg (fun x : ℝ => (x : EReal)) ?_
  beta_reduce
  unfold dw
  rw [Finset.sum_range]

theorem s_v38 : val_main_v38 (F := Ideal) (mat P) (mat G) = cube (fun h i c => dw P G h i c) := by
  funext i
  rw [val_main_v38_apply, val_main_v35_apply, s_v34]
  rfl

theorem s_v39 : val_main_v39 (F := Ideal) (mat P) (mat G) = cube (fun h i c => if c < i then dw P G h i c else 0) := by
  funext i
  rw [val_main_v39_apply, val_main_v27_1_apply, mask_eq, s_v38]
  refine pick (i 0).val (i 1).val (i 2).val _ _ ?_
  rw [val_main_call5_v0_apply, val_main_call5_cst_apply]
  exact bits_zero

theorem s_v40 : val_main_v40 (F := Ideal) (mat P) (mat G) = cube (fun h i c => ee P G h i c) := by
  funext i
  rw [val_main_v40_apply, s_v39, s_v26]
  refine (EReal.coe_mul _ _).symm.trans (congrArg (fun x : ℝ => (x : EReal)) ?_)
  dsimp only
  unfold ee wt dw
  split_ifs
  · ring
  · ring

theorem s_v41 : val_main_v41 (F := Ideal) (mat P) (mat G) = cube (fun h i c => ee P G h i c * (1 - Real.exp (ls (zz P h i c)))) := by
  funext i
  rw [val_main_v41_apply, val_main_call6_v1_apply, val_main_call6_v0_apply, s_v40, s_v24_1]
  change -(-((_ : ℝ) : EReal) * ((_ : ℝ) : EReal)) = _
  rw [← EReal.coe_neg, ← EReal.coe_mul, ← EReal.coe_neg]
  refine congrArg (fun x : ℝ => (x : EReal)) ?_
  dsimp only
  ring

theorem s_v43 : val_main_v43 (F := Ideal) (mat P) (mat G) = cube (fun h i c => ∑ c' ∈ range (c + 1), ee P G h i c') := by
  have e : val_main_call7_v0 (F := Ideal) = fun _ => (0 : EReal) := by
    funext i
    rw [val_main_call7_v0_apply, val_main_call7_cst_apply]
    exact bits_zero
  unfold val_main_v43
  rw [s_v40, e]
  refine (window_sum 4095 0 _ _ _).trans (cube_congr fun h i c _ _ hc => ?_)
  exact upto_eq _ _ hc

theorem s_v44 : val_main_v44 (F := Ideal) (mat P) (mat G) = cube (fun h i c => ∑ c' ∈ range c, ee P G h i c') := by
  funext i
  rw [val_main_v44_apply, val_main_v42_apply, s_v40, s_v43]
  change -((_ : ℝ) : EReal) + ((_ : ℝ) : EReal) = _
  rw [← EReal.coe_neg, ← EReal.coe_add]
  refine congrArg (fun x : ℝ => (x : EReal)) ?_
  dsimp only
  rw [sum_range_succ]
  ring

theorem s_v45 : val_main_v45 (F := Ideal) (mat P) (mat G) = cube (fun h i c => if c < i then ∑ c' ∈ range c, ee P G h i c' else 0) := by
  funext i
  rw [val_main_v45_apply, val_main_v21_1_apply, mask_eq, s_v44]
  refine pick (i 0).val (i 1).val (i 2).val _ _ ?_
  rw [val_main_call8_v0_apply, val_main_call8_cst_apply]
  exact bits_zero

theorem s_v47 : val_main_v47 (F := Ideal) (mat P) (mat G) = cube (fun h i c => -((if c < i then ∑ c' ∈ range c, ee P G h i c' else 0) * Real.exp (ls (zz P h i c)))) := by
  funext i
  rw [val_main_v47_apply, val_main_v46_apply, val_main_call9_v1_apply, val_main_call9_v0_apply, s_v45, s_v20_1]
  change -(-(-((_ : ℝ) : EReal) * ((_ : ℝ) : EReal))) = _
  rw [← EReal.coe_neg, ← EReal.coe_mul, ← EReal.coe_neg, ← EReal.coe_neg]
  refine congrArg (fun x : ℝ => (x : EReal)) ?_
  dsimp only
  ring

theorem s_v50 : val_main_v50 (F := Ideal) (mat P) (mat G) = cube (fun h i c => dz P G h i c) := by
  funext i
  rw [val_main_v50_apply, val_main_v48_apply, s_v41, s_v47, val_main_v49_apply, val_main_cst_2_apply]
  change (((_ : ℝ) : EReal) + ((_ : ℝ) : EReal)) * Ideal.ofBits .f32 0x3E000000#32 = _
  rw [bits_eighth, ← EReal.coe_add, ← EReal.coe_mul]
  refine congrArg (fun x : ℝ => (x : EReal)) ?_
  dsimp only
  unfold dz
  split_ifs with hc
  · ring
  · rw [show ee P G (i 0).val (i 1).val (i 2).val = 0 by rw [ee, wt_zero P _ (not_lt.1 hc), zero_mul]]; ring

theorem s_v36 : val_main_v36 (F := Ideal) (mat P) (mat G) = cube (fun h d c => ∑ i ∈ range 4096, G i (64 * h + d) * wt P h i c) := by
  funext i
  rw [val_main_v36_apply, s_v33, s_v28]
  simp only [cube, ← EReal.coe_mul, sum_univ_coe]
  refine congrArg (fun x : ℝ => (x : EReal)) ?_
  beta_reduce
  rw [Finset.sum_range]

theorem s_v51 : val_main_v51 (F := Ideal) (mat P) (mat G) = cube (fun h c d => ∑ i ∈ range 4096, dz P G h i c * P i (512 + 64 * h + d)) := by
  funext i
  rw [val_main_v51_apply, s_v50, s_v6]
  simp only [cube, ← EReal.coe_mul, sum_univ_coe]
  refine congrArg (fun x : ℝ => (x : EReal)) ?_
  beta_reduce
  rw [Finset.sum_range]

theorem s_v53 : val_main_v53 (F := Ideal) (mat P) (mat G) = cube (fun h i d => ∑ c ∈ range 4096, dz P G h i c * P c (1024 + 64 * h + d)) := by
  funext i
  rw [val_main_v53_apply, s_v50, s_v7]
  simp only [cube, ← EReal.coe_mul, sum_univ_coe]
  refine congrArg (fun x : ℝ => (x : EReal)) ?_
  beta_reduce
  rw [Finset.sum_range]

theorem s_v57 : val_main_v57 (F := Ideal) (mat P) (mat G) = mat fun i a => gq P G (a / 64) i (a % 64) := by
  funext i
  have h0 : (i 0).val < 4096 := (i 0).isLt
  have h1 : (i 1).val < 512 := (i 1).isLt
  rw [val_main_v57_apply, val_main_v54_apply, s_v53]
  refine congrArg (fun x : ℝ => (x : EReal)) ?_
  have e0 : ((i 0).val * 512 + (i 1).val) / 512 = (i 0).val := by omega
  have e1 : ((i 0).val * 512 + (i 1).val) / 64 % 8 = (i 1).val / 64 := by omega
  have e2 : ((i 0).val * 512 + (i 1).val) % 64 = (i 1).val % 64 := by omega
  have e3 : 64 * ((i 1).val / 64) + (i 1).val % 64 = (i 1).val := by omega
  change ∑ c ∈ range 4096, dz P G (((i 0).val * 512 + (i 1).val) / 64 % 8) (((i 0).val * 512 + (i 1).val) / 512) c * P c (1024 + 64 * (((i 0).val * 512 + (i 1).val) / 64 % 8) + ((i 0).val * 512 + (i 1).val) % 64) = _
  rw [e0, e1, e2]
  rfl

theorem s_v56 : val_main_v56 (F := Ideal) (mat P) (mat G) = mat (soFar (T7 P G) 4096) := by
  funext i
  have h0 : (i 0).val < 4096 := (i 0).isLt
  have h1 : (i 1).val < 512 := (i 1).isLt
  rw [val_main_v56_apply, val_main_v52_apply, s_v51]
  refine congrArg (fun x : ℝ => (x : EReal)) ?_
  have e0 : ((i 0).val * 512 + (i 1).val) / 512 = (i 0).val := by omega
  have e1 : ((i 0).val * 512 + (i 1).val) / 64 % 8 = (i 1).val / 64 := by omega
  have e2 : ((i 0).val * 512 + (i 1).val) % 64 = (i 1).val % 64 := by omega
  have e3 : 64 * ((i 1).val / 64) + (i 1).val % 64 = (i 1).val := by omega
  change ∑ c ∈ range 4096, dz P G (((i 0).val * 512 + (i 1).val) / 64 % 8) c (((i 0).val * 512 + (i 1).val) / 512) * P c (512 + 64 * (((i 0).val * 512 + (i 1).val) / 64 % 8) + ((i 0).val * 512 + (i 1).val) % 64) = ∑ c ∈ range 4096, dz P G ((i 1).val / 64) c (i 0).val * P c (512 + (i 1).val)
  rw [e0, e1, e2, add_assoc, e3]

theorem s_v55 : val_main_v55 (F := Ideal) (mat P) (mat G) = mat (soFar (T8 P G) 4096) := by
  funext i
  have h0 : (i 0).val < 4096 := (i 0).isLt
  have h1 : (i 1).val < 512 := (i 1).isLt
  rw [val_main_v55_apply, val_main_v37_apply, s_v36]
  refine congrArg (fun x : ℝ => (x : EReal)) ?_
  have e0 : ((i 0).val * 512 + (i 1).val) / 512 = (i 0).val := by omega
  have e1 : ((i 0).val * 512 + (i 1).val) / 64 % 8 = (i 1).val / 64 := by omega
  have e2 : ((i 0).val * 512 + (i 1).val) % 64 = (i 1).val % 64 := by omega
  have e3 : 64 * ((i 1).val / 64) + (i 1).val % 64 = (i 1).val := by omega
  change ∑ c ∈ range 4096, G c (64 * (((i 0).val * 512 + (i 1).val) / 64 % 8) + ((i 0).val * 512 + (i 1).val) % 64) * wt P (((i 0).val * 512 + (i 1).val) / 64 % 8) c (((i 0).val * 512 + (i 1).val) / 512) = ∑ c ∈ range 4096, wt P ((i 1).val / 64) c (i 0).val * G c (i 1).val
  rw [e0, e1, e2, e3]
  exact sum_congr rfl fun _ _ => mul_comm _ _

end Cert.Proof.SbRef
-- ==== Proof.SbClaim.lean ====
module

public import proofs.«01_k».proof.Proof.SbValue
public import proofs.«01_k».proof.Proof.SbRef
public import proofs.«01_k».proof.Proof.Gen.Reference3Ideal.Run
public import proofs.«01_k».proof.Defs

/-!
# The attention's gradient: the kernel computes the derivative of the attention
-/

@[expose] public section

set_option maxRecDepth 8192
set_option maxHeartbeats 4000000

noncomputable section

namespace Cert.Proof.SbClaim

open Idealize.ShloMosaic Idealize.ShloMosaic.TcCoe Idealize.SL.Sem Cert.Proof.Reals
open Cert.Kernel3Ideal.Sb (mat soFar T7 T8 datR runR finalR4 finalR5 finalR6)
open Cert.Proof.Sb (gq)

/-- A matrix of real numbers as a function of two naturals. -/
def ofIdx {n m : ℕ} (X : (⟨2, ![n, m]⟩ : Shape).Idx → ℝ) (i k : ℕ) : ℝ :=
  if h : i < n ∧ k < m then X (ix2 ⟨i, h.1⟩ ⟨k, h.2⟩) else 0

theorem up_eq {n m : ℕ} (X : (⟨2, ![n, m]⟩ : Shape).Idx → ℝ) : up X = mat (ofIdx X) := by
  funext j
  change ((X j : ℝ) : EReal) = ((ofIdx X (j 0).val (j 1).val : ℝ) : EReal)
  rw [ofIdx, dif_pos ⟨(j 0).isLt, (j 1).isLt⟩]
  exact congrArg (fun i => ((X i : ℝ) : EReal)) (funext fun a => match a with
    | ⟨0, _⟩ => rfl
    | ⟨1, _⟩ => rfl)

/-- The argument arrays of the precondition are real. -/
theorem real_args [hP : Cert.Pre_finite3.Facts]
    {m : (ℓ : Loc Cert.Kernel3Ideal.nD Cert.Kernel3Ideal.τ Cert.Kernel3Ideal.sig) → Buf (Elt Ideal) ℓ}
    (h : Cert.Pre_Kernel3Ideal_finite3 m) (c : Dev Cert.Kernel3Ideal.nD) :
    ∃ P G : ℕ → ℕ → ℝ,
      (m ((c : Thread Cert.Kernel3Ideal.nD Cert.Kernel3Ideal.τ).loc Cert.Kernel3Ideal.main_arg0) : Cert.Kernel3Ideal.S4096x2048.Idx → EReal) = mat P ∧
      (m ((c : Thread Cert.Kernel3Ideal.nD Cert.Kernel3Ideal.τ).loc Cert.Kernel3Ideal.main_arg1) : Cert.Kernel3Ideal.S4096x512.Idx → EReal) = mat G := by
  obtain ⟨e0, e1⟩ := h c
  unfold Cert.Pre_finite3.fn at e0 e1
  dsimp only at e0 e1
  haveI : Subsingleton Cert.Pre_finite3.S_.Idx := ⟨fun a b => funext fun i => i.elim0⟩
  obtain ⟨X, hX⟩ := real_of_all _ _ _ _ _ _ (congrFun e0 fun i => i.elim0)
  obtain ⟨G, hG⟩ := real_of_all _ _ _ _ _ _ (congrFun e1 fun i => i.elim0)
  exact ⟨ofIdx X, ofIdx G, hX.trans (up_eq X), hG.trans (up_eq G)⟩

/-- The kernel and the derivative of the attention end with equal arrays. -/
theorem algebraic [Cert.Pre_finite3.Facts] : Cert.algebraic_Kernel3Ideal_Reference3Ideal_pre_finite3 := by
  intro m g m' g' hpre hagree
  choose P G hp hg using real_args hpre
  refine ⟨fun c => (mat fun i a => gq (P c) (G c) (a / 64) i (a % 64) : Cert.Kernel3Ideal.S4096x512.Idx → EReal),
    fun c => (mat (soFar (T7 (P c) (G c)) 4096) : Cert.Kernel3Ideal.S4096x512.Idx → EReal),
    fun c => (mat (soFar (T8 (P c) (G c)) 4096) : Cert.Kernel3Ideal.S4096x512.Idx → EReal), ?_, ?_⟩
  · refine (θ_run _ _ _).mono (fun r h c => ?_) (runR m g P G hp hg)
    exact ⟨(Pipeline.FramePost.out_eq h c 4).trans (finalR4 m P G c), (Pipeline.FramePost.out_eq h c 5).trans (finalR5 m P G c),
      (Pipeline.FramePost.out_eq h c 6).trans (finalR6 m P G c), Pipeline.FramePost.in_eq h c 0 rfl, Pipeline.FramePost.in_eq h c 3 rfl⟩
  · refine (θ_run _ _ _).mono (fun r h c => ?_) (Cert.Reference3Ideal.Value.run m' g')
    obtain ⟨a0, a1⟩ := hagree c
    obtain ⟨r0, r1, r2, k⟩ := h c
    refine ⟨?_, ?_, ?_, k⟩
    · refine (r0.trans (Cert.Reference3Ideal.Read.val_main_v57_eq m' c)).trans ?_
      rw [a0, a1, hp c, hg c]
      exact Cert.Proof.SbRef.s_v57 (P c) (G c)
    · refine (r1.trans (Cert.Reference3Ideal.Read.val_main_v56_eq m' c)).trans ?_
      rw [a0, a1, hp c, hg c]
      exact Cert.Proof.SbRef.s_v56 (P c) (G c)
    · refine (r2.trans (Cert.Reference3Ideal.Read.val_main_v55_eq m' c)).trans ?_
      rw [a0, a1, hp c, hg c]
      exact Cert.Proof.SbRef.s_v55 (P c) (G c)

end Cert.Proof.SbClaim

end
-- ==== Proof.Mats.lean ====
module

public import proofs.«01_k».proof.Proof.Reals
public import Idealize.ShloMosaic.Lib.Pipeline.ValueKit

/-!
# Arrays of real numbers

Arrays whose entries are real numbers given by a function of the indices as naturals, and the lines of an RMS norm in
those terms.
-/

@[expose] public section

noncomputable section

namespace Cert.Proof.Mats

open Idealize.ShloMosaic Cert.Proof.Reals

/-- A vector of real numbers. -/
def vec {n : ℕ} (f : ℕ → ℝ) : (⟨1, ![n]⟩ : Shape).Idx → EReal := fun j => ((f (j 0).val : ℝ) : EReal)

/-- A matrix of real numbers. -/
def mat {n m : ℕ} (f : ℕ → ℕ → ℝ) : (⟨2, ![n, m]⟩ : Shape).Idx → EReal := fun j => ((f (j 0).val (j 1).val : ℝ) : EReal)

/-- An array of real numbers with three axes. -/
def cube {n m k : ℕ} (f : ℕ → ℕ → ℕ → ℝ) : (⟨3, ![n, m, k]⟩ : Shape).Idx → EReal :=
  fun j => ((f (j 0).val (j 1).val (j 2).val : ℝ) : EReal)

theorem vec_ix1 {n : ℕ} (f : ℕ → ℝ) (a : Fin n) : vec f (ix1 a) = ((f a.val : ℝ) : EReal) := rfl

theorem mat_ix2 {n m : ℕ} (f : ℕ → ℕ → ℝ) (a : Fin n) (b : Fin m) : mat f (ix2 a b) = ((f a.val b.val : ℝ) : EReal) := rfl

theorem cube_ix3 {n m k : ℕ} (f : ℕ → ℕ → ℕ → ℝ) (a : Fin n) (b : Fin m) (c : Fin k) :
    cube f (ix3 a b c) = ((f a.val b.val c.val : ℝ) : EReal) := rfl

theorem mat_congr {n m : ℕ} {f f' : ℕ → ℕ → ℝ} (h : ∀ a b, a < n → b < m → f a b = f' a b) :
    (mat f : (⟨2, ![n, m]⟩ : Shape).Idx → EReal) = mat f' :=
  funext fun j => congrArg (fun x : ℝ => (x : EReal)) (h _ _ (j 0).isLt (j 1).isLt)

theorem cube_congr {n m k : ℕ} {f f' : ℕ → ℕ → ℕ → ℝ} (h : ∀ a b c, a < n → b < m → c < k → f a b c = f' a b c) :
    (cube f : (⟨3, ![n, m, k]⟩ : Shape).Idx → EReal) = cube f' :=
  funext fun j => congrArg (fun x : ℝ => (x : EReal)) (h _ _ _ (j 0).isLt (j 1).isLt (j 2).isLt)

/-- A real vector as a function of a natural. -/
def ofVec {n : ℕ} (X : (⟨1, ![n]⟩ : Shape).Idx → ℝ) (i : ℕ) : ℝ := if h : i < n then X (ix1 ⟨i, h⟩) else 0

/-- A real matrix as a function of two naturals. -/
def ofMat {n m : ℕ} (X : (⟨2, ![n, m]⟩ : Shape).Idx → ℝ) (i k : ℕ) : ℝ :=
  if h : i < n ∧ k < m then X (ix2 ⟨i, h.1⟩ ⟨k, h.2⟩) else 0

theorem up_vec {n : ℕ} (X : (⟨1, ![n]⟩ : Shape).Idx → ℝ) : up X = vec (ofVec X) := by
  funext j
  change ((X j : ℝ) : EReal) = ((ofVec X (j 0).val : ℝ) : EReal)
  rw [ofVec, dif_pos (show (j 0).val < n from (j 0).isLt)]
  exact congrArg (fun i => ((X i : ℝ) : EReal)) (funext fun a => match a with
    | ⟨0, _⟩ => rfl)

theorem up_mat {n m : ℕ} (X : (⟨2, ![n, m]⟩ : Shape).Idx → ℝ) : up X = mat (ofMat X) := by
  funext j
  change ((X j : ℝ) : EReal) = ((ofMat X (j 0).val (j 1).val : ℝ) : EReal)
  rw [ofMat, dif_pos ⟨(j 0).isLt, (j 1).isLt⟩]
  exact congrArg (fun i => ((X i : ℝ) : EReal)) (funext fun a => match a with
    | ⟨0, _⟩ => rfl
    | ⟨1, _⟩ => rfl)

/-- A part of a matrix. -/
theorem ld_mat {a b p q : ℕ} (f : ℕ → ℕ → ℝ) (o : Fin 2 → ℕ)
    (h : ∀ x, o x + (![p, q] : Fin 2 → ℕ) x ≤ (⟨2, ![a, b]⟩ : Shape).size x) :
    View.ld (Val := Elt Ideal) (S := ⟨2, ![a, b]⟩) (e' := .f32) (mat f) (Rect.unit (s := ⟨2, ![a, b]⟩) o ![p, q] h) =
      (mat fun i k => f (o 0 + i) (o 1 + k) : (⟨2, ![p, q]⟩ : Shape).Idx → EReal) :=
  funext fun j => congrArg (fun x : ℝ => (x : EReal)) (congrArg₂ f (Rect.idx_unit_val (s := ⟨2, ![a, b]⟩) o _ h j 0)
    (Rect.idx_unit_val (s := ⟨2, ![a, b]⟩) o _ h j 1))

/-- The same of a matrix of half width. -/
theorem ld_mat' {a b p q : ℕ} (f : ℕ → ℕ → ℝ) (o : Fin 2 → ℕ)
    (h : ∀ x, o x + (![p, q] : Fin 2 → ℕ) x ≤ (⟨2, ![a, b]⟩ : Shape).size x) :
    View.ld (Val := Elt Ideal) (S := ⟨2, ![a, b]⟩) (e' := .bf16) (mat f) (Rect.unit (s := ⟨2, ![a, b]⟩) o ![p, q] h) =
      (mat fun i k => f (o 0 + i) (o 1 + k) : (⟨2, ![p, q]⟩ : Shape).Idx → EReal) :=
  funext fun j => congrArg (fun x : ℝ => (x : EReal)) (congrArg₂ f (Rect.idx_unit_val (s := ⟨2, ![a, b]⟩) o _ h j 0)
    (Rect.idx_unit_val (s := ⟨2, ![a, b]⟩) o _ h j 1))

/-- A part of an array of half width and rank three. -/
theorem ld_cube' {a b d p q r : ℕ} (f : ℕ → ℕ → ℕ → ℝ) (o : Fin 3 → ℕ)
    (h : ∀ x, o x + (![p, q, r] : Fin 3 → ℕ) x ≤ (⟨3, ![a, b, d]⟩ : Shape).size x) :
    View.ld (Val := Elt Ideal) (S := ⟨3, ![a, b, d]⟩) (e' := .bf16) (cube f) (Rect.unit (s := ⟨3, ![a, b, d]⟩) o ![p, q, r] h) =
      (cube fun i k l => f (o 0 + i) (o 1 + k) (o 2 + l) : (⟨3, ![p, q, r]⟩ : Shape).Idx → EReal) :=
  funext fun j => congrArg (fun x : ℝ => (x : EReal)) (congr (congrArg₂ f (Rect.idx_unit_val (s := ⟨3, ![a, b, d]⟩) o _ h j 0)
    (Rect.idx_unit_val (s := ⟨3, ![a, b, d]⟩) o _ h j 1)) (Rect.idx_unit_val (s := ⟨3, ![a, b, d]⟩) o _ h j 2))

/-- A stored part agrees with the matrix at its place. -/
theorem piece_mat {a b p q : ℕ} {f g : ℕ → ℕ → ℝ} {o : Fin 2 → ℕ}
    {h : ∀ x, o x + (![p, q] : Fin 2 → ℕ) x ≤ (⟨2, ![a, b]⟩ : Shape).size x}
    (hf : ∀ i k, i < p → k < q → f i k = g (o 0 + i) (o 1 + k)) (x : (⟨2, ![p, q]⟩ : Shape).Idx) :
    mat f x = (mat g : (⟨2, ![a, b]⟩ : Shape).Idx → EReal) ((Rect.unit (s := ⟨2, ![a, b]⟩) o ![p, q] h).emb x) :=
  congrArg (fun r : ℝ => (r : EReal)) ((hf _ _ (x 0).isLt (x 1).isLt).trans
    (congrArg₂ g (Rect.idx_unit_val (s := ⟨2, ![a, b]⟩) o _ h x 0).symm
      (Rect.idx_unit_val (s := ⟨2, ![a, b]⟩) o _ h x 1).symm))

/-- An index lies in a part when its coordinates do. -/
theorem mem_rect {a b : ℕ} {o s : Fin 2 → ℕ} {h : ∀ x, o x + s x ≤ (⟨2, ![a, b]⟩ : Shape).size x}
    (y : (⟨2, ![a, b]⟩ : Shape).Idx) (h0 : o 0 ≤ (y 0).val ∧ (y 0).val < o 0 + s 0)
    (h1 : o 1 ≤ (y 1).val ∧ (y 1).val < o 1 + s 1) : y ∈ (Rect.unit (s := ⟨2, ![a, b]⟩) o s h).set := by
  rw [Rect.mem_set_unit]
  intro x
  match x with
  | ⟨0, _⟩ => exact h0
  | ⟨1, _⟩ => exact h1

/-- A sum over blocks is the sum over all. -/
theorem sum_blocks {M : Type*} [AddCommMonoid M] {L : ℕ} (S n : ℕ) (f : ℕ → M) (h : L = S * n) :
    ∑ c : Fin S, ∑ l : Fin n, f (c.val * n + l.val) = ∑ l : Fin L, f l.val := by
  subst h
  exact Fin.sum_mul_add_congr fun _ _ _ => rfl

/-! ## An RMS norm of width 1024, and its gradient -/

/-- A row of width 1024. -/
def row (x : ℕ → ℝ) (k : Fin 1024) : ℝ := x k.val

/-- The reciprocal root mean square of a row. -/
def rf (x : ℕ → ℝ) : ℝ := rfac (row x)

/-- The mean square of a row, plus `eps`. -/
def ms (x : ℕ → ℝ) : ℝ := msq (row x)

theorem ms_eq (x : ℕ → ℝ) : (∑ k : Fin 1024, x k.val * x k.val) / 1024 + eps = ms x := rfl

theorem rf_eq (x : ℕ → ℝ) : Ideal.rsqrt (ms x : EReal) = (rf x : EReal) := rfac_eq _

/-- The gradient of the normalised row: `d` is its cotangent. -/
def ng (x d : ℕ → ℝ) (k : ℕ) : ℝ := rf x * (d k - x k * rf x * ((∑ l : Fin 1024, d l.val * (x l.val * rf x)) / 1024))

theorem ng_eq (x d : ℕ → ℝ) (k : ℕ) (hk : k < 1024) :
    d k * rf x + x k * ((∑ l : Fin 1024, x l.val * d l.val) * (-(1 / 2) * (rf x / ms x)) / 1024)
      + (∑ l : Fin 1024, x l.val * d l.val) * (-(1 / 2) * (rf x / ms x)) / 1024 * x k = ng x d k :=
  normGrad_eq (row x) (fun l => d l.val) ⟨k, hk⟩

theorem ms_pos (x : ℕ → ℝ) : 0 < ms x := msq_pos _

end Cert.Proof.Mats

end
-- ==== Proof.Gate.lean ====
module

public import proofs.«01_k».proof.Proof.Mats

/-!
# The feed-forward block over the reals

The gate, the blocks of columns widened by zeros, and the arrays of the block's gradient.
-/

@[expose] public section

noncomputable section

namespace Cert.Proof.Gate

open Idealize.ShloMosaic Cert.Proof.Reals Cert.Proof.Mats

/-- The logistic function. -/
def sg (z : ℝ) : ℝ := (1 + Real.exp (-z))⁻¹

theorem sg_eq (z : ℝ) : Ideal.logistic (z : EReal) = (sg z : EReal) :=
  Ideal.logistic_coe z

/-- Eight blocks of 344 columns, each widened by zeros to 384. -/
def cp (W : ℕ → ℕ → ℝ) (k l : ℕ) : ℝ := if l % 384 < 344 then W k (l / 384 * 344 + l % 384) else 0

/-- The same for rows. -/
def rp (W : ℕ → ℕ → ℝ) (l k : ℕ) : ℝ := if l % 384 < 344 then W (l / 384 * 344 + l % 384) k else 0

/-- A sum over the widened blocks. -/
theorem sum_widened {M : Type*} [AddCommMonoid M] (f : ℕ → M) :
    ∑ l : Fin 3072, (if l.val % 384 < 344 then f (l.val / 384 * 344 + l.val % 384) else 0) = ∑ l : Fin 2752, f l.val := by
  rw [← sum_blocks 8 384 (fun l => if l % 384 < 344 then f (l / 384 * 344 + l % 384) else 0) rfl,
    ← sum_blocks 8 344 f rfl]
  refine Finset.sum_congr rfl fun b _ => ?_
  have h : ∀ l : Fin 384, (if (b.val * 384 + l.val) % 384 < 344 then
      f ((b.val * 384 + l.val) / 384 * 344 + (b.val * 384 + l.val) % 384) else 0) =
      if l.val < 344 then f (b.val * 344 + l.val) else 0 := fun l => by
    have hl := l.isLt
    rw [show (b.val * 384 + l.val) % 384 = l.val by omega, show (b.val * 384 + l.val) / 384 = b.val by omega]
  rw [Finset.sum_congr rfl fun l _ => h l]
  rw [Fin.sum_univ_eq_sum_range (fun l => if l < 344 then f (b.val * 344 + l) else 0) 384,
    Fin.sum_univ_eq_sum_range (fun l => f (b.val * 344 + l)) 344,
    ← Finset.sum_filter]
  refine Finset.sum_congr ?_ fun _ _ => rfl
  ext l
  simp only [Finset.mem_filter, Finset.mem_range]
  omega

variable (X D Wg Wu Wd : ℕ → ℕ → ℝ) (G : ℕ → ℝ)

/-- The normalised rows with the gain. -/
def hh (i k : ℕ) : ℝ := X i k * rf (X i) * G k

/-- A product of the normalised rows by a weight. -/
def pj (W : ℕ → ℕ → ℝ) (i l : ℕ) : ℝ := ∑ k : Fin 1024, hh X G i k.val * W k.val l

/-- The cotangent of the gated rows. -/
def da (i l : ℕ) : ℝ := ∑ k : Fin 1024, 1 / 2 * D i k.val * Wd l k.val

/-- The cotangent of the first factor's argument, of the gate's argument and the other factor. -/
def dgate (a p u : ℝ) : ℝ := a * u * (sg p * (1 + p * (1 - sg p)))

/-- The cotangent of the other factor. -/
def dup (a p : ℝ) : ℝ := a * (p * sg p)

/-- The cotangent of the gate's argument. -/
def dg (i l : ℕ) : ℝ := dgate (da D Wd i l) (pj X G Wg i l) (pj X G Wu i l)

/-- The cotangent of the other factor. -/
def du (i l : ℕ) : ℝ := dup (da D Wd i l) (pj X G Wg i l)

/-- The cotangent of the normalised rows. -/
def dn (i k : ℕ) : ℝ := (∑ l : Fin 2752, dg X D Wg Wu Wd G i l.val * Wg k l.val) + ∑ l : Fin 2752, du X D Wg Wd G i l.val * Wu k l.val

theorem pj_cp (W : ℕ → ℕ → ℝ) (i l : ℕ) : pj X G (cp W) i l = cp (pj X G W) i l := by
  simp only [pj, cp]
  split_ifs
  · rfl
  · simp

theorem da_rp (i l : ℕ) : da D (rp Wd) i l = cp (da D Wd) i l := by
  simp only [da, cp, rp]
  split_ifs
  · rfl
  · simp

theorem dg_cp (i l : ℕ) : dg X D (cp Wg) (cp Wu) (rp Wd) G i l = cp (dg X D Wg Wu Wd G) i l := by
  simp only [dg, pj_cp, da_rp]
  simp only [cp]
  split_ifs
  · rfl
  · simp [dgate]

theorem du_cp (i l : ℕ) : du X D (cp Wg) (rp Wd) G i l = cp (du X D Wg Wd G) i l := by
  simp only [du, pj_cp, da_rp]
  simp only [cp]
  split_ifs
  · rfl
  · simp [dup]

/-- The products over the widened columns are those over the columns. -/
theorem dn_cp (i k : ℕ) : (∑ l : Fin 3072, dg X D (cp Wg) (cp Wu) (rp Wd) G i l.val * cp Wg k l.val)
    + ∑ l : Fin 3072, du X D (cp Wg) (rp Wd) G i l.val * cp Wu k l.val = dn X D Wg Wu Wd G i k := by
  have e1 : ∀ l : Fin 3072, dg X D (cp Wg) (cp Wu) (rp Wd) G i l.val * cp Wg k l.val = if l.val % 384 < 344 then
      (fun n => dg X D Wg Wu Wd G i n * Wg k n) (l.val / 384 * 344 + l.val % 384) else 0 := fun l => by
    rw [dg_cp]
    simp only [cp]
    split_ifs
    · rfl
    · exact mul_zero _
  have e2 : ∀ l : Fin 3072, du X D (cp Wg) (rp Wd) G i l.val * cp Wu k l.val = if l.val % 384 < 344 then
      (fun n => du X D Wg Wd G i n * Wu k n) (l.val / 384 * 344 + l.val % 384) else 0 := fun l => by
    rw [du_cp]
    simp only [cp]
    split_ifs
    · rfl
    · exact mul_zero _
  exact congrArg₂ (· + ·) ((Finset.sum_congr rfl fun l _ => e1 l).trans (sum_widened fun n => dg X D Wg Wu Wd G i n * Wg k n))
    ((Finset.sum_congr rfl fun l _ => e2 l).trans (sum_widened fun n => du X D Wg Wd G i n * Wu k n))

/-- The widened columns of a weight, as the padding of its blocks. -/
theorem pad_cols_e {n : ℕ} (W : ℕ → ℕ → EReal) (x : (⟨3, ![n, 8, 344]⟩ : Shape).Idx → EReal)
    (hx : ∀ i, x i = W (i 0).val ((i 1).val * 344 + (i 2).val)) {u : Shape} (v : u.Idx → EReal)
    (hv : ∀ i, v i = 0) (h : (⟨3, ![n, 8, 344]⟩ : Shape).Pads ![0, 0, 0] ![0, 0, 40] ![0, 0, 0] ⟨3, ![n, 8, 384]⟩)
    (hu : 0 < u.numel) (a : Fin n) (b : Fin 8) (d : Fin 384) :
    pad ⟨3, ![n, 8, 384]⟩ ![0, 0, 0] ![0, 0, 40] ![0, 0, 0] x v h hu (ix3 a b d) =
      if d.val < 344 then W a.val (b.val * 344 + d.val) else 0 := by
  by_cases hd : d.val < 344
  · rw [if_pos hd, pad, dif_pos, hx]
    · simp [ix3]
      rfl
    · intro k
      match k with
      | ⟨0, _⟩ => exact ⟨Nat.zero_le _, by simp [Nat.mod_one], by simpa [ix3] using a.isLt⟩
      | ⟨1, _⟩ => exact ⟨Nat.zero_le _, by simp [Nat.mod_one], by simpa [ix3] using b.isLt⟩
      | ⟨2, _⟩ => exact ⟨Nat.zero_le _, by simp [Nat.mod_one], by simpa [ix3] using hd⟩
  · rw [if_neg hd, pad, dif_neg, hv]
    intro hk
    exact hd (by simpa [ix3] using (hk ⟨2, show 2 < 3 by decide⟩).2.2)

/-- The same for real entries. -/
theorem pad_cols {n : ℕ} (W : ℕ → ℕ → ℝ) (x : (⟨3, ![n, 8, 344]⟩ : Shape).Idx → EReal)
    (hx : ∀ i, x i = ((W (i 0).val ((i 1).val * 344 + (i 2).val) : ℝ) : EReal)) {u : Shape} (v : u.Idx → EReal)
    (hv : ∀ i, v i = 0) (h : (⟨3, ![n, 8, 344]⟩ : Shape).Pads ![0, 0, 0] ![0, 0, 40] ![0, 0, 0] ⟨3, ![n, 8, 384]⟩)
    (hu : 0 < u.numel) (a : Fin n) (b : Fin 8) (d : Fin 384) :
    pad ⟨3, ![n, 8, 384]⟩ ![0, 0, 0] ![0, 0, 40] ![0, 0, 0] x v h hu (ix3 a b d) =
      ((if d.val < 344 then W a.val (b.val * 344 + d.val) else 0 : ℝ) : EReal) :=
  (pad_cols_e (fun i k => (W i k : EReal)) x hx v hv h hu a b d).trans (by split_ifs <;> rfl)

/-- The same for the rows of a weight. -/
theorem pad_rows_e (W : ℕ → ℕ → EReal) (x : (⟨3, ![8, 344, 1024]⟩ : Shape).Idx → EReal)
    (hx : ∀ i, x i = W ((i 0).val * 344 + (i 1).val) (i 2).val) {u : Shape} (v : u.Idx → EReal)
    (hv : ∀ i, v i = 0) (h : (⟨3, ![8, 344, 1024]⟩ : Shape).Pads ![0, 0, 0] ![0, 40, 0] ![0, 0, 0] ⟨3, ![8, 384, 1024]⟩)
    (hu : 0 < u.numel) (b : Fin 8) (d : Fin 384) (a : Fin 1024) :
    pad ⟨3, ![8, 384, 1024]⟩ ![0, 0, 0] ![0, 40, 0] ![0, 0, 0] x v h hu (ix3 b d a) =
      if d.val < 344 then W (b.val * 344 + d.val) a.val else 0 := by
  by_cases hd : d.val < 344
  · rw [if_pos hd, pad, dif_pos, hx]
    · simp [ix3]
    · intro k
      match k with
      | ⟨0, _⟩ => exact ⟨Nat.zero_le _, by simp [Nat.mod_one], by simpa [ix3] using b.isLt⟩
      | ⟨1, _⟩ => exact ⟨Nat.zero_le _, by simp [Nat.mod_one], by simpa [ix3] using hd⟩
      | ⟨2, _⟩ => exact ⟨Nat.zero_le _, by simp [Nat.mod_one], by simpa [ix3] using a.isLt⟩
  · rw [if_neg hd, pad, dif_neg, hv]
    intro hk
    exact hd (by simpa [ix3] using (hk ⟨1, by decide⟩).2.2)

/-- The same for real entries. -/
theorem pad_rows (W : ℕ → ℕ → ℝ) (x : (⟨3, ![8, 344, 1024]⟩ : Shape).Idx → EReal)
    (hx : ∀ i, x i = ((W ((i 0).val * 344 + (i 1).val) (i 2).val : ℝ) : EReal)) {u : Shape} (v : u.Idx → EReal)
    (hv : ∀ i, v i = 0) (h : (⟨3, ![8, 344, 1024]⟩ : Shape).Pads ![0, 0, 0] ![0, 40, 0] ![0, 0, 0] ⟨3, ![8, 384, 1024]⟩)
    (hu : 0 < u.numel) (b : Fin 8) (d : Fin 384) (a : Fin 1024) :
    pad ⟨3, ![8, 384, 1024]⟩ ![0, 0, 0] ![0, 40, 0] ![0, 0, 0] x v h hu (ix3 b d a) =
      ((if d.val < 344 then W (b.val * 344 + d.val) a.val else 0 : ℝ) : EReal) :=
  (pad_rows_e (fun i k => (W i k : EReal)) x hx v hv h hu b d a).trans (by split_ifs <;> rfl)

end Cert.Proof.Gate

end
-- ==== Proof.Tok.lean ====
module

public import proofs.«01_k».proof.Proof.Gate
public import proofs.«01_k».proof.Proof.Gen.Kernel4Ideal.Value
public import Idealize.ShloMosaic.Lib.Pipeline.ValueKit

/-!
# The feed-forward block's gradient by tokens

The arrays of the kernel over the reals.
-/

@[expose] public section

set_option maxRecDepth 16384
set_option maxHeartbeats 2000000

noncomputable section

namespace Cert.Proof.Tok

open Idealize.ShloMosaic Idealize.ShloMosaic.TcCoe Idealize.SL.Sem Cert.Proof.Reals Cert.Proof.Mats Cert.Proof.Gate
open Cert.Kernel4Ideal Cert.Kernel4Ideal.Gen

variable (X D A P U : ℕ → ℕ → ℝ) (V : ℕ → ℕ → ℕ → ℝ) (G : ℕ → ℝ)

theorem pay2 : k0_pay2 (F := Ideal) (mat D) = mat fun i k => 1 / 2 * D i k := by
  funext j
  idx_vars j
  unfold k0_pay2
  pointwise
  simp only [mat_ix2, bits_half, ← EReal.coe_mul]

theorem pay3 : k0_pay3 (F := Ideal) (mat D) (cube V) = mat fun i l => ∑ k : Fin 1024, 1 / 2 * D i k.val * V 0 l k.val := by
  funext j
  idx_vars j
  unfold k0_pay3
  rw [pay2]
  pointwise
  simp only [mat_ix2, cube_ix3, ← EReal.coe_mul, sum_univ_coe, bits_zero, ← EReal.coe_add, zero_add]
  rfl

theorem pay4 : k0_pay4 (F := Ideal) (mat D) (cube V) = mat fun i l => ∑ k : Fin 1024, 1 / 2 * D i k.val * V 0 l k.val := by
  funext j
  idx_vars j
  unfold k0_pay4
  rw [pay2]
  pointwise
  simp only [mat_ix2, cube_ix3, ← EReal.coe_mul, sum_univ_coe, bits_zero, ← EReal.coe_add, zero_add]
  rfl

theorem pay5 : k0_pay5 (F := Ideal) (mat D) (cube V) = mat fun i l => ∑ k : Fin 1024, 1 / 2 * D i k.val * V 0 l k.val := by
  funext j
  idx_vars j
  unfold k0_pay5
  rw [pay2]
  pointwise
  simp only [mat_ix2, cube_ix3, ← EReal.coe_mul, sum_univ_coe, bits_zero, ← EReal.coe_add, zero_add]
  rfl

theorem pay6 : k0_pay6 (F := Ideal) (mat D) (cube V) = mat fun i l => ∑ k : Fin 1024, 1 / 2 * D i k.val * V 0 l k.val := by
  funext j
  idx_vars j
  unfold k0_pay6
  rw [pay2]
  pointwise
  simp only [mat_ix2, cube_ix3, ← EReal.coe_mul, sum_univ_coe, bits_zero, ← EReal.coe_add, zero_add]
  rfl

theorem pay8 : k0_pay8 (F := Ideal) (mat X) = mat fun i _ => rf (X i) := by
  funext j
  idx_vars j
  unfold k0_pay8
  pointwise
  simp only [mat_ix2, ← EReal.coe_mul, sum_univ_coe, bits_1024, bits_eps, div_1024, ← EReal.coe_add, ms_eq]
  exact rf_eq _

theorem pay9 : k0_pay9 (F := Ideal) (mat X) = mat fun i k => X i k * rf (X i) := by
  funext j
  idx_vars j
  unfold k0_pay9
  rw [pay8]
  pointwise
  simp only [mat_ix2, ← EReal.coe_mul]

theorem pay10 : k0_pay10 (F := Ideal) (mat X) (mat fun _ => G) = mat fun i k => X i k * rf (X i) * G k := by
  funext j
  idx_vars j
  unfold k0_pay10 k0_pay7
  rw [pay9]
  pointwise
  simp only [mat_ix2, ← EReal.coe_mul]

theorem pay11 : k0_pay11 (F := Ideal) (mat P) = mat P := by
  funext j
  idx_vars j
  unfold k0_pay11
  pointwise

theorem pay12 : k0_pay12 (F := Ideal) (mat P) = mat P := by
  funext j
  idx_vars j
  unfold k0_pay12
  pointwise

theorem pay13 : k0_pay13 (F := Ideal) (mat P) = mat P := by
  funext j
  idx_vars j
  unfold k0_pay13
  pointwise

theorem pay14 : k0_pay14 (F := Ideal) (mat P) = mat P := by
  funext j
  idx_vars j
  unfold k0_pay14
  pointwise

theorem pay15 : k0_pay15 (F := Ideal) (mat P) = mat P := by
  funext j
  idx_vars j
  unfold k0_pay15
  pointwise

theorem pay16 : k0_pay16 (F := Ideal) (mat P) = mat P := by
  funext j
  idx_vars j
  unfold k0_pay16
  pointwise

theorem pay17 : k0_pay17 (F := Ideal) (mat P) = mat P := by
  funext j
  idx_vars j
  unfold k0_pay17
  pointwise

theorem pay18 : k0_pay18 (F := Ideal) (mat P) = mat fun i l => sg (P i l) := by
  funext j
  idx_vars j
  unfold k0_pay18
  rw [pay11]
  pointwise
  simp only [mat_ix2]
  exact sg_eq _

theorem pay19 : k0_pay19 (F := Ideal) (mat P) = mat fun i l => sg (P i l) := by
  funext j
  idx_vars j
  unfold k0_pay19
  rw [pay12]
  pointwise
  simp only [mat_ix2]
  exact sg_eq _

theorem pay20 : k0_pay20 (F := Ideal) (mat P) = mat fun i l => sg (P i l) := by
  funext j
  idx_vars j
  unfold k0_pay20
  rw [pay13]
  pointwise
  simp only [mat_ix2]
  exact sg_eq _

theorem pay21 : k0_pay21 (F := Ideal) (mat P) = mat fun i l => sg (P i l) := by
  funext j
  idx_vars j
  unfold k0_pay21
  rw [pay14]
  pointwise
  simp only [mat_ix2]
  exact sg_eq _

theorem pay22 : k0_pay22 (F := Ideal) (mat A) (mat P) = mat fun i l => A i l * (P i l * sg (P i l)) := by
  funext j
  idx_vars j
  unfold k0_pay22
  rw [pay11, pay18]
  pointwise
  simp only [mat_ix2, ← EReal.coe_mul]

theorem pay23 : k0_pay23 (F := Ideal) (mat A) (mat P) = mat fun i l => A i l * (P i l * sg (P i l)) := by
  funext j
  idx_vars j
  unfold k0_pay23
  rw [pay12, pay19]
  pointwise
  simp only [mat_ix2, ← EReal.coe_mul]

theorem pay24 : k0_pay24 (F := Ideal) (mat A) (mat P) = mat fun i l => A i l * (P i l * sg (P i l)) := by
  funext j
  idx_vars j
  unfold k0_pay24
  rw [pay13, pay20]
  pointwise
  simp only [mat_ix2, ← EReal.coe_mul]

theorem pay25 : k0_pay25 (F := Ideal) (mat A) (mat P) = mat fun i l => A i l * (P i l * sg (P i l)) := by
  funext j
  idx_vars j
  unfold k0_pay25
  rw [pay14, pay21]
  pointwise
  simp only [mat_ix2, ← EReal.coe_mul]

theorem pay28 : k0_pay28 (F := Ideal) (k0_pay18 (mat P)) (k0_pay26 (mat A) (mat U)) (k0_pay27 (mat P)) =
    mat fun i l => A i l * U i l * (sg (P i l) * (1 + P i l * (1 - sg (P i l)))) := by
  funext j
  idx_vars j
  unfold k0_pay28 k0_pay26 k0_pay27
  rw [pay18, pay11]
  pointwise
  simp only [mat_ix2, bits_one, ← EReal.coe_one, ← EReal.coe_mul, ← EReal.coe_add, ← EReal.coe_sub]

theorem pay29 : k0_pay29 (F := Ideal) (mat A) (k0_pay12 (mat P)) (k0_pay15 (mat U)) (k0_pay19 (mat P)) =
    mat fun i l => A i l * U i l * (sg (P i l) * (1 + P i l * (1 - sg (P i l)))) := by
  funext j
  idx_vars j
  unfold k0_pay29
  rw [pay12, pay15, pay19]
  pointwise
  simp only [mat_ix2, bits_one, ← EReal.coe_one, ← EReal.coe_mul, ← EReal.coe_add, ← EReal.coe_sub]

theorem pay30 : k0_pay30 (F := Ideal) (mat A) (k0_pay13 (mat P)) (k0_pay16 (mat U)) (k0_pay20 (mat P)) =
    mat fun i l => A i l * U i l * (sg (P i l) * (1 + P i l * (1 - sg (P i l)))) := by
  funext j
  idx_vars j
  unfold k0_pay30
  rw [pay13, pay16, pay20]
  pointwise
  simp only [mat_ix2, bits_one, ← EReal.coe_one, ← EReal.coe_mul, ← EReal.coe_add, ← EReal.coe_sub]

theorem pay31 : k0_pay31 (F := Ideal) (mat A) (k0_pay14 (mat P)) (k0_pay17 (mat U)) (k0_pay21 (mat P)) =
    mat fun i l => A i l * U i l * (sg (P i l) * (1 + P i l * (1 - sg (P i l)))) := by
  funext j
  idx_vars j
  unfold k0_pay31
  rw [pay14, pay17, pay21]
  pointwise
  simp only [mat_ix2, bits_one, ← EReal.coe_one, ← EReal.coe_mul, ← EReal.coe_add, ← EReal.coe_sub]

/-- A product of a tile by the rows of a tile of the weight. -/
def tp (A : ℕ → ℕ → ℝ) (V : ℕ → ℕ → ℕ → ℝ) (i k : ℕ) : ℝ := ∑ l : Fin 768, A i l.val * V 0 k l.val

variable (g0 g1 g2 g3 u0 u1 u2 u3 : ℕ → ℕ → ℝ) (a0 a1 a2 a3 b0 b1 b2 b3 : ℕ → ℕ → ℕ → ℝ)

/-- The products of all tiles. -/
def tps (i k : ℕ) : ℝ := tp g0 a0 i k + tp u0 b0 i k + tp g1 a1 i k + tp u1 b1 i k + tp g2 a2 i k + tp u2 b2 i k + tp g3 a3 i k
  + tp u3 b3 i k

theorem pay34 : k0_pay34 (F := Ideal) (mat u3) (mat g3)
      (k0_pay32 (mat u0) (mat u1) (mat g0) (mat g1) (mat g2) (cube a0) (cube b0) (cube a1) (cube b1) (cube a2))
      (k0_pay33 (mat u2) (cube b2)) (cube a3) (cube b3) = mat (tps g0 g1 g2 g3 u0 u1 u2 u3 a0 a1 a2 a3 b0 b1 b2 b3) := by
  funext j
  idx_vars j
  unfold k0_pay34 k0_pay32 k0_pay33
  pointwise
  simp only [mat_ix2, cube_ix3, ← EReal.coe_mul, sum_univ_coe, bits_zero, ← EReal.coe_add, zero_add]
  rfl

theorem pay35 (d32 d33 : FVec Ideal S256x1024 .f32) (v71 v107 : FVec Ideal S256x768 .bf16) (v141 v145 : Vec Ideal S1x1024x768 .bf16)
    (H : ℕ → ℕ → ℝ) (h : k0_pay34 (F := Ideal) v71 v107 d32 d33 v141 v145 = mat H) :
    k0_pay35 (F := Ideal) (k0_pay9 (mat X)) v71 v107 d32 d33 v141 v145 =
      mat fun _ k => ∑ i : Fin 256, H i.val k * (X i.val k * rf (X i.val)) := by
  funext j
  idx_vars j
  unfold k0_pay35
  rw [h, pay9]
  pointwise
  simp only [mat_ix2, ← EReal.coe_mul, sum_univ_coe, bits_zero, ← EReal.coe_add, zero_add]

theorem pay36 (d32 d33 : FVec Ideal S256x1024 .f32) (v71 v107 : FVec Ideal S256x768 .bf16) (v141 v145 : Vec Ideal S1x1024x768 .bf16)
    (H : ℕ → ℕ → ℝ) (h : k0_pay34 (F := Ideal) v71 v107 d32 d33 v141 v145 = mat H) :
    k0_pay36 (F := Ideal) (mat D) (k0_pay7 (mat fun _ => G)) (k0_pay8 (mat X)) (k0_pay9 (mat X)) v71 v107 d32 d33 v141 v145 =
      mat fun i k => D i k + ng (X i) (fun l => H i l * G l) k := by
  funext j
  idx_vars j
  unfold k0_pay36 k0_pay7
  rw [h, pay8, pay9]
  pointwise
  simp only [mat_ix2, ← EReal.coe_mul, sum_univ_coe, bits_1024, div_1024, ← EReal.coe_add, ← EReal.coe_sub]
  rfl

theorem pay37 : k0_pay37 (F := Ideal) (k0_pay10 (mat X) (mat fun _ => G)) = mat fun k i => X i k * rf (X i) * G k := by
  rw [pay10]
  funext j
  idx_vars j
  unfold k0_pay37
  pointwise
  rfl

theorem pay38 : k0_pay38 (F := Ideal) (k0_pay2 (mat D)) = mat fun k i => 1 / 2 * D i k := by
  rw [pay2]
  funext j
  idx_vars j
  unfold k0_pay38
  pointwise
  rfl

end Cert.Proof.Tok

end
-- ==== Proof.TokRun.lean ====
module

public import proofs.«01_k».proof.Proof.Tok

/-!
# The feed-forward block's gradient by tokens: the run

What the run leaves in the six results.
-/

@[expose] public section

set_option maxRecDepth 16384
set_option maxHeartbeats 2000000

noncomputable section

namespace Cert.Proof.TokRun

open Idealize.ShloMosaic Idealize.ShloMosaic.TcCoe Idealize.SL.Sem Cert.Proof.Reals Cert.Proof.Mats Cert.Proof.Gate Cert.Proof.Tok
open Cert.Kernel4Ideal Cert.Kernel4Ideal.Gen

variable (X D Wg Wu Wd : ℕ → ℕ → ℝ) (G : ℕ → ℝ)
variable (m : (ℓ : Loc nD τ sig) → Buf (Elt Ideal) ℓ) (c : Dev nD)

/-- The padding value. -/
theorem zero_pad (i : S_.Idx) : sitofp (F := Ideal) FTy.f32 (constantI S_ 32 0#32) i = 0 := by
  simp [sitofp, FloatOps.sitofp, constantI]

theorem at_g (hX : m ((c : Thread nD τ).loc main_arg0) = (mat X : S4096x1024.Idx → EReal)) (hG : m ((c : Thread nD τ).loc main_arg1) = (vec G : S1024.Idx → EReal))
    (hWg : m ((c : Thread nD τ).loc main_arg2) = (mat Wg : S1024x2752.Idx → EReal)) :
    V m c main_v28 = (mat (pj X G (cp Wg)) : S4096x3072.Idx → EReal) := by
  funext j
  idx_vars j
  change StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil,
    List.append_nil, List.cons_append, List.nil_append]
  after_results
  rw [hX, hG, hWg]
  pointwise
  simp only [mat_ix2, vec_ix1]
  change (∑ x : Fin 1024, ((X j0.val x.val : ℝ) : EReal) * Ideal.rsqrt (Ideal.div (∑ x : Fin 1024, ((X j0.val x.val : ℝ) : EReal) *
    ((X j0.val x.val : ℝ) : EReal)) (Ideal.ofBits .f32 1149239296#32) + Ideal.ofBits .f32 897988541#32) * ((G x.val : ℝ) : EReal) *
    pad S1024x8x384 ![0, 0, 0] ![0, 0, 40] ![0, 0, 0] (fun i : S1024x8x344.Idx =>
      ((Wg (i 0).val ((i 1).val * 344 + (i 2).val) : ℝ) : EReal)) (sitofp (F := Ideal) FTy.f32 (constantI S_ 32 0#32))
      pads_S1024x8x344_S1024x8x384_000_000_0400 h_S_ (ix3 x ⟨j1.val / 384, by omega⟩ ⟨j1.val % 384, by omega⟩)) = _
  simp only [pad_cols Wg _ (fun i => rfl) _ zero_pad]
  simp only [← EReal.coe_mul, sum_univ_coe, bits_1024, bits_eps, div_1024, ← EReal.coe_add, ms_eq]
  rw [rf_eq (X j0.val)]
  simp only [← EReal.coe_mul, sum_univ_coe]
  rfl

theorem at_u (hX : m ((c : Thread nD τ).loc main_arg0) = (mat X : S4096x1024.Idx → EReal)) (hG : m ((c : Thread nD τ).loc main_arg1) = (vec G : S1024.Idx → EReal))
    (hWu : m ((c : Thread nD τ).loc main_arg3) = (mat Wu : S1024x2752.Idx → EReal)) :
    V m c main_v30 = (mat (pj X G (cp Wu)) : S4096x3072.Idx → EReal) := by
  funext j
  idx_vars j
  change StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil,
    List.append_nil, List.cons_append, List.nil_append]
  after_results
  rw [hX, hG, hWu]
  pointwise
  simp only [mat_ix2, vec_ix1]
  change (∑ x : Fin 1024, ((X j0.val x.val : ℝ) : EReal) * Ideal.rsqrt (Ideal.div (∑ x : Fin 1024, ((X j0.val x.val : ℝ) : EReal) *
    ((X j0.val x.val : ℝ) : EReal)) (Ideal.ofBits .f32 1149239296#32) + Ideal.ofBits .f32 897988541#32) * ((G x.val : ℝ) : EReal) *
    pad S1024x8x384 ![0, 0, 0] ![0, 0, 40] ![0, 0, 0] (fun i : S1024x8x344.Idx =>
      ((Wu (i 0).val ((i 1).val * 344 + (i 2).val) : ℝ) : EReal)) (sitofp (F := Ideal) FTy.f32 (constantI S_ 32 0#32))
      pads_S1024x8x344_S1024x8x384_000_000_0400 h_S_ (ix3 x ⟨j1.val / 384, by omega⟩ ⟨j1.val % 384, by omega⟩)) = _
  simp only [pad_cols Wu _ (fun i => rfl) _ zero_pad]
  simp only [← EReal.coe_mul, sum_univ_coe, bits_1024, bits_eps, div_1024, ← EReal.coe_add, ms_eq]
  rw [rf_eq (X j0.val)]
  simp only [← EReal.coe_mul, sum_univ_coe]
  rfl

theorem at_gain (hG : m ((c : Thread nD τ).loc main_arg1) = (vec G : S1024.Idx → EReal)) : V m c main_v13 = (mat fun _ => G : S1x1024.Idx → EReal) := by
  funext j
  idx_vars j
  change StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil,
    List.append_nil, List.cons_append, List.nil_append]
  after_results
  rw [hG]
  pointwise
  rfl

theorem at_w7 (hWd : m ((c : Thread nD τ).loc main_arg4) = (mat Wd : S2752x1024.Idx → EReal)) :
    V m c main_v12 = (cube fun _ => rp Wd : S1x3072x1024.Idx → EReal) := by
  funext j
  idx_vars j
  change StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil,
    List.append_nil, List.cons_append, List.nil_append]
  after_results
  rw [hWd]
  pointwise
  simp only [mat_ix2, cube_ix3]
  exact pad_rows Wd _ (fun i => rfl) _ zero_pad pads_S8x344x1024_S8x384x1024_000_0400_000 h_S_ ⟨j1.val / 384, by omega⟩ ⟨j1.val % 384, by omega⟩ j2

theorem at_w5 (hWg : m ((c : Thread nD τ).loc main_arg2) = (mat Wg : S1024x2752.Idx → EReal))
    (hWu : m ((c : Thread nD τ).loc main_arg3) = (mat Wu : S1024x2752.Idx → EReal)) :
    V m c main_v33 = (cube fun a => cp (if a = 0 then Wg else Wu) : S2x1024x3072.Idx → EReal) := by
  funext j
  idx_vars j
  change StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil,
    List.append_nil, List.cons_append, List.nil_append]
  after_results
  rw [hWg, hWu]
  pointwise
  simp only [mat_ix2, cube_ix3]
  split_ifs <;> first
    | (exfalso; omega)
    | exact pad_cols Wg _ (fun i => rfl) _ zero_pad pads_S1024x8x344_S1024x8x384_000_000_0400 h_S_ j1 ⟨j2.val / 384, by omega⟩
        ⟨j2.val % 384, by omega⟩
    | exact pad_cols Wu _ (fun i => rfl) _ zero_pad pads_S1024x8x344_S1024x8x384_000_000_0400 h_S_ j1 ⟨j2.val / 384, by omega⟩
        ⟨j2.val % 384, by omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![1, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![0, t.val] := (by decide +kernel : ∀ t : Fin grid0.N, _)
theorem idx12 : ∀ t : Fin cfg0.N, win0_12.index t = ![0, t.val] := (by decide +kernel : ∀ t : Fin grid0.N, _)
theorem idx13 : ∀ t : Fin cfg0.N, win0_13.index t = ![0, 0] := (by decide +kernel : ∀ t : Fin grid0.N, _)

theorem iblk0 (hD : m ((c : Thread nD τ).loc main_arg5) = (mat D : S4096x1024.Idx → EReal)) (t : Fin cfg0.N) :
    iblk m c 0 t = (mat fun i k => D (t.val * 256 + i) k : S256x1024.Idx → EReal) := by
  funext y
  blk_simp [iblk]
  rw [V_main_arg5, hD]
  simp [mat, idx0 t]

theorem iblk1 (hX : m ((c : Thread nD τ).loc main_arg0) = (mat X : S4096x1024.Idx → EReal)) (t : Fin cfg0.N) :
    iblk m c 1 t = (mat fun i k => X (t.val * 256 + i) k : S256x1024.Idx → EReal) := by
  funext y
  blk_simp [iblk]
  rw [V_main_arg0, hX]
  simp [mat, idx1 t]

theorem iblk2 (hG : m ((c : Thread nD τ).loc main_arg1) = (vec G : S1024.Idx → EReal)) (t : Fin cfg0.N) :
    iblk m c 2 t = (mat fun _ => G : S1x1024.Idx → EReal) := by
  funext y
  blk_simp [iblk]
  rw [at_gain G m c hG]
  simp [mat, idx2 t]

theorem iblk3 (hX : m ((c : Thread nD τ).loc main_arg0) = (mat X : S4096x1024.Idx → EReal)) (hG : m ((c : Thread nD τ).loc main_arg1) = (vec G : S1024.Idx → EReal))
    (hWg : m ((c : Thread nD τ).loc main_arg2) = (mat Wg : S1024x2752.Idx → EReal)) (t : Fin cfg0.N) :
    iblk m c 3 t = (mat fun i l => pj X G (cp Wg) (t.val * 256 + i) l : S256x3072.Idx → EReal) := by
  funext y
  blk_simp [iblk]
  rw [at_g X Wg G m c hX hG hWg]
  simp [mat, idx3 t]

theorem iblk4 (hX : m ((c : Thread nD τ).loc main_arg0) = (mat X : S4096x1024.Idx → EReal)) (hG : m ((c : Thread nD τ).loc main_arg1) = (vec G : S1024.Idx → EReal))
    (hWu : m ((c : Thread nD τ).loc main_arg3) = (mat Wu : S1024x2752.Idx → EReal)) (t : Fin cfg0.N) :
    iblk m c 4 t = (mat fun i l => pj X G (cp Wu) (t.val * 256 + i) l : S256x3072.Idx → EReal) := by
  funext y
  blk_simp [iblk]
  rw [at_u X Wu G m c hX hG hWu]
  simp [mat, idx4 t]

theorem iblk5 (hWg : m ((c : Thread nD τ).loc main_arg2) = (mat Wg : S1024x2752.Idx → EReal))
    (hWu : m ((c : Thread nD τ).loc main_arg3) = (mat Wu : S1024x2752.Idx → EReal)) (t : Fin cfg0.N) :
    iblk m c 5 t = (cube fun _ => cp Wg : S1x1024x3072.Idx → EReal) := by
  funext y
  blk_simp [iblk]
  rw [at_w5 Wg Wu m c hWg hWu]
  have h0 : (y 0).val = 0 := by have : (y 0).val < 1 := (y 0).isLt; omega
  simp [cube, idx5 t, h0]

theorem iblk6 (hWg : m ((c : Thread nD τ).loc main_arg2) = (mat Wg : S1024x2752.Idx → EReal))
    (hWu : m ((c : Thread nD τ).loc main_arg3) = (mat Wu : S1024x2752.Idx → EReal)) (t : Fin cfg0.N) :
    iblk m c 6 t = (cube fun _ => cp Wu : S1x1024x3072.Idx → EReal) := by
  funext y
  blk_simp [iblk]
  rw [at_w5 Wg Wu m c hWg hWu]
  have h0 : (y 0).val = 0 := by have : (y 0).val < 1 := (y 0).isLt; omega
  simp [cube, idx6 t, h0]

theorem iblk7 (hWd : m ((c : Thread nD τ).loc main_arg4) = (mat Wd : S2752x1024.Idx → EReal)) (t : Fin cfg0.N) :
    iblk m c 7 t = (cube fun _ => rp Wd : S1x3072x1024.Idx → EReal) := by
  funext y
  blk_simp [iblk]
  rw [at_w7 Wd m c hWd]
  simp [cube, idx7 t]

variable (hX : m ((c : Thread nD τ).loc main_arg0) = (mat X : S4096x1024.Idx → EReal))
  (hG : m ((c : Thread nD τ).loc main_arg1) = (vec G : S1024.Idx → EReal))
  (hWg : m ((c : Thread nD τ).loc main_arg2) = (mat Wg : S1024x2752.Idx → EReal))
  (hWu : m ((c : Thread nD τ).loc main_arg3) = (mat Wu : S1024x2752.Idx → EReal))
  (hWd : m ((c : Thread nD τ).loc main_arg4) = (mat Wd : S2752x1024.Idx → EReal))
  (hD : m ((c : Thread nD τ).loc main_arg5) = (mat D : S4096x1024.Idx → EReal))

/-- The other factor's cotangent, part 1, as the payloads take it. -/
abbrev du0 (t : Fin cfg0.N) := k0_pay22 (F := Ideal) (k0_pay3 (iblk m c 0 t)
        (View.ld (iblk m c 7 t) (Rect.unit ![0, 0, 0] ![1, 768, 1024] inb_S1x3072x1024_S1x768x1024_0_0_0)))
      (View.ld (iblk m c 3 t) (Rect.unit ![0, 0] ![256, 768] inb_S256x3072_S256x768_0_0))

include hX hG hWg hWd hD in
theorem du0_eq (t : Fin cfg0.N) : du0 m c t = mat fun i l => du X D (cp Wg) (rp Wd) G (t.val * 256 + i) l := by
  rw [du0, iblk0 _ m c hD, iblk7 _ m c hWd, iblk3 _ _ _ m c hX hG hWg]
  simp only [ld_mat', ld_cube']
  rw [pay3, pay22]
  refine mat_congr fun i l hi hl => ?_
  simp only [Matrix.cons_val_zero, Matrix.cons_val_one, Matrix.cons_val, zero_add]
  rfl

/-- The gate's cotangent, part 1, as the payloads take it. -/
abbrev dg0 (t : Fin cfg0.N) := k0_pay28 (F := Ideal) (k0_pay18 (View.ld (iblk m c 3 t) (Rect.unit ![0, 0] ![256, 768] inb_S256x3072_S256x768_0_0)))
      (k0_pay26 (k0_pay3 (iblk m c 0 t)
        (View.ld (iblk m c 7 t) (Rect.unit ![0, 0, 0] ![1, 768, 1024] inb_S1x3072x1024_S1x768x1024_0_0_0))) (View.ld (iblk m c 4 t) (Rect.unit ![0, 0] ![256, 768] inb_S256x3072_S256x768_0_0)))
      (k0_pay27 (View.ld (iblk m c 3 t) (Rect.unit ![0, 0] ![256, 768] inb_S256x3072_S256x768_0_0)))

include hX hG hWg hWu hWd hD in
theorem dg0_eq (t : Fin cfg0.N) :
    dg0 m c t = mat fun i l => dg X D (cp Wg) (cp Wu) (rp Wd) G (t.val * 256 + i) l := by
  rw [dg0, iblk0 _ m c hD, iblk7 _ m c hWd, iblk3 _ _ _ m c hX hG hWg, iblk4 _ _ _ m c hX hG hWu]
  simp only [ld_mat', ld_cube']
  rw [pay3, pay28]
  refine mat_congr fun i l hi hl => ?_
  simp only [Matrix.cons_val_zero, Matrix.cons_val_one, Matrix.cons_val, zero_add]
  rfl

/-- The other factor's cotangent, part 2, as the payloads take it. -/
abbrev du1 (t : Fin cfg0.N) := k0_pay23 (F := Ideal) (k0_pay4 (iblk m c 0 t)
        (View.ld (iblk m c 7 t) (Rect.unit ![0, 768, 0] ![1, 768, 1024] inb_S1x3072x1024_S1x768x1024_0_768_0)))
      (View.ld (iblk m c 3 t) (Rect.unit ![0, 768] ![256, 768] inb_S256x3072_S256x768_0_768))

include hX hG hWg hWd hD in
theorem du1_eq (t : Fin cfg0.N) : du1 m c t = mat fun i l => du X D (cp Wg) (rp Wd) G (t.val * 256 + i) (768 + l) := by
  rw [du1, iblk0 _ m c hD, iblk7 _ m c hWd, iblk3 _ _ _ m c hX hG hWg]
  simp only [ld_mat', ld_cube']
  rw [pay4, pay23]
  refine mat_congr fun i l hi hl => ?_
  simp only [Matrix.cons_val_zero, Matrix.cons_val_one, Matrix.cons_val, zero_add]
  rfl

/-- The gate's cotangent, part 2, as the payloads take it. -/
abbrev dg1 (t : Fin cfg0.N) := k0_pay29 (F := Ideal) (k0_pay4 (iblk m c 0 t)
        (View.ld (iblk m c 7 t) (Rect.unit ![0, 768, 0] ![1, 768, 1024] inb_S1x3072x1024_S1x768x1024_0_768_0)))
      (k0_pay12 (View.ld (iblk m c 3 t) (Rect.unit ![0, 768] ![256, 768] inb_S256x3072_S256x768_0_768)))
      (k0_pay15 (View.ld (iblk m c 4 t) (Rect.unit ![0, 768] ![256, 768] inb_S256x3072_S256x768_0_768)))
      (k0_pay19 (View.ld (iblk m c 3 t) (Rect.unit ![0, 768] ![256, 768] inb_S256x3072_S256x768_0_768)))

include hX hG hWg hWu hWd hD in
theorem dg1_eq (t : Fin cfg0.N) :
    dg1 m c t = mat fun i l => dg X D (cp Wg) (cp Wu) (rp Wd) G (t.val * 256 + i) (768 + l) := by
  rw [dg1, iblk0 _ m c hD, iblk7 _ m c hWd, iblk3 _ _ _ m c hX hG hWg, iblk4 _ _ _ m c hX hG hWu]
  simp only [ld_mat', ld_cube']
  rw [pay4, pay29]
  refine mat_congr fun i l hi hl => ?_
  simp only [Matrix.cons_val_zero, Matrix.cons_val_one, Matrix.cons_val, zero_add]
  rfl

/-- The other factor's cotangent, part 3, as the payloads take it. -/
abbrev du2 (t : Fin cfg0.N) := k0_pay24 (F := Ideal) (k0_pay5 (iblk m c 0 t)
        (View.ld (iblk m c 7 t) (Rect.unit ![0, 1536, 0] ![1, 768, 1024] inb_S1x3072x1024_S1x768x1024_0_1536_0)))
      (View.ld (iblk m c 3 t) (Rect.unit ![0, 1536] ![256, 768] inb_S256x3072_S256x768_0_1536))

include hX hG hWg hWd hD in
theorem du2_eq (t : Fin cfg0.N) : du2 m c t = mat fun i l => du X D (cp Wg) (rp Wd) G (t.val * 256 + i) (1536 + l) := by
  rw [du2, iblk0 _ m c hD, iblk7 _ m c hWd, iblk3 _ _ _ m c hX hG hWg]
  simp only [ld_mat', ld_cube']
  rw [pay5, pay24]
  refine mat_congr fun i l hi hl => ?_
  simp only [Matrix.cons_val_zero, Matrix.cons_val_one, Matrix.cons_val, zero_add]
  rfl

/-- The gate's cotangent, part 3, as the payloads take it. -/
abbrev dg2 (t : Fin cfg0.N) := k0_pay30 (F := Ideal) (k0_pay5 (iblk m c 0 t)
        (View.ld (iblk m c 7 t) (Rect.unit ![0, 1536, 0] ![1, 768, 1024] inb_S1x3072x1024_S1x768x1024_0_1536_0)))
      (k0_pay13 (View.ld (iblk m c 3 t) (Rect.unit ![0, 1536] ![256, 768] inb_S256x3072_S256x768_0_1536)))
      (k0_pay16 (View.ld (iblk m c 4 t) (Rect.unit ![0, 1536] ![256, 768] inb_S256x3072_S256x768_0_1536)))
      (k0_pay20 (View.ld (iblk m c 3 t) (Rect.unit ![0, 1536] ![256, 768] inb_S256x3072_S256x768_0_1536)))

include hX hG hWg hWu hWd hD in
theorem dg2_eq (t : Fin cfg0.N) :
    dg2 m c t = mat fun i l => dg X D (cp Wg) (cp Wu) (rp Wd) G (t.val * 256 + i) (1536 + l) := by
  rw [dg2, iblk0 _ m c hD, iblk7 _ m c hWd, iblk3 _ _ _ m c hX hG hWg, iblk4 _ _ _ m c hX hG hWu]
  simp only [ld_mat', ld_cube']
  rw [pay5, pay30]
  refine mat_congr fun i l hi hl => ?_
  simp only [Matrix.cons_val_zero, Matrix.cons_val_one, Matrix.cons_val, zero_add]
  rfl

/-- The other factor's cotangent, part 4, as the payloads take it. -/
abbrev du3 (t : Fin cfg0.N) := k0_pay25 (F := Ideal) (k0_pay6 (iblk m c 0 t)
        (View.ld (iblk m c 7 t) (Rect.unit ![0, 2304, 0] ![1, 768, 1024] inb_S1x3072x1024_S1x768x1024_0_2304_0)))
      (View.ld (iblk m c 3 t) (Rect.unit ![0, 2304] ![256, 768] inb_S256x3072_S256x768_0_2304))

include hX hG hWg hWd hD in
theorem du3_eq (t : Fin cfg0.N) : du3 m c t = mat fun i l => du X D (cp Wg) (rp Wd) G (t.val * 256 + i) (2304 + l) := by
  rw [du3, iblk0 _ m c hD, iblk7 _ m c hWd, iblk3 _ _ _ m c hX hG hWg]
  simp only [ld_mat', ld_cube']
  rw [pay6, pay25]
  refine mat_congr fun i l hi hl => ?_
  simp only [Matrix.cons_val_zero, Matrix.cons_val_one, Matrix.cons_val, zero_add]
  rfl

/-- The gate's cotangent, part 4, as the payloads take it. -/
abbrev dg3 (t : Fin cfg0.N) := k0_pay31 (F := Ideal) (k0_pay6 (iblk m c 0 t)
        (View.ld (iblk m c 7 t) (Rect.unit ![0, 2304, 0] ![1, 768, 1024] inb_S1x3072x1024_S1x768x1024_0_2304_0)))
      (k0_pay14 (View.ld (iblk m c 3 t) (Rect.unit ![0, 2304] ![256, 768] inb_S256x3072_S256x768_0_2304)))
      (k0_pay17 (View.ld (iblk m c 4 t) (Rect.unit ![0, 2304] ![256, 768] inb_S256x3072_S256x768_0_2304)))
      (k0_pay21 (View.ld (iblk m c 3 t) (Rect.unit ![0, 2304] ![256, 768] inb_S256x3072_S256x768_0_2304)))

include hX hG hWg hWu hWd hD in
theorem dg3_eq (t : Fin cfg0.N) :
    dg3 m c t = mat fun i l => dg X D (cp Wg) (cp Wu) (rp Wd) G (t.val * 256 + i) (2304 + l) := by
  rw [dg3, iblk0 _ m c hD, iblk7 _ m c hWd, iblk3 _ _ _ m c hX hG hWg, iblk4 _ _ _ m c hX hG hWu]
  simp only [ld_mat', ld_cube']
  rw [pay6, pay31]
  refine mat_congr fun i l hi hl => ?_
  simp only [Matrix.cons_val_zero, Matrix.cons_val_one, Matrix.cons_val, zero_add]
  rfl

/-- The first tiles' products, as the payloads take them. -/
abbrev p32 (t : Fin cfg0.N) := k0_pay32 (F := Ideal) (du0 m c t) (du1 m c t) (dg0 m c t) (dg1 m c t) (dg2 m c t)
        (View.ld (iblk m c 5 t) (Rect.unit ![0, 0, 0] ![1, 1024, 768] inb_S1x1024x3072_S1x1024x768_0_0_0))
        (View.ld (iblk m c 6 t) (Rect.unit ![0, 0, 0] ![1, 1024, 768] inb_S1x1024x3072_S1x1024x768_0_0_0))
        (View.ld (iblk m c 5 t) (Rect.unit ![0, 0, 768] ![1, 1024, 768] inb_S1x1024x3072_S1x1024x768_0_0_768))
        (View.ld (iblk m c 6 t) (Rect.unit ![0, 0, 768] ![1, 1024, 768] inb_S1x1024x3072_S1x1024x768_0_0_768))
        (View.ld (iblk m c 5 t) (Rect.unit ![0, 0, 1536] ![1, 1024, 768] inb_S1x1024x3072_S1x1024x768_0_0_1536))

/-- The sixth tile's product. -/
abbrev p33 (t : Fin cfg0.N) := k0_pay33 (F := Ideal) (du2 m c t) (View.ld (iblk m c 6 t) (Rect.unit ![0, 0, 1536] ![1, 1024, 768] inb_S1x1024x3072_S1x1024x768_0_0_1536))

/-- The last tiles of the first two weights. -/
abbrev wg3 (t : Fin cfg0.N) := (View.ld (iblk m c 5 t) (Rect.unit ![0, 0, 2304] ![1, 1024, 768] inb_S1x1024x3072_S1x1024x768_0_0_2304))
abbrev wu3 (t : Fin cfg0.N) := (View.ld (iblk m c 6 t) (Rect.unit ![0, 0, 2304] ![1, 1024, 768] inb_S1x1024x3072_S1x1024x768_0_0_2304))

theorem tps_eq (n i k : ℕ) : tps (fun i l => dg X D (cp Wg) (cp Wu) (rp Wd) G (n + i) l)
    (fun i l => dg X D (cp Wg) (cp Wu) (rp Wd) G (n + i) (768 + l)) (fun i l => dg X D (cp Wg) (cp Wu) (rp Wd) G (n + i) (1536 + l))
    (fun i l => dg X D (cp Wg) (cp Wu) (rp Wd) G (n + i) (2304 + l)) (fun i l => du X D (cp Wg) (rp Wd) G (n + i) l)
    (fun i l => du X D (cp Wg) (rp Wd) G (n + i) (768 + l)) (fun i l => du X D (cp Wg) (rp Wd) G (n + i) (1536 + l))
    (fun i l => du X D (cp Wg) (rp Wd) G (n + i) (2304 + l))
    (fun _ k l => cp Wg k l) (fun _ k l => cp Wg k (768 + l)) (fun _ k l => cp Wg k (1536 + l)) (fun _ k l => cp Wg k (2304 + l))
    (fun _ k l => cp Wu k l) (fun _ k l => cp Wu k (768 + l)) (fun _ k l => cp Wu k (1536 + l)) (fun _ k l => cp Wu k (2304 + l))
    i k = dn X D Wg Wu Wd G (n + i) k := by
  rw [← dn_cp, ← sum_blocks 4 768 (fun l => dg X D (cp Wg) (cp Wu) (rp Wd) G (n + i) l * cp Wg k l) rfl,
    ← sum_blocks 4 768 (fun l => du X D (cp Wg) (rp Wd) G (n + i) l * cp Wu k l) rfl, Fin.sum_univ_four, Fin.sum_univ_four]
  have e0 : (0 : Fin 4).val * 768 = 0 := rfl
  have e1 : (1 : Fin 4).val * 768 = 768 := rfl
  have e2 : (2 : Fin 4).val * 768 = 1536 := rfl
  have e3 : (3 : Fin 4).val * 768 = 2304 := rfl
  simp only [e0, e1, e2, e3, zero_add, tps, tp]
  ring

include hX hG hWg hWu hWd hD in
/-- The cotangent of the norm's output. -/
theorem dh_eq (t : Fin cfg0.N) : k0_pay34 (F := Ideal) (du3 m c t) (dg3 m c t) (p32 m c t) (p33 m c t) (wg3 m c t) (wu3 m c t) =
    mat fun i k => dn X D Wg Wu Wd G (t.val * 256 + i) k := by
  rw [p32, p33, wg3, wu3, du0_eq X D Wg Wd G m c hX hG hWg hWd hD, du1_eq X D Wg Wd G m c hX hG hWg hWd hD, du2_eq X D Wg Wd G m c hX hG hWg hWd hD, du3_eq X D Wg Wd G m c hX hG hWg hWd hD,
    dg0_eq X D Wg Wu Wd G m c hX hG hWg hWu hWd hD,
    dg1_eq X D Wg Wu Wd G m c hX hG hWg hWu hWd hD,
    dg2_eq X D Wg Wu Wd G m c hX hG hWg hWu hWd hD,
    dg3_eq X D Wg Wu Wd G m c hX hG hWg hWu hWd hD,
    iblk5 _ _ m c hWg hWu, iblk6 _ _ m c hWg hWu]
  simp only [ld_cube', Matrix.cons_val_zero, Matrix.cons_val_one, Matrix.cons_val, zero_add]
  rw [pay34]
  exact mat_congr fun i k hi hk => tps_eq X D Wg Wu Wd G _ i k

include hX hG hWg hWu hWd hD in
/-- The block of the residual stream's gradient. -/
theorem key8 (t : Fin cfg0.N) : k0_pay36 (F := Ideal) (iblk m c 0 t) (k0_pay7 (iblk m c 2 t)) (k0_pay8 (iblk m c 1 t))
      (k0_pay9 (iblk m c 1 t)) (du3 m c t) (dg3 m c t) (p32 m c t) (p33 m c t) (wg3 m c t) (wu3 m c t) =
    mat fun i k => D (t.val * 256 + i) k + ng (X (t.val * 256 + i)) (fun l => dn X D Wg Wu Wd G (t.val * 256 + i) l * G l) k := by
  have h := dh_eq X D Wg Wu Wd G m c hX hG hWg hWu hWd hD t
  rw [iblk0 _ m c hD, iblk2 _ m c hG, iblk1 _ m c hX]
  exact pay36 _ _ G _ _ _ _ _ _ _ h

include hX hG hWg hWu hWd hD in
/-- The block's part of the gain's gradient. -/
theorem key13 (t : Fin cfg0.N) : k0_pay35 (F := Ideal) (k0_pay9 (iblk m c 1 t)) (du3 m c t) (dg3 m c t) (p32 m c t) (p33 m c t)
      (wg3 m c t) (wu3 m c t) = mat fun _ k => ∑ i : Fin 256, dn X D Wg Wu Wd G (t.val * 256 + i.val) k *
        (X (t.val * 256 + i.val) k * rf (X (t.val * 256 + i.val))) := by
  have h := dh_eq X D Wg Wu Wd G m c hX hG hWg hWu hWd hD t
  rw [iblk1 _ m c hX]
  exact pay35 _ _ _ _ _ _ _ _ h

theorem emb8 (t : Fin cfg0.N) (y : S256x1024.Idx) : ((cfg0.win 8).blk t).view.emb y =
    ix2 ⟨t.val * 256 + (y 0).val, by have h : (y 0).val < 256 := (y 0).isLt; have := t.isLt.trans_eq N_0; omega⟩ (y 1) := by
  blk_ext [idx8 t]

theorem emb9 (t : Fin cfg0.N) (y : S256x3072.Idx) : ((cfg0.win 9).blk t).view.emb y =
    ix2 ⟨t.val * 256 + (y 0).val, by have h : (y 0).val < 256 := (y 0).isLt; have := t.isLt.trans_eq N_0; omega⟩ (y 1) := by
  blk_ext [idx9 t]

theorem emb10 (t : Fin cfg0.N) (y : S256x3072.Idx) : ((cfg0.win 10).blk t).view.emb y =
    ix2 ⟨t.val * 256 + (y 0).val, by have h : (y 0).val < 256 := (y 0).isLt; have := t.isLt.trans_eq N_0; omega⟩ (y 1) := by
  blk_ext [idx10 t]

theorem emb11 (t : Fin cfg0.N) (y : S1024x256.Idx) : ((cfg0.win 11).blk t).view.emb y =
    (ix2 (y 0) ⟨t.val * 256 + (y 1).val, by have h : (y 1).val < 256 := (y 1).isLt; have := t.isLt.trans_eq N_0; omega⟩ :
      S1024x4096.Idx) := by
  blk_ext [idx11 t]

theorem emb12 (t : Fin cfg0.N) (y : S1024x256.Idx) : ((cfg0.win 12).blk t).view.emb y =
    (ix2 (y 0) ⟨t.val * 256 + (y 1).val, by have h : (y 1).val < 256 := (y 1).isLt; have := t.isLt.trans_eq N_0; omega⟩ :
      S1024x4096.Idx) := by
  blk_ext [idx12 t]

include hX hG hWg hWu hWd hD in
/-- The residual stream's gradient after the run. -/
theorem final8 : (dats m 0 c).arrAt 8 cfg0.N = (mat fun i k => D i k + ng (X i) (fun l => dn X D Wg Wu Wd G i l * G l) k : S4096x1024.Idx → EReal) := by
  refine (dats m 0 c).arrAt_eq_of_covers 8 _ (by decide +kernel) fun t hf y => ?_
  rw [emb8 t y]
  blk_simp
  rw [after0_8]
  have hN := t.isLt.trans_eq N_0
  by_cases h : t.val % 16 = 0
  · rw [outsAt0_A m c t h (by omega)]
    frame_out
    exact congrFun (key8 X D Wg Wu Wd G m c hX hG hWg hWu hWd hD t) y
  · rw [outsAt0_B m c t h (by omega)]
    frame_out
    exact congrFun (key8 X D Wg Wu Wd G m c hX hG hWg hWu hWd hD t) y

include hX hG hWg hWu hWd hD in
/-- The block of a cotangent, from its four parts. -/
theorem key9 (t : Fin cfg0.N) (y : S256x3072.Idx) : View.canon (Val := Elt Ideal) (s := S256x3072) (e := .bf16)
      [⟨Rect.unit ![0, 2304] ![256, 768] inb_S256x3072_S256x768_0_2304, dg3 m c t⟩,
        ⟨Rect.unit ![0, 1536] ![256, 768] inb_S256x3072_S256x768_0_1536, dg2 m c t⟩,
        ⟨Rect.unit ![0, 768] ![256, 768] inb_S256x3072_S256x768_0_768, dg1 m c t⟩,
        ⟨Rect.unit ![0, 0] ![256, 768] inb_S256x3072_S256x768_0_0, dg0 m c t⟩] y =
    ((dg X D (cp Wg) (cp Wu) (rp Wd) G (t.val * 256 + (y 0).val) (y 1).val : ℝ) : EReal) := by
  rw [dg0_eq X D Wg Wu Wd G m c hX hG hWg hWu hWd hD, dg1_eq X D Wg Wu Wd G m c hX hG hWg hWu hWd hD, dg2_eq X D Wg Wu Wd G m c hX hG hWg hWu hWd hD, dg3_eq X D Wg Wu Wd G m c hX hG hWg hWu hWd hD]
  refine (View.canon_apply_of_pieces (mat fun i k => dg X D (cp Wg) (cp Wu) (rp Wd) G (t.val * 256 + i) k) _ ?_ _ ?_).trans rfl
  · simp only [List.mem_cons, List.not_mem_nil, or_false, forall_eq_or_imp, forall_eq]
    refine ⟨piece_mat (f := fun i l => dg X D (cp Wg) (cp Wu) (rp Wd) G (t.val * 256 + i) (2304 + l)) fun i k hi hk => ?_,
      piece_mat (f := fun i l => dg X D (cp Wg) (cp Wu) (rp Wd) G (t.val * 256 + i) (1536 + l)) fun i k hi hk => ?_,
      piece_mat (f := fun i l => dg X D (cp Wg) (cp Wu) (rp Wd) G (t.val * 256 + i) (768 + l)) fun i k hi hk => ?_,
      piece_mat (f := fun i l => dg X D (cp Wg) (cp Wu) (rp Wd) G (t.val * 256 + i) l) fun i k hi hk => ?_⟩ <;>
      simp only [Matrix.cons_val_zero, Matrix.cons_val_one, Nat.zero_add]
  · have h0 : (y 0).val < 256 := (y 0).isLt
    have h1 : (y 1).val < 3072 := (y 1).isLt
    by_cases h3 : 2304 ≤ (y 1).val
    · exact ⟨_, List.mem_cons_self, mem_rect (h := inb_S256x3072_S256x768_0_2304) _ ⟨Nat.zero_le _, by show _ < 0 + 256; omega⟩
        ⟨h3, by show _ < 2304 + 768; omega⟩⟩
    · by_cases h2 : 1536 ≤ (y 1).val
      · exact ⟨_, List.mem_cons_of_mem _ List.mem_cons_self, mem_rect (h := inb_S256x3072_S256x768_0_1536) _
          ⟨Nat.zero_le _, by show _ < 0 + 256; omega⟩ ⟨h2, by show _ < 1536 + 768; omega⟩⟩
      · by_cases h1' : 768 ≤ (y 1).val
        · exact ⟨_, List.mem_cons_of_mem _ (List.mem_cons_of_mem _ List.mem_cons_self),
            mem_rect (h := inb_S256x3072_S256x768_0_768) _
            ⟨Nat.zero_le _, by show _ < 0 + 256; omega⟩ ⟨h1', by show _ < 768 + 768; omega⟩⟩
        · exact ⟨_, List.mem_cons_of_mem _ (List.mem_cons_of_mem _ (List.mem_cons_of_mem _ List.mem_cons_self)),
            mem_rect (h := inb_S256x3072_S256x768_0_0) _
            ⟨Nat.zero_le _, by show _ < 0 + 256; omega⟩ ⟨Nat.zero_le _, by show _ < 0 + 768; omega⟩⟩

include hX hG hWg hWu hWd hD in
/-- The cotangent after the run. -/
theorem final9 : (dats m 0 c).arrAt 9 cfg0.N = (mat (dg X D (cp Wg) (cp Wu) (rp Wd) G) : S4096x3072.Idx → EReal) := by
  refine (dats m 0 c).arrAt_eq_of_covers 9 _ (by decide +kernel) fun t hf y => ?_
  rw [emb9 t y]
  blk_simp
  rw [after0_9]
  have hN := t.isLt.trans_eq N_0
  by_cases h : t.val % 16 = 0
  · rw [outsAt0_A m c t h (by omega)]
    frame_out
    exact key9 X D Wg Wu Wd G m c hX hG hWg hWu hWd hD t y
  · rw [outsAt0_B m c t h (by omega)]
    frame_out
    exact key9 X D Wg Wu Wd G m c hX hG hWg hWu hWd hD t y

include hX hG hWg hWd hD in
/-- The block of a cotangent, from its four parts. -/
theorem key10 (t : Fin cfg0.N) (y : S256x3072.Idx) : View.canon (Val := Elt Ideal) (s := S256x3072) (e := .bf16)
      [⟨Rect.unit ![0, 2304] ![256, 768] inb_S256x3072_S256x768_0_2304, du3 m c t⟩,
        ⟨Rect.unit ![0, 1536] ![256, 768] inb_S256x3072_S256x768_0_1536, du2 m c t⟩,
        ⟨Rect.unit ![0, 768] ![256, 768] inb_S256x3072_S256x768_0_768, du1 m c t⟩,
        ⟨Rect.unit ![0, 0] ![256, 768] inb_S256x3072_S256x768_0_0, du0 m c t⟩] y =
    ((du X D (cp Wg) (rp Wd) G (t.val * 256 + (y 0).val) (y 1).val : ℝ) : EReal) := by
  rw [du0_eq X D Wg Wd G m c hX hG hWg hWd hD, du1_eq X D Wg Wd G m c hX hG hWg hWd hD, du2_eq X D Wg Wd G m c hX hG hWg hWd hD, du3_eq X D Wg Wd G m c hX hG hWg hWd hD]
  refine (View.canon_apply_of_pieces (mat fun i k => du X D (cp Wg) (rp Wd) G (t.val * 256 + i) k) _ ?_ _ ?_).trans rfl
  · simp only [List.mem_cons, List.not_mem_nil, or_false, forall_eq_or_imp, forall_eq]
    refine ⟨piece_mat (f := fun i l => du X D (cp Wg) (rp Wd) G (t.val * 256 + i) (2304 + l)) fun i k hi hk => ?_,
      piece_mat (f := fun i l => du X D (cp Wg) (rp Wd) G (t.val * 256 + i) (1536 + l)) fun i k hi hk => ?_,
      piece_mat (f := fun i l => du X D (cp Wg) (rp Wd) G (t.val * 256 + i) (768 + l)) fun i k hi hk => ?_,
      piece_mat (f := fun i l => du X D (cp Wg) (rp Wd) G (t.val * 256 + i) l) fun i k hi hk => ?_⟩ <;>
      simp only [Matrix.cons_val_zero, Matrix.cons_val_one, Nat.zero_add]
  · have h0 : (y 0).val < 256 := (y 0).isLt
    have h1 : (y 1).val < 3072 := (y 1).isLt
    by_cases h3 : 2304 ≤ (y 1).val
    · exact ⟨_, List.mem_cons_self, mem_rect (h := inb_S256x3072_S256x768_0_2304) _ ⟨Nat.zero_le _, by show _ < 0 + 256; omega⟩
        ⟨h3, by show _ < 2304 + 768; omega⟩⟩
    · by_cases h2 : 1536 ≤ (y 1).val
      · exact ⟨_, List.mem_cons_of_mem _ List.mem_cons_self, mem_rect (h := inb_S256x3072_S256x768_0_1536) _
          ⟨Nat.zero_le _, by show _ < 0 + 256; omega⟩ ⟨h2, by show _ < 1536 + 768; omega⟩⟩
      · by_cases h1' : 768 ≤ (y 1).val
        · exact ⟨_, List.mem_cons_of_mem _ (List.mem_cons_of_mem _ List.mem_cons_self),
            mem_rect (h := inb_S256x3072_S256x768_0_768) _
            ⟨Nat.zero_le _, by show _ < 0 + 256; omega⟩ ⟨h1', by show _ < 768 + 768; omega⟩⟩
        · exact ⟨_, List.mem_cons_of_mem _ (List.mem_cons_of_mem _ (List.mem_cons_of_mem _ List.mem_cons_self)),
            mem_rect (h := inb_S256x3072_S256x768_0_0) _
            ⟨Nat.zero_le _, by show _ < 0 + 256; omega⟩ ⟨Nat.zero_le _, by show _ < 0 + 768; omega⟩⟩

include hX hG hWg hWd hD in
/-- The cotangent after the run. -/
theorem final10 : (dats m 0 c).arrAt 10 cfg0.N = (mat (du X D (cp Wg) (rp Wd) G) : S4096x3072.Idx → EReal) := by
  refine (dats m 0 c).arrAt_eq_of_covers 10 _ (by decide +kernel) fun t hf y => ?_
  rw [emb10 t y]
  blk_simp
  rw [after0_10]
  have hN := t.isLt.trans_eq N_0
  by_cases h : t.val % 16 = 0
  · rw [outsAt0_A m c t h (by omega)]
    frame_out
    exact key10 X D Wg Wd G m c hX hG hWg hWd hD t y
  · rw [outsAt0_B m c t h (by omega)]
    frame_out
    exact key10 X D Wg Wd G m c hX hG hWg hWd hD t y

include hX hG in
/-- The normalised rows after the run, turned. -/
theorem final11 : (dats m 0 c).arrAt 11 cfg0.N = (mat fun k i => X i k * rf (X i) * G k : S1024x4096.Idx → EReal) := by
  refine (dats m 0 c).arrAt_eq_of_covers 11 _ (by decide +kernel) fun t hf y => ?_
  rw [emb11 t y]
  blk_simp
  rw [after0_11]
  have hN := t.isLt.trans_eq N_0
  have key : k0_pay37 (F := Ideal) (k0_pay10 (iblk m c 1 t) (iblk m c 2 t)) =
      mat fun k i => X (t.val * 256 + i) k * rf (X (t.val * 256 + i)) * G k := by
    rw [iblk1 _ m c hX, iblk2 _ m c hG, pay37]
  by_cases h : t.val % 16 = 0
  · rw [outsAt0_A m c t h (by omega)]
    frame_out
    exact congrFun key y
  · rw [outsAt0_B m c t h (by omega)]
    frame_out
    exact congrFun key y

include hD in
/-- The halved cotangent after the run, turned. -/
theorem final12 : (dats m 0 c).arrAt 12 cfg0.N = (mat fun k i => 1 / 2 * D i k : S1024x4096.Idx → EReal) := by
  refine (dats m 0 c).arrAt_eq_of_covers 12 _ (by decide +kernel) fun t hf y => ?_
  rw [emb12 t y]
  blk_simp
  rw [after0_12]
  have hN := t.isLt.trans_eq N_0
  have key : k0_pay38 (F := Ideal) (k0_pay2 (iblk m c 0 t)) = mat fun k i => 1 / 2 * D (t.val * 256 + i) k := by
    rw [iblk0 _ m c hD, pay38]
  by_cases h : t.val % 16 = 0
  · rw [outsAt0_A m c t h (by omega)]
    frame_out
    exact congrFun key y
  · rw [outsAt0_B m c t h (by omega)]
    frame_out
    exact congrFun key y

include hX hG hWg hWu hWd hD in
/-- The gain's gradient after the run. -/
theorem final13 : (dats m 0 c).arrAt 13 cfg0.N =
    (mat fun _ k => ∑ i : Fin 4096, dn X D Wg Wu Wd G i.val k * (X i.val k * rf (X i.val)) : S1x1024.Idx → EReal) := by
  refine (dats m 0 c).arrAt_eq_of_after_last 13 t0_15 (by decide +kernel) _ fun j => ?_
  blk_simp
  rw [after0_13]
  refine (Pipeline.eq_sum_fin_of_reset_step_apply_last (fun n h => (outsAt0 m c n h).2.2.2.2.2) 16 (fun _ => (0 : EReal))
    (fun t j => (mat (fun _ k => ∑ i : Fin 256, dn X D Wg Wu Wd G (t.val * 256 + i.val) k * (X (t.val * 256 + i.val) k * rf (X (t.val * 256 + i.val)))) : S1x1024.Idx → EReal) j)
    (fun t h j => ?_) (fun t h j => ?_) (le_of_eq N_0) t0_15 rfl j).trans ?_
  · have hN := t.isLt.trans_eq N_0
    rw [outsAt0_A m c t h (by omega)]
    frame_out
    exact (congrFun (key13 X D Wg Wu Wd G m c hX hG hWg hWu hWd hD t) j).trans (zero_add _).symm
  · have hN := t.isLt.trans_eq N_0
    rw [outsAt0_B m c t h (by omega)]
    frame_out
    refine (congrArg (fun p => k0_pay1 (F := Ideal) p (outsAt0 m c (t.val - 1) _).2.2.2.2.2 j)
      (key13 X D Wg Wu Wd G m c hX hG hWg hWu hWd hD t)).trans ?_
    unfold k0_pay1
    pointwise
  · rw [zero_add]
    simp only [mat]
    rw [sum_univ_coe]
    exact congrArg (fun x : ℝ => (x : EReal)) (sum_blocks 16 256 (fun i => dn X D Wg Wu Wd G i _ * (X i _ * rf (X i))) rfl)

end Cert.Proof.TokRun

end
-- ==== Proof.TokRef.lean ====
module

public import proofs.«01_k».proof.Proof.TokRun
public import proofs.«01_k».proof.Proof.Gen.Reference4Ideal.Run
public import proofs.«01_k».proof.Proof.Gen.Reference4Ideal.Read
public import proofs.«01_k».proof.Defs

/-!
# The feed-forward block's gradient by tokens: the kernel computes the derivative
-/

@[expose] public section

set_option maxRecDepth 16384
set_option maxHeartbeats 4000000

noncomputable section

namespace Cert.Proof.TokRef

open Idealize.ShloMosaic Idealize.ShloMosaic.TcCoe Idealize.SL.Sem Cert.Proof.Reals Cert.Proof.Mats Cert.Proof.Gate

section Reference

open Cert.Reference4Ideal Cert.Reference4Ideal.Gen Cert.Reference4Ideal.Read

variable (X Wg Wu Wd D : ℕ → ℕ → ℝ) (G : ℕ → ℝ)

/-- The mean square plus eps. -/
theorem v8 : val_main_v8 (F := Ideal) (mat X) = (mat fun i _ => ms (X i) : S4096x1.Idx → EReal) := by
  funext j
  idx_vars j
  unfold val_main_v8 val_main_v7 val_main_v6 val_main_v5 val_main_v4 val_main_v3 val_main_v2 val_main_cst_1
    val_main_cst_2 val_main_cst_3
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The factor. -/
theorem v9 : val_main_v9 (F := Ideal) (mat X) = (mat fun i _ => rf (X i) : S4096x1.Idx → EReal) := by
  funext j
  idx_vars j
  unfold val_main_v9
  rw [v8]
  pointwise
  simp only [mat_ix2, vec_ix1, ← EReal.coe_mul, sum_univ_coe, bits_1024, bits_eps, bits_zero, bits_half, bits_neg_half, bits_one, div_1024,
    ← EReal.coe_add, ← EReal.coe_sub, zero_add]
  exact rf_eq _

/-- Half the quotient of the factor by the mean square, negated. -/
theorem v12 : val_main_v12 (F := Ideal) (mat X) = (mat fun i _ => -(1 / 2) * (rf (X i) / ms (X i)) : S4096x1.Idx → EReal) := by
  funext j
  idx_vars j
  unfold val_main_v12 val_main_v11 val_main_v10 val_main_cst_4
  rw [v8, v9]
  pointwise
  simp only [mat_ix2, vec_ix1, ← EReal.coe_mul, sum_univ_coe, bits_1024, bits_eps, bits_zero, bits_half, bits_neg_half, bits_one, div_1024,
    ← EReal.coe_add, ← EReal.coe_sub, zero_add]
  rw [div_real _ _ (ms_pos _).ne', ← EReal.coe_mul]

/-- The normalised rows. -/
theorem v14 : val_main_v14 (F := Ideal) (mat X) = (mat fun i k => X i k * rf (X i) : S4096x1024.Idx → EReal) := by
  funext j
  idx_vars j
  unfold val_main_v14 val_main_v13
  rw [v9]
  pointwise
  simp only [mat_ix2, vec_ix1, ← EReal.coe_mul, sum_univ_coe, bits_1024, bits_eps, bits_zero, bits_half, bits_neg_half, bits_one, div_1024,
    ← EReal.coe_add, ← EReal.coe_sub, zero_add]

/-- The rows with the gain. -/
theorem v17 : val_main_v17 (F := Ideal) (mat X) (vec G) = (mat fun i k => X i k * rf (X i) * G k : S4096x1024.Idx → EReal) := by
  funext j
  idx_vars j
  unfold val_main_v17 val_main_v16 val_main_v15
  rw [v14]
  pointwise
  simp only [mat_ix2, vec_ix1, ← EReal.coe_mul, sum_univ_coe, bits_1024, bits_eps, bits_zero, bits_half, bits_neg_half, bits_one, div_1024,
    ← EReal.coe_add, ← EReal.coe_sub, zero_add]

/-- A product of the normalised rows. -/
theorem v19 : val_main_v19 (F := Ideal) (mat X) (vec G) (mat Wg) = (mat (pj X G Wg) : S4096x2752.Idx → EReal) := by
  funext j
  idx_vars j
  unfold val_main_v19 val_main_v18 val_main_v0 val_main_cst
  rw [v17]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- A product of the normalised rows. -/
theorem v21 : val_main_v21 (F := Ideal) (mat X) (vec G) (mat Wu) = (mat (pj X G Wu) : S4096x2752.Idx → EReal) := by
  funext j
  idx_vars j
  unfold val_main_v21 val_main_v20 val_main_v0 val_main_cst
  rw [v17]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The logistic function of the gate's argument. -/
theorem v22_2 : val_main_v22_2 (F := Ideal) (mat X) (vec G) (mat Wg) = (mat fun i l => sg (pj X G Wg i l) : S4096x2752.Idx → EReal) := by
  funext j
  idx_vars j
  unfold val_main_v22_2 val_main_call0_v4 val_main_call0_cst_0 val_main_call0_v3 val_main_call0_v2 val_main_call0_cst
    val_main_call0_v1 val_main_call0_v0
  rw [v19]
  pointwise
  simp only [mat_ix2, vec_ix1, ← EReal.coe_mul, sum_univ_coe, bits_1024, bits_eps, bits_zero, bits_half, bits_neg_half, bits_one, div_1024,
    ← EReal.coe_add, ← EReal.coe_sub, zero_add]
  exact sg_eq _

/-- Its derivative. -/
theorem v22_1 : val_main_v22_1 (F := Ideal) (mat X) (vec G) (mat Wg) = (mat fun i l => sg (pj X G Wg i l) * (1 - sg (pj X G Wg i l)) : S4096x2752.Idx → EReal) := by
  funext j
  idx_vars j
  unfold val_main_v22_1 val_main_call0_v7 val_main_call0_v6 val_main_call0_cst_1
  rw [v22_2]
  pointwise
  simp only [mat_ix2, vec_ix1, ← EReal.coe_mul, sum_univ_coe, bits_1024, bits_eps, bits_zero, bits_half, bits_neg_half, bits_one, div_1024,
    ← EReal.coe_add, ← EReal.coe_sub, zero_add]
  simp only [← EReal.coe_one, ← EReal.coe_sub, ← EReal.coe_mul]

/-- The gate. -/
theorem v22_0 : val_main_v22_0 (F := Ideal) (mat X) (vec G) (mat Wg) = (mat fun i l => pj X G Wg i l * sg (pj X G Wg i l) : S4096x2752.Idx → EReal) := by
  funext j
  idx_vars j
  unfold val_main_v22_0
  rw [v19, v22_2]
  pointwise
  simp only [mat_ix2, vec_ix1, ← EReal.coe_mul, sum_univ_coe, bits_1024, bits_eps, bits_zero, bits_half, bits_neg_half, bits_one, div_1024,
    ← EReal.coe_add, ← EReal.coe_sub, zero_add]

/-- The halved cotangent. -/
theorem v31 : val_main_v31 (F := Ideal) (mat D) = (mat fun i k => 1 / 2 * D i k : S4096x1024.Idx → EReal) := by
  funext j
  idx_vars j
  unfold val_main_v31 val_main_v30 val_main_v29 val_main_cst_6
  pointwise
  simp only [mat_ix2, vec_ix1, ← EReal.coe_mul, sum_univ_coe, bits_1024, bits_eps, bits_zero, bits_half, bits_neg_half, bits_one, div_1024,
    ← EReal.coe_add, ← EReal.coe_sub, zero_add]

/-- The gated rows' cotangent. -/
theorem v32 : val_main_v32 (F := Ideal) (mat Wd) (mat D) = (mat (da D Wd) : S4096x2752.Idx → EReal) := by
  funext j
  idx_vars j
  unfold val_main_v32
  rw [v31]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The other factor's cotangent. -/
theorem v33 : val_main_v33 (F := Ideal) (mat X) (vec G) (mat Wg) (mat Wd) (mat D) = (mat (du X D Wg Wd G) : S4096x2752.Idx → EReal) := by
  funext j
  idx_vars j
  unfold val_main_v33
  rw [v22_0, v32]
  pointwise
  simp only [mat_ix2, vec_ix1, ← EReal.coe_mul, sum_univ_coe, bits_1024, bits_eps, bits_zero, bits_half, bits_neg_half, bits_one, div_1024,
    ← EReal.coe_add, ← EReal.coe_sub, zero_add]
  exact congrArg Real.toEReal (mul_comm _ _)

/-- The gate's cotangent. -/
theorem v34 : val_main_v34 (F := Ideal) (mat X) (vec G) (mat Wu) (mat Wd) (mat D) = (mat fun i l => da D Wd i l * pj X G Wu i l : S4096x2752.Idx → EReal) := by
  funext j
  idx_vars j
  unfold val_main_v34
  rw [v32, v21]
  pointwise
  simp only [mat_ix2, vec_ix1, ← EReal.coe_mul, sum_univ_coe, bits_1024, bits_eps, bits_zero, bits_half, bits_neg_half, bits_one, div_1024,
    ← EReal.coe_add, ← EReal.coe_sub, zero_add]

/-- The cotangent of the gate's argument. -/
theorem v35 : val_main_v35 (F := Ideal) (mat X) (vec G) (mat Wg) (mat Wu) (mat Wd) (mat D) = (mat (dg X D Wg Wu Wd G) : S4096x2752.Idx → EReal) := by
  funext j
  idx_vars j
  unfold val_main_v35 val_main_call1_v2 val_main_call1_v1 val_main_call1_v0
  rw [v34, v22_2, v22_1, v19]
  pointwise
  simp only [mat_ix2, vec_ix1, ← EReal.coe_mul, sum_univ_coe, bits_1024, bits_eps, bits_zero, bits_half, bits_neg_half, bits_one, div_1024,
    ← EReal.coe_add, ← EReal.coe_sub, zero_add]
  refine congrArg Real.toEReal ?_
  unfold dg dgate
  ring

/-- The cotangent of the norm's output. -/
theorem v38 : val_main_v38 (F := Ideal) (mat X) (vec G) (mat Wg) (mat Wu) (mat Wd) (mat D) = (mat (dn X D Wg Wu Wd G) : S4096x1024.Idx → EReal) := by
  funext j
  idx_vars j
  unfold val_main_v38 val_main_v37 val_main_v36
  rw [v33, v35]
  pointwise
  simp only [mat_ix2, vec_ix1, ← EReal.coe_mul, sum_univ_coe, bits_1024, bits_eps, bits_zero, bits_half, bits_neg_half, bits_one, div_1024,
    ← EReal.coe_add, ← EReal.coe_sub, zero_add]
  exact congrArg Real.toEReal (add_comm _ _)

/-- The gain's gradient. -/
theorem v72 : val_main_v72 (F := Ideal) (mat X) (vec G) (mat Wg) (mat Wu) (mat Wd) (mat D) = (mat fun _ k => ∑ i : Fin 4096, dn X D Wg Wu Wd G i.val k * (X i.val k * rf (X i.val)) : S1x1024.Idx → EReal) := by
  funext j
  idx_vars j
  unfold val_main_v72 val_main_v44 val_main_v41 val_main_v40 val_main_v39 val_main_cst_7 val_main_cst_8
  rw [v14, v38]
  pointwise
  simp only [mat_ix2, vec_ix1, ← EReal.coe_mul, sum_univ_coe, bits_1024, bits_eps, bits_zero, bits_half, bits_neg_half, bits_one, div_1024,
    ← EReal.coe_add, ← EReal.coe_sub, zero_add]
  rw [Fin.sum_univ_one]
  exact congrArg Real.toEReal (Finset.sum_congr rfl fun i _ => mul_comm _ _)

/-- The cotangent of the normalised rows. -/
theorem v43 : val_main_v43 (F := Ideal) (mat X) (vec G) (mat Wg) (mat Wu) (mat Wd) (mat D) = (mat fun i k => dn X D Wg Wu Wd G i k * G k : S4096x1024.Idx → EReal) := by
  funext j
  idx_vars j
  unfold val_main_v43 val_main_v42 val_main_v15
  rw [v38]
  pointwise
  simp only [mat_ix2, vec_ix1, ← EReal.coe_mul, sum_univ_coe, bits_1024, bits_eps, bits_zero, bits_half, bits_neg_half, bits_one, div_1024,
    ← EReal.coe_add, ← EReal.coe_sub, zero_add]

/-- The mean square's part. -/
theorem v53 : val_main_v53 (F := Ideal) (mat X) (vec G) (mat Wg) (mat Wu) (mat Wd) (mat D) = (mat fun i _ => (∑ l : Fin 1024, X i l.val * (dn X D Wg Wu Wd G i l.val * G l.val)) * (-(1 / 2) * (rf (X i) / ms (X i))) / 1024 : S4096x1.Idx → EReal) := by
  funext j
  idx_vars j
  unfold val_main_v53 val_main_v52 val_main_v51 val_main_v47 val_main_v46 val_main_v45 val_main_cst_9 val_main_cst_10
  rw [v43, v12]
  pointwise
  simp only [mat_ix2, vec_ix1, ← EReal.coe_mul, sum_univ_coe, bits_1024, bits_eps, bits_zero, bits_half, bits_neg_half, bits_one, div_1024,
    ← EReal.coe_add, ← EReal.coe_sub, zero_add]

/-- The residual stream's gradient. -/
theorem v59 : val_main_v59 (F := Ideal) (mat X) (vec G) (mat Wg) (mat Wu) (mat Wd) (mat D) = (mat fun i k => D i k + ng (X i) (fun l => dn X D Wg Wu Wd G i l * G l) k : S4096x1024.Idx → EReal) := by
  funext j
  idx_vars j
  unfold val_main_v59 val_main_v58 val_main_v57 val_main_v56 val_main_v55 val_main_v54 val_main_v50 val_main_v49
    val_main_v48 val_main_cst_11
  rw [v43, v53, v9]
  pointwise
  simp only [mat_ix2, vec_ix1, ← EReal.coe_mul, sum_univ_coe, bits_1024, bits_eps, bits_zero, bits_half, bits_neg_half, bits_one, div_1024,
    ← EReal.coe_add, ← EReal.coe_sub, zero_add]
  rw [Fin.sum_univ_one, ← ng_eq _ _ _ (Fin.isLt _), ← add_assoc, ← add_assoc]

/-- The cotangent, its columns in widened blocks. -/
theorem v63 : val_main_v63 (F := Ideal) (mat X) (vec G) (mat Wg) (mat Wu) (mat Wd) (mat D) = (mat (cp (dg X D Wg Wu Wd G)) : S4096x3072.Idx → EReal) := by
  funext j
  idx_vars j
  unfold val_main_v63 val_main_v62 val_main_v61 val_main_v60 val_main_call2_v0 val_main_c
  rw [v35]
  pointwise
  simp only [mat_ix2]
  unfold cp
  split_ifs <;> first | omega | simp [FloatOps.sitofp]

/-- The cotangent, its columns in widened blocks. -/
theorem v67 : val_main_v67 (F := Ideal) (mat X) (vec G) (mat Wg) (mat Wd) (mat D) = (mat (cp (du X D Wg Wd G)) : S4096x3072.Idx → EReal) := by
  funext j
  idx_vars j
  unfold val_main_v67 val_main_v66 val_main_v65 val_main_v64 val_main_call3_v0 val_main_c_12
  rw [v33]
  pointwise
  simp only [mat_ix2]
  unfold cp
  split_ifs <;> first | omega | simp [FloatOps.sitofp]

/-- The normalised rows, turned. -/
theorem v69 : val_main_v69 (F := Ideal) (mat X) (vec G) = (mat fun k i => X i k * rf (X i) * G k : S1024x4096.Idx → EReal) := by
  funext j
  idx_vars j
  unfold val_main_v69 val_main_v68
  rw [v17]
  pointwise
  simp only [mat_ix2, vec_ix1, ← EReal.coe_mul, sum_univ_coe, bits_1024, bits_eps, bits_zero, bits_half, bits_neg_half, bits_one, div_1024,
    ← EReal.coe_add, ← EReal.coe_sub, zero_add]

/-- The halved cotangent, turned. -/
theorem v71 : val_main_v71 (F := Ideal) (mat D) = (mat fun k i => 1 / 2 * D i k : S1024x4096.Idx → EReal) := by
  funext j
  idx_vars j
  unfold val_main_v71 val_main_v70
  rw [v31]
  pointwise
  simp only [mat_ix2, vec_ix1, ← EReal.coe_mul, sum_univ_coe, bits_1024, bits_eps, bits_zero, bits_half, bits_neg_half, bits_one, div_1024,
    ← EReal.coe_add, ← EReal.coe_sub, zero_add]

end Reference

section Claim

/-- The argument arrays of the precondition are real. -/
theorem real_args [hP : Cert.Pre_finite4.Facts]
    {m : (ℓ : Loc Cert.Kernel4Ideal.nD Cert.Kernel4Ideal.τ Cert.Kernel4Ideal.sig) → Buf (Elt Ideal) ℓ}
    (h : Cert.Pre_Kernel4Ideal_finite4 m) (c : Dev Cert.Kernel4Ideal.nD) :
    ∃ (X : ℕ → ℕ → ℝ) (G : ℕ → ℝ) (Wg : ℕ → ℕ → ℝ) (Wu : ℕ → ℕ → ℝ) (Wd : ℕ → ℕ → ℝ) (D : ℕ → ℕ → ℝ),
      m ((c : Thread Cert.Kernel4Ideal.nD Cert.Kernel4Ideal.τ).loc Cert.Kernel4Ideal.main_arg0) = (mat X : Cert.Kernel4Ideal.S4096x1024.Idx → EReal) ∧
      m ((c : Thread Cert.Kernel4Ideal.nD Cert.Kernel4Ideal.τ).loc Cert.Kernel4Ideal.main_arg1) = (vec G : Cert.Kernel4Ideal.S1024.Idx → EReal) ∧
      m ((c : Thread Cert.Kernel4Ideal.nD Cert.Kernel4Ideal.τ).loc Cert.Kernel4Ideal.main_arg2) = (mat Wg : Cert.Kernel4Ideal.S1024x2752.Idx → EReal) ∧
      m ((c : Thread Cert.Kernel4Ideal.nD Cert.Kernel4Ideal.τ).loc Cert.Kernel4Ideal.main_arg3) = (mat Wu : Cert.Kernel4Ideal.S1024x2752.Idx → EReal) ∧
      m ((c : Thread Cert.Kernel4Ideal.nD Cert.Kernel4Ideal.τ).loc Cert.Kernel4Ideal.main_arg4) = (mat Wd : Cert.Kernel4Ideal.S2752x1024.Idx → EReal) ∧
      m ((c : Thread Cert.Kernel4Ideal.nD Cert.Kernel4Ideal.τ).loc Cert.Kernel4Ideal.main_arg5) = (mat D : Cert.Kernel4Ideal.S4096x1024.Idx → EReal) := by
  obtain ⟨e0, e1, e2, e3, e4, e5⟩ := h c
  unfold Cert.Pre_finite4.fn Cert.Pre_finite4.fn_part1 at e0 e1 e2 e3 e4 e5
  dsimp only at e0 e1 e2 e3 e4 e5
  haveI : Subsingleton Cert.Pre_finite4.S_.Idx := ⟨fun a b => funext fun i => i.elim0⟩
  obtain ⟨X, hX⟩ := real_of_all _ _ _ _ _ _ (congrFun e0 fun i => i.elim0)
  obtain ⟨G, hG⟩ := real_of_all _ _ _ _ _ _ (congrFun e1 fun i => i.elim0)
  obtain ⟨Wg, hWg⟩ := real_of_all _ _ _ _ _ _ (congrFun e2 fun i => i.elim0)
  obtain ⟨Wu, hWu⟩ := real_of_all _ _ _ _ _ _ (congrFun e3 fun i => i.elim0)
  obtain ⟨Wd, hWd⟩ := real_of_all _ _ _ _ _ _ (congrFun e4 fun i => i.elim0)
  obtain ⟨D, hD⟩ := real_of_all _ _ _ _ _ _ (congrFun e5 fun i => i.elim0)
  exact ⟨ofMat X, ofVec G, ofMat Wg, ofMat Wu, ofMat Wd, ofMat D,
    hX.trans (up_mat X), hG.trans (up_vec G), hWg.trans (up_mat Wg), hWu.trans (up_mat Wu), hWd.trans (up_mat Wd), hD.trans (up_mat D)⟩

/-- The kernel and the derivative end with equal arrays. -/
theorem algebraic [Cert.Pre_finite4.Facts] : Cert.algebraic_Kernel4Ideal_Reference4Ideal_pre_finite4 := by
  intro m g m' g' hpre hagree
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    Cert.Kernel4Ideal.Value.run_blocks m g, ?_⟩
  refine (θ_run _ _ _).mono (fun r h c => ?_) (Cert.Reference4Ideal.Value.run m' g')
  obtain ⟨X, G, Wg, Wu, Wd, D, hX, hG, hWg, hWu, hWd, hD⟩ := real_args hpre c
  obtain ⟨aX, aG, aWg, aWu, aWd, aD⟩ := hagree c
  obtain ⟨r0, r1, r2, r3, r4, r5, k⟩ := h c
  refine ⟨?_, ?_, ?_, ?_, ?_, ?_, k⟩
  · refine (r0.trans (Cert.Reference4Ideal.Read.val_main_v59_eq _ _)).trans ?_
    rw [aX, aG, aWg, aWu, aWd, aD, hX, hG, hWg, hWu, hWd, hD, v59]
    exact (TokRun.final8 X D Wg Wu Wd G m c hX hG hWg hWu hWd hD).symm
  · refine (r1.trans (Cert.Reference4Ideal.Read.val_main_v63_eq _ _)).trans ?_
    rw [aX, aG, aWg, aWu, aWd, aD, hX, hG, hWg, hWu, hWd, hD, v63]
    exact ((TokRun.final9 X D Wg Wu Wd G m c hX hG hWg hWu hWd hD).trans (mat_congr fun i l _ _ => dg_cp X D Wg Wu Wd G i l)).symm
  · refine (r2.trans (Cert.Reference4Ideal.Read.val_main_v67_eq _ _ _ _ _)).trans ?_
    rw [aX, aG, aWg, aWd, aD, hX, hG, hWg, hWd, hD, v67]
    exact ((TokRun.final10 X D Wg Wd G m c hX hG hWg hWd hD).trans (mat_congr fun i l _ _ => du_cp X D Wg Wd G i l)).symm
  · refine (r3.trans (Cert.Reference4Ideal.Read.val_main_v69_eq _ _)).trans ?_
    rw [aX, aG, hX, hG, v69]
    exact (TokRun.final11 X G m c hX hG).symm
  · refine (r4.trans (Cert.Reference4Ideal.Read.val_main_v71_eq _)).trans ?_
    rw [aD, hD, v71]
    exact (TokRun.final12 D m c hD).symm
  · refine (r5.trans (Cert.Reference4Ideal.Read.val_main_v72_eq _ _)).trans ?_
    rw [aX, aG, aWg, aWu, aWd, aD, hX, hG, hWg, hWu, hWd, hD, v72]
    exact (TokRun.final13 X D Wg Wu Wd G m c hX hG hWg hWu hWd hD).symm

end Claim

end Cert.Proof.TokRef

end
-- ==== Proof.Wts.lean ====
module

public import proofs.«01_k».proof.Proof.Gate
public import proofs.«01_k».proof.Proof.Gen.Kernel5Ideal.Value
public import Idealize.ShloMosaic.Lib.Pipeline.ValueKit
public import Idealize.ShloMosaic.Lib.Pipeline.ReadBack

/-!
# The feed-forward block's gradient by weights: the run

What the run leaves in the three results.
-/

@[expose] public section

set_option maxRecDepth 16384
set_option maxHeartbeats 2000000

noncomputable section

namespace Cert.Proof.Wts

open Idealize.ShloMosaic Idealize.ShloMosaic.TcCoe Idealize.SL.Sem Cert.Proof.Reals Cert.Proof.Mats Cert.Proof.Gate
open Cert.Kernel5Ideal Cert.Kernel5Ideal.Gen

variable (X Wg Wu A B D : ℕ → ℕ → ℝ) (G : ℕ → ℝ) (P Q R : ℕ → ℕ → ℝ)
variable (m : (ℓ : Loc nD τ sig) → Buf (Elt Ideal) ℓ) (c : Dev nD)

/-! ## The payloads -/

theorem pay10 : k0_pay10 (F := Ideal) = fun _ => 0 := by
  funext j
  idx_vars j
  unfold k0_pay10
  pointwise

theorem pay11 : k0_pay11 (F := Ideal) = fun _ => 0 := by
  funext j
  idx_vars j
  unfold k0_pay11
  pointwise

theorem pay12 : k0_pay12 (F := Ideal) = fun _ => 0 := by
  funext j
  idx_vars j
  unfold k0_pay12
  pointwise

theorem pay13 (j : S1024x768.Idx) (x : S1024x768.Idx → EReal) : k0_pay13 (F := Ideal) (mat P) x (mat Q) j =
    x j + ((∑ i : Fin 1024, P (j 0).val i.val * Q i.val (j 1).val : ℝ) : EReal) := by
  idx_vars j
  unfold k0_pay13 k0_pay9
  pointwise
  simp only [mat_ix2, ← EReal.coe_mul, sum_univ_coe, bits_zero, zero_add]

theorem pay14 (j : S1024x768.Idx) (x : S1024x768.Idx → EReal) : k0_pay14 (F := Ideal) (mat P) x (mat Q) j =
    x j + ((∑ i : Fin 1024, P (j 0).val i.val * Q i.val (j 1).val : ℝ) : EReal) := by
  idx_vars j
  unfold k0_pay14 k0_pay9
  pointwise
  simp only [mat_ix2, ← EReal.coe_mul, sum_univ_coe, bits_zero, zero_add]

theorem pay15 : k0_pay15 (F := Ideal) (mat P) (mat Q) = mat fun i l => P i l * sg (P i l) * Q i l := by
  funext j
  idx_vars j
  unfold k0_pay15
  pointwise
  simp only [mat_ix2, sg_eq, ← EReal.coe_mul]

theorem pay1 (j : S1024x768.Idx) (x : S1024x768.Idx → EReal) : k0_pay1 (F := Ideal) (mat Q) x (mat P) j =
    x j + ((∑ i : Fin 1024, P (j 0).val i.val * Q i.val (j 1).val : ℝ) : EReal) := by
  idx_vars j
  unfold k0_pay1
  pointwise
  simp only [mat_ix2, ← EReal.coe_mul, sum_univ_coe, bits_zero, zero_add]

theorem pay3 : k0_pay3 (F := Ideal) (mat P) = cube fun _ => P := by
  funext j
  idx_vars j
  unfold k0_pay3
  pointwise
  simp only [mat_ix2, cube_ix3]

theorem pay4 : k0_pay4 (F := Ideal) (mat P) = cube fun _ => P := by
  funext j
  idx_vars j
  unfold k0_pay4
  pointwise
  simp only [mat_ix2, cube_ix3]

theorem pay5 : k0_pay5 (F := Ideal) (mat P) = cube fun _ => P := by
  funext j
  idx_vars j
  unfold k0_pay5
  pointwise
  simp only [mat_ix2, cube_ix3]

theorem pay6 : k0_pay6 (F := Ideal) (mat P) = cube fun _ => P := by
  funext j
  idx_vars j
  unfold k0_pay6
  pointwise
  simp only [mat_ix2, cube_ix3]

theorem pay7 : k0_pay7 (F := Ideal) (mat P) = cube fun _ => P := by
  funext j
  idx_vars j
  unfold k0_pay7
  pointwise
  simp only [mat_ix2, cube_ix3]

theorem pay2 : k0_pay2 (F := Ideal) (k0_pay8 (mat P)) = cube fun _ => P := by
  funext j
  idx_vars j
  unfold k0_pay2 k0_pay8
  pointwise
  simp only [mat_ix2, cube_ix3]

/-! ## The arguments -/

/-- The padding value. -/
theorem zero_pad (i : S_.Idx) : sitofp (F := Ideal) FTy.f32 (constantI S_ 32 0#32) i = 0 := by
  simp [sitofp, FloatOps.sitofp, constantI]

theorem at_g (hX : m ((c : Thread nD τ).loc main_arg0) = (mat X : S4096x1024.Idx → EReal)) (hG : m ((c : Thread nD τ).loc main_arg1) = (vec G : S1024.Idx → EReal))
    (hWg : m ((c : Thread nD τ).loc main_arg2) = (mat Wg : S1024x2752.Idx → EReal)) :
    V m c main_v19 = (mat (pj X G (cp Wg)) : S4096x3072.Idx → EReal) := by
  funext j
  idx_vars j
  change StableHlo.after [hostOps0, hostOps0_1, hostOps0_2, hostOps0_3, hostOps0_4, hostOps0_5, hostOps0_6, hostOps0_7, hostOps0_8].flatten _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rw [hX, hG, hWg]
  pointwise
  simp only [mat_ix2, vec_ix1]
  change (∑ x : Fin 1024, ((X j0.val x.val : ℝ) : EReal) * Ideal.rsqrt (Ideal.div (∑ x : Fin 1024, ((X j0.val x.val : ℝ) : EReal) *
    ((X j0.val x.val : ℝ) : EReal)) (Ideal.ofBits .f32 1149239296#32) + Ideal.ofBits .f32 897988541#32) * ((G x.val : ℝ) : EReal) *
    pad S1024x8x384 ![0, 0, 0] ![0, 0, 40] ![0, 0, 0] (fun i : S1024x8x344.Idx =>
      ((Wg (i 0).val ((i 1).val * 344 + (i 2).val) : ℝ) : EReal)) (sitofp (F := Ideal) FTy.f32 (constantI S_ 32 0#32))
      pads_S1024x8x344_S1024x8x384_000_000_0400 h_S_ (ix3 x ⟨j1.val / 384, by omega⟩ ⟨j1.val % 384, by omega⟩)) = _
  simp only [pad_cols Wg _ (fun i => rfl) _ zero_pad]
  simp only [← EReal.coe_mul, sum_univ_coe, bits_1024, bits_eps, div_1024, ← EReal.coe_add, ms_eq]
  rw [rf_eq (X j0.val)]
  simp only [← EReal.coe_mul, sum_univ_coe]
  rfl

theorem at_u (hX : m ((c : Thread nD τ).loc main_arg0) = (mat X : S4096x1024.Idx → EReal)) (hG : m ((c : Thread nD τ).loc main_arg1) = (vec G : S1024.Idx → EReal))
    (hWu : m ((c : Thread nD τ).loc main_arg3) = (mat Wu : S1024x2752.Idx → EReal)) :
    V m c main_v25 = (mat (pj X G (cp Wu)) : S4096x3072.Idx → EReal) := by
  funext j
  idx_vars j
  change StableHlo.after [hostOps0, hostOps0_1, hostOps0_2, hostOps0_3, hostOps0_4, hostOps0_5, hostOps0_6, hostOps0_7, hostOps0_8].flatten _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rw [hX, hG, hWu]
  pointwise
  simp only [mat_ix2, vec_ix1]
  change (∑ x : Fin 1024, ((X j0.val x.val : ℝ) : EReal) * Ideal.rsqrt (Ideal.div (∑ x : Fin 1024, ((X j0.val x.val : ℝ) : EReal) *
    ((X j0.val x.val : ℝ) : EReal)) (Ideal.ofBits .f32 1149239296#32) + Ideal.ofBits .f32 897988541#32) * ((G x.val : ℝ) : EReal) *
    pad S1024x8x384 ![0, 0, 0] ![0, 0, 40] ![0, 0, 0] (fun i : S1024x8x344.Idx =>
      ((Wu (i 0).val ((i 1).val * 344 + (i 2).val) : ℝ) : EReal)) (sitofp (F := Ideal) FTy.f32 (constantI S_ 32 0#32))
      pads_S1024x8x344_S1024x8x384_000_000_0400 h_S_ (ix3 x ⟨j1.val / 384, by omega⟩ ⟨j1.val % 384, by omega⟩)) = _
  simp only [pad_cols Wu _ (fun i => rfl) _ zero_pad]
  simp only [← EReal.coe_mul, sum_univ_coe, bits_1024, bits_eps, div_1024, ← EReal.coe_add, ms_eq]
  rw [rf_eq (X j0.val)]
  simp only [← EReal.coe_mul, sum_univ_coe]
  rfl

theorem at_h (hX : m ((c : Thread nD τ).loc main_arg0) = (mat X : S4096x1024.Idx → EReal)) (hG : m ((c : Thread nD τ).loc main_arg1) = (vec G : S1024.Idx → EReal)) :
    V m c main_v34 = (mat fun k i => hh X G i k : S1024x4096.Idx → EReal) := by
  funext j
  idx_vars j
  change StableHlo.after [hostOps0, hostOps0_1, hostOps0_2, hostOps0_3, hostOps0_4, hostOps0_5, hostOps0_6, hostOps0_7, hostOps0_8].flatten _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rw [hX, hG]
  pointwise
  simp only [mat_ix2, vec_ix1, ← EReal.coe_mul, sum_univ_coe, bits_1024, bits_eps, bits_zero, zero_add, div_1024, ← EReal.coe_add, ms_eq]
  rw [rf_eq (X j1.val)]
  simp only [← EReal.coe_mul]
  rfl

theorem at_dy (hD : m ((c : Thread nD τ).loc main_arg6) = (mat D : S4096x1024.Idx → EReal)) : V m c main_v36 = (mat fun k i => D i k : S1024x4096.Idx → EReal) := by
  funext j
  idx_vars j
  change StableHlo.after [hostOps0, hostOps0_1, hostOps0_2, hostOps0_3, hostOps0_4, hostOps0_5, hostOps0_6, hostOps0_7, hostOps0_8].flatten _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rw [hD]
  pointwise
  simp only [mat_ix2]

theorem at_a (hA : m ((c : Thread nD τ).loc main_arg4) = (mat A : S4096x2752.Idx → EReal)) :
    V m c main_v29 = (mat (cp A) : S4096x3072.Idx → EReal) := by
  funext j
  idx_vars j
  change StableHlo.after [hostOps0, hostOps0_1, hostOps0_2, hostOps0_3, hostOps0_4, hostOps0_5, hostOps0_6, hostOps0_7, hostOps0_8].flatten _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rw [hA]
  pointwise
  simp only [mat_ix2]
  exact pad_cols A _ (fun i => rfl) _ zero_pad pads_S4096x8x344_S4096x8x384_000_000_0400 h_S_ j0 ⟨j1.val / 384, by omega⟩
    ⟨j1.val % 384, by omega⟩

theorem at_b (hB : m ((c : Thread nD τ).loc main_arg5) = (mat B : S4096x2752.Idx → EReal)) :
    V m c main_v33 = (mat (cp B) : S4096x3072.Idx → EReal) := by
  funext j
  idx_vars j
  change StableHlo.after [hostOps0, hostOps0_1, hostOps0_2, hostOps0_3, hostOps0_4, hostOps0_5, hostOps0_6, hostOps0_7, hostOps0_8].flatten _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rw [hB]
  pointwise
  simp only [mat_ix2]
  exact pad_cols B _ (fun i => rfl) _ zero_pad pads_S4096x8x344_S4096x8x384_000_000_0400 h_S_ j0 ⟨j1.val / 384, by omega⟩
    ⟨j1.val % 384, by omega⟩

theorem idx0 : ∀ t : Fin cfg0.N, win0_0.index t = ![0, t.val % 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val % 4, t.val / 4] := (by decide +kernel : ∀ t : Fin grid0.N, _)
theorem idx3 : ∀ t : Fin cfg0.N, win0_3.index t = ![t.val % 4, t.val / 4] := (by decide +kernel : ∀ t : Fin grid0.N, _)
theorem idx4 : ∀ t : Fin cfg0.N, win0_4.index t = ![t.val % 4, t.val / 4] := (by decide +kernel : ∀ t : Fin grid0.N, _)
theorem idx5 : ∀ t : Fin cfg0.N, win0_5.index t = ![t.val % 4, t.val / 4] := (by decide +kernel : ∀ t : Fin grid0.N, _)
theorem idx6 : ∀ t : Fin cfg0.N, win0_6.index t = ![t.val / 4, 0, 0] := (by decide +kernel : ∀ t : Fin grid0.N, _)
theorem idx7 : ∀ t : Fin cfg0.N, win0_7.index t = ![t.val / 4, 0, 0] := (by decide +kernel : ∀ t : Fin grid0.N, _)
theorem idx8 : ∀ t : Fin cfg0.N, win0_8.index t = ![t.val / 4, 0, 0] := (by decide +kernel : ∀ t : Fin grid0.N, _)

theorem iblk0 (hX : m ((c : Thread nD τ).loc main_arg0) = (mat X : S4096x1024.Idx → EReal)) (hG : m ((c : Thread nD τ).loc main_arg1) = (vec G : S1024.Idx → EReal)) (t : Fin cfg0.N) :
    iblk m c 0 t = (mat fun k i => hh X G (t.val % 4 * 1024 + i) k : S1024x1024.Idx → EReal) := by
  funext y
  blk_simp [iblk]
  rw [at_h X G m c hX hG]
  simp [mat, idx0 t]

theorem iblk1 (hD : m ((c : Thread nD τ).loc main_arg6) = (mat D : S4096x1024.Idx → EReal)) (t : Fin cfg0.N) :
    iblk m c 1 t = (mat fun k i => D (t.val % 4 * 1024 + i) k : S1024x1024.Idx → EReal) := by
  funext y
  blk_simp [iblk]
  rw [at_dy D m c hD]
  simp [mat, idx1 t]

theorem iblk2 (hX : m ((c : Thread nD τ).loc main_arg0) = (mat X : S4096x1024.Idx → EReal)) (hG : m ((c : Thread nD τ).loc main_arg1) = (vec G : S1024.Idx → EReal)) (hWg : m ((c : Thread nD τ).loc main_arg2) = (mat Wg : S1024x2752.Idx → EReal)) (t : Fin cfg0.N) :
    iblk m c 2 t = (mat fun i l => pj X G (cp Wg) (t.val % 4 * 1024 + i) (t.val / 4 * 768 + l) : S1024x768.Idx → EReal) := by
  funext y
  blk_simp [iblk]
  rw [at_g X Wg G m c hX hG hWg]
  simp [mat, idx2 t]

theorem iblk3 (hX : m ((c : Thread nD τ).loc main_arg0) = (mat X : S4096x1024.Idx → EReal)) (hG : m ((c : Thread nD τ).loc main_arg1) = (vec G : S1024.Idx → EReal)) (hWu : m ((c : Thread nD τ).loc main_arg3) = (mat Wu : S1024x2752.Idx → EReal)) (t : Fin cfg0.N) :
    iblk m c 3 t = (mat fun i l => pj X G (cp Wu) (t.val % 4 * 1024 + i) (t.val / 4 * 768 + l) : S1024x768.Idx → EReal) := by
  funext y
  blk_simp [iblk]
  rw [at_u X Wu G m c hX hG hWu]
  simp [mat, idx3 t]

theorem iblk4 (hA : m ((c : Thread nD τ).loc main_arg4) = (mat A : S4096x2752.Idx → EReal)) (t : Fin cfg0.N) :
    iblk m c 4 t = (mat fun i l => cp A (t.val % 4 * 1024 + i) (t.val / 4 * 768 + l) : S1024x768.Idx → EReal) := by
  funext y
  blk_simp [iblk]
  rw [at_a A m c hA]
  simp [mat, idx4 t]

theorem iblk5 (hB : m ((c : Thread nD τ).loc main_arg5) = (mat B : S4096x2752.Idx → EReal)) (t : Fin cfg0.N) :
    iblk m c 5 t = (mat fun i l => cp B (t.val % 4 * 1024 + i) (t.val / 4 * 768 + l) : S1024x768.Idx → EReal) := by
  funext y
  blk_simp [iblk]
  rw [at_b B m c hB]
  simp [mat, idx5 t]

/-! ## The accumulators -/

/-- The block of rows `s`, the block of columns `b`, of the product of a turned matrix by a matrix. -/
def part (P Q : ℕ → ℕ → ℝ) (s b k l : ℕ) : ℝ := ∑ i : Fin 1024, P (s * 1024 + i.val) k * Q (s * 1024 + i.val) (b * 768 + l)

/-- The product of a turned matrix by a matrix. -/
def tprod (P Q : ℕ → ℕ → ℝ) (k l : ℕ) : ℝ := ∑ i : Fin 4096, P i.val k * Q i.val l

theorem sum_part (P Q : ℕ → ℕ → ℝ) (b k l : ℕ) : ∑ s : Fin 4, part P Q s.val b k l = tprod P Q k (b * 768 + l) :=
  sum_blocks 4 1024 (fun i => P i k * Q i (b * 768 + l)) rfl

/-- The gated rows. -/
def act (i l : ℕ) : ℝ := pj X G Wg i l * sg (pj X G Wg i l) * pj X G Wu i l

theorem act_cp (i l : ℕ) : act X (cp Wg) (cp Wu) G i l = cp (act X Wg Wu G) i l := by
  simp only [act, pj_cp]
  simp only [cp]
  split_ifs
  · rfl
  · simp

theorem tprod_cp (i k : ℕ) : tprod P (cp Q) i k = cp (tprod P Q) i k := by
  simp only [tprod, cp]
  split_ifs
  · rfl
  · simp

/-- A half of a matrix just stored. -/
theorem half {κ : Kind} {sp : Space} (v : View sig κ sp S1024x768 .f32) (f : ℕ → ℕ → ℝ) (o : Fin 2 → ℕ) (h) :
    v.readCov (Val := Elt Ideal) [⟨Rect.unit ![0, 0] ![1024, 768] inb_S1024x768_S1024x768_0_0, mat f⟩]
      (Rect.unit o ![1024, 384] h).toLoadRect = (mat fun i k => f (o 0 + i) (o 1 + k) : S1024x384.Idx → EReal) := by
  rw [View.readCov_eq_canon']
  funext j
  refine (View.canon_apply_of_pieces (mat f) _ ?_ _ ?_).trans ?_
  · simp only [List.mem_cons, List.not_mem_nil, or_false, forall_eq]
    exact piece_mat fun i k hi hk => by simp
  · refine ⟨_, List.mem_cons_self, mem_rect (h := inb_S1024x768_S1024x768_0_0) _ ⟨Nat.zero_le _, ?_⟩ ⟨Nat.zero_le _, ?_⟩⟩
    · exact lt_of_lt_of_eq (Fin.isLt _) rfl
    · exact lt_of_lt_of_eq (Fin.isLt _) rfl
  · exact congrArg (fun x : ℝ => (x : EReal)) (congrArg₂ f (show o 0 + 1 * (j 0).val = _ by rw [Nat.one_mul])
      (show o 1 + 1 * (j 1).val = _ by rw [Nat.one_mul]))

/-- A stored part agrees with the array at its place. -/
theorem piece_cube {a b d p q r : ℕ} {f g : ℕ → ℕ → ℕ → ℝ} {o : Fin 3 → ℕ}
    {h : ∀ x, o x + (![p, q, r] : Fin 3 → ℕ) x ≤ (⟨3, ![a, b, d]⟩ : Shape).size x}
    (hf : ∀ i k l, i < p → k < q → l < r → f i k l = g (o 0 + i) (o 1 + k) (o 2 + l)) (x : (⟨3, ![p, q, r]⟩ : Shape).Idx) :
    cube f x = (cube g : (⟨3, ![a, b, d]⟩ : Shape).Idx → EReal) ((Rect.unit (s := ⟨3, ![a, b, d]⟩) o ![p, q, r] h).emb x) :=
  congrArg (fun r : ℝ => (r : EReal)) ((hf _ _ _ (x 0).isLt (x 1).isLt (x 2).isLt).trans
    (congr (congrArg₂ g (Rect.idx_unit_val (s := ⟨3, ![a, b, d]⟩) o _ h x 0).symm
      (Rect.idx_unit_val (s := ⟨3, ![a, b, d]⟩) o _ h x 1).symm) (Rect.idx_unit_val (s := ⟨3, ![a, b, d]⟩) o _ h x 2).symm))

/-- An index lies in a part when its coordinates do. -/
theorem mem_box {a b d : ℕ} {o s : Fin 3 → ℕ} {h : ∀ x, o x + s x ≤ (⟨3, ![a, b, d]⟩ : Shape).size x}
    (y : (⟨3, ![a, b, d]⟩ : Shape).Idx) (h0 : o 0 ≤ (y 0).val ∧ (y 0).val < o 0 + s 0)
    (h1 : o 1 ≤ (y 1).val ∧ (y 1).val < o 1 + s 1) (h2 : o 2 ≤ (y 2).val ∧ (y 2).val < o 2 + s 2) :
    y ∈ (Rect.unit (s := ⟨3, ![a, b, d]⟩) o s h).set := by
  rw [Rect.mem_set_unit]
  intro x
  match x with
  | ⟨0, _⟩ => exact h0
  | ⟨1, _⟩ => exact h1
  | ⟨2, _⟩ => exact h2

/-- Two halves side by side, stored one above the other. -/
theorem halves (f : ℕ → ℕ → ℝ) (y : S2x1024x384.Idx) :
    View.canon (Val := Elt Ideal) (s := S2x1024x384) (e := .bf16)
      [⟨Rect.unit ![1, 0, 0] ![1, 1024, 384] inb_S2x1024x384_S1x1024x384_1_0_0, cube fun _ i k => f i (384 + k)⟩,
        ⟨Rect.unit ![0, 0, 0] ![1, 1024, 384] inb_S2x1024x384_S1x1024x384_0_0_0, cube fun _ i k => f i k⟩] y =
    ((f (y 1).val ((y 0).val * 384 + (y 2).val) : ℝ) : EReal) := by
  refine (View.canon_apply_of_pieces (cube fun b i k => f i (b * 384 + k)) _ ?_ _ ?_).trans rfl
  · simp only [List.mem_cons, List.not_mem_nil, or_false, forall_eq_or_imp, forall_eq]
    refine ⟨piece_cube (f := fun _ i k => f i (384 + k)) fun i k l hi hk hl => ?_, piece_cube (f := fun _ i k => f i k) fun i k l hi hk hl => ?_⟩
    · obtain rfl : i = 0 := by omega
      simp
    · obtain rfl : i = 0 := by omega
      simp
  · have h0 : (y 0).val < 2 := (y 0).isLt
    have h1 : (y 1).val < 1024 := (y 1).isLt
    have h2 : (y 2).val < 384 := (y 2).isLt
    by_cases h : (y 0).val = 1
    · exact ⟨_, List.mem_cons_self, mem_box (h := inb_S2x1024x384_S1x1024x384_1_0_0) _ ⟨h.ge, by show _ < 1 + 1; omega⟩
        ⟨Nat.zero_le _, by show _ < 0 + 1024; omega⟩ ⟨Nat.zero_le _, by show _ < 0 + 384; omega⟩⟩
    · exact ⟨_, List.mem_cons_of_mem _ List.mem_cons_self, mem_box (h := inb_S2x1024x384_S1x1024x384_0_0_0) _
        ⟨Nat.zero_le _, by show _ < 0 + 1; omega⟩
        ⟨Nat.zero_le _, by show _ < 0 + 1024; omega⟩ ⟨Nat.zero_le _, by show _ < 0 + 384; omega⟩⟩

variable (hX : m ((c : Thread nD τ).loc main_arg0) = (mat X : S4096x1024.Idx → EReal))
variable (hG : m ((c : Thread nD τ).loc main_arg1) = (vec G : S1024.Idx → EReal))
variable (hWg : m ((c : Thread nD τ).loc main_arg2) = (mat Wg : S1024x2752.Idx → EReal))
variable (hWu : m ((c : Thread nD τ).loc main_arg3) = (mat Wu : S1024x2752.Idx → EReal))
variable (hA : m ((c : Thread nD τ).loc main_arg4) = (mat A : S4096x2752.Idx → EReal))
variable (hB : m ((c : Thread nD τ).loc main_arg5) = (mat B : S4096x2752.Idx → EReal))
variable (hD : m ((c : Thread nD τ).loc main_arg6) = (mat D : S4096x1024.Idx → EReal))

include hX hG hA in
theorem step0 (t : Fin cfg0.N) (x : S1024x768.Idx → EReal) (j : S1024x768.Idx) : k0_pay13 (F := Ideal) (iblk m c 0 t) x (iblk m c 4 t) j =
    x j + (mat (part (hh X G) (cp A) (t.val % 4) (t.val / 4)) : S1024x768.Idx → EReal) j := by
  rw [iblk0 X G m c hX hG, iblk4 A m c hA, pay13]
  rfl

include hX hG hA in
/-- The accumulator after the last block of rows. -/
theorem total0 (t : Fin cfg0.N) (h : t.val % 4 = 3) (j : S1024x768.Idx) : (outsAt0 m c t.val t.isLt).2.2.2.1 j =
    (mat (fun k l => tprod (hh X G) (cp A) k (t.val / 4 * 768 + l)) : S1024x768.Idx → EReal) j := by
  refine (Pipeline.eq_sum_fin_of_reset_step_apply_of_flush (fun n h => (outsAt0 m c n h).2.2.2.1) 4 (fun _ => (0 : EReal))
    (fun t j => (mat (part (hh X G) (cp A) (t.val % 4) (t.val / 4)) : S1024x768.Idx → EReal) j) (fun t h j => ?_) (fun t h j => ?_)
    t h j).trans ?_
  · rw [outsAt0_A m c t h (by omega)]
    frame_out
    refine (step0 X A G m c hX hG hA t _ j).trans ?_
    rw [pay10]
  · by_cases h3 : t.val % 4 = 3
    · rw [outsAt0_C m c t h h3]
      frame_out
      rw [read_unread_whole]
      exact step0 X A G m c hX hG hA t _ j
    · rw [outsAt0_B m c t h h3]
      frame_out
      rw [read_unread_whole]
      exact step0 X A G m c hX hG hA t _ j
  · rw [zero_add]
    have e : ∀ s : Fin 4, (mat (part (hh X G) (cp A) ((4 * (t.val / 4) + s.val) % 4) ((4 * (t.val / 4) + s.val) / 4)) : S1024x768.Idx → EReal) j =
        ((part (hh X G) (cp A) s.val (t.val / 4) (j 0).val (j 1).val : ℝ) : EReal) := fun s => by
      rw [show (4 * (t.val / 4) + s.val) % 4 = s.val by omega, show (4 * (t.val / 4) + s.val) / 4 = t.val / 4 by omega]
      rfl
    exact (Finset.sum_congr rfl fun s _ => e s).trans ((sum_univ_coe _).trans
      (congrArg (fun x : ℝ => (x : EReal)) (sum_part _ _ _ _ _)))

include hX hG hA in
/-- The same, as the last point stores it. -/
theorem last0 (t : Fin cfg0.N) (h : t.val % 4 = 3) (hp : t.val - 1 < cfg0.N) :
    k0_pay13 (F := Ideal) (iblk m c 0 t) (outsAt0 m c (t.val - 1) hp).2.2.2.1 (iblk m c 4 t) =
    (mat (fun k l => tprod (hh X G) (cp A) k (t.val / 4 * 768 + l)) : S1024x768.Idx → EReal) := by
  funext j
  refine Eq.trans ?_ (total0 X A G m c hX hG hA t h j)
  rw [outsAt0_C m c t (by omega) h]
  frame_out
  rw [read_unread_whole]

include hX hG hB in
theorem step1 (t : Fin cfg0.N) (x : S1024x768.Idx → EReal) (j : S1024x768.Idx) : k0_pay14 (F := Ideal) (iblk m c 0 t) x (iblk m c 5 t) j =
    x j + (mat (part (hh X G) (cp B) (t.val % 4) (t.val / 4)) : S1024x768.Idx → EReal) j := by
  rw [iblk0 X G m c hX hG, iblk5 B m c hB, pay14]
  rfl

include hX hG hB in
/-- The accumulator after the last block of rows. -/
theorem total1 (t : Fin cfg0.N) (h : t.val % 4 = 3) (j : S1024x768.Idx) : (outsAt0 m c t.val t.isLt).2.2.2.2.1 j =
    (mat (fun k l => tprod (hh X G) (cp B) k (t.val / 4 * 768 + l)) : S1024x768.Idx → EReal) j := by
  refine (Pipeline.eq_sum_fin_of_reset_step_apply_of_flush (fun n h => (outsAt0 m c n h).2.2.2.2.1) 4 (fun _ => (0 : EReal))
    (fun t j => (mat (part (hh X G) (cp B) (t.val % 4) (t.val / 4)) : S1024x768.Idx → EReal) j) (fun t h j => ?_) (fun t h j => ?_)
    t h j).trans ?_
  · rw [outsAt0_A m c t h (by omega)]
    frame_out
    refine (step1 X B G m c hX hG hB t _ j).trans ?_
    rw [pay11]
  · by_cases h3 : t.val % 4 = 3
    · rw [outsAt0_C m c t h h3]
      frame_out
      rw [read_unread_whole]
      exact step1 X B G m c hX hG hB t _ j
    · rw [outsAt0_B m c t h h3]
      frame_out
      rw [read_unread_whole]
      exact step1 X B G m c hX hG hB t _ j
  · rw [zero_add]
    have e : ∀ s : Fin 4, (mat (part (hh X G) (cp B) ((4 * (t.val / 4) + s.val) % 4) ((4 * (t.val / 4) + s.val) / 4)) : S1024x768.Idx → EReal) j =
        ((part (hh X G) (cp B) s.val (t.val / 4) (j 0).val (j 1).val : ℝ) : EReal) := fun s => by
      rw [show (4 * (t.val / 4) + s.val) % 4 = s.val by omega, show (4 * (t.val / 4) + s.val) / 4 = t.val / 4 by omega]
      rfl
    exact (Finset.sum_congr rfl fun s _ => e s).trans ((sum_univ_coe _).trans
      (congrArg (fun x : ℝ => (x : EReal)) (sum_part _ _ _ _ _)))

include hX hG hB in
/-- The same, as the last point stores it. -/
theorem last1 (t : Fin cfg0.N) (h : t.val % 4 = 3) (hp : t.val - 1 < cfg0.N) :
    k0_pay14 (F := Ideal) (iblk m c 0 t) (outsAt0 m c (t.val - 1) hp).2.2.2.2.1 (iblk m c 5 t) =
    (mat (fun k l => tprod (hh X G) (cp B) k (t.val / 4 * 768 + l)) : S1024x768.Idx → EReal) := by
  funext j
  refine Eq.trans ?_ (total1 X B G m c hX hG hB t h j)
  rw [outsAt0_C m c t (by omega) h]
  frame_out
  rw [read_unread_whole]

include hX hG hWg hWu hD in
theorem step2 (t : Fin cfg0.N) (x : S1024x768.Idx → EReal) (j : S1024x768.Idx) : k0_pay1 (F := Ideal) (k0_pay15 (iblk m c 2 t) (iblk m c 3 t)) x (iblk m c 1 t) j =
    x j + (mat (part (D) (act X (cp Wg) (cp Wu) G) (t.val % 4) (t.val / 4)) : S1024x768.Idx → EReal) j := by
  rw [iblk2 X Wg G m c hX hG hWg, iblk3 X Wu G m c hX hG hWu, iblk1 D m c hD, pay15, pay1]
  rfl

include hX hG hWg hWu hD in
/-- The accumulator after the last block of rows. -/
theorem total2 (t : Fin cfg0.N) (h : t.val % 4 = 3) (j : S1024x768.Idx) : (outsAt0 m c t.val t.isLt).2.2.2.2.2 j =
    (mat (fun k l => tprod (D) (act X (cp Wg) (cp Wu) G) k (t.val / 4 * 768 + l)) : S1024x768.Idx → EReal) j := by
  refine (Pipeline.eq_sum_fin_of_reset_step_apply_of_flush (fun n h => (outsAt0 m c n h).2.2.2.2.2) 4 (fun _ => (0 : EReal))
    (fun t j => (mat (part (D) (act X (cp Wg) (cp Wu) G) (t.val % 4) (t.val / 4)) : S1024x768.Idx → EReal) j) (fun t h j => ?_) (fun t h j => ?_)
    t h j).trans ?_
  · rw [outsAt0_A m c t h (by omega)]
    frame_out
    refine (step2 X Wg Wu D G m c hX hG hWg hWu hD t _ j).trans ?_
    rw [pay12]
  · by_cases h3 : t.val % 4 = 3
    · rw [outsAt0_C m c t h h3]
      frame_out
      rw [read_unread_whole]
      exact step2 X Wg Wu D G m c hX hG hWg hWu hD t _ j
    · rw [outsAt0_B m c t h h3]
      frame_out
      rw [read_unread_whole]
      exact step2 X Wg Wu D G m c hX hG hWg hWu hD t _ j
  · rw [zero_add]
    have e : ∀ s : Fin 4, (mat (part (D) (act X (cp Wg) (cp Wu) G) ((4 * (t.val / 4) + s.val) % 4) ((4 * (t.val / 4) + s.val) / 4)) : S1024x768.Idx → EReal) j =
        ((part (D) (act X (cp Wg) (cp Wu) G) s.val (t.val / 4) (j 0).val (j 1).val : ℝ) : EReal) := fun s => by
      rw [show (4 * (t.val / 4) + s.val) % 4 = s.val by omega, show (4 * (t.val / 4) + s.val) / 4 = t.val / 4 by omega]
      rfl
    exact (Finset.sum_congr rfl fun s _ => e s).trans ((sum_univ_coe _).trans
      (congrArg (fun x : ℝ => (x : EReal)) (sum_part _ _ _ _ _)))

include hX hG hWg hWu hD in
/-- The same, as the last point stores it. -/
theorem last2 (t : Fin cfg0.N) (h : t.val % 4 = 3) (hp : t.val - 1 < cfg0.N) :
    k0_pay1 (F := Ideal) (k0_pay15 (iblk m c 2 t) (iblk m c 3 t)) (outsAt0 m c (t.val - 1) hp).2.2.2.2.2 (iblk m c 1 t) =
    (mat (fun k l => tprod (D) (act X (cp Wg) (cp Wu) G) k (t.val / 4 * 768 + l)) : S1024x768.Idx → EReal) := by
  funext j
  refine Eq.trans ?_ (total2 X Wg Wu D G m c hX hG hWg hWu hD t h j)
  rw [outsAt0_C m c t (by omega) h]
  frame_out
  rw [read_unread_whole]

theorem emb6 (t : Fin cfg0.N) (y : S2x1024x384.Idx) : ((cfg0.win 6).blk t).view.emb y =
    ix3 ⟨t.val / 4 * 2 + (y 0).val, by have h : (y 0).val < 2 := (y 0).isLt; have := t.isLt.trans_eq N_0; omega⟩ (y 1) (y 2) := by
  blk_ext [idx6 t]

theorem emb7 (t : Fin cfg0.N) (y : S2x1024x384.Idx) : ((cfg0.win 7).blk t).view.emb y =
    ix3 ⟨t.val / 4 * 2 + (y 0).val, by have h : (y 0).val < 2 := (y 0).isLt; have := t.isLt.trans_eq N_0; omega⟩ (y 1) (y 2) := by
  blk_ext [idx7 t]

theorem emb8 (t : Fin cfg0.N) (y : S2x1024x384.Idx) : ((cfg0.win 8).blk t).view.emb y =
    ix3 ⟨t.val / 4 * 2 + (y 0).val, by have h : (y 0).val < 2 := (y 0).isLt; have := t.isLt.trans_eq N_0; omega⟩ (y 1) (y 2) := by
  blk_ext [idx8 t]

/-- What the last point leaves in the result's block. -/
theorem stored0 {κ : Kind} {sp : Space} (v : View sig κ sp S1024x768 .f32) (x : S1024x768.Idx → EReal) (f : ℕ → ℕ → ℝ)
    (hx : x = mat f) (y : S2x1024x384.Idx) : View.canon (Val := Elt Ideal) (s := S2x1024x384) (e := .bf16)
      [⟨Rect.unit ![1, 0, 0] ![1, 1024, 384] inb_S2x1024x384_S1x1024x384_1_0_0, k0_pay4 (v.readCov (Val := Elt Ideal)
          [⟨Rect.unit ![0, 0] ![1024, 768] inb_S1024x768_S1024x768_0_0, x⟩]
          (Rect.unit ![0, 384] ![1024, 384] inb_S1024x768_S1024x384_0_384).toLoadRect)⟩,
        ⟨Rect.unit ![0, 0, 0] ![1, 1024, 384] inb_S2x1024x384_S1x1024x384_0_0_0, k0_pay3 (v.readCov (Val := Elt Ideal)
          [⟨Rect.unit ![0, 0] ![1024, 768] inb_S1024x768_S1024x768_0_0, x⟩]
          (Rect.unit ![0, 0] ![1024, 384] inb_S1024x768_S1024x384_0_0).toLoadRect)⟩] y =
    ((f (y 1).val ((y 0).val * 384 + (y 2).val) : ℝ) : EReal) := by
  subst hx
  rw [half v f ![0, 384], half v f ![0, 0], pay4, pay3]
  simp only [Matrix.cons_val_zero, Matrix.cons_val_one, Nat.zero_add]
  exact halves f y

include hX hG hA in
/-- The result after the run. -/
theorem final6 : (dats m 0 c).arrAt 6 cfg0.N =
    (cube (fun b k l => tprod (hh X G) (cp A) k (b * 384 + l)) : S8x1024x384.Idx → EReal) := by
  refine (dats m 0 c).arrAt_eq_of_covers 6 _ (by decide +kernel) fun t hf y => ?_
  rw [emb6 t y]
  blk_simp
  rw [after0_6]
  have h := (flush0_6 t).mp hf
  have hN := t.isLt.trans_eq N_0
  rw [outsAt0_C m c t (by omega) h]
  frame_out
  rw [read_unread_whole]
  refine (stored0 _ _ (fun k l => tprod (hh X G) (cp A) k (t.val / 4 * 768 + l)) (last0 X A G m c hX hG hA t h _) y).trans ?_
  refine congrArg (fun x : ℝ => (x : EReal)) ?_
  refine congrArg (tprod (hh X G) (cp A) (y 1).val) ?_
  show t.val / 4 * 768 + ((y 0).val * 384 + (y 2).val) = (t.val / 4 * 2 + (y 0).val) * 384 + (y 2).val
  ring

/-- What the last point leaves in the result's block. -/
theorem stored1 {κ : Kind} {sp : Space} (v : View sig κ sp S1024x768 .f32) (x : S1024x768.Idx → EReal) (f : ℕ → ℕ → ℝ)
    (hx : x = mat f) (y : S2x1024x384.Idx) : View.canon (Val := Elt Ideal) (s := S2x1024x384) (e := .bf16)
      [⟨Rect.unit ![1, 0, 0] ![1, 1024, 384] inb_S2x1024x384_S1x1024x384_1_0_0, k0_pay6 (v.readCov (Val := Elt Ideal)
          [⟨Rect.unit ![0, 0] ![1024, 768] inb_S1024x768_S1024x768_0_0, x⟩]
          (Rect.unit ![0, 384] ![1024, 384] inb_S1024x768_S1024x384_0_384).toLoadRect)⟩,
        ⟨Rect.unit ![0, 0, 0] ![1, 1024, 384] inb_S2x1024x384_S1x1024x384_0_0_0, k0_pay5 (v.readCov (Val := Elt Ideal)
          [⟨Rect.unit ![0, 0] ![1024, 768] inb_S1024x768_S1024x768_0_0, x⟩]
          (Rect.unit ![0, 0] ![1024, 384] inb_S1024x768_S1024x384_0_0).toLoadRect)⟩] y =
    ((f (y 1).val ((y 0).val * 384 + (y 2).val) : ℝ) : EReal) := by
  subst hx
  rw [half v f ![0, 384], half v f ![0, 0], pay6, pay5]
  simp only [Matrix.cons_val_zero, Matrix.cons_val_one, Nat.zero_add]
  exact halves f y

include hX hG hB in
/-- The result after the run. -/
theorem final7 : (dats m 0 c).arrAt 7 cfg0.N =
    (cube (fun b k l => tprod (hh X G) (cp B) k (b * 384 + l)) : S8x1024x384.Idx → EReal) := by
  refine (dats m 0 c).arrAt_eq_of_covers 7 _ (by decide +kernel) fun t hf y => ?_
  rw [emb7 t y]
  blk_simp
  rw [after0_7]
  have h := (flush0_7 t).mp hf
  have hN := t.isLt.trans_eq N_0
  rw [outsAt0_C m c t (by omega) h]
  frame_out
  rw [read_unread_whole]
  refine (stored1 _ _ (fun k l => tprod (hh X G) (cp B) k (t.val / 4 * 768 + l)) (last1 X B G m c hX hG hB t h _) y).trans ?_
  refine congrArg (fun x : ℝ => (x : EReal)) ?_
  refine congrArg (tprod (hh X G) (cp B) (y 1).val) ?_
  show t.val / 4 * 768 + ((y 0).val * 384 + (y 2).val) = (t.val / 4 * 2 + (y 0).val) * 384 + (y 2).val
  ring

/-- What the last point leaves in the result's block. -/
theorem stored2 {κ : Kind} {sp : Space} (v : View sig κ sp S1024x768 .f32) (x : S1024x768.Idx → EReal) (f : ℕ → ℕ → ℝ)
    (hx : x = mat f) (y : S2x1024x384.Idx) : View.canon (Val := Elt Ideal) (s := S2x1024x384) (e := .bf16)
      [⟨Rect.unit ![1, 0, 0] ![1, 1024, 384] inb_S2x1024x384_S1x1024x384_1_0_0, k0_pay2 (k0_pay8 (v.readCov (Val := Elt Ideal)
          [⟨Rect.unit ![0, 0] ![1024, 768] inb_S1024x768_S1024x768_0_0, x⟩]
          (Rect.unit ![0, 384] ![1024, 384] inb_S1024x768_S1024x384_0_384).toLoadRect))⟩,
        ⟨Rect.unit ![0, 0, 0] ![1, 1024, 384] inb_S2x1024x384_S1x1024x384_0_0_0, k0_pay7 (v.readCov (Val := Elt Ideal)
          [⟨Rect.unit ![0, 0] ![1024, 768] inb_S1024x768_S1024x768_0_0, x⟩]
          (Rect.unit ![0, 0] ![1024, 384] inb_S1024x768_S1024x384_0_0).toLoadRect)⟩] y =
    ((f (y 1).val ((y 0).val * 384 + (y 2).val) : ℝ) : EReal) := by
  subst hx
  rw [half v f ![0, 384], half v f ![0, 0], pay2, pay7]
  simp only [Matrix.cons_val_zero, Matrix.cons_val_one, Nat.zero_add]
  exact halves f y

include hX hG hWg hWu hD in
/-- The result after the run. -/
theorem final8 : (dats m 0 c).arrAt 8 cfg0.N =
    (cube (fun b k l => tprod (D) (act X (cp Wg) (cp Wu) G) k (b * 384 + l)) : S8x1024x384.Idx → EReal) := by
  refine (dats m 0 c).arrAt_eq_of_covers 8 _ (by decide +kernel) fun t hf y => ?_
  rw [emb8 t y]
  blk_simp
  rw [after0_8]
  have h := (flush0_8 t).mp hf
  have hN := t.isLt.trans_eq N_0
  rw [outsAt0_C m c t (by omega) h]
  frame_out
  rw [read_unread_whole]
  refine (stored2 _ _ (fun k l => tprod (D) (act X (cp Wg) (cp Wu) G) k (t.val / 4 * 768 + l)) (last2 X Wg Wu D G m c hX hG hWg hWu hD t h _) y).trans ?_
  refine congrArg (fun x : ℝ => (x : EReal)) ?_
  refine congrArg (tprod (D) (act X (cp Wg) (cp Wu) G) (y 1).val) ?_
  show t.val / 4 * 768 + ((y 0).val * 384 + (y 2).val) = (t.val / 4 * 2 + (y 0).val) * 384 + (y 2).val
  ring

end Cert.Proof.Wts

end
-- ==== Proof.WtsRef.lean ====
module

public import proofs.«01_k».proof.Proof.Wts
public import proofs.«01_k».proof.Proof.Gen.Reference5Ideal.Run
public import proofs.«01_k».proof.Proof.Gen.Reference5Ideal.Read
public import proofs.«01_k».proof.Defs

/-!
# The feed-forward block's gradient by weights: the kernel computes the derivative
-/

@[expose] public section

set_option maxRecDepth 16384
set_option maxHeartbeats 4000000

noncomputable section

namespace Cert.Proof.WtsRef

open Idealize.ShloMosaic Idealize.ShloMosaic.TcCoe Idealize.SL.Sem Cert.Proof.Reals Cert.Proof.Mats Cert.Proof.Gate Cert.Proof.Wts

section Reference

open Cert.Reference5Ideal Cert.Reference5Ideal.Gen Cert.Reference5Ideal.Read

variable (X Wg Wu A B D : ℕ → ℕ → ℝ) (G : ℕ → ℝ)

/-- The mean square plus eps. -/
theorem v6 : val_main_v6 (F := Ideal) (mat X) = (mat fun i _ => ms (X i) : S4096x1.Idx → EReal) := by
  funext j
  idx_vars j
  unfold val_main_v6 val_main_v5 val_main_v4 val_main_v3 val_main_v2 val_main_v1 val_main_v0 val_main_cst
    val_main_cst_0 val_main_cst_1
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The factor. -/
theorem v7 : val_main_v7 (F := Ideal) (mat X) = (mat fun i _ => rf (X i) : S4096x1.Idx → EReal) := by
  funext j
  idx_vars j
  unfold val_main_v7
  rw [v6]
  pointwise
  simp only [mat_ix2, vec_ix1, ← EReal.coe_mul, sum_univ_coe, bits_1024, bits_eps, bits_zero, bits_half, bits_neg_half, bits_one, div_1024,
    ← EReal.coe_add, ← EReal.coe_sub, zero_add]
  exact rf_eq _

/-- The normalised rows with the gain. -/
theorem v12 : val_main_v12 (F := Ideal) (mat X) (vec G) = (mat (hh X G) : S4096x1024.Idx → EReal) := by
  funext j
  idx_vars j
  unfold val_main_v12 val_main_v11 val_main_v10 val_main_v9 val_main_v8
  rw [v7]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- A product of the normalised rows. -/
theorem v13 : val_main_v13 (F := Ideal) (mat X) (vec G) (mat Wg) = (mat (pj X G Wg) : S4096x2752.Idx → EReal) := by
  funext j
  idx_vars j
  unfold val_main_v13
  rw [v12]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- A product of the normalised rows. -/
theorem v14 : val_main_v14 (F := Ideal) (mat X) (vec G) (mat Wu) = (mat (pj X G Wu) : S4096x2752.Idx → EReal) := by
  funext j
  idx_vars j
  unfold val_main_v14
  rw [v12]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The logistic function of the gate's argument. -/
theorem call0_v5 : val_main_call0_v5 (F := Ideal) (mat X) (vec G) (mat Wg) = (mat fun i l => sg (pj X G Wg i l) : S4096x2752.Idx → EReal) := by
  funext j
  idx_vars j
  unfold val_main_call0_v5 val_main_call0_v4 val_main_call0_cst_0 val_main_call0_v3 val_main_call0_v2
    val_main_call0_cst val_main_call0_v1 val_main_call0_v0
  rw [v13]
  pointwise
  simp only [mat_ix2, vec_ix1, ← EReal.coe_mul, sum_univ_coe, bits_1024, bits_eps, bits_zero, bits_half, bits_neg_half, bits_one, div_1024,
    ← EReal.coe_add, ← EReal.coe_sub, zero_add]
  exact sg_eq _

/-- The gated rows. -/
theorem v17 : val_main_v17 (F := Ideal) (mat X) (vec G) (mat Wg) (mat Wu) = (mat (act X Wg Wu G) : S4096x2752.Idx → EReal) := by
  funext j
  idx_vars j
  unfold val_main_v17 val_main_v16
  rw [v13, call0_v5, v14]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The gradient of a weight. -/
theorem v22 : val_main_v22 (F := Ideal) (mat X) (vec G) (mat A) = (mat (tprod (hh X G) A) : S1024x2752.Idx → EReal) := by
  funext j
  idx_vars j
  unfold val_main_v22 val_main_v21
  rw [v12]
  pointwise
  simp only [mat_ix2, vec_ix1, ← EReal.coe_mul, sum_univ_coe, bits_1024, bits_eps, bits_zero, bits_half, bits_neg_half, bits_one, div_1024,
    ← EReal.coe_add, ← EReal.coe_sub, zero_add]
  exact congrArg Real.toEReal (Finset.sum_congr rfl fun i _ => mul_comm _ _)

/-- The gradient of a weight. -/
theorem v20 : val_main_v20 (F := Ideal) (mat X) (vec G) (mat B) = (mat (tprod (hh X G) B) : S1024x2752.Idx → EReal) := by
  funext j
  idx_vars j
  unfold val_main_v20 val_main_v19
  rw [v12]
  pointwise
  simp only [mat_ix2, vec_ix1, ← EReal.coe_mul, sum_univ_coe, bits_1024, bits_eps, bits_zero, bits_half, bits_neg_half, bits_one, div_1024,
    ← EReal.coe_add, ← EReal.coe_sub, zero_add]
  exact congrArg Real.toEReal (Finset.sum_congr rfl fun i _ => mul_comm _ _)

/-- The gradient of the last weight, turned. -/
theorem v33 : val_main_v33 (F := Ideal) (mat X) (vec G) (mat Wg) (mat Wu) (mat D) = (mat (tprod D (act X Wg Wu G)) : S1024x2752.Idx → EReal) := by
  funext j
  idx_vars j
  unfold val_main_v33 val_main_v24 val_main_v23
  rw [v17]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The gradient, its columns in widened blocks, a block after the other. -/
theorem v28 : val_main_v28 (F := Ideal) (mat X) (vec G) (mat A) =
    (cube (fun b k l => cp (tprod (hh X G) A) k (b * 384 + l)) : S8x1024x384.Idx → EReal) := by
  funext j
  idx_vars j
  unfold val_main_v28 val_main_v27 val_main_v26 val_main_v25 val_main_call1_v0 val_main_c
  rw [v22]
  pointwise
  simp only [mat_ix2, cube_ix3]
  have e : (j0.val * 384 + j2.val) % 384 = j2.val := by omega
  have e' : (j0.val * 384 + j2.val) / 384 = j0.val := by omega
  unfold cp
  rw [e, e']
  split_ifs <;> first | omega | simp [FloatOps.sitofp]

/-- The gradient, its columns in widened blocks, a block after the other. -/
theorem v32 : val_main_v32 (F := Ideal) (mat X) (vec G) (mat B) =
    (cube (fun b k l => cp (tprod (hh X G) B) k (b * 384 + l)) : S8x1024x384.Idx → EReal) := by
  funext j
  idx_vars j
  unfold val_main_v32 val_main_v31 val_main_v30 val_main_v29 val_main_call2_v0 val_main_c_3
  rw [v20]
  pointwise
  simp only [mat_ix2, cube_ix3]
  have e : (j0.val * 384 + j2.val) % 384 = j2.val := by omega
  have e' : (j0.val * 384 + j2.val) / 384 = j0.val := by omega
  unfold cp
  rw [e, e']
  split_ifs <;> first | omega | simp [FloatOps.sitofp]

/-- The gradient, its columns in widened blocks, a block after the other. -/
theorem v37 : val_main_v37 (F := Ideal) (mat X) (vec G) (mat Wg) (mat Wu) (mat D) =
    (cube (fun b k l => cp (tprod D (act X Wg Wu G)) k (b * 384 + l)) : S8x1024x384.Idx → EReal) := by
  funext j
  idx_vars j
  unfold val_main_v37 val_main_v36 val_main_v35 val_main_v34 val_main_call3_v0 val_main_c_4
  rw [v33]
  pointwise
  simp only [mat_ix2, cube_ix3]
  have e : (j0.val * 384 + j2.val) % 384 = j2.val := by omega
  have e' : (j0.val * 384 + j2.val) / 384 = j0.val := by omega
  unfold cp
  rw [e, e']
  split_ifs <;> first | omega | simp [FloatOps.sitofp]

end Reference

section Claim

/-- The argument arrays of the precondition are real. -/
theorem real_args [hP : Cert.Pre_finite5.Facts]
    {m : (ℓ : Loc Cert.Kernel5Ideal.nD Cert.Kernel5Ideal.τ Cert.Kernel5Ideal.sig) → Buf (Elt Ideal) ℓ}
    (h : Cert.Pre_Kernel5Ideal_finite5 m) (c : Dev Cert.Kernel5Ideal.nD) :
    ∃ (X : ℕ → ℕ → ℝ) (G : ℕ → ℝ) (Wg : ℕ → ℕ → ℝ) (Wu : ℕ → ℕ → ℝ) (A : ℕ → ℕ → ℝ) (B : ℕ → ℕ → ℝ) (D : ℕ → ℕ → ℝ),
      m ((c : Thread Cert.Kernel5Ideal.nD Cert.Kernel5Ideal.τ).loc Cert.Kernel5Ideal.main_arg0) = (mat X : Cert.Kernel5Ideal.S4096x1024.Idx → EReal) ∧
      m ((c : Thread Cert.Kernel5Ideal.nD Cert.Kernel5Ideal.τ).loc Cert.Kernel5Ideal.main_arg1) = (vec G : Cert.Kernel5Ideal.S1024.Idx → EReal) ∧
      m ((c : Thread Cert.Kernel5Ideal.nD Cert.Kernel5Ideal.τ).loc Cert.Kernel5Ideal.main_arg2) = (mat Wg : Cert.Kernel5Ideal.S1024x2752.Idx → EReal) ∧
      m ((c : Thread Cert.Kernel5Ideal.nD Cert.Kernel5Ideal.τ).loc Cert.Kernel5Ideal.main_arg3) = (mat Wu : Cert.Kernel5Ideal.S1024x2752.Idx → EReal) ∧
      m ((c : Thread Cert.Kernel5Ideal.nD Cert.Kernel5Ideal.τ).loc Cert.Kernel5Ideal.main_arg4) = (mat A : Cert.Kernel5Ideal.S4096x2752.Idx → EReal) ∧
      m ((c : Thread Cert.Kernel5Ideal.nD Cert.Kernel5Ideal.τ).loc Cert.Kernel5Ideal.main_arg5) = (mat B : Cert.Kernel5Ideal.S4096x2752.Idx → EReal) ∧
      m ((c : Thread Cert.Kernel5Ideal.nD Cert.Kernel5Ideal.τ).loc Cert.Kernel5Ideal.main_arg6) = (mat D : Cert.Kernel5Ideal.S4096x1024.Idx → EReal) := by
  obtain ⟨e0, e1, e2, e3, e4, e5, e6⟩ := h c
  unfold Cert.Pre_finite5.fn Cert.Pre_finite5.fn_part1 at e0 e1 e2 e3 e4 e5 e6
  dsimp only at e0 e1 e2 e3 e4 e5 e6
  haveI : Subsingleton Cert.Pre_finite5.S_.Idx := ⟨fun a b => funext fun i => i.elim0⟩
  obtain ⟨X, hX⟩ := real_of_all _ _ _ _ _ _ (congrFun e0 fun i => i.elim0)
  obtain ⟨G, hG⟩ := real_of_all _ _ _ _ _ _ (congrFun e1 fun i => i.elim0)
  obtain ⟨Wg, hWg⟩ := real_of_all _ _ _ _ _ _ (congrFun e2 fun i => i.elim0)
  obtain ⟨Wu, hWu⟩ := real_of_all _ _ _ _ _ _ (congrFun e3 fun i => i.elim0)
  obtain ⟨A, hA⟩ := real_of_all _ _ _ _ _ _ (congrFun e4 fun i => i.elim0)
  obtain ⟨B, hB⟩ := real_of_all _ _ _ _ _ _ (congrFun e5 fun i => i.elim0)
  obtain ⟨D, hD⟩ := real_of_all _ _ _ _ _ _ (congrFun e6 fun i => i.elim0)
  exact ⟨ofMat X, ofVec G, ofMat Wg, ofMat Wu, ofMat A, ofMat B, ofMat D,
    hX.trans (up_mat X), hG.trans (up_vec G), hWg.trans (up_mat Wg), hWu.trans (up_mat Wu), hA.trans (up_mat A), hB.trans (up_mat B), hD.trans (up_mat D)⟩

/-- The kernel and the derivative end with equal arrays. -/
theorem algebraic [Cert.Pre_finite5.Facts] : Cert.algebraic_Kernel5Ideal_Reference5Ideal_pre_finite5 := by
  intro m g m' g' hpre hagree
  refine ⟨fun c => (Cert.Kernel5Ideal.Gen.dats m 0 c).arrAt 6 Cert.Kernel5Ideal.cfg0.N,
    fun c => (Cert.Kernel5Ideal.Gen.dats m 0 c).arrAt 7 Cert.Kernel5Ideal.cfg0.N,
    fun c => (Cert.Kernel5Ideal.Gen.dats m 0 c).arrAt 8 Cert.Kernel5Ideal.cfg0.N,
    Cert.Kernel5Ideal.Value.run_blocks m g, ?_⟩
  refine (θ_run _ _ _).mono (fun r h c => ?_) (Cert.Reference5Ideal.Value.run m' g')
  obtain ⟨X, G, Wg, Wu, A, B, D, hX, hG, hWg, hWu, hA, hB, hD⟩ := real_args hpre c
  obtain ⟨aX, aG, aWg, aWu, aA, aB, aD⟩ := hagree c
  obtain ⟨r0, r1, r2, k⟩ := h c
  refine ⟨?_, ?_, ?_, k⟩
  · refine (r0.trans (Cert.Reference5Ideal.Read.val_main_v28_eq _ _ _)).trans ?_
    rw [aX, aG, aA, hX, hG, hA, v28]
    exact ((final6 X A G m c hX hG hA).trans (cube_congr fun b k l _ _ _ => tprod_cp (hh X G) A k (b * 384 + l))).symm
  · refine (r1.trans (Cert.Reference5Ideal.Read.val_main_v32_eq _ _ _)).trans ?_
    rw [aX, aG, aB, hX, hG, hB, v32]
    exact ((final7 X B G m c hX hG hB).trans (cube_congr fun b k l _ _ _ => tprod_cp (hh X G) B k (b * 384 + l))).symm
  · refine (r2.trans (Cert.Reference5Ideal.Read.val_main_v37_eq _ _ _ _ _)).trans ?_
    rw [aX, aG, aWg, aWu, aD, hX, hG, hWg, hWu, hD, v37]
    exact ((final8 X Wg Wu D G m c hX hG hWg hWu hD).trans (cube_congr fun b k l _ _ _ => by
      rw [show act X (cp Wg) (cp Wu) G = cp (act X Wg Wu G) from funext fun i => funext fun l => act_cp X Wg Wu G i l]
      exact tprod_cp D (act X Wg Wu G) k (b * 384 + l))).symm

end Claim

end Cert.Proof.WtsRef

end
-- ==== Proof.Proj.lean ====
module

public import proofs.«01_k».proof.Proof.Mats
public import proofs.«01_k».proof.Proof.Gen.Kernel6Ideal.Value
public import Idealize.ShloMosaic.Lib.Pipeline.ValueKit

/-!
# The gradient through a projection and its norm

The kernel's arrays over the reals.
-/

@[expose] public section

set_option maxRecDepth 16384

noncomputable section

namespace Cert.Proof.Proj

open Idealize.ShloMosaic Idealize.ShloMosaic.TcCoe Idealize.SL.Sem Cert.Proof.Reals Cert.Proof.Mats
open Cert.Kernel6Ideal Cert.Kernel6Ideal.Gen

variable (X E A B C U V W : ℕ → ℕ → ℝ) (G : ℕ → ℝ)

theorem pay7 : k0_pay7 (F := Ideal) (mat X) = mat fun i _ => rf (X i) := by
  funext j
  idx_vars j
  unfold k0_pay7
  pointwise
  simp only [mat_ix2, ← EReal.coe_mul, sum_univ_coe, bits_1024, bits_eps, div_1024, ← EReal.coe_add, ms_eq]
  exact rf_eq _

theorem pay8 : k0_pay8 (F := Ideal) (mat X) = mat fun i k => X i k * rf (X i) := by
  funext j
  idx_vars j
  unfold k0_pay8
  rw [pay7]
  pointwise
  simp only [mat_ix2, ← EReal.coe_mul]

/-- The cotangent of the norm's output, from three groups of columns. -/
def dh (i k : ℕ) : ℝ := (∑ l : Fin 1024, A i l.val * U k l.val) + (∑ l : Fin 1024, B i l.val * V k l.val)
  + ∑ l : Fin 1024, C i l.val * W k l.val

theorem pay5 : k0_pay5 (F := Ideal) (mat A) (mat U) (mat B) (mat V) (mat C) (mat W) = mat (dh A B C U V W) := by
  funext j
  idx_vars j
  unfold k0_pay5
  pointwise
  simp only [mat_ix2, ← EReal.coe_mul, sum_univ_coe, bits_zero, ← EReal.coe_add, zero_add]
  rfl

theorem pay9 : k0_pay9 (F := Ideal) (mat A) (mat U) (mat B) (mat V) (mat C) (mat W) (mat fun _ => G) =
    mat fun i k => dh A B C U V W i k * G k := by
  funext j
  idx_vars j
  unfold k0_pay9 k0_pay6
  rw [pay5]
  pointwise
  simp only [mat_ix2, ← EReal.coe_mul]

theorem pay10 : k0_pay10 (F := Ideal) (mat A) (mat U) (mat B) (mat V) (mat C) (mat W) (mat X) =
    mat fun i k => dh A B C U V W i k * (X i k * rf (X i)) := by
  funext j
  idx_vars j
  unfold k0_pay10
  rw [pay5, pay8]
  pointwise
  simp only [mat_ix2, ← EReal.coe_mul]

/-- The gradient of the residual stream. -/
theorem pay2 (D : ℕ → ℕ → ℝ) : k0_pay2 (F := Ideal) (k0_pay7 (mat X)) (k0_pay8 (mat X)) (mat D) (mat E) =
    mat fun i k => E i k + ng (X i) (D i) k := by
  funext j
  idx_vars j
  unfold k0_pay2
  rw [pay7, pay8]
  pointwise
  simp only [mat_ix2, ← EReal.coe_mul, sum_univ_coe, bits_1024, div_1024, ← EReal.coe_add, ← EReal.coe_sub]
  rfl

/-- The normalised rows, turned. -/
theorem pay3 : k0_pay3 (F := Ideal) (k0_pay6 (mat fun _ => G)) (k0_pay8 (mat X)) = mat fun k i => X i k * rf (X i) * G k := by
  funext j
  idx_vars j
  unfold k0_pay3 k0_pay6
  rw [pay8]
  pointwise
  simp only [mat_ix2, ← EReal.coe_mul]

/-- The gain's part. -/
theorem pay1 (D : ℕ → ℕ → ℝ) : k0_pay1 (F := Ideal) (mat D) = mat fun _ k => ∑ i : Fin 512, D i.val k := by
  funext j
  idx_vars j
  unfold k0_pay1
  pointwise
  simp only [mat_ix2, sum_univ_coe, bits_zero, ← EReal.coe_add, zero_add]

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, 0] := (by decide +kernel : ∀ t : Fin grid0.N, _)

theorem iblk0 (h : m ((c : Thread nD τ).loc main_arg4) = (mat E : S4096x1024.Idx → EReal)) (t : Fin cfg0.N) :
    iblk m c 0 t = (mat fun i k => E (t.val * 512 + i) k : S512x1024.Idx → EReal) := by
  funext y
  blk_simp [iblk]
  rw [V_main_arg4, h]
  simp [mat, idx0 t]

theorem iblk1 (h : m ((c : Thread nD τ).loc main_arg3) = (mat A : S4096x3072.Idx → EReal)) (t : Fin cfg0.N) :
    iblk m c 1 t = (mat fun i k => A (t.val * 512 + i) k : S512x3072.Idx → EReal) := by
  funext y
  blk_simp [iblk]
  entry_read
  rw [h]
  simp [mat, idx1 t, truncf]

theorem iblk2 (h : m ((c : Thread nD τ).loc main_arg0) = (mat X : S4096x1024.Idx → EReal)) (t : Fin cfg0.N) :
    iblk m c 2 t = (mat fun i k => X (t.val * 512 + i) k : S512x1024.Idx → EReal) := by
  funext y
  blk_simp [iblk]
  rw [V_main_arg0, h]
  simp [mat, idx2 t]

theorem iblk3 (h : m ((c : Thread nD τ).loc main_arg1) = (vec G : S1024.Idx → EReal)) (t : Fin cfg0.N) :
    iblk m c 3 t = (mat fun _ => G : S1x1024.Idx → EReal) := by
  funext y
  blk_simp [iblk]
  entry_read
  rw [h]
  pointwise
  simp [mat, vec, idx3 t]

theorem iblk4 (h : m ((c : Thread nD τ).loc main_arg2) = (mat W : S1024x3072.Idx → EReal)) (t : Fin cfg0.N) :
    iblk m c 4 t = (mat W : S1024x3072.Idx → EReal) := by
  funext y
  blk_simp [iblk]
  entry_read
  rw [h]
  simp [mat, idx4 t, truncf]

variable (hX : m ((c : Thread nD τ).loc main_arg0) = (mat X : S4096x1024.Idx → EReal))
  (hG : m ((c : Thread nD τ).loc main_arg1) = (vec G : S1024.Idx → EReal))
  (hW : m ((c : Thread nD τ).loc main_arg2) = (mat W : S1024x3072.Idx → EReal))
  (hA : m ((c : Thread nD τ).loc main_arg3) = (mat A : S4096x3072.Idx → EReal))
  (hE : m ((c : Thread nD τ).loc main_arg4) = (mat E : S4096x1024.Idx → EReal))

/-- The cotangent of the norm's output. -/
def dhA (i k : ℕ) : ℝ := ∑ l : Fin 3072, A i l.val * W k l.val

theorem dh_eq (i k : ℕ) : dh (fun i l => A i l) (fun i l => A i (1024 + l)) (fun i l => A i (2048 + l))
    (fun i l => W i l) (fun i l => W i (1024 + l)) (fun i l => W i (2048 + l)) i k = dhA A W i k := by
  rw [dhA, ← sum_blocks 3 1024 (fun l => A i l * W k l) rfl, Fin.sum_univ_three]
  simp [dh]

/-- The cotangent of the norm's output, by the columns of the block's rows. -/
theorem dh_block (n i k : ℕ) : dh (fun i l => A (n + i) l) (fun i l => A (n + i) (1024 + l)) (fun i l => A (n + i) (2048 + l))
    (fun i l => W i l) (fun i l => W i (1024 + l)) (fun i l => W i (2048 + l)) i k = dhA A W (n + i) k :=
  dh_eq (fun i l => A (n + i) l) W i k

include hX hG hW hA hE in
/-- The block of the residual stream's gradient. -/
theorem key5 (t : Fin cfg0.N) : k0_pay2 (F := Ideal) (k0_pay7 (iblk m c 2 t)) (k0_pay8 (iblk m c 2 t))
      (k0_pay9 (View.ld (iblk m c 1 t) (Rect.unit ![0, 0] ![512, 1024] inb_S512x3072_S512x1024_0_0))
        (View.ld (iblk m c 4 t) (Rect.unit ![0, 0] ![1024, 1024] inb_S1024x3072_S1024x1024_0_0))
        (View.ld (iblk m c 1 t) (Rect.unit ![0, 1024] ![512, 1024] inb_S512x3072_S512x1024_0_1024))
        (View.ld (iblk m c 4 t) (Rect.unit ![0, 1024] ![1024, 1024] inb_S1024x3072_S1024x1024_0_1024))
        (View.ld (iblk m c 1 t) (Rect.unit ![0, 2048] ![512, 1024] inb_S512x3072_S512x1024_0_2048))
        (View.ld (iblk m c 4 t) (Rect.unit ![0, 2048] ![1024, 1024] inb_S1024x3072_S1024x1024_0_2048)) (iblk m c 3 t))
      (iblk m c 0 t) = mat fun i k => E (t.val * 512 + i) k +
        ng (X (t.val * 512 + i)) (fun l => dhA A W (t.val * 512 + i) l * G l) k := by
  rw [iblk0 _ m c hE, iblk1 _ m c hA, iblk2 _ m c hX, iblk3 _ m c hG, iblk4 _ m c hW]
  simp only [ld_mat']
  rw [pay9, pay2]
  simp only [Matrix.cons_val_zero, Matrix.cons_val_one, zero_add, dh_block]

include hX hW hA in
/-- The block's part of the gain's gradient. -/
theorem key7 (t : Fin cfg0.N) : k0_pay1 (F := Ideal)
      (k0_pay10 (View.ld (iblk m c 1 t) (Rect.unit ![0, 0] ![512, 1024] inb_S512x3072_S512x1024_0_0))
        (View.ld (iblk m c 4 t) (Rect.unit ![0, 0] ![1024, 1024] inb_S1024x3072_S1024x1024_0_0))
        (View.ld (iblk m c 1 t) (Rect.unit ![0, 1024] ![512, 1024] inb_S512x3072_S512x1024_0_1024))
        (View.ld (iblk m c 4 t) (Rect.unit ![0, 1024] ![1024, 1024] inb_S1024x3072_S1024x1024_0_1024))
        (View.ld (iblk m c 1 t) (Rect.unit ![0, 2048] ![512, 1024] inb_S512x3072_S512x1024_0_2048))
        (View.ld (iblk m c 4 t) (Rect.unit ![0, 2048] ![1024, 1024] inb_S1024x3072_S1024x1024_0_2048)) (iblk m c 2 t)) =
      mat fun _ k => ∑ i : Fin 512, dhA A W (t.val * 512 + i.val) k * (X (t.val * 512 + i.val) k * rf (X (t.val * 512 + i.val))) := by
  rw [iblk1 _ m c hA, iblk2 _ m c hX, iblk4 _ m c hW]
  simp only [ld_mat']
  rw [pay10, pay1]
  simp only [Matrix.cons_val_zero, Matrix.cons_val_one, zero_add, dh_block]

theorem emb5 (t : Fin cfg0.N) (y : S512x1024.Idx) : ((cfg0.win 5).blk t).view.emb y =
    ix2 ⟨t.val * 512 + (y 0).val, by have h : (y 0).val < 512 := (y 0).isLt; have := t.isLt.trans_eq N_0; omega⟩ (y 1) := by
  blk_ext [idx5 t]

theorem emb6 (t : Fin cfg0.N) (y : S1024x512.Idx) : ((cfg0.win 6).blk t).view.emb y =
    ix2 (y 0) ⟨t.val * 512 + (y 1).val, by have h : (y 1).val < 512 := (y 1).isLt; have := t.isLt.trans_eq N_0; omega⟩ := by
  blk_ext [idx6 t]

include hX hG hW hA hE in
/-- The residual stream's gradient after the run. -/
theorem final5 : (dats m 0 c).arrAt 5 cfg0.N =
    (mat fun i k => E i k + ng (X i) (fun l => dhA A W i l * G l) k : S4096x1024.Idx → EReal) := by
  refine (dats m 0 c).arrAt_eq_of_covers 5 _ (by decide +kernel) fun t hf y => ?_
  rw [emb5 t y]
  blk_simp
  rw [after0_5]
  have hN := t.isLt.trans_eq N_0
  by_cases h : t.val % 8 = 0
  · rw [outsAt0_A m c t h (by omega)]
    frame_out
    exact congrFun (key5 X E A W G m c hX hG hW hA hE t) y
  · rw [outsAt0_B m c t h (by omega)]
    frame_out
    exact congrFun (key5 X E A W G m c hX hG hW hA hE t) y

include hX hG in
/-- The normalised rows after the run, turned. -/
theorem final6 : (dats m 0 c).arrAt 6 cfg0.N =
    (mat fun k i => X i k * rf (X i) * G k : S1024x4096.Idx → EReal) := by
  refine (dats m 0 c).arrAt_eq_of_covers 6 _ (by decide +kernel) fun t hf y => ?_
  rw [emb6 t y]
  blk_simp
  rw [after0_6]
  have hN := t.isLt.trans_eq N_0
  have key : k0_pay3 (F := Ideal) (k0_pay6 (iblk m c 3 t)) (k0_pay8 (iblk m c 2 t)) =
      mat fun k i => X (t.val * 512 + i) k * rf (X (t.val * 512 + i)) * G k := by
    rw [iblk2 _ m c hX, iblk3 _ m c hG, pay3]
  by_cases h : t.val % 8 = 0
  · rw [outsAt0_A m c t h (by omega)]
    frame_out
    exact congrFun key y
  · rw [outsAt0_B m c t h (by omega)]
    frame_out
    exact congrFun key y

include hX hW hA in
/-- The gain's gradient after the run. -/
theorem final7 : (dats m 0 c).arrAt 7 cfg0.N =
    (mat fun _ k => ∑ i : Fin 4096, dhA A W i.val k * (X i.val k * rf (X i.val)) : S1x1024.Idx → EReal) := by
  refine (dats m 0 c).arrAt_eq_of_after_last 7 t0_7 (by decide +kernel) _ fun j => ?_
  blk_simp
  rw [after0_7]
  refine (Pipeline.eq_sum_fin_of_reset_step_apply_last (fun n h => (outsAt0 m c n h).2.2) 8 (fun _ => (0 : EReal))
    (fun t j => (mat (fun _ k => ∑ i : Fin 512, dhA A W (t.val * 512 + i.val) k *
      (X (t.val * 512 + i.val) k * rf (X (t.val * 512 + i.val)))) : S1x1024.Idx → EReal) j)
    (fun t h j => ?_) (fun t h j => ?_) (le_of_eq N_0) t0_7 rfl j).trans ?_
  · have hN := t.isLt.trans_eq N_0
    rw [outsAt0_A m c t h (by omega)]
    frame_out
    exact (congrFun (key7 X A W m c hX hW hA t) j).trans (zero_add _).symm
  · have hN := t.isLt.trans_eq N_0
    rw [outsAt0_B m c t h (by omega)]
    frame_out
    refine (congrArg (fun p => addf (F := Ideal) (φ := .f32) (shapeCast S1x1024 (outsAt0 m c (t.val - 1) _).2.2
      shapeCasts_S1x1024_S1x1024) p j) (key7 X A W m c hX hW hA t)).trans ?_
    pointwise
  · rw [zero_add]
    simp only [mat]
    rw [sum_univ_coe]
    exact congrArg (fun x : ℝ => (x : EReal)) (sum_blocks 8 512 (fun i => dhA A W i _ * (X i _ * rf (X i))) rfl)

end Cert.Proof.Proj

end
-- ==== Proof.ProjRef.lean ====
module

public import proofs.«01_k».proof.Proof.Proj
public import proofs.«01_k».proof.Proof.Gen.Reference6Ideal.Run
public import proofs.«01_k».proof.Proof.Gen.Reference6Ideal.Read
public import proofs.«01_k».proof.Defs

/-!
# The gradient through a projection and its norm: the kernel computes the derivative
-/

@[expose] public section

set_option maxRecDepth 16384
set_option maxHeartbeats 4000000

noncomputable section

namespace Cert.Proof.ProjRef

open Idealize.ShloMosaic Idealize.ShloMosaic.TcCoe Idealize.SL.Sem Cert.Proof.Reals Cert.Proof.Mats

section Reference

open Cert.Reference6Ideal Cert.Reference6Ideal.Gen Cert.Reference6Ideal.Read

open Cert.Proof.Proj (dhA)

variable (X A W E : ℕ → ℕ → ℝ) (G : ℕ → ℝ)

/-- The mean square plus eps. -/
theorem v6 : val_main_v6 (F := Ideal) (mat X) = (mat fun i _ => ms (X i) : S4096x1.Idx → EReal) := by
  funext j
  idx_vars j
  unfold val_main_v6 val_main_v5 val_main_v4 val_main_v3 val_main_v2 val_main_v1 val_main_v0 val_main_cst
    val_main_cst_0 val_main_cst_1
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The factor. -/
theorem v7 : val_main_v7 (F := Ideal) (mat X) = (mat fun i _ => rf (X i) : S4096x1.Idx → EReal) := by
  funext j
  idx_vars j
  unfold val_main_v7
  rw [v6]
  pointwise
  simp only [mat_ix2, vec_ix1, ← EReal.coe_mul, sum_univ_coe, bits_1024, bits_eps, bits_zero, bits_half, bits_neg_half, bits_one, div_1024,
    ← EReal.coe_add, ← EReal.coe_sub, zero_add]
  exact rf_eq _

/-- Half the quotient of the factor by the mean square, negated. -/
theorem v10 : val_main_v10 (F := Ideal) (mat X) = (mat fun i _ => -(1 / 2) * (rf (X i) / ms (X i)) : S4096x1.Idx → EReal) := by
  funext j
  idx_vars j
  unfold val_main_v10 val_main_v9 val_main_v8 val_main_cst_2
  rw [v6, v7]
  pointwise
  simp only [mat_ix2, vec_ix1, ← EReal.coe_mul, sum_univ_coe, bits_1024, bits_eps, bits_zero, bits_half, bits_neg_half, bits_one, div_1024,
    ← EReal.coe_add, ← EReal.coe_sub, zero_add]
  rw [div_real _ _ (ms_pos _).ne', ← EReal.coe_mul]

/-- The normalised rows. -/
theorem v12 : val_main_v12 (F := Ideal) (mat X) = (mat fun i k => X i k * rf (X i) : S4096x1024.Idx → EReal) := by
  funext j
  idx_vars j
  unfold val_main_v12 val_main_v11
  rw [v7]
  pointwise
  simp only [mat_ix2, vec_ix1, ← EReal.coe_mul, sum_univ_coe, bits_1024, bits_eps, bits_zero, bits_half, bits_neg_half, bits_one, div_1024,
    ← EReal.coe_add, ← EReal.coe_sub, zero_add]

/-- The rows with the gain. -/
theorem v15 : val_main_v15 (F := Ideal) (mat X) (vec G) = (mat fun i k => X i k * rf (X i) * G k : S4096x1024.Idx → EReal) := by
  funext j
  idx_vars j
  unfold val_main_v15 val_main_v14 val_main_v13
  rw [v12]
  pointwise
  simp only [mat_ix2, vec_ix1, ← EReal.coe_mul, sum_univ_coe, bits_1024, bits_eps, bits_zero, bits_half, bits_neg_half, bits_one, div_1024,
    ← EReal.coe_add, ← EReal.coe_sub, zero_add]

/-- The cotangent of the norm's output. -/
theorem v17 : val_main_v17 (F := Ideal) (mat W) (mat A) = (mat (dhA A W) : S4096x1024.Idx → EReal) := by
  funext j
  idx_vars j
  unfold val_main_v17
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The gain's gradient. -/
theorem v41 : val_main_v41 (F := Ideal) (mat X) (mat W) (mat A) = (mat fun _ k => ∑ i : Fin 4096, dhA A W i.val k * (X i.val k * rf (X i.val)) : S1x1024.Idx → EReal) := by
  funext j
  idx_vars j
  unfold val_main_v41 val_main_v23 val_main_v20 val_main_v19 val_main_v18 val_main_cst_3 val_main_cst_4
  rw [v12, v17]
  pointwise
  simp only [mat_ix2, vec_ix1, ← EReal.coe_mul, sum_univ_coe, bits_1024, bits_eps, bits_zero, bits_half, bits_neg_half, bits_one, div_1024,
    ← EReal.coe_add, ← EReal.coe_sub, zero_add]
  rw [Fin.sum_univ_one]
  exact congrArg Real.toEReal (Finset.sum_congr rfl fun i _ => mul_comm _ _)

/-- The cotangent of the normalised rows. -/
theorem v22 : val_main_v22 (F := Ideal) (vec G) (mat W) (mat A) = (mat fun i k => dhA A W i k * G k : S4096x1024.Idx → EReal) := by
  funext j
  idx_vars j
  unfold val_main_v22 val_main_v21 val_main_v13
  rw [v17]
  pointwise
  simp only [mat_ix2, vec_ix1, ← EReal.coe_mul, sum_univ_coe, bits_1024, bits_eps, bits_zero, bits_half, bits_neg_half, bits_one, div_1024,
    ← EReal.coe_add, ← EReal.coe_sub, zero_add]

/-- The mean square's part. -/
theorem v32 : val_main_v32 (F := Ideal) (mat X) (vec G) (mat W) (mat A) = (mat fun i _ => (∑ l : Fin 1024, X i l.val * (dhA A W i l.val * G l.val)) * (-(1 / 2) * (rf (X i) / ms (X i))) / 1024 : S4096x1.Idx → EReal) := by
  funext j
  idx_vars j
  unfold val_main_v32 val_main_v31 val_main_v30 val_main_v26 val_main_v25 val_main_v24 val_main_cst_5 val_main_cst_6
  rw [v22, v10]
  pointwise
  simp only [mat_ix2, vec_ix1, ← EReal.coe_mul, sum_univ_coe, bits_1024, bits_eps, bits_zero, bits_half, bits_neg_half, bits_one, div_1024,
    ← EReal.coe_add, ← EReal.coe_sub, zero_add]

/-- The residual stream's gradient. -/
theorem v38 : val_main_v38 (F := Ideal) (mat X) (vec G) (mat W) (mat A) (mat E) = (mat fun i k => E i k + ng (X i) (fun l => dhA A W i l * G l) k : S4096x1024.Idx → EReal) := by
  funext j
  idx_vars j
  unfold val_main_v38 val_main_v37 val_main_v36 val_main_v35 val_main_v34 val_main_v33 val_main_v29 val_main_v28
    val_main_v27 val_main_cst_7
  rw [v22, v32, v7]
  pointwise
  simp only [mat_ix2, vec_ix1, ← EReal.coe_mul, sum_univ_coe, bits_1024, bits_eps, bits_zero, bits_half, bits_neg_half, bits_one, div_1024,
    ← EReal.coe_add, ← EReal.coe_sub, zero_add]
  rw [Fin.sum_univ_one, ← ng_eq _ _ _ (Fin.isLt _), ← add_assoc, ← add_assoc]

/-- The normalised rows, turned. -/
theorem v40 : val_main_v40 (F := Ideal) (mat X) (vec G) = (mat fun k i => X i k * rf (X i) * G k : S1024x4096.Idx → EReal) := by
  funext j
  idx_vars j
  unfold val_main_v40 val_main_v39
  rw [v15]
  pointwise
  simp only [mat_ix2, vec_ix1, ← EReal.coe_mul, sum_univ_coe, bits_1024, bits_eps, bits_zero, bits_half, bits_neg_half, bits_one, div_1024,
    ← EReal.coe_add, ← EReal.coe_sub, zero_add]

end Reference

section Claim

/-- The argument arrays of the precondition are real. -/
theorem real_args [hP : Cert.Pre_finite6.Facts]
    {m : (ℓ : Loc Cert.Kernel6Ideal.nD Cert.Kernel6Ideal.τ Cert.Kernel6Ideal.sig) → Buf (Elt Ideal) ℓ}
    (h : Cert.Pre_Kernel6Ideal_finite6 m) (c : Dev Cert.Kernel6Ideal.nD) :
    ∃ (X : ℕ → ℕ → ℝ) (G : ℕ → ℝ) (W : ℕ → ℕ → ℝ) (A : ℕ → ℕ → ℝ) (E : ℕ → ℕ → ℝ),
      m ((c : Thread Cert.Kernel6Ideal.nD Cert.Kernel6Ideal.τ).loc Cert.Kernel6Ideal.main_arg0) = (mat X : Cert.Kernel6Ideal.S4096x1024.Idx → EReal) ∧
      m ((c : Thread Cert.Kernel6Ideal.nD Cert.Kernel6Ideal.τ).loc Cert.Kernel6Ideal.main_arg1) = (vec G : Cert.Kernel6Ideal.S1024.Idx → EReal) ∧
      m ((c : Thread Cert.Kernel6Ideal.nD Cert.Kernel6Ideal.τ).loc Cert.Kernel6Ideal.main_arg2) = (mat W : Cert.Kernel6Ideal.S1024x3072.Idx → EReal) ∧
      m ((c : Thread Cert.Kernel6Ideal.nD Cert.Kernel6Ideal.τ).loc Cert.Kernel6Ideal.main_arg3) = (mat A : Cert.Kernel6Ideal.S4096x3072.Idx → EReal) ∧
      m ((c : Thread Cert.Kernel6Ideal.nD Cert.Kernel6Ideal.τ).loc Cert.Kernel6Ideal.main_arg4) = (mat E : Cert.Kernel6Ideal.S4096x1024.Idx → EReal) := by
  obtain ⟨e0, e1, e2, e3, e4⟩ := h c
  unfold Cert.Pre_finite6.fn Cert.Pre_finite6.fn_part1 at e0 e1 e2 e3 e4
  dsimp only at e0 e1 e2 e3 e4
  haveI : Subsingleton Cert.Pre_finite6.S_.Idx := ⟨fun a b => funext fun i => i.elim0⟩
  obtain ⟨X, hX⟩ := real_of_all _ _ _ _ _ _ (congrFun e0 fun i => i.elim0)
  obtain ⟨G, hG⟩ := real_of_all _ _ _ _ _ _ (congrFun e1 fun i => i.elim0)
  obtain ⟨W, hW⟩ := real_of_all _ _ _ _ _ _ (congrFun e2 fun i => i.elim0)
  obtain ⟨A, hA⟩ := real_of_all _ _ _ _ _ _ (congrFun e3 fun i => i.elim0)
  obtain ⟨E, hE⟩ := real_of_all _ _ _ _ _ _ (congrFun e4 fun i => i.elim0)
  exact ⟨ofMat X, ofVec G, ofMat W, ofMat A, ofMat E,
    hX.trans (up_mat X), hG.trans (up_vec G), hW.trans (up_mat W), hA.trans (up_mat A), hE.trans (up_mat E)⟩

/-- The kernel and the derivative end with equal arrays. -/
theorem algebraic [Cert.Pre_finite6.Facts] : Cert.algebraic_Kernel6Ideal_Reference6Ideal_pre_finite6 := by
  intro m g m' g' hpre hagree
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    Cert.Kernel6Ideal.Value.run_blocks m g, ?_⟩
  refine (θ_run _ _ _).mono (fun r h c => ?_) (Cert.Reference6Ideal.Value.run m' g')
  obtain ⟨X, G, W, A, E, hX, hG, hW, hA, hE⟩ := real_args hpre c
  obtain ⟨aX, aG, aW, aA, aE⟩ := hagree c
  obtain ⟨r0, r1, r2, k⟩ := h c
  refine ⟨?_, ?_, ?_, k⟩
  · refine (r0.trans (Cert.Reference6Ideal.Read.val_main_v38_eq _ _)).trans ?_
    rw [aX, aG, aW, aA, aE, hX, hG, hW, hA, hE, v38]
    exact (Proj.final5 X E A W G m c hX hG hW hA hE).symm
  · refine (r1.trans (Cert.Reference6Ideal.Read.val_main_v40_eq _ _)).trans ?_
    rw [aX, aG, hX, hG, v40]
    exact (Proj.final6 X G m c hX hG).symm
  · refine (r2.trans (Cert.Reference6Ideal.Read.val_main_v41_eq _ _ _)).trans ?_
    rw [aX, aW, aA, hX, hW, hA, v41]
    exact (Proj.final7 X A W m c hX hW hA).symm

end Claim

end Cert.Proof.ProjRef

end
-- ==== Proof.Parts.lean ====
module

public import proofs.«01_k».proof.Proof.Proj
public import proofs.«01_k».proof.Proof.Gen.Kernel7Ideal.Value
public import Idealize.ShloMosaic.Lib.Pipeline.ValueKit

/-!
# The gradient through a projection of four parts and its norm

The kernel's arrays over the reals.
-/

@[expose] public section

set_option maxRecDepth 16384
set_option maxHeartbeats 1000000

noncomputable section

namespace Cert.Proof.Parts

open Idealize.ShloMosaic Idealize.ShloMosaic.TcCoe Idealize.SL.Sem Cert.Proof.Reals Cert.Proof.Mats
open Cert.Kernel7Ideal Cert.Kernel7Ideal.Gen

variable (X E A B C D U V W Z : ℕ → ℕ → ℝ) (G : ℕ → ℝ)

theorem pay10 : k0_pay10 (F := Ideal) (mat X) = mat fun i _ => rf (X i) := by
  funext j
  idx_vars j
  unfold k0_pay10
  pointwise
  simp only [mat_ix2, ← EReal.coe_mul, sum_univ_coe, bits_1024, bits_eps, div_1024, ← EReal.coe_add, ms_eq]
  exact rf_eq _

theorem pay11 : k0_pay11 (F := Ideal) (mat X) = mat fun i k => X i k * rf (X i) := by
  funext j
  idx_vars j
  unfold k0_pay11
  rw [pay10]
  pointwise
  simp only [mat_ix2, ← EReal.coe_mul]

/-- The cotangent of the norm's output, from the first three groups of columns. -/
def dh3 (i k : ℕ) : ℝ := (∑ l : Fin 512, A i l.val * U k l.val) + (∑ l : Fin 512, B i l.val * V k l.val)
  + ∑ l : Fin 512, C i l.val * W k l.val

/-- The same from all four. -/
def dh4 (i k : ℕ) : ℝ := dh3 A B C U V W i k + ∑ l : Fin 512, D i l.val * Z k l.val

theorem pay5 : k0_pay5 (F := Ideal) (mat A) (mat U) (mat B) (mat V) (mat C) (mat W) = mat (dh3 A B C U V W) := by
  funext j
  idx_vars j
  unfold k0_pay5 k0_pay2 k0_pay3 k0_pay4
  pointwise
  simp only [mat_ix2, ← EReal.coe_mul, sum_univ_coe, bits_zero, ← EReal.coe_add, zero_add]
  rfl

theorem pay8 : k0_pay8 (F := Ideal) (k0_pay5 (mat A) (mat U) (mat B) (mat V) (mat C) (mat W)) (k0_pay6 (mat D)) (k0_pay7 (mat Z)) =
    mat (dh4 A B C D U V W Z) := by
  funext j
  idx_vars j
  unfold k0_pay8 k0_pay6 k0_pay7
  rw [pay5]
  pointwise
  simp only [mat_ix2, ← EReal.coe_mul, sum_univ_coe, bits_zero, ← EReal.coe_add, zero_add]
  rfl

theorem pay12 : k0_pay12 (F := Ideal) (k0_pay5 (mat A) (mat U) (mat B) (mat V) (mat C) (mat W)) (k0_pay6 (mat D)) (k0_pay7 (mat Z))
      (mat X) = mat fun _ k => ∑ i : Fin 512, dh4 A B C D U V W Z i.val k * (X i.val k * rf (X i.val)) := by
  funext j
  idx_vars j
  unfold k0_pay12
  rw [pay8, pay11]
  pointwise
  simp only [mat_ix2, ← EReal.coe_mul, sum_univ_coe, bits_zero, ← EReal.coe_add, zero_add]

/-- The gradient of the residual stream. -/
theorem pay13 : k0_pay13 (F := Ideal) (k0_pay5 (mat A) (mat U) (mat B) (mat V) (mat C) (mat W)) (k0_pay6 (mat D)) (k0_pay7 (mat Z))
      (mat fun _ => G) (mat X) (mat E) = mat fun i k => E i k + ng (X i) (fun l => dh4 A B C D U V W Z i l * G l) k := by
  funext j
  idx_vars j
  unfold k0_pay13 k0_pay9
  rw [pay8, pay10, pay11]
  pointwise
  simp only [mat_ix2, ← EReal.coe_mul, sum_univ_coe, bits_1024, div_1024, ← EReal.coe_add, ← EReal.coe_sub]
  rfl

/-- The normalised rows, turned. -/
theorem pay14 : k0_pay14 (F := Ideal) (mat fun _ => G) (mat X) = mat fun k i => X i k * rf (X i) * G k := by
  funext j
  idx_vars j
  unfold k0_pay14 k0_pay9
  rw [pay11]
  pointwise
  simp only [mat_ix2, ← EReal.coe_mul]

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx8 : ∀ t : Fin cfg0.N, win0_8.index t = ![t.val, 0] := (by decide +kernel : ∀ t : Fin grid0.N, _)
theorem idx11 : ∀ t : Fin cfg0.N, win0_11.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx10 : ∀ t : Fin cfg0.N, win0_10.index t = ![0, 0] := (by decide +kernel : ∀ t : Fin grid0.N, _)
theorem idx9 : ∀ t : Fin cfg0.N, win0_9.index t = ![0, t.val] := (by decide +kernel : ∀ t : Fin grid0.N, _)

theorem iblk0 (h : m ((c : Thread nD τ).loc main_arg7) = (mat E : S4096x1024.Idx → EReal)) (t : Fin cfg0.N) :
    iblk m c 0 t = (mat fun i k => E (t.val * 512 + i) k : S512x1024.Idx → EReal) := by
  funext y
  blk_simp [iblk]
  rw [V_main_arg7, h]
  simp [mat, idx0 t]

theorem iblk1 (h : m ((c : Thread nD τ).loc main_arg3) = (mat A : S4096x512.Idx → EReal)) (t : Fin cfg0.N) :
    iblk m c 1 t = (mat fun i k => A (t.val * 512 + i) k : S512x512.Idx → EReal) := by
  funext y
  blk_simp [iblk]
  rw [V_main_arg3, h]
  simp [mat, idx1 t]

theorem iblk2 (h : m ((c : Thread nD τ).loc main_arg4) = (mat B : S4096x512.Idx → EReal)) (t : Fin cfg0.N) :
    iblk m c 2 t = (mat fun i k => B (t.val * 512 + i) k : S512x512.Idx → EReal) := by
  funext y
  blk_simp [iblk]
  rw [V_main_arg4, h]
  simp [mat, idx2 t]

theorem iblk3 (h : m ((c : Thread nD τ).loc main_arg5) = (mat C : S4096x512.Idx → EReal)) (t : Fin cfg0.N) :
    iblk m c 3 t = (mat fun i k => C (t.val * 512 + i) k : S512x512.Idx → EReal) := by
  funext y
  blk_simp [iblk]
  rw [V_main_arg5, h]
  simp [mat, idx3 t]

theorem iblk4 (h : m ((c : Thread nD τ).loc main_arg6) = (mat D : S4096x512.Idx → EReal)) (t : Fin cfg0.N) :
    iblk m c 4 t = (mat fun i k => D (t.val * 512 + i) k : S512x512.Idx → EReal) := by
  funext y
  blk_simp [iblk]
  rw [V_main_arg6, h]
  simp [mat, idx4 t]

theorem iblk5 (h : m ((c : Thread nD τ).loc main_arg0) = (mat X : S4096x1024.Idx → EReal)) (t : Fin cfg0.N) :
    iblk m c 5 t = (mat fun i k => X (t.val * 512 + i) k : S512x1024.Idx → EReal) := by
  funext y
  blk_simp [iblk]
  rw [V_main_arg0, h]
  simp [mat, idx5 t]

theorem iblk6 (h : m ((c : Thread nD τ).loc main_arg1) = (vec G : S1024.Idx → EReal)) (t : Fin cfg0.N) :
    iblk m c 6 t = (mat fun _ => G : S1x1024.Idx → EReal) := by
  funext y
  blk_simp [iblk]
  entry_read
  rw [h]
  pointwise
  simp [mat, vec, idx6 t]

theorem iblk7 (h : m ((c : Thread nD τ).loc main_arg2) = (mat W : S1024x2048.Idx → EReal)) (t : Fin cfg0.N) :
    iblk m c 7 t = (mat W : S1024x2048.Idx → EReal) := by
  funext y
  blk_simp [iblk]
  entry_read
  rw [h]
  simp [mat, idx7 t, truncf]

variable (hX : m ((c : Thread nD τ).loc main_arg0) = (mat X : S4096x1024.Idx → EReal))
  (hG : m ((c : Thread nD τ).loc main_arg1) = (vec G : S1024.Idx → EReal))
  (hW : m ((c : Thread nD τ).loc main_arg2) = (mat W : S1024x2048.Idx → EReal))
  (hA : m ((c : Thread nD τ).loc main_arg3) = (mat A : S4096x512.Idx → EReal))
  (hB : m ((c : Thread nD τ).loc main_arg4) = (mat B : S4096x512.Idx → EReal))
  (hC : m ((c : Thread nD τ).loc main_arg5) = (mat C : S4096x512.Idx → EReal))
  (hD : m ((c : Thread nD τ).loc main_arg6) = (mat D : S4096x512.Idx → EReal))
  (hE : m ((c : Thread nD τ).loc main_arg7) = (mat E : S4096x1024.Idx → EReal))

/-- The four parts side by side. -/
def side (i l : ℕ) : ℝ :=
  if l < 512 then A i l else if l < 1024 then B i (l - 512) else if l < 1536 then C i (l - 1024) else D i (l - 1536)

/-- The cotangent of the norm's output. -/
def dhP (i k : ℕ) : ℝ := ∑ l : Fin 2048, side A B C D i l.val * W k l.val

theorem dh_eq (i k : ℕ) : dh4 A B C D (fun i l => W i l) (fun i l => W i (512 + l)) (fun i l => W i (1024 + l))
    (fun i l => W i (1536 + l)) i k = dhP A B C D W i k := by
  rw [dhP, ← sum_blocks 4 512 (fun l => side A B C D i l * W k l) rfl, Fin.sum_univ_four]
  have h0 (l : Fin 512) : side A B C D i l.val = A i l.val := by rw [side, if_pos l.isLt]
  have h1 (l : Fin 512) : side A B C D i (512 + l.val) = B i l.val := by
    rw [side, if_neg (by omega), if_pos (by omega)]; simp
  have h2 (l : Fin 512) : side A B C D i (1024 + l.val) = C i l.val := by
    rw [side, if_neg (by omega), if_neg (by omega), if_pos (by omega)]; simp
  have h3 (l : Fin 512) : side A B C D i (1536 + l.val) = D i l.val := by
    rw [side, if_neg (by omega), if_neg (by omega), if_neg (by omega)]; simp
  simp [dh4, dh3, h0, h1, h2, h3]

/-- The same by the block's rows. -/
theorem dh_block (n i k : ℕ) : dh4 (fun i l => A (n + i) l) (fun i l => B (n + i) l) (fun i l => C (n + i) l)
    (fun i l => D (n + i) l) (fun i l => W i l) (fun i l => W i (512 + l)) (fun i l => W i (1024 + l))
    (fun i l => W i (1536 + l)) i k = dhP A B C D W (n + i) k :=
  dh_eq (fun i l => A (n + i) l) (fun i l => B (n + i) l) (fun i l => C (n + i) l) (fun i l => D (n + i) l) W i k

theorem emb8 (t : Fin cfg0.N) (y : S512x1024.Idx) : ((cfg0.win 8).blk t).view.emb y =
    ix2 ⟨t.val * 512 + (y 0).val, by have h : (y 0).val < 512 := (y 0).isLt; have := t.isLt.trans_eq N_0; omega⟩ (y 1) := by
  blk_ext [idx8 t]

theorem emb9 (t : Fin cfg0.N) (y : S1024x512.Idx) : ((cfg0.win 9).blk t).view.emb y =
    ix2 (y 0) ⟨t.val * 512 + (y 1).val, by have h : (y 1).val < 512 := (y 1).isLt; have := t.isLt.trans_eq N_0; omega⟩ := by
  blk_ext [idx9 t]

theorem emb11 (t : Fin cfg0.N) (y : S512x2048.Idx) : ((cfg0.win 11).blk t).view.emb y =
    ix2 ⟨t.val * 512 + (y 0).val, by have h : (y 0).val < 512 := (y 0).isLt; have := t.isLt.trans_eq N_0; omega⟩ (y 1) := by
  blk_ext [idx11 t]

/-- The cotangent of the norm's output, as the payloads take it. -/
abbrev cot (t : Fin cfg0.N) := k0_pay5 (F := Ideal) (iblk m c 1 t)
        (View.ld (iblk m c 7 t) (Rect.unit ![0, 0] ![1024, 512] inb_S1024x2048_S1024x512_0_0)) (iblk m c 2 t)
        (View.ld (iblk m c 7 t) (Rect.unit ![0, 512] ![1024, 512] inb_S1024x2048_S1024x512_0_512)) (iblk m c 3 t)
        (View.ld (iblk m c 7 t) (Rect.unit ![0, 1024] ![1024, 512] inb_S1024x2048_S1024x512_0_1024))

/-- The last group of the weight's columns. -/
abbrev wlast (t : Fin cfg0.N) := View.ld (iblk m c 7 t) (Rect.unit ![0, 1536] ![1024, 512] inb_S1024x2048_S1024x512_0_1536)

include hX hG hW hA hB hC hD hE in
/-- The block of the residual stream's gradient. -/
theorem key8 (t : Fin cfg0.N) : k0_pay13 (F := Ideal) (cot m c t) (k0_pay6 (iblk m c 4 t)) (k0_pay7 (wlast m c t))
      (iblk m c 6 t) (iblk m c 5 t) (iblk m c 0 t) = mat fun i k => E (t.val * 512 + i) k +
        ng (X (t.val * 512 + i)) (fun l => dhP A B C D W (t.val * 512 + i) l * G l) k := by
  rw [cot, wlast, iblk0 _ m c hE, iblk1 _ m c hA, iblk2 _ m c hB, iblk3 _ m c hC, iblk4 _ m c hD, iblk5 _ m c hX,
    iblk6 _ m c hG, iblk7 _ m c hW]
  simp only [ld_mat']
  rw [pay13]
  simp only [Matrix.cons_val_zero, Matrix.cons_val_one, zero_add, dh_block]

include hX hW hA hB hC hD in
/-- The block's part of the gain's gradient. -/
theorem key10 (t : Fin cfg0.N) : k0_pay12 (F := Ideal) (cot m c t) (k0_pay6 (iblk m c 4 t)) (k0_pay7 (wlast m c t))
      (iblk m c 5 t) = mat fun _ k => ∑ i : Fin 512, dhP A B C D W (t.val * 512 + i.val) k *
        (X (t.val * 512 + i.val) k * rf (X (t.val * 512 + i.val))) := by
  rw [cot, wlast, iblk1 _ m c hA, iblk2 _ m c hB, iblk3 _ m c hC, iblk4 _ m c hD, iblk5 _ m c hX, iblk7 _ m c hW]
  simp only [ld_mat']
  rw [pay12]
  simp only [Matrix.cons_val_zero, Matrix.cons_val_one, zero_add, dh_block]

include hX hG hW hA hB hC hD hE in
/-- The residual stream's gradient after the run. -/
theorem final8 : (dats m 0 c).arrAt 8 cfg0.N =
    (mat fun i k => E i k + ng (X i) (fun l => dhP A B C D W i l * G l) k : S4096x1024.Idx → EReal) := by
  refine (dats m 0 c).arrAt_eq_of_covers 8 _ (by decide +kernel) fun t hf y => ?_
  rw [emb8 t y]
  blk_simp
  rw [after0_8]
  have hN := t.isLt.trans_eq N_0
  by_cases h : t.val % 8 = 0
  · rw [outsAt0_A m c t h (by omega)]
    frame_out
    exact congrFun (key8 X E A B C D W G m c hX hG hW hA hB hC hD hE t) y
  · rw [outsAt0_B m c t h (by omega)]
    frame_out
    exact congrFun (key8 X E A B C D W G m c hX hG hW hA hB hC hD hE t) y

include hX hG in
/-- The normalised rows after the run, turned. -/
theorem final9 : (dats m 0 c).arrAt 9 cfg0.N =
    (mat fun k i => X i k * rf (X i) * G k : S1024x4096.Idx → EReal) := by
  refine (dats m 0 c).arrAt_eq_of_covers 9 _ (by decide +kernel) fun t hf y => ?_
  rw [emb9 t y]
  blk_simp
  rw [after0_9]
  have hN := t.isLt.trans_eq N_0
  have key : k0_pay14 (F := Ideal) (iblk m c 6 t) (iblk m c 5 t) =
      mat fun k i => X (t.val * 512 + i) k * rf (X (t.val * 512 + i)) * G k := by
    rw [iblk5 _ m c hX, iblk6 _ m c hG, pay14]
  by_cases h : t.val % 8 = 0
  · rw [outsAt0_A m c t h (by omega)]
    frame_out
    exact congrFun key y
  · rw [outsAt0_B m c t h (by omega)]
    frame_out
    exact congrFun key y

include hX hW hA hB hC hD in
/-- The gain's gradient after the run. -/
theorem final10 : (dats m 0 c).arrAt 10 cfg0.N =
    (mat fun _ k => ∑ i : Fin 4096, dhP A B C D W i.val k * (X i.val k * rf (X i.val)) : S1x1024.Idx → EReal) := by
  refine (dats m 0 c).arrAt_eq_of_after_last 10 t0_7 (by decide +kernel) _ fun j => ?_
  blk_simp
  rw [after0_10]
  refine (Pipeline.eq_sum_fin_of_reset_step_apply_last (fun n h => (outsAt0 m c n h).2.2.1) 8 (fun _ => (0 : EReal))
    (fun t j => (mat (fun _ k => ∑ i : Fin 512, dhP A B C D W (t.val * 512 + i.val) k *
      (X (t.val * 512 + i.val) k * rf (X (t.val * 512 + i.val)))) : S1x1024.Idx → EReal) j)
    (fun t h j => ?_) (fun t h j => ?_) (le_of_eq N_0) t0_7 rfl j).trans ?_
  · have hN := t.isLt.trans_eq N_0
    rw [outsAt0_A m c t h (by omega)]
    frame_out
    exact (congrFun (key10 X A B C D W m c hX hW hA hB hC hD t) j).trans (zero_add _).symm
  · have hN := t.isLt.trans_eq N_0
    rw [outsAt0_B m c t h (by omega)]
    frame_out
    refine (congrArg (fun p => k0_pay1 (F := Ideal) p (outsAt0 m c (t.val - 1) _).2.2.1 j)
      (key10 X A B C D W m c hX hW hA hB hC hD t)).trans ?_
    unfold k0_pay1
    pointwise
  · rw [zero_add]
    simp only [mat]
    rw [sum_univ_coe]
    exact congrArg (fun x : ℝ => (x : EReal)) (sum_blocks 8 512 (fun i => dhP A B C D W i _ * (X i _ * rf (X i))) rfl)

include hA hB hC hD in
/-- The block of the four parts. -/
theorem key11 (t : Fin cfg0.N) (y : S512x2048.Idx) : View.canon (Val := Elt Ideal) (s := S512x2048) (e := .bf16)
      [⟨Rect.unit ![0, 1536] ![512, 512] inb_S512x2048_S512x512_0_1536, k0_pay6 (F := Ideal) (iblk m c 4 t)⟩,
        ⟨Rect.unit ![0, 1024] ![512, 512] inb_S512x2048_S512x512_0_1024, k0_pay4 (F := Ideal) (iblk m c 3 t)⟩,
        ⟨Rect.unit ![0, 512] ![512, 512] inb_S512x2048_S512x512_0_512, k0_pay3 (F := Ideal) (iblk m c 2 t)⟩,
        ⟨Rect.unit ![0, 0] ![512, 512] inb_S512x2048_S512x512_0_0, k0_pay2 (F := Ideal) (iblk m c 1 t)⟩] y =
    ((side A B C D (t.val * 512 + (y 0).val) (y 1).val : ℝ) : EReal) := by
  rw [iblk1 _ m c hA, iblk2 _ m c hB, iblk3 _ m c hC, iblk4 _ m c hD]
  refine (View.canon_apply_of_pieces (mat fun i k => side A B C D (t.val * 512 + i) k) _ ?_ _ ?_).trans rfl
  · simp only [List.mem_cons, List.not_mem_nil, or_false, forall_eq_or_imp, forall_eq]
    refine ⟨piece_mat (f := fun i k => D (t.val * 512 + i) k) fun i k hi hk => ?_,
      piece_mat (f := fun i k => C (t.val * 512 + i) k) fun i k hi hk => ?_,
      piece_mat (f := fun i k => B (t.val * 512 + i) k) fun i k hi hk => ?_,
      piece_mat (f := fun i k => A (t.val * 512 + i) k) fun i k hi hk => ?_⟩
    · simp only [side, Matrix.cons_val_zero, Matrix.cons_val_one, Nat.zero_add]
      rw [if_neg (by omega), if_neg (by omega), if_neg (by omega), show 1536 + k - 1536 = k by omega]
    · simp only [side, Matrix.cons_val_zero, Matrix.cons_val_one, Nat.zero_add]
      rw [if_neg (by omega), if_neg (by omega), if_pos (by omega), show 1024 + k - 1024 = k by omega]
    · simp only [side, Matrix.cons_val_zero, Matrix.cons_val_one, Nat.zero_add]
      rw [if_neg (by omega), if_pos (by omega), show 512 + k - 512 = k by omega]
    · simp only [side, Matrix.cons_val_zero, Matrix.cons_val_one, Nat.zero_add]
      rw [if_pos (by omega)]
  · have h0 : (y 0).val < 512 := (y 0).isLt
    have h1 : (y 1).val < 2048 := (y 1).isLt
    by_cases h3 : 1536 ≤ (y 1).val
    · exact ⟨_, List.mem_cons_self, mem_rect (h := inb_S512x2048_S512x512_0_1536) _ ⟨Nat.zero_le _, by show _ < 0 + 512; omega⟩
        ⟨h3, by show _ < 1536 + 512; omega⟩⟩
    · by_cases h2 : 1024 ≤ (y 1).val
      · exact ⟨_, List.mem_cons_of_mem _ List.mem_cons_self, mem_rect (h := inb_S512x2048_S512x512_0_1024) _
          ⟨Nat.zero_le _, by show _ < 0 + 512; omega⟩ ⟨h2, by show _ < 1024 + 512; omega⟩⟩
      · by_cases h1' : 512 ≤ (y 1).val
        · exact ⟨_, List.mem_cons_of_mem _ (List.mem_cons_of_mem _ List.mem_cons_self),
            mem_rect (h := inb_S512x2048_S512x512_0_512) _
            ⟨Nat.zero_le _, by show _ < 0 + 512; omega⟩ ⟨h1', by show _ < 512 + 512; omega⟩⟩
        · exact ⟨_, List.mem_cons_of_mem _ (List.mem_cons_of_mem _ (List.mem_cons_of_mem _ List.mem_cons_self)),
            mem_rect (h := inb_S512x2048_S512x512_0_0) _
            ⟨Nat.zero_le _, by show _ < 0 + 512; omega⟩ ⟨Nat.zero_le _, by show _ < 0 + 512; omega⟩⟩

include hA hB hC hD in
/-- The four parts side by side, after the run. -/
theorem final11 : (dats m 0 c).arrAt 11 cfg0.N = (mat (side A B C D) : S4096x2048.Idx → EReal) := by
  refine (dats m 0 c).arrAt_eq_of_covers 11 _ (by decide +kernel) fun t hf y => ?_
  rw [emb11 t y]
  blk_simp
  rw [after0_11]
  have hN := t.isLt.trans_eq N_0
  by_cases h : t.val % 8 = 0
  · rw [outsAt0_A m c t h (by omega)]
    frame_out
    exact key11 A B C D m c hA hB hC hD t y
  · rw [outsAt0_B m c t h (by omega)]
    frame_out
    exact key11 A B C D m c hA hB hC hD t y

end Cert.Proof.Parts

end
-- ==== Proof.PartsRef.lean ====
module

public import proofs.«01_k».proof.Proof.Parts
public import proofs.«01_k».proof.Proof.Gen.Reference7Ideal.Run
public import proofs.«01_k».proof.Proof.Gen.Reference7Ideal.Read
public import proofs.«01_k».proof.Defs

/-!
# The gradient through a projection of four parts and its norm: the kernel computes the derivative
-/

@[expose] public section

set_option maxRecDepth 16384
set_option maxHeartbeats 4000000

noncomputable section

namespace Cert.Proof.PartsRef

open Idealize.ShloMosaic Idealize.ShloMosaic.TcCoe Idealize.SL.Sem Cert.Proof.Reals Cert.Proof.Mats

section Reference

open Cert.Reference7Ideal Cert.Reference7Ideal.Gen Cert.Reference7Ideal.Read

open Cert.Proof.Parts (dhP side)

variable (X A B C D W E : ℕ → ℕ → ℝ) (G : ℕ → ℝ)

/-- The mean square plus eps. -/
theorem v7 : val_main_v7 (F := Ideal) (mat X) = (mat fun i _ => ms (X i) : S4096x1.Idx → EReal) := by
  funext j
  idx_vars j
  unfold val_main_v7 val_main_v6 val_main_v5 val_main_v4 val_main_v3 val_main_v2 val_main_v1 val_main_cst_0
    val_main_cst_1 val_main_cst_2
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The factor. -/
theorem v8 : val_main_v8 (F := Ideal) (mat X) = (mat fun i _ => rf (X i) : S4096x1.Idx → EReal) := by
  funext j
  idx_vars j
  unfold val_main_v8
  rw [v7]
  pointwise
  simp only [mat_ix2, vec_ix1, ← EReal.coe_mul, sum_univ_coe, bits_1024, bits_eps, bits_zero, bits_half, bits_neg_half, bits_one, div_1024,
    ← EReal.coe_add, ← EReal.coe_sub, zero_add]
  exact rf_eq _

/-- Half the quotient of the factor by the mean square, negated. -/
theorem v11 : val_main_v11 (F := Ideal) (mat X) = (mat fun i _ => -(1 / 2) * (rf (X i) / ms (X i)) : S4096x1.Idx → EReal) := by
  funext j
  idx_vars j
  unfold val_main_v11 val_main_v10 val_main_v9 val_main_cst_3
  rw [v7, v8]
  pointwise
  simp only [mat_ix2, vec_ix1, ← EReal.coe_mul, sum_univ_coe, bits_1024, bits_eps, bits_zero, bits_half, bits_neg_half, bits_one, div_1024,
    ← EReal.coe_add, ← EReal.coe_sub, zero_add]
  rw [div_real _ _ (ms_pos _).ne', ← EReal.coe_mul]

/-- The normalised rows. -/
theorem v13 : val_main_v13 (F := Ideal) (mat X) = (mat fun i k => X i k * rf (X i) : S4096x1024.Idx → EReal) := by
  funext j
  idx_vars j
  unfold val_main_v13 val_main_v12
  rw [v8]
  pointwise
  simp only [mat_ix2, vec_ix1, ← EReal.coe_mul, sum_univ_coe, bits_1024, bits_eps, bits_zero, bits_half, bits_neg_half, bits_one, div_1024,
    ← EReal.coe_add, ← EReal.coe_sub, zero_add]

/-- The rows with the gain. -/
theorem v16 : val_main_v16 (F := Ideal) (mat X) (vec G) = (mat fun i k => X i k * rf (X i) * G k : S4096x1024.Idx → EReal) := by
  funext j
  idx_vars j
  unfold val_main_v16 val_main_v15 val_main_v14
  rw [v13]
  pointwise
  simp only [mat_ix2, vec_ix1, ← EReal.coe_mul, sum_univ_coe, bits_1024, bits_eps, bits_zero, bits_half, bits_neg_half, bits_one, div_1024,
    ← EReal.coe_add, ← EReal.coe_sub, zero_add]

/-- The four parts, padded and added, lie side by side. -/
theorem v29 : val_main_v29 (F := Ideal) (mat A) (mat B) (mat C) (mat D) = (mat (side A B C D) : S4096x2048.Idx → EReal) := by
  funext j
  idx_vars j
  unfold val_main_v29 val_main_v28 val_main_v27 val_main_v26 val_main_v25 val_main_v24 val_main_v23 val_main_cst_4 val_main_cst_5
    val_main_cst_6 val_main_cst_7
  pointwise
  simp only [mat_ix2, bits_zero]
  have hj : j1.val < 2048 := j1.isLt
  unfold side
  split_ifs <;> first | omega | simp

/-- The cotangent of the norm's output. -/
theorem v30 : val_main_v30 (F := Ideal) (mat W) (mat A) (mat B) (mat C) (mat D) = (mat (dhP A B C D W) : S4096x1024.Idx → EReal) := by
  funext j
  idx_vars j
  unfold val_main_v30
  rw [v29]
  pointwise
  simp only [mat_ix2, vec_ix1, ← EReal.coe_mul, sum_univ_coe, bits_1024, bits_eps, bits_zero, bits_half, bits_neg_half, bits_one, div_1024,
    ← EReal.coe_add, ← EReal.coe_sub, zero_add]
  rfl

/-- The gain's gradient. -/
theorem v54 : val_main_v54 (F := Ideal) (mat X) (mat W) (mat A) (mat B) (mat C) (mat D) = (mat fun _ k => ∑ i : Fin 4096, dhP A B C D W i.val k * (X i.val k * rf (X i.val)) : S1x1024.Idx → EReal) := by
  funext j
  idx_vars j
  unfold val_main_v54 val_main_v36 val_main_v33 val_main_v32 val_main_v31 val_main_cst_8 val_main_cst_9
  rw [v13, v30]
  pointwise
  simp only [mat_ix2, vec_ix1, ← EReal.coe_mul, sum_univ_coe, bits_1024, bits_eps, bits_zero, bits_half, bits_neg_half, bits_one, div_1024,
    ← EReal.coe_add, ← EReal.coe_sub, zero_add]
  rw [Fin.sum_univ_one]
  exact congrArg Real.toEReal (Finset.sum_congr rfl fun i _ => mul_comm _ _)

/-- The cotangent of the normalised rows. -/
theorem v35 : val_main_v35 (F := Ideal) (vec G) (mat W) (mat A) (mat B) (mat C) (mat D) = (mat fun i k => dhP A B C D W i k * G k : S4096x1024.Idx → EReal) := by
  funext j
  idx_vars j
  unfold val_main_v35 val_main_v34 val_main_v14
  rw [v30]
  pointwise
  simp only [mat_ix2, vec_ix1, ← EReal.coe_mul, sum_univ_coe, bits_1024, bits_eps, bits_zero, bits_half, bits_neg_half, bits_one, div_1024,
    ← EReal.coe_add, ← EReal.coe_sub, zero_add]

/-- The mean square's part. -/
theorem v45 : val_main_v45 (F := Ideal) (mat X) (vec G) (mat W) (mat A) (mat B) (mat C) (mat D) = (mat fun i _ => (∑ l : Fin 1024, X i l.val * (dhP A B C D W i l.val * G l.val)) * (-(1 / 2) * (rf (X i) / ms (X i))) / 1024 : S4096x1.Idx → EReal) := by
  funext j
  idx_vars j
  unfold val_main_v45 val_main_v44 val_main_v43 val_main_v39 val_main_v38 val_main_v37 val_main_cst_10 val_main_cst_11
  rw [v35, v11]
  pointwise
  simp only [mat_ix2, vec_ix1, ← EReal.coe_mul, sum_univ_coe, bits_1024, bits_eps, bits_zero, bits_half, bits_neg_half, bits_one, div_1024,
    ← EReal.coe_add, ← EReal.coe_sub, zero_add]

/-- The residual stream's gradient. -/
theorem v51 : val_main_v51 (F := Ideal) (mat X) (vec G) (mat W) (mat A) (mat B) (mat C) (mat D) (mat E) = (mat fun i k => E i k + ng (X i) (fun l => dhP A B C D W i l * G l) k : S4096x1024.Idx → EReal) := by
  funext j
  idx_vars j
  unfold val_main_v51 val_main_v50 val_main_v49 val_main_v48 val_main_v47 val_main_v46 val_main_v42 val_main_v41
    val_main_v40 val_main_cst_12
  rw [v35, v45, v8]
  pointwise
  simp only [mat_ix2, vec_ix1, ← EReal.coe_mul, sum_univ_coe, bits_1024, bits_eps, bits_zero, bits_half, bits_neg_half, bits_one, div_1024,
    ← EReal.coe_add, ← EReal.coe_sub, zero_add]
  rw [Fin.sum_univ_one, ← ng_eq _ _ _ (Fin.isLt _), ← add_assoc, ← add_assoc]

/-- The normalised rows, turned. -/
theorem v53 : val_main_v53 (F := Ideal) (mat X) (vec G) = (mat fun k i => X i k * rf (X i) * G k : S1024x4096.Idx → EReal) := by
  funext j
  idx_vars j
  unfold val_main_v53 val_main_v52
  rw [v16]
  pointwise
  simp only [mat_ix2, vec_ix1, ← EReal.coe_mul, sum_univ_coe, bits_1024, bits_eps, bits_zero, bits_half, bits_neg_half, bits_one, div_1024,
    ← EReal.coe_add, ← EReal.coe_sub, zero_add]

/-- The four parts in half width. -/
theorem v55 : val_main_v55 (F := Ideal) (mat A) (mat B) (mat C) (mat D) = (mat (side A B C D) : S4096x2048.Idx → EReal) := by
  unfold val_main_v55
  rw [v29]
  rfl

end Reference

section Claim

/-- The argument arrays of the precondition are real. -/
theorem real_args [hP : Cert.Pre_finite7.Facts]
    {m : (ℓ : Loc Cert.Kernel7Ideal.nD Cert.Kernel7Ideal.τ Cert.Kernel7Ideal.sig) → Buf (Elt Ideal) ℓ}
    (h : Cert.Pre_Kernel7Ideal_finite7 m) (c : Dev Cert.Kernel7Ideal.nD) :
    ∃ (X : ℕ → ℕ → ℝ) (G : ℕ → ℝ) (W : ℕ → ℕ → ℝ) (A : ℕ → ℕ → ℝ) (B : ℕ → ℕ → ℝ) (C : ℕ → ℕ → ℝ) (D : ℕ → ℕ → ℝ) (E : ℕ → ℕ → ℝ),
      m ((c : Thread Cert.Kernel7Ideal.nD Cert.Kernel7Ideal.τ).loc Cert.Kernel7Ideal.main_arg0) = (mat X : Cert.Kernel7Ideal.S4096x1024.Idx → EReal) ∧
      m ((c : Thread Cert.Kernel7Ideal.nD Cert.Kernel7Ideal.τ).loc Cert.Kernel7Ideal.main_arg1) = (vec G : Cert.Kernel7Ideal.S1024.Idx → EReal) ∧
      m ((c : Thread Cert.Kernel7Ideal.nD Cert.Kernel7Ideal.τ).loc Cert.Kernel7Ideal.main_arg2) = (mat W : Cert.Kernel7Ideal.S1024x2048.Idx → EReal) ∧
      m ((c : Thread Cert.Kernel7Ideal.nD Cert.Kernel7Ideal.τ).loc Cert.Kernel7Ideal.main_arg3) = (mat A : Cert.Kernel7Ideal.S4096x512.Idx → EReal) ∧
      m ((c : Thread Cert.Kernel7Ideal.nD Cert.Kernel7Ideal.τ).loc Cert.Kernel7Ideal.main_arg4) = (mat B : Cert.Kernel7Ideal.S4096x512.Idx → EReal) ∧
      m ((c : Thread Cert.Kernel7Ideal.nD Cert.Kernel7Ideal.τ).loc Cert.Kernel7Ideal.main_arg5) = (mat C : Cert.Kernel7Ideal.S4096x512.Idx → EReal) ∧
      m ((c : Thread Cert.Kernel7Ideal.nD Cert.Kernel7Ideal.τ).loc Cert.Kernel7Ideal.main_arg6) = (mat D : Cert.Kernel7Ideal.S4096x512.Idx → EReal) ∧
      m ((c : Thread Cert.Kernel7Ideal.nD Cert.Kernel7Ideal.τ).loc Cert.Kernel7Ideal.main_arg7) = (mat E : Cert.Kernel7Ideal.S4096x1024.Idx → EReal) := by
  obtain ⟨e0, e1, e2, e3, e4, e5, e6, e7⟩ := h c
  unfold Cert.Pre_finite7.fn Cert.Pre_finite7.fn_part1 at e0 e1 e2 e3 e4 e5 e6 e7
  dsimp only at e0 e1 e2 e3 e4 e5 e6 e7
  haveI : Subsingleton Cert.Pre_finite7.S_.Idx := ⟨fun a b => funext fun i => i.elim0⟩
  obtain ⟨X, hX⟩ := real_of_all _ _ _ _ _ _ (congrFun e0 fun i => i.elim0)
  obtain ⟨G, hG⟩ := real_of_all _ _ _ _ _ _ (congrFun e1 fun i => i.elim0)
  obtain ⟨W, hW⟩ := real_of_all _ _ _ _ _ _ (congrFun e2 fun i => i.elim0)
  obtain ⟨A, hA⟩ := real_of_all _ _ _ _ _ _ (congrFun e3 fun i => i.elim0)
  obtain ⟨B, hB⟩ := real_of_all _ _ _ _ _ _ (congrFun e4 fun i => i.elim0)
  obtain ⟨C, hC⟩ := real_of_all _ _ _ _ _ _ (congrFun e5 fun i => i.elim0)
  obtain ⟨D, hD⟩ := real_of_all _ _ _ _ _ _ (congrFun e6 fun i => i.elim0)
  obtain ⟨E, hE⟩ := real_of_all _ _ _ _ _ _ (congrFun e7 fun i => i.elim0)
  exact ⟨ofMat X, ofVec G, ofMat W, ofMat A, ofMat B, ofMat C, ofMat D, ofMat E,
    hX.trans (up_mat X), hG.trans (up_vec G), hW.trans (up_mat W), hA.trans (up_mat A), hB.trans (up_mat B), hC.trans (up_mat C), hD.trans (up_mat D), hE.trans (up_mat E)⟩

/-- The kernel and the derivative end with equal arrays. -/
theorem algebraic [Cert.Pre_finite7.Facts] : Cert.algebraic_Kernel7Ideal_Reference7Ideal_pre_finite7 := by
  intro m g m' g' hpre hagree
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    Cert.Kernel7Ideal.Value.run_blocks m g, ?_⟩
  refine (θ_run _ _ _).mono (fun r h c => ?_) (Cert.Reference7Ideal.Value.run m' g')
  obtain ⟨X, G, W, A, B, C, D, E, hX, hG, hW, hA, hB, hC, hD, hE⟩ := real_args hpre c
  obtain ⟨aX, aG, aW, aA, aB, aC, aD, aE⟩ := hagree c
  obtain ⟨r0, r1, r2, r3, k⟩ := h c
  refine ⟨?_, ?_, ?_, ?_, k⟩
  · refine (r0.trans (Cert.Reference7Ideal.Read.val_main_v51_eq _ _)).trans ?_
    rw [aX, aG, aW, aA, aB, aC, aD, aE, hX, hG, hW, hA, hB, hC, hD, hE, v51]
    exact (Parts.final8 X E A B C D W G m c hX hG hW hA hB hC hD hE).symm
  · refine (r1.trans (Cert.Reference7Ideal.Read.val_main_v53_eq _ _)).trans ?_
    rw [aX, aG, hX, hG, v53]
    exact (Parts.final9 X G m c hX hG).symm
  · refine (r2.trans (Cert.Reference7Ideal.Read.val_main_v54_eq _ _ _ _ _ _)).trans ?_
    rw [aX, aW, aA, aB, aC, aD, hX, hW, hA, hB, hC, hD, v54]
    exact (Parts.final10 X A B C D W m c hX hW hA hB hC hD).symm
  · refine (r3.trans (Cert.Reference7Ideal.Read.val_main_v55_eq _ _ _ _)).trans ?_
    rw [aA, aB, aC, aD, hA, hB, hC, hD, v55]
    exact (Parts.final11 A B C D m c hA hB hC hD).symm

end Claim

end Cert.Proof.PartsRef

end
-- ==== Proof.ParRef.lean ====
module

public import proofs.«01_k».proof.Proof.Mats
public import proofs.«01_k».proof.Proof.Gen.Kernel8Ideal.Frame
public import Idealize.ShloMosaic.Lib.Pipeline.Value
public import proofs.«01_k».proof.Proof.Gen.Reference8Ideal.Run
public import proofs.«01_k».proof.Proof.Gen.Reference8Ideal.Read
public import proofs.«01_k».proof.Defs

/-!
# The gradient of the discretised recurrence parameters: the kernel computes the derivative

Both programs apply the same elementwise operations and the same sums, so the values agree on any arguments: each
value of the kernel's body is one stage of the reference, with the axes of the input matrices turned.
-/

@[expose] public section

set_option maxRecDepth 16384
set_option maxHeartbeats 4000000

noncomputable section

namespace Cert.Proof.ParRef

open Idealize.ShloMosaic Idealize.ShloMosaic.TcCoe Idealize.SL.Sem Cert.Proof.Reals Cert.Proof.Mats
open Cert.Kernel8Ideal Cert.Kernel8Ideal.Gen
open Cert.Reference8Ideal.Read

/-- A vector as a column. -/
def col (x : S32.Idx → EReal) : S32x1.Idx → EReal := fun j => x (ix1 (j 0))

/-- The last axis moved to the front. -/
def tr (x : S32x64x16.Idx → EReal) : S16x32x64.Idx → EReal := fun j => x (ix3 (j 1) (j 2) (j 0))

theorem col_ix2 (x : S32.Idx → EReal) (i : Fin 32) (k : Fin 1) : col x (ix2 i k) = x (ix1 i) := rfl

theorem tr_ix3 (x : S32x64x16.Idx → EReal) (p : Fin 16) (i : Fin 32) (k : Fin 64) : tr x (ix3 p i k) = x (ix3 i k p) :=
  rfl

section Stages

variable (x0 x1 x5 x6 : S32x64.Idx → EReal) (x2 : S32.Idx → EReal) (x3 x4 x7 x8 : S32x64x16.Idx → EReal)

theorem pay3 (x : S16x32x64.Idx → EReal) : k0_pay3 (F := Ideal) x = x := by
  funext j
  idx_vars j
  unfold k0_pay3
  pointwise

theorem pay4 (x : S16x32x64.Idx → EReal) : k0_pay4 (F := Ideal) x = x := by
  funext j
  idx_vars j
  unfold k0_pay4
  pointwise

theorem pay26 (x : S16x32x64.Idx → EReal) : k0_pay26 (F := Ideal) x = x := by
  funext j
  idx_vars j
  unfold k0_pay26
  pointwise

theorem pay27 (x : S16x32x64.Idx → EReal) : k0_pay27 (F := Ideal) x = x := by
  funext j
  idx_vars j
  unfold k0_pay27
  pointwise

theorem pay5 : k0_pay5 (F := Ideal) (col x2) = val_main_v1 (F := Ideal) x2 := by
  funext j
  idx_vars j
  unfold k0_pay5
  unfold val_main_v1 val_main_v0
  pointwise
  simp only [bits_zero, bits_one, zero_add, zero_sub, Fin.sum_univ_one, col_ix2, tr_ix3]

theorem pay6 : k0_pay6 (F := Ideal) x0 (col x2) = val_main_v4 (F := Ideal) x0 x2 := by
  funext j
  idx_vars j
  unfold k0_pay6
  rw [pay5]
  unfold val_main_v4 val_main_v3 val_main_v2
  pointwise

theorem pay7 : k0_pay7 (F := Ideal) x1 (col x2) = val_main_v6 (F := Ideal) x1 x2 := by
  funext j
  idx_vars j
  unfold k0_pay7
  rw [pay5]
  unfold val_main_v6 val_main_v5
  pointwise

theorem pay8 : k0_pay8 (F := Ideal) x1 (col x2) = val_main_v7 (F := Ideal) x1 x2 := by
  funext j
  idx_vars j
  unfold k0_pay8
  rw [pay7]
  unfold val_main_v7
  pointwise

theorem pay9 : k0_pay9 (F := Ideal) x1 (col x2) = val_main_v8 (F := Ideal) x1 x2 := by
  funext j
  idx_vars j
  unfold k0_pay9
  rw [pay7]
  unfold val_main_v8
  pointwise

theorem pay10 : k0_pay10 (F := Ideal) x1 (col x2) = val_main_v11 (F := Ideal) x1 x2 := by
  funext j
  idx_vars j
  unfold k0_pay10
  rw [pay5]
  unfold val_main_v11 val_main_v10
  pointwise

theorem pay11 : k0_pay11 (F := Ideal) x1 (col x2) = val_main_v12 (F := Ideal) x1 x2 := by
  funext j
  idx_vars j
  unfold k0_pay11
  rw [pay10]
  unfold val_main_v12
  pointwise

theorem pay12 : k0_pay12 (F := Ideal) x1 (col x2) = val_main_v13 (F := Ideal) x1 x2 := by
  funext j
  idx_vars j
  unfold k0_pay12
  rw [pay10]
  unfold val_main_v13
  pointwise

theorem pay13 : k0_pay13 (F := Ideal) x0 x1 (col x2) = val_main_v14 (F := Ideal) x0 x1 x2 := by
  funext j
  idx_vars j
  unfold k0_pay13
  rw [pay6, pay11]
  unfold val_main_v14
  pointwise

theorem pay14 : k0_pay14 (F := Ideal) x0 x1 = val_main_v17 (F := Ideal) x0 x1 := by
  funext j
  idx_vars j
  unfold k0_pay14
  unfold val_main_v17 val_main_v15 val_main_v16
  pointwise

theorem pay15 : k0_pay15 (F := Ideal) x0 x1 (col x2) = val_main_v19 (F := Ideal) x0 x1 x2 := by
  funext j
  idx_vars j
  unfold k0_pay15
  rw [pay6, pay8]
  unfold val_main_v19 val_main_v9 val_main_v18 val_main_cst
  pointwise

theorem pay16 : k0_pay16 (F := Ideal) x0 x1 (col x2) = val_main_v22 (F := Ideal) x0 x1 x2 := by
  funext j
  idx_vars j
  unfold k0_pay16
  rw [pay15, pay13]
  unfold val_main_v22 val_main_v20 val_main_v21
  pointwise

theorem pay17 : k0_pay17 (F := Ideal) x0 x1 (col x2) = val_main_v23 (F := Ideal) x0 x1 x2 := by
  funext j
  idx_vars j
  unfold k0_pay17
  rw [pay16, pay14]
  unfold val_main_v23
  pointwise

theorem pay18 : k0_pay18 (F := Ideal) x0 x1 = val_main_v26 (F := Ideal) x0 x1 := by
  funext j
  idx_vars j
  unfold k0_pay18
  rw [pay14]
  unfold val_main_v26 val_main_v25 val_main_cst_0 val_main_v24
  pointwise

theorem pay19 : k0_pay19 (F := Ideal) x0 x1 (col x2) = val_main_v29 (F := Ideal) x0 x1 x2 := by
  funext j
  idx_vars j
  unfold k0_pay19
  rw [pay13, pay15]
  unfold val_main_v29 val_main_v27 val_main_v28
  pointwise

theorem pay20 : k0_pay20 (F := Ideal) x0 x1 (col x2) = val_main_v30 (F := Ideal) x0 x1 x2 := by
  funext j
  idx_vars j
  unfold k0_pay20
  rw [pay19, pay14]
  unfold val_main_v30
  pointwise

theorem pay21 : k0_pay21 (F := Ideal) x0 x1 = val_main_v33 (F := Ideal) x0 x1 := by
  funext j
  idx_vars j
  unfold k0_pay21
  rw [pay14]
  unfold val_main_v33 val_main_v32 val_main_cst_1 val_main_v31
  pointwise

theorem pay22 : k0_pay22 (F := Ideal) x0 x1 (col x2) = (fun j => val_main_v23 (F := Ideal) x0 x1 x2 (ix2 (j 1) (j
    2)) : S1x32x64.Idx → EReal) := by
  funext j
  idx_vars j
  unfold k0_pay22
  rw [pay17]
  pointwise

theorem pay23 : k0_pay23 (F := Ideal) x0 x1 (col x2) = (fun j => val_main_v30 (F := Ideal) x0 x1 x2 (ix2 (j 1) (j
    2)) : S1x32x64.Idx → EReal) := by
  funext j
  idx_vars j
  unfold k0_pay23
  rw [pay20]
  pointwise

theorem pay24 : k0_pay24 (F := Ideal) x0 x1 (col x2) = (fun j => val_main_v23 (F := Ideal) x0 x1 x2 (ix2 (j 1) (j
    2)) : S1x32x64.Idx → EReal) := by
  funext j
  idx_vars j
  unfold k0_pay24
  rw [pay17]
  pointwise

theorem pay25 : k0_pay25 (F := Ideal) x0 x1 (col x2) = (fun j => val_main_v30 (F := Ideal) x0 x1 x2 (ix2 (j 1) (j
    2)) : S1x32x64.Idx → EReal) := by
  funext j
  idx_vars j
  unfold k0_pay25
  rw [pay20]
  pointwise

theorem pay28 : k0_pay28 (F := Ideal) (tr x7) = (fun j => -tr x7 j : S16x32x64.Idx → EReal) := by
  funext j
  idx_vars j
  unfold k0_pay28
  rw [pay26]
  pointwise
  simp only [bits_zero, bits_one, zero_add, zero_sub, Fin.sum_univ_one, col_ix2, tr_ix3]

theorem pay29 : k0_pay29 (F := Ideal) (fun j => val_main_v30 (F := Ideal) x0 x1 x2 (ix2 (j 1) (j 2)) : S1x32x64.Idx
    → EReal) (fun j => val_main_v23 (F := Ideal) x0 x1 x2 (ix2 (j 1) (j 2)) : S1x32x64.Idx → EReal) (tr x7) (tr x8) =
    val_main_v145 (F := Ideal) x0 x1 x2 x7 x8 := by
  funext j
  idx_vars j
  unfold k0_pay29
  rw [pay27, pay28]
  unfold val_main_v145 val_main_v66 val_main_v57 val_main_v56 val_main_v41 val_main_v48 val_main_v65 val_main_v64
    val_main_v37 val_main_v63
  pointwise
  simp only [bits_zero, bits_one, zero_add, zero_sub, Fin.sum_univ_one, col_ix2, tr_ix3]

theorem pay30 : k0_pay30 (F := Ideal) (tr x3) (tr x4) (tr x7) (tr x8) = val_main_v71 (F := Ideal) x3 x4 x7 x8 := by
  funext j
  idx_vars j
  unfold k0_pay30
  rw [pay27, pay28]
  unfold val_main_v71 val_main_v55 val_main_v54 val_main_v53 val_main_v52 val_main_v49 val_main_cst_2 val_main_cst_3
    val_main_v70 val_main_v69 val_main_v68 val_main_v67 val_main_v63 val_main_cst_6 val_main_cst_7
  pointwise
  simp only [bits_zero, bits_one, zero_add, zero_sub, Fin.sum_univ_one, col_ix2, tr_ix3]

theorem pay31 : k0_pay31 (F := Ideal) (fun j => val_main_v23 (F := Ideal) x0 x1 x2 (ix2 (j 1) (j 2)) : S1x32x64.Idx
    → EReal) (fun j => val_main_v30 (F := Ideal) x0 x1 x2 (ix2 (j 1) (j 2)) : S1x32x64.Idx → EReal) (tr x7) (tr x8) =
    val_main_v144 (F := Ideal) x0 x1 x2 x7 x8 := by
  funext j
  idx_vars j
  unfold k0_pay31
  rw [pay27, pay26]
  unfold val_main_v144 val_main_v74 val_main_v51 val_main_v50 val_main_v44 val_main_v49 val_main_v73 val_main_v72
    val_main_v34 val_main_v62
  pointwise
  simp only [bits_zero, bits_one, zero_add, zero_sub, Fin.sum_univ_one, col_ix2, tr_ix3]

theorem pay32 : k0_pay32 (F := Ideal) (tr x3) (tr x4) (tr x7) (tr x8) = val_main_v79 (F := Ideal) x3 x4 x7 x8 := by
  funext j
  idx_vars j
  unfold k0_pay32
  rw [pay27, pay26]
  unfold val_main_v79 val_main_v61 val_main_v60 val_main_v59 val_main_v58 val_main_v48 val_main_cst_4 val_main_cst_5
    val_main_v78 val_main_v77 val_main_v76 val_main_v75 val_main_v62 val_main_cst_8 val_main_cst_9
  pointwise
  simp only [bits_zero, bits_one, zero_add, zero_sub, Fin.sum_univ_one, col_ix2, tr_ix3]

theorem pay33 : k0_pay33 (F := Ideal) (tr x3) (tr x4) (val_main_v29 (F := Ideal) x0 x1 x2) (val_main_v33 (F :=
    Ideal) x0 x1) (tr x7) (tr x8) = val_main_v82 (F := Ideal) x0 x1 x2 x3 x4 x7 x8 := by
  funext j
  idx_vars j
  unfold k0_pay33
  rw [pay30]
  unfold val_main_v82 val_main_v81 val_main_v80
  pointwise
  simp only [bits_zero, bits_one, zero_add, zero_sub, Fin.sum_univ_one, col_ix2, tr_ix3]

theorem pay34 : k0_pay34 (F := Ideal) (val_main_v17 (F := Ideal) x0 x1) (val_main_v71 (F := Ideal) x3 x4 x7 x8) =
    val_main_v83 (F := Ideal) x0 x1 x3 x4 x7 x8 := by
  funext j
  idx_vars j
  unfold k0_pay34
  unfold val_main_v83
  pointwise

theorem pay35 : k0_pay35 (F := Ideal) (val_main_v17 (F := Ideal) x0 x1) (val_main_v71 (F := Ideal) x3 x4 x7 x8) =
    val_main_v84 (F := Ideal) x0 x1 x3 x4 x7 x8 := by
  funext j
  idx_vars j
  unfold k0_pay35
  rw [pay34]
  unfold val_main_v84
  pointwise
  simp only [bits_zero, bits_one, zero_add, zero_sub, Fin.sum_univ_one, col_ix2, tr_ix3]

theorem pay36 : k0_pay36 (F := Ideal) (val_main_v22 (F := Ideal) x0 x1 x2) (val_main_v26 (F := Ideal) x0 x1)
    (val_main_v79 (F := Ideal) x3 x4 x7 x8) (val_main_v82 (F := Ideal) x0 x1 x2 x3 x4 x7 x8) = val_main_v94 (F := Ideal)
    x0 x1 x2 x3 x4 x7 x8 := by
  funext j
  idx_vars j
  unfold k0_pay36
  unfold val_main_v94 val_main_v93 val_main_v92 val_main_v91
  pointwise
  simp only [bits_zero, bits_one, zero_add, zero_sub, Fin.sum_univ_one, col_ix2, tr_ix3]

theorem pay37 : k0_pay37 (F := Ideal) (val_main_v17 (F := Ideal) x0 x1) (val_main_v79 (F := Ideal) x3 x4 x7 x8) =
    val_main_v95 (F := Ideal) x0 x1 x3 x4 x7 x8 := by
  funext j
  idx_vars j
  unfold k0_pay37
  unfold val_main_v95
  pointwise

theorem pay38 : k0_pay38 (F := Ideal) x0 x1 (val_main_v17 (F := Ideal) x0 x1) x6 (val_main_v71 (F := Ideal) x3 x4 x7
    x8) (val_main_v79 (F := Ideal) x3 x4 x7 x8) = val_main_v99 (F := Ideal) x0 x1 x3 x4 x6 x7 x8 := by
  funext j
  idx_vars j
  unfold k0_pay38
  rw [pay34, pay37]
  unfold val_main_v99 val_main_v90 val_main_v89 val_main_v98
  pointwise

theorem pay39 : k0_pay39 (F := Ideal) x0 x1 (val_main_v17 (F := Ideal) x0 x1) x5 (val_main_v71 (F := Ideal) x3 x4 x7
    x8) (val_main_v79 (F := Ideal) x3 x4 x7 x8) = val_main_v103 (F := Ideal) x0 x1 x3 x4 x5 x7 x8 := by
  funext j
  idx_vars j
  unfold k0_pay39
  rw [pay35, pay37]
  unfold val_main_v103 val_main_v87 val_main_v86 val_main_v102
  pointwise

theorem pay40 : k0_pay40 (F := Ideal) x0 (val_main_v14 (F := Ideal) x0 x1 x2) (val_main_v17 (F := Ideal) x0 x1)
    (val_main_v19 (F := Ideal) x0 x1 x2) (val_main_v22 (F := Ideal) x0 x1 x2) (val_main_v26 (F := Ideal) x0 x1)
    (val_main_v71 (F := Ideal) x3 x4 x7 x8) (val_main_v79 (F := Ideal) x3 x4 x7 x8) (val_main_v82 (F := Ideal) x0 x1 x2
    x3 x4 x7 x8) = val_main_v111 (F := Ideal) x0 x1 x2 x3 x4 x7 x8 := by
  funext j
  idx_vars j
  unfold k0_pay40
  rw [pay34, pay37, pay36]
  unfold val_main_v111 val_main_v109 val_main_v101 val_main_v88 val_main_v100 val_main_v108 val_main_v110
  pointwise

theorem pay41 : k0_pay41 (F := Ideal) x0 x1 (val_main_v4 (F := Ideal) x0 x2) (val_main_v13 (F := Ideal) x1 x2)
    (val_main_v17 (F := Ideal) x0 x1) x6 (val_main_v71 (F := Ideal) x3 x4 x7 x8) (val_main_v79 (F := Ideal) x3 x4 x7 x8)
    = val_main_v114 (F := Ideal) x0 x1 x2 x3 x4 x6 x7 x8 := by
  funext j
  idx_vars j
  unfold k0_pay41
  rw [pay38]
  unfold val_main_v114 val_main_v112
  pointwise

theorem pay42 : k0_pay42 (F := Ideal) x0 x1 (val_main_v4 (F := Ideal) x0 x2) (val_main_v8 (F := Ideal) x1 x2)
    (val_main_v17 (F := Ideal) x0 x1) x5 (val_main_v71 (F := Ideal) x3 x4 x7 x8) (val_main_v79 (F := Ideal) x3 x4 x7 x8)
    = val_main_v125 (F := Ideal) x0 x1 x2 x3 x4 x5 x7 x8 := by
  funext j
  idx_vars j
  unfold k0_pay42
  rw [pay39]
  unfold val_main_v125 val_main_v124 val_main_v121
  pointwise
  simp only [bits_zero, bits_one, zero_add, zero_sub, Fin.sum_univ_one, col_ix2, tr_ix3]

theorem pay43 : k0_pay43 (F := Ideal) x0 x1 (val_main_v4 (F := Ideal) x0 x2) (val_main_v8 (F := Ideal) x1 x2)
    (val_main_v13 (F := Ideal) x1 x2) (val_main_v17 (F := Ideal) x0 x1) x5 x6 (val_main_v71 (F := Ideal) x3 x4 x7 x8)
    (val_main_v79 (F := Ideal) x3 x4 x7 x8) = val_main_v129 (F := Ideal) x0 x1 x2 x3 x4 x5 x6 x7 x8 := by
  funext j
  idx_vars j
  unfold k0_pay43
  rw [pay41, pay42]
  unfold val_main_v129 val_main_v117 val_main_v116 val_main_v115 val_main_cst_10 val_main_v128 val_main_v127
    val_main_v126 val_main_cst_11
  pointwise

theorem pay44 : k0_pay44 (F := Ideal) x0 x1 (val_main_v1 (F := Ideal) x2) (val_main_v4 (F := Ideal) x0 x2)
    (val_main_v8 (F := Ideal) x1 x2) (val_main_v13 (F := Ideal) x1 x2) (val_main_v14 (F := Ideal) x0 x1 x2)
    (val_main_v17 (F := Ideal) x0 x1) (val_main_v19 (F := Ideal) x0 x1 x2) (val_main_v22 (F := Ideal) x0 x1 x2)
    (val_main_v26 (F := Ideal) x0 x1) x5 x6 (val_main_v71 (F := Ideal) x3 x4 x7 x8) (val_main_v79 (F := Ideal) x3 x4 x7
    x8) (val_main_v82 (F := Ideal) x0 x1 x2 x3 x4 x7 x8) = val_main_v132 (F := Ideal) x0 x1 x2 x3 x4 x5 x6 x7 x8 := by
  funext j
  idx_vars j
  unfold k0_pay44
  rw [pay35, pay37, pay36, pay41, pay42]
  unfold val_main_v132 val_main_v120 val_main_v107 val_main_v105 val_main_v97 val_main_v85 val_main_v96
    val_main_v104 val_main_v106 val_main_v119 val_main_v118 val_main_v131 val_main_v130
  pointwise

theorem pay45 : k0_pay45 (F := Ideal) x0 x1 (val_main_v4 (F := Ideal) x0 x2) (val_main_v7 (F := Ideal) x1 x2)
    (val_main_v12 (F := Ideal) x1 x2) (val_main_v17 (F := Ideal) x0 x1) x5 x6 (val_main_v71 (F := Ideal) x3 x4 x7 x8)
    (val_main_v79 (F := Ideal) x3 x4 x7 x8) = val_main_v133 (F := Ideal) x0 x1 x2 x3 x4 x5 x6 x7 x8 := by
  funext j
  idx_vars j
  unfold k0_pay45
  rw [pay38, pay39]
  unfold val_main_v133 val_main_v123 val_main_v113 val_main_v122
  pointwise

theorem pay46 : k0_pay46 (F := Ideal) x0 x1 (val_main_v4 (F := Ideal) x0 x2) (val_main_v7 (F := Ideal) x1 x2)
    (val_main_v12 (F := Ideal) x1 x2) (val_main_v17 (F := Ideal) x0 x1) x5 x6 (val_main_v71 (F := Ideal) x3 x4 x7 x8)
    (val_main_v79 (F := Ideal) x3 x4 x7 x8) = val_main_v134 (F := Ideal) x0 x1 x2 x3 x4 x5 x6 x7 x8 := by
  funext j
  idx_vars j
  unfold k0_pay46
  rw [pay45]
  unfold val_main_v134
  pointwise

theorem pay1 : k0_pay1 (F := Ideal) (val_main_v1 (F := Ideal) x2) (val_main_v111 (F := Ideal) x0 x1 x2 x3 x4 x7 x8)
    (val_main_v133 (F := Ideal) x0 x1 x2 x3 x4 x5 x6 x7 x8) = val_main_v140 (F := Ideal) x0 x1 x2 x3 x4 x5 x6 x7 x8 :=
    by
  funext j
  idx_vars j
  unfold k0_pay1
  unfold val_main_v140 val_main_v139 val_main_v138
  pointwise

theorem pay2 : k0_pay2 (F := Ideal) (val_main_v1 (F := Ideal) x2) (val_main_v129 (F := Ideal) x0 x1 x2 x3 x4 x5 x6
    x7 x8) (val_main_v134 (F := Ideal) x0 x1 x2 x3 x4 x5 x6 x7 x8) = val_main_v143 (F := Ideal) x0 x1 x2 x3 x4 x5 x6 x7
    x8 := by
  funext j
  idx_vars j
  unfold k0_pay2
  unfold val_main_v143 val_main_v142 val_main_v141 val_main_v137 val_main_v136 val_main_v135 val_main_cst_12
    val_main_cst_13 val_main_v1
  pointwise
  simp only [bits_zero, bits_one, zero_add, zero_sub, Fin.sum_univ_one, col_ix2, tr_ix3]
  obtain rfl : j1 = 0 := Subsingleton.elim _ _
  rfl

end Stages

section Kernel

variable (m : (ℓ : Loc nD τ sig) → Buf (Elt Ideal) ℓ) (c : Dev nD)

theorem at_v0 : V m c main_v0 = (tr (m ((c : Thread nD τ).loc main_arg3)) : S16x32x64.Idx → EReal) := by
  funext j
  idx_vars j
  change StableHlo.after [hostOps0].flatten _ _ _ = _
  simp only [hostOps0, List.flatten_cons, List.flatten_nil, List.append_nil]
  after_results
  pointwise
  rfl

theorem at_v1 : V m c main_v1 = (tr (m ((c : Thread nD τ).loc main_arg4)) : S16x32x64.Idx → EReal) := by
  funext j
  idx_vars j
  change StableHlo.after [hostOps0].flatten _ _ _ = _
  simp only [hostOps0, List.flatten_cons, List.flatten_nil, List.append_nil]
  after_results
  pointwise
  rfl

theorem at_v2 : V m c main_v2 = (tr (m ((c : Thread nD τ).loc main_arg7)) : S16x32x64.Idx → EReal) := by
  funext j
  idx_vars j
  change StableHlo.after [hostOps0].flatten _ _ _ = _
  simp only [hostOps0, List.flatten_cons, List.flatten_nil, List.append_nil]
  after_results
  pointwise
  rfl

theorem at_v3 : V m c main_v3 = (tr (m ((c : Thread nD τ).loc main_arg8)) : S16x32x64.Idx → EReal) := by
  funext j
  idx_vars j
  change StableHlo.after [hostOps0].flatten _ _ _ = _
  simp only [hostOps0, List.flatten_cons, List.flatten_nil, List.append_nil]
  after_results
  pointwise
  rfl

theorem at_v4 : V m c main_v4 = (col (m ((c : Thread nD τ).loc main_arg2)) : S32x1.Idx → EReal) := by
  funext j
  idx_vars j
  change StableHlo.after [hostOps0].flatten _ _ _ = _
  simp only [hostOps0, List.flatten_cons, List.flatten_nil, List.append_nil]
  after_results
  pointwise
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0, 0] := (by decide +kernel : ∀ t : Fin grid0.N, _)

theorem iblk0 (t : Fin cfg0.N) : iblk m c 0 t = ((m ((c : Thread nD τ).loc main_arg0)) : S32x64.Idx → EReal) := by
  funext y
  change V m c main_arg0 (((cfg0.win 0).blk t).view.emb y) = _
  rw [show ((cfg0.win 0).blk t).view.emb y = y by blk_ext [idx0 t], V_main_arg0 m c]

theorem iblk1 (t : Fin cfg0.N) : iblk m c 1 t = ((m ((c : Thread nD τ).loc main_arg1)) : S32x64.Idx → EReal) := by
  funext y
  change V m c main_arg1 (((cfg0.win 1).blk t).view.emb y) = _
  rw [show ((cfg0.win 1).blk t).view.emb y = y by blk_ext [idx1 t], V_main_arg1 m c]

theorem iblk2 (t : Fin cfg0.N) : iblk m c 2 t = (col (m ((c : Thread nD τ).loc main_arg2)) : S32x1.Idx → EReal) := by
  funext y
  change V m c main_v4 (((cfg0.win 2).blk t).view.emb y) = _
  rw [show ((cfg0.win 2).blk t).view.emb y = y by blk_ext [idx2 t], at_v4 m c]

theorem iblk3 (t : Fin cfg0.N) : iblk m c 3 t = (tr (m ((c : Thread nD τ).loc main_arg3)) : S16x32x64.Idx → EReal) := by
  funext y
  change V m c main_v0 (((cfg0.win 3).blk t).view.emb y) = _
  rw [show ((cfg0.win 3).blk t).view.emb y = y by blk_ext [idx3 t], at_v0 m c]

theorem iblk4 (t : Fin cfg0.N) : iblk m c 4 t = (tr (m ((c : Thread nD τ).loc main_arg4)) : S16x32x64.Idx → EReal) := by
  funext y
  change V m c main_v1 (((cfg0.win 4).blk t).view.emb y) = _
  rw [show ((cfg0.win 4).blk t).view.emb y = y by blk_ext [idx4 t], at_v1 m c]

theorem iblk5 (t : Fin cfg0.N) : iblk m c 5 t = ((m ((c : Thread nD τ).loc main_arg5)) : S32x64.Idx → EReal) := by
  funext y
  change V m c main_arg5 (((cfg0.win 5).blk t).view.emb y) = _
  rw [show ((cfg0.win 5).blk t).view.emb y = y by blk_ext [idx5 t], V_main_arg5 m c]

theorem iblk6 (t : Fin cfg0.N) : iblk m c 6 t = ((m ((c : Thread nD τ).loc main_arg6)) : S32x64.Idx → EReal) := by
  funext y
  change V m c main_arg6 (((cfg0.win 6).blk t).view.emb y) = _
  rw [show ((cfg0.win 6).blk t).view.emb y = y by blk_ext [idx6 t], V_main_arg6 m c]

theorem iblk7 (t : Fin cfg0.N) : iblk m c 7 t = (tr (m ((c : Thread nD τ).loc main_arg7)) : S16x32x64.Idx → EReal) := by
  funext y
  change V m c main_v2 (((cfg0.win 7).blk t).view.emb y) = _
  rw [show ((cfg0.win 7).blk t).view.emb y = y by blk_ext [idx7 t], at_v2 m c]

theorem iblk8 (t : Fin cfg0.N) : iblk m c 8 t = (tr (m ((c : Thread nD τ).loc main_arg8)) : S16x32x64.Idx → EReal) := by
  funext y
  change V m c main_v3 (((cfg0.win 8).blk t).view.emb y) = _
  rw [show ((cfg0.win 8).blk t).view.emb y = y by blk_ext [idx8 t], at_v3 m c]

/-- The run: what the five results hold, and that the arguments are as launched. -/
theorem run (ρ : Dev nD → PrngReg) :
    θ_run defs (onTc (τ := τ) (main (F := Ideal))) ⟨m, fun _ => 0, ρ⟩ fun r => ∀ c : Dev nD,
      r.2.mem ((c : Thread nD τ).loc main_v5_0) = (dats m 0 c).arrAt 9 cfg0.N ∧
      r.2.mem ((c : Thread nD τ).loc main_v5_1) = (dats m 0 c).arrAt 10 cfg0.N ∧
      r.2.mem ((c : Thread nD τ).loc main_v5_2) = (dats m 0 c).arrAt 11 cfg0.N ∧
      r.2.mem ((c : Thread nD τ).loc main_v5_3) = (dats m 0 c).arrAt 12 cfg0.N ∧
      r.2.mem ((c : Thread nD τ).loc main_v5_4) = (dats m 0 c).arrAt 13 cfg0.N ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) ∧
      r.2.mem ((c : Thread nD τ).loc main_arg8) = m ((c : Thread nD τ).loc main_arg8) :=
  (θ_run defs _ _).mono (fun r h c => ⟨(h c).1 9, (h c).1 10, (h c).1 11, (h c).1 12, (h c).1 13,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩)
    (run_main m ρ)

theorem final9 : (dats m 0 c).arrAt 9 cfg0.N = val_main_v140 (F := Ideal) (m ((c : Thread nD τ).loc main_arg0)) (m
    ((c : Thread nD τ).loc main_arg1)) (m ((c : Thread nD τ).loc main_arg2)) (m ((c : Thread nD τ).loc main_arg3)) (m
    ((c : Thread nD τ).loc main_arg4)) (m ((c : Thread nD τ).loc main_arg5)) (m ((c : Thread nD τ).loc main_arg6)) (m
    ((c : Thread nD τ).loc main_arg7)) (m ((c : Thread nD τ).loc main_arg8)) := by
  refine (dats m 0 c).arrAt_eq_of_covers 9 _ (by decide +kernel) fun t hf y => ?_
  rw [show ((cfg0.win 9).blk t).view.emb y = y by blk_ext [idx9 t]]
  blk_simp
  rw [after0_9]
  rw [iblk0, iblk1, iblk2, iblk3, iblk4, iblk5, iblk6, iblk7, iblk8]
  unfold_out out0_9
  frame_out
  rw [pay3, pay4, pay5, pay6, pay8, pay11, pay13, pay14, pay15, pay16, pay18, pay19, pay21, pay30, pay32, pay33, pay40, pay45, pay1]

theorem final10 : (dats m 0 c).arrAt 10 cfg0.N = val_main_v132 (F := Ideal) (m ((c : Thread nD τ).loc main_arg0)) (m
    ((c : Thread nD τ).loc main_arg1)) (m ((c : Thread nD τ).loc main_arg2)) (m ((c : Thread nD τ).loc main_arg3)) (m
    ((c : Thread nD τ).loc main_arg4)) (m ((c : Thread nD τ).loc main_arg5)) (m ((c : Thread nD τ).loc main_arg6)) (m
    ((c : Thread nD τ).loc main_arg7)) (m ((c : Thread nD τ).loc main_arg8)) := by
  refine (dats m 0 c).arrAt_eq_of_covers 10 _ (by decide +kernel) fun t hf y => ?_
  rw [show ((cfg0.win 10).blk t).view.emb y = y by blk_ext [idx10 t]]
  blk_simp
  rw [after0_10]
  rw [iblk0, iblk1, iblk2, iblk3, iblk4, iblk5, iblk6, iblk7, iblk8]
  unfold_out out0_10
  frame_out
  rw [pay3, pay4, pay5, pay6, pay9, pay12, pay13, pay14, pay15, pay16, pay18, pay19, pay21, pay30, pay32, pay33, pay44]

theorem final11 : (dats m 0 c).arrAt 11 cfg0.N = val_main_v143 (F := Ideal) (m ((c : Thread nD τ).loc main_arg0)) (m
    ((c : Thread nD τ).loc main_arg1)) (m ((c : Thread nD τ).loc main_arg2)) (m ((c : Thread nD τ).loc main_arg3)) (m
    ((c : Thread nD τ).loc main_arg4)) (m ((c : Thread nD τ).loc main_arg5)) (m ((c : Thread nD τ).loc main_arg6)) (m
    ((c : Thread nD τ).loc main_arg7)) (m ((c : Thread nD τ).loc main_arg8)) := by
  refine (dats m 0 c).arrAt_eq_of_covers 11 _ (by decide +kernel) fun t hf y => ?_
  rw [show ((cfg0.win 11).blk t).view.emb y = y by blk_ext [idx11 t]]
  blk_simp
  rw [after0_11]
  rw [iblk0, iblk1, iblk2, iblk3, iblk4, iblk5, iblk6, iblk7, iblk8]
  unfold_out out0_11
  frame_out
  rw [pay3, pay4, pay5, pay6, pay8, pay9, pay11, pay12, pay14, pay30, pay32, pay43, pay46, pay2]

theorem final12 : (dats m 0 c).arrAt 12 cfg0.N = val_main_v144 (F := Ideal) (m ((c : Thread nD τ).loc main_arg0)) (m
    ((c : Thread nD τ).loc main_arg1)) (m ((c : Thread nD τ).loc main_arg2)) (m ((c : Thread nD τ).loc main_arg7)) (m
    ((c : Thread nD τ).loc main_arg8)) := by
  refine (dats m 0 c).arrAt_eq_of_covers 12 _ (by decide +kernel) fun t hf y => ?_
  rw [show ((cfg0.win 12).blk t).view.emb y = y by blk_ext [idx12 t]]
  blk_simp
  rw [after0_12]
  rw [iblk0, iblk1, iblk2, iblk3, iblk4, iblk5, iblk6, iblk7, iblk8]
  unfold out0_12
  frame_out
  rw [pay22, pay25, pay31]

theorem final13 : (dats m 0 c).arrAt 13 cfg0.N = val_main_v145 (F := Ideal) (m ((c : Thread nD τ).loc main_arg0)) (m
    ((c : Thread nD τ).loc main_arg1)) (m ((c : Thread nD τ).loc main_arg2)) (m ((c : Thread nD τ).loc main_arg7)) (m
    ((c : Thread nD τ).loc main_arg8)) := by
  refine (dats m 0 c).arrAt_eq_of_covers 13 _ (by decide +kernel) fun t hf y => ?_
  rw [show ((cfg0.win 13).blk t).view.emb y = y by blk_ext [idx13 t]]
  blk_simp
  rw [after0_13]
  rw [iblk0, iblk1, iblk2, iblk3, iblk4, iblk5, iblk6, iblk7, iblk8]
  unfold out0_13
  frame_out
  rw [pay23, pay24, pay29]

end Kernel

/-- From any memory the kernel and the derivative leave the same five results. -/
theorem algebraic : Cert.algebraic_Kernel8Ideal_Reference8Ideal := by
  intro m g m' g' _ hagree
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, run m g, ?_⟩
  refine (θ_run _ _ _).mono (fun r h c => ?_) (Cert.Reference8Ideal.Value.run m' g')
  obtain ⟨a0, a1, a2, a3, a4, a5, a6, a7, a8⟩ := hagree c
  obtain ⟨r0, r1, r2, r3, r4, k⟩ := h c
  refine ⟨?_, ?_, ?_, ?_, ?_, k⟩
  · refine (r0.trans (Cert.Reference8Ideal.Read.val_main_v140_eq m' c)).trans ?_
    rw [a0, a1, a2, a3, a4, a5, a6, a7, a8]
    exact (final9 m c).symm
  · refine (r1.trans (Cert.Reference8Ideal.Read.val_main_v132_eq m' c)).trans ?_
    rw [a0, a1, a2, a3, a4, a5, a6, a7, a8]
    exact (final10 m c).symm
  · refine (r2.trans (Cert.Reference8Ideal.Read.val_main_v143_eq m' c)).trans ?_
    rw [a0, a1, a2, a3, a4, a5, a6, a7, a8]
    exact (final11 m c).symm
  · refine (r3.trans (Cert.Reference8Ideal.Read.val_main_v144_eq _ _ _ _ _)).trans ?_
    rw [a0, a1, a2, a7, a8]
    exact (final12 m c).symm
  · refine (r4.trans (Cert.Reference8Ideal.Read.val_main_v145_eq _ _ _ _ _)).trans ?_
    rw [a0, a1, a2, a7, a8]
    exact (final13 m c).symm

end Cert.Proof.ParRef
-- ==== Proof.SfWalk.lean ====
module

public import proofs.«01_k».proof.Proof.Gen.Kernel9Ideal.Skeleton
public import Idealize.ShloMosaic.Lib.Claim

@[expose] public section

set_option maxRecDepth 8192
set_option maxHeartbeats 4000000

noncomputable section

namespace Cert.Kernel9Ideal.Sf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel9Ideal.Gen

variable {F : FTy → Type} [FloatOps F] [Named F]

/-- The resource algebra of the pipeline's runs. -/
local notation "𝕄G" => MT nD τ sig Unit (Elt F) ℕ (UR sig nD τ) ℕ

/-- The running sums and the outputs so far, head by head. -/
abbrev Runs (F : FTy → Type) := Fin 8 → FVec F S128x1 .f32
abbrev Outs (F : FTy → Type) := Fin 8 → FVec F S128x64 .f32

variable (c : Dev nD) (i : grid0.Coords)
  (arg2 : Memref sig .tc .vmem S128x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S128x512 .f32) (harg5 : arg5.IsWhole)
  (v : Fin 8 → Vec F S128x64 .bf16)

/-- Where the block of keys of each head starts, and that of its values. -/
def kOff (j : BitVec 32) : Fin 8 → Fin 2 → ℕ := ![k0_off1 i j, k0_off2 i j, k0_off3 i j, k0_off4 i j, k0_off5 i j, k0_off6 i j, k0_off7 i j, k0_off8 i j]

theorem kOff_inb {i : grid0.Coords} {j : BitVec 32} (hk : k0_chk1 i j) (h : Fin 8) :
    ∀ a, kOff i j h a + S128x64.size a ≤ S4096x512.size a := by
  fin_cases h
  exacts [k0_off1_inb i j hk, k0_off2_inb i j hk, k0_off3_inb i j hk, k0_off4_inb i j hk,
    k0_off5_inb i j hk, k0_off6_inb i j hk, k0_off7_inb i j hk, k0_off8_inb i j hk]

/-- The block of head `h` in an array of all keys or all values. -/
def kblk (arg : Memref sig .tc .vmem S4096x512 .bf16) (X : BufTy.Contents (Elt F) arg.view.ty) (j : BitVec 32) (hk : k0_chk1 i j) (h : Fin 8) : Vec F S128x64 .bf16 :=
  View.readAt (Elt F) arg.view (Rect.unit (s := S4096x512) (kOff i j h) S128x64.size (kOff_inb hk h)).toLoadRect X

/-- What the keys of a block leave of the stick, as a logarithm. -/
def lkBlk (X3 : BufTy.Contents (Elt F) arg3.view.ty) (j : BitVec 32) (hk : k0_chk1 i j) (h : Fin 8) : FVec F S128x128 .f32 :=
  k0_pay23 (v h) j (BitVec.ofNat 32 (i 1).val) (kblk i arg3 X3 j hk h)

/-- What the keys later than each one leave. -/
def laterBlk (X3 : BufTy.Contents (Elt F) arg3.view.ty) (j : BitVec 32) (hk : k0_chk1 i j) (r : Runs F) (h : Fin 8) : FVec F S128x128 .f32 :=
  k0_pay58 k0_pay4 (r h) (lkBlk i arg3 v X3 j hk h)

/-- The running sums and the outputs after one more block. -/
def nextRun (X3 : BufTy.Contents (Elt F) arg3.view.ty) (j : BitVec 32) (hk : k0_chk1 i j) (r : Runs F) : Runs F :=
  fun h => k0_pay83 (lkBlk i arg3 v X3 j hk h) (laterBlk i arg3 v X3 j hk r h)

def nextOut (X3 : BufTy.Contents (Elt F) arg3.view.ty) (X4 : BufTy.Contents (Elt F) arg4.view.ty) (j : BitVec 32) (hk : k0_chk1 i j) (r : Runs F) (o : Outs F) : Outs F :=
  fun h => k0_pay75 (o h) (k0_pay68 (k0_pay19 j (BitVec.ofNat 32 (i 1).val)) (k0_pay22 (v h) (kblk i arg3 X3 j hk h)) (laterBlk i arg3 v X3 j hk r h)) (kblk i arg4 X4 j hk h)

/-- Whether the walk goes on: blocks are left and some running sum is above the threshold. -/
def goesOn (j : BitVec 32) (r : Runs F) : Prop :=
  Scalar.andi (Scalar.cmpi .sle j (BitVec.ofNat 32 (i 1).val))
    (Scalar.cmpf .ogt (k0_pay3 (r 0) (r 1) (r 2) (r 3) (r 4) (r 5) (r 6) (r 7)) (Named.named κ "dead" 0xC2DC0000#32)) = 1#1

/-- The walk's call at its block `j`. -/
def walkArgs (j : BitVec 32) (r : Runs F) (o : Outs F) : (Λ₀ F).Args (1 : (Λ₀ F).Label) :=
  ⟨i, arg3, harg3, v 0, v 1, v 2, v 3, v 4, v 5, v 6, v 7, k0_pay4, arg4, harg4, j, r 0, r 1, r 2, r 3, r 4, r 5, r 6, r 7, o 0, o 1, o 2, o 3, o 4, o 5, o 6, o 7⟩

/-- The walk itself, from block `j` on. -/
def walkProg (j : BitVec 32) (r : Runs F) (o : Outs F) :=
  cc0_while1 (F := F) i arg3 harg3 (v 0) (v 1) (v 2) (v 3) (v 4) (v 5) (v 6) (v 7) k0_pay4 arg4 harg4 j (r 0) (r 1) (r 2) (r 3) (r 4) (r 5) (r 6) (r 7)
    (o 0) (o 1) (o 2) (o 3) (o 4) (o 5) (o 6) (o 7)

/-- The tuple the walk gives back. -/
def walkOut (j : BitVec 32) (r : Runs F) (o : Outs F) : (Λ₀ F).Result (1 : (Λ₀ F).Label) :=
  (j, r 0, r 1, r 2, r 3, r 4, r 5, r 6, r 7, o 0, o 1, o 2, o 3, o 4, o 5, o 6, o 7)

/-- A call's arguments may be replaced by equal ones. -/
theorem wp_args_congr (𝒱 : Variants) (bd : Option 𝒱.V) (E : Set ℕ) {a b : (Λ₀ F).Args (1 : (Λ₀ F).Label)} (Q)
    (h : a = b) :
    (wp frame (wpE (defs₀ (F := F)) 𝒱 (c : Thread nD τ) bd) E (.op (.call (1 : (Λ₀ F).Label) a) .ret) Q : sProp 𝕄G)
      ⊢ wp frame (wpE (defs₀ (F := F)) 𝒱 (c : Thread nD τ) bd) E (.op (.call (1 : (Λ₀ F).Label) b) .ret) Q := by
  rw [h]

set_option synthInstance.maxHeartbeats 0 in
/-- One trip of the walk, up to the call of the next. -/
theorem walk_trip (𝒱 : Variants) (bd : Option 𝒱.V) (E : Set ℕ) (X3 : BufTy.Contents (Elt F) arg3.view.ty) (X4 : BufTy.Contents (Elt F) arg4.view.ty)
    (j : BitVec 32) (r : Runs F) (o : Outs F) (hc : goesOn (F := F) i j r) (hk : k0_chk1 i j) (Q)
    (hnext : (iprop((arg3.view.loc (c : Thread nD τ) ↦[arg3.view.set]{fullShare} X3)
        ∗ (arg4.view.loc (c : Thread nD τ) ↦[arg4.view.set]{fullShare} X4)) : sProp 𝕄G)
      ⊢ wp frame (wpE (defs₀ (F := F)) 𝒱 (c : Thread nD τ) bd) E
        (.op (.call (1 : (Λ₀ F).Label) (walkArgs i arg3 harg3 arg4 harg4 v (Scalar.addi j 1#32) (nextRun i arg3 v X3 j hk r) (nextOut i arg3 arg4 v X3 X4 j hk r o))) .ret) Q) :
    (iprop((arg3.view.loc (c : Thread nD τ) ↦[arg3.view.set]{fullShare} X3)
      ∗ (arg4.view.loc (c : Thread nD τ) ↦[arg4.view.set]{fullShare} X4)) : sProp 𝕄G)
    ⊢ wp frame (wpE (defs₀ (F := F)) 𝒱 (c : Thread nD τ) bd) E (walkProg i arg3 harg3 arg4 harg4 v j r o) Q := by
  unfold walkProg
  rw [cc0_while1_eq_skeleton]
  unfold cc0_while1_skel
  iintro ⟨H3, H4⟩
  unfold goesOn at hc
  dsimp only
  rw [if_pos hc]
  sl_exec
  iapply (wp_args_congr c 𝒱 bd E
    (a := walkArgs i arg3 harg3 arg4 harg4 v (Scalar.addi j 1#32) (nextRun i arg3 v X3 j hk r) (nextOut i arg3 arg4 v X3 X4 j hk r o)) Q ?_)
  · rfl
  · iapply hnext
    isplitl [H3]
    · iexact H3
    · iexact H4

/-- The walk's exit. -/
theorem walk_exit (𝒱 : Variants) (bd : Option 𝒱.V) (E : Set ℕ) (j : BitVec 32) (r : Runs F) (o : Outs F)
    (hc : ¬ goesOn (F := F) i j r) (Q) :
    (Q (walkOut j r o) : sProp 𝕄G)
    ⊢ wp frame (wpE (defs₀ (F := F)) 𝒱 (c : Thread nD τ) bd) E (walkProg i arg3 harg3 arg4 harg4 v j r o) Q := by
  unfold walkProg
  rw [cc0_while1_eq_skeleton]
  unfold cc0_while1_skel
  unfold goesOn at hc
  dsimp only
  rw [if_neg hc]
  exact fupd_intro

/-- The walk's block arithmetic on words. -/
theorem block_word : ∀ (a b : Fin 32), b ≤ a →
    (Scalar.muli (Scalar.subi (BitVec.ofNat 32 a.val) (BitVec.ofNat 32 b.val)) 128#32).toNat = 128 * (a.val - b.val) := by
  decide +kernel

theorem past_word : ∀ a : Fin 32, Scalar.cmpi .sle (BitVec.ofNat 32 (a.val + 1)) (BitVec.ofNat 32 a.val) = 0#1 := by decide +kernel

theorem walk_word {i : grid0.Coords} {n : ℕ} (hn : n ≤ (i 1).val) :
    (Scalar.muli (Scalar.subi (BitVec.ofNat 32 (i 1).val) (BitVec.ofNat 32 n)) 128#32).toNat = 128 * ((i 1).val - n) :=
  block_word ⟨(i 1).val, (i 1).isLt⟩ ⟨n, lt_of_le_of_lt hn (i 1).isLt⟩ hn

theorem kOff_eq {i : grid0.Coords} {n : ℕ} (hn : n ≤ (i 1).val) (h : Fin 8) :
    kOff i (BitVec.ofNat 32 n) h = ![128 * ((i 1).val - n), 64 * h.val] := by
  rw [← walk_word hn]
  fin_cases h <;> rfl

/-- The walk's blocks lie in the arrays. -/
theorem chk1 {i : grid0.Coords} {n : ℕ} (hn : n ≤ (i 1).val) : k0_chk1 i (BitVec.ofNat 32 n) := by
  have hi : (i 1).val < 32 := (i 1).isLt
  have key : ∀ (f : Fin 2 → ℕ) (m : ℕ), f = ![(Scalar.muli (Scalar.subi (BitVec.ofNat 32 (i 1).val) (BitVec.ofNat 32 n)) 128#32).toNat, m] →
      m + 64 ≤ 512 → ∀ a, f a + S128x64.size a ≤ S4096x512.size a := by
    rintro f m rfl hm a
    fin_cases a
    · change (Scalar.muli _ _).toNat + 128 ≤ 4096
      rw [walk_word hn]; omega
    · exact hm
  refine ⟨?_, key _ 0 rfl (by decide), key _ 64 rfl (by decide), key _ 128 rfl (by decide), key _ 192 rfl (by decide),
    key _ 256 rfl (by decide), key _ 320 rfl (by decide), key _ 384 rfl (by decide), key _ 448 rfl (by decide)⟩
  change 128 ∣ (Scalar.muli _ _).toNat
  rw [walk_word hn]
  exact Dvd.intro _ rfl

theorem not_past {i : grid0.Coords} {r : Runs F} : ¬ goesOn (F := F) i (BitVec.ofNat 32 ((i 1).val + 1)) r := by
  unfold goesOn
  rw [past_word ⟨(i 1).val, (i 1).isLt⟩]
  exact (by decide : ∀ b : BitVec 1, ¬ Scalar.andi 0#1 b = 1#1) _

/-- What the walk leaves: the arrays as they were, and results the relation speaks of. -/
def ends (X3 : BufTy.Contents (Elt F) arg3.view.ty) (X4 : BufTy.Contents (Elt F) arg4.view.ty) (I : ℕ → Runs F → Outs F → Prop)
    (x : (Λ₀ F).Result (1 : (Λ₀ F).Label)) : sProp 𝕄G :=
  iprop((arg3.view.loc (c : Thread nD τ) ↦[arg3.view.set]{fullShare} X3)
    ∗ (arg4.view.loc (c : Thread nD τ) ↦[arg4.view.set]{fullShare} X4)
    ∗ ⌜∃ n r o, x = walkOut (BitVec.ofNat 32 n) r o ∧ n ≤ (i 1).val + 1 ∧ ¬ goesOn (F := F) i (BitVec.ofNat 32 n) r ∧ I n r o⌝)

/-- The walk from block `n` on, under any relation its trips keep: it ends with the relation, at the exit. -/
theorem walk (E : Set ℕ) (X3 : BufTy.Contents (Elt F) arg3.view.ty) (X4 : BufTy.Contents (Elt F) arg4.view.ty)
    (I : ℕ → Runs F → Outs F → Prop)
    (hI : ∀ n r o (hn : n ≤ (i 1).val), I n r o →
      I (n + 1) (nextRun i arg3 v X3 (BitVec.ofNat 32 n) (chk1 hn) r) (nextOut i arg3 arg4 v X3 X4 (BitVec.ofNat 32 n) (chk1 hn) r o)) :
    ∀ (fuel n : ℕ) (r : Runs F) (o : Outs F), n + fuel = (i 1).val + 1 → I n r o →
      (iprop((arg3.view.loc (c : Thread nD τ) ↦[arg3.view.set]{fullShare} X3)
        ∗ (arg4.view.loc (c : Thread nD τ) ↦[arg4.view.set]{fullShare} X4)) : sProp 𝕄G)
      ⊢ wp frame (wpE (defs₀ (F := F)) Variants.nat (c : Thread nD τ) (some fuel)) E
        (walkProg i arg3 harg3 arg4 harg4 v (BitVec.ofNat 32 n) r o)
        (ends c i arg3 arg4 X3 X4 I) := by
  intro fuel
  have stop : ∀ (fuel n : ℕ) (r : Runs F) (o : Outs F), n ≤ (i 1).val + 1 → I n r o → ¬ goesOn (F := F) i (BitVec.ofNat 32 n) r →
      (iprop((arg3.view.loc (c : Thread nD τ) ↦[arg3.view.set]{fullShare} X3)
        ∗ (arg4.view.loc (c : Thread nD τ) ↦[arg4.view.set]{fullShare} X4)) : sProp 𝕄G)
      ⊢ wp frame (wpE (defs₀ (F := F)) Variants.nat (c : Thread nD τ) (some fuel)) E
        (walkProg i arg3 harg3 arg4 harg4 v (BitVec.ofNat 32 n) r o) (ends c i arg3 arg4 X3 X4 I) :=
    fun fuel n r o hn hi hg => by
      refine BIBase.Entails.trans ?_ (walk_exit c i arg3 harg3 arg4 harg4 v Variants.nat (some fuel) E (BitVec.ofNat 32 n) r o hg _)
      unfold ends
      iintro ⟨H3, H4⟩
      isplitl [H3]
      · iexact H3
      isplitl [H4]
      · iexact H4
      ipureintro
      exact ⟨n, r, o, rfl, hn, hg, hi⟩
  induction fuel with
  | zero =>
    intro n r o hn hi
    refine stop 0 n r o (by omega) hi ?_
    rw [show n = (i 1).val + 1 by omega]
    exact not_past
  | succ fuel ih =>
    intro n r o hn hi
    by_cases hg : goesOn (F := F) i (BitVec.ofNat 32 n) r
    · have hle : n ≤ (i 1).val := by omega
      refine walk_trip c i arg3 harg3 arg4 harg4 v Variants.nat _ E X3 X4 (BitVec.ofNat 32 n) r o hg (chk1 hle) _ ?_
      refine BIBase.Entails.trans ?_ (wp_call Variants.nat (c : Thread nD τ) (some (fuel + 1)) E fuel (by
        intro u hu; obtain rfl := Option.mem_some_iff.1 hu; exact Nat.lt_succ_self fuel))
      have e : Scalar.addi (BitVec.ofNat 32 n) 1#32 = BitVec.ofNat 32 (n + 1) := by
        simp [Scalar.addi, BitVec.ofNat_add]; rfl
      rw [e]
      refine BIBase.Entails.trans (ih (n + 1) _ _ (by omega) (hI n r o hle hi)) ?_
      change _ ⊢ wp frame _ E (walkProg i arg3 harg3 arg4 harg4 v (BitVec.ofNat 32 (n + 1)) _ _) _
      refine wp_mono _ _ _ fun x => ?_
      rw [wp_ret]
      exact fupd_intro
    · exact stop _ n r o (by omega) hi hg

/-- The block of queries, head by head. -/
def qv (X2 : BufTy.Contents (Elt F) arg2.view.ty) : Fin 8 → Vec F S128x64 .bf16 :=
  ![View.readAt (Elt F) arg2.view (Rect.unit (s := S128x512) ![0, 0] S128x64.size inb_S128x512_S128x64_0_0).toLoadRect X2, View.readAt (Elt F) arg2.view (Rect.unit (s := S128x512) ![0, 64] S128x64.size inb_S128x512_S128x64_0_64).toLoadRect X2, View.readAt (Elt F) arg2.view (Rect.unit (s := S128x512) ![0, 128] S128x64.size inb_S128x512_S128x64_0_128).toLoadRect X2, View.readAt (Elt F) arg2.view (Rect.unit (s := S128x512) ![0, 192] S128x64.size inb_S128x512_S128x64_0_192).toLoadRect X2, View.readAt (Elt F) arg2.view (Rect.unit (s := S128x512) ![0, 256] S128x64.size inb_S128x512_S128x64_0_256).toLoadRect X2, View.readAt (Elt F) arg2.view (Rect.unit (s := S128x512) ![0, 320] S128x64.size inb_S128x512_S128x64_0_320).toLoadRect X2, View.readAt (Elt F) arg2.view (Rect.unit (s := S128x512) ![0, 384] S128x64.size inb_S128x512_S128x64_0_384).toLoadRect X2, View.readAt (Elt F) arg2.view (Rect.unit (s := S128x512) ![0, 448] S128x64.size inb_S128x512_S128x64_0_448).toLoadRect X2]

/-- Where the walk starts. -/
def run0 : Runs F := ![k0_pay5, k0_pay6, k0_pay7, k0_pay8, k0_pay9, k0_pay10, k0_pay11, k0_pay12]
def out0 : Outs F := ![k0_pay13, k0_pay14, k0_pay15, k0_pay16, k0_pay17, k0_pay18, k0_pay1, k0_pay2]

/-- The output stored head by head. -/
def outPieces (o : Outs F) : List (View.Piece (Elt F) S128x512 .f32) :=
  [⟨Rect.unit (s := S128x512) ![0, 448] S128x64.size inb_S128x512_S128x64_0_448, o 7⟩, ⟨Rect.unit (s := S128x512) ![0, 384] S128x64.size inb_S128x512_S128x64_0_384, o 6⟩, ⟨Rect.unit (s := S128x512) ![0, 320] S128x64.size inb_S128x512_S128x64_0_320, o 5⟩, ⟨Rect.unit (s := S128x512) ![0, 256] S128x64.size inb_S128x512_S128x64_0_256, o 4⟩, ⟨Rect.unit (s := S128x512) ![0, 192] S128x64.size inb_S128x512_S128x64_0_192, o 3⟩, ⟨Rect.unit (s := S128x512) ![0, 128] S128x64.size inb_S128x512_S128x64_0_128, o 2⟩, ⟨Rect.unit (s := S128x512) ![0, 64] S128x64.size inb_S128x512_S128x64_0_64, o 1⟩, ⟨Rect.unit (s := S128x512) ![0, 0] S128x64.size inb_S128x512_S128x64_0_0, o 0⟩]

set_option synthInstance.maxHeartbeats 0 in
/-- One point of the grid. -/
theorem body (E : Set ℕ) (X2 : BufTy.Contents (Elt F) arg2.view.ty) (X3 : BufTy.Contents (Elt F) arg3.view.ty)
    (X4 : BufTy.Contents (Elt F) arg4.view.ty) (f5 : BufTy.Contents (Elt F) arg5.view.ty)
    (I : ℕ → Runs F → Outs F → Prop)
    (hI : ∀ n r o (hn : n ≤ (i 1).val), I n r o →
      I (n + 1) (nextRun i arg3 (qv arg2 X2) X3 (BitVec.ofNat 32 n) (chk1 hn) r) (nextOut i arg3 arg4 (qv arg2 X2) X3 X4 (BitVec.ofNat 32 n) (chk1 hn) r o))
    (h0 : I 0 run0 out0) :
    (iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} f5)) : sProp 𝕄G)
    ⊢ wp frame (wpE (defs₀ (F := F)) Variants.nat (c : Thread nD τ) none) E
      (cc0_sb_fwd (F := F) i arg2 harg2 arg3 harg3 arg4 harg4 arg5 harg5)
      (fun _ => iprop(∃ n r o, ⌜n ≤ (i 1).val + 1 ∧ ¬ goesOn (F := F) i (BitVec.ofNat 32 n) r ∧ I n r o⌝
        ∗ (arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} arg5.view.writes (Elt F) f5 (outPieces o)))) := by
  have call : ∀ {β : Type} {a : (Λ₀ F).Args (1 : (Λ₀ F).Label)} (k : (Λ₀ F).Result (1 : (Λ₀ F).Label) → Prog (TpuEff nD τ sig (Elt F) (Λ₀ F) .tc) β) (Q : β → sProp 𝕄G),
      walkArgs i arg3 harg3 arg4 harg4 (qv arg2 X2) 0#32 run0 out0 = a →
      ((iprop((arg3.view.loc (c : Thread nD τ) ↦[arg3.view.set]{fullShare} X3)
        ∗ (arg4.view.loc (c : Thread nD τ) ↦[arg4.view.set]{fullShare} X4)
        ∗ (∀ n r o, ⌜n ≤ (i 1).val + 1 ∧ ¬ goesOn (F := F) i (BitVec.ofNat 32 n) r ∧ I n r o⌝ -∗
          (arg3.view.loc (c : Thread nD τ) ↦[arg3.view.set]{fullShare} X3) -∗
          (arg4.view.loc (c : Thread nD τ) ↦[arg4.view.set]{fullShare} X4) -∗
          wp frame (wpE (defs₀ (F := F)) Variants.nat (c : Thread nD τ) none) E (k (walkOut (BitVec.ofNat 32 n) r o)) Q)) : sProp 𝕄G)
      ⊢ wp frame (wpE (defs₀ (F := F)) Variants.nat (c : Thread nD τ) none) E (.op (.call (1 : (Λ₀ F).Label) a) k) Q) := by
    intro β a k Q ha
    subst ha
    refine BIBase.Entails.trans ?_ (wp_call Variants.nat (c : Thread nD τ) none E ((i 1).val + 1) (by intro u hu; cases hu))
    have hw := walk c i arg3 harg3 arg4 harg4 (qv arg2 X2) E X3 X4 I hI ((i 1).val + 1) 0 run0 out0 (by omega) h0
    change _ ⊢ wp frame _ E (walkProg i arg3 harg3 arg4 harg4 (qv arg2 X2) (BitVec.ofNat 32 0) run0 out0) _
    iintro ⟨H3, H4, H⟩
    iapply (wp_wand_r Idealize.ShloMosaic.frame (wpE (defs₀ (F := F)) Variants.nat (c : Thread nD τ) (some ((i 1).val + 1))) E)
    isplitl [H3 H4]
    · iapply hw
      isplitl [H3]
      · iexact H3
      · iexact H4
    · iintro %x Hx
      unfold ends
      icases Hx with ⟨H3, H4, %hx⟩
      obtain ⟨n, r, o, rfl, h⟩ := hx
      iapply H $$ %n %r %o %h H3 H4
  rw [cc0_sb_fwd_eq_skeleton]
  unfold cc0_sb_fwd_skel
  iintro ⟨H2, H3, H4, H5⟩
  sl_exec
  iapply (call _ _ ?_)
  · rfl
  isplitl [H3]
  · iexact H3
  isplitl [H4]
  · iexact H4
  iintro %n %r %o %hn H3 H4
  unfold walkOut
  dsimp only
  sl_exec
  rw [wp_ret]
  iapply fupd_intro
  iexists n, r, o
  isplitr
  · ipureintro; exact hn
  isplitl [H2]
  · iexact H2
  isplitl [H3]
  · iexact H3
  isplitl [H4]
  · iexact H4
  iexact H5

end Cert.Kernel9Ideal.Sf
-- ==== Proof.SfFrame.lean ====
module

public import Idealize.ShloMosaic.Lib.Claim
public import Idealize.ShloMosaic.Lib.Pipeline.FrameBody
public import Idealize.ShloMosaic.Lib.Pipeline.TableIdle
public import Idealize.ShloMosaic.Lib.Ring
public import proofs.«01_k».proof.Proof.Gen.Kernel9Ideal.Launch
public import proofs.«01_k».proof.Proof.Gen.Kernel9Ideal.Points
public import proofs.«01_k».proof.Proof.SfWalk

@[expose] public section

set_option maxRecDepth 8192
set_option maxHeartbeats 4000000

noncomputable section

namespace Cert.Kernel9Ideal.Sf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel9Ideal.Gen
open Idealize.ShloMosaic.Rounds
open Idealize.ShloMosaic.Pipeline (Dat Cfg Window BodyObligation BodyObligationLoose)

variable {F : FTy → Type} [FloatOps F] [Named F]

/-- The resource algebra of the pipeline's runs. -/
local notation "𝕄G" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => main_chain c)

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

variable (Y : Dev nD → Fin (cfg0 (F := F)).N → (S128x512.Idx → Elt F .f32))

/-- The proof data: the inputs stay at their blocks, the output's block at point `t` is `Y c t`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => Y c t
  Φ _ := Pipeline.ΦA spec0 c
  q w := Pipeline.shareOf spec0 w
  owed _ := 0

theorem A_eq (c : Dev nD) (w : Fin (cfg0 (F := F)).W) : (dats m Y 0 c).A w = V m c (Pipeline.arrRef spec0 w) := by dsimp only [dats]

theorem before0_0 (c : Dev nD) (t : Fin (cfg0 (F := F)).N) (d) : (dats m Y 0 c).before 0 t d = iblk m c 0 t :=
  ((dats m Y 0 c).before_in_eq_fetched 0 rfl (fun _ => rfl) (fun _ _ _ => rfl) (fun t => by dsimp only [dats]; rfl) t d).trans
    (by unfold Dat.fetched Dat.blockOf iblk; rw [A_eq]; rfl)
theorem before0_1 (c : Dev nD) (t : Fin (cfg0 (F := F)).N) (d) : (dats m Y 0 c).before 1 t d = iblk m c 1 t :=
  ((dats m Y 0 c).before_in_eq_fetched 1 rfl (fun _ => rfl) (fun _ _ _ => rfl) (fun t => by dsimp only [dats]; rfl) t d).trans
    (by unfold Dat.fetched Dat.blockOf iblk; rw [A_eq]; rfl)
theorem before0_2 (c : Dev nD) (t : Fin (cfg0 (F := F)).N) (d) : (dats m Y 0 c).before 2 t d = iblk m c 2 t :=
  ((dats m Y 0 c).before_in_eq_fetched 2 rfl (fun _ => rfl) (fun _ _ _ => rfl) (fun t => by dsimp only [dats]; rfl) t d).trans
    (by unfold Dat.fetched Dat.blockOf iblk; rw [A_eq]; rfl)

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- What the body holds at point `t`, `O` saying what of the output's buffer. -/
def held (c : Dev nD) (t : Fin (cfg0 (F := F)).N) (O : sProp 𝕄G) : sProp 𝕄G :=
  iprop(Pipeline.ΦA spec0 c ∗ (dats m Y 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t) ∗ O)

/-- One point of the grid under a relation `I` its walk keeps, which says `P` of the output at the walk's exit. -/
theorem sound (c : Dev nD) (t : Fin (cfg0 (F := F)).N) (I : ℕ → Runs F → Outs F → Prop) (P : (S128x512.Idx → Elt F .f32) → Prop)
    (hI : ∀ (X2 : BufTy.Contents (Elt F) (st0_0 (F := F) t).view.ty) (X3 : BufTy.Contents (Elt F) (st0_1 (F := F) t).view.ty) (X4 : BufTy.Contents (Elt F) (st0_2 (F := F) t).view.ty),
      (st0_0 t).view.read (Elt F) X2 = iblk m c 0 t → (st0_1 t).view.read (Elt F) X3 = iblk m c 1 t → (st0_2 t).view.read (Elt F) X4 = iblk m c 2 t →
      ∀ n r o (hn : n ≤ (grid0.coords t 1).val), I n r o →
      I (n + 1) (nextRun (grid0.coords t) (st0_1 t) (qv (st0_0 t) X2) X3 (BitVec.ofNat 32 n) (chk1 hn) r)
        (nextOut (grid0.coords t) (st0_1 t) (st0_2 t) (qv (st0_0 t) X2) X3 X4 (BitVec.ofNat 32 n) (chk1 hn) r o))
    (h0 : I 0 run0 out0)
    (hP : ∀ n r o (f5 : BufTy.Contents (Elt F) (st0_3 (F := F) t).view.ty), n ≤ (grid0.coords t 1).val + 1 → ¬ goesOn (F := F) (grid0.coords t) (BitVec.ofNat 32 n) r → I n r o →
      P ((st0_3 t).view.read (Elt F) ((st0_3 t).view.writes (Elt F) f5 (outPieces o)))) :
    held m Y c t iprop(∃ X, owns (c : Thread nD τ) (st0_3 t) fullShare X)
      ⊢ wp frame (wpE (defs₀ (F := F)) Variants.nat c none) Set.univ (bodyAt0 t)
        (fun _ => held m Y c t iprop(∃ X, ⌜P X⌝ ∗ owns (c : Thread nD τ) (st0_3 t) fullShare X)) := by
  unfold held owns
  iintro ⟨Hg, Ho, ⟨%X2, %h2, H2⟩, ⟨%X3, %h3, H3⟩, ⟨%X4, %h4, H4⟩, ⟨%Y5, %f5, %h5, H5⟩⟩
  have key := body (F := F) c (grid0.coords t) (st0_0 t) (hstage0_0 (((cfg0 (F := F)).slots t 0).cast nbuf0_0)) (st0_1 t) (hstage0_1 (((cfg0 (F := F)).slots t 1).cast nbuf0_1))
    (st0_2 t) (hstage0_2 (((cfg0 (F := F)).slots t 2).cast nbuf0_2)) (st0_3 t) (hstage0_3 (((cfg0 (F := F)).slots t 3).cast nbuf0_3))
    Set.univ X2 X3 X4 f5 I (hI X2 X3 X4 h2 h3 h4) h0
  iapply (wp_wand_r Idealize.ShloMosaic.frame (wpE (defs₀ (F := F)) Variants.nat (c : Thread nD τ) none) Set.univ)
  isplitl [H2 H3 H4 H5]
  · iapply key
    isplitl [H2]; · iexact H2
    isplitl [H3]; · iexact H3
    isplitl [H4]; · iexact H4
    iexact H5
  · iintro %x ⟨%n, %r, %o, %hn, H2, H3, H4, H5⟩
    obtain ⟨hn, hg, hi⟩ := hn
    isplitl [Hg]; · iexact Hg
    isplitl [Ho]; · iexact Ho
    isplitl [H2]
    · iexists X2
      isplitr
      · ipureintro; exact h2
      iexact H2
    isplitl [H3]
    · iexists X3
      isplitr
      · ipureintro; exact h3
      iexact H3
    isplitl [H4]
    · iexists X4
      isplitr
      · ipureintro; exact h4
      iexact H4
    iexists _
    isplitr
    · ipureintro; exact hP n r o f5 hn hg hi
    iexists _
    isplitr
    · ipureintro; rfl
    iexact H5

/-- The output, of which nothing is said. -/
def fgt : Fin (cfg0 (F := F)).W → Bool := ![false, false, false, true]

theorem body_obligation (c : Dev nD) : BodyObligationLoose (dats (F := F) m Y 0 c) (defs₀ (F := F)) Variants.nat () Set.univ fgt := fun t => by
  rw [bigSep_W0, bigSep_W0, defs₀_row]
  change iprop(Pipeline.ΦA spec0 c ∗ (dats m Y 0 c).owesAt () t.castSucc
    ∗ (∃ d, owns (c : Thread nD τ) (st0_0 t) fullShare ((dats m Y 0 c).before 0 t d))
    ∗ (∃ d, owns (c : Thread nD τ) (st0_1 t) fullShare ((dats m Y 0 c).before 1 t d))
    ∗ (∃ d, owns (c : Thread nD τ) (st0_2 t) fullShare ((dats m Y 0 c).before 2 t d))
    ∗ (∃ X, owns (c : Thread nD τ) (st0_3 t) fullShare X)) ⊢
      wp frame (wpE (defs₀ (F := F)) Variants.nat c none) Set.univ (bodyAt0 t) (fun _ => held m Y c t iprop(∃ X, owns (c : Thread nD τ) (st0_3 t) fullShare X))
  refine BIBase.Entails.trans ?_ ((sound m Y c t (fun _ _ _ => True) (fun _ => True) (fun _ _ _ _ _ _ _ _ _ _ _ => trivial) trivial
    (fun _ _ _ _ _ _ _ => trivial)).trans (wp_mono _ _ _ fun _ => ?_))
  · unfold held
    iintro ⟨HA, Ho, ⟨%d0, H0⟩, ⟨%d1, H1⟩, ⟨%d2, H2⟩, H3⟩
    rw [before0_0, before0_1, before0_2]
    isplitl [HA]; · iexact HA
    isplitl [Ho]; · iexact Ho
    isplitl [H0]; · iexact H0
    isplitl [H1]; · iexact H1
    isplitl [H2]; · iexact H2
    iexact H3
  · unfold held
    iintro ⟨HA, Ho, H0, H1, H2, ⟨%X, -, H3⟩⟩
    isplitl [HA]; · iexact HA
    isplitl [Ho]; · iexact Ho
    isplitl [H0]; · iexact H0
    isplitl [H1]; · iexact H1
    isplitl [H2]; · iexact H2
    iexists X; iexact H3

set_option backward.isDefEq.respectTransparency.types false in
/-- The run, with nothing said of the output. -/
theorem run_main : θ_run defs (onTc (τ := τ) (main (F := F))) (s₀ m ρ)
    (fun r => Pipeline.RDat.FramePost (cfgs (F := F) 0) (fun c => (dats m Y 0 c).toRForget fgt) (V m) r ∧ r.2.sem = fun _ => 0) :=
  Pipeline.θ_run_frame_track_forget_shared (Q' := _) cfgs (dats m Y) (0 : Fin 1) launch₀0 defs₀ Variants.nat fgt m ρ main
    (hbody := body_obligation m Y) (hq := fun _ _ _ => rfl) (howed := fun _ _ => rfl) (V := V m) (hmain := hmain m Variants.nat) (hA := A_eq m Y)
    (hin := fun _ => .rfl) (hout := fun _ => .rfl)

/-- The argument array ends unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => h.1.arr_in c 0 rfl, h.2⟩) (run_main m ρ fun _ _ _ => FloatOps.ofBits .f32 0#32)

end Cert.Kernel9Ideal.Sf
-- ==== Proof.SfValue.lean ====
module

public import Idealize.ShloMosaic.Lib.Pipeline.ValueKit
public import proofs.«01_k».proof.Proof.SbStep
public import proofs.«01_k».proof.Proof.SfFrame

/-!
# The stick-breaking attention, over the reals

Per block of queries the walk goes over the blocks of keys from the last to the first. After `n` blocks its running sums are
what the keys passed leave of each query's stick, as a logarithm, and its outputs the weighted sums of their values.
-/

@[expose] public section

set_option maxRecDepth 8192
set_option maxHeartbeats 4000000

noncomputable section

namespace Cert.Kernel9Ideal.Sf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel9Ideal.Gen Cert.Proof.Reals Cert.Proof.Sb Finset
open Idealize.ShloMosaic.Pipeline (Dat Cfg Window BodyObligation BodyObligationLoose)
open Cert.Kernel3Ideal.Sb (mat mat_ix2 mat_congr zB Masks readAt_mat_bf16 read_cons_mat)

/-- The resource algebra of the pipeline's runs. -/
local notation "𝕄R" => MT nD τ sig Unit (Elt Ideal) ℕ (UR sig nD τ) ℕ

/-! ## One block -/

section Block

variable (A B : ℕ → ℕ → ℝ)

theorem pay22 : k0_pay22 (F := Ideal) (mat A) (mat B) = mat fun a b => ls (zB A B a b) := Cert.Kernel3Ideal.Sb.pay27 A B

theorem pay19 (q k : ℕ) (hq : q < 32) (hk : k ≤ q) :
    Masks (k0_pay19 (BitVec.ofNat 32 (q - k)) (BitVec.ofNat 32 q)) fun a b => 128 * k + b < 128 * q + a := Cert.Kernel3Ideal.Sb.pay320 q k hq hk

theorem pay23 (q k : ℕ) (hq : q < 32) (hk : k ≤ q) :
    k0_pay23 (F := Ideal) (mat A) (BitVec.ofNat 32 (q - k)) (BitVec.ofNat 32 q) (mat B)
      = mat fun a b => if 128 * k + b < 128 * q + a then lk (zB A B a b) else 0 := Cert.Kernel3Ideal.Sb.pay321 A B q k hq hk

theorem pay58 (L r : ℕ → ℕ → ℝ) : k0_pay58 (F := Ideal) k0_pay4 (mat r) (mat L)
    = mat fun a b => ∑ x : Fin 128, L a x.val * (if b < x.val then 1 else 0) + r a 0 := Cert.Kernel3Ideal.Sb.pay59 L r

theorem pay68 (M : IVec S128x128 1) (R : ℕ → ℕ → Prop) [∀ a b, Decidable (R a b)] (hM : Masks M R) (L S : ℕ → ℕ → ℝ) :
    k0_pay68 (F := Ideal) M (mat L) (mat S) = mat fun a b => if R a b then Real.exp (L a b + S a b) else 0 := Cert.Kernel3Ideal.Sb.pay68 M R hM L S

theorem pay75 (Q : ℕ → ℕ → ℝ) : k0_pay75 (F := Ideal) (mat Q) (mat A) (mat B) = mat fun a d => Q a d + ∑ x : Fin 128, A a x.val * B x.val d := by
  funext j
  idx_vars j
  unfold k0_pay75
  pointwise
  simp only [mat_ix2, ← EReal.coe_mul, sum_univ_coe, bits_zero, ← EReal.coe_zero, ← EReal.coe_add, zero_add]

theorem pay83 : k0_pay83 (F := Ideal) (mat A) (mat B) = mat fun a _ => B a 0 + A a 0 := by
  funext j
  idx_vars j
  unfold k0_pay83
  pointwise
  simp only [mat_ix2, ← EReal.coe_add]
  rfl

end Block

/-! ## The walk -/

section Walk

variable (p : ℕ → ℕ → ℝ) (i : grid0.Coords)
  (arg2 : Memref sig .tc .vmem S128x512 .bf16) (arg3 arg4 : Memref sig .tc .vmem S4096x512 .bf16)
  (X2 : BufTy.Contents (Elt Ideal) arg2.view.ty) (X3 : BufTy.Contents (Elt Ideal) arg3.view.ty) (X4 : BufTy.Contents (Elt Ideal) arg4.view.ty)
  (h2 : arg2.view.read (Elt Ideal) X2 = mat fun a c => p (128 * (i 1).val + a) (512 + c))
  (h3 : arg3.view.read (Elt Ideal) X3 = mat fun a c => p a (1024 + c))
  (h4 : arg4.view.read (Elt Ideal) X4 = mat fun a c => p a (1536 + c))

/-- What the keys from block `k` on leave of query `a`'s stick, as a logarithm, and their part of its output. -/
def stick (h k a : ℕ) : ℝ := ∑ c ∈ Ico (128 * k) (128 * ((i 1).val + 1)), keep p h (128 * (i 1).val + a) c
def part (h k a d : ℕ) : ℝ := ∑ c ∈ Ico (128 * k) (128 * ((i 1).val + 1)), wt p h (128 * (i 1).val + a) c * p c (1536 + 64 * h + d)

/-- After `n` blocks. -/
def II (n : ℕ) (r : Runs Ideal) (o : Outs Ideal) : Prop :=
  n ≤ (i 1).val + 1 ∧ ∀ h : Fin 8, r h = mat (fun a _ => stick p i h.val ((i 1).val + 1 - n) a) ∧ o h = mat (part p i h.val ((i 1).val + 1 - n))

theorem II_zero : II p i 0 run0 out0 := by
  refine ⟨Nat.zero_le _, fun h => ?_⟩
  have e1 : run0 (F := Ideal) h = k0_pay5 (F := Ideal) := by fin_cases h <;> rfl
  have e2 : out0 (F := Ideal) h = k0_pay13 (F := Ideal) := by fin_cases h <;> rfl
  rw [e1, e2]
  unfold stick part
  simp only [Nat.sub_zero, Ico_self, sum_empty]
  constructor
  · funext j
    idx_vars j
    unfold k0_pay5
    pointwise
    exact EReal.coe_zero.symm
  · funext j
    idx_vars j
    unfold k0_pay13
    pointwise
    exact EReal.coe_zero.symm

include h2 in
theorem qv_eq (h : Fin 8) : qv arg2 X2 h = mat fun a d => p (128 * (i 1).val + a) (512 + 64 * h.val + d) := by
  have e : qv arg2 X2 h = mat fun a d => p (128 * (i 1).val + (0 + a)) (512 + (64 * h.val + d)) := by
    fin_cases h <;> exact readAt_mat_bf16 arg2.view X2 h2 rfl _
  rw [e]
  simp only [Nat.zero_add, Nat.add_assoc]

theorem kblk_eq (arg : Memref sig .tc .vmem S4096x512 .bf16) (X : BufTy.Contents (Elt Ideal) arg.view.ty) (o : ℕ)
    (hX : arg.view.read (Elt Ideal) X = mat fun a c => p a (o + c)) {n : ℕ} (hn : n ≤ (i 1).val) (h : Fin 8) :
    kblk i arg X (BitVec.ofNat 32 n) (chk1 hn) h = mat fun b d => p (128 * ((i 1).val - n) + b) (o + 64 * h.val + d) := by
  unfold kblk
  refine (readAt_mat_bf16 arg.view X hX (kOff_eq hn h) _).trans ?_
  simp only [Nat.add_assoc]

include h2 h3 in
theorem lkBlk_eq {n : ℕ} (hn : n ≤ (i 1).val) (h : Fin 8) :
    lkBlk i arg3 (qv arg2 X2) X3 (BitVec.ofNat 32 n) (chk1 hn) h
      = mat fun a b => keep p h.val (128 * (i 1).val + a) (128 * ((i 1).val - n) + b) := by
  unfold lkBlk
  rw [kblk_eq p i arg3 X3 1024 h3 hn, qv_eq p i arg2 X2 h2, show BitVec.ofNat 32 n = BitVec.ofNat 32 ((i 1).val - ((i 1).val - n)) by rw [show (i 1).val - ((i 1).val - n) = n by omega],
    pay23 _ _ _ _ (i 1).isLt (by omega)]
  rfl

include h2 h3 in
theorem laterBlk_eq {n : ℕ} (hn : n ≤ (i 1).val) (r : Runs Ideal) (h : Fin 8) (hr : r h = mat fun a _ => stick p i h.val ((i 1).val + 1 - n) a) :
    laterBlk i arg3 (qv arg2 X2) X3 (BitVec.ofNat 32 n) (chk1 hn) r h
      = mat fun a b => ∑ c ∈ Ico (128 * ((i 1).val - n) + b + 1) 4096, keep p h.val (128 * (i 1).val + a) c := by
  unfold laterBlk
  rw [hr, lkBlk_eq p i arg2 arg3 X2 X3 h2 h3 hn h, pay58]
  refine mat_congr fun a ha b hb => ?_
  unfold stick
  rw [show (i 1).val + 1 - n = (i 1).val - n + 1 by omega]
  exact later_eq p h.val (i 1).isLt (by omega) ha hb

include h2 h3 h4 in
theorem II_step (n : ℕ) (r : Runs Ideal) (o : Outs Ideal) (hn : n ≤ (i 1).val) (hI : II p i n r o) :
    II p i (n + 1) (nextRun i arg3 (qv arg2 X2) X3 (BitVec.ofNat 32 n) (chk1 hn) r)
      (nextOut i arg3 arg4 (qv arg2 X2) X3 X4 (BitVec.ofNat 32 n) (chk1 hn) r o) := by
  have hq : (i 1).val < 32 := (i 1).isLt
  obtain ⟨-, hro⟩ := hI
  refine ⟨by omega, fun h => ⟨?_, ?_⟩⟩
  · unfold nextRun
    rw [laterBlk_eq p i arg2 arg3 X2 X3 h2 h3 hn r h (hro h).1, lkBlk_eq p i arg2 arg3 X2 X3 h2 h3 hn h, pay83]
    refine mat_congr fun a ha b hb => ?_
    unfold stick
    rw [show (i 1).val + 1 - (n + 1) = (i 1).val - n by omega, add_comm]
    simp only [Nat.add_zero]
    rw [← sum_eq_sum_Ico_succ_bot (show 128 * ((i 1).val - n) < 4096 by omega) (fun c => keep p h.val (128 * (i 1).val + a) c),
      ← sum_Ico_consecutive (fun c => keep p h.val (128 * (i 1).val + a) c) (show 128 * ((i 1).val - n) ≤ 128 * ((i 1).val + 1) by omega)
      (show 128 * ((i 1).val + 1) ≤ 4096 by omega),
      sum_eq_zero (s := Ico (128 * ((i 1).val + 1)) 4096) (fun c hc => keep_zero p h.val (by simp only [mem_Ico] at hc; omega)), add_zero]
  · unfold nextOut
    have hm := pay19 (i 1).val ((i 1).val - n) hq (by omega)
    rw [show (i 1).val - ((i 1).val - n) = n by omega] at hm
    rw [laterBlk_eq p i arg2 arg3 X2 X3 h2 h3 hn r h (hro h).1, kblk_eq p i arg3 X3 1024 h3 hn, kblk_eq p i arg4 X4 1536 h4 hn, qv_eq p i arg2 X2 h2,
      (hro h).2, pay22, pay68 _ _ hm, pay75]
    refine mat_congr fun a ha d hd => ?_
    unfold part
    rw [show (i 1).val + 1 - (n + 1) = (i 1).val - n by omega, show (i 1).val + 1 - n = (i 1).val - n + 1 by omega,
      ← sum_Ico_consecutive _ (show 128 * ((i 1).val - n) ≤ 128 * ((i 1).val - n + 1) by omega) (show 128 * ((i 1).val - n + 1) ≤ 128 * ((i 1).val + 1) by omega),
      add_comm, show 128 * ((i 1).val - n + 1) = 128 * ((i 1).val - n) + 128 by ring, ← sum_block]
    rfl

/-- Over the reals the walk ends only past the first block: no running sum is `-∞`. -/
theorem walk_ends {n : ℕ} {r : Runs Ideal} {o : Outs Ideal} (hI : II p i n r o) (hg : ¬ goesOn (F := Ideal) i (BitVec.ofNat 32 n) r) : n = (i 1).val + 1 := by
  have hq : (i 1).val < 32 := (i 1).isLt
  obtain ⟨hn, hro⟩ := hI
  by_contra hne
  refine hg ?_
  unfold goesOn
  have h1 : Scalar.cmpi .sle (BitVec.ofNat 32 n) (BitVec.ofNat 32 (i 1).val) = 1#1 :=
    (WordCmp.cmpi_sle_ofNat_eq_one_iff (by omega) (by omega)).2 (by omega)
  have h2 : ⊥ < k0_pay3 (F := Ideal) (r 0) (r 1) (r 2) (r 3) (r 4) (r 5) (r 6) (r 7) := by
    rw [(hro 0).1, (hro 1).1, (hro 2).1, (hro 3).1, (hro 4).1, (hro 5).1, (hro 6).1, (hro 7).1]
    exact Cert.Kernel3Ideal.Sb.pay13 fun h a _ => stick p i h.val ((i 1).val + 1 - n) a
  rw [h1, show (Named.named κ "dead" 0xC2DC0000#32 : Ideal .f32) = ⊥ from rfl]
  generalize k0_pay3 (F := Ideal) _ _ _ _ _ _ _ _ = x at h2 ⊢
  change Scalar.andi 1#1 (BitVec.ofBool (decide (⊥ < x))) = 1#1
  simp [h2]
  rfl

/-- The attention of query `r`, at column `c` of the heads side by side. -/
def attend (r c : ℕ) : ℝ := ∑ k ∈ range 4096, wt p (c / 64) r k * p k (1536 + 64 * (c / 64) + c % 64)

theorem part_all {h a : ℕ} (ha : a < 128) (d : ℕ) : part p i h 0 a d = ∑ k ∈ range 4096, wt p h (128 * (i 1).val + a) k * p k (1536 + 64 * h + d) := by
  have hq : (i 1).val < 32 := (i 1).isLt
  unfold part
  rw [Nat.mul_zero, ← range_eq_Ico]
  refine sum_subset (fun x hx => by simp only [mem_range] at *; omega) fun x hx hx' => ?_
  rw [wt_zero p h (by simp only [mem_range] at *; omega), zero_mul]

/-- The output block as stored. -/
theorem stored (arg5 : Memref sig .tc .vmem S128x512 .f32) (f5 : BufTy.Contents (Elt Ideal) arg5.view.ty) (r : Runs Ideal) (o : Outs Ideal)
    (hI : II p i ((i 1).val + 1) r o) :
    arg5.view.read (Elt Ideal) (arg5.view.writes (Elt Ideal) f5 (outPieces o)) = mat fun a c => attend p (128 * (i 1).val + a) c := by
  obtain ⟨-, hro⟩ := hI
  have e : ∀ h : Fin 8, o h = mat fun a d => attend p (128 * (i 1).val + a) (64 * h.val + d) := fun h => by
    rw [(hro h).2, Nat.sub_self]
    refine mat_congr fun a ha d hd => ?_
    unfold attend
    rw [part_all p i ha, show (64 * h.val + d) / 64 = h.val by omega, show (64 * h.val + d) % 64 = d by omega]
  unfold outPieces
  rw [e 0, e 1, e 2, e 3, e 4, e 5, e 6, e 7]
  funext y
  have hy0 : (y 0).val < 128 := (y 0).isLt
  have hy1 : (y 1).val < 512 := (y 1).isLt
  have piece : ∀ (h : ℕ) (L : List (View.Piece (Elt Ideal) S128x512 .f32)) (inb : ∀ x, (![0, 64 * h] : Fin 2 → ℕ) x + S128x64.size x ≤ S128x512.size x),
      ((y 1).val < 64 * h → arg5.view.read (Elt Ideal) (arg5.view.writes (Elt Ideal) f5 L) y = ((attend p (128 * (i 1).val + (y 0).val) (y 1).val : ℝ) : EReal)) →
      (y 1).val < 64 * h + 64 →
      arg5.view.read (Elt Ideal) (arg5.view.writes (Elt Ideal) f5 (⟨Rect.unit (s := S128x512) ![0, 64 * h] S128x64.size inb,
        mat fun a d => attend p (128 * (i 1).val + a) (64 * h + d)⟩ :: L)) y = ((attend p (128 * (i 1).val + (y 0).val) (y 1).val : ℝ) : EReal) := by
    intro h L inb hL hy
    refine (read_cons_mat arg5.view f5 L rfl inb _ y).trans ?_
    split_ifs with hc
    · rw [Nat.sub_zero, show 64 * h + ((y 1).val - 64 * h) = (y 1).val by omega]
    · exact hL (by omega)
  refine piece 7 _ inb_S128x512_S128x64_0_448 (fun h => ?_) (by omega)
  refine piece 6 _ inb_S128x512_S128x64_0_384 (fun h => ?_) (by omega)
  refine piece 5 _ inb_S128x512_S128x64_0_320 (fun h => ?_) (by omega)
  refine piece 4 _ inb_S128x512_S128x64_0_256 (fun h => ?_) (by omega)
  refine piece 3 _ inb_S128x512_S128x64_0_192 (fun h => ?_) (by omega)
  refine piece 2 _ inb_S128x512_S128x64_0_128 (fun h => ?_) (by omega)
  refine piece 1 _ inb_S128x512_S128x64_0_64 (fun h => ?_) (by omega)
  exact piece 0 _ inb_S128x512_S128x64_0_0 (fun h => absurd h (by omega)) (by omega)

end Walk

/-! ## The run -/

theorem coord1 : ∀ t : Fin (cfg0 (F := Ideal)).N, ((grid0.coords t) 1).val = t.val := (by decide +kernel : ∀ t : Fin grid0.N, ((grid0.coords t) 1).val = t.val)
theorem idx0 : ∀ t : Fin (cfg0 (F := Ideal)).N, win0_0.index t = ![t.val, 1] := (by decide +kernel : ∀ t : Fin grid0.N, _)
theorem idx1 : ∀ t : Fin (cfg0 (F := Ideal)).N, win0_1.index t = ![0, 2] := (by decide +kernel : ∀ t : Fin grid0.N, _)
theorem idx2 : ∀ t : Fin (cfg0 (F := Ideal)).N, win0_2.index t = ![0, 3] := (by decide +kernel : ∀ t : Fin grid0.N, _)
theorem idx3 : ∀ t : Fin (cfg0 (F := Ideal)).N, win0_3.index t = ![t.val, 0] := (by decide +kernel : ∀ t : Fin grid0.N, _)

variable (m : (ℓ : Loc nD τ sig) → Buf (Elt Ideal) ℓ) (ρ : Dev nD → PrngReg) (p : Dev nD → ℕ → ℕ → ℝ)
  (hp : ∀ c : Dev nD, (m ((c : Thread nD τ).loc main_arg0) : S4096x2048.Idx → EReal) = mat (p c))

include hp in
theorem iblk0 (c : Dev nD) (t : Fin (cfg0 (F := Ideal)).N) : iblk m c 0 t = mat fun a k => p c (128 * ((grid0.coords t) 1).val + a) (512 + k) := by
  rw [coord1]
  funext y
  blk_simp [iblk]
  refine (congrFun (hp c) _).trans (congrArg (fun x : ℝ => (x : EReal)) (congrArg₂ (p c) ?_ ?_)) <;> simp [idx0 t] <;> omega
include hp in
theorem iblk1 (c : Dev nD) (t : Fin (cfg0 (F := Ideal)).N) : iblk m c 1 t = mat fun a k => p c a (1024 + k) := by
  funext y
  blk_simp [iblk]
  refine (congrFun (hp c) _).trans (congrArg (fun x : ℝ => (x : EReal)) (congrArg₂ (p c) ?_ ?_)) <;> simp [idx1 t]
include hp in
theorem iblk2 (c : Dev nD) (t : Fin (cfg0 (F := Ideal)).N) : iblk m c 2 t = mat fun a k => p c a (1536 + k) := by
  funext y
  blk_simp [iblk]
  refine (congrFun (hp c) _).trans (congrArg (fun x : ℝ => (x : EReal)) (congrArg₂ (p c) ?_ ?_)) <;> simp [idx2 t]

/-- The output's block at a point. -/
def outBlk (c : Dev nD) (t : Fin (cfg0 (F := Ideal)).N) : S128x512.Idx → EReal := mat fun a k => attend (p c) (128 * t.val + a) k

include hp in
theorem obligation (c : Dev nD) : BodyObligationLoose (dats m (outBlk p) 0 c) (defs₀ (F := Ideal)) Variants.nat () Set.univ := fun t => by
  rw [bigSep_W0, bigSep_W0, defs₀_row]
  change iprop(Pipeline.ΦA spec0 c ∗ (dats m (outBlk p) 0 c).owesAt () t.castSucc
    ∗ (∃ d, owns (c : Thread nD τ) (st0_0 t) fullShare ((dats m (outBlk p) 0 c).before 0 t d))
    ∗ (∃ d, owns (c : Thread nD τ) (st0_1 t) fullShare ((dats m (outBlk p) 0 c).before 1 t d))
    ∗ (∃ d, owns (c : Thread nD τ) (st0_2 t) fullShare ((dats m (outBlk p) 0 c).before 2 t d))
    ∗ (∃ d, owns (c : Thread nD τ) (st0_3 t) fullShare ((dats m (outBlk p) 0 c).before 3 t d))) ⊢
      wp Idealize.ShloMosaic.frame (wpE (defs₀ (F := Ideal)) Variants.nat c none) Set.univ (bodyAt0 t)
        (fun _ => held m (outBlk p) c t (owns (c : Thread nD τ) (st0_3 t) fullShare (outBlk p c t)))
  refine BIBase.Entails.trans ?_ ((sound m (outBlk p) c t (II (p c) (grid0.coords t)) (fun X => X = outBlk p c t)
    (fun X2 X3 X4 h2 h3 h4 n r o hn hI => II_step (p c) (grid0.coords t) (st0_0 t) (st0_1 t) (st0_2 t) X2 X3 X4
      (h2.trans (iblk0 m p hp c t)) (h3.trans (iblk1 m p hp c t)) (h4.trans (iblk2 m p hp c t)) n r o hn hI)
    (II_zero (p c) (grid0.coords t))
    (fun n r o f5 hn hg hI => by
      have h := stored (p c) (grid0.coords t) (st0_3 t) f5 r o (walk_ends (p c) (grid0.coords t) hI hg ▸ hI)
      rw [coord1] at h
      exact h)).trans (wp_mono _ _ _ fun _ => ?_))
  · unfold held
    iintro ⟨HA, Ho, ⟨%d0, H0⟩, ⟨%d1, H1⟩, ⟨%d2, H2⟩, ⟨%d3, H3⟩⟩
    rw [before0_0, before0_1, before0_2]
    isplitl [HA]; · iexact HA
    isplitl [Ho]; · iexact Ho
    isplitl [H0]; · iexact H0
    isplitl [H1]; · iexact H1
    isplitl [H2]; · iexact H2
    iexists _; iexact H3
  · unfold held
    iintro ⟨HA, Ho, H0, H1, H2, ⟨%X, %hX, H3⟩⟩
    subst hX
    isplitl [HA]; · iexact HA
    isplitl [Ho]; · iexact Ho
    isplitl [H0]; · iexact H0
    isplitl [H1]; · iexact H1
    isplitl [H2]; · iexact H2
    iexact H3

set_option backward.isDefEq.respectTransparency.types false in
include hp in
/-- The run of the whole program. -/
theorem runR : θ_run defs (onTc (τ := τ) (main (F := Ideal))) (s₀ m ρ)
    (fun r => Pipeline.FramePost cfgs (dats m (outBlk p)) (0 : Fin 1) (V m) r) :=
  Pipeline.θ_run_frame_track_shared cfgs (dats m (outBlk p)) (0 : Fin 1) launch₀0 defs₀ Variants.nat m ρ main
    (hbody := obligation m p hp) (hq := fun _ _ _ => rfl) (howed := fun _ _ => rfl) (V := V m) (hmain := hmain m Variants.nat) (hA := A_eq m (outBlk p))
    (hin := fun _ => .rfl) (hout := fun _ => .rfl)

theorem emb3 (t : Fin (cfg0 (F := Ideal)).N) (y : S128x512.Idx) : (((cfg0 (F := Ideal)).win 3).blk t).view.emb y =
    ix2 ⟨128 * t.val + (y 0).val, by have h : (y 0).val < 128 := (y 0).isLt; have := t.isLt.trans_eq N_0; omega⟩ (y 1) := by
  blk_ext [idx3 t]

/-- The whole output. -/
theorem final (c : Dev nD) : (dats m (outBlk p) 0 c).arrAt 3 (cfg0 (F := Ideal)).N = (mat (attend (p c)) : S4096x512.Idx → EReal) := by
  refine (dats m (outBlk p) 0 c).arrAt_eq_of_covers 3 _ (by decide +kernel) fun t hf y => ?_
  rw [emb3 t y]
  blk_simp
  rfl

end Cert.Kernel9Ideal.Sf
-- ==== Proof.SfClaim.lean ====
module

public import proofs.«01_k».proof.Proof.SfValue
public import proofs.«01_k».proof.Proof.SbClaim
public import proofs.«01_k».proof.Proof.Gen.Reference9Ideal.Run
public import proofs.«01_k».proof.Proof.Gen.Reference9Ideal.Read

/-!
# The attention: the kernel computes what the reference does
-/

@[expose] public section

set_option maxRecDepth 8192
set_option maxHeartbeats 4000000

noncomputable section

namespace Cert.Proof.SfClaim

open Idealize.ShloMosaic Idealize.ShloMosaic.TcCoe Idealize.SL.Sem Cert.Proof.Reals Cert.Proof.Sb
open Cert.Kernel3Ideal.Sb (mat)
open Cert.Proof.SbRef (cube)
open Cert.Proof.SbClaim (ofIdx up_eq)
open Cert.Kernel9Ideal.Sf (attend outBlk runR final)
open Cert.Reference9Ideal Cert.Reference9Ideal.Gen Cert.Reference9Ideal.Read

/-! ## The reference -/

variable (P : ℕ → ℕ → ℝ)

/-- The weights and the values: the same lines as under the gradient. -/
theorem weights : val_main_v28 (F := Ideal) (mat P) = cube (fun h i c => wt P h i c) := Cert.Proof.SbRef.s_v28 P
theorem values : val_main_v8 (F := Ideal) (mat P) = cube (fun i h d => P i (1536 + 64 * h + d)) := Cert.Proof.SbRef.s_v8 P

theorem heads : val_main_v29 (F := Ideal) (mat P) = cube (fun h d i => ∑ c ∈ Finset.range 4096, wt P h i c * P c (1536 + 64 * h + d)) := by
  funext i
  rw [val_main_v29_apply, weights, values]
  simp only [cube, ← EReal.coe_mul, sum_univ_coe]
  refine congrArg (fun x : ℝ => (x : EReal)) ?_
  beta_reduce
  rw [Finset.sum_range]
  exact Finset.sum_congr rfl fun c _ => mul_comm _ _

theorem whole : val_main_v31 (F := Ideal) (mat P) = mat (attend P) := by
  funext i
  have h0 : (i 0).val < 4096 := (i 0).isLt
  have h1 : (i 1).val < 512 := (i 1).isLt
  rw [val_main_v31_apply, val_main_v30_apply, heads]
  refine congrArg (fun x : ℝ => (x : EReal)) ?_
  have e0 : ((i 0).val * 512 + (i 1).val) / 512 = (i 0).val := by omega
  have e1 : ((i 0).val * 512 + (i 1).val) / 64 % 8 = (i 1).val / 64 := by omega
  have e2 : ((i 0).val * 512 + (i 1).val) % 64 = (i 1).val % 64 := by omega
  change ∑ c ∈ Finset.range 4096, wt P (((i 0).val * 512 + (i 1).val) / 64 % 8) (((i 0).val * 512 + (i 1).val) / 512) c
    * P c (1536 + 64 * (((i 0).val * 512 + (i 1).val) / 64 % 8) + ((i 0).val * 512 + (i 1).val) % 64) = _
  rw [e0, e1, e2]
  rfl

/-- The argument array of the precondition is real. -/
theorem real_args [hP : Cert.Pre_finite9.Facts]
    {m : (ℓ : Loc Cert.Kernel9Ideal.nD Cert.Kernel9Ideal.τ Cert.Kernel9Ideal.sig) → Buf (Elt Ideal) ℓ}
    (h : Cert.Pre_Kernel9Ideal_finite9 m) (c : Dev Cert.Kernel9Ideal.nD) :
    ∃ P : ℕ → ℕ → ℝ,
      (m ((c : Thread Cert.Kernel9Ideal.nD Cert.Kernel9Ideal.τ).loc Cert.Kernel9Ideal.main_arg0) : Cert.Kernel9Ideal.S4096x2048.Idx → EReal) = mat P := by
  have e0 := h c
  unfold Cert.Pre_finite9.fn at e0
  dsimp only at e0
  haveI : Subsingleton Cert.Pre_finite9.S_.Idx := ⟨fun a b => funext fun i => i.elim0⟩
  obtain ⟨X, hX⟩ := real_of_all _ _ _ _ _ _ (congrFun e0 fun i => i.elim0)
  exact ⟨ofIdx X, hX.trans (up_eq X)⟩

/-- The kernel and the attention end with equal arrays. -/
theorem algebraic [Cert.Pre_finite9.Facts] : Cert.algebraic_Kernel9Ideal_Reference9Ideal_pre_finite9 := by
  intro m g m' g' hpre hagree
  choose P hp using real_args hpre
  refine ⟨fun c => (mat (attend (P c)) : Cert.Kernel9Ideal.S4096x512.Idx → EReal), ?_, ?_⟩
  · refine (θ_run _ _ _).mono (fun r h c => ?_) (runR m g P hp)
    exact ⟨(Pipeline.FramePost.out_eq h c 3).trans (final m P c), Pipeline.FramePost.in_eq h c 0 rfl⟩
  · refine (θ_run _ _ _).mono (fun r h c => ?_) (Cert.Reference9Ideal.Value.run m' g')
    have a0 := hagree c
    obtain ⟨r0, k⟩ := h c
    refine ⟨?_, k⟩
    refine (r0.trans (Cert.Reference9Ideal.Read.val_main_v31_eq m' c)).trans ?_
    rw [a0, hp c]
    exact whole (P c)

end Cert.Proof.SfClaim

end
-- ==== Proof.ProjFwd.lean ====
module

public import proofs.«01_k».proof.Proof.Conv
public import proofs.«01_k».proof.Proof.Gen.Kernel10Ideal.Value
public import proofs.«01_k».proof.Proof.Gen.Reference10Ideal.Run
public import proofs.«01_k».proof.Proof.Gen.Reference10Ideal.Read
public import proofs.«01_k».proof.Defs

/-!
# A projection with its norm, forward

The kernel forms the same sums as the reference, block by block, so no finiteness is needed.
-/

@[expose] public section

set_option maxRecDepth 16384

noncomputable section

namespace Cert.Proof.ProjFwd

open Idealize.ShloMosaic Idealize.ShloMosaic.TcCoe Idealize.SL.Sem Cert.Proof.Reals Cert.Proof.Conv

/-- A vector read at natural numbers, zero outside. -/
def totv {a : ℕ} (A : (⟨1, ![a]⟩ : Shape).Idx → EReal) (i : ℕ) : EReal := if h : i < a then A (ix1 ⟨i, h⟩) else 0

theorem totv_eq {a : ℕ} (A : (⟨1, ![a]⟩ : Shape).Idx → EReal) (j : (⟨1, ![a]⟩ : Shape).Idx) {i : ℕ} (hi : (j 0).val = i) :
    A j = totv A i := by
  subst hi
  unfold totv
  rw [dif_pos (show (j 0).val < a from (j 0).isLt)]
  refine congrArg A (funext fun x => ?_)
  match x with
  | ⟨0, _⟩ => rfl

/-- The normalised rows with the gain. -/
def nr (X : ℕ → ℕ → EReal) (G : ℕ → EReal) (i k : ℕ) : EReal :=
  X i k * Ideal.rsqrt (Ideal.div (∑ l : Fin 1024, X i l * X i l) (Ideal.ofBits .f32 0x44800000#32) + Ideal.ofBits .f32 0x358637BD#32) * G k

/-- Their product with a weight. -/
def pr (X : ℕ → ℕ → EReal) (G : ℕ → EReal) (W : ℕ → ℕ → EReal) (i k : ℕ) : EReal := ∑ l : Fin 1024, nr X G i l * W l k

section Kernel

open Cert.Kernel10Ideal Cert.Kernel10Ideal.Gen

variable (X W : ℕ → ℕ → EReal) (G : ℕ → EReal)

theorem pay1 : k0_pay1 (F := Ideal) (arr X) (arr fun _ => G) = arr (nr X G) := by
  funext j; idx_vars j; unfold k0_pay1; pointwise
  rfl

theorem pay2 : k0_pay2 (F := Ideal) (arr X) (arr fun _ => G) (arr W) = arr (pr X G W) := by
  funext j; idx_vars j; unfold k0_pay2; rw [pay1]; pointwise
  rfl

theorem pay3 : k0_pay3 (F := Ideal) (arr X) (arr fun _ => G) (arr W) = arr (pr X G W) := pay2 X W G

theorem pay4 : k0_pay4 (F := Ideal) (arr X) (arr fun _ => G) (arr W) = arr (pr X G W) := pay2 X W G

variable (m : (ℓ : Loc nD τ sig) → Buf (Elt Ideal) ℓ) (c : Dev nD)

/-- The kernel's arguments, read at natural numbers. -/
def aX : ℕ → ℕ → EReal := tot (m ((c : Thread nD τ).loc main_arg0) : S4096x1024.Idx → EReal)
def aG : ℕ → EReal := totv (m ((c : Thread nD τ).loc main_arg1) : S1024.Idx → EReal)
def aW : ℕ → ℕ → EReal := tot (m ((c : Thread nD τ).loc main_arg2) : S1024x3072.Idx → EReal)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem iblk0 (t : Fin cfg0.N) : iblk m c 0 t = arr fun i k => aX m c (t.val * 512 + i) k := by
  funext y
  blk_simp [iblk]
  rw [V_main_arg0]
  refine tot_eq (a := 4096) (b := 1024) _ _ ?_ ?_ <;> simp [idx0 t]
theorem iblk1 (t : Fin cfg0.N) : iblk m c 1 t = arr fun _ k => aG m c k := by
  funext y
  blk_simp [iblk]
  entry_read
  pointwise
  refine totv_eq (a := 1024) _ _ ?_ <;> simp [idx1 t]
theorem iblk2 (t : Fin cfg0.N) : iblk m c 2 t = arr fun i k => aW m c i k := by
  funext y
  blk_simp [iblk]
  entry_read
  refine tot_eq (a := 1024) (b := 3072) _ _ ?_ ?_ <;> simp [idx2 t]

theorem emb3 (t : Fin cfg0.N) (y : S512x3072.Idx) : ((cfg0.win 3).blk t).view.emb y =
    ix2 ⟨t.val * 512 + (y 0).val, by have h : (y 0).val < 512 := (y 0).isLt; have := t.isLt.trans_eq N_0; omega⟩ (y 1) := by
  blk_ext [idx3 t]

/-- The product after the run. -/
theorem final3 : (dats m 0 c).arrAt 3 cfg0.N = (arr (pr (aX m c) (aG m c) (aW m c)) : S4096x3072.Idx → EReal) := by
  refine (dats m 0 c).arrAt_eq_of_covers 3 _ (by decide +kernel) fun t hf y => ?_
  rw [emb3 t y]
  blk_simp
  rw [after0_3, iblk0, iblk1, iblk2]
  unfold out0_3
  frame_out
  erw [ld_arr', ld_arr', ld_arr']
  rw [pay2, pay3, pay4]
  refine (View.canon_apply_of_pieces (arr fun i k => pr (aX m c) (aG m c) (aW m c) (t.val * 512 + i) k) _ ?_ _ ?_).trans rfl
  · simp only [List.mem_cons, List.not_mem_nil, or_false, forall_eq_or_imp, forall_eq]
    refine ⟨piece_arr fun i k hi hk => ?_, piece_arr fun i k hi hk => ?_, piece_arr fun i k hi hk => ?_⟩ <;>
      simp [pr, nr]
  · have h0 : (y 0).val < 512 := (y 0).isLt
    have h1 : (y 1).val < 3072 := (y 1).isLt
    by_cases ha : 2048 ≤ (y 1).val
    · exact ⟨_, List.mem_cons_self, mem_part (h := inb_S512x3072_S512x1024_0_2048) _ ⟨Nat.zero_le _, by show _ < 0 + 512; omega⟩
        ⟨ha, by show _ < 2048 + 1024; omega⟩⟩
    · by_cases hb : 1024 ≤ (y 1).val
      · exact ⟨_, List.mem_cons_of_mem _ List.mem_cons_self, mem_part (h := inb_S512x3072_S512x1024_0_1024) _
          ⟨Nat.zero_le _, by show _ < 0 + 512; omega⟩ ⟨hb, by show _ < 1024 + 1024; omega⟩⟩
      · exact ⟨_, List.mem_cons_of_mem _ (List.mem_cons_of_mem _ List.mem_cons_self),
          mem_part (h := inb_S512x3072_S512x1024_0_0) _
          ⟨Nat.zero_le _, by show _ < 0 + 512; omega⟩ ⟨Nat.zero_le _, by show _ < 0 + 1024; omega⟩⟩

end Kernel

section Reference

open Cert.Reference10Ideal Cert.Reference10Ideal.Gen Cert.Reference10Ideal.Read

variable (A : S4096x1024.Idx → EReal) (G : S1024.Idx → EReal) (W : S1024x3072.Idx → EReal)

theorem v12 : val_main_v12 (F := Ideal) A G = arr (nr (tot A) (totv G)) := by
  funext j; idx_vars j
  unfold val_main_v12 val_main_v11 val_main_v10 val_main_v9 val_main_v8 val_main_v7 val_main_v6 val_main_v5 val_main_v4
    val_main_v3 val_main_v2 val_main_v1 val_main_v0 val_main_cst val_main_cst_0 val_main_cst_1
  pointwise
  simp only [bits_zero, zero_add, fun i k => tot_eq A (ix2 i k) rfl rfl, fun k => totv_eq G (ix1 k) rfl]
  rfl

theorem v14 : val_main_v14 (F := Ideal) A G W = arr (pr (tot A) (totv G) (tot W)) := by
  funext j; idx_vars j; unfold val_main_v14 val_main_v13; rw [v12]; pointwise
  exact Finset.sum_congr rfl fun l _ => congrArg₂ _ rfl (tot_eq _ _ rfl rfl)

end Reference

/-- The kernel and the forward lines end with equal arrays. -/
theorem algebraic : Cert.algebraic_Kernel10Ideal_Reference10Ideal := by
  intro m g m' g' _ hagree
  refine ⟨fun c => (Cert.Kernel10Ideal.Gen.dats m 0 c).arrAt 3 Cert.Kernel10Ideal.cfg0.N, Cert.Kernel10Ideal.Value.run_blocks m g, ?_⟩
  refine (θ_run _ _ _).mono (fun r h c => ?_) (Cert.Reference10Ideal.Value.run m' g')
  obtain ⟨a0, a1, a2⟩ := hagree c
  refine ⟨((h c).1.trans (Cert.Reference10Ideal.Read.val_main_v14_eq _ _ _)).trans ?_, (h c).2⟩
  rw [a0, a1, a2, v14]
  exact (final3 m c).symm

end Cert.Proof.ProjFwd

end
-- ==== Proof.Held.lean ====
module

public import Idealize.ShloMosaic.Lib.Claim
public import Idealize.ShloMosaic.Lib.Pipeline.FrameBody
public import Idealize.ShloMosaic.Lib.Tactic

@[expose] public section

/-! Buffers of a core held at some contents or at given ones, for the frames proved by hand. -/

noncomputable section

namespace Cert.Proof.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig}

/-- The resource algebra of the pipeline's runs. -/
local notation "𝕄G" => MT nD τ sig Unit (Elt F) ℕ (UR sig nD τ) ℕ

/-- A buffer held at some contents. -/
def any (c : Dev nD) {s : Shape} {t : EltTy} (a : Memref sig .tc .vmem s t) : sProp 𝕄G :=
  iprop(∃ X, owns (c : Thread nD τ) a fullShare X)

theorem any_of (c : Dev nD) {s : Shape} {t : EltTy} (a : Memref sig .tc .vmem s t) (f : BufTy.Contents (Elt F) a.view.ty) :
    (a.view.loc (c : Thread nD τ) ↦[a.view.set]{fullShare} f : sProp 𝕄G) ⊢ any c a := by
  unfold any owns
  iintro H
  iexists _; iexists f
  isplitr; · ipureintro; rfl
  iexact H

theorem whole_of (c : Dev nD) {s : Shape} {t : EltTy} (a : Memref sig .tc .vmem s t) (h : a.IsWhole) (X : Vec F s t) :
    (a.view.loc (c : Thread nD τ) ↦[a.view.set]{fullShare} (h.unread X) : sProp 𝕄G) ⊢ owns (c : Thread nD τ) a fullShare X := by
  unfold owns
  iintro H
  iexists _
  isplitr; · ipureintro; exact h.read_unread _
  iexact H

/-- A whole buffer held at some contents, and the same as a memref. -/
theorem whole_owned (c : Dev nD) (b : Ref sig .tc) :
    (iprop(∃ f : Buf (Elt F) ((c : Thread nD τ).loc b), ((c : Thread nD τ).loc b) ↦{fullShare} f) : sProp 𝕄G)
      = iprop(∃ X, owns (c : Thread nD τ) (Memref.whole b) fullShare X) := by
  have h : (Memref.whole b).view.set = Finset.univ := View.set_whole b
  have e : ∀ f : Buf (Elt F) ((c : Thread nD τ).loc b), (((c : Thread nD τ).loc b ↦{fullShare} f : sProp 𝕄G))
      = ((Memref.whole b).view.loc (c : Thread nD τ) ↦[(Memref.whole b).view.set]{fullShare} f) := fun f => by rw [h]
  have h1 : (iprop(∃ f : Buf (Elt F) ((c : Thread nD τ).loc b), ((c : Thread nD τ).loc b) ↦{fullShare} f) : sProp 𝕄G)
      ⊢ iprop(∃ X, owns (c : Thread nD τ) (Memref.whole b) fullShare X) := by
    unfold owns
    iintro ⟨%f, H⟩
    iexists _; iexists f
    isplitr; · ipureintro; rfl
    iapply (BIBase.Entails.of_eq (e f))
    iexact H
  have h2 : (iprop(∃ X, owns (c : Thread nD τ) (Memref.whole b) fullShare X) : sProp 𝕄G)
      ⊢ iprop(∃ f : Buf (Elt F) ((c : Thread nD τ).loc b), ((c : Thread nD τ).loc b) ↦{fullShare} f) := by
    unfold owns
    iintro ⟨%X, %f, -, H⟩
    iexists f
    iapply (BIBase.Entails.of_eq (e f).symm)
    iexact H
  exact Idealize.SL.BI.Entails.antisymm h1 h2

end Cert.Proof.Held
-- ==== Proof.S5Frame.lean ====
module

public import proofs.«01_k».proof.Proof.Held
public import Idealize.ShloMosaic.Lib.Pipeline.TableIdle
public import proofs.«01_k».proof.Proof.Gen.Kernel14Ideal.Frame
public import proofs.«01_k».proof.Proof.Gen.Kernel14Ideal.Loops

@[expose] public section

set_option maxRecDepth 16384
set_option maxHeartbeats 8000000

noncomputable section

namespace Cert.Kernel14Ideal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel14Ideal.Gen Cert.Proof.Held
open Idealize.ShloMosaic.Rounds
open Idealize.ShloMosaic.Pipeline (Dat BodyObligationLoose)

variable {F : FTy → Type} [FloatOps F]

/-- The resource algebra of the pipeline's runs. -/
local notation "𝕄G" => MT nD τ sig Unit (Elt F) ℕ (UR sig nD τ) ℕ

variable (m : (ℓ : Loc nD τ sig) → Buf (Elt F) ℓ) (ρ : Dev nD → PrngReg)

/-- What the body is given and gives back: its inputs at given contents, its outputs and its scratch at any. -/
def holds (c : Dev nD) (a1 a2 : Memref sig .tc .vmem S256x512 .f32) (a3 : Memref sig .tc .vmem S256x512 .bf16) (a4 a5 : Memref sig .tc .vmem S256x2048 .bf16) (a6 a7 : Memref sig .tc .vmem S4x128x512 .bf16) (a8 a9 : Memref sig .tc .vmem S4x512x128 .bf16) (a10 : Memref sig .tc .vmem S1x512 .f32) (a11 : Memref sig .tc .vmem S512x512 .bf16) (a12 : Memref sig .tc .vmem S8x8x2048 .f32) (a13 : Memref sig .tc .vmem S256x512 .f32) (a14 a15 : Memref sig .tc .vmem S4x128x512 .f32) (a16 a17 : Memref sig .tc .vmem S4x512x128 .f32) (a18 : Memref sig .tc .vmem S512x512 .f32) (a19 : Memref sig .tc .vmem S1x512 .f32) (a20 a21 : Memref sig .tc .vmem S1x2048 .f32) (a22 a23 a24 a25 : Memref sig .tc .vmem S256x2048 .f32) (a26 a27 a28 a29 : Memref sig .tc .vmem S8x2048 .f32) (x1 : Vec F S256x512 .f32) (x2 : Vec F S256x512 .f32) (x3 : Vec F S256x512 .bf16) (x4 : Vec F S256x2048 .bf16) (x5 : Vec F S256x2048 .bf16) (x6 : Vec F S4x128x512 .bf16) (x7 : Vec F S4x128x512 .bf16) (x8 : Vec F S4x512x128 .bf16) (x9 : Vec F S4x512x128 .bf16) (x10 : Vec F S1x512 .f32) (x11 : Vec F S512x512 .bf16) (x12 : Vec F S8x8x2048 .f32) : sProp 𝕄G :=
  iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ any c a13 ∗ any c a14 ∗ any c a15 ∗ any c a16 ∗ any c a17 ∗ any c a18 ∗ any c a19 ∗ any c a20 ∗ any c a21 ∗ any c a22 ∗ any c a23 ∗ any c a24 ∗ any c a25 ∗ any c a26 ∗ any c a27 ∗ any c a28 ∗ any c a29)

/-- A point is the first, the last or between them. -/
theorem cases_of (i : grid0.Coords) :
    (((Scalar.cmpi .ne (Scalar.extui (Scalar.cmpi .eq (BitVec.ofNat 32 (i 0).val) 0#32 : BitVec 1) : BitVec 32) 0#32 : BitVec 1) = 1#1) ∧ k0_cond2 i = 1#1 ∧ ¬ k0_cond3 i = 1#1 ∧ ¬ k0_cond4 i = 1#1)
      ∨ ((¬ ((Scalar.cmpi .ne (Scalar.extui (Scalar.cmpi .eq (BitVec.ofNat 32 (i 0).val) 0#32 : BitVec 1) : BitVec 32) 0#32 : BitVec 1) = 1#1)) ∧ (¬ k0_cond2 i = 1#1) ∧ k0_cond3 i = 1#1 ∧ ¬ k0_cond4 i = 1#1)
      ∨ ((¬ ((Scalar.cmpi .ne (Scalar.extui (Scalar.cmpi .eq (BitVec.ofNat 32 (i 0).val) 0#32 : BitVec 1) : BitVec 32) 0#32 : BitVec 1) = 1#1)) ∧ (¬ k0_cond2 i = 1#1) ∧ k0_cond3 i = 1#1 ∧ k0_cond4 i = 1#1) := by
  revert i; decide

/-- One point of the body: it runs, and gives back what it was given. -/
theorem body_runs (c : Dev nD) (i : grid0.Coords) (a1 a2 : Memref sig .tc .vmem S256x512 .f32) (a3 : Memref sig .tc .vmem S256x512 .bf16) (a4 a5 : Memref sig .tc .vmem S256x2048 .bf16) (a6 a7 : Memref sig .tc .vmem S4x128x512 .bf16) (a8 a9 : Memref sig .tc .vmem S4x512x128 .bf16) (a10 : Memref sig .tc .vmem S1x512 .f32) (a11 : Memref sig .tc .vmem S512x512 .bf16) (a12 : Memref sig .tc .vmem S8x8x2048 .f32) (a13 : Memref sig .tc .vmem S256x512 .f32) (a14 a15 : Memref sig .tc .vmem S4x128x512 .f32) (a16 a17 : Memref sig .tc .vmem S4x512x128 .f32) (a18 : Memref sig .tc .vmem S512x512 .f32) (a19 : Memref sig .tc .vmem S1x512 .f32) (a20 a21 : Memref sig .tc .vmem S1x2048 .f32) (a22 a23 a24 a25 : Memref sig .tc .vmem S256x2048 .f32) (a26 a27 a28 a29 : Memref sig .tc .vmem S8x2048 .f32) (x1 : Vec F S256x512 .f32) (x2 : Vec F S256x512 .f32) (x3 : Vec F S256x512 .bf16) (x4 : Vec F S256x2048 .bf16) (x5 : Vec F S256x2048 .bf16) (x6 : Vec F S4x128x512 .bf16) (x7 : Vec F S4x128x512 .bf16) (x8 : Vec F S4x512x128 .bf16) (x9 : Vec F S4x512x128 .bf16) (x10 : Vec F S1x512 .f32) (x11 : Vec F S512x512 .bf16) (x12 : Vec F S8x8x2048 .f32) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole) (h19 : a19.IsWhole) (h20 : a20.IsWhole) (h21 : a21.IsWhole) (h22 : a22.IsWhole) (h23 : a23.IsWhole) (h24 : a24.IsWhole) (h25 : a25.IsWhole) (h26 : a26.IsWhole) (h27 : a27.IsWhole) (h28 : a28.IsWhole) (h29 : a29.IsWhole) :
    holds c a1 a2 a3 a4 a5 a6 a7 a8 a9 a10 a11 a12 a13 a14 a15 a16 a17 a18 a19 a20 a21 a22 a23 a24 a25 a26 a27 a28 a29 x1 x2 x3 x4 x5 x6 x7 x8 x9 x10 x11 x12 ⊢ wp frame (wpE (defs₀ (F := F)) Variants.nat c none) Set.univ
      (cc0_s5_bwd (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29) (fun _ => holds c a1 a2 a3 a4 a5 a6 a7 a8 a9 a10 a11 a12 a13 a14 a15 a16 a17 a18 a19 a20 a21 a22 a23 a24 a25 a26 a27 a28 a29 x1 x2 x3 x4 x5 x6 x7 x8 x9 x10 x11 x12) := by
  simp only [cc0_s5_bwd_eq_skeleton]; unfold cc0_s5_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold holds
  rcases cases_of i with ⟨p, q, r, s⟩ | ⟨p, q, r, s⟩ | ⟨p, q, r, s⟩
  all_goals
    conv => lhs; unfold any owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12
    sl_exec (disch := first | sl_exact p | sl_exact q | sl_exact r | sl_exact s)
    sl_step
    isplitl [H1]; · iapply (whole_of c a1 h1 x1); iexact H1
    isplitl [H2]; · iapply (whole_of c a2 h2 x2); iexact H2
    isplitl [H3]; · iapply (whole_of c a3 h3 x3); iexact H3
    isplitl [H4]; · iapply (whole_of c a4 h4 x4); iexact H4
    isplitl [H5]; · iapply (whole_of c a5 h5 x5); iexact H5
    isplitl [H6]; · iapply (whole_of c a6 h6 x6); iexact H6
    isplitl [H7]; · iapply (whole_of c a7 h7 x7); iexact H7
    isplitl [H8]; · iapply (whole_of c a8 h8 x8); iexact H8
    isplitl [H9]; · iapply (whole_of c a9 h9 x9); iexact H9
    isplitl [H10]; · iapply (whole_of c a10 h10 x10); iexact H10
    isplitl [H11]; · iapply (whole_of c a11 h11 x11); iexact H11
    isplitl [H12]; · iapply (whole_of c a12 h12 x12); iexact H12
    isplitl [H13]; · iapply (any_of c a13); iexact H13
    isplitl [H14]; · iapply (any_of c a14); iexact H14
    isplitl [H15]; · iapply (any_of c a15); iexact H15
    isplitl [H16]; · iapply (any_of c a16); iexact H16
    isplitl [H17]; · iapply (any_of c a17); iexact H17
    isplitl [H18]; · iapply (any_of c a18); iexact H18
    isplitl [H19]; · iapply (any_of c a19); iexact H19
    isplitl [H20]; · iapply (any_of c a20); iexact H20
    isplitl [H21]; · iapply (any_of c a21); iexact H21
    isplitl [H22]; · iapply (any_of c a22); iexact H22
    isplitl [H23]; · iapply (any_of c a23); iexact H23
    isplitl [H24]; · iapply (any_of c a24); iexact H24
    isplitl [H25]; · iapply (any_of c a25); iexact H25
    isplitl [H26]; · iapply (any_of c a26); iexact H26
    isplitl [H27]; · iapply (any_of c a27); iexact H27
    isplitl [H28]; · iapply (any_of c a28); iexact H28
    iapply (any_of c a29); iexact H29

/-- The proof data where nothing is said of the outputs: the inputs stay at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨n + 21, h⟩ => absurd h (Nat.not_lt.2 (Nat.le_add_left _ _))
  Φ _ := Pipeline.ΦA spec0 c
  q _ := fullShare
  owed _ := 0

/-- The outputs, of which nothing is said. -/
def fgt (w : Fin cfg0.W) : Bool := decide (12 ≤ w.val)

theorem defs₀_row (t : Fin cfg0.N) : defs₀ (F := F) .tc cfg0.body (cfg0.bodyArgs t (cfg0.slots t)) = bodyAt0 t := by
  unfold defs₀; rw [Defs.onTc_tc]

/-- What the body holds at point `t`. -/
def held (c : Dev nD) (t : Fin cfg0.N) : sProp 𝕄G :=
  iprop(Pipeline.ΦA spec0 c ∗ (dats m 0 c).owesAt () t.castSucc
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ any c (st0_12 t) ∗ any c (st0_13 t) ∗ any c (st0_14 t) ∗ any c (st0_15 t) ∗ any c (st0_16 t) ∗ any c (st0_17 t) ∗ any c (st0_18 t) ∗ any c (st0_19 t) ∗ any c (st0_20 t))

theorem sound_body (c : Dev nD) (t : Fin cfg0.N) :
    held m c t ⊢ wp frame (wpE (defs₀ (F := F)) Variants.nat c none) Set.univ (bodyAt0 t) (fun _ => held m c t) := by
  have key := body_runs (F := F) c (grid0.coords t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (hstage0_18 ((cfg0.slots t 18).cast nbuf0_18)) (hstage0_19 ((cfg0.slots t 19).cast nbuf0_19)) (hstage0_20 ((cfg0.slots t 20).cast nbuf0_20)) (Memref.isWhole_whole _) (Memref.isWhole_whole _) (Memref.isWhole_whole _) (Memref.isWhole_whole _) (Memref.isWhole_whole _) (Memref.isWhole_whole _) (Memref.isWhole_whole _) (Memref.isWhole_whole _)
  unfold holds any at key
  unfold held Pipeline.ΦA any
  rw [scopedRest0_eq]
  rw [whole_owned c cc0_scratch0, whole_owned c cc0_scratch1, whole_owned c cc0_scratch2, whole_owned c cc0_scratch3, whole_owned c cc0_scratch4, whole_owned c cc0_scratch5, whole_owned c cc0_scratch6, whole_owned c cc0_scratch7]
  iintro ⟨⟨⟨S0, S1, S2, S3, S4, S5, S6, S7⟩, Hg⟩, Ho, H0, H1, H2, H3, H4, H5, H6, H7, H8, H9, H10, H11, H12, H13, H14, H15, H16, H17, H18, H19, H20⟩
  iapply (wp_wand_r Idealize.ShloMosaic.frame (wpE (defs₀ (F := F)) Variants.nat (c : Thread nD τ) none) Set.univ)
  isplitl [H0 H1 H2 H3 H4 H5 H6 H7 H8 H9 H10 H11 H12 H13 H14 H15 H16 H17 H18 H19 H20 S0 S1 S2 S3 S4 S5 S6 S7]
  · iapply key
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iintro %x Hx
    icases Hx with ⟨H0, H1, H2, H3, H4, H5, H6, H7, H8, H9, H10, H11, H12, H13, H14, H15, H16, H17, H18, H19, H20, S0, S1, S2, S3, S4, S5, S6, S7⟩
    isplitl [S0 S1 S2 S3 S4 S5 S6 S7 Hg]
    · isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem body_obligation (c : Dev nD) : BodyObligationLoose (dats (F := F) m 0 c) (defs₀ (F := F)) Variants.nat () Set.univ fgt := fun t => by
  rw [bigSep_W0, bigSep_W0, defs₀_row]
  change iprop(Pipeline.ΦA spec0 c ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ X, owns (c : Thread nD τ) (st0_12 t) fullShare X) ∗ (∃ X, owns (c : Thread nD τ) (st0_13 t) fullShare X) ∗ (∃ X, owns (c : Thread nD τ) (st0_14 t) fullShare X) ∗ (∃ X, owns (c : Thread nD τ) (st0_15 t) fullShare X) ∗ (∃ X, owns (c : Thread nD τ) (st0_16 t) fullShare X) ∗ (∃ X, owns (c : Thread nD τ) (st0_17 t) fullShare X) ∗ (∃ X, owns (c : Thread nD τ) (st0_18 t) fullShare X) ∗ (∃ X, owns (c : Thread nD τ) (st0_19 t) fullShare X) ∗ (∃ X, owns (c : Thread nD τ) (st0_20 t) fullShare X)) ⊢ _
  refine BIBase.Entails.trans ?_ ((sound_body m c t).trans (wp_mono _ _ _ fun _ => ?_))
  · unfold held any
    iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, H16, H17, H18, H19, H20⟩
    rw [before0_0_of m (dats m 0 c) rfl (fun _ => by dsimp only [dats]) t, before0_1_of m (dats m 0 c) rfl (fun _ => by dsimp only [dats]) t, before0_2_of m (dats m 0 c) rfl (fun _ => by dsimp only [dats]) t, before0_3_of m (dats m 0 c) rfl (fun _ => by dsimp only [dats]) t, before0_4_of m (dats m 0 c) rfl (fun _ => by dsimp only [dats]) t, before0_5_of m (dats m 0 c) rfl (fun _ => by dsimp only [dats]) t, before0_6_of m (dats m 0 c) rfl (fun _ => by dsimp only [dats]) t, before0_7_of m (dats m 0 c) rfl (fun _ => by dsimp only [dats]) t, before0_8_of m (dats m 0 c) rfl (fun _ => by dsimp only [dats]) t, before0_9_of m (dats m 0 c) rfl (fun _ => by dsimp only [dats]) t, before0_10_of m (dats m 0 c) rfl (fun _ => by dsimp only [dats]) t, before0_11_of m (dats m 0 c) rfl (fun _ => by dsimp only [dats]) t]
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · unfold held any; exact .rfl

set_option backward.isDefEq.respectTransparency.types false in
/-- The run, with nothing said of the outputs. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_track_forget (Q' := _) cfgs (dats m) (0 : Fin 1) launch0 defs₀ Variants.nat fgt m ρ main
    (hbody := body_obligation m) (hshare := fun _ w => by unfold Dat.share; split <;> rfl) (howed := fun _ _ => rfl) (V := V m)
    (hmain := hmain m Variants.nat) (hA := fun _ _ => rfl) (hin := fun _ => .rfl) (hout := fun _ => .rfl)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 4 rfl, h.1.arr_in c 5 rfl, h.1.arr_in c 6 rfl, h.1.arr_in c 7 rfl, h.1.arr_in c 8 rfl, h.1.arr_in c 9 rfl, h.1.arr_in c 10 rfl, h.1.arr_in c 11 rfl⟩, h.2⟩) (run_main m ρ)

end Cert.Kernel14Ideal.S5
-- ==== Proof.S5FwdFrame.lean ====
module

public import proofs.«01_k».proof.Proof.Held
public import Idealize.ShloMosaic.Lib.Pipeline.TableIdle
public import proofs.«01_k».proof.Proof.Gen.Kernel15Ideal.Frame
public import proofs.«01_k».proof.Proof.Gen.Kernel15Ideal.Loops

@[expose] public section

set_option maxRecDepth 16384
set_option maxHeartbeats 8000000

noncomputable section

namespace Cert.Kernel15Ideal.S5Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel15Ideal.Gen Cert.Proof.Held
open Idealize.ShloMosaic.Rounds
open Idealize.ShloMosaic.Pipeline (Dat BodyObligationLoose)

variable {F : FTy → Type} [FloatOps F]

/-- The resource algebra of the pipeline's runs. -/
local notation "𝕄G" => MT nD τ sig Unit (Elt F) ℕ (UR sig nD τ) ℕ

variable (m : (ℓ : Loc nD τ sig) → Buf (Elt F) ℓ) (ρ : Dev nD → PrngReg)

/-- What the body is given and gives back: its inputs at given contents, its outputs and its scratch at any. -/
def holds (c : Dev nD) (a1 : Memref sig .tc .vmem S256x512 .bf16) (a2 a3 : Memref sig .tc .vmem S4x128x512 .bf16) (a4 a5 : Memref sig .tc .vmem S4x512x128 .bf16) (a6 : Memref sig .tc .vmem S1x512 .f32) (a7 : Memref sig .tc .vmem S512x512 .bf16) (a8 : Memref sig .tc .vmem S8x8x2048 .f32) (a9 a10 : Memref sig .tc .vmem S256x512 .f32) (a11 a12 : Memref sig .tc .vmem S256x2048 .bf16) (a13 a14 : Memref sig .tc .vmem S256x2048 .f32) (a15 a16 : Memref sig .tc .vmem S8x2048 .f32) (x1 : Vec F S256x512 .bf16) (x2 : Vec F S4x128x512 .bf16) (x3 : Vec F S4x128x512 .bf16) (x4 : Vec F S4x512x128 .bf16) (x5 : Vec F S4x512x128 .bf16) (x6 : Vec F S1x512 .f32) (x7 : Vec F S512x512 .bf16) (x8 : Vec F S8x8x2048 .f32) : sProp 𝕄G :=
  iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ any c a9 ∗ any c a10 ∗ any c a11 ∗ any c a12 ∗ any c a13 ∗ any c a14 ∗ any c a15 ∗ any c a16)

/-- One point of the body: it runs, and gives back what it was given. -/
theorem body_runs (c : Dev nD) (i : grid0.Coords) (a1 : Memref sig .tc .vmem S256x512 .bf16) (a2 a3 : Memref sig .tc .vmem S4x128x512 .bf16) (a4 a5 : Memref sig .tc .vmem S4x512x128 .bf16) (a6 : Memref sig .tc .vmem S1x512 .f32) (a7 : Memref sig .tc .vmem S512x512 .bf16) (a8 : Memref sig .tc .vmem S8x8x2048 .f32) (a9 a10 : Memref sig .tc .vmem S256x512 .f32) (a11 a12 : Memref sig .tc .vmem S256x2048 .bf16) (a13 a14 : Memref sig .tc .vmem S256x2048 .f32) (a15 a16 : Memref sig .tc .vmem S8x2048 .f32) (x1 : Vec F S256x512 .bf16) (x2 : Vec F S4x128x512 .bf16) (x3 : Vec F S4x128x512 .bf16) (x4 : Vec F S4x512x128 .bf16) (x5 : Vec F S4x512x128 .bf16) (x6 : Vec F S1x512 .f32) (x7 : Vec F S512x512 .bf16) (x8 : Vec F S8x8x2048 .f32) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) :
    holds c a1 a2 a3 a4 a5 a6 a7 a8 a9 a10 a11 a12 a13 a14 a15 a16 x1 x2 x3 x4 x5 x6 x7 x8 ⊢ wp frame (wpE (defs₀ (F := F)) Variants.nat c none) Set.univ
      (cc0_s5_fwd (F := F) i a1 h1 a2 h2 a3 h3 a4 h4 a5 h5 a6 h6 a7 h7 a8 h8 a9 h9 a10 h10 a11 h11 a12 h12 a13 h13 a14 h14 a15 h15 a16 h16) (fun _ => holds c a1 a2 a3 a4 a5 a6 a7 a8 a9 a10 a11 a12 a13 a14 a15 a16 x1 x2 x3 x4 x5 x6 x7 x8) := by
  simp only [cc0_s5_fwd_eq_skeleton]; unfold cc0_s5_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold holds
  by_cases p : (Scalar.cmpi .ne (Scalar.extui (Scalar.cmpi .eq (BitVec.ofNat 32 (i 0).val) 0#32 : BitVec 1) : BitVec 32) 0#32 : BitVec 1) = 1#1
  all_goals
    conv => lhs; unfold any owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8
    sl_exec (disch := sl_exact p)
    sl_step
    isplitl [H1]; · iapply (whole_of c a1 h1 x1); iexact H1
    isplitl [H2]; · iapply (whole_of c a2 h2 x2); iexact H2
    isplitl [H3]; · iapply (whole_of c a3 h3 x3); iexact H3
    isplitl [H4]; · iapply (whole_of c a4 h4 x4); iexact H4
    isplitl [H5]; · iapply (whole_of c a5 h5 x5); iexact H5
    isplitl [H6]; · iapply (whole_of c a6 h6 x6); iexact H6
    isplitl [H7]; · iapply (whole_of c a7 h7 x7); iexact H7
    isplitl [H8]; · iapply (whole_of c a8 h8 x8); iexact H8
    isplitl [H9]; · iapply (any_of c a9); iexact H9
    isplitl [H10]; · iapply (any_of c a10); iexact H10
    isplitl [H11]; · iapply (any_of c a11); iexact H11
    isplitl [H12]; · iapply (any_of c a12); iexact H12
    isplitl [H13]; · iapply (any_of c a13); iexact H13
    isplitl [H14]; · iapply (any_of c a14); iexact H14
    isplitl [H15]; · iapply (any_of c a15); iexact H15
    iapply (any_of c a16); iexact H16

/-- The proof data where nothing is said of the outputs: the inputs stay at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨n + 12, h⟩ => absurd h (Nat.not_lt.2 (Nat.le_add_left _ _))
  Φ _ := Pipeline.ΦA spec0 c
  q _ := fullShare
  owed _ := 0

/-- The outputs, of which nothing is said. -/
def fgt (w : Fin cfg0.W) : Bool := decide (8 ≤ w.val)

theorem defs₀_row (t : Fin cfg0.N) : defs₀ (F := F) .tc cfg0.body (cfg0.bodyArgs t (cfg0.slots t)) = bodyAt0 t := by
  unfold defs₀; rw [Defs.onTc_tc]

/-- What the body holds at point `t`. -/
def held (c : Dev nD) (t : Fin cfg0.N) : sProp 𝕄G :=
  iprop(Pipeline.ΦA spec0 c ∗ (dats m 0 c).owesAt () t.castSucc
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ any c (st0_8 t) ∗ any c (st0_9 t) ∗ any c (st0_10 t) ∗ any c (st0_11 t))

theorem sound_body (c : Dev nD) (t : Fin cfg0.N) :
    held m c t ⊢ wp frame (wpE (defs₀ (F := F)) Variants.nat c none) Set.univ (bodyAt0 t) (fun _ => held m c t) := by
  have key := body_runs (F := F) c (grid0.coords t) (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3)
    (iblk m c 0 t) (iblk m c 1 t) (iblk m c 2 t) (iblk m c 3 t) (iblk m c 4 t) (iblk m c 5 t) (iblk m c 6 t) (iblk m c 7 t)
    (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (Memref.isWhole_whole _) (Memref.isWhole_whole _) (Memref.isWhole_whole _) (Memref.isWhole_whole _)
  unfold holds any at key
  unfold held Pipeline.ΦA any
  rw [scopedRest0_eq]
  rw [whole_owned c cc0_scratch0, whole_owned c cc0_scratch1, whole_owned c cc0_scratch2, whole_owned c cc0_scratch3]
  iintro ⟨⟨⟨S0, S1, S2, S3⟩, Hg⟩, Ho, H0, H1, H2, H3, H4, H5, H6, H7, H8, H9, H10, H11⟩
  iapply (wp_wand_r Idealize.ShloMosaic.frame (wpE (defs₀ (F := F)) Variants.nat (c : Thread nD τ) none) Set.univ)
  isplitl [H0 H1 H2 H3 H4 H5 H6 H7 H8 H9 H10 H11 S0 S1 S2 S3]
  · iapply key
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    iexact S3
  · iintro %x Hx
    icases Hx with ⟨H0, H1, H2, H3, H4, H5, H6, H7, H8, H9, H10, H11, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem body_obligation (c : Dev nD) : BodyObligationLoose (dats (F := F) m 0 c) (defs₀ (F := F)) Variants.nat () Set.univ fgt := fun t => by
  rw [bigSep_W0, bigSep_W0, defs₀_row]
  change iprop(Pipeline.ΦA spec0 c ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X)) ⊢ _
  refine BIBase.Entails.trans ?_ ((sound_body m c t).trans (wp_mono _ _ _ fun _ => ?_))
  · unfold held any
    iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11⟩
    rw [before0_0_of m (dats m 0 c) rfl (fun _ => by dsimp only [dats]) t, before0_1_of m (dats m 0 c) rfl (fun _ => by dsimp only [dats]) t, before0_2_of m (dats m 0 c) rfl (fun _ => by dsimp only [dats]) t, before0_3_of m (dats m 0 c) rfl (fun _ => by dsimp only [dats]) t, before0_4_of m (dats m 0 c) rfl (fun _ => by dsimp only [dats]) t, before0_5_of m (dats m 0 c) rfl (fun _ => by dsimp only [dats]) t, before0_6_of m (dats m 0 c) rfl (fun _ => by dsimp only [dats]) t, before0_7_of m (dats m 0 c) rfl (fun _ => by dsimp only [dats]) t]
    isplitl [HA]; · iexact HA
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · unfold held any; exact .rfl

set_option backward.isDefEq.respectTransparency.types false in
/-- The run, with nothing said of the outputs. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_track_forget (Q' := _) cfgs (dats m) (0 : Fin 1) launch0 defs₀ Variants.nat fgt m ρ main
    (hbody := body_obligation m) (hshare := fun _ w => by unfold Dat.share; split <;> rfl) (howed := fun _ _ => rfl) (V := V m)
    (hmain := hmain m Variants.nat) (hA := fun _ _ => rfl) (hin := fun _ => .rfl) (hout := fun _ => .rfl)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 4 rfl, h.1.arr_in c 5 rfl, h.1.arr_in c 6 rfl, h.1.arr_in c 7 rfl⟩, h.2⟩) (run_main m ρ)

end Cert.Kernel15Ideal.S5Fwd
-- ==== Proof.ParFwd.lean ====
module

public import proofs.«01_k».proof.Proof.ParRef
public import proofs.«01_k».proof.Proof.Gen.Kernel11Ideal.Frame
public import proofs.«01_k».proof.Proof.Gen.Reference11Ideal.Run
public import proofs.«01_k».proof.Proof.Gen.Reference11Ideal.Read
public import proofs.«01_k».proof.Defs

/-!
# The discretised recurrence parameters and their powers, forward

Each value of the kernel's body is one stage of the reference; the eight powers are the same recursion on both sides.
-/

@[expose] public section

set_option maxRecDepth 16384
set_option maxHeartbeats 4000000

noncomputable section

namespace Cert.Proof.ParFwd

open Idealize.ShloMosaic Idealize.ShloMosaic.TcCoe Idealize.SL.Sem Cert.Proof.Reals Cert.Proof.Mats
open Cert.Kernel11Ideal Cert.Kernel11Ideal.Gen
open Cert.Reference11Ideal.Read
open Cert.Proof.ParRef (col tr col_ix2 tr_ix3)

/-! ## The powers -/

/-- The real and imaginary parts of the power `n + 1` of `a + b i`, one factor after another. -/
def pw (a b : EReal) : ℕ → EReal × EReal
  | 0 => (a, b)
  | n + 1 => ((pw a b n).1 * a - (pw a b n).2 * b, (pw a b n).1 * b + (pw a b n).2 * a)

section Powers

variable (A B : S32x64.Idx → EReal)

def re (n : ℕ) : S32x64.Idx → EReal := fun j => (pw (A j) (B j) n).1
def im (n : ℕ) : S32x64.Idx → EReal := fun j => (pw (A j) (B j) n).2
/-- A matrix with a unit axis before it. -/
def row (f : S32x64.Idx → EReal) : S1x32x64.Idx → EReal := fun j => f (ix2 (j 1) (j 2))
/-- Eight matrices one above the other. -/
def stack (f : ℕ → S32x64.Idx → EReal) : S8x32x64.Idx → EReal := fun j => f (j 0).val (ix2 (j 1) (j 2))

theorem pay22 : k0_pay22 (F := Ideal) A B = re A B 1 := rfl
theorem pay23 : k0_pay23 (F := Ideal) A B = im A B 1 := rfl
theorem pay26 : k0_pay26 (F := Ideal) A B = re A B 2 := rfl
theorem pay27 : k0_pay27 (F := Ideal) A B = im A B 2 := rfl
theorem pay30 : k0_pay30 (F := Ideal) A B (re A B 2) (im A B 2) = re A B 3 := rfl
theorem pay31 : k0_pay31 (F := Ideal) A B (re A B 2) (im A B 2) = im A B 3 := rfl
theorem pay34 : k0_pay34 (F := Ideal) A B (re A B 2) (im A B 2) = re A B 4 := rfl
theorem pay35 : k0_pay35 (F := Ideal) A B (re A B 2) (im A B 2) = im A B 4 := rfl
theorem pay38 : k0_pay38 (F := Ideal) A B (re A B 2) (im A B 2) = re A B 5 := rfl
theorem pay39 : k0_pay39 (F := Ideal) A B (re A B 2) (im A B 2) = im A B 5 := rfl
theorem pay2 : k0_pay2 (F := Ideal) A B (re A B 5) (im A B 5) = re A B 6 := rfl
theorem pay3 : k0_pay3 (F := Ideal) A B (re A B 5) (im A B 5) = im A B 6 := rfl
theorem pay20 : k0_pay20 (F := Ideal) A = row (re A B 0) := by
  funext j; idx_vars j; unfold k0_pay20; pointwise; rfl
theorem pay21 : k0_pay21 (F := Ideal) B = row (im A B 0) := by
  funext j; idx_vars j; unfold k0_pay21; pointwise; rfl
theorem pay24 : k0_pay24 (F := Ideal) A B = row (re A B 1) := by
  funext j; idx_vars j; unfold k0_pay24; rw [pay22]; pointwise; rfl
theorem pay25 : k0_pay25 (F := Ideal) A B = row (im A B 1) := by
  funext j; idx_vars j; unfold k0_pay25; rw [pay23]; pointwise; rfl
theorem pay28 : k0_pay28 (F := Ideal) A B = row (re A B 2) := by
  funext j; idx_vars j; unfold k0_pay28; rw [pay26]; pointwise; rfl
theorem pay29 : k0_pay29 (F := Ideal) (im A B 2) = row (im A B 2) := by
  funext j; idx_vars j; unfold k0_pay29; pointwise; rfl
theorem pay32 : k0_pay32 (F := Ideal) A B (re A B 2) (im A B 2) = row (re A B 3) := by
  funext j; idx_vars j; unfold k0_pay32; rw [pay30]; pointwise; rfl
theorem pay33 : k0_pay33 (F := Ideal) A B (re A B 2) (im A B 2) = row (im A B 3) := by
  funext j; idx_vars j; unfold k0_pay33; rw [pay31]; pointwise; rfl
theorem pay36 : k0_pay36 (F := Ideal) A B (re A B 2) (im A B 2) = row (re A B 4) := by
  funext j; idx_vars j; unfold k0_pay36; rw [pay34]; pointwise; rfl
theorem pay37 : k0_pay37 (F := Ideal) A B (re A B 2) (im A B 2) = row (im A B 4) := by
  funext j; idx_vars j; unfold k0_pay37; rw [pay35]; pointwise; rfl
theorem pay40 : k0_pay40 (F := Ideal) A B (re A B 2) (im A B 2) = row (re A B 5) := by
  funext j; idx_vars j; unfold k0_pay40; rw [pay38]; pointwise; rfl
theorem pay1 : k0_pay1 (F := Ideal) (im A B 5) = row (im A B 5) := by
  funext j; idx_vars j; unfold k0_pay1; pointwise; rfl
theorem pay4 : k0_pay4 (F := Ideal) A B (re A B 5) (im A B 5) = row (re A B 6) := by
  funext j; idx_vars j; unfold k0_pay4; rw [pay2]; pointwise; rfl
theorem pay5 : k0_pay5 (F := Ideal) A B (re A B 5) (im A B 5) = row (im A B 6) := by
  funext j; idx_vars j; unfold k0_pay5; rw [pay3]; pointwise; rfl
theorem pay6 : k0_pay6 (F := Ideal) A B (re A B 5) (im A B 5) = row (re A B 7) := by
  funext j; idx_vars j; unfold k0_pay6; rw [pay2, pay3]; pointwise; rfl
theorem pay7 : k0_pay7 (F := Ideal) A B (re A B 5) (im A B 5) = row (im A B 7) := by
  funext j; idx_vars j; unfold k0_pay7; rw [pay2, pay3]; pointwise; rfl

/-- A stored matrix is the stack's at its place. -/
theorem piece (f : ℕ → S32x64.Idx → EReal) {n : ℕ} {h} (x : S1x32x64.Idx) :
    row (f n) x = stack f ((Rect.unit (s := S8x32x64) ![n, 0, 0] S1x32x64.size h).emb x) := by
  have e := fun a => Rect.idx_unit_val (s := S8x32x64) ![n, 0, 0] S1x32x64.size h x a
  have h0 : (x 0).val < 1 := (x 0).isLt
  have e0 := (e 0).trans (show n + (x 0).val = n by omega)
  simp only [row, stack]
  erw [e0]
  refine congrArg (f n) (funext fun a => Fin.ext ?_)
  match a with
  | ⟨0, _⟩ => exact ((e 1).trans (Nat.zero_add _)).symm
  | ⟨1, _⟩ => exact ((e 2).trans (Nat.zero_add _)).symm

/-- An index of the stack lies in the matrix its first coordinate names. -/
theorem mem_piece (y : S8x32x64.Idx) {n : ℕ} {h} (hy : (y 0).val = n) :
    y ∈ (Rect.unit (s := S8x32x64) ![n, 0, 0] S1x32x64.size h).set := by
  have h1 : (y 1).val < 32 := (y 1).isLt
  have h2 : (y 2).val < 64 := (y 2).isLt
  rw [Rect.mem_set_unit]
  intro a
  match a with
  | ⟨0, _⟩ => exact ⟨le_of_eq hy.symm, by show (y 0).val < n + 1; omega⟩
  | ⟨1, _⟩ => exact ⟨Nat.zero_le _, by show (y 1).val < 0 + 32; omega⟩
  | ⟨2, _⟩ => exact ⟨Nat.zero_le _, by show (y 2).val < 0 + 64; omega⟩

theorem pieces (f : ℕ → S32x64.Idx → EReal) (y : S8x32x64.Idx) : View.canon (Val := Elt Ideal) (s := S8x32x64) (e := .f32)
    [⟨r0_10, row (f 7)⟩, ⟨r0_9, row (f 6)⟩, ⟨r0_8, row (f 5)⟩, ⟨r0_7, row (f 4)⟩, ⟨r0_6, row (f 3)⟩, ⟨r0_5, row (f 2)⟩,
      ⟨r0_4, row (f 1)⟩, ⟨r0_3, row (f 0)⟩] y = stack f y := by
  refine (View.canon_apply_of_pieces (stack f) _ ?_ _ ?_).trans rfl
  · simp only [List.mem_cons, List.not_mem_nil, or_false, forall_eq_or_imp, forall_eq]
    exact ⟨piece f, piece f, piece f, piece f, piece f, piece f, piece f, piece f⟩
  · have h0 : (y 0).val < 8 := (y 0).isLt
    simp only [List.mem_cons, List.not_mem_nil, or_false, exists_eq_or_imp, exists_eq_left]
    have : (y 0).val = 7 ∨ (y 0).val = 6 ∨ (y 0).val = 5 ∨ (y 0).val = 4 ∨ (y 0).val = 3 ∨ (y 0).val = 2 ∨ (y 0).val = 1 ∨
      (y 0).val = 0 := by omega
    rcases this with e | e | e | e | e | e | e | e
    · exact Or.inl (mem_piece y e)
    · exact Or.inr (Or.inl (mem_piece y e))
    · exact Or.inr (Or.inr (Or.inl (mem_piece y e)))
    · exact Or.inr (Or.inr (Or.inr (Or.inl (mem_piece y e))))
    · exact Or.inr (Or.inr (Or.inr (Or.inr (Or.inl (mem_piece y e)))))
    · exact Or.inr (Or.inr (Or.inr (Or.inr (Or.inr (Or.inl (mem_piece y e))))))
    · exact Or.inr (Or.inr (Or.inr (Or.inr (Or.inr (Or.inr (Or.inl (mem_piece y e)))))))
    · exact Or.inr (Or.inr (Or.inr (Or.inr (Or.inr (Or.inr (Or.inr (mem_piece y e)))))))

end Powers

/-! ## The stages -/

section Stages

variable (x0 x1 : S32x64.Idx → EReal) (x2 : S32.Idx → EReal) (x3 x4 : S32x64x16.Idx → EReal)

theorem pay8 (x : S16x32x64.Idx → EReal) : k0_pay8 (F := Ideal) x = x := by
  funext j; idx_vars j; unfold k0_pay8; pointwise
theorem pay9 (x : S16x32x64.Idx → EReal) : k0_pay9 (F := Ideal) x = x := by
  funext j; idx_vars j; unfold k0_pay9; pointwise
theorem pay10 : k0_pay10 (F := Ideal) (col x2) = val_main_v1 (F := Ideal) x2 := by
  funext j; idx_vars j; unfold k0_pay10
  unfold val_main_v1 val_main_v0
  pointwise
  simp only [col_ix2, tr_ix3]
theorem pay11 : k0_pay11 (F := Ideal) x0 (col x2) = val_main_v4 (F := Ideal) x0 x2 := by
  funext j; idx_vars j; unfold k0_pay11; rw [pay10]
  unfold val_main_v4 val_main_v3 val_main_v2
  pointwise
theorem pay12 : k0_pay12 (F := Ideal) x0 x1 (col x2) = val_main_v8 (F := Ideal) x0 x1 x2 := by
  funext j; idx_vars j; unfold k0_pay12; rw [pay10, pay11]
  unfold val_main_v8 val_main_v7 val_main_v6 val_main_v5
  pointwise
theorem pay13 : k0_pay13 (F := Ideal) x0 x1 (col x2) = val_main_v12 (F := Ideal) x0 x1 x2 := by
  funext j; idx_vars j; unfold k0_pay13; rw [pay10, pay11]
  unfold val_main_v12 val_main_v11 val_main_v10 val_main_v9
  pointwise
theorem pay14 : k0_pay14 (F := Ideal) x0 x1 = val_main_v15 (F := Ideal) x0 x1 := by
  funext j; idx_vars j; unfold k0_pay14
  unfold val_main_v15 val_main_v14 val_main_v13
  pointwise
theorem pay15 : k0_pay15 (F := Ideal) x0 x1 (col x2) = val_main_v17 (F := Ideal) x0 x1 x2 := by
  funext j; idx_vars j; unfold k0_pay15; rw [pay12]
  unfold val_main_v17 val_main_v16 val_main_cst
  pointwise
theorem pay16 : k0_pay16 (F := Ideal) x0 x1 (col x2) = val_main_v21 (F := Ideal) x0 x1 x2 := by
  funext j; idx_vars j; unfold k0_pay16; rw [pay13, pay14, pay15]
  unfold val_main_v21 val_main_v20 val_main_v19 val_main_v18
  pointwise
theorem pay17 : k0_pay17 (F := Ideal) x0 x1 (col x2) = val_main_v25 (F := Ideal) x0 x1 x2 := by
  funext j; idx_vars j; unfold k0_pay17; rw [pay13, pay14, pay15]
  unfold val_main_v25 val_main_v24 val_main_v23 val_main_v22
  pointwise
theorem pay18 : k0_pay18 (F := Ideal) x0 x1 (col x2) (tr x3) (tr x4) = val_main_v100 (F := Ideal) x0 x1 x2 x3 x4 := by
  funext j; idx_vars j; unfold k0_pay18; rw [pay8, pay9, pay16, pay17]
  unfold val_main_v100 val_main_v32 val_main_v31 val_main_v30 val_main_v29 val_main_v28 val_main_v27 val_main_v26
  pointwise
  simp only [col_ix2, tr_ix3]
theorem pay19 : k0_pay19 (F := Ideal) x0 x1 (col x2) (tr x3) (tr x4) = val_main_v101 (F := Ideal) x0 x1 x2 x3 x4 := by
  funext j; idx_vars j; unfold k0_pay19; rw [pay8, pay9, pay16, pay17]
  unfold val_main_v101 val_main_v39 val_main_v38 val_main_v37 val_main_v36 val_main_v35 val_main_v34 val_main_v33
  pointwise
  simp only [col_ix2, tr_ix3]

theorem v82 : val_main_v82 (F := Ideal) x0 x1 x2 = row (re (val_main_v8 (F := Ideal) x0 x1 x2) (val_main_v12 (F := Ideal) x0 x1 x2) 0) := by
  funext j; idx_vars j; unfold val_main_v82; pointwise; rfl
theorem v91 : val_main_v91 (F := Ideal) x0 x1 x2 = row (im (val_main_v8 (F := Ideal) x0 x1 x2) (val_main_v12 (F := Ideal) x0 x1 x2) 0) := by
  funext j; idx_vars j; unfold val_main_v91; pointwise; rfl
theorem v42 : val_main_v42 (F := Ideal) x0 x1 x2 = re (val_main_v8 (F := Ideal) x0 x1 x2) (val_main_v12 (F := Ideal) x0 x1 x2) 1 := by
  unfold val_main_v42 val_main_v40 val_main_v41; rfl
theorem v45 : val_main_v45 (F := Ideal) x0 x1 x2 = im (val_main_v8 (F := Ideal) x0 x1 x2) (val_main_v12 (F := Ideal) x0 x1 x2) 1 := by
  unfold val_main_v45 val_main_v43 val_main_v44; rfl
theorem v83 : val_main_v83 (F := Ideal) x0 x1 x2 = row (re (val_main_v8 (F := Ideal) x0 x1 x2) (val_main_v12 (F := Ideal) x0 x1 x2) 1) := by
  funext j; idx_vars j; unfold val_main_v83; rw [v42]; pointwise; rfl
theorem v92 : val_main_v92 (F := Ideal) x0 x1 x2 = row (im (val_main_v8 (F := Ideal) x0 x1 x2) (val_main_v12 (F := Ideal) x0 x1 x2) 1) := by
  funext j; idx_vars j; unfold val_main_v92; rw [v45]; pointwise; rfl
theorem v48 : val_main_v48 (F := Ideal) x0 x1 x2 = re (val_main_v8 (F := Ideal) x0 x1 x2) (val_main_v12 (F := Ideal) x0 x1 x2) 2 := by
  unfold val_main_v48 val_main_v46 val_main_v47; rw [v42, v45]; rfl
theorem v51 : val_main_v51 (F := Ideal) x0 x1 x2 = im (val_main_v8 (F := Ideal) x0 x1 x2) (val_main_v12 (F := Ideal) x0 x1 x2) 2 := by
  unfold val_main_v51 val_main_v49 val_main_v50; rw [v42, v45]; rfl
theorem v84 : val_main_v84 (F := Ideal) x0 x1 x2 = row (re (val_main_v8 (F := Ideal) x0 x1 x2) (val_main_v12 (F := Ideal) x0 x1 x2) 2) := by
  funext j; idx_vars j; unfold val_main_v84; rw [v48]; pointwise; rfl
theorem v93 : val_main_v93 (F := Ideal) x0 x1 x2 = row (im (val_main_v8 (F := Ideal) x0 x1 x2) (val_main_v12 (F := Ideal) x0 x1 x2) 2) := by
  funext j; idx_vars j; unfold val_main_v93; rw [v51]; pointwise; rfl
theorem v54 : val_main_v54 (F := Ideal) x0 x1 x2 = re (val_main_v8 (F := Ideal) x0 x1 x2) (val_main_v12 (F := Ideal) x0 x1 x2) 3 := by
  unfold val_main_v54 val_main_v52 val_main_v53; rw [v48, v51]; rfl
theorem v57 : val_main_v57 (F := Ideal) x0 x1 x2 = im (val_main_v8 (F := Ideal) x0 x1 x2) (val_main_v12 (F := Ideal) x0 x1 x2) 3 := by
  unfold val_main_v57 val_main_v55 val_main_v56; rw [v48, v51]; rfl
theorem v85 : val_main_v85 (F := Ideal) x0 x1 x2 = row (re (val_main_v8 (F := Ideal) x0 x1 x2) (val_main_v12 (F := Ideal) x0 x1 x2) 3) := by
  funext j; idx_vars j; unfold val_main_v85; rw [v54]; pointwise; rfl
theorem v94 : val_main_v94 (F := Ideal) x0 x1 x2 = row (im (val_main_v8 (F := Ideal) x0 x1 x2) (val_main_v12 (F := Ideal) x0 x1 x2) 3) := by
  funext j; idx_vars j; unfold val_main_v94; rw [v57]; pointwise; rfl
theorem v60 : val_main_v60 (F := Ideal) x0 x1 x2 = re (val_main_v8 (F := Ideal) x0 x1 x2) (val_main_v12 (F := Ideal) x0 x1 x2) 4 := by
  unfold val_main_v60 val_main_v58 val_main_v59; rw [v54, v57]; rfl
theorem v63 : val_main_v63 (F := Ideal) x0 x1 x2 = im (val_main_v8 (F := Ideal) x0 x1 x2) (val_main_v12 (F := Ideal) x0 x1 x2) 4 := by
  unfold val_main_v63 val_main_v61 val_main_v62; rw [v54, v57]; rfl
theorem v86 : val_main_v86 (F := Ideal) x0 x1 x2 = row (re (val_main_v8 (F := Ideal) x0 x1 x2) (val_main_v12 (F := Ideal) x0 x1 x2) 4) := by
  funext j; idx_vars j; unfold val_main_v86; rw [v60]; pointwise; rfl
theorem v95 : val_main_v95 (F := Ideal) x0 x1 x2 = row (im (val_main_v8 (F := Ideal) x0 x1 x2) (val_main_v12 (F := Ideal) x0 x1 x2) 4) := by
  funext j; idx_vars j; unfold val_main_v95; rw [v63]; pointwise; rfl
theorem v66 : val_main_v66 (F := Ideal) x0 x1 x2 = re (val_main_v8 (F := Ideal) x0 x1 x2) (val_main_v12 (F := Ideal) x0 x1 x2) 5 := by
  unfold val_main_v66 val_main_v64 val_main_v65; rw [v60, v63]; rfl
theorem v69 : val_main_v69 (F := Ideal) x0 x1 x2 = im (val_main_v8 (F := Ideal) x0 x1 x2) (val_main_v12 (F := Ideal) x0 x1 x2) 5 := by
  unfold val_main_v69 val_main_v67 val_main_v68; rw [v60, v63]; rfl
theorem v87 : val_main_v87 (F := Ideal) x0 x1 x2 = row (re (val_main_v8 (F := Ideal) x0 x1 x2) (val_main_v12 (F := Ideal) x0 x1 x2) 5) := by
  funext j; idx_vars j; unfold val_main_v87; rw [v66]; pointwise; rfl
theorem v96 : val_main_v96 (F := Ideal) x0 x1 x2 = row (im (val_main_v8 (F := Ideal) x0 x1 x2) (val_main_v12 (F := Ideal) x0 x1 x2) 5) := by
  funext j; idx_vars j; unfold val_main_v96; rw [v69]; pointwise; rfl
theorem v72 : val_main_v72 (F := Ideal) x0 x1 x2 = re (val_main_v8 (F := Ideal) x0 x1 x2) (val_main_v12 (F := Ideal) x0 x1 x2) 6 := by
  unfold val_main_v72 val_main_v70 val_main_v71; rw [v66, v69]; rfl
theorem v75 : val_main_v75 (F := Ideal) x0 x1 x2 = im (val_main_v8 (F := Ideal) x0 x1 x2) (val_main_v12 (F := Ideal) x0 x1 x2) 6 := by
  unfold val_main_v75 val_main_v73 val_main_v74; rw [v66, v69]; rfl
theorem v88 : val_main_v88 (F := Ideal) x0 x1 x2 = row (re (val_main_v8 (F := Ideal) x0 x1 x2) (val_main_v12 (F := Ideal) x0 x1 x2) 6) := by
  funext j; idx_vars j; unfold val_main_v88; rw [v72]; pointwise; rfl
theorem v97 : val_main_v97 (F := Ideal) x0 x1 x2 = row (im (val_main_v8 (F := Ideal) x0 x1 x2) (val_main_v12 (F := Ideal) x0 x1 x2) 6) := by
  funext j; idx_vars j; unfold val_main_v97; rw [v75]; pointwise; rfl
theorem v78 : val_main_v78 (F := Ideal) x0 x1 x2 = re (val_main_v8 (F := Ideal) x0 x1 x2) (val_main_v12 (F := Ideal) x0 x1 x2) 7 := by
  unfold val_main_v78 val_main_v76 val_main_v77; rw [v72, v75]; rfl
theorem v81 : val_main_v81 (F := Ideal) x0 x1 x2 = im (val_main_v8 (F := Ideal) x0 x1 x2) (val_main_v12 (F := Ideal) x0 x1 x2) 7 := by
  unfold val_main_v81 val_main_v79 val_main_v80; rw [v72, v75]; rfl
theorem v89 : val_main_v89 (F := Ideal) x0 x1 x2 = row (re (val_main_v8 (F := Ideal) x0 x1 x2) (val_main_v12 (F := Ideal) x0 x1 x2) 7) := by
  funext j; idx_vars j; unfold val_main_v89; rw [v78]; pointwise; rfl
theorem v98 : val_main_v98 (F := Ideal) x0 x1 x2 = row (im (val_main_v8 (F := Ideal) x0 x1 x2) (val_main_v12 (F := Ideal) x0 x1 x2) 7) := by
  funext j; idx_vars j; unfold val_main_v98; rw [v81]; pointwise; rfl
theorem v90 : val_main_v90 (F := Ideal) x0 x1 x2 = stack (re (val_main_v8 (F := Ideal) x0 x1 x2) (val_main_v12 (F := Ideal) x0 x1 x2)) := by
  funext j; idx_vars j; unfold val_main_v90; rw [v82, v83, v84, v85, v86, v87, v88, v89]; pointwise
  fin_cases j0 <;> rfl
theorem v99 : val_main_v99 (F := Ideal) x0 x1 x2 = stack (im (val_main_v8 (F := Ideal) x0 x1 x2) (val_main_v12 (F := Ideal) x0 x1 x2)) := by
  funext j; idx_vars j; unfold val_main_v99; rw [v91, v92, v93, v94, v95, v96, v97, v98]; pointwise
  fin_cases j0 <;> rfl

end Stages

/-! ## The run -/

section Kernel

variable (m : (ℓ : Loc nD τ sig) → Buf (Elt Ideal) ℓ) (c : Dev nD)

theorem at_v0 : V m c main_v0 = (tr (m ((c : Thread nD τ).loc main_arg3)) : S16x32x64.Idx → EReal) := by
  funext j
  idx_vars j
  change StableHlo.after [hostOps0].flatten _ _ _ = _
  simp only [hostOps0, List.flatten_cons, List.flatten_nil, List.append_nil]
  after_results
  pointwise
  rfl
theorem at_v1 : V m c main_v1 = (tr (m ((c : Thread nD τ).loc main_arg4)) : S16x32x64.Idx → EReal) := by
  funext j
  idx_vars j
  change StableHlo.after [hostOps0].flatten _ _ _ = _
  simp only [hostOps0, List.flatten_cons, List.flatten_nil, List.append_nil]
  after_results
  pointwise
  rfl
theorem at_v2 : V m c main_v2 = (col (m ((c : Thread nD τ).loc main_arg2)) : S32x1.Idx → EReal) := by
  funext j
  idx_vars j
  change StableHlo.after [hostOps0].flatten _ _ _ = _
  simp only [hostOps0, List.flatten_cons, List.flatten_nil, List.append_nil]
  after_results
  pointwise
  rfl
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem iblk0 (t : Fin cfg0.N) : iblk m c 0 t = ((m ((c : Thread nD τ).loc main_arg0)) : S32x64.Idx → EReal) := by
  funext y
  change V m c main_arg0 (((cfg0.win 0).blk t).view.emb y) = _
  rw [show ((cfg0.win 0).blk t).view.emb y = y by blk_ext [idx0 t], V_main_arg0 m c]
theorem iblk1 (t : Fin cfg0.N) : iblk m c 1 t = ((m ((c : Thread nD τ).loc main_arg1)) : S32x64.Idx → EReal) := by
  funext y
  change V m c main_arg1 (((cfg0.win 1).blk t).view.emb y) = _
  rw [show ((cfg0.win 1).blk t).view.emb y = y by blk_ext [idx1 t], V_main_arg1 m c]
theorem iblk2 (t : Fin cfg0.N) : iblk m c 2 t = (col (m ((c : Thread nD τ).loc main_arg2)) : S32x1.Idx → EReal) := by
  funext y
  change V m c main_v2 (((cfg0.win 2).blk t).view.emb y) = _
  rw [show ((cfg0.win 2).blk t).view.emb y = y by blk_ext [idx2 t], at_v2 m c]
theorem iblk3 (t : Fin cfg0.N) : iblk m c 3 t = (tr (m ((c : Thread nD τ).loc main_arg3)) : S16x32x64.Idx → EReal) := by
  funext y
  change V m c main_v0 (((cfg0.win 3).blk t).view.emb y) = _
  rw [show ((cfg0.win 3).blk t).view.emb y = y by blk_ext [idx3 t], at_v0 m c]
theorem iblk4 (t : Fin cfg0.N) : iblk m c 4 t = (tr (m ((c : Thread nD τ).loc main_arg4)) : S16x32x64.Idx → EReal) := by
  funext y
  change V m c main_v1 (((cfg0.win 4).blk t).view.emb y) = _
  rw [show ((cfg0.win 4).blk t).view.emb y = y by blk_ext [idx4 t], at_v1 m c]

/-- The run: what the four results hold, and that the arguments are as launched. -/
theorem run (ρ : Dev nD → PrngReg) :
    θ_run defs (onTc (τ := τ) (main (F := Ideal))) ⟨m, fun _ => 0, ρ⟩ fun r => ∀ c : Dev nD,
      r.2.mem ((c : Thread nD τ).loc main_v3_0) = (dats m 0 c).arrAt 5 cfg0.N ∧
      r.2.mem ((c : Thread nD τ).loc main_v3_1) = (dats m 0 c).arrAt 6 cfg0.N ∧
      r.2.mem ((c : Thread nD τ).loc main_v3_2) = (dats m 0 c).arrAt 7 cfg0.N ∧
      r.2.mem ((c : Thread nD τ).loc main_v3_3) = (dats m 0 c).arrAt 8 cfg0.N ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) :=
  (θ_run defs _ _).mono (fun r h c => ⟨(h c).1 5, (h c).1 6, (h c).1 7, (h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

theorem final5 : (dats m 0 c).arrAt 5 cfg0.N = val_main_v90 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  rw [show ((cfg0.win 5).blk t).view.emb y = y by blk_ext [idx5 t]]
  blk_simp
  rw [after0_5]
  rw [iblk0, iblk1, iblk2, iblk3, iblk4]
  unfold_out out0_5
  frame_out
  rw [pay12, pay13, pay26, pay27, pay38, pay39, pay6, pay4, pay40, pay36, pay32, pay28, pay24, pay20 _ (val_main_v12 (F := Ideal) _ _ _), v90]
  exact pieces _ y
theorem final6 : (dats m 0 c).arrAt 6 cfg0.N = val_main_v99 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  rw [show ((cfg0.win 6).blk t).view.emb y = y by blk_ext [idx6 t]]
  blk_simp
  rw [after0_6]
  rw [iblk0, iblk1, iblk2, iblk3, iblk4]
  unfold_out out0_6
  frame_out
  rw [pay12, pay13, pay26, pay27, pay38, pay39, pay7, pay5, pay1, pay37, pay33, pay29, pay25, pay21 (val_main_v8 (F := Ideal) _ _ _), v99]
  exact pieces _ y
theorem final7 : (dats m 0 c).arrAt 7 cfg0.N = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  rw [show ((cfg0.win 7).blk t).view.emb y = y by blk_ext [idx7 t]]
  blk_simp
  rw [after0_7]
  rw [iblk0, iblk1, iblk2, iblk3, iblk4]
  unfold_out out0_7
  frame_out
  rw [pay18]
theorem final8 : (dats m 0 c).arrAt 8 cfg0.N = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  rw [show ((cfg0.win 8).blk t).view.emb y = y by blk_ext [idx8 t]]
  blk_simp
  rw [after0_8]
  rw [iblk0, iblk1, iblk2, iblk3, iblk4]
  unfold_out out0_8
  frame_out
  rw [pay19]

end Kernel

/-- The kernel and the forward lines end with equal arrays. -/
theorem algebraic : Cert.algebraic_Kernel11Ideal_Reference11Ideal := by
  intro m g m' g' _ hagree
  refine ⟨fun c => (dats m 0 c).arrAt 5 cfg0.N, fun c => (dats m 0 c).arrAt 6 cfg0.N, fun c => (dats m 0 c).arrAt 7 cfg0.N,
    fun c => (dats m 0 c).arrAt 8 cfg0.N, run m g, ?_⟩
  refine (θ_run _ _ _).mono (fun r h c => ?_) (Cert.Reference11Ideal.Value.run m' g')
  obtain ⟨a0, a1, a2, a3, a4⟩ := hagree c
  obtain ⟨r0, r1, r2, r3, k⟩ := h c
  refine ⟨?_, ?_, ?_, ?_, k⟩
  · refine (r0.trans (Cert.Reference11Ideal.Read.val_main_v90_eq _)).trans ?_
    change val_main_v90 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) = _
    rw [a0, a1, a2]
    exact (final5 m c).symm
  · refine (r1.trans (Cert.Reference11Ideal.Read.val_main_v99_eq _)).trans ?_
    change val_main_v99 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) = _
    rw [a0, a1, a2]
    exact (final6 m c).symm
  · refine (r2.trans (Cert.Reference11Ideal.Read.val_main_v100_eq _)).trans ?_
    change val_main_v100 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) = _
    rw [a0, a1, a2, a3, a4]
    exact (final7 m c).symm
  · refine (r3.trans (Cert.Reference11Ideal.Read.val_main_v101_eq _)).trans ?_
    change val_main_v101 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) = _
    rw [a0, a1, a2, a3, a4]
    exact (final8 m c).symm

end Cert.Proof.ParFwd

end
-- ==== Proof.FfnFwd.lean ====
module

public import proofs.«01_k».proof.Proof.ProjFwd
public import proofs.«01_k».proof.Proof.Gate
public import proofs.«01_k».proof.Proof.Gen.Kernel12Ideal.Value
public import proofs.«01_k».proof.Proof.Gen.Reference12Ideal.Run
public import proofs.«01_k».proof.Proof.Gen.Reference12Ideal.Read
public import proofs.«01_k».proof.Defs

/-!
# The feed-forward block, forward

The kernel works on weights widened by zero columns and adds the last product in four parts. The columns of
zeros contribute nothing, whatever the other entries are, so no finiteness is needed.
-/

@[expose] public section

set_option maxRecDepth 16384

noncomputable section

namespace Cert.Proof.FfnFwd

open Idealize.ShloMosaic Idealize.ShloMosaic.TcCoe Idealize.SL.Sem Cert.Proof.Reals Cert.Proof.Mats Cert.Proof.Conv Cert.Proof.ProjFwd
  Cert.Proof.Gate

/-- The gate times the other branch. -/
def gt (a b : EReal) : EReal := a * Ideal.logistic a * b

/-- A product of two arrays with 1024 inner places. -/
def mm (h W : ℕ → ℕ → EReal) (i k : ℕ) : EReal := ∑ l : Fin 1024, h i l * W l k

/-- Eight blocks of 344 columns, each widened by zeros to 384. -/
def wc (W : ℕ → ℕ → EReal) (k l : ℕ) : EReal := if l % 384 < 344 then W k (l / 384 * 344 + l % 384) else 0

/-- The same for rows. -/
def wr (W : ℕ → ℕ → EReal) (l k : ℕ) : EReal := if l % 384 < 344 then W (l / 384 * 344 + l % 384) k else 0

/-- An array with one leading place. -/
def arr1 {a b : ℕ} (f : ℕ → ℕ → EReal) : (⟨3, ![1, a, b]⟩ : Shape).Idx → EReal := fun j => f (j 1).val (j 2).val

theorem ld_arr1 {a b q r : ℕ} (f : ℕ → ℕ → EReal) (o : Fin 3 → ℕ)
    (h : ∀ x, o x + (![1, q, r] : Fin 3 → ℕ) x ≤ (⟨3, ![1, a, b]⟩ : Shape).size x) :
    View.ld (Val := Elt Ideal) (S := ⟨3, ![1, a, b]⟩) (e' := .bf16) (arr1 f) (Rect.unit (s := ⟨3, ![1, a, b]⟩) o ![1, q, r] h) =
      (arr1 fun i k => f (o 1 + i) (o 2 + k) : (⟨3, ![1, q, r]⟩ : Shape).Idx → EReal) :=
  funext fun j => congrArg₂ f (Rect.idx_unit_val (s := ⟨3, ![1, a, b]⟩) o _ h j 1) (Rect.idx_unit_val (s := ⟨3, ![1, a, b]⟩) o _ h j 2)

theorem mm_wc (h W : ℕ → ℕ → EReal) (i k : ℕ) : mm h (wc W) i k = wc (mm h W) i k := by
  unfold mm wc
  split_ifs
  · rfl
  · simp

/-- The sum over the widened columns, in four parts. -/
theorem four (h A B W : ℕ → ℕ → EReal) (i k : ℕ) :
    0 + ∑ l : Fin 768, gt (mm h (wc A) i l) (mm h (wc B) i l) * wr W l k +
        ∑ l : Fin 768, gt (mm h (wc A) i (768 + l)) (mm h (wc B) i (768 + l)) * wr W (768 + l) k +
        ∑ l : Fin 768, gt (mm h (wc A) i (1536 + l)) (mm h (wc B) i (1536 + l)) * wr W (1536 + l) k +
        ∑ l : Fin 768, gt (mm h (wc A) i (2304 + l)) (mm h (wc B) i (2304 + l)) * wr W (2304 + l) k =
      ∑ l : Fin 2752, gt (mm h A i l) (mm h B i l) * W l k := by
  have e : ∀ l : ℕ, gt (mm h (wc A) i l) (mm h (wc B) i l) * wr W l k =
      if l % 384 < 344 then gt (mm h A i (l / 384 * 344 + l % 384)) (mm h B i (l / 384 * 344 + l % 384)) *
        W (l / 384 * 344 + l % 384) k else 0 := fun l => by
    rw [mm_wc, mm_wc]
    unfold wc wr
    split_ifs <;> simp
  refine Eq.trans ?_ (sum_widened fun n => gt (mm h A i n) (mm h B i n) * W n k)
  rw [← Finset.sum_congr rfl fun (l : Fin 3072) _ => e l.val,
    ← sum_blocks 4 768 (fun l => gt (mm h (wc A) i l) (mm h (wc B) i l) * wr W l k) rfl, Fin.sum_univ_four, zero_add]
  refine congrArg₂ _ (congrArg₂ _ (congrArg₂ _ ?_ ?_) ?_) ?_ <;> refine Finset.sum_congr rfl fun l _ => ?_
  · rw [show (0 : Fin 4).val * 768 + l.val = l.val by simp]
  · rw [show (1 : Fin 4).val * 768 + l.val = 768 + l.val by simp]
  · rw [show (2 : Fin 4).val * 768 + l.val = 1536 + l.val by simp]
  · rw [show (3 : Fin 4).val * 768 + l.val = 2304 + l.val by simp]

/-- The result of the block. -/
def out (X : ℕ → ℕ → EReal) (G : ℕ → EReal) (A B W : ℕ → ℕ → EReal) (i k : ℕ) : EReal :=
  X i k + Ideal.ofBits .f32 0x3F000000#32 * ∑ l : Fin 2752, gt (pr X G A i l) (pr X G B i l) * W l k

section Kernel

open Cert.Kernel12Ideal Cert.Kernel12Ideal.Gen

variable (X W W' h p v x : ℕ → ℕ → EReal) (G : ℕ → EReal)

theorem pay1 : k0_pay1 (F := Ideal) (arr X) (arr fun _ => G) = arr (nr X G) := by
  funext j; idx_vars j; unfold k0_pay1; pointwise
  rfl

theorem pay2 : k0_pay2 (F := Ideal) = arr fun _ _ => 0 := by
  funext j; idx_vars j; unfold k0_pay2; pointwise
  rfl

theorem pay3 : k0_pay3 (F := Ideal) (arr X) (arr fun _ => G) (arr1 W) = arr (mm (nr X G) W) := by
  funext j; idx_vars j; unfold k0_pay3; rw [pay1]; pointwise
  rfl

theorem pay4 : k0_pay4 (F := Ideal) (arr X) (arr fun _ => G) (arr1 W) = arr (mm (nr X G) W) := pay3 X W G

theorem pay5 : k0_pay5 (F := Ideal) (arr X) (arr fun _ => G) (arr1 W) = arr (mm (nr X G) W) := pay3 X W G

theorem pay6 : k0_pay6 (F := Ideal) (arr X) (arr fun _ => G) (arr1 W) = arr (mm (nr X G) W) := pay3 X W G

theorem pay7 : k0_pay7 (F := Ideal) (arr X) (arr fun _ => G) (arr1 W) (arr1 W') =
    arr fun i k => gt (mm (nr X G) W i k) (mm (nr X G) W' i k) := by
  funext j; idx_vars j; unfold k0_pay7; rw [pay3, pay4]; pointwise
  rfl

theorem pay8 : k0_pay8 (F := Ideal) (arr1 W) = arr W := by
  funext j; idx_vars j; unfold k0_pay8; pointwise
  rfl

theorem pay9 : k0_pay9 (F := Ideal) (arr h) (arr1 W) = arr (mm h W) := by
  funext j; idx_vars j; unfold k0_pay9; pointwise
  rfl

theorem pay11 : k0_pay11 (F := Ideal) (arr h) (arr1 W) = arr (mm h W) := pay9 W h
theorem pay12 : k0_pay12 (F := Ideal) (arr h) (arr1 W) = arr (mm h W) := pay9 W h
theorem pay14 : k0_pay14 (F := Ideal) (arr h) (arr1 W) = arr (mm h W) := pay9 W h
theorem pay15 : k0_pay15 (F := Ideal) (arr h) (arr1 W) = arr (mm h W) := pay9 W h
theorem pay16 : k0_pay16 (F := Ideal) (arr h) (arr1 W) = arr (mm h W) := pay9 W h
theorem pay17 : k0_pay17 (F := Ideal) (arr h) (arr1 W) = arr (mm h W) := pay9 W h
theorem pay20 : k0_pay20 (F := Ideal) (arr h) (arr1 W) = arr (mm h W) := pay9 W h
theorem pay21 : k0_pay21 (F := Ideal) (arr h) (arr1 W) = arr (mm h W) := pay9 W h

theorem pay13 : k0_pay13 (F := Ideal) (arr h) (arr p) (arr v) (arr x) (constant S512x1024 .f32 0x00000000#32) (arr1 W) (arr1 W') (arr1 X) =
    arr fun i k => p i k + (∑ l : Fin 768, v i l * x l k) + ∑ l : Fin 768, gt (mm h W i l) (mm h W' i l) * X l k := by
  funext j; idx_vars j; unfold k0_pay13
  rw [show k0_pay10 (F := Ideal) (arr h) (arr1 W') = arr (mm h W') from pay9 W' h, pay9]; pointwise
  rfl

variable (a b w z : ℕ → ℕ → EReal)

theorem pay22 : k0_pay22 (F := Ideal) (arr x) (arr h) (arr p) (arr a) (arr b) (arr1 w) (arr1 W) (arr1 W') (arr1 z) =
    arr fun i k => x i k + Ideal.ofBits .f32 0x3F000000#32 * (p i k + (∑ l : Fin 768, gt (a i l) (b i l) * w l k) +
      ∑ l : Fin 768, gt (mm h W i l) (mm h W' i l) * z l k) := by
  funext j; idx_vars j; unfold k0_pay22
  rw [show k0_pay18 (F := Ideal) (arr h) (arr1 W) = arr (mm h W) from pay9 W h,
    show k0_pay19 (F := Ideal) (arr h) (arr1 W') = arr (mm h W') from pay9 W' h]; pointwise
  rfl

variable (m : (ℓ : Loc nD τ sig) → Buf (Elt Ideal) ℓ) (c : Dev nD)

def aX : ℕ → ℕ → EReal := tot (m ((c : Thread nD τ).loc main_arg0) : S4096x1024.Idx → EReal)
def aG : ℕ → EReal := totv (m ((c : Thread nD τ).loc main_arg1) : S1024.Idx → EReal)
def aA : ℕ → ℕ → EReal := tot (m ((c : Thread nD τ).loc main_arg2) : S1024x2752.Idx → EReal)
def aB : ℕ → ℕ → EReal := tot (m ((c : Thread nD τ).loc main_arg3) : S1024x2752.Idx → EReal)
def aW : ℕ → ℕ → EReal := tot (m ((c : Thread nD τ).loc main_arg4) : S2752x1024.Idx → EReal)

theorem zero_pad (i : S_.Idx) : sitofp (F := Ideal) FTy.f32 (constantI S_ 32 0#32) i = 0 := by
  simp [sitofp, FloatOps.sitofp, constantI]

theorem at_gain : V m c main_v13 = (arr fun _ => aG m c : S1x1024.Idx → EReal) := by
  funext j
  idx_vars j
  change StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil,
    List.append_nil, List.cons_append, List.nil_append]
  after_results
  pointwise
  exact totv_eq (a := 1024) _ _ rfl

theorem at_down : V m c main_v12 = (arr1 (wr (aW m c)) : S1x3072x1024.Idx → EReal) := by
  funext j
  idx_vars j
  change StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil,
    List.append_nil, List.cons_append, List.nil_append]
  after_results
  pointwise
  refine pad_rows_e (aW m c) _ (fun i => ?_) _ zero_pad pads_S8x344x1024_S8x384x1024_000_0400_000 h_S_
    ⟨j1.val / 384, by omega⟩ ⟨j1.val % 384, by omega⟩ j2
  exact tot_eq (a := 2752) (b := 1024) _ _ rfl rfl

theorem at_up : V m c main_v16 = (fun j => wc (if (j 0).val = 0 then aA m c else aB m c) (j 1).val (j 2).val : S2x1024x3072.Idx → EReal) := by
  funext j
  idx_vars j
  change StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil,
    List.append_nil, List.cons_append, List.nil_append]
  after_results
  pointwise
  change _ = wc (if j0.val = 0 then aA m c else aB m c) j1.val j2.val
  split_ifs <;> first
    | (exfalso; omega)
    | (refine pad_cols_e (aA m c) _ (fun i => ?_) _ zero_pad pads_S1024x8x344_S1024x8x384_000_000_0400 h_S_ j1
        ⟨j2.val / 384, by omega⟩ ⟨j2.val % 384, by omega⟩
       exact tot_eq (a := 1024) (b := 2752) _ _ rfl rfl)
    | (refine pad_cols_e (aB m c) _ (fun i => ?_) _ zero_pad pads_S1024x8x344_S1024x8x384_000_000_0400 h_S_ j1
        ⟨j2.val / 384, by omega⟩ ⟨j2.val % 384, by omega⟩
       exact tot_eq (a := 1024) (b := 2752) _ _ rfl rfl)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![1, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem iblk0 (t : Fin cfg0.N) : iblk m c 0 t = arr fun i k => aX m c (t.val * 512 + i) k := by
  funext y
  blk_simp [iblk]
  rw [V_main_arg0]
  refine tot_eq (a := 4096) (b := 1024) _ _ ?_ ?_ <;> simp [idx0 t]
theorem iblk1 (t : Fin cfg0.N) : iblk m c 1 t = arr fun _ => aG m c := by
  funext y
  blk_simp [iblk]
  rw [at_gain]
  simp [arr, idx1 t]
theorem iblk2 (t : Fin cfg0.N) : iblk m c 2 t = arr1 (wc (aA m c)) := by
  funext y
  blk_simp [iblk]
  rw [at_up]
  have h0 : (y 0).val = 0 := by have : (y 0).val < 1 := (y 0).isLt; omega
  simp [arr1, idx2 t, h0]
theorem iblk3 (t : Fin cfg0.N) : iblk m c 3 t = arr1 (wc (aB m c)) := by
  funext y
  blk_simp [iblk]
  rw [at_up]
  have h0 : (y 0).val = 0 := by have : (y 0).val < 1 := (y 0).isLt; omega
  simp [arr1, idx3 t, h0]
theorem iblk4 (t : Fin cfg0.N) : iblk m c 4 t = arr1 (wr (aW m c)) := by
  funext y
  blk_simp [iblk]
  rw [at_down]
  simp [arr1, idx4 t]

theorem emb5 (t : Fin cfg0.N) (y : S512x1024.Idx) : ((cfg0.win 5).blk t).view.emb y =
    ix2 ⟨t.val * 512 + (y 0).val, by have h : (y 0).val < 512 := (y 0).isLt; have := t.isLt.trans_eq N_0; omega⟩ (y 1) := by
  blk_ext [idx5 t]
theorem emb6 (t : Fin cfg0.N) (y : S512x3072.Idx) : ((cfg0.win 6).blk t).view.emb y =
    ix2 ⟨t.val * 512 + (y 0).val, by have h : (y 0).val < 512 := (y 0).isLt; have := t.isLt.trans_eq N_0; omega⟩ (y 1) := by
  blk_ext [idx6 t]
theorem emb7 (t : Fin cfg0.N) (y : S512x3072.Idx) : ((cfg0.win 7).blk t).view.emb y =
    ix2 ⟨t.val * 512 + (y 0).val, by have h : (y 0).val < 512 := (y 0).isLt; have := t.isLt.trans_eq N_0; omega⟩ (y 1) := by
  blk_ext [idx7 t]

/-- The block's result after the run. -/
theorem final5 : (dats m 0 c).arrAt 5 cfg0.N = (arr (out (aX m c) (aG m c) (aA m c) (aB m c) (aW m c)) : S4096x1024.Idx → EReal) := by
  refine (dats m 0 c).arrAt_eq_of_covers 5 _ (by decide +kernel) fun t hf y => ?_
  rw [emb5 t y]
  blk_simp
  rw [after0_5, iblk0, iblk1, iblk2, iblk3, iblk4]
  unfold out0_5
  frame_out
  unfold k0_pay23
  erw [ld_arr, ld_arr]
  erw [ld_arr1, ld_arr1, ld_arr1, ld_arr1, ld_arr1, ld_arr1, ld_arr1, ld_arr1, ld_arr1, ld_arr1, ld_arr1, ld_arr1]
  rw [pay1, pay2, pay7, pay8, pay13, pay14, pay15, pay22]
  simp only [Matrix.cons_val, Nat.zero_add]
  exact congrArg (fun z => aX m c (t.val * 512 + (y 0).val) (y 1).val + Ideal.ofBits .f32 0x3F000000#32 * z)
    (four (nr (fun i k => aX m c (t.val * 512 + i) k) (aG m c)) (aA m c) (aB m c) (aW m c) (y 0).val (y 1).val)

/-- The gate's product after the run. -/
theorem final6 : (dats m 0 c).arrAt 6 cfg0.N = (arr (mm (nr (aX m c) (aG m c)) (wc (aA m c))) : S4096x3072.Idx → EReal) := by
  refine (dats m 0 c).arrAt_eq_of_covers 6 _ (by decide +kernel) fun t hf y => ?_
  rw [emb6 t y]
  blk_simp
  rw [after0_6, iblk0, iblk1, iblk2, iblk3, iblk4]
  unfold out0_6
  frame_out
  unfold k0_pay23
  erw [ld_arr, ld_arr, ld_arr1, ld_arr1, ld_arr1, ld_arr1]
  rw [pay1, pay5, pay11, pay16, pay20]
  refine (View.canon_apply_of_pieces (arr fun i k => mm (nr (aX m c) (aG m c)) (wc (aA m c)) (t.val * 512 + i) k) _ ?_ _ ?_).trans rfl
  · simp only [List.mem_cons, List.not_mem_nil, or_false, forall_eq_or_imp, forall_eq]
    refine ⟨piece_arr fun i k hi hk => ?_, piece_arr fun i k hi hk => ?_, piece_arr fun i k hi hk => ?_, piece_arr fun i k hi hk => ?_⟩ <;>
      simp [mm, nr]
  · have h0 : (y 0).val < 512 := (y 0).isLt
    have h1 : (y 1).val < 3072 := (y 1).isLt
    simp only [List.mem_cons, List.not_mem_nil, or_false, exists_eq_or_imp, exists_eq_left]
    by_cases ha : 2304 ≤ (y 1).val
    · exact Or.inl (mem_part (h := inb_S512x3072_S512x768_0_2304) _ ⟨Nat.zero_le _, by show _ < 0 + 512; omega⟩
        ⟨ha, by show _ < 2304 + 768; omega⟩)
    · by_cases hb : 1536 ≤ (y 1).val
      · exact Or.inr (Or.inl (mem_part (h := inb_S512x3072_S512x768_0_1536) _ ⟨Nat.zero_le _, by show _ < 0 + 512; omega⟩
          ⟨hb, by show _ < 1536 + 768; omega⟩))
      · by_cases hd : 768 ≤ (y 1).val
        · exact Or.inr (Or.inr (Or.inl (mem_part (h := inb_S512x3072_S512x768_0_768) _ ⟨Nat.zero_le _, by show _ < 0 + 512; omega⟩
            ⟨hd, by show _ < 768 + 768; omega⟩)))
        · exact Or.inr (Or.inr (Or.inr (mem_part (h := inb_S512x3072_S512x768_0_0) _ ⟨Nat.zero_le _, by show _ < 0 + 512; omega⟩
            ⟨Nat.zero_le _, by show _ < 0 + 768; omega⟩)))

/-- The other product after the run. -/
theorem final7 : (dats m 0 c).arrAt 7 cfg0.N = (arr (mm (nr (aX m c) (aG m c)) (wc (aB m c))) : S4096x3072.Idx → EReal) := by
  refine (dats m 0 c).arrAt_eq_of_covers 7 _ (by decide +kernel) fun t hf y => ?_
  rw [emb7 t y]
  blk_simp
  rw [after0_7, iblk0, iblk1, iblk2, iblk3, iblk4]
  unfold out0_7
  frame_out
  unfold k0_pay23
  erw [ld_arr, ld_arr, ld_arr1, ld_arr1, ld_arr1, ld_arr1]
  rw [pay1, pay6, pay12, pay17, pay21]
  refine (View.canon_apply_of_pieces (arr fun i k => mm (nr (aX m c) (aG m c)) (wc (aB m c)) (t.val * 512 + i) k) _ ?_ _ ?_).trans rfl
  · simp only [List.mem_cons, List.not_mem_nil, or_false, forall_eq_or_imp, forall_eq]
    refine ⟨piece_arr fun i k hi hk => ?_, piece_arr fun i k hi hk => ?_, piece_arr fun i k hi hk => ?_, piece_arr fun i k hi hk => ?_⟩ <;>
      simp [mm, nr]
  · have h0 : (y 0).val < 512 := (y 0).isLt
    have h1 : (y 1).val < 3072 := (y 1).isLt
    simp only [List.mem_cons, List.not_mem_nil, or_false, exists_eq_or_imp, exists_eq_left]
    by_cases ha : 2304 ≤ (y 1).val
    · exact Or.inl (mem_part (h := inb_S512x3072_S512x768_0_2304) _ ⟨Nat.zero_le _, by show _ < 0 + 512; omega⟩
        ⟨ha, by show _ < 2304 + 768; omega⟩)
    · by_cases hb : 1536 ≤ (y 1).val
      · exact Or.inr (Or.inl (mem_part (h := inb_S512x3072_S512x768_0_1536) _ ⟨Nat.zero_le _, by show _ < 0 + 512; omega⟩
          ⟨hb, by show _ < 1536 + 768; omega⟩))
      · by_cases hd : 768 ≤ (y 1).val
        · exact Or.inr (Or.inr (Or.inl (mem_part (h := inb_S512x3072_S512x768_0_768) _ ⟨Nat.zero_le _, by show _ < 0 + 512; omega⟩
            ⟨hd, by show _ < 768 + 768; omega⟩)))
        · exact Or.inr (Or.inr (Or.inr (mem_part (h := inb_S512x3072_S512x768_0_0) _ ⟨Nat.zero_le _, by show _ < 0 + 512; omega⟩
            ⟨Nat.zero_le _, by show _ < 0 + 768; omega⟩)))

end Kernel

section Reference

open Cert.Reference12Ideal Cert.Reference12Ideal.Gen Cert.Reference12Ideal.Read

variable (A : S4096x1024.Idx → EReal) (G : S1024.Idx → EReal) (P Q : S1024x2752.Idx → EReal) (W : S2752x1024.Idx → EReal)

theorem v12 : val_main_v12 (F := Ideal) A G = arr (nr (tot A) (totv G)) := by
  funext j; idx_vars j
  unfold val_main_v12 val_main_v11 val_main_v10 val_main_v9 val_main_v8 val_main_v7 val_main_v6 val_main_v5 val_main_v4
    val_main_v3 val_main_v2 val_main_v1 val_main_v0 val_main_cst val_main_cst_0 val_main_cst_1
  pointwise
  simp only [bits_zero, zero_add, fun i k => tot_eq A (ix2 i k) rfl rfl, fun k => totv_eq G (ix1 k) rfl]
  rfl

theorem v13 : val_main_v13 (F := Ideal) A G P = arr (pr (tot A) (totv G) (tot P)) := by
  funext j; idx_vars j; unfold val_main_v13; rw [v12]; pointwise
  exact Finset.sum_congr rfl fun l _ => congrArg₂ _ rfl (tot_eq _ _ rfl rfl)

theorem v14 : val_main_v14 (F := Ideal) A G P = arr (pr (tot A) (totv G) (tot P)) := v13 A G P

theorem v20 : val_main_v20 (F := Ideal) A G P Q W = arr (out (tot A) (totv G) (tot P) (tot Q) (tot W)) := by
  funext j; idx_vars j
  unfold val_main_v20 val_main_v19 val_main_v18 val_main_cst_2 val_main_v17 val_main_v16 val_main_v15 val_main_call0_v5
    val_main_call0_v4 val_main_call0_cst_0 val_main_call0_v3 val_main_call0_v2 val_main_call0_cst val_main_call0_v1 val_main_call0_v0
  rw [v13, v14]
  pointwise
  rw [tot_eq A _ rfl rfl]
  refine congrArg (fun z => tot A j0.val j1.val + Ideal.ofBits .f32 0x3F000000#32 * z) (Finset.sum_congr rfl fun l _ => ?_)
  refine congrArg₂ _ ?_ (tot_eq _ _ rfl rfl)
  rfl

theorem v24 : val_main_v24 (F := Ideal) A G P = arr (wc (pr (tot A) (totv G) (tot P))) := by
  funext j; idx_vars j
  unfold val_main_v24 val_main_v23 val_main_v22 val_main_v21 val_main_call1_v0
  rw [v13]
  pointwise
  change _ = wc (pr (tot A) (totv G) (tot P)) j0.val j1.val
  unfold wc
  by_cases hd : j1.val % 384 < 344
  · rw [dif_pos ⟨by omega, hd⟩, if_pos hd]
    rfl
  · rw [dif_neg fun h => hd h.2, if_neg hd]
    unfold val_main_c
    simp [FloatOps.sitofp, constantI]

theorem v28 : val_main_v28 (F := Ideal) A G P = arr (wc (pr (tot A) (totv G) (tot P))) := v24 A G P

end Reference

/-- The kernel and the forward lines end with equal arrays. -/
theorem algebraic : Cert.algebraic_Kernel12Ideal_Reference12Ideal := by
  intro m g m' g' _ hagree
  refine ⟨_, _, _, Cert.Kernel12Ideal.Value.run_blocks m g, ?_⟩
  refine (θ_run _ _ _).mono (fun r h c => ?_) (Cert.Reference12Ideal.Value.run m' g')
  obtain ⟨a0, a1, a2, a3, a4⟩ := hagree c
  refine ⟨((h c).1.trans (Cert.Reference12Ideal.Read.val_main_v20_eq _ _ _ _ _)).trans ?_,
    ((h c).2.1.trans (Cert.Reference12Ideal.Read.val_main_v24_eq _ _ _)).trans ?_,
    ((h c).2.2.1.trans (Cert.Reference12Ideal.Read.val_main_v28_eq _ _ _)).trans ?_, (h c).2.2.2⟩
  · rw [a0, a1, a2, a3, a4, v20]
    exact (final5 m c).symm
  · rw [a0, a1, a2, v24]
    exact ((final6 m c).trans (congrArg arr (funext fun i => funext fun k => mm_wc _ _ i k))).symm
  · rw [a0, a1, a3, v28]
    exact ((final7 m c).trans (congrArg arr (funext fun i => funext fun k => mm_wc _ _ i k))).symm

end Cert.Proof.FfnFwd

end
-- ==== Proof.ConvFwd.lean ====
module

public import proofs.«01_k».proof.Proof.Conv
public import proofs.«01_k».proof.Proof.Gen.Kernel13Ideal.Value
public import proofs.«01_k».proof.Proof.Gen.Reference13Ideal.Run
public import proofs.«01_k».proof.Proof.Gen.Reference13Ideal.Read
public import proofs.«01_k».proof.Defs

/-!
# The gated short convolution, forward

The kernel walks the blocks of 256 rows in order and keeps each block's last rows for the next. No finiteness is needed.
-/

@[expose] public section

set_option maxRecDepth 16384

noncomputable section

namespace Cert.Proof.ConvFwd

open Idealize.ShloMosaic Idealize.ShloMosaic.TcCoe Idealize.SL.Sem Cert.Proof.Reals Cert.Proof.Conv

/-- The step's output: the input plus the gated convolution through the output weights. -/
def sc (X P C W : ℕ → ℕ → EReal) (i k : ℕ) : EReal := X i k + ∑ l : Fin 1024, P i l * conv P C i l * W l k

section Kernel

open Cert.Kernel13Ideal Cert.Kernel13Ideal.Gen

section Stages

variable (f g h f' w0 w1 w2 : ℕ → ℕ → EReal)

theorem pay6 : k0_pay6 (F := Ideal) (arr f) (arr g) = arr fun i k => f i k * g i k := by
  funext j; idx_vars j; unfold k0_pay6 k0_pay5; pointwise; rfl
theorem pay18 : k0_pay1 (k0_pay8 (F := Ideal) (arr f) (arr g)) = arr fun i k => f (248 + i) k * g (248 + i) k := by
  funext j; idx_vars j; unfold k0_pay1 k0_pay8 k0_pay5; pointwise; rfl
theorem pay3 : k0_pay3 (F := Ideal) = arr fun _ _ => 0 := by
  funext j; idx_vars j; unfold k0_pay3; pointwise; rfl
theorem pay7 : k0_pay7 (F := Ideal) (arr w0) (arr w1) (arr w2) (arr f) (arr g) (arr h) (arr f') =
    arr fun i k => w2 0 k * (f i k * g i k) + w1 0 k * h i k + w0 0 k * f' i k := by
  funext j; idx_vars j; unfold k0_pay7 k0_pay5; pointwise; rfl
theorem pay2 (W : S1x1024x1024.Idx → EReal) (w : ℕ → ℕ → EReal) (hW : ∀ i k, W (ix3 0 i k) = w i.val k.val) :
    k0_pay2 (F := Ideal) (k0_pay4 (arr f)) (arr g) (arr h) W = arr fun i k => h i k + ∑ l : Fin 1024, f i l * g i l * w l k := by
  funext j; idx_vars j; unfold k0_pay2 k0_pay4; pointwise
  simp only [hW]
  rfl

end Stages

variable (m : (ℓ : Loc nD τ sig) → Buf (Elt Ideal) ℓ) (c : Dev nD)

/-- The kernel's arguments, read at natural numbers. -/
def aX : ℕ → ℕ → EReal := tot (m ((c : Thread nD τ).loc main_arg0) : S4096x1024.Idx → EReal)
def aP : ℕ → ℕ → EReal := tot (m ((c : Thread nD τ).loc main_arg1) : S4096x3072.Idx → EReal)
def aC : ℕ → ℕ → EReal := tot (m ((c : Thread nD τ).loc main_arg2) : S3x1024.Idx → EReal)
def aW : ℕ → ℕ → EReal := tot (m ((c : Thread nD τ).loc main_arg4) : S1024x1024.Idx → EReal)

/-- The first row of the block at step `t`. -/
def r0 (t : Fin cfg0.N) : ℕ := t.val * 256

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 0, 0] := (by decide +kernel : ∀ t : Fin grid0.N, _)
theorem idx4 : ∀ t : Fin cfg0.N, win0_4.index t = ![t.val, 0] := (by decide +kernel : ∀ t : Fin grid0.N, _)

theorem iblk0 (t : Fin cfg0.N) : iblk m c 0 t = arr fun i k => aX m c (r0 t + i) k := by
  funext y
  blk_simp [iblk]
  rw [V_main_arg0]
  refine tot_eq (a := 4096) (b := 1024) _ _ ?_ ?_ <;> simp [idx0 t, r0]
/-- The operands the host computes. -/
theorem V4 : V m c main_v4 = (m ((c : Thread nD τ).loc main_arg1) : S4096x3072.Idx → EReal) := by
  change StableHlo.after [hostOps0, hostOps0_1].flatten _ _ = _
  simp only [hostOps0, hostOps0_1, List.flatten_cons, List.flatten_nil, List.append_nil, List.cons_append,
      List.nil_append]
  after_results
  rfl
theorem V5 (y : S8x1024.Idx) : V m c main_v5 y = aC m c (y 0).val (y 1).val := by
  change StableHlo.after [hostOps0, hostOps0_1].flatten _ _ _ = _
  simp only [hostOps0, hostOps0_1, List.flatten_cons, List.flatten_nil, List.append_nil, List.cons_append,
      List.nil_append]
  after_results
  change pad S8x1024 ![0, 0] ![5, 0] ![0, 0] (m ((c : Thread nD τ).loc main_arg2) : S3x1024.Idx → EReal)
    (sitofp (F := Ideal) FTy.f32 (constantI S_ 32 0#32)) pads_S3x1024_S8x1024_050_000 h_S_ y = _
  idx_vars y
  pointwise
  split_ifs with hh
  · exact tot_eq (a := 3) (b := 1024) _ _ rfl rfl
  · have h3 : 3 ≤ y0.val := by
      by_contra hlt
      refine hh fun a => ?_
      match a with
      | ⟨0, _⟩ => exact ⟨Nat.zero_le _, by simp; omega, by simp; exact not_le.1 hlt⟩
      | ⟨1, _⟩ => exact ⟨Nat.zero_le _, by simp; omega, by simp⟩
    exact Eq.trans (by simp [FloatOps.sitofp]) (tot_out _ _ h3).symm
theorem V3 (k l : Fin 1024) : V m c main_v3 (ix3 1 k l) = aW m c k.val l.val := by
  change StableHlo.after [hostOps0, hostOps0_1].flatten _ _ _ = _
  simp only [hostOps0, hostOps0_1, List.flatten_cons, List.flatten_nil, List.append_nil, List.cons_append,
      List.nil_append]
  after_results
  pointwise
  exact tot_eq (a := 1024) (b := 1024) _ _ rfl rfl
theorem part_ld (t : Fin cfg0.N) (o : Fin 2 → ℕ) (h) : View.ld (iblk m c 1 t) (Rect.unit o ![256, 1024] h) =
    (arr fun i k => aP m c (r0 t + (o 0 + i)) (o 1 + k) : S256x1024.Idx → EReal) := by
  have e : iblk m c 1 t = arr fun i k => aP m c (r0 t + i) k := by
    funext y
    blk_simp [iblk]
    rw [V4]
    refine tot_eq (a := 4096) (b := 3072) _ _ ?_ ?_ <;> simp [idx1 t, r0]
  rw [e]; exact ld_arr' _ _ _
theorem row_ld (t : Fin cfg0.N) (o : Fin 2 → ℕ) (h) : View.ld (iblk m c 2 t) (Rect.unit o ![1, 1024] h) =
    (arr fun i k => aC m c (o 0 + i) (o 1 + k) : S1x1024.Idx → EReal) := by
  have e : iblk m c 2 t = arr fun i k => aC m c i k := by
    funext y
    blk_simp [iblk]
    rw [V5]
    refine congrArg₂ _ ?_ ?_ <;> simp [idx2 t]
  rw [e]; exact ld_arr _ _ _
theorem iblk3 (t : Fin cfg0.N) (i k : Fin 1024) : iblk m c 3 t (ix3 0 i k) = aW m c i.val k.val := by
  blk_simp [iblk]
  refine (congrArg _ ?_).trans (V3 m c i k)
  blk_ext [idx3 t]

theorem cur (t : Fin cfg0.N) : k0_pay6 (View.ld (iblk m c 1 t) (Rect.unit ![0, 1024] ![256, 1024] inb_S256x3072_S256x1024_0_1024)) (View.ld (iblk m c 1 t) (Rect.unit ![0, 2048] ![256, 1024] inb_S256x3072_S256x1024_0_2048)) = arr fun i k => cv (aP m c) (r0 t + i) k := by
  rw [part_ld, part_ld, pay6]
  funext j
  simp [arr, cv]

/-- What a step leaves for the next: its last eight rows. -/
theorem carried (t : Fin cfg0.N) (i : Fin 8) (k : Fin 1024) :
    (outsAt0 m c t.val t.isLt).2 (ix2 ⟨i.val, by omega⟩ k) = cv (aP m c) (r0 t + (248 + i.val)) k.val := by
  have hN := t.isLt.trans_eq N_0
  have e : (ix2 ⟨i.val, by omega⟩ k : S264x1024.Idx) =
      (Rect.unit (s := S264x1024) ![0, 0] ![8, 1024] inb_S264x1024_S8x1024_0_0).emb (ix2 i k) := by
    funext x
    refine Fin.ext (Eq.trans ?_ (Rect.idx_unit_val (s := S264x1024) ![0, 0] ![8, 1024] inb_S264x1024_S8x1024_0_0 (ix2 i k) x).symm)
    match x with
    | ⟨0, _⟩ => exact (Nat.zero_add _).symm
    | ⟨1, _⟩ => exact (Nat.zero_add _).symm
  have key : k0_pay1 (k0_pay8 (View.ld (iblk m c 1 t) (Rect.unit ![0, 1024] ![256, 1024] inb_S256x3072_S256x1024_0_1024)) (View.ld (iblk m c 1 t) (Rect.unit ![0, 2048] ![256, 1024] inb_S256x3072_S256x1024_0_2048))) (ix2 i k) = cv (aP m c) (r0 t + (248 + i.val)) k.val := by
    rw [part_ld, part_ld, pay18]
    simp [arr, cv]
  rw [e]
  by_cases h : t.val % 16 = 0
  · rw [outsAt0_A m c t h]
    frame_out
    exact (View.canon_cons_emb ..).trans key
  · rw [outsAt0_B m c t h]
    frame_out
    exact (View.canon_cons_emb ..).trans key

/-- What the body reads back, one or two rows up, at the first step. -/
theorem up_A (t : Fin cfg0.N) (ht : t.val = 0) (o : Fin 2 → ℕ) (ho : o 0 ≤ 8) (ho1 : o 1 = 0) (h) :
    ((View.whole cc0_scratch0).readCov (Val := Elt Ideal)
      [⟨Rect.unit ![8, 0] ![256, 1024] inb_S264x1024_S256x1024_8_0, k0_pay6 (View.ld (iblk m c 1 t) (Rect.unit ![0, 1024] ![256, 1024] inb_S256x3072_S256x1024_0_1024)) (View.ld (iblk m c 1 t) (Rect.unit ![0, 2048] ![256, 1024] inb_S256x3072_S256x1024_0_2048))⟩,
        ⟨Rect.unit ![0, 0] ![8, 1024] inb_S264x1024_S8x1024_0_0, k0_pay3 (F := Ideal)⟩]
      (Rect.unit o ![256, 1024] h).toLoadRect) = arr fun i k => late (aP m c) (8 - o 0) (r0 t + i) k := by
  have hr : r0 t = 0 := by simp [r0, ht]
  rw [View.readCov_eq_canon', cur, pay3, hr]
  funext j
  have hj0 : (j 0).val < 256 := (j 0).isLt
  have hj1 : (j 1).val < 1024 := (j 1).isLt
  have e0 := Rect.idx_unit_val (s := S264x1024) o ![256, 1024] h j 0
  have e1 := Rect.idx_unit_val (s := S264x1024) o ![256, 1024] h j 1
  refine (View.canon_apply_of_pieces (arr fun i k => late (aP m c) 8 i k) _ ?_ _ ?_).trans ?_
  · simp only [List.mem_cons, List.not_mem_nil, or_false, forall_eq_or_imp, forall_eq]
    refine ⟨piece_arr fun i k hi hk => ?_, piece_arr fun i k hi hk => ?_⟩
    · simp only [late, Matrix.cons_val_zero, Matrix.cons_val_one, Nat.zero_add]
      rw [if_pos (by omega), Nat.add_sub_cancel_left]
    · simp only [late, Matrix.cons_val_zero, Matrix.cons_val_one, Nat.zero_add]
      rw [if_neg (by omega)]
  · by_cases hc : 8 ≤ o 0 + (j 0).val
    · exact ⟨_, List.mem_cons_self, mem_part (h := inb_S264x1024_S256x1024_8_0) _ ⟨le_of_le_of_eq hc e0.symm, by rw [e0]; show _ < 8 + 256; omega⟩
        ⟨Nat.zero_le _, by rw [e1]; show _ < 0 + 1024; omega⟩⟩
    · exact ⟨_, List.mem_cons_of_mem _ List.mem_cons_self, mem_part (h := inb_S264x1024_S8x1024_0_0) _ ⟨Nat.zero_le _, by rw [e0]; show _ < 0 + 8; omega⟩
        ⟨Nat.zero_le _, by rw [e1]; show _ < 0 + 1024; omega⟩⟩
  · simp only [arr]
    erw [e0, e1]
    simp only [late, ho1, Nat.zero_add]
    have : o 0 + (j 0).val - 8 = (j 0).val - (8 - o 0) := by omega
    by_cases hc : 8 ≤ o 0 + (j 0).val
    · rw [if_pos hc, if_pos (by omega), this]
    · rw [if_neg hc, if_neg (by omega)]

/-- The same at a later step, above the block what the step before left. -/
theorem up_B (t : Fin cfg0.N) (ht : 0 < t.val) (hp) (hw : (Memref.whole cc0_scratch0).IsWhole) (o : Fin 2 → ℕ) (ho : o 0 ≤ 8)
    (ho1 : o 1 = 0) (h) :
    View.ld (Val := Elt Ideal)
      (View.read (Elt Ideal) (View.whole cc0_scratch0)
        ((View.whole cc0_scratch0).writes (Elt Ideal) (hw.unread (outsAt0 m c (t.val - 1) hp).2)
          [⟨Rect.unit ![8, 0] ![256, 1024] inb_S264x1024_S256x1024_8_0, k0_pay6 (View.ld (iblk m c 1 t) (Rect.unit ![0, 1024] ![256, 1024] inb_S256x3072_S256x1024_0_1024)) (View.ld (iblk m c 1 t) (Rect.unit ![0, 2048] ![256, 1024] inb_S256x3072_S256x1024_0_2048))⟩]))
      (Rect.unit o ![256, 1024] h) = arr fun i k => late (aP m c) (8 - o 0) (r0 t + i) k := by
  have hN := t.isLt.trans_eq N_0
  rw [cur]
  funext j
  have hj0 : (j 0).val < 256 := (j 0).isLt
  have hj1 : (j 1).val < 1024 := (j 1).isLt
  have e0 := Rect.idx_unit_val (s := S264x1024) o ![256, 1024] h j 0
  have e1 := Rect.idx_unit_val (s := S264x1024) o ![256, 1024] h j 1
  have hr : 256 ≤ r0 t := by unfold r0; omega
  rw [View.ld_apply, View.read_writes_cons_unit _ _ _ _ _ _ rfl]
  simp only [arr, late]
  rw [if_pos (by omega)]
  split_ifs with hh
  · have h0 := (hh 0).1
    erw [e0] at h0
    have h0' : 8 ≤ o 0 + (j 0).val := h0
    erw [Rect.unitLocal_val, Rect.unitLocal_val, e0, e1]
    simp only [Matrix.cons_val_zero, Matrix.cons_val_one, Nat.sub_zero, ho1, Nat.zero_add]
    rw [show r0 t + (o 0 + (j 0).val - 8) = r0 t + (j 0).val - (8 - o 0) by omega]
  · have hc : o 0 + (j 0).val < 8 := by
      by_contra hlt
      refine hh fun a => ?_
      match a with
      | ⟨0, _⟩ => exact ⟨by erw [e0]; exact not_lt.1 hlt, by erw [e0]; show _ < 8 + 256; omega⟩
      | ⟨1, _⟩ => exact ⟨Nat.zero_le _, by erw [e1]; show _ < 0 + 1024; omega⟩
    rw [View.writes_nil, read_unread_whole]
    have e := carried m c ⟨t.val - 1, hp⟩ ⟨o 0 + (j 0).val, by omega⟩ ⟨(j 1).val, hj1⟩
    refine (congrArg _ (funext fun a => Fin.ext ?_)).trans (e.trans ?_)
    · match a with
      | ⟨0, _⟩ => exact e0
      | ⟨1, _⟩ => exact e1.trans (by show _ = (j 1).val; omega)
    · simp only [r0]
      rw [show (t.val - 1) * 256 + (248 + (o 0 + (j 0).val)) = t.val * 256 + (j 0).val - (8 - o 0) by omega]

/-- The index of the whole array under index `y` of block `t`. -/
theorem emb4 (t : Fin cfg0.N) (y : S256x1024.Idx) : ((cfg0.win 4).blk t).view.emb y =
    ix2 ⟨r0 t + (y 0).val, by have h : (y 0).val < 256 := (y 0).isLt; have := t.isLt.trans_eq N_0; unfold r0; omega⟩ (y 1) := by
  blk_ext [idx4 t, r0]

/-- The step's block of the output. -/
theorem step4 (t : Fin cfg0.N) {X1 X2 : S256x1024.Idx → EReal}
    (hX1 : X1 = arr fun i k => late (aP m c) 1 (r0 t + i) k) (hX2 : X2 = arr fun i k => late (aP m c) 2 (r0 t + i) k) :
    k0_pay2 (F := Ideal) (k0_pay4 (View.ld (iblk m c 1 t) (Rect.unit ![0, 0] ![256, 1024] inb_S256x3072_S256x1024_0_0)))
      (k0_pay7 (View.ld (iblk m c 2 t) (Rect.unit ![0, 0] ![1, 1024] inb_S8x1024_S1x1024_0_0))
        (View.ld (iblk m c 2 t) (Rect.unit ![1, 0] ![1, 1024] inb_S8x1024_S1x1024_1_0))
        (View.ld (iblk m c 2 t) (Rect.unit ![2, 0] ![1, 1024] inb_S8x1024_S1x1024_2_0)) (View.ld (iblk m c 1 t) (Rect.unit ![0, 1024] ![256, 1024] inb_S256x3072_S256x1024_0_1024)) (View.ld (iblk m c 1 t) (Rect.unit ![0, 2048] ![256, 1024] inb_S256x3072_S256x1024_0_2048)) X1 X2)
      (iblk m c 0 t) (iblk m c 3 t) = arr fun i k => sc (aX m c) (aP m c) (aC m c) (aW m c) (r0 t + i) k := by
  rw [hX1, hX2, row_ld, row_ld, row_ld, part_ld, part_ld, part_ld, pay7, iblk0, pay2 _ _ _ _ (aW m c) (iblk3 m c t)]
  funext j
  simp [arr, sc, conv, cv]

/-- The output after the run. -/
theorem final4 : (dats m 0 c).arrAt 4 cfg0.N = (arr (sc (aX m c) (aP m c) (aC m c) (aW m c)) : S4096x1024.Idx → EReal) := by
  refine (dats m 0 c).arrAt_eq_of_covers 4 _ (by decide +kernel) fun t hf y => ?_
  rw [emb4 t y]
  blk_simp
  rw [after0_4]
  have hN := t.isLt.trans_eq N_0
  by_cases h : t.val % 16 = 0
  · rw [outsAt0_A m c t h]
    frame_out
    exact congrFun (step4 m c t (up_A m c t (by omega) ![7, 0] (by decide) rfl _) (up_A m c t (by omega) ![6, 0] (by decide) rfl _)) y
  · rw [outsAt0_B m c t h]
    frame_out
    exact congrFun (step4 m c t (up_B m c t (by omega) _ _ ![7, 0] (by decide) rfl _)
      (up_B m c t (by omega) _ _ ![6, 0] (by decide) rfl _)) y

end Kernel

section Reference

open Cert.Reference13Ideal Cert.Reference13Ideal.Gen Cert.Reference13Ideal.Read

variable (X : S4096x1024.Idx → EReal) (A : S4096x3072.Idx → EReal) (B : S3x1024.Idx → EReal) (E : S1024x1024.Idx → EReal)

theorem v26 : val_main_v26 (F := Ideal) A B = arr fun i k => conv (tot A) (tot B) i k := Conv.v28 A B
theorem v30 : val_main_v30 (F := Ideal) X A B E = arr (sc (tot X) (tot A) (tot B) (tot E)) := by
  funext j; idx_vars j
  unfold val_main_v30 val_main_v28 val_main_v27
  rw [v26, show val_main_v0 (F := Ideal) A = _ from Conv.v0 A]; pointwise
  exact congrArg₂ _ (tot_eq _ _ rfl rfl) (Finset.sum_congr rfl fun l _ => congrArg₂ _ rfl (tot_eq _ _ rfl rfl))

end Reference

/-- The kernel and the forward lines end with equal arrays. -/
theorem algebraic : Cert.algebraic_Kernel13Ideal_Reference13Ideal := by
  intro m g m' g' _ hagree
  refine ⟨fun c => (Cert.Kernel13Ideal.Gen.dats m 0 c).arrAt 4 Cert.Kernel13Ideal.cfg0.N, Cert.Kernel13Ideal.Value.run_blocks m g, ?_⟩
  refine (θ_run _ _ _).mono (fun r h c => ?_) (Cert.Reference13Ideal.Value.run m' g')
  obtain ⟨a0, a1, a2, a3, a4⟩ := hagree c
  refine ⟨((h c).1.trans (Cert.Reference13Ideal.Read.val_main_v30_eq _ _ _ _)).trans ?_, (h c).2⟩
  rw [a0, a1, a2, a4, v30]
  exact (final4 m c).symm

end Cert.Proof.ConvFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Loops
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Loops
public import proofs.«01_k».proof.Proof.Gen.Reference3Ideal.Run
public import proofs.«01_k».proof.Proof.Gen.Reference3Ideal.Read
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal.Run
public import proofs.«01_k».proof.Proof.Gen.Reference9Ideal.Read
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Loops
public import proofs.«01_k».proof.Proof.Gen.Kernel14.Frame
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Loops
public import proofs.«01_k».proof.Proof.Gen.Kernel14Ideal.Frame
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Loops
public import proofs.«01_k».proof.Proof.Gen.Kernel15.Frame
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Loops
public import proofs.«01_k».proof.Proof.Gen.Kernel15Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Loss
public import proofs.«01_k».proof.Proof.Conv
public import proofs.«01_k».proof.Proof.SbFrame
public import proofs.«01_k».proof.Proof.SbClaim
public import proofs.«01_k».proof.Proof.SbFrameBits
public import proofs.«01_k».proof.Proof.SfFrameBits
public import proofs.«01_k».proof.Proof.TokRef
public import proofs.«01_k».proof.Proof.WtsRef
public import proofs.«01_k».proof.Proof.ProjRef
public import proofs.«01_k».proof.Proof.PartsRef
public import proofs.«01_k».proof.Proof.ParRef
public import proofs.«01_k».proof.Proof.SfClaim
public import proofs.«01_k».proof.Proof.ProjFwd
public import proofs.«01_k».proof.Proof.S5Frame
public import proofs.«01_k».proof.Proof.S5FrameBits
public import proofs.«01_k».proof.Proof.S5FwdFrame
public import proofs.«01_k».proof.Proof.S5FwdFrameBits
public import proofs.«01_k».proof.Proof.ParFwd
public import proofs.«01_k».proof.Proof.FfnFwd
public import proofs.«01_k».proof.Proof.ConvFwd
public import Idealize.ShloMosaic.Adequacy
public import Idealize.ShloMosaic.Init

@[expose] public section

noncomputable section

namespace Cert.Proof

open Idealize.ShloMosaic Idealize.SL.Sem Cert.Kernel

/-- The shapes of the precondition's operations. -/
theorem facts_finite : Cert.Pre_finite.Facts where
  bcast_S_S4096x1024 := by decide
  reducesTo_S4096x1024_S_d0_1 := by decide
  h_S_ := by decide
  bcast_S_S1024 := by decide
  reducesTo_S1024_S_d0 := by decide

/-- The shapes of the attention's precondition. -/
theorem facts_finite3 : Cert.Pre_finite3.Facts where
  bitsLt_bf16_f32 := by decide
  bcast_S_S4096x2048 := by decide
  reducesTo_S4096x2048_S_d0_1 := by decide
  h_S_ := by decide
  bcast_S_S4096x512 := by decide
  reducesTo_S4096x512_S_d0_1 := by decide

/-- The reference runs, its arguments unchanged; it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2, sem_eq_zero_of_no_sems (by decide) r.2⟩)
    (Cert.ReferenceIdeal.Value.run m ρ)

/-- The convolution's reference runs, its arguments unchanged; it declares no semaphore. -/
theorem frame_reference2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2.2.2.2, sem_eq_zero_of_no_sems (by decide) r.2⟩)
    (Cert.Reference2Ideal.Value.run m ρ)

/-- The attention's reference runs, its arguments unchanged; it declares no semaphore. -/
theorem frame_reference3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run _ _ _).mono (fun r h => ⟨fun c => (h c).2.2.2, sem_eq_zero_of_no_sems (by decide) r.2⟩)
    (Cert.Reference3Ideal.Value.run m ρ)

/-- The shapes of the precondition of the token gradient. -/
theorem facts_finite4 : Cert.Pre_finite4.Facts where
  bcast_S_S4096x1024 := by decide
  reducesTo_S4096x1024_S_d0_1 := by decide
  h_S_ := by decide
  bcast_S_S1024 := by decide
  reducesTo_S1024_S_d0 := by decide
  bcast_S_S1024x2752 := by decide
  reducesTo_S1024x2752_S_d0_1 := by decide
  bcast_S_S2752x1024 := by decide
  reducesTo_S2752x1024_S_d0_1 := by decide

/-- The shapes of the precondition of the weight gradient. -/
theorem facts_finite5 : Cert.Pre_finite5.Facts where
  bcast_S_S4096x1024 := by decide
  reducesTo_S4096x1024_S_d0_1 := by decide
  h_S_ := by decide
  bcast_S_S1024 := by decide
  reducesTo_S1024_S_d0 := by decide
  bcast_S_S1024x2752 := by decide
  reducesTo_S1024x2752_S_d0_1 := by decide
  bcast_S_S4096x2752 := by decide
  reducesTo_S4096x2752_S_d0_1 := by decide

/-- The shapes of the precondition of the projection gradient. -/
theorem facts_finite6 : Cert.Pre_finite6.Facts where
  bcast_S_S4096x1024 := by decide
  reducesTo_S4096x1024_S_d0_1 := by decide
  h_S_ := by decide
  bcast_S_S1024 := by decide
  reducesTo_S1024_S_d0 := by decide
  bcast_S_S1024x3072 := by decide
  reducesTo_S1024x3072_S_d0_1 := by decide
  bcast_S_S4096x3072 := by decide
  reducesTo_S4096x3072_S_d0_1 := by decide

/-- The shapes of the precondition of the parts gradient. -/
theorem facts_finite7 : Cert.Pre_finite7.Facts where
  bcast_S_S4096x1024 := by decide
  reducesTo_S4096x1024_S_d0_1 := by decide
  h_S_ := by decide
  bcast_S_S1024 := by decide
  reducesTo_S1024_S_d0 := by decide
  bcast_S_S1024x2048 := by decide
  reducesTo_S1024x2048_S_d0_1 := by decide
  bcast_S_S4096x512 := by decide
  reducesTo_S4096x512_S_d0_1 := by decide

/-- The shapes of the precondition of the attention. -/
theorem facts_finite9 : Cert.Pre_finite9.Facts where
  bitsLt_bf16_f32 := by decide
  bcast_S_S4096x2048 := by decide
  reducesTo_S4096x2048_S_d0_1 := by decide
  h_S_ := by decide

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Kernel15.Gen.facts,
    Cert.Kernel15Ideal.Gen.facts,
    facts_finite,
    facts_finite3,
    facts_finite4,
    facts_finite5,
    facts_finite6,
    facts_finite7,
    facts_finite9,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    fun m ρ _ => Cert.Kernel2.Gen.frame m ρ,
    fun m ρ _ => Cert.Kernel2Ideal.Gen.frame m ρ,
    fun m ρ _ => frame_reference2 m ρ,
    fun m ρ _ => Cert.Kernel3.Sb.frame m ρ,
    fun m ρ _ => Cert.Kernel3Ideal.Sb.frame m ρ,
    fun m ρ _ => Cert.Kernel3Ideal.Sb.frame m ρ,
    fun m ρ _ => frame_reference3 m ρ,
    fun m ρ _ => frame_reference3 m ρ,
    fun m ρ _ => Cert.Kernel4.Gen.frame m ρ,
    fun m ρ _ => Cert.Kernel4Ideal.Gen.frame m ρ,
    fun m ρ _ => Cert.Kernel4Ideal.Gen.frame m ρ,
    fun m ρ _ => (θ_run _ _ _).mono (fun r h => ⟨fun c => (h c).2.2.2.2.2.2, sem_eq_zero_of_no_sems (by decide) r.2⟩) (Cert.Reference4Ideal.Value.run m ρ),
    fun m ρ _ => (θ_run _ _ _).mono (fun r h => ⟨fun c => (h c).2.2.2.2.2.2, sem_eq_zero_of_no_sems (by decide) r.2⟩) (Cert.Reference4Ideal.Value.run m ρ),
    fun m ρ _ => Cert.Kernel5.Gen.frame m ρ,
    fun m ρ _ => Cert.Kernel5Ideal.Gen.frame m ρ,
    fun m ρ _ => Cert.Kernel5Ideal.Gen.frame m ρ,
    fun m ρ _ => (θ_run _ _ _).mono (fun r h => ⟨fun c => (h c).2.2.2, sem_eq_zero_of_no_sems (by decide) r.2⟩) (Cert.Reference5Ideal.Value.run m ρ),
    fun m ρ _ => (θ_run _ _ _).mono (fun r h => ⟨fun c => (h c).2.2.2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => Cert.Kernel6Ideal.Gen.frame m ρ,
    fun m ρ _ => (θ_run _ _ _).mono (fun r h => ⟨fun c => (h c).2.2.2, sem_eq_zero_of_no_sems (by decide) r.2⟩) (Cert.Reference6Ideal.Value.run m ρ),
    fun m ρ _ => (θ_run _ _ _).mono (fun r h => ⟨fun c => (h c).2.2.2, sem_eq_zero_of_no_sems (by decide) r.2⟩) (Cert.Reference6Ideal.Value.run m ρ),
    fun m ρ _ => Cert.Kernel7.Gen.frame m ρ,
    fun m ρ _ => Cert.Kernel7Ideal.Gen.frame m ρ,
    fun m ρ _ => Cert.Kernel7Ideal.Gen.frame m ρ,
    fun m ρ _ => (θ_run _ _ _).mono (fun r h => ⟨fun c => (h c).2.2.2.2, sem_eq_zero_of_no_sems (by decide) r.2⟩) (Cert.Reference7Ideal.Value.run m ρ),
    fun m ρ _ => (θ_run _ _ _).mono (fun r h => ⟨fun c => (h c).2.2.2.2, sem_eq_zero_of_no_sems (by decide) r.2⟩) (Cert.Reference7Ideal.Value.run m ρ),
    fun m ρ _ => Cert.Kernel8.Gen.frame m ρ,
    fun m ρ _ => Cert.Kernel8Ideal.Gen.frame m ρ,
    fun m ρ _ => (θ_run _ _ _).mono (fun r h => ⟨fun c => (h c).2.2.2.2.2, sem_eq_zero_of_no_sems (by decide) r.2⟩) (Cert.Reference8Ideal.Value.run m ρ),
    fun m ρ _ => Cert.Kernel9.Sf.frame m ρ,
    fun m ρ _ => Cert.Kernel9Ideal.Sf.frame m ρ,
    fun m ρ _ => Cert.Kernel9Ideal.Sf.frame m ρ,
    fun m ρ _ => (θ_run _ _ _).mono (fun r h => ⟨fun c => (h c).2, sem_eq_zero_of_no_sems (by decide) r.2⟩) (Cert.Reference9Ideal.Value.run m ρ),
    fun m ρ _ => (θ_run _ _ _).mono (fun r h => ⟨fun c => (h c).2, sem_eq_zero_of_no_sems (by decide) r.2⟩) (Cert.Reference9Ideal.Value.run m ρ),
    fun m ρ _ => Cert.Kernel10.Gen.frame m ρ,
    fun m ρ _ => Cert.Kernel10Ideal.Gen.frame m ρ,
    fun m ρ _ => (θ_run _ _ _).mono (fun r h => ⟨fun c => (h c).2, sem_eq_zero_of_no_sems (by decide) r.2⟩) (Cert.Reference10Ideal.Value.run m ρ),
    fun m ρ _ => Cert.Kernel11.Gen.frame m ρ,
    fun m ρ _ => Cert.Kernel11Ideal.Gen.frame m ρ,
    fun m ρ _ => (θ_run _ _ _).mono (fun r h => ⟨fun c => (h c).2.2.2.2, sem_eq_zero_of_no_sems (by decide) r.2⟩) (Cert.Reference11Ideal.Value.run m ρ),
    fun m ρ _ => Cert.Kernel12.Gen.frame m ρ,
    fun m ρ _ => Cert.Kernel12Ideal.Gen.frame m ρ,
    fun m ρ _ => (θ_run _ _ _).mono (fun r h => ⟨fun c => (h c).2.2.2, sem_eq_zero_of_no_sems (by decide) r.2⟩) (Cert.Reference12Ideal.Value.run m ρ),
    fun m ρ _ => Cert.Kernel13.Gen.frame m ρ,
    fun m ρ _ => Cert.Kernel13Ideal.Gen.frame m ρ,
    fun m ρ _ => (θ_run _ _ _).mono (fun r h => ⟨fun c => (h c).2, sem_eq_zero_of_no_sems (by decide) r.2⟩) (Cert.Reference13Ideal.Value.run m ρ),
    fun m ρ _ => Cert.Kernel14.S5.frame m ρ,
    fun m ρ _ => Cert.Kernel14Ideal.S5.frame m ρ,
    fun m ρ _ => Cert.Kernel15.S5Fwd.frame m ρ,
    fun m ρ _ => Cert.Kernel15Ideal.S5Fwd.frame m ρ,
    trivial,
    @Cert.Proof.Loss.algebraic facts_finite,
    trivial,
    Cert.Proof.Conv.algebraic,
    IdealRules.named_const.statement Cert.Kernel3Ideal.κ "dead" .f32 0xC2DC0000#32 ⊥ rfl,
    @Cert.Proof.SbClaim.algebraic facts_finite3,
    trivial,
    @Cert.Proof.TokRef.algebraic facts_finite4,
    trivial,
    @Cert.Proof.WtsRef.algebraic facts_finite5,
    trivial,
    @Cert.Proof.ProjRef.algebraic facts_finite6,
    trivial,
    @Cert.Proof.PartsRef.algebraic facts_finite7,
    trivial,
    Cert.Proof.ParRef.algebraic,
    IdealRules.named_const.statement Cert.Kernel9Ideal.κ "dead" .f32 0xC2DC0000#32 ⊥ rfl,
    @Cert.Proof.SfClaim.algebraic facts_finite9,
    trivial,
    Cert.Proof.ProjFwd.algebraic,
    trivial,
    Cert.Proof.ParFwd.algebraic,
    trivial,
    Cert.Proof.FfnFwd.algebraic,
    trivial,
    Cert.Proof.ConvFwd.algebraic,
    trivial,
    trivial⟩

end Cert.Proof

end
